-- ==== Defs.lean ====
def Pre_Ff2Dgrad (m : (ℓ : Loc Cert.Ff2Dgrad.nD Cert.Ff2Dgrad.τ Cert.Ff2Dgrad.sig) → Buf (Elt Bits) ℓ) : Prop :=
  True

def Pre_Ff2DgradIdeal (m : (ℓ : Loc Cert.Ff2DgradIdeal.nD Cert.Ff2DgradIdeal.τ Cert.Ff2DgradIdeal.sig) → Buf (Elt Ideal) ℓ) : Prop :=
  True

def Pre_Ff2DgradRefIdeal (m : (ℓ : Loc Cert.Ff2DgradRefIdeal.nD Cert.Ff2DgradRefIdeal.τ Cert.Ff2DgradRefIdeal.sig) → Buf (Elt Ideal) ℓ) : Prop :=
  True

def Pre_Ff2Wgrad (m : (ℓ : Loc Cert.Ff2Wgrad.nD Cert.Ff2Wgrad.τ Cert.Ff2Wgrad.sig) → Buf (Elt Bits) ℓ) : Prop :=
  True

def Pre_Ff2WgradIdeal (m : (ℓ : Loc Cert.Ff2WgradIdeal.nD Cert.Ff2WgradIdeal.τ Cert.Ff2WgradIdeal.sig) → Buf (Elt Ideal) ℓ) : Prop :=
  True

def Pre_Ff2WgradRefIdeal (m : (ℓ : Loc Cert.Ff2WgradRefIdeal.nD Cert.Ff2WgradRefIdeal.τ Cert.Ff2WgradRefIdeal.sig) → Buf (Elt Ideal) ℓ) : Prop :=
  True

def Pre_Ff1Dgrad (m : (ℓ : Loc Cert.Ff1Dgrad.nD Cert.Ff1Dgrad.τ Cert.Ff1Dgrad.sig) → Buf (Elt Bits) ℓ) : Prop :=
  True

def Pre_Ff1DgradIdeal (m : (ℓ : Loc Cert.Ff1DgradIdeal.nD Cert.Ff1DgradIdeal.τ Cert.Ff1DgradIdeal.sig) → Buf (Elt Ideal) ℓ) : Prop :=
  True

def Pre_Ff1DgradRefIdeal (m : (ℓ : Loc Cert.Ff1DgradRefIdeal.nD Cert.Ff1DgradRefIdeal.τ Cert.Ff1DgradRefIdeal.sig) → Buf (Elt Ideal) ℓ) : Prop :=
  True

def Pre_Ff1Wgrad (m : (ℓ : Loc Cert.Ff1Wgrad.nD Cert.Ff1Wgrad.τ Cert.Ff1Wgrad.sig) → Buf (Elt Bits) ℓ) : Prop :=
  True

def Pre_Ff1WgradIdeal (m : (ℓ : Loc Cert.Ff1WgradIdeal.nD Cert.Ff1WgradIdeal.τ Cert.Ff1WgradIdeal.sig) → Buf (Elt Ideal) ℓ) : Prop :=
  True

def Pre_Ff1WgradRefIdeal (m : (ℓ : Loc Cert.Ff1WgradRefIdeal.nD Cert.Ff1WgradRefIdeal.τ Cert.Ff1WgradRefIdeal.sig) → Buf (Elt Ideal) ℓ) : Prop :=
  True

def Pre_OutDgrad (m : (ℓ : Loc Cert.OutDgrad.nD Cert.OutDgrad.τ Cert.OutDgrad.sig) → Buf (Elt Bits) ℓ) : Prop :=
  True

def Pre_OutDgradIdeal (m : (ℓ : Loc Cert.OutDgradIdeal.nD Cert.OutDgradIdeal.τ Cert.OutDgradIdeal.sig) → Buf (Elt Ideal) ℓ) : Prop :=
  True

def Pre_OutDgradRefIdeal (m : (ℓ : Loc Cert.OutDgradRefIdeal.nD Cert.OutDgradRefIdeal.τ Cert.OutDgradRefIdeal.sig) → Buf (Elt Ideal) ℓ) : Prop :=
  True

def Pre_OutWgrad (m : (ℓ : Loc Cert.OutWgrad.nD Cert.OutWgrad.τ Cert.OutWgrad.sig) → Buf (Elt Bits) ℓ) : Prop :=
  True

def Pre_OutWgradIdeal (m : (ℓ : Loc Cert.OutWgradIdeal.nD Cert.OutWgradIdeal.τ Cert.OutWgradIdeal.sig) → Buf (Elt Ideal) ℓ) : Prop :=
  True

def Pre_OutWgradRefIdeal (m : (ℓ : Loc Cert.OutWgradRefIdeal.nD Cert.OutWgradRefIdeal.τ Cert.OutWgradRefIdeal.sig) → Buf (Elt Ideal) ℓ) : Prop :=
  True

def Pre_InDgrad (m : (ℓ : Loc Cert.InDgrad.nD Cert.InDgrad.τ Cert.InDgrad.sig) → Buf (Elt Bits) ℓ) : Prop :=
  True

def Pre_InDgradIdeal (m : (ℓ : Loc Cert.InDgradIdeal.nD Cert.InDgradIdeal.τ Cert.InDgradIdeal.sig) → Buf (Elt Ideal) ℓ) : Prop :=
  True

def Pre_InDgradRefIdeal (m : (ℓ : Loc Cert.InDgradRefIdeal.nD Cert.InDgradRefIdeal.τ Cert.InDgradRefIdeal.sig) → Buf (Elt Ideal) ℓ) : Prop :=
  True

def Pre_InWgrad (m : (ℓ : Loc Cert.InWgrad.nD Cert.InWgrad.τ Cert.InWgrad.sig) → Buf (Elt Bits) ℓ) : Prop :=
  True

def Pre_InWgradIdeal (m : (ℓ : Loc Cert.InWgradIdeal.nD Cert.InWgradIdeal.τ Cert.InWgradIdeal.sig) → Buf (Elt Ideal) ℓ) : Prop :=
  True

def Pre_InWgradRefIdeal (m : (ℓ : Loc Cert.InWgradRefIdeal.nD Cert.InWgradRefIdeal.τ Cert.InWgradRefIdeal.sig) → Buf (Elt Ideal) ℓ) : Prop :=
  True

def Pre_InFwd (m : (ℓ : Loc Cert.InFwd.nD Cert.InFwd.τ Cert.InFwd.sig) → Buf (Elt Bits) ℓ) : Prop :=
  True

def Pre_InFwdIdeal (m : (ℓ : Loc Cert.InFwdIdeal.nD Cert.InFwdIdeal.τ Cert.InFwdIdeal.sig) → Buf (Elt Ideal) ℓ) : Prop :=
  True

def Pre_InFwdRefIdeal (m : (ℓ : Loc Cert.InFwdRefIdeal.nD Cert.InFwdRefIdeal.τ Cert.InFwdRefIdeal.sig) → Buf (Elt Ideal) ℓ) : Prop :=
  True

def Pre_OutFwd (m : (ℓ : Loc Cert.OutFwd.nD Cert.OutFwd.τ Cert.OutFwd.sig) → Buf (Elt Bits) ℓ) : Prop :=
  True

def Pre_OutFwdIdeal (m : (ℓ : Loc Cert.OutFwdIdeal.nD Cert.OutFwdIdeal.τ Cert.OutFwdIdeal.sig) → Buf (Elt Ideal) ℓ) : Prop :=
  True

def Pre_OutFwdRefIdeal (m : (ℓ : Loc Cert.OutFwdRefIdeal.nD Cert.OutFwdRefIdeal.τ Cert.OutFwdRefIdeal.sig) → Buf (Elt Ideal) ℓ) : Prop :=
  True

def Pre_Ff1Fwd (m : (ℓ : Loc Cert.Ff1Fwd.nD Cert.Ff1Fwd.τ Cert.Ff1Fwd.sig) → Buf (Elt Bits) ℓ) : Prop :=
  True

def Pre_Ff1FwdIdeal (m : (ℓ : Loc Cert.Ff1FwdIdeal.nD Cert.Ff1FwdIdeal.τ Cert.Ff1FwdIdeal.sig) → Buf (Elt Ideal) ℓ) : Prop :=
  True

def Pre_Ff1FwdRefIdeal (m : (ℓ : Loc Cert.Ff1FwdRefIdeal.nD Cert.Ff1FwdRefIdeal.τ Cert.Ff1FwdRefIdeal.sig) → Buf (Elt Ideal) ℓ) : Prop :=
  True

def Pre_Ff2Fwd (m : (ℓ : Loc Cert.Ff2Fwd.nD Cert.Ff2Fwd.τ Cert.Ff2Fwd.sig) → Buf (Elt Bits) ℓ) : Prop :=
  True

def Pre_Ff2FwdIdeal (m : (ℓ : Loc Cert.Ff2FwdIdeal.nD Cert.Ff2FwdIdeal.τ Cert.Ff2FwdIdeal.sig) → Buf (Elt Ideal) ℓ) : Prop :=
  True

def Pre_Ff2FwdRefIdeal (m : (ℓ : Loc Cert.Ff2FwdRefIdeal.nD Cert.Ff2FwdRefIdeal.τ Cert.Ff2FwdRefIdeal.sig) → Buf (Elt Ideal) ℓ) : Prop :=
  True

def Pre_AdamFf (m : (ℓ : Loc Cert.AdamFf.nD Cert.AdamFf.τ Cert.AdamFf.sig) → Buf (Elt Bits) ℓ) : Prop :=
  True

def Pre_AdamFfIdeal (m : (ℓ : Loc Cert.AdamFfIdeal.nD Cert.AdamFfIdeal.τ Cert.AdamFfIdeal.sig) → Buf (Elt Ideal) ℓ) : Prop :=
  True

def Pre_AdamFfRefIdeal (m : (ℓ : Loc Cert.AdamFfRefIdeal.nD Cert.AdamFfRefIdeal.τ Cert.AdamFfRefIdeal.sig) → Buf (Elt Ideal) ℓ) : Prop :=
  True

def Pre_AdamO (m : (ℓ : Loc Cert.AdamO.nD Cert.AdamO.τ Cert.AdamO.sig) → Buf (Elt Bits) ℓ) : Prop :=
  True

def Pre_AdamOIdeal (m : (ℓ : Loc Cert.AdamOIdeal.nD Cert.AdamOIdeal.τ Cert.AdamOIdeal.sig) → Buf (Elt Ideal) ℓ) : Prop :=
  True

def Pre_AdamORefIdeal (m : (ℓ : Loc Cert.AdamORefIdeal.nD Cert.AdamORefIdeal.τ Cert.AdamORefIdeal.sig) → Buf (Elt Ideal) ℓ) : Prop :=
  True

def Pre_AdamBranch (m : (ℓ : Loc Cert.AdamBranch.nD Cert.AdamBranch.τ Cert.AdamBranch.sig) → Buf (Elt Bits) ℓ) : Prop :=
  True

def Pre_AdamBranchIdeal (m : (ℓ : Loc Cert.AdamBranchIdeal.nD Cert.AdamBranchIdeal.τ Cert.AdamBranchIdeal.sig) → Buf (Elt Ideal) ℓ) : Prop :=
  True

def Pre_AdamBranchRefIdeal (m : (ℓ : Loc Cert.AdamBranchRefIdeal.nD Cert.AdamBranchRefIdeal.τ Cert.AdamBranchRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_SumDevices (m : (ℓ : Loc Cert.SumDevices.nD Cert.SumDevices.τ Cert.SumDevices.sig) → Buf (Elt Bits) ℓ) : Prop :=
  True

def Pre_SumDevicesIdeal (m : (ℓ : Loc Cert.SumDevicesIdeal.nD Cert.SumDevicesIdeal.τ Cert.SumDevicesIdeal.sig) → Buf (Elt Ideal) ℓ) : Prop :=
  True

def Pre_SumDevicesRefIdeal (m : (ℓ : Loc Cert.SumDevicesRefIdeal.nD Cert.SumDevicesRefIdeal.τ Cert.SumDevicesRefIdeal.sig) → Buf (Elt Ideal) ℓ) : Prop :=
  True

def Pre_AdamInFirst (m : (ℓ : Loc Cert.AdamInFirst.nD Cert.AdamInFirst.τ Cert.AdamInFirst.sig) → Buf (Elt Bits) ℓ) : Prop :=
  True

def Pre_AdamInFirstIdeal (m : (ℓ : Loc Cert.AdamInFirstIdeal.nD Cert.AdamInFirstIdeal.τ Cert.AdamInFirstIdeal.sig) → Buf (Elt Ideal) ℓ) : Prop :=
  True

def Pre_AdamInFirstRefIdeal (m : (ℓ : Loc Cert.AdamInFirstRefIdeal.nD Cert.AdamInFirstRefIdeal.τ Cert.AdamInFirstRefIdeal.sig) → Buf (Elt Ideal) ℓ) : Prop :=
  True

def Pre_LbsBwd (m : (ℓ : Loc Cert.LbsBwd.nD Cert.LbsBwd.τ Cert.LbsBwd.sig) → Buf (Elt Bits) ℓ) : Prop :=
  True

def Pre_LbsBwdIdeal (m : (ℓ : Loc Cert.LbsBwdIdeal.nD Cert.LbsBwdIdeal.τ Cert.LbsBwdIdeal.sig) → Buf (Elt Ideal) ℓ) : Prop :=
  True

def Pre_LbsBwdIdeal_both_finite [hPre_both_finite : Cert.Pre_both_finite.Facts] (m : (ℓ : Loc Cert.LbsBwdIdeal.nD Cert.LbsBwdIdeal.τ Cert.LbsBwdIdeal.sig) → Buf (Elt Ideal) ℓ) : Prop :=
  ∀ c : Dev Cert.LbsBwdIdeal.nD,
    (Cert.Pre_both_finite.fn (F := Ideal) (m ((c.tc : Thread Cert.LbsBwdIdeal.nD Cert.LbsBwdIdeal.τ).loc Cert.LbsBwdIdeal.main_arg0)) (m ((c.tc : Thread Cert.LbsBwdIdeal.nD Cert.LbsBwdIdeal.τ).loc Cert.LbsBwdIdeal.main_arg1))) = (fun _ => 1#1)

def Pre_LbsBwdRefIdeal (m : (ℓ : Loc Cert.LbsBwdRefIdeal.nD Cert.LbsBwdRefIdeal.τ Cert.LbsBwdRefIdeal.sig) → Buf (Elt Ideal) ℓ) : Prop :=
  True

def Pre_LbsBwdRefIdeal_both_finite [hPre_both_finite : Cert.Pre_both_finite.Facts] (m : (ℓ : Loc Cert.LbsBwdRefIdeal.nD Cert.LbsBwdRefIdeal.τ Cert.LbsBwdRefIdeal.sig) → Buf (Elt Ideal) ℓ) : Prop :=
  ∀ c : Dev Cert.LbsBwdRefIdeal.nD,
    (Cert.Pre_both_finite.fn (F := Ideal) (m ((c.tc : Thread Cert.LbsBwdRefIdeal.nD Cert.LbsBwdRefIdeal.τ).loc Cert.LbsBwdRefIdeal.main_arg0)) (m ((c.tc : Thread Cert.LbsBwdRefIdeal.nD Cert.LbsBwdRefIdeal.τ).loc Cert.LbsBwdRefIdeal.main_arg1))) = (fun _ => 1#1)

def Pre_LbsFwd (m : (ℓ : Loc Cert.LbsFwd.nD Cert.LbsFwd.τ Cert.LbsFwd.sig) → Buf (Elt Bits) ℓ) : Prop :=
  True

def Pre_LbsFwdIdeal (m : (ℓ : Loc Cert.LbsFwdIdeal.nD Cert.LbsFwdIdeal.τ Cert.LbsFwdIdeal.sig) → Buf (Elt Ideal) ℓ) : Prop :=
  True

def Pre_LbsFwdIdeal_finite [hPre_finite : Cert.Pre_finite.Facts] (m : (ℓ : Loc Cert.LbsFwdIdeal.nD Cert.LbsFwdIdeal.τ Cert.LbsFwdIdeal.sig) → Buf (Elt Ideal) ℓ) : Prop :=
  ∀ c : Dev Cert.LbsFwdIdeal.nD,
    (Cert.Pre_finite.fn (F := Ideal) (m ((c.tc : Thread Cert.LbsFwdIdeal.nD Cert.LbsFwdIdeal.τ).loc Cert.LbsFwdIdeal.main_arg0))) = (fun _ => 1#1)

def Pre_LbsFwdRefIdeal (m : (ℓ : Loc Cert.LbsFwdRefIdeal.nD Cert.LbsFwdRefIdeal.τ Cert.LbsFwdRefIdeal.sig) → Buf (Elt Ideal) ℓ) : Prop :=
  True

def Pre_LbsFwdRefIdeal_finite [hPre_finite : Cert.Pre_finite.Facts] (m : (ℓ : Loc Cert.LbsFwdRefIdeal.nD Cert.LbsFwdRefIdeal.τ Cert.LbsFwdRefIdeal.sig) → Buf (Elt Ideal) ℓ) : Prop :=
  ∀ c : Dev Cert.LbsFwdRefIdeal.nD,
    (Cert.Pre_finite.fn (F := Ideal) (m ((c.tc : Thread Cert.LbsFwdRefIdeal.nD Cert.LbsFwdRefIdeal.τ).loc Cert.LbsFwdRefIdeal.main_arg0))) = (fun _ => 1#1)

def Pre_RmsFwd (m : (ℓ : Loc Cert.RmsFwd.nD Cert.RmsFwd.τ Cert.RmsFwd.sig) → Buf (Elt Bits) ℓ) : Prop :=
  True

def Pre_RmsFwdIdeal (m : (ℓ : Loc Cert.RmsFwdIdeal.nD Cert.RmsFwdIdeal.τ Cert.RmsFwdIdeal.sig) → Buf (Elt Ideal) ℓ) : Prop :=
  True

def Pre_RmsFwdRefIdeal (m : (ℓ : Loc Cert.RmsFwdRefIdeal.nD Cert.RmsFwdRefIdeal.τ Cert.RmsFwdRefIdeal.sig) → Buf (Elt Ideal) ℓ) : Prop :=
  True

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadRefIdeal (m : (ℓ : Loc Cert.LossHeadRefIdeal.nD Cert.LossHeadRefIdeal.τ Cert.LossHeadRefIdeal.sig) → Buf (Elt Ideal) ℓ) : Prop :=
  True

def Pre_Hgrn (m : (ℓ : Loc Cert.Hgrn.nD Cert.Hgrn.τ Cert.Hgrn.sig) → Buf (Elt Bits) ℓ) : Prop :=
  True

def Pre_HgrnIdeal (m : (ℓ : Loc Cert.HgrnIdeal.nD Cert.HgrnIdeal.τ Cert.HgrnIdeal.sig) → Buf (Elt Ideal) ℓ) : Prop :=
  True

def quiescent_Ff2Dgrad [hFf2Dgrad : Cert.Ff2Dgrad.Facts] : Prop :=
  ∀ (m : (ℓ : Loc Cert.Ff2Dgrad.nD Cert.Ff2Dgrad.τ Cert.Ff2Dgrad.sig) → Buf (Elt Bits) ℓ) (g : Dev Cert.Ff2Dgrad.nD → PrngReg), Pre_Ff2Dgrad m →
    θ_run (Cert.Ff2Dgrad.defs (F := Bits)) (onTc (τ := Cert.Ff2Dgrad.τ) (Cert.Ff2Dgrad.main (F := Bits))) ⟨m, fun _ => 0, g⟩ (fun r => (∀ c : Dev Cert.Ff2Dgrad.nD,
      r.2.mem ((c.tc : Thread Cert.Ff2Dgrad.nD Cert.Ff2Dgrad.τ).loc Cert.Ff2Dgrad.main_arg0) = m ((c.tc : Thread Cert.Ff2Dgrad.nD Cert.Ff2Dgrad.τ).loc Cert.Ff2Dgrad.main_arg0)
      ∧ r.2.mem ((c.tc : Thread Cert.Ff2Dgrad.nD Cert.Ff2Dgrad.τ).loc Cert.Ff2Dgrad.main_arg1) = m ((c.tc : Thread Cert.Ff2Dgrad.nD Cert.Ff2Dgrad.τ).loc Cert.Ff2Dgrad.main_arg1)
      ∧ r.2.mem ((c.tc : Thread Cert.Ff2Dgrad.nD Cert.Ff2Dgrad.τ).loc Cert.Ff2Dgrad.main_arg2) = m ((c.tc : Thread Cert.Ff2Dgrad.nD Cert.Ff2Dgrad.τ).loc Cert.Ff2Dgrad.main_arg2))
      ∧ r.2.sem = fun _ => 0)

def quiescent_Ff2DgradIdeal [hFf2DgradIdeal : Cert.Ff2DgradIdeal.Facts] : Prop :=
  ∀ (m : (ℓ : Loc Cert.Ff2DgradIdeal.nD Cert.Ff2DgradIdeal.τ Cert.Ff2DgradIdeal.sig) → Buf (Elt Ideal) ℓ) (g : Dev Cert.Ff2DgradIdeal.nD → PrngReg), Pre_Ff2DgradIdeal m →
    θ_run (Cert.Ff2DgradIdeal.defs (F := Ideal)) (onTc (τ := Cert.Ff2DgradIdeal.τ) (Cert.Ff2DgradIdeal.main (F := Ideal))) ⟨m, fun _ => 0, g⟩ (fun r => (∀ c : Dev Cert.Ff2DgradIdeal.nD,
      r.2.mem ((c.tc : Thread Cert.Ff2DgradIdeal.nD Cert.Ff2DgradIdeal.τ).loc Cert.Ff2DgradIdeal.main_arg0) = m ((c.tc : Thread Cert.Ff2DgradIdeal.nD Cert.Ff2DgradIdeal.τ).loc Cert.Ff2DgradIdeal.main_arg0)
      ∧ r.2.mem ((c.tc : Thread Cert.Ff2DgradIdeal.nD Cert.Ff2DgradIdeal.τ).loc Cert.Ff2DgradIdeal.main_arg1) = m ((c.tc : Thread Cert.Ff2DgradIdeal.nD Cert.Ff2DgradIdeal.τ).loc Cert.Ff2DgradIdeal.main_arg1)
      ∧ r.2.mem ((c.tc : Thread Cert.Ff2DgradIdeal.nD Cert.Ff2DgradIdeal.τ).loc Cert.Ff2DgradIdeal.main_arg2) = m ((c.tc : Thread Cert.Ff2DgradIdeal.nD Cert.Ff2DgradIdeal.τ).loc Cert.Ff2DgradIdeal.main_arg2))
      ∧ r.2.sem = fun _ => 0)

def quiescent_Ff2DgradRefIdeal [hFf2DgradRefIdeal : Cert.Ff2DgradRefIdeal.Facts] : Prop :=
  ∀ (m : (ℓ : Loc Cert.Ff2DgradRefIdeal.nD Cert.Ff2DgradRefIdeal.τ Cert.Ff2DgradRefIdeal.sig) → Buf (Elt Ideal) ℓ) (g : Dev Cert.Ff2DgradRefIdeal.nD → PrngReg), Pre_Ff2DgradRefIdeal m →
    θ_run (Cert.Ff2DgradRefIdeal.defs (F := Ideal)) (onTc (τ := Cert.Ff2DgradRefIdeal.τ) (Cert.Ff2DgradRefIdeal.main (F := Ideal))) ⟨m, fun _ => 0, g⟩ (fun r => (∀ c : Dev Cert.Ff2DgradRefIdeal.nD,
      r.2.mem ((c.tc : Thread Cert.Ff2DgradRefIdeal.nD Cert.Ff2DgradRefIdeal.τ).loc Cert.Ff2DgradRefIdeal.main_arg0) = m ((c.tc : Thread Cert.Ff2DgradRefIdeal.nD Cert.Ff2DgradRefIdeal.τ).loc Cert.Ff2DgradRefIdeal.main_arg0)
      ∧ r.2.mem ((c.tc : Thread Cert.Ff2DgradRefIdeal.nD Cert.Ff2DgradRefIdeal.τ).loc Cert.Ff2DgradRefIdeal.main_arg1) = m ((c.tc : Thread Cert.Ff2DgradRefIdeal.nD Cert.Ff2DgradRefIdeal.τ).loc Cert.Ff2DgradRefIdeal.main_arg1)
      ∧ r.2.mem ((c.tc : Thread Cert.Ff2DgradRefIdeal.nD Cert.Ff2DgradRefIdeal.τ).loc Cert.Ff2DgradRefIdeal.main_arg2) = m ((c.tc : Thread Cert.Ff2DgradRefIdeal.nD Cert.Ff2DgradRefIdeal.τ).loc Cert.Ff2DgradRefIdeal.main_arg2))
      ∧ r.2.sem = fun _ => 0)

def quiescent_Ff2Wgrad [hFf2Wgrad : Cert.Ff2Wgrad.Facts] : Prop :=
  ∀ (m : (ℓ : Loc Cert.Ff2Wgrad.nD Cert.Ff2Wgrad.τ Cert.Ff2Wgrad.sig) → Buf (Elt Bits) ℓ) (g : Dev Cert.Ff2Wgrad.nD → PrngReg), Pre_Ff2Wgrad m →
    θ_run (Cert.Ff2Wgrad.defs (F := Bits)) (onTc (τ := Cert.Ff2Wgrad.τ) (Cert.Ff2Wgrad.main (F := Bits))) ⟨m, fun _ => 0, g⟩ (fun r => (∀ c : Dev Cert.Ff2Wgrad.nD,
      r.2.mem ((c.tc : Thread Cert.Ff2Wgrad.nD Cert.Ff2Wgrad.τ).loc Cert.Ff2Wgrad.main_arg0) = m ((c.tc : Thread Cert.Ff2Wgrad.nD Cert.Ff2Wgrad.τ).loc Cert.Ff2Wgrad.main_arg0)
      ∧ r.2.mem ((c.tc : Thread Cert.Ff2Wgrad.nD Cert.Ff2Wgrad.τ).loc Cert.Ff2Wgrad.main_arg1) = m ((c.tc : Thread Cert.Ff2Wgrad.nD Cert.Ff2Wgrad.τ).loc Cert.Ff2Wgrad.main_arg1)
      ∧ r.2.mem ((c.tc : Thread Cert.Ff2Wgrad.nD Cert.Ff2Wgrad.τ).loc Cert.Ff2Wgrad.main_arg2) = m ((c.tc : Thread Cert.Ff2Wgrad.nD Cert.Ff2Wgrad.τ).loc Cert.Ff2Wgrad.main_arg2))
      ∧ r.2.sem = fun _ => 0)

def quiescent_Ff2WgradIdeal [hFf2WgradIdeal : Cert.Ff2WgradIdeal.Facts] : Prop :=
  ∀ (m : (ℓ : Loc Cert.Ff2WgradIdeal.nD Cert.Ff2WgradIdeal.τ Cert.Ff2WgradIdeal.sig) → Buf (Elt Ideal) ℓ) (g : Dev Cert.Ff2WgradIdeal.nD → PrngReg), Pre_Ff2WgradIdeal m →
    θ_run (Cert.Ff2WgradIdeal.defs (F := Ideal)) (onTc (τ := Cert.Ff2WgradIdeal.τ) (Cert.Ff2WgradIdeal.main (F := Ideal))) ⟨m, fun _ => 0, g⟩ (fun r => (∀ c : Dev Cert.Ff2WgradIdeal.nD,
      r.2.mem ((c.tc : Thread Cert.Ff2WgradIdeal.nD Cert.Ff2WgradIdeal.τ).loc Cert.Ff2WgradIdeal.main_arg0) = m ((c.tc : Thread Cert.Ff2WgradIdeal.nD Cert.Ff2WgradIdeal.τ).loc Cert.Ff2WgradIdeal.main_arg0)
      ∧ r.2.mem ((c.tc : Thread Cert.Ff2WgradIdeal.nD Cert.Ff2WgradIdeal.τ).loc Cert.Ff2WgradIdeal.main_arg1) = m ((c.tc : Thread Cert.Ff2WgradIdeal.nD Cert.Ff2WgradIdeal.τ).loc Cert.Ff2WgradIdeal.main_arg1)
      ∧ r.2.mem ((c.tc : Thread Cert.Ff2WgradIdeal.nD Cert.Ff2WgradIdeal.τ).loc Cert.Ff2WgradIdeal.main_arg2) = m ((c.tc : Thread Cert.Ff2WgradIdeal.nD Cert.Ff2WgradIdeal.τ).loc Cert.Ff2WgradIdeal.main_arg2))
      ∧ r.2.sem = fun _ => 0)

def quiescent_Ff2WgradRefIdeal [hFf2WgradRefIdeal : Cert.Ff2WgradRefIdeal.Facts] : Prop :=
  ∀ (m : (ℓ : Loc Cert.Ff2WgradRefIdeal.nD Cert.Ff2WgradRefIdeal.τ Cert.Ff2WgradRefIdeal.sig) → Buf (Elt Ideal) ℓ) (g : Dev Cert.Ff2WgradRefIdeal.nD → PrngReg), Pre_Ff2WgradRefIdeal m →
    θ_run (Cert.Ff2WgradRefIdeal.defs (F := Ideal)) (onTc (τ := Cert.Ff2WgradRefIdeal.τ) (Cert.Ff2WgradRefIdeal.main (F := Ideal))) ⟨m, fun _ => 0, g⟩ (fun r => (∀ c : Dev Cert.Ff2WgradRefIdeal.nD,
      r.2.mem ((c.tc : Thread Cert.Ff2WgradRefIdeal.nD Cert.Ff2WgradRefIdeal.τ).loc Cert.Ff2WgradRefIdeal.main_arg0) = m ((c.tc : Thread Cert.Ff2WgradRefIdeal.nD Cert.Ff2WgradRefIdeal.τ).loc Cert.Ff2WgradRefIdeal.main_arg0)
      ∧ r.2.mem ((c.tc : Thread Cert.Ff2WgradRefIdeal.nD Cert.Ff2WgradRefIdeal.τ).loc Cert.Ff2WgradRefIdeal.main_arg1) = m ((c.tc : Thread Cert.Ff2WgradRefIdeal.nD Cert.Ff2WgradRefIdeal.τ).loc Cert.Ff2WgradRefIdeal.main_arg1)
      ∧ r.2.mem ((c.tc : Thread Cert.Ff2WgradRefIdeal.nD Cert.Ff2WgradRefIdeal.τ).loc Cert.Ff2WgradRefIdeal.main_arg2) = m ((c.tc : Thread Cert.Ff2WgradRefIdeal.nD Cert.Ff2WgradRefIdeal.τ).loc Cert.Ff2WgradRefIdeal.main_arg2))
      ∧ r.2.sem = fun _ => 0)

def quiescent_Ff1Dgrad [hFf1Dgrad : Cert.Ff1Dgrad.Facts] : Prop :=
  ∀ (m : (ℓ : Loc Cert.Ff1Dgrad.nD Cert.Ff1Dgrad.τ Cert.Ff1Dgrad.sig) → Buf (Elt Bits) ℓ) (g : Dev Cert.Ff1Dgrad.nD → PrngReg), Pre_Ff1Dgrad m →
    θ_run (Cert.Ff1Dgrad.defs (F := Bits)) (onTc (τ := Cert.Ff1Dgrad.τ) (Cert.Ff1Dgrad.main (F := Bits))) ⟨m, fun _ => 0, g⟩ (fun r => (∀ c : Dev Cert.Ff1Dgrad.nD,
      r.2.mem ((c.tc : Thread Cert.Ff1Dgrad.nD Cert.Ff1Dgrad.τ).loc Cert.Ff1Dgrad.main_arg0) = m ((c.tc : Thread Cert.Ff1Dgrad.nD Cert.Ff1Dgrad.τ).loc Cert.Ff1Dgrad.main_arg0)
      ∧ r.2.mem ((c.tc : Thread Cert.Ff1Dgrad.nD Cert.Ff1Dgrad.τ).loc Cert.Ff1Dgrad.main_arg1) = m ((c.tc : Thread Cert.Ff1Dgrad.nD Cert.Ff1Dgrad.τ).loc Cert.Ff1Dgrad.main_arg1)
      ∧ r.2.mem ((c.tc : Thread Cert.Ff1Dgrad.nD Cert.Ff1Dgrad.τ).loc Cert.Ff1Dgrad.main_arg2) = m ((c.tc : Thread Cert.Ff1Dgrad.nD Cert.Ff1Dgrad.τ).loc Cert.Ff1Dgrad.main_arg2)
      ∧ r.2.mem ((c.tc : Thread Cert.Ff1Dgrad.nD Cert.Ff1Dgrad.τ).loc Cert.Ff1Dgrad.main_arg3) = m ((c.tc : Thread Cert.Ff1Dgrad.nD Cert.Ff1Dgrad.τ).loc Cert.Ff1Dgrad.main_arg3)
      ∧ r.2.mem ((c.tc : Thread Cert.Ff1Dgrad.nD Cert.Ff1Dgrad.τ).loc Cert.Ff1Dgrad.main_arg4) = m ((c.tc : Thread Cert.Ff1Dgrad.nD Cert.Ff1Dgrad.τ).loc Cert.Ff1Dgrad.main_arg4))
      ∧ r.2.sem = fun _ => 0)

def quiescent_Ff1DgradIdeal [hFf1DgradIdeal : Cert.Ff1DgradIdeal.Facts] : Prop :=
  ∀ (m : (ℓ : Loc Cert.Ff1DgradIdeal.nD Cert.Ff1DgradIdeal.τ Cert.Ff1DgradIdeal.sig) → Buf (Elt Ideal) ℓ) (g : Dev Cert.Ff1DgradIdeal.nD → PrngReg), Pre_Ff1DgradIdeal m →
    θ_run (Cert.Ff1DgradIdeal.defs (F := Ideal)) (onTc (τ := Cert.Ff1DgradIdeal.τ) (Cert.Ff1DgradIdeal.main (F := Ideal))) ⟨m, fun _ => 0, g⟩ (fun r => (∀ c : Dev Cert.Ff1DgradIdeal.nD,
      r.2.mem ((c.tc : Thread Cert.Ff1DgradIdeal.nD Cert.Ff1DgradIdeal.τ).loc Cert.Ff1DgradIdeal.main_arg0) = m ((c.tc : Thread Cert.Ff1DgradIdeal.nD Cert.Ff1DgradIdeal.τ).loc Cert.Ff1DgradIdeal.main_arg0)
      ∧ r.2.mem ((c.tc : Thread Cert.Ff1DgradIdeal.nD Cert.Ff1DgradIdeal.τ).loc Cert.Ff1DgradIdeal.main_arg1) = m ((c.tc : Thread Cert.Ff1DgradIdeal.nD Cert.Ff1DgradIdeal.τ).loc Cert.Ff1DgradIdeal.main_arg1)
      ∧ r.2.mem ((c.tc : Thread Cert.Ff1DgradIdeal.nD Cert.Ff1DgradIdeal.τ).loc Cert.Ff1DgradIdeal.main_arg2) = m ((c.tc : Thread Cert.Ff1DgradIdeal.nD Cert.Ff1DgradIdeal.τ).loc Cert.Ff1DgradIdeal.main_arg2)
      ∧ r.2.mem ((c.tc : Thread Cert.Ff1DgradIdeal.nD Cert.Ff1DgradIdeal.τ).loc Cert.Ff1DgradIdeal.main_arg3) = m ((c.tc : Thread Cert.Ff1DgradIdeal.nD Cert.Ff1DgradIdeal.τ).loc Cert.Ff1DgradIdeal.main_arg3)
      ∧ r.2.mem ((c.tc : Thread Cert.Ff1DgradIdeal.nD Cert.Ff1DgradIdeal.τ).loc Cert.Ff1DgradIdeal.main_arg4) = m ((c.tc : Thread Cert.Ff1DgradIdeal.nD Cert.Ff1DgradIdeal.τ).loc Cert.Ff1DgradIdeal.main_arg4))
      ∧ r.2.sem = fun _ => 0)

def quiescent_Ff1DgradRefIdeal [hFf1DgradRefIdeal : Cert.Ff1DgradRefIdeal.Facts] : Prop :=
  ∀ (m : (ℓ : Loc Cert.Ff1DgradRefIdeal.nD Cert.Ff1DgradRefIdeal.τ Cert.Ff1DgradRefIdeal.sig) → Buf (Elt Ideal) ℓ) (g : Dev Cert.Ff1DgradRefIdeal.nD → PrngReg), Pre_Ff1DgradRefIdeal m →
    θ_run (Cert.Ff1DgradRefIdeal.defs (F := Ideal)) (onTc (τ := Cert.Ff1DgradRefIdeal.τ) (Cert.Ff1DgradRefIdeal.main (F := Ideal))) ⟨m, fun _ => 0, g⟩ (fun r => (∀ c : Dev Cert.Ff1DgradRefIdeal.nD,
      r.2.mem ((c.tc : Thread Cert.Ff1DgradRefIdeal.nD Cert.Ff1DgradRefIdeal.τ).loc Cert.Ff1DgradRefIdeal.main_arg0) = m ((c.tc : Thread Cert.Ff1DgradRefIdeal.nD Cert.Ff1DgradRefIdeal.τ).loc Cert.Ff1DgradRefIdeal.main_arg0)
      ∧ r.2.mem ((c.tc : Thread Cert.Ff1DgradRefIdeal.nD Cert.Ff1DgradRefIdeal.τ).loc Cert.Ff1DgradRefIdeal.main_arg1) = m ((c.tc : Thread Cert.Ff1DgradRefIdeal.nD Cert.Ff1DgradRefIdeal.τ).loc Cert.Ff1DgradRefIdeal.main_arg1)
      ∧ r.2.mem ((c.tc : Thread Cert.Ff1DgradRefIdeal.nD Cert.Ff1DgradRefIdeal.τ).loc Cert.Ff1DgradRefIdeal.main_arg2) = m ((c.tc : Thread Cert.Ff1DgradRefIdeal.nD Cert.Ff1DgradRefIdeal.τ).loc Cert.Ff1DgradRefIdeal.main_arg2)
      ∧ r.2.mem ((c.tc : Thread Cert.Ff1DgradRefIdeal.nD Cert.Ff1DgradRefIdeal.τ).loc Cert.Ff1DgradRefIdeal.main_arg3) = m ((c.tc : Thread Cert.Ff1DgradRefIdeal.nD Cert.Ff1DgradRefIdeal.τ).loc Cert.Ff1DgradRefIdeal.main_arg3)
      ∧ r.2.mem ((c.tc : Thread Cert.Ff1DgradRefIdeal.nD Cert.Ff1DgradRefIdeal.τ).loc Cert.Ff1DgradRefIdeal.main_arg4) = m ((c.tc : Thread Cert.Ff1DgradRefIdeal.nD Cert.Ff1DgradRefIdeal.τ).loc Cert.Ff1DgradRefIdeal.main_arg4))
      ∧ r.2.sem = fun _ => 0)

def quiescent_Ff1Wgrad [hFf1Wgrad : Cert.Ff1Wgrad.Facts] : Prop :=
  ∀ (m : (ℓ : Loc Cert.Ff1Wgrad.nD Cert.Ff1Wgrad.τ Cert.Ff1Wgrad.sig) → Buf (Elt Bits) ℓ) (g : Dev Cert.Ff1Wgrad.nD → PrngReg), Pre_Ff1Wgrad m →
    θ_run (Cert.Ff1Wgrad.defs (F := Bits)) (onTc (τ := Cert.Ff1Wgrad.τ) (Cert.Ff1Wgrad.main (F := Bits))) ⟨m, fun _ => 0, g⟩ (fun r => (∀ c : Dev Cert.Ff1Wgrad.nD,
      r.2.mem ((c.tc : Thread Cert.Ff1Wgrad.nD Cert.Ff1Wgrad.τ).loc Cert.Ff1Wgrad.main_arg0) = m ((c.tc : Thread Cert.Ff1Wgrad.nD Cert.Ff1Wgrad.τ).loc Cert.Ff1Wgrad.main_arg0)
      ∧ r.2.mem ((c.tc : Thread Cert.Ff1Wgrad.nD Cert.Ff1Wgrad.τ).loc Cert.Ff1Wgrad.main_arg1) = m ((c.tc : Thread Cert.Ff1Wgrad.nD Cert.Ff1Wgrad.τ).loc Cert.Ff1Wgrad.main_arg1)
      ∧ r.2.mem ((c.tc : Thread Cert.Ff1Wgrad.nD Cert.Ff1Wgrad.τ).loc Cert.Ff1Wgrad.main_arg2) = m ((c.tc : Thread Cert.Ff1Wgrad.nD Cert.Ff1Wgrad.τ).loc Cert.Ff1Wgrad.main_arg2))
      ∧ r.2.sem = fun _ => 0)

def quiescent_Ff1WgradIdeal [hFf1WgradIdeal : Cert.Ff1WgradIdeal.Facts] : Prop :=
  ∀ (m : (ℓ : Loc Cert.Ff1WgradIdeal.nD Cert.Ff1WgradIdeal.τ Cert.Ff1WgradIdeal.sig) → Buf (Elt Ideal) ℓ) (g : Dev Cert.Ff1WgradIdeal.nD → PrngReg), Pre_Ff1WgradIdeal m →
    θ_run (Cert.Ff1WgradIdeal.defs (F := Ideal)) (onTc (τ := Cert.Ff1WgradIdeal.τ) (Cert.Ff1WgradIdeal.main (F := Ideal))) ⟨m, fun _ => 0, g⟩ (fun r => (∀ c : Dev Cert.Ff1WgradIdeal.nD,
      r.2.mem ((c.tc : Thread Cert.Ff1WgradIdeal.nD Cert.Ff1WgradIdeal.τ).loc Cert.Ff1WgradIdeal.main_arg0) = m ((c.tc : Thread Cert.Ff1WgradIdeal.nD Cert.Ff1WgradIdeal.τ).loc Cert.Ff1WgradIdeal.main_arg0)
      ∧ r.2.mem ((c.tc : Thread Cert.Ff1WgradIdeal.nD Cert.Ff1WgradIdeal.τ).loc Cert.Ff1WgradIdeal.main_arg1) = m ((c.tc : Thread Cert.Ff1WgradIdeal.nD Cert.Ff1WgradIdeal.τ).loc Cert.Ff1WgradIdeal.main_arg1)
      ∧ r.2.mem ((c.tc : Thread Cert.Ff1WgradIdeal.nD Cert.Ff1WgradIdeal.τ).loc Cert.Ff1WgradIdeal.main_arg2) = m ((c.tc : Thread Cert.Ff1WgradIdeal.nD Cert.Ff1WgradIdeal.τ).loc Cert.Ff1WgradIdeal.main_arg2))
      ∧ r.2.sem = fun _ => 0)

def quiescent_Ff1WgradRefIdeal [hFf1WgradRefIdeal : Cert.Ff1WgradRefIdeal.Facts] : Prop :=
  ∀ (m : (ℓ : Loc Cert.Ff1WgradRefIdeal.nD Cert.Ff1WgradRefIdeal.τ Cert.Ff1WgradRefIdeal.sig) → Buf (Elt Ideal) ℓ) (g : Dev Cert.Ff1WgradRefIdeal.nD → PrngReg), Pre_Ff1WgradRefIdeal m →
    θ_run (Cert.Ff1WgradRefIdeal.defs (F := Ideal)) (onTc (τ := Cert.Ff1WgradRefIdeal.τ) (Cert.Ff1WgradRefIdeal.main (F := Ideal))) ⟨m, fun _ => 0, g⟩ (fun r => (∀ c : Dev Cert.Ff1WgradRefIdeal.nD,
      r.2.mem ((c.tc : Thread Cert.Ff1WgradRefIdeal.nD Cert.Ff1WgradRefIdeal.τ).loc Cert.Ff1WgradRefIdeal.main_arg0) = m ((c.tc : Thread Cert.Ff1WgradRefIdeal.nD Cert.Ff1WgradRefIdeal.τ).loc Cert.Ff1WgradRefIdeal.main_arg0)
      ∧ r.2.mem ((c.tc : Thread Cert.Ff1WgradRefIdeal.nD Cert.Ff1WgradRefIdeal.τ).loc Cert.Ff1WgradRefIdeal.main_arg1) = m ((c.tc : Thread Cert.Ff1WgradRefIdeal.nD Cert.Ff1WgradRefIdeal.τ).loc Cert.Ff1WgradRefIdeal.main_arg1)
      ∧ r.2.mem ((c.tc : Thread Cert.Ff1WgradRefIdeal.nD Cert.Ff1WgradRefIdeal.τ).loc Cert.Ff1WgradRefIdeal.main_arg2) = m ((c.tc : Thread Cert.Ff1WgradRefIdeal.nD Cert.Ff1WgradRefIdeal.τ).loc Cert.Ff1WgradRefIdeal.main_arg2))
      ∧ r.2.sem = fun _ => 0)

def quiescent_OutDgrad [hOutDgrad : Cert.OutDgrad.Facts] : Prop :=
  ∀ (m : (ℓ : Loc Cert.OutDgrad.nD Cert.OutDgrad.τ Cert.OutDgrad.sig) → Buf (Elt Bits) ℓ) (g : Dev Cert.OutDgrad.nD → PrngReg), Pre_OutDgrad m →
    θ_run (Cert.OutDgrad.defs (F := Bits)) (onTc (τ := Cert.OutDgrad.τ) (Cert.OutDgrad.main (F := Bits))) ⟨m, fun _ => 0, g⟩ (fun r => (∀ c : Dev Cert.OutDgrad.nD,
      r.2.mem ((c.tc : Thread Cert.OutDgrad.nD Cert.OutDgrad.τ).loc Cert.OutDgrad.main_arg0) = m ((c.tc : Thread Cert.OutDgrad.nD Cert.OutDgrad.τ).loc Cert.OutDgrad.main_arg0)
      ∧ r.2.mem ((c.tc : Thread Cert.OutDgrad.nD Cert.OutDgrad.τ).loc Cert.OutDgrad.main_arg1) = m ((c.tc : Thread Cert.OutDgrad.nD Cert.OutDgrad.τ).loc Cert.OutDgrad.main_arg1)
      ∧ r.2.mem ((c.tc : Thread Cert.OutDgrad.nD Cert.OutDgrad.τ).loc Cert.OutDgrad.main_arg2) = m ((c.tc : Thread Cert.OutDgrad.nD Cert.OutDgrad.τ).loc Cert.OutDgrad.main_arg2))
      ∧ r.2.sem = fun _ => 0)

def quiescent_OutDgradIdeal [hOutDgradIdeal : Cert.OutDgradIdeal.Facts] : Prop :=
  ∀ (m : (ℓ : Loc Cert.OutDgradIdeal.nD Cert.OutDgradIdeal.τ Cert.OutDgradIdeal.sig) → Buf (Elt Ideal) ℓ) (g : Dev Cert.OutDgradIdeal.nD → PrngReg), Pre_OutDgradIdeal m →
    θ_run (Cert.OutDgradIdeal.defs (F := Ideal)) (onTc (τ := Cert.OutDgradIdeal.τ) (Cert.OutDgradIdeal.main (F := Ideal))) ⟨m, fun _ => 0, g⟩ (fun r => (∀ c : Dev Cert.OutDgradIdeal.nD,
      r.2.mem ((c.tc : Thread Cert.OutDgradIdeal.nD Cert.OutDgradIdeal.τ).loc Cert.OutDgradIdeal.main_arg0) = m ((c.tc : Thread Cert.OutDgradIdeal.nD Cert.OutDgradIdeal.τ).loc Cert.OutDgradIdeal.main_arg0)
      ∧ r.2.mem ((c.tc : Thread Cert.OutDgradIdeal.nD Cert.OutDgradIdeal.τ).loc Cert.OutDgradIdeal.main_arg1) = m ((c.tc : Thread Cert.OutDgradIdeal.nD Cert.OutDgradIdeal.τ).loc Cert.OutDgradIdeal.main_arg1)
      ∧ r.2.mem ((c.tc : Thread Cert.OutDgradIdeal.nD Cert.OutDgradIdeal.τ).loc Cert.OutDgradIdeal.main_arg2) = m ((c.tc : Thread Cert.OutDgradIdeal.nD Cert.OutDgradIdeal.τ).loc Cert.OutDgradIdeal.main_arg2))
      ∧ r.2.sem = fun _ => 0)

def quiescent_OutDgradRefIdeal [hOutDgradRefIdeal : Cert.OutDgradRefIdeal.Facts] : Prop :=
  ∀ (m : (ℓ : Loc Cert.OutDgradRefIdeal.nD Cert.OutDgradRefIdeal.τ Cert.OutDgradRefIdeal.sig) → Buf (Elt Ideal) ℓ) (g : Dev Cert.OutDgradRefIdeal.nD → PrngReg), Pre_OutDgradRefIdeal m →
    θ_run (Cert.OutDgradRefIdeal.defs (F := Ideal)) (onTc (τ := Cert.OutDgradRefIdeal.τ) (Cert.OutDgradRefIdeal.main (F := Ideal))) ⟨m, fun _ => 0, g⟩ (fun r => (∀ c : Dev Cert.OutDgradRefIdeal.nD,
      r.2.mem ((c.tc : Thread Cert.OutDgradRefIdeal.nD Cert.OutDgradRefIdeal.τ).loc Cert.OutDgradRefIdeal.main_arg0) = m ((c.tc : Thread Cert.OutDgradRefIdeal.nD Cert.OutDgradRefIdeal.τ).loc Cert.OutDgradRefIdeal.main_arg0)
      ∧ r.2.mem ((c.tc : Thread Cert.OutDgradRefIdeal.nD Cert.OutDgradRefIdeal.τ).loc Cert.OutDgradRefIdeal.main_arg1) = m ((c.tc : Thread Cert.OutDgradRefIdeal.nD Cert.OutDgradRefIdeal.τ).loc Cert.OutDgradRefIdeal.main_arg1)
      ∧ r.2.mem ((c.tc : Thread Cert.OutDgradRefIdeal.nD Cert.OutDgradRefIdeal.τ).loc Cert.OutDgradRefIdeal.main_arg2) = m ((c.tc : Thread Cert.OutDgradRefIdeal.nD Cert.OutDgradRefIdeal.τ).loc Cert.OutDgradRefIdeal.main_arg2))
      ∧ r.2.sem = fun _ => 0)

def quiescent_OutWgrad [hOutWgrad : Cert.OutWgrad.Facts] : Prop :=
  ∀ (m : (ℓ : Loc Cert.OutWgrad.nD Cert.OutWgrad.τ Cert.OutWgrad.sig) → Buf (Elt Bits) ℓ) (g : Dev Cert.OutWgrad.nD → PrngReg), Pre_OutWgrad m →
    θ_run (Cert.OutWgrad.defs (F := Bits)) (onTc (τ := Cert.OutWgrad.τ) (Cert.OutWgrad.main (F := Bits))) ⟨m, fun _ => 0, g⟩ (fun r => (∀ c : Dev Cert.OutWgrad.nD,
      r.2.mem ((c.tc : Thread Cert.OutWgrad.nD Cert.OutWgrad.τ).loc Cert.OutWgrad.main_arg0) = m ((c.tc : Thread Cert.OutWgrad.nD Cert.OutWgrad.τ).loc Cert.OutWgrad.main_arg0)
      ∧ r.2.mem ((c.tc : Thread Cert.OutWgrad.nD Cert.OutWgrad.τ).loc Cert.OutWgrad.main_arg1) = m ((c.tc : Thread Cert.OutWgrad.nD Cert.OutWgrad.τ).loc Cert.OutWgrad.main_arg1)
      ∧ r.2.mem ((c.tc : Thread Cert.OutWgrad.nD Cert.OutWgrad.τ).loc Cert.OutWgrad.main_arg2) = m ((c.tc : Thread Cert.OutWgrad.nD Cert.OutWgrad.τ).loc Cert.OutWgrad.main_arg2))
      ∧ r.2.sem = fun _ => 0)

def quiescent_OutWgradIdeal [hOutWgradIdeal : Cert.OutWgradIdeal.Facts] : Prop :=
  ∀ (m : (ℓ : Loc Cert.OutWgradIdeal.nD Cert.OutWgradIdeal.τ Cert.OutWgradIdeal.sig) → Buf (Elt Ideal) ℓ) (g : Dev Cert.OutWgradIdeal.nD → PrngReg), Pre_OutWgradIdeal m →
    θ_run (Cert.OutWgradIdeal.defs (F := Ideal)) (onTc (τ := Cert.OutWgradIdeal.τ) (Cert.OutWgradIdeal.main (F := Ideal))) ⟨m, fun _ => 0, g⟩ (fun r => (∀ c : Dev Cert.OutWgradIdeal.nD,
      r.2.mem ((c.tc : Thread Cert.OutWgradIdeal.nD Cert.OutWgradIdeal.τ).loc Cert.OutWgradIdeal.main_arg0) = m ((c.tc : Thread Cert.OutWgradIdeal.nD Cert.OutWgradIdeal.τ).loc Cert.OutWgradIdeal.main_arg0)
      ∧ r.2.mem ((c.tc : Thread Cert.OutWgradIdeal.nD Cert.OutWgradIdeal.τ).loc Cert.OutWgradIdeal.main_arg1) = m ((c.tc : Thread Cert.OutWgradIdeal.nD Cert.OutWgradIdeal.τ).loc Cert.OutWgradIdeal.main_arg1)
      ∧ r.2.mem ((c.tc : Thread Cert.OutWgradIdeal.nD Cert.OutWgradIdeal.τ).loc Cert.OutWgradIdeal.main_arg2) = m ((c.tc : Thread Cert.OutWgradIdeal.nD Cert.OutWgradIdeal.τ).loc Cert.OutWgradIdeal.main_arg2))
      ∧ r.2.sem = fun _ => 0)

def quiescent_OutWgradRefIdeal [hOutWgradRefIdeal : Cert.OutWgradRefIdeal.Facts] : Prop :=
  ∀ (m : (ℓ : Loc Cert.OutWgradRefIdeal.nD Cert.OutWgradRefIdeal.τ Cert.OutWgradRefIdeal.sig) → Buf (Elt Ideal) ℓ) (g : Dev Cert.OutWgradRefIdeal.nD → PrngReg), Pre_OutWgradRefIdeal m →
    θ_run (Cert.OutWgradRefIdeal.defs (F := Ideal)) (onTc (τ := Cert.OutWgradRefIdeal.τ) (Cert.OutWgradRefIdeal.main (F := Ideal))) ⟨m, fun _ => 0, g⟩ (fun r => (∀ c : Dev Cert.OutWgradRefIdeal.nD,
      r.2.mem ((c.tc : Thread Cert.OutWgradRefIdeal.nD Cert.OutWgradRefIdeal.τ).loc Cert.OutWgradRefIdeal.main_arg0) = m ((c.tc : Thread Cert.OutWgradRefIdeal.nD Cert.OutWgradRefIdeal.τ).loc Cert.OutWgradRefIdeal.main_arg0)
      ∧ r.2.mem ((c.tc : Thread Cert.OutWgradRefIdeal.nD Cert.OutWgradRefIdeal.τ).loc Cert.OutWgradRefIdeal.main_arg1) = m ((c.tc : Thread Cert.OutWgradRefIdeal.nD Cert.OutWgradRefIdeal.τ).loc Cert.OutWgradRefIdeal.main_arg1)
      ∧ r.2.mem ((c.tc : Thread Cert.OutWgradRefIdeal.nD Cert.OutWgradRefIdeal.τ).loc Cert.OutWgradRefIdeal.main_arg2) = m ((c.tc : Thread Cert.OutWgradRefIdeal.nD Cert.OutWgradRefIdeal.τ).loc Cert.OutWgradRefIdeal.main_arg2))
      ∧ r.2.sem = fun _ => 0)

def quiescent_InDgrad [hInDgrad : Cert.InDgrad.Facts] : Prop :=
  ∀ (m : (ℓ : Loc Cert.InDgrad.nD Cert.InDgrad.τ Cert.InDgrad.sig) → Buf (Elt Bits) ℓ) (g : Dev Cert.InDgrad.nD → PrngReg), Pre_InDgrad m →
    θ_run (Cert.InDgrad.defs (F := Bits)) (onTc (τ := Cert.InDgrad.τ) (Cert.InDgrad.main (F := Bits))) ⟨m, fun _ => 0, g⟩ (fun r => (∀ c : Dev Cert.InDgrad.nD,
      r.2.mem ((c.tc : Thread Cert.InDgrad.nD Cert.InDgrad.τ).loc Cert.InDgrad.main_arg0) = m ((c.tc : Thread Cert.InDgrad.nD Cert.InDgrad.τ).loc Cert.InDgrad.main_arg0)
      ∧ r.2.mem ((c.tc : Thread Cert.InDgrad.nD Cert.InDgrad.τ).loc Cert.InDgrad.main_arg1) = m ((c.tc : Thread Cert.InDgrad.nD Cert.InDgrad.τ).loc Cert.InDgrad.main_arg1)
      ∧ r.2.mem ((c.tc : Thread Cert.InDgrad.nD Cert.InDgrad.τ).loc Cert.InDgrad.main_arg2) = m ((c.tc : Thread Cert.InDgrad.nD Cert.InDgrad.τ).loc Cert.InDgrad.main_arg2)
      ∧ r.2.mem ((c.tc : Thread Cert.InDgrad.nD Cert.InDgrad.τ).loc Cert.InDgrad.main_arg3) = m ((c.tc : Thread Cert.InDgrad.nD Cert.InDgrad.τ).loc Cert.InDgrad.main_arg3)
      ∧ r.2.mem ((c.tc : Thread Cert.InDgrad.nD Cert.InDgrad.τ).loc Cert.InDgrad.main_arg4) = m ((c.tc : Thread Cert.InDgrad.nD Cert.InDgrad.τ).loc Cert.InDgrad.main_arg4))
      ∧ r.2.sem = fun _ => 0)

def quiescent_InDgradIdeal [hInDgradIdeal : Cert.InDgradIdeal.Facts] : Prop :=
  ∀ (m : (ℓ : Loc Cert.InDgradIdeal.nD Cert.InDgradIdeal.τ Cert.InDgradIdeal.sig) → Buf (Elt Ideal) ℓ) (g : Dev Cert.InDgradIdeal.nD → PrngReg), Pre_InDgradIdeal m →
    θ_run (Cert.InDgradIdeal.defs (F := Ideal)) (onTc (τ := Cert.InDgradIdeal.τ) (Cert.InDgradIdeal.main (F := Ideal))) ⟨m, fun _ => 0, g⟩ (fun r => (∀ c : Dev Cert.InDgradIdeal.nD,
      r.2.mem ((c.tc : Thread Cert.InDgradIdeal.nD Cert.InDgradIdeal.τ).loc Cert.InDgradIdeal.main_arg0) = m ((c.tc : Thread Cert.InDgradIdeal.nD Cert.InDgradIdeal.τ).loc Cert.InDgradIdeal.main_arg0)
      ∧ r.2.mem ((c.tc : Thread Cert.InDgradIdeal.nD Cert.InDgradIdeal.τ).loc Cert.InDgradIdeal.main_arg1) = m ((c.tc : Thread Cert.InDgradIdeal.nD Cert.InDgradIdeal.τ).loc Cert.InDgradIdeal.main_arg1)
      ∧ r.2.mem ((c.tc : Thread Cert.InDgradIdeal.nD Cert.InDgradIdeal.τ).loc Cert.InDgradIdeal.main_arg2) = m ((c.tc : Thread Cert.InDgradIdeal.nD Cert.InDgradIdeal.τ).loc Cert.InDgradIdeal.main_arg2)
      ∧ r.2.mem ((c.tc : Thread Cert.InDgradIdeal.nD Cert.InDgradIdeal.τ).loc Cert.InDgradIdeal.main_arg3) = m ((c.tc : Thread Cert.InDgradIdeal.nD Cert.InDgradIdeal.τ).loc Cert.InDgradIdeal.main_arg3)
      ∧ r.2.mem ((c.tc : Thread Cert.InDgradIdeal.nD Cert.InDgradIdeal.τ).loc Cert.InDgradIdeal.main_arg4) = m ((c.tc : Thread Cert.InDgradIdeal.nD Cert.InDgradIdeal.τ).loc Cert.InDgradIdeal.main_arg4))
      ∧ r.2.sem = fun _ => 0)

def quiescent_InDgradRefIdeal [hInDgradRefIdeal : Cert.InDgradRefIdeal.Facts] : Prop :=
  ∀ (m : (ℓ : Loc Cert.InDgradRefIdeal.nD Cert.InDgradRefIdeal.τ Cert.InDgradRefIdeal.sig) → Buf (Elt Ideal) ℓ) (g : Dev Cert.InDgradRefIdeal.nD → PrngReg), Pre_InDgradRefIdeal m →
    θ_run (Cert.InDgradRefIdeal.defs (F := Ideal)) (onTc (τ := Cert.InDgradRefIdeal.τ) (Cert.InDgradRefIdeal.main (F := Ideal))) ⟨m, fun _ => 0, g⟩ (fun r => (∀ c : Dev Cert.InDgradRefIdeal.nD,
      r.2.mem ((c.tc : Thread Cert.InDgradRefIdeal.nD Cert.InDgradRefIdeal.τ).loc Cert.InDgradRefIdeal.main_arg0) = m ((c.tc : Thread Cert.InDgradRefIdeal.nD Cert.InDgradRefIdeal.τ).loc Cert.InDgradRefIdeal.main_arg0)
      ∧ r.2.mem ((c.tc : Thread Cert.InDgradRefIdeal.nD Cert.InDgradRefIdeal.τ).loc Cert.InDgradRefIdeal.main_arg1) = m ((c.tc : Thread Cert.InDgradRefIdeal.nD Cert.InDgradRefIdeal.τ).loc Cert.InDgradRefIdeal.main_arg1)
      ∧ r.2.mem ((c.tc : Thread Cert.InDgradRefIdeal.nD Cert.InDgradRefIdeal.τ).loc Cert.InDgradRefIdeal.main_arg2) = m ((c.tc : Thread Cert.InDgradRefIdeal.nD Cert.InDgradRefIdeal.τ).loc Cert.InDgradRefIdeal.main_arg2)
      ∧ r.2.mem ((c.tc : Thread Cert.InDgradRefIdeal.nD Cert.InDgradRefIdeal.τ).loc Cert.InDgradRefIdeal.main_arg3) = m ((c.tc : Thread Cert.InDgradRefIdeal.nD Cert.InDgradRefIdeal.τ).loc Cert.InDgradRefIdeal.main_arg3)
      ∧ r.2.mem ((c.tc : Thread Cert.InDgradRefIdeal.nD Cert.InDgradRefIdeal.τ).loc Cert.InDgradRefIdeal.main_arg4) = m ((c.tc : Thread Cert.InDgradRefIdeal.nD Cert.InDgradRefIdeal.τ).loc Cert.InDgradRefIdeal.main_arg4))
      ∧ r.2.sem = fun _ => 0)

def quiescent_InWgrad [hInWgrad : Cert.InWgrad.Facts] : Prop :=
  ∀ (m : (ℓ : Loc Cert.InWgrad.nD Cert.InWgrad.τ Cert.InWgrad.sig) → Buf (Elt Bits) ℓ) (g : Dev Cert.InWgrad.nD → PrngReg), Pre_InWgrad m →
    θ_run (Cert.InWgrad.defs (F := Bits)) (onTc (τ := Cert.InWgrad.τ) (Cert.InWgrad.main (F := Bits))) ⟨m, fun _ => 0, g⟩ (fun r => (∀ c : Dev Cert.InWgrad.nD,
      r.2.mem ((c.tc : Thread Cert.InWgrad.nD Cert.InWgrad.τ).loc Cert.InWgrad.main_arg0) = m ((c.tc : Thread Cert.InWgrad.nD Cert.InWgrad.τ).loc Cert.InWgrad.main_arg0)
      ∧ r.2.mem ((c.tc : Thread Cert.InWgrad.nD Cert.InWgrad.τ).loc Cert.InWgrad.main_arg1) = m ((c.tc : Thread Cert.InWgrad.nD Cert.InWgrad.τ).loc Cert.InWgrad.main_arg1)
      ∧ r.2.mem ((c.tc : Thread Cert.InWgrad.nD Cert.InWgrad.τ).loc Cert.InWgrad.main_arg2) = m ((c.tc : Thread Cert.InWgrad.nD Cert.InWgrad.τ).loc Cert.InWgrad.main_arg2))
      ∧ r.2.sem = fun _ => 0)

def quiescent_InWgradIdeal [hInWgradIdeal : Cert.InWgradIdeal.Facts] : Prop :=
  ∀ (m : (ℓ : Loc Cert.InWgradIdeal.nD Cert.InWgradIdeal.τ Cert.InWgradIdeal.sig) → Buf (Elt Ideal) ℓ) (g : Dev Cert.InWgradIdeal.nD → PrngReg), Pre_InWgradIdeal m →
    θ_run (Cert.InWgradIdeal.defs (F := Ideal)) (onTc (τ := Cert.InWgradIdeal.τ) (Cert.InWgradIdeal.main (F := Ideal))) ⟨m, fun _ => 0, g⟩ (fun r => (∀ c : Dev Cert.InWgradIdeal.nD,
      r.2.mem ((c.tc : Thread Cert.InWgradIdeal.nD Cert.InWgradIdeal.τ).loc Cert.InWgradIdeal.main_arg0) = m ((c.tc : Thread Cert.InWgradIdeal.nD Cert.InWgradIdeal.τ).loc Cert.InWgradIdeal.main_arg0)
      ∧ r.2.mem ((c.tc : Thread Cert.InWgradIdeal.nD Cert.InWgradIdeal.τ).loc Cert.InWgradIdeal.main_arg1) = m ((c.tc : Thread Cert.InWgradIdeal.nD Cert.InWgradIdeal.τ).loc Cert.InWgradIdeal.main_arg1)
      ∧ r.2.mem ((c.tc : Thread Cert.InWgradIdeal.nD Cert.InWgradIdeal.τ).loc Cert.InWgradIdeal.main_arg2) = m ((c.tc : Thread Cert.InWgradIdeal.nD Cert.InWgradIdeal.τ).loc Cert.InWgradIdeal.main_arg2))
      ∧ r.2.sem = fun _ => 0)

def quiescent_InWgradRefIdeal [hInWgradRefIdeal : Cert.InWgradRefIdeal.Facts] : Prop :=
  ∀ (m : (ℓ : Loc Cert.InWgradRefIdeal.nD Cert.InWgradRefIdeal.τ Cert.InWgradRefIdeal.sig) → Buf (Elt Ideal) ℓ) (g : Dev Cert.InWgradRefIdeal.nD → PrngReg), Pre_InWgradRefIdeal m →
    θ_run (Cert.InWgradRefIdeal.defs (F := Ideal)) (onTc (τ := Cert.InWgradRefIdeal.τ) (Cert.InWgradRefIdeal.main (F := Ideal))) ⟨m, fun _ => 0, g⟩ (fun r => (∀ c : Dev Cert.InWgradRefIdeal.nD,
      r.2.mem ((c.tc : Thread Cert.InWgradRefIdeal.nD Cert.InWgradRefIdeal.τ).loc Cert.InWgradRefIdeal.main_arg0) = m ((c.tc : Thread Cert.InWgradRefIdeal.nD Cert.InWgradRefIdeal.τ).loc Cert.InWgradRefIdeal.main_arg0)
      ∧ r.2.mem ((c.tc : Thread Cert.InWgradRefIdeal.nD Cert.InWgradRefIdeal.τ).loc Cert.InWgradRefIdeal.main_arg1) = m ((c.tc : Thread Cert.InWgradRefIdeal.nD Cert.InWgradRefIdeal.τ).loc Cert.InWgradRefIdeal.main_arg1)
      ∧ r.2.mem ((c.tc : Thread Cert.InWgradRefIdeal.nD Cert.InWgradRefIdeal.τ).loc Cert.InWgradRefIdeal.main_arg2) = m ((c.tc : Thread Cert.InWgradRefIdeal.nD Cert.InWgradRefIdeal.τ).loc Cert.InWgradRefIdeal.main_arg2))
      ∧ r.2.sem = fun _ => 0)

def quiescent_InFwd [hInFwd : Cert.InFwd.Facts] : Prop :=
  ∀ (m : (ℓ : Loc Cert.InFwd.nD Cert.InFwd.τ Cert.InFwd.sig) → Buf (Elt Bits) ℓ) (g : Dev Cert.InFwd.nD → PrngReg), Pre_InFwd m →
    θ_run (Cert.InFwd.defs (F := Bits)) (onTc (τ := Cert.InFwd.τ) (Cert.InFwd.main (F := Bits))) ⟨m, fun _ => 0, g⟩ (fun r => (∀ c : Dev Cert.InFwd.nD,
      r.2.mem ((c.tc : Thread Cert.InFwd.nD Cert.InFwd.τ).loc Cert.InFwd.main_arg0) = m ((c.tc : Thread Cert.InFwd.nD Cert.InFwd.τ).loc Cert.InFwd.main_arg0)
      ∧ r.2.mem ((c.tc : Thread Cert.InFwd.nD Cert.InFwd.τ).loc Cert.InFwd.main_arg1) = m ((c.tc : Thread Cert.InFwd.nD Cert.InFwd.τ).loc Cert.InFwd.main_arg1))
      ∧ r.2.sem = fun _ => 0)

def quiescent_InFwdIdeal [hInFwdIdeal : Cert.InFwdIdeal.Facts] : Prop :=
  ∀ (m : (ℓ : Loc Cert.InFwdIdeal.nD Cert.InFwdIdeal.τ Cert.InFwdIdeal.sig) → Buf (Elt Ideal) ℓ) (g : Dev Cert.InFwdIdeal.nD → PrngReg), Pre_InFwdIdeal m →
    θ_run (Cert.InFwdIdeal.defs (F := Ideal)) (onTc (τ := Cert.InFwdIdeal.τ) (Cert.InFwdIdeal.main (F := Ideal))) ⟨m, fun _ => 0, g⟩ (fun r => (∀ c : Dev Cert.InFwdIdeal.nD,
      r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
      ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1))
      ∧ r.2.sem = fun _ => 0)

def quiescent_InFwdRefIdeal [hInFwdRefIdeal : Cert.InFwdRefIdeal.Facts] : Prop :=
  ∀ (m : (ℓ : Loc Cert.InFwdRefIdeal.nD Cert.InFwdRefIdeal.τ Cert.InFwdRefIdeal.sig) → Buf (Elt Ideal) ℓ) (g : Dev Cert.InFwdRefIdeal.nD → PrngReg), Pre_InFwdRefIdeal m →
    θ_run (Cert.InFwdRefIdeal.defs (F := Ideal)) (onTc (τ := Cert.InFwdRefIdeal.τ) (Cert.InFwdRefIdeal.main (F := Ideal))) ⟨m, fun _ => 0, g⟩ (fun r => (∀ c : Dev Cert.InFwdRefIdeal.nD,
      r.2.mem ((c.tc : Thread Cert.InFwdRefIdeal.nD Cert.InFwdRefIdeal.τ).loc Cert.InFwdRefIdeal.main_arg0) = m ((c.tc : Thread Cert.InFwdRefIdeal.nD Cert.InFwdRefIdeal.τ).loc Cert.InFwdRefIdeal.main_arg0)
      ∧ r.2.mem ((c.tc : Thread Cert.InFwdRefIdeal.nD Cert.InFwdRefIdeal.τ).loc Cert.InFwdRefIdeal.main_arg1) = m ((c.tc : Thread Cert.InFwdRefIdeal.nD Cert.InFwdRefIdeal.τ).loc Cert.InFwdRefIdeal.main_arg1))
      ∧ r.2.sem = fun _ => 0)

def quiescent_OutFwd [hOutFwd : Cert.OutFwd.Facts] : Prop :=
  ∀ (m : (ℓ : Loc Cert.OutFwd.nD Cert.OutFwd.τ Cert.OutFwd.sig) → Buf (Elt Bits) ℓ) (g : Dev Cert.OutFwd.nD → PrngReg), Pre_OutFwd m →
    θ_run (Cert.OutFwd.defs (F := Bits)) (onTc (τ := Cert.OutFwd.τ) (Cert.OutFwd.main (F := Bits))) ⟨m, fun _ => 0, g⟩ (fun r => (∀ c : Dev Cert.OutFwd.nD,
      r.2.mem ((c.tc : Thread Cert.OutFwd.nD Cert.OutFwd.τ).loc Cert.OutFwd.main_arg0) = m ((c.tc : Thread Cert.OutFwd.nD Cert.OutFwd.τ).loc Cert.OutFwd.main_arg0)
      ∧ r.2.mem ((c.tc : Thread Cert.OutFwd.nD Cert.OutFwd.τ).loc Cert.OutFwd.main_arg1) = m ((c.tc : Thread Cert.OutFwd.nD Cert.OutFwd.τ).loc Cert.OutFwd.main_arg1)
      ∧ r.2.mem ((c.tc : Thread Cert.OutFwd.nD Cert.OutFwd.τ).loc Cert.OutFwd.main_arg2) = m ((c.tc : Thread Cert.OutFwd.nD Cert.OutFwd.τ).loc Cert.OutFwd.main_arg2)
      ∧ r.2.mem ((c.tc : Thread Cert.OutFwd.nD Cert.OutFwd.τ).loc Cert.OutFwd.main_arg3) = m ((c.tc : Thread Cert.OutFwd.nD Cert.OutFwd.τ).loc Cert.OutFwd.main_arg3))
      ∧ r.2.sem = fun _ => 0)

def quiescent_OutFwdIdeal [hOutFwdIdeal : Cert.OutFwdIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg), Pre_OutFwdIdeal m →
    θ_run (Cert.OutFwdIdeal.defs (F := Ideal)) (onTc (τ := Cert.OutFwdIdeal.τ) (Cert.OutFwdIdeal.main (F := Ideal))) ⟨m, fun _ => 0, g⟩ (fun r => (∀ c : Dev Cert.OutFwdIdeal.nD,
      r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
      ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
      ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
      ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3))
      ∧ r.2.sem = fun _ => 0)

def quiescent_OutFwdRefIdeal [hOutFwdRefIdeal : Cert.OutFwdRefIdeal.Facts] : Prop :=
  ∀ (m : (ℓ : Loc Cert.OutFwdRefIdeal.nD Cert.OutFwdRefIdeal.τ Cert.OutFwdRefIdeal.sig) → Buf (Elt Ideal) ℓ) (g : Dev Cert.OutFwdRefIdeal.nD → PrngReg), Pre_OutFwdRefIdeal m →
    θ_run (Cert.OutFwdRefIdeal.defs (F := Ideal)) (onTc (τ := Cert.OutFwdRefIdeal.τ) (Cert.OutFwdRefIdeal.main (F := Ideal))) ⟨m, fun _ => 0, g⟩ (fun r => (∀ c : Dev Cert.OutFwdRefIdeal.nD,
      r.2.mem ((c.tc : Thread Cert.OutFwdRefIdeal.nD Cert.OutFwdRefIdeal.τ).loc Cert.OutFwdRefIdeal.main_arg0) = m ((c.tc : Thread Cert.OutFwdRefIdeal.nD Cert.OutFwdRefIdeal.τ).loc Cert.OutFwdRefIdeal.main_arg0)
      ∧ r.2.mem ((c.tc : Thread Cert.OutFwdRefIdeal.nD Cert.OutFwdRefIdeal.τ).loc Cert.OutFwdRefIdeal.main_arg1) = m ((c.tc : Thread Cert.OutFwdRefIdeal.nD Cert.OutFwdRefIdeal.τ).loc Cert.OutFwdRefIdeal.main_arg1)
      ∧ r.2.mem ((c.tc : Thread Cert.OutFwdRefIdeal.nD Cert.OutFwdRefIdeal.τ).loc Cert.OutFwdRefIdeal.main_arg2) = m ((c.tc : Thread Cert.OutFwdRefIdeal.nD Cert.OutFwdRefIdeal.τ).loc Cert.OutFwdRefIdeal.main_arg2)
      ∧ r.2.mem ((c.tc : Thread Cert.OutFwdRefIdeal.nD Cert.OutFwdRefIdeal.τ).loc Cert.OutFwdRefIdeal.main_arg3) = m ((c.tc : Thread Cert.OutFwdRefIdeal.nD Cert.OutFwdRefIdeal.τ).loc Cert.OutFwdRefIdeal.main_arg3))
      ∧ r.2.sem = fun _ => 0)

def quiescent_Ff1Fwd [hFf1Fwd : Cert.Ff1Fwd.Facts] : Prop :=
  ∀ (m : (ℓ : Loc Cert.Ff1Fwd.nD Cert.Ff1Fwd.τ Cert.Ff1Fwd.sig) → Buf (Elt Bits) ℓ) (g : Dev Cert.Ff1Fwd.nD → PrngReg), Pre_Ff1Fwd m →
    θ_run (Cert.Ff1Fwd.defs (F := Bits)) (onTc (τ := Cert.Ff1Fwd.τ) (Cert.Ff1Fwd.main (F := Bits))) ⟨m, fun _ => 0, g⟩ (fun r => (∀ c : Dev Cert.Ff1Fwd.nD,
      r.2.mem ((c.tc : Thread Cert.Ff1Fwd.nD Cert.Ff1Fwd.τ).loc Cert.Ff1Fwd.main_arg0) = m ((c.tc : Thread Cert.Ff1Fwd.nD Cert.Ff1Fwd.τ).loc Cert.Ff1Fwd.main_arg0)
      ∧ r.2.mem ((c.tc : Thread Cert.Ff1Fwd.nD Cert.Ff1Fwd.τ).loc Cert.Ff1Fwd.main_arg1) = m ((c.tc : Thread Cert.Ff1Fwd.nD Cert.Ff1Fwd.τ).loc Cert.Ff1Fwd.main_arg1))
      ∧ r.2.sem = fun _ => 0)

def quiescent_Ff1FwdIdeal [hFf1FwdIdeal : Cert.Ff1FwdIdeal.Facts] : Prop :=
  ∀ (m : (ℓ : Loc Cert.Ff1FwdIdeal.nD Cert.Ff1FwdIdeal.τ Cert.Ff1FwdIdeal.sig) → Buf (Elt Ideal) ℓ) (g : Dev Cert.Ff1FwdIdeal.nD → PrngReg), Pre_Ff1FwdIdeal m →
    θ_run (Cert.Ff1FwdIdeal.defs (F := Ideal)) (onTc (τ := Cert.Ff1FwdIdeal.τ) (Cert.Ff1FwdIdeal.main (F := Ideal))) ⟨m, fun _ => 0, g⟩ (fun r => (∀ c : Dev Cert.Ff1FwdIdeal.nD,
      r.2.mem ((c.tc : Thread Cert.Ff1FwdIdeal.nD Cert.Ff1FwdIdeal.τ).loc Cert.Ff1FwdIdeal.main_arg0) = m ((c.tc : Thread Cert.Ff1FwdIdeal.nD Cert.Ff1FwdIdeal.τ).loc Cert.Ff1FwdIdeal.main_arg0)
      ∧ r.2.mem ((c.tc : Thread Cert.Ff1FwdIdeal.nD Cert.Ff1FwdIdeal.τ).loc Cert.Ff1FwdIdeal.main_arg1) = m ((c.tc : Thread Cert.Ff1FwdIdeal.nD Cert.Ff1FwdIdeal.τ).loc Cert.Ff1FwdIdeal.main_arg1))
      ∧ r.2.sem = fun _ => 0)

def quiescent_Ff1FwdRefIdeal [hFf1FwdRefIdeal : Cert.Ff1FwdRefIdeal.Facts] : Prop :=
  ∀ (m : (ℓ : Loc Cert.Ff1FwdRefIdeal.nD Cert.Ff1FwdRefIdeal.τ Cert.Ff1FwdRefIdeal.sig) → Buf (Elt Ideal) ℓ) (g : Dev Cert.Ff1FwdRefIdeal.nD → PrngReg), Pre_Ff1FwdRefIdeal m →
    θ_run (Cert.Ff1FwdRefIdeal.defs (F := Ideal)) (onTc (τ := Cert.Ff1FwdRefIdeal.τ) (Cert.Ff1FwdRefIdeal.main (F := Ideal))) ⟨m, fun _ => 0, g⟩ (fun r => (∀ c : Dev Cert.Ff1FwdRefIdeal.nD,
      r.2.mem ((c.tc : Thread Cert.Ff1FwdRefIdeal.nD Cert.Ff1FwdRefIdeal.τ).loc Cert.Ff1FwdRefIdeal.main_arg0) = m ((c.tc : Thread Cert.Ff1FwdRefIdeal.nD Cert.Ff1FwdRefIdeal.τ).loc Cert.Ff1FwdRefIdeal.main_arg0)
      ∧ r.2.mem ((c.tc : Thread Cert.Ff1FwdRefIdeal.nD Cert.Ff1FwdRefIdeal.τ).loc Cert.Ff1FwdRefIdeal.main_arg1) = m ((c.tc : Thread Cert.Ff1FwdRefIdeal.nD Cert.Ff1FwdRefIdeal.τ).loc Cert.Ff1FwdRefIdeal.main_arg1))
      ∧ r.2.sem = fun _ => 0)

def quiescent_Ff2Fwd [hFf2Fwd : Cert.Ff2Fwd.Facts] : Prop :=
  ∀ (m : (ℓ : Loc Cert.Ff2Fwd.nD Cert.Ff2Fwd.τ Cert.Ff2Fwd.sig) → Buf (Elt Bits) ℓ) (g : Dev Cert.Ff2Fwd.nD → PrngReg), Pre_Ff2Fwd m →
    θ_run (Cert.Ff2Fwd.defs (F := Bits)) (onTc (τ := Cert.Ff2Fwd.τ) (Cert.Ff2Fwd.main (F := Bits))) ⟨m, fun _ => 0, g⟩ (fun r => (∀ c : Dev Cert.Ff2Fwd.nD,
      r.2.mem ((c.tc : Thread Cert.Ff2Fwd.nD Cert.Ff2Fwd.τ).loc Cert.Ff2Fwd.main_arg0) = m ((c.tc : Thread Cert.Ff2Fwd.nD Cert.Ff2Fwd.τ).loc Cert.Ff2Fwd.main_arg0)
      ∧ r.2.mem ((c.tc : Thread Cert.Ff2Fwd.nD Cert.Ff2Fwd.τ).loc Cert.Ff2Fwd.main_arg1) = m ((c.tc : Thread Cert.Ff2Fwd.nD Cert.Ff2Fwd.τ).loc Cert.Ff2Fwd.main_arg1)
      ∧ r.2.mem ((c.tc : Thread Cert.Ff2Fwd.nD Cert.Ff2Fwd.τ).loc Cert.Ff2Fwd.main_arg2) = m ((c.tc : Thread Cert.Ff2Fwd.nD Cert.Ff2Fwd.τ).loc Cert.Ff2Fwd.main_arg2)
      ∧ r.2.mem ((c.tc : Thread Cert.Ff2Fwd.nD Cert.Ff2Fwd.τ).loc Cert.Ff2Fwd.main_arg3) = m ((c.tc : Thread Cert.Ff2Fwd.nD Cert.Ff2Fwd.τ).loc Cert.Ff2Fwd.main_arg3))
      ∧ r.2.sem = fun _ => 0)

def quiescent_Ff2FwdIdeal [hFf2FwdIdeal : Cert.Ff2FwdIdeal.Facts] : Prop :=
  ∀ (m : (ℓ : Loc Cert.Ff2FwdIdeal.nD Cert.Ff2FwdIdeal.τ Cert.Ff2FwdIdeal.sig) → Buf (Elt Ideal) ℓ) (g : Dev Cert.Ff2FwdIdeal.nD → PrngReg), Pre_Ff2FwdIdeal m →
    θ_run (Cert.Ff2FwdIdeal.defs (F := Ideal)) (onTc (τ := Cert.Ff2FwdIdeal.τ) (Cert.Ff2FwdIdeal.main (F := Ideal))) ⟨m, fun _ => 0, g⟩ (fun r => (∀ c : Dev Cert.Ff2FwdIdeal.nD,
      r.2.mem ((c.tc : Thread Cert.Ff2FwdIdeal.nD Cert.Ff2FwdIdeal.τ).loc Cert.Ff2FwdIdeal.main_arg0) = m ((c.tc : Thread Cert.Ff2FwdIdeal.nD Cert.Ff2FwdIdeal.τ).loc Cert.Ff2FwdIdeal.main_arg0)
      ∧ r.2.mem ((c.tc : Thread Cert.Ff2FwdIdeal.nD Cert.Ff2FwdIdeal.τ).loc Cert.Ff2FwdIdeal.main_arg1) = m ((c.tc : Thread Cert.Ff2FwdIdeal.nD Cert.Ff2FwdIdeal.τ).loc Cert.Ff2FwdIdeal.main_arg1)
      ∧ r.2.mem ((c.tc : Thread Cert.Ff2FwdIdeal.nD Cert.Ff2FwdIdeal.τ).loc Cert.Ff2FwdIdeal.main_arg2) = m ((c.tc : Thread Cert.Ff2FwdIdeal.nD Cert.Ff2FwdIdeal.τ).loc Cert.Ff2FwdIdeal.main_arg2)
      ∧ r.2.mem ((c.tc : Thread Cert.Ff2FwdIdeal.nD Cert.Ff2FwdIdeal.τ).loc Cert.Ff2FwdIdeal.main_arg3) = m ((c.tc : Thread Cert.Ff2FwdIdeal.nD Cert.Ff2FwdIdeal.τ).loc Cert.Ff2FwdIdeal.main_arg3))
      ∧ r.2.sem = fun _ => 0)

def quiescent_Ff2FwdRefIdeal [hFf2FwdRefIdeal : Cert.Ff2FwdRefIdeal.Facts] : Prop :=
  ∀ (m : (ℓ : Loc Cert.Ff2FwdRefIdeal.nD Cert.Ff2FwdRefIdeal.τ Cert.Ff2FwdRefIdeal.sig) → Buf (Elt Ideal) ℓ) (g : Dev Cert.Ff2FwdRefIdeal.nD → PrngReg), Pre_Ff2FwdRefIdeal m →
    θ_run (Cert.Ff2FwdRefIdeal.defs (F := Ideal)) (onTc (τ := Cert.Ff2FwdRefIdeal.τ) (Cert.Ff2FwdRefIdeal.main (F := Ideal))) ⟨m, fun _ => 0, g⟩ (fun r => (∀ c : Dev Cert.Ff2FwdRefIdeal.nD,
      r.2.mem ((c.tc : Thread Cert.Ff2FwdRefIdeal.nD Cert.Ff2FwdRefIdeal.τ).loc Cert.Ff2FwdRefIdeal.main_arg0) = m ((c.tc : Thread Cert.Ff2FwdRefIdeal.nD Cert.Ff2FwdRefIdeal.τ).loc Cert.Ff2FwdRefIdeal.main_arg0)
      ∧ r.2.mem ((c.tc : Thread Cert.Ff2FwdRefIdeal.nD Cert.Ff2FwdRefIdeal.τ).loc Cert.Ff2FwdRefIdeal.main_arg1) = m ((c.tc : Thread Cert.Ff2FwdRefIdeal.nD Cert.Ff2FwdRefIdeal.τ).loc Cert.Ff2FwdRefIdeal.main_arg1)
      ∧ r.2.mem ((c.tc : Thread Cert.Ff2FwdRefIdeal.nD Cert.Ff2FwdRefIdeal.τ).loc Cert.Ff2FwdRefIdeal.main_arg2) = m ((c.tc : Thread Cert.Ff2FwdRefIdeal.nD Cert.Ff2FwdRefIdeal.τ).loc Cert.Ff2FwdRefIdeal.main_arg2)
      ∧ r.2.mem ((c.tc : Thread Cert.Ff2FwdRefIdeal.nD Cert.Ff2FwdRefIdeal.τ).loc Cert.Ff2FwdRefIdeal.main_arg3) = m ((c.tc : Thread Cert.Ff2FwdRefIdeal.nD Cert.Ff2FwdRefIdeal.τ).loc Cert.Ff2FwdRefIdeal.main_arg3))
      ∧ r.2.sem = fun _ => 0)

def quiescent_AdamFf [hAdamFf : Cert.AdamFf.Facts] : Prop :=
  ∀ (m : (ℓ : Loc Cert.AdamFf.nD Cert.AdamFf.τ Cert.AdamFf.sig) → Buf (Elt Bits) ℓ) (g : Dev Cert.AdamFf.nD → PrngReg), Pre_AdamFf m →
    θ_run (Cert.AdamFf.defs (F := Bits)) (onTc (τ := Cert.AdamFf.τ) (Cert.AdamFf.main (F := Bits))) ⟨m, fun _ => 0, g⟩ (fun r => (∀ c : Dev Cert.AdamFf.nD,
      r.2.mem ((c.tc : Thread Cert.AdamFf.nD Cert.AdamFf.τ).loc Cert.AdamFf.main_arg0) = m ((c.tc : Thread Cert.AdamFf.nD Cert.AdamFf.τ).loc Cert.AdamFf.main_arg0)
      ∧ r.2.mem ((c.tc : Thread Cert.AdamFf.nD Cert.AdamFf.τ).loc Cert.AdamFf.main_arg1) = m ((c.tc : Thread Cert.AdamFf.nD Cert.AdamFf.τ).loc Cert.AdamFf.main_arg1)
      ∧ r.2.mem ((c.tc : Thread Cert.AdamFf.nD Cert.AdamFf.τ).loc Cert.AdamFf.main_arg2) = m ((c.tc : Thread Cert.AdamFf.nD Cert.AdamFf.τ).loc Cert.AdamFf.main_arg2)
      ∧ r.2.mem ((c.tc : Thread Cert.AdamFf.nD Cert.AdamFf.τ).loc Cert.AdamFf.main_arg3) = m ((c.tc : Thread Cert.AdamFf.nD Cert.AdamFf.τ).loc Cert.AdamFf.main_arg3)
      ∧ r.2.mem ((c.tc : Thread Cert.AdamFf.nD Cert.AdamFf.τ).loc Cert.AdamFf.main_arg4) = m ((c.tc : Thread Cert.AdamFf.nD Cert.AdamFf.τ).loc Cert.AdamFf.main_arg4)
      ∧ r.2.mem ((c.tc : Thread Cert.AdamFf.nD Cert.AdamFf.τ).loc Cert.AdamFf.main_arg5) = m ((c.tc : Thread Cert.AdamFf.nD Cert.AdamFf.τ).loc Cert.AdamFf.main_arg5)
      ∧ r.2.mem ((c.tc : Thread Cert.AdamFf.nD Cert.AdamFf.τ).loc Cert.AdamFf.main_arg6) = m ((c.tc : Thread Cert.AdamFf.nD Cert.AdamFf.τ).loc Cert.AdamFf.main_arg6))
      ∧ r.2.sem = fun _ => 0)

def quiescent_AdamFfIdeal [hAdamFfIdeal : Cert.AdamFfIdeal.Facts] : Prop :=
  ∀ (m : (ℓ : Loc Cert.AdamFfIdeal.nD Cert.AdamFfIdeal.τ Cert.AdamFfIdeal.sig) → Buf (Elt Ideal) ℓ) (g : Dev Cert.AdamFfIdeal.nD → PrngReg), Pre_AdamFfIdeal m →
    θ_run (Cert.AdamFfIdeal.defs (F := Ideal)) (onTc (τ := Cert.AdamFfIdeal.τ) (Cert.AdamFfIdeal.main (F := Ideal))) ⟨m, fun _ => 0, g⟩ (fun r => (∀ c : Dev Cert.AdamFfIdeal.nD,
      r.2.mem ((c.tc : Thread Cert.AdamFfIdeal.nD Cert.AdamFfIdeal.τ).loc Cert.AdamFfIdeal.main_arg0) = m ((c.tc : Thread Cert.AdamFfIdeal.nD Cert.AdamFfIdeal.τ).loc Cert.AdamFfIdeal.main_arg0)
      ∧ r.2.mem ((c.tc : Thread Cert.AdamFfIdeal.nD Cert.AdamFfIdeal.τ).loc Cert.AdamFfIdeal.main_arg1) = m ((c.tc : Thread Cert.AdamFfIdeal.nD Cert.AdamFfIdeal.τ).loc Cert.AdamFfIdeal.main_arg1)
      ∧ r.2.mem ((c.tc : Thread Cert.AdamFfIdeal.nD Cert.AdamFfIdeal.τ).loc Cert.AdamFfIdeal.main_arg2) = m ((c.tc : Thread Cert.AdamFfIdeal.nD Cert.AdamFfIdeal.τ).loc Cert.AdamFfIdeal.main_arg2)
      ∧ r.2.mem ((c.tc : Thread Cert.AdamFfIdeal.nD Cert.AdamFfIdeal.τ).loc Cert.AdamFfIdeal.main_arg3) = m ((c.tc : Thread Cert.AdamFfIdeal.nD Cert.AdamFfIdeal.τ).loc Cert.AdamFfIdeal.main_arg3)
      ∧ r.2.mem ((c.tc : Thread Cert.AdamFfIdeal.nD Cert.AdamFfIdeal.τ).loc Cert.AdamFfIdeal.main_arg4) = m ((c.tc : Thread Cert.AdamFfIdeal.nD Cert.AdamFfIdeal.τ).loc Cert.AdamFfIdeal.main_arg4)
      ∧ r.2.mem ((c.tc : Thread Cert.AdamFfIdeal.nD Cert.AdamFfIdeal.τ).loc Cert.AdamFfIdeal.main_arg5) = m ((c.tc : Thread Cert.AdamFfIdeal.nD Cert.AdamFfIdeal.τ).loc Cert.AdamFfIdeal.main_arg5)
      ∧ r.2.mem ((c.tc : Thread Cert.AdamFfIdeal.nD Cert.AdamFfIdeal.τ).loc Cert.AdamFfIdeal.main_arg6) = m ((c.tc : Thread Cert.AdamFfIdeal.nD Cert.AdamFfIdeal.τ).loc Cert.AdamFfIdeal.main_arg6))
      ∧ r.2.sem = fun _ => 0)

def quiescent_AdamFfRefIdeal [hAdamFfRefIdeal : Cert.AdamFfRefIdeal.Facts] : Prop :=
  ∀ (m : (ℓ : Loc Cert.AdamFfRefIdeal.nD Cert.AdamFfRefIdeal.τ Cert.AdamFfRefIdeal.sig) → Buf (Elt Ideal) ℓ) (g : Dev Cert.AdamFfRefIdeal.nD → PrngReg), Pre_AdamFfRefIdeal m →
    θ_run (Cert.AdamFfRefIdeal.defs (F := Ideal)) (onTc (τ := Cert.AdamFfRefIdeal.τ) (Cert.AdamFfRefIdeal.main (F := Ideal))) ⟨m, fun _ => 0, g⟩ (fun r => (∀ c : Dev Cert.AdamFfRefIdeal.nD,
      r.2.mem ((c.tc : Thread Cert.AdamFfRefIdeal.nD Cert.AdamFfRefIdeal.τ).loc Cert.AdamFfRefIdeal.main_arg0) = m ((c.tc : Thread Cert.AdamFfRefIdeal.nD Cert.AdamFfRefIdeal.τ).loc Cert.AdamFfRefIdeal.main_arg0)
      ∧ r.2.mem ((c.tc : Thread Cert.AdamFfRefIdeal.nD Cert.AdamFfRefIdeal.τ).loc Cert.AdamFfRefIdeal.main_arg1) = m ((c.tc : Thread Cert.AdamFfRefIdeal.nD Cert.AdamFfRefIdeal.τ).loc Cert.AdamFfRefIdeal.main_arg1)
      ∧ r.2.mem ((c.tc : Thread Cert.AdamFfRefIdeal.nD Cert.AdamFfRefIdeal.τ).loc Cert.AdamFfRefIdeal.main_arg2) = m ((c.tc : Thread Cert.AdamFfRefIdeal.nD Cert.AdamFfRefIdeal.τ).loc Cert.AdamFfRefIdeal.main_arg2)
      ∧ r.2.mem ((c.tc : Thread Cert.AdamFfRefIdeal.nD Cert.AdamFfRefIdeal.τ).loc Cert.AdamFfRefIdeal.main_arg3) = m ((c.tc : Thread Cert.AdamFfRefIdeal.nD Cert.AdamFfRefIdeal.τ).loc Cert.AdamFfRefIdeal.main_arg3)
      ∧ r.2.mem ((c.tc : Thread Cert.AdamFfRefIdeal.nD Cert.AdamFfRefIdeal.τ).loc Cert.AdamFfRefIdeal.main_arg4) = m ((c.tc : Thread Cert.AdamFfRefIdeal.nD Cert.AdamFfRefIdeal.τ).loc Cert.AdamFfRefIdeal.main_arg4)
      ∧ r.2.mem ((c.tc : Thread Cert.AdamFfRefIdeal.nD Cert.AdamFfRefIdeal.τ).loc Cert.AdamFfRefIdeal.main_arg5) = m ((c.tc : Thread Cert.AdamFfRefIdeal.nD Cert.AdamFfRefIdeal.τ).loc Cert.AdamFfRefIdeal.main_arg5)
      ∧ r.2.mem ((c.tc : Thread Cert.AdamFfRefIdeal.nD Cert.AdamFfRefIdeal.τ).loc Cert.AdamFfRefIdeal.main_arg6) = m ((c.tc : Thread Cert.AdamFfRefIdeal.nD Cert.AdamFfRefIdeal.τ).loc Cert.AdamFfRefIdeal.main_arg6))
      ∧ r.2.sem = fun _ => 0)

def quiescent_AdamO [hAdamO : Cert.AdamO.Facts] : Prop :=
  ∀ (m : (ℓ : Loc Cert.AdamO.nD Cert.AdamO.τ Cert.AdamO.sig) → Buf (Elt Bits) ℓ) (g : Dev Cert.AdamO.nD → PrngReg), Pre_AdamO m →
    θ_run (Cert.AdamO.defs (F := Bits)) (onTc (τ := Cert.AdamO.τ) (Cert.AdamO.main (F := Bits))) ⟨m, fun _ => 0, g⟩ (fun r => (∀ c : Dev Cert.AdamO.nD,
      r.2.mem ((c.tc : Thread Cert.AdamO.nD Cert.AdamO.τ).loc Cert.AdamO.main_arg0) = m ((c.tc : Thread Cert.AdamO.nD Cert.AdamO.τ).loc Cert.AdamO.main_arg0)
      ∧ r.2.mem ((c.tc : Thread Cert.AdamO.nD Cert.AdamO.τ).loc Cert.AdamO.main_arg1) = m ((c.tc : Thread Cert.AdamO.nD Cert.AdamO.τ).loc Cert.AdamO.main_arg1)
      ∧ r.2.mem ((c.tc : Thread Cert.AdamO.nD Cert.AdamO.τ).loc Cert.AdamO.main_arg2) = m ((c.tc : Thread Cert.AdamO.nD Cert.AdamO.τ).loc Cert.AdamO.main_arg2)
      ∧ r.2.mem ((c.tc : Thread Cert.AdamO.nD Cert.AdamO.τ).loc Cert.AdamO.main_arg3) = m ((c.tc : Thread Cert.AdamO.nD Cert.AdamO.τ).loc Cert.AdamO.main_arg3)
      ∧ r.2.mem ((c.tc : Thread Cert.AdamO.nD Cert.AdamO.τ).loc Cert.AdamO.main_arg4) = m ((c.tc : Thread Cert.AdamO.nD Cert.AdamO.τ).loc Cert.AdamO.main_arg4)
      ∧ r.2.mem ((c.tc : Thread Cert.AdamO.nD Cert.AdamO.τ).loc Cert.AdamO.main_arg5) = m ((c.tc : Thread Cert.AdamO.nD Cert.AdamO.τ).loc Cert.AdamO.main_arg5)
      ∧ r.2.mem ((c.tc : Thread Cert.AdamO.nD Cert.AdamO.τ).loc Cert.AdamO.main_arg6) = m ((c.tc : Thread Cert.AdamO.nD Cert.AdamO.τ).loc Cert.AdamO.main_arg6))
      ∧ r.2.sem = fun _ => 0)

def quiescent_AdamOIdeal [hAdamOIdeal : Cert.AdamOIdeal.Facts] : Prop :=
  ∀ (m : (ℓ : Loc Cert.AdamOIdeal.nD Cert.AdamOIdeal.τ Cert.AdamOIdeal.sig) → Buf (Elt Ideal) ℓ) (g : Dev Cert.AdamOIdeal.nD → PrngReg), Pre_AdamOIdeal m →
    θ_run (Cert.AdamOIdeal.defs (F := Ideal)) (onTc (τ := Cert.AdamOIdeal.τ) (Cert.AdamOIdeal.main (F := Ideal))) ⟨m, fun _ => 0, g⟩ (fun r => (∀ c : Dev Cert.AdamOIdeal.nD,
      r.2.mem ((c.tc : Thread Cert.AdamOIdeal.nD Cert.AdamOIdeal.τ).loc Cert.AdamOIdeal.main_arg0) = m ((c.tc : Thread Cert.AdamOIdeal.nD Cert.AdamOIdeal.τ).loc Cert.AdamOIdeal.main_arg0)
      ∧ r.2.mem ((c.tc : Thread Cert.AdamOIdeal.nD Cert.AdamOIdeal.τ).loc Cert.AdamOIdeal.main_arg1) = m ((c.tc : Thread Cert.AdamOIdeal.nD Cert.AdamOIdeal.τ).loc Cert.AdamOIdeal.main_arg1)
      ∧ r.2.mem ((c.tc : Thread Cert.AdamOIdeal.nD Cert.AdamOIdeal.τ).loc Cert.AdamOIdeal.main_arg2) = m ((c.tc : Thread Cert.AdamOIdeal.nD Cert.AdamOIdeal.τ).loc Cert.AdamOIdeal.main_arg2)
      ∧ r.2.mem ((c.tc : Thread Cert.AdamOIdeal.nD Cert.AdamOIdeal.τ).loc Cert.AdamOIdeal.main_arg3) = m ((c.tc : Thread Cert.AdamOIdeal.nD Cert.AdamOIdeal.τ).loc Cert.AdamOIdeal.main_arg3)
      ∧ r.2.mem ((c.tc : Thread Cert.AdamOIdeal.nD Cert.AdamOIdeal.τ).loc Cert.AdamOIdeal.main_arg4) = m ((c.tc : Thread Cert.AdamOIdeal.nD Cert.AdamOIdeal.τ).loc Cert.AdamOIdeal.main_arg4)
      ∧ r.2.mem ((c.tc : Thread Cert.AdamOIdeal.nD Cert.AdamOIdeal.τ).loc Cert.AdamOIdeal.main_arg5) = m ((c.tc : Thread Cert.AdamOIdeal.nD Cert.AdamOIdeal.τ).loc Cert.AdamOIdeal.main_arg5)
      ∧ r.2.mem ((c.tc : Thread Cert.AdamOIdeal.nD Cert.AdamOIdeal.τ).loc Cert.AdamOIdeal.main_arg6) = m ((c.tc : Thread Cert.AdamOIdeal.nD Cert.AdamOIdeal.τ).loc Cert.AdamOIdeal.main_arg6))
      ∧ r.2.sem = fun _ => 0)

def quiescent_AdamORefIdeal [hAdamORefIdeal : Cert.AdamORefIdeal.Facts] : Prop :=
  ∀ (m : (ℓ : Loc Cert.AdamORefIdeal.nD Cert.AdamORefIdeal.τ Cert.AdamORefIdeal.sig) → Buf (Elt Ideal) ℓ) (g : Dev Cert.AdamORefIdeal.nD → PrngReg), Pre_AdamORefIdeal m →
    θ_run (Cert.AdamORefIdeal.defs (F := Ideal)) (onTc (τ := Cert.AdamORefIdeal.τ) (Cert.AdamORefIdeal.main (F := Ideal))) ⟨m, fun _ => 0, g⟩ (fun r => (∀ c : Dev Cert.AdamORefIdeal.nD,
      r.2.mem ((c.tc : Thread Cert.AdamORefIdeal.nD Cert.AdamORefIdeal.τ).loc Cert.AdamORefIdeal.main_arg0) = m ((c.tc : Thread Cert.AdamORefIdeal.nD Cert.AdamORefIdeal.τ).loc Cert.AdamORefIdeal.main_arg0)
      ∧ r.2.mem ((c.tc : Thread Cert.AdamORefIdeal.nD Cert.AdamORefIdeal.τ).loc Cert.AdamORefIdeal.main_arg1) = m ((c.tc : Thread Cert.AdamORefIdeal.nD Cert.AdamORefIdeal.τ).loc Cert.AdamORefIdeal.main_arg1)
      ∧ r.2.mem ((c.tc : Thread Cert.AdamORefIdeal.nD Cert.AdamORefIdeal.τ).loc Cert.AdamORefIdeal.main_arg2) = m ((c.tc : Thread Cert.AdamORefIdeal.nD Cert.AdamORefIdeal.τ).loc Cert.AdamORefIdeal.main_arg2)
      ∧ r.2.mem ((c.tc : Thread Cert.AdamORefIdeal.nD Cert.AdamORefIdeal.τ).loc Cert.AdamORefIdeal.main_arg3) = m ((c.tc : Thread Cert.AdamORefIdeal.nD Cert.AdamORefIdeal.τ).loc Cert.AdamORefIdeal.main_arg3)
      ∧ r.2.mem ((c.tc : Thread Cert.AdamORefIdeal.nD Cert.AdamORefIdeal.τ).loc Cert.AdamORefIdeal.main_arg4) = m ((c.tc : Thread Cert.AdamORefIdeal.nD Cert.AdamORefIdeal.τ).loc Cert.AdamORefIdeal.main_arg4)
      ∧ r.2.mem ((c.tc : Thread Cert.AdamORefIdeal.nD Cert.AdamORefIdeal.τ).loc Cert.AdamORefIdeal.main_arg5) = m ((c.tc : Thread Cert.AdamORefIdeal.nD Cert.AdamORefIdeal.τ).loc Cert.AdamORefIdeal.main_arg5)
      ∧ r.2.mem ((c.tc : Thread Cert.AdamORefIdeal.nD Cert.AdamORefIdeal.τ).loc Cert.AdamORefIdeal.main_arg6) = m ((c.tc : Thread Cert.AdamORefIdeal.nD Cert.AdamORefIdeal.τ).loc Cert.AdamORefIdeal.main_arg6))
      ∧ r.2.sem = fun _ => 0)

def quiescent_AdamBranch [hAdamBranch : Cert.AdamBranch.Facts] : Prop :=
  ∀ (m : (ℓ : Loc Cert.AdamBranch.nD Cert.AdamBranch.τ Cert.AdamBranch.sig) → Buf (Elt Bits) ℓ) (g : Dev Cert.AdamBranch.nD → PrngReg), Pre_AdamBranch m →
    θ_run (Cert.AdamBranch.defs (F := Bits)) (onTc (τ := Cert.AdamBranch.τ) (Cert.AdamBranch.main (F := Bits))) ⟨m, fun _ => 0, g⟩ (fun r => (∀ c : Dev Cert.AdamBranch.nD,
      r.2.mem ((c.tc : Thread Cert.AdamBranch.nD Cert.AdamBranch.τ).loc Cert.AdamBranch.main_arg0) = m ((c.tc : Thread Cert.AdamBranch.nD Cert.AdamBranch.τ).loc Cert.AdamBranch.main_arg0)
      ∧ r.2.mem ((c.tc : Thread Cert.AdamBranch.nD Cert.AdamBranch.τ).loc Cert.AdamBranch.main_arg1) = m ((c.tc : Thread Cert.AdamBranch.nD Cert.AdamBranch.τ).loc Cert.AdamBranch.main_arg1)
      ∧ r.2.mem ((c.tc : Thread Cert.AdamBranch.nD Cert.AdamBranch.τ).loc Cert.AdamBranch.main_arg2) = m ((c.tc : Thread Cert.AdamBranch.nD Cert.AdamBranch.τ).loc Cert.AdamBranch.main_arg2)
      ∧ r.2.mem ((c.tc : Thread Cert.AdamBranch.nD Cert.AdamBranch.τ).loc Cert.AdamBranch.main_arg3) = m ((c.tc : Thread Cert.AdamBranch.nD Cert.AdamBranch.τ).loc Cert.AdamBranch.main_arg3)
      ∧ r.2.mem ((c.tc : Thread Cert.AdamBranch.nD Cert.AdamBranch.τ).loc Cert.AdamBranch.main_arg4) = m ((c.tc : Thread Cert.AdamBranch.nD Cert.AdamBranch.τ).loc Cert.AdamBranch.main_arg4)
      ∧ r.2.mem ((c.tc : Thread Cert.AdamBranch.nD Cert.AdamBranch.τ).loc Cert.AdamBranch.main_arg5) = m ((c.tc : Thread Cert.AdamBranch.nD Cert.AdamBranch.τ).loc Cert.AdamBranch.main_arg5)
      ∧ r.2.mem ((c.tc : Thread Cert.AdamBranch.nD Cert.AdamBranch.τ).loc Cert.AdamBranch.main_arg6) = m ((c.tc : Thread Cert.AdamBranch.nD Cert.AdamBranch.τ).loc Cert.AdamBranch.main_arg6))
      ∧ r.2.sem = fun _ => 0)

def quiescent_AdamBranchIdeal [hAdamBranchIdeal : Cert.AdamBranchIdeal.Facts] : Prop :=
  ∀ (m : (ℓ : Loc Cert.AdamBranchIdeal.nD Cert.AdamBranchIdeal.τ Cert.AdamBranchIdeal.sig) → Buf (Elt Ideal) ℓ) (g : Dev Cert.AdamBranchIdeal.nD → PrngReg), Pre_AdamBranchIdeal m →
    θ_run (Cert.AdamBranchIdeal.defs (F := Ideal)) (onTc (τ := Cert.AdamBranchIdeal.τ) (Cert.AdamBranchIdeal.main (F := Ideal))) ⟨m, fun _ => 0, g⟩ (fun r => (∀ c : Dev Cert.AdamBranchIdeal.nD,
      r.2.mem ((c.tc : Thread Cert.AdamBranchIdeal.nD Cert.AdamBranchIdeal.τ).loc Cert.AdamBranchIdeal.main_arg0) = m ((c.tc : Thread Cert.AdamBranchIdeal.nD Cert.AdamBranchIdeal.τ).loc Cert.AdamBranchIdeal.main_arg0)
      ∧ r.2.mem ((c.tc : Thread Cert.AdamBranchIdeal.nD Cert.AdamBranchIdeal.τ).loc Cert.AdamBranchIdeal.main_arg1) = m ((c.tc : Thread Cert.AdamBranchIdeal.nD Cert.AdamBranchIdeal.τ).loc Cert.AdamBranchIdeal.main_arg1)
      ∧ r.2.mem ((c.tc : Thread Cert.AdamBranchIdeal.nD Cert.AdamBranchIdeal.τ).loc Cert.AdamBranchIdeal.main_arg2) = m ((c.tc : Thread Cert.AdamBranchIdeal.nD Cert.AdamBranchIdeal.τ).loc Cert.AdamBranchIdeal.main_arg2)
      ∧ r.2.mem ((c.tc : Thread Cert.AdamBranchIdeal.nD Cert.AdamBranchIdeal.τ).loc Cert.AdamBranchIdeal.main_arg3) = m ((c.tc : Thread Cert.AdamBranchIdeal.nD Cert.AdamBranchIdeal.τ).loc Cert.AdamBranchIdeal.main_arg3)
      ∧ r.2.mem ((c.tc : Thread Cert.AdamBranchIdeal.nD Cert.AdamBranchIdeal.τ).loc Cert.AdamBranchIdeal.main_arg4) = m ((c.tc : Thread Cert.AdamBranchIdeal.nD Cert.AdamBranchIdeal.τ).loc Cert.AdamBranchIdeal.main_arg4)
      ∧ r.2.mem ((c.tc : Thread Cert.AdamBranchIdeal.nD Cert.AdamBranchIdeal.τ).loc Cert.AdamBranchIdeal.main_arg5) = m ((c.tc : Thread Cert.AdamBranchIdeal.nD Cert.AdamBranchIdeal.τ).loc Cert.AdamBranchIdeal.main_arg5)
      ∧ r.2.mem ((c.tc : Thread Cert.AdamBranchIdeal.nD Cert.AdamBranchIdeal.τ).loc Cert.AdamBranchIdeal.main_arg6) = m ((c.tc : Thread Cert.AdamBranchIdeal.nD Cert.AdamBranchIdeal.τ).loc Cert.AdamBranchIdeal.main_arg6))
      ∧ r.2.sem = fun _ => 0)

def quiescent_AdamBranchRefIdeal [hAdamBranchRefIdeal : Cert.AdamBranchRefIdeal.Facts] : Prop :=
  ∀ (m : (ℓ : Loc Cert.AdamBranchRefIdeal.nD Cert.AdamBranchRefIdeal.τ Cert.AdamBranchRefIdeal.sig) → Buf (Elt Ideal) ℓ) (g : Dev Cert.AdamBranchRefIdeal.nD → PrngReg), Pre_AdamBranchRefIdeal m →
    θ_run (Cert.AdamBranchRefIdeal.defs (F := Ideal)) (onTc (τ := Cert.AdamBranchRefIdeal.τ) (Cert.AdamBranchRefIdeal.main (F := Ideal))) ⟨m, fun _ => 0, g⟩ (fun r => (∀ c : Dev Cert.AdamBranchRefIdeal.nD,
      r.2.mem ((c.tc : Thread Cert.AdamBranchRefIdeal.nD Cert.AdamBranchRefIdeal.τ).loc Cert.AdamBranchRefIdeal.main_arg0) = m ((c.tc : Thread Cert.AdamBranchRefIdeal.nD Cert.AdamBranchRefIdeal.τ).loc Cert.AdamBranchRefIdeal.main_arg0)
      ∧ r.2.mem ((c.tc : Thread Cert.AdamBranchRefIdeal.nD Cert.AdamBranchRefIdeal.τ).loc Cert.AdamBranchRefIdeal.main_arg1) = m ((c.tc : Thread Cert.AdamBranchRefIdeal.nD Cert.AdamBranchRefIdeal.τ).loc Cert.AdamBranchRefIdeal.main_arg1)
      ∧ r.2.mem ((c.tc : Thread Cert.AdamBranchRefIdeal.nD Cert.AdamBranchRefIdeal.τ).loc Cert.AdamBranchRefIdeal.main_arg2) = m ((c.tc : Thread Cert.AdamBranchRefIdeal.nD Cert.AdamBranchRefIdeal.τ).loc Cert.AdamBranchRefIdeal.main_arg2)
      ∧ r.2.mem ((c.tc : Thread Cert.AdamBranchRefIdeal.nD Cert.AdamBranchRefIdeal.τ).loc Cert.AdamBranchRefIdeal.main_arg3) = m ((c.tc : Thread Cert.AdamBranchRefIdeal.nD Cert.AdamBranchRefIdeal.τ).loc Cert.AdamBranchRefIdeal.main_arg3)
      ∧ r.2.mem ((c.tc : Thread Cert.AdamBranchRefIdeal.nD Cert.AdamBranchRefIdeal.τ).loc Cert.AdamBranchRefIdeal.main_arg4) = m ((c.tc : Thread Cert.AdamBranchRefIdeal.nD Cert.AdamBranchRefIdeal.τ).loc Cert.AdamBranchRefIdeal.main_arg4)
      ∧ r.2.mem ((c.tc : Thread Cert.AdamBranchRefIdeal.nD Cert.AdamBranchRefIdeal.τ).loc Cert.AdamBranchRefIdeal.main_arg5) = m ((c.tc : Thread Cert.AdamBranchRefIdeal.nD Cert.AdamBranchRefIdeal.τ).loc Cert.AdamBranchRefIdeal.main_arg5)
      ∧ r.2.mem ((c.tc : Thread Cert.AdamBranchRefIdeal.nD Cert.AdamBranchRefIdeal.τ).loc Cert.AdamBranchRefIdeal.main_arg6) = m ((c.tc : Thread Cert.AdamBranchRefIdeal.nD Cert.AdamBranchRefIdeal.τ).loc Cert.AdamBranchRefIdeal.main_arg6))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3)
      ∧ r.2.mem ((c.tc : Thread Cert.AdamSmall.nD Cert.AdamSmall.τ).loc Cert.AdamSmall.main_arg4) = m ((c.tc : Thread Cert.AdamSmall.nD Cert.AdamSmall.τ).loc Cert.AdamSmall.main_arg4)
      ∧ r.2.mem ((c.tc : Thread Cert.AdamSmall.nD Cert.AdamSmall.τ).loc Cert.AdamSmall.main_arg5) = m ((c.tc : Thread Cert.AdamSmall.nD Cert.AdamSmall.τ).loc Cert.AdamSmall.main_arg5)
      ∧ r.2.mem ((c.tc : Thread Cert.AdamSmall.nD Cert.AdamSmall.τ).loc Cert.AdamSmall.main_arg6) = m ((c.tc : Thread Cert.AdamSmall.nD Cert.AdamSmall.τ).loc Cert.AdamSmall.main_arg6)
      ∧ r.2.mem ((c.tc : Thread Cert.AdamSmall.nD Cert.AdamSmall.τ).loc Cert.AdamSmall.main_arg7) = m ((c.tc : Thread Cert.AdamSmall.nD Cert.AdamSmall.τ).loc Cert.AdamSmall.main_arg7)
      ∧ r.2.mem ((c.tc : Thread Cert.AdamSmall.nD Cert.AdamSmall.τ).loc Cert.AdamSmall.main_arg8) = m ((c.tc : Thread Cert.AdamSmall.nD Cert.AdamSmall.τ).loc Cert.AdamSmall.main_arg8)
      ∧ r.2.mem ((c.tc : Thread Cert.AdamSmall.nD Cert.AdamSmall.τ).loc Cert.AdamSmall.main_arg9) = m ((c.tc : Thread Cert.AdamSmall.nD Cert.AdamSmall.τ).loc Cert.AdamSmall.main_arg9)
      ∧ r.2.mem ((c.tc : Thread Cert.AdamSmall.nD Cert.AdamSmall.τ).loc Cert.AdamSmall.main_arg10) = m ((c.tc : Thread Cert.AdamSmall.nD Cert.AdamSmall.τ).loc Cert.AdamSmall.main_arg10)
      ∧ r.2.mem ((c.tc : Thread Cert.AdamSmall.nD Cert.AdamSmall.τ).loc Cert.AdamSmall.main_arg11) = m ((c.tc : Thread Cert.AdamSmall.nD Cert.AdamSmall.τ).loc Cert.AdamSmall.main_arg11)
      ∧ r.2.mem ((c.tc : Thread Cert.AdamSmall.nD Cert.AdamSmall.τ).loc Cert.AdamSmall.main_arg12) = m ((c.tc : Thread Cert.AdamSmall.nD Cert.AdamSmall.τ).loc Cert.AdamSmall.main_arg12)
      ∧ r.2.mem ((c.tc : Thread Cert.AdamSmall.nD Cert.AdamSmall.τ).loc Cert.AdamSmall.main_arg13) = m ((c.tc : Thread Cert.AdamSmall.nD Cert.AdamSmall.τ).loc Cert.AdamSmall.main_arg13)
      ∧ r.2.mem ((c.tc : Thread Cert.AdamSmall.nD Cert.AdamSmall.τ).loc Cert.AdamSmall.main_arg14) = m ((c.tc : Thread Cert.AdamSmall.nD Cert.AdamSmall.τ).loc Cert.AdamSmall.main_arg14)
      ∧ r.2.mem ((c.tc : Thread Cert.AdamSmall.nD Cert.AdamSmall.τ).loc Cert.AdamSmall.main_arg15) = m ((c.tc : Thread Cert.AdamSmall.nD Cert.AdamSmall.τ).loc Cert.AdamSmall.main_arg15)
      ∧ r.2.mem ((c.tc : Thread Cert.AdamSmall.nD Cert.AdamSmall.τ).loc Cert.AdamSmall.main_arg16) = m ((c.tc : Thread Cert.AdamSmall.nD Cert.AdamSmall.τ).loc Cert.AdamSmall.main_arg16)
      ∧ r.2.mem ((c.tc : Thread Cert.AdamSmall.nD Cert.AdamSmall.τ).loc Cert.AdamSmall.main_arg17) = m ((c.tc : Thread Cert.AdamSmall.nD Cert.AdamSmall.τ).loc Cert.AdamSmall.main_arg17)
      ∧ r.2.mem ((c.tc : Thread Cert.AdamSmall.nD Cert.AdamSmall.τ).loc Cert.AdamSmall.main_arg18) = m ((c.tc : Thread Cert.AdamSmall.nD Cert.AdamSmall.τ).loc Cert.AdamSmall.main_arg18)
      ∧ r.2.mem ((c.tc : Thread Cert.AdamSmall.nD Cert.AdamSmall.τ).loc Cert.AdamSmall.main_arg19) = m ((c.tc : Thread Cert.AdamSmall.nD Cert.AdamSmall.τ).loc Cert.AdamSmall.main_arg19)
      ∧ r.2.mem ((c.tc : Thread Cert.AdamSmall.nD Cert.AdamSmall.τ).loc Cert.AdamSmall.main_arg20) = m ((c.tc : Thread Cert.AdamSmall.nD Cert.AdamSmall.τ).loc Cert.AdamSmall.main_arg20)
      ∧ r.2.mem ((c.tc : Thread Cert.AdamSmall.nD Cert.AdamSmall.τ).loc Cert.AdamSmall.main_arg21) = m ((c.tc : Thread Cert.AdamSmall.nD Cert.AdamSmall.τ).loc Cert.AdamSmall.main_arg21)
      ∧ r.2.mem ((c.tc : Thread Cert.AdamSmall.nD Cert.AdamSmall.τ).loc Cert.AdamSmall.main_arg22) = m ((c.tc : Thread Cert.AdamSmall.nD Cert.AdamSmall.τ).loc Cert.AdamSmall.main_arg22)
      ∧ r.2.mem ((c.tc : Thread Cert.AdamSmall.nD Cert.AdamSmall.τ).loc Cert.AdamSmall.main_arg23) = m ((c.tc : Thread Cert.AdamSmall.nD Cert.AdamSmall.τ).loc Cert.AdamSmall.main_arg23)
      ∧ r.2.mem ((c.tc : Thread Cert.AdamSmall.nD Cert.AdamSmall.τ).loc Cert.AdamSmall.main_arg24) = m ((c.tc : Thread Cert.AdamSmall.nD Cert.AdamSmall.τ).loc Cert.AdamSmall.main_arg24)
      ∧ r.2.mem ((c.tc : Thread Cert.AdamSmall.nD Cert.AdamSmall.τ).loc Cert.AdamSmall.main_arg25) = m ((c.tc : Thread Cert.AdamSmall.nD Cert.AdamSmall.τ).loc Cert.AdamSmall.main_arg25)
      ∧ r.2.mem ((c.tc : Thread Cert.AdamSmall.nD Cert.AdamSmall.τ).loc Cert.AdamSmall.main_arg26) = m ((c.tc : Thread Cert.AdamSmall.nD Cert.AdamSmall.τ).loc Cert.AdamSmall.main_arg26)
      ∧ r.2.mem ((c.tc : Thread Cert.AdamSmall.nD Cert.AdamSmall.τ).loc Cert.AdamSmall.main_arg27) = m ((c.tc : Thread Cert.AdamSmall.nD Cert.AdamSmall.τ).loc Cert.AdamSmall.main_arg27)
      ∧ r.2.mem ((c.tc : Thread Cert.AdamSmall.nD Cert.AdamSmall.τ).loc Cert.AdamSmall.main_arg28) = m ((c.tc : Thread Cert.AdamSmall.nD Cert.AdamSmall.τ).loc Cert.AdamSmall.main_arg28)
      ∧ r.2.mem ((c.tc : Thread Cert.AdamSmall.nD Cert.AdamSmall.τ).loc Cert.AdamSmall.main_arg29) = m ((c.tc : Thread Cert.AdamSmall.nD Cert.AdamSmall.τ).loc Cert.AdamSmall.main_arg29)
      ∧ r.2.mem ((c.tc : Thread Cert.AdamSmall.nD Cert.AdamSmall.τ).loc Cert.AdamSmall.main_arg30) = m ((c.tc : Thread Cert.AdamSmall.nD Cert.AdamSmall.τ).loc Cert.AdamSmall.main_arg30)
      ∧ r.2.mem ((c.tc : Thread Cert.AdamSmall.nD Cert.AdamSmall.τ).loc Cert.AdamSmall.main_arg31) = m ((c.tc : Thread Cert.AdamSmall.nD Cert.AdamSmall.τ).loc Cert.AdamSmall.main_arg31)
      ∧ r.2.mem ((c.tc : Thread Cert.AdamSmall.nD Cert.AdamSmall.τ).loc Cert.AdamSmall.main_arg32) = m ((c.tc : Thread Cert.AdamSmall.nD Cert.AdamSmall.τ).loc Cert.AdamSmall.main_arg32)
      ∧ r.2.mem ((c.tc : Thread Cert.AdamSmall.nD Cert.AdamSmall.τ).loc Cert.AdamSmall.main_arg33) = m ((c.tc : Thread Cert.AdamSmall.nD Cert.AdamSmall.τ).loc Cert.AdamSmall.main_arg33)
      ∧ r.2.mem ((c.tc : Thread Cert.AdamSmall.nD Cert.AdamSmall.τ).loc Cert.AdamSmall.main_arg34) = m ((c.tc : Thread Cert.AdamSmall.nD Cert.AdamSmall.τ).loc Cert.AdamSmall.main_arg34)
      ∧ r.2.mem ((c.tc : Thread Cert.AdamSmall.nD Cert.AdamSmall.τ).loc Cert.AdamSmall.main_arg35) = m ((c.tc : Thread Cert.AdamSmall.nD Cert.AdamSmall.τ).loc Cert.AdamSmall.main_arg35)
      ∧ r.2.mem ((c.tc : Thread Cert.AdamSmall.nD Cert.AdamSmall.τ).loc Cert.AdamSmall.main_arg36) = m ((c.tc : Thread Cert.AdamSmall.nD Cert.AdamSmall.τ).loc Cert.AdamSmall.main_arg36)
      ∧ r.2.mem ((c.tc : Thread Cert.AdamSmall.nD Cert.AdamSmall.τ).loc Cert.AdamSmall.main_arg37) = m ((c.tc : Thread Cert.AdamSmall.nD Cert.AdamSmall.τ).loc Cert.AdamSmall.main_arg37)
      ∧ r.2.mem ((c.tc : Thread Cert.AdamSmall.nD Cert.AdamSmall.τ).loc Cert.AdamSmall.main_arg38) = m ((c.tc : Thread Cert.AdamSmall.nD Cert.AdamSmall.τ).loc Cert.AdamSmall.main_arg38)
      ∧ r.2.mem ((c.tc : Thread Cert.AdamSmall.nD Cert.AdamSmall.τ).loc Cert.AdamSmall.main_arg39) = m ((c.tc : Thread Cert.AdamSmall.nD Cert.AdamSmall.τ).loc Cert.AdamSmall.main_arg39))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
      ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
      ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
      ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
      ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
      ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
      ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
      ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
      ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
      ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
      ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
      ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
      ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
      ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
      ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
      ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
      ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19)
      ∧ r.2.mem ((c.tc : Thread Cert.AdamSmallIdeal.nD Cert.AdamSmallIdeal.τ).loc Cert.AdamSmallIdeal.main_arg20) = m ((c.tc : Thread Cert.AdamSmallIdeal.nD Cert.AdamSmallIdeal.τ).loc Cert.AdamSmallIdeal.main_arg20)
      ∧ r.2.mem ((c.tc : Thread Cert.AdamSmallIdeal.nD Cert.AdamSmallIdeal.τ).loc Cert.AdamSmallIdeal.main_arg21) = m ((c.tc : Thread Cert.AdamSmallIdeal.nD Cert.AdamSmallIdeal.τ).loc Cert.AdamSmallIdeal.main_arg21)
      ∧ r.2.mem ((c.tc : Thread Cert.AdamSmallIdeal.nD Cert.AdamSmallIdeal.τ).loc Cert.AdamSmallIdeal.main_arg22) = m ((c.tc : Thread Cert.AdamSmallIdeal.nD Cert.AdamSmallIdeal.τ).loc Cert.AdamSmallIdeal.main_arg22)
      ∧ r.2.mem ((c.tc : Thread Cert.AdamSmallIdeal.nD Cert.AdamSmallIdeal.τ).loc Cert.AdamSmallIdeal.main_arg23) = m ((c.tc : Thread Cert.AdamSmallIdeal.nD Cert.AdamSmallIdeal.τ).loc Cert.AdamSmallIdeal.main_arg23)
      ∧ r.2.mem ((c.tc : Thread Cert.AdamSmallIdeal.nD Cert.AdamSmallIdeal.τ).loc Cert.AdamSmallIdeal.main_arg24) = m ((c.tc : Thread Cert.AdamSmallIdeal.nD Cert.AdamSmallIdeal.τ).loc Cert.AdamSmallIdeal.main_arg24)
      ∧ r.2.mem ((c.tc : Thread Cert.AdamSmallIdeal.nD Cert.AdamSmallIdeal.τ).loc Cert.AdamSmallIdeal.main_arg25) = m ((c.tc : Thread Cert.AdamSmallIdeal.nD Cert.AdamSmallIdeal.τ).loc Cert.AdamSmallIdeal.main_arg25)
      ∧ r.2.mem ((c.tc : Thread Cert.AdamSmallIdeal.nD Cert.AdamSmallIdeal.τ).loc Cert.AdamSmallIdeal.main_arg26) = m ((c.tc : Thread Cert.AdamSmallIdeal.nD Cert.AdamSmallIdeal.τ).loc Cert.AdamSmallIdeal.main_arg26)
      ∧ r.2.mem ((c.tc : Thread Cert.AdamSmallIdeal.nD Cert.AdamSmallIdeal.τ).loc Cert.AdamSmallIdeal.main_arg27) = m ((c.tc : Thread Cert.AdamSmallIdeal.nD Cert.AdamSmallIdeal.τ).loc Cert.AdamSmallIdeal.main_arg27)
      ∧ r.2.mem ((c.tc : Thread Cert.AdamSmallIdeal.nD Cert.AdamSmallIdeal.τ).loc Cert.AdamSmallIdeal.main_arg28) = m ((c.tc : Thread Cert.AdamSmallIdeal.nD Cert.AdamSmallIdeal.τ).loc Cert.AdamSmallIdeal.main_arg28)
      ∧ r.2.mem ((c.tc : Thread Cert.AdamSmallIdeal.nD Cert.AdamSmallIdeal.τ).loc Cert.AdamSmallIdeal.main_arg29) = m ((c.tc : Thread Cert.AdamSmallIdeal.nD Cert.AdamSmallIdeal.τ).loc Cert.AdamSmallIdeal.main_arg29)
      ∧ r.2.mem ((c.tc : Thread Cert.AdamSmallIdeal.nD Cert.AdamSmallIdeal.τ).loc Cert.AdamSmallIdeal.main_arg30) = m ((c.tc : Thread Cert.AdamSmallIdeal.nD Cert.AdamSmallIdeal.τ).loc Cert.AdamSmallIdeal.main_arg30)
      ∧ r.2.mem ((c.tc : Thread Cert.AdamSmallIdeal.nD Cert.AdamSmallIdeal.τ).loc Cert.AdamSmallIdeal.main_arg31) = m ((c.tc : Thread Cert.AdamSmallIdeal.nD Cert.AdamSmallIdeal.τ).loc Cert.AdamSmallIdeal.main_arg31)
      ∧ r.2.mem ((c.tc : Thread Cert.AdamSmallIdeal.nD Cert.AdamSmallIdeal.τ).loc Cert.AdamSmallIdeal.main_arg32) = m ((c.tc : Thread Cert.AdamSmallIdeal.nD Cert.AdamSmallIdeal.τ).loc Cert.AdamSmallIdeal.main_arg32)
      ∧ r.2.mem ((c.tc : Thread Cert.AdamSmallIdeal.nD Cert.AdamSmallIdeal.τ).loc Cert.AdamSmallIdeal.main_arg33) = m ((c.tc : Thread Cert.AdamSmallIdeal.nD Cert.AdamSmallIdeal.τ).loc Cert.AdamSmallIdeal.main_arg33)
      ∧ r.2.mem ((c.tc : Thread Cert.AdamSmallIdeal.nD Cert.AdamSmallIdeal.τ).loc Cert.AdamSmallIdeal.main_arg34) = m ((c.tc : Thread Cert.AdamSmallIdeal.nD Cert.AdamSmallIdeal.τ).loc Cert.AdamSmallIdeal.main_arg34)
      ∧ r.2.mem ((c.tc : Thread Cert.AdamSmallIdeal.nD Cert.AdamSmallIdeal.τ).loc Cert.AdamSmallIdeal.main_arg35) = m ((c.tc : Thread Cert.AdamSmallIdeal.nD Cert.AdamSmallIdeal.τ).loc Cert.AdamSmallIdeal.main_arg35)
      ∧ r.2.mem ((c.tc : Thread Cert.AdamSmallIdeal.nD Cert.AdamSmallIdeal.τ).loc Cert.AdamSmallIdeal.main_arg36) = m ((c.tc : Thread Cert.AdamSmallIdeal.nD Cert.AdamSmallIdeal.τ).loc Cert.AdamSmallIdeal.main_arg36)
      ∧ r.2.mem ((c.tc : Thread Cert.AdamSmallIdeal.nD Cert.AdamSmallIdeal.τ).loc Cert.AdamSmallIdeal.main_arg37) = m ((c.tc : Thread Cert.AdamSmallIdeal.nD Cert.AdamSmallIdeal.τ).loc Cert.AdamSmallIdeal.main_arg37)
      ∧ r.2.mem ((c.tc : Thread Cert.AdamSmallIdeal.nD Cert.AdamSmallIdeal.τ).loc Cert.AdamSmallIdeal.main_arg38) = m ((c.tc : Thread Cert.AdamSmallIdeal.nD Cert.AdamSmallIdeal.τ).loc Cert.AdamSmallIdeal.main_arg38)
      ∧ r.2.mem ((c.tc : Thread Cert.AdamSmallIdeal.nD Cert.AdamSmallIdeal.τ).loc Cert.AdamSmallIdeal.main_arg39) = m ((c.tc : Thread Cert.AdamSmallIdeal.nD Cert.AdamSmallIdeal.τ).loc Cert.AdamSmallIdeal.main_arg39))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3)
      ∧ r.2.mem ((c.tc : Thread Cert.AdamSmallRefIdeal.nD Cert.AdamSmallRefIdeal.τ).loc Cert.AdamSmallRefIdeal.main_arg4) = m ((c.tc : Thread Cert.AdamSmallRefIdeal.nD Cert.AdamSmallRefIdeal.τ).loc Cert.AdamSmallRefIdeal.main_arg4)
      ∧ r.2.mem ((c.tc : Thread Cert.AdamSmallRefIdeal.nD Cert.AdamSmallRefIdeal.τ).loc Cert.AdamSmallRefIdeal.main_arg5) = m ((c.tc : Thread Cert.AdamSmallRefIdeal.nD Cert.AdamSmallRefIdeal.τ).loc Cert.AdamSmallRefIdeal.main_arg5)
      ∧ r.2.mem ((c.tc : Thread Cert.AdamSmallRefIdeal.nD Cert.AdamSmallRefIdeal.τ).loc Cert.AdamSmallRefIdeal.main_arg6) = m ((c.tc : Thread Cert.AdamSmallRefIdeal.nD Cert.AdamSmallRefIdeal.τ).loc Cert.AdamSmallRefIdeal.main_arg6)
      ∧ r.2.mem ((c.tc : Thread Cert.AdamSmallRefIdeal.nD Cert.AdamSmallRefIdeal.τ).loc Cert.AdamSmallRefIdeal.main_arg7) = m ((c.tc : Thread Cert.AdamSmallRefIdeal.nD Cert.AdamSmallRefIdeal.τ).loc Cert.AdamSmallRefIdeal.main_arg7)
      ∧ r.2.mem ((c.tc : Thread Cert.AdamSmallRefIdeal.nD Cert.AdamSmallRefIdeal.τ).loc Cert.AdamSmallRefIdeal.main_arg8) = m ((c.tc : Thread Cert.AdamSmallRefIdeal.nD Cert.AdamSmallRefIdeal.τ).loc Cert.AdamSmallRefIdeal.main_arg8)
      ∧ r.2.mem ((c.tc : Thread Cert.AdamSmallRefIdeal.nD Cert.AdamSmallRefIdeal.τ).loc Cert.AdamSmallRefIdeal.main_arg9) = m ((c.tc : Thread Cert.AdamSmallRefIdeal.nD Cert.AdamSmallRefIdeal.τ).loc Cert.AdamSmallRefIdeal.main_arg9)
      ∧ r.2.mem ((c.tc : Thread Cert.AdamSmallRefIdeal.nD Cert.AdamSmallRefIdeal.τ).loc Cert.AdamSmallRefIdeal.main_arg10) = m ((c.tc : Thread Cert.AdamSmallRefIdeal.nD Cert.AdamSmallRefIdeal.τ).loc Cert.AdamSmallRefIdeal.main_arg10)
      ∧ r.2.mem ((c.tc : Thread Cert.AdamSmallRefIdeal.nD Cert.AdamSmallRefIdeal.τ).loc Cert.AdamSmallRefIdeal.main_arg11) = m ((c.tc : Thread Cert.AdamSmallRefIdeal.nD Cert.AdamSmallRefIdeal.τ).loc Cert.AdamSmallRefIdeal.main_arg11)
      ∧ r.2.mem ((c.tc : Thread Cert.AdamSmallRefIdeal.nD Cert.AdamSmallRefIdeal.τ).loc Cert.AdamSmallRefIdeal.main_arg12) = m ((c.tc : Thread Cert.AdamSmallRefIdeal.nD Cert.AdamSmallRefIdeal.τ).loc Cert.AdamSmallRefIdeal.main_arg12)
      ∧ r.2.mem ((c.tc : Thread Cert.AdamSmallRefIdeal.nD Cert.AdamSmallRefIdeal.τ).loc Cert.AdamSmallRefIdeal.main_arg13) = m ((c.tc : Thread Cert.AdamSmallRefIdeal.nD Cert.AdamSmallRefIdeal.τ).loc Cert.AdamSmallRefIdeal.main_arg13)
      ∧ r.2.mem ((c.tc : Thread Cert.AdamSmallRefIdeal.nD Cert.AdamSmallRefIdeal.τ).loc Cert.AdamSmallRefIdeal.main_arg14) = m ((c.tc : Thread Cert.AdamSmallRefIdeal.nD Cert.AdamSmallRefIdeal.τ).loc Cert.AdamSmallRefIdeal.main_arg14)
      ∧ r.2.mem ((c.tc : Thread Cert.AdamSmallRefIdeal.nD Cert.AdamSmallRefIdeal.τ).loc Cert.AdamSmallRefIdeal.main_arg15) = m ((c.tc : Thread Cert.AdamSmallRefIdeal.nD Cert.AdamSmallRefIdeal.τ).loc Cert.AdamSmallRefIdeal.main_arg15)
      ∧ r.2.mem ((c.tc : Thread Cert.AdamSmallRefIdeal.nD Cert.AdamSmallRefIdeal.τ).loc Cert.AdamSmallRefIdeal.main_arg16) = m ((c.tc : Thread Cert.AdamSmallRefIdeal.nD Cert.AdamSmallRefIdeal.τ).loc Cert.AdamSmallRefIdeal.main_arg16)
      ∧ r.2.mem ((c.tc : Thread Cert.AdamSmallRefIdeal.nD Cert.AdamSmallRefIdeal.τ).loc Cert.AdamSmallRefIdeal.main_arg17) = m ((c.tc : Thread Cert.AdamSmallRefIdeal.nD Cert.AdamSmallRefIdeal.τ).loc Cert.AdamSmallRefIdeal.main_arg17)
      ∧ r.2.mem ((c.tc : Thread Cert.AdamSmallRefIdeal.nD Cert.AdamSmallRefIdeal.τ).loc Cert.AdamSmallRefIdeal.main_arg18) = m ((c.tc : Thread Cert.AdamSmallRefIdeal.nD Cert.AdamSmallRefIdeal.τ).loc Cert.AdamSmallRefIdeal.main_arg18)
      ∧ r.2.mem ((c.tc : Thread Cert.AdamSmallRefIdeal.nD Cert.AdamSmallRefIdeal.τ).loc Cert.AdamSmallRefIdeal.main_arg19) = m ((c.tc : Thread Cert.AdamSmallRefIdeal.nD Cert.AdamSmallRefIdeal.τ).loc Cert.AdamSmallRefIdeal.main_arg19)
      ∧ r.2.mem ((c.tc : Thread Cert.AdamSmallRefIdeal.nD Cert.AdamSmallRefIdeal.τ).loc Cert.AdamSmallRefIdeal.main_arg20) = m ((c.tc : Thread Cert.AdamSmallRefIdeal.nD Cert.AdamSmallRefIdeal.τ).loc Cert.AdamSmallRefIdeal.main_arg20)
      ∧ r.2.mem ((c.tc : Thread Cert.AdamSmallRefIdeal.nD Cert.AdamSmallRefIdeal.τ).loc Cert.AdamSmallRefIdeal.main_arg21) = m ((c.tc : Thread Cert.AdamSmallRefIdeal.nD Cert.AdamSmallRefIdeal.τ).loc Cert.AdamSmallRefIdeal.main_arg21)
      ∧ r.2.mem ((c.tc : Thread Cert.AdamSmallRefIdeal.nD Cert.AdamSmallRefIdeal.τ).loc Cert.AdamSmallRefIdeal.main_arg22) = m ((c.tc : Thread Cert.AdamSmallRefIdeal.nD Cert.AdamSmallRefIdeal.τ).loc Cert.AdamSmallRefIdeal.main_arg22)
      ∧ r.2.mem ((c.tc : Thread Cert.AdamSmallRefIdeal.nD Cert.AdamSmallRefIdeal.τ).loc Cert.AdamSmallRefIdeal.main_arg23) = m ((c.tc : Thread Cert.AdamSmallRefIdeal.nD Cert.AdamSmallRefIdeal.τ).loc Cert.AdamSmallRefIdeal.main_arg23)
      ∧ r.2.mem ((c.tc : Thread Cert.AdamSmallRefIdeal.nD Cert.AdamSmallRefIdeal.τ).loc Cert.AdamSmallRefIdeal.main_arg24) = m ((c.tc : Thread Cert.AdamSmallRefIdeal.nD Cert.AdamSmallRefIdeal.τ).loc Cert.AdamSmallRefIdeal.main_arg24)
      ∧ r.2.mem ((c.tc : Thread Cert.AdamSmallRefIdeal.nD Cert.AdamSmallRefIdeal.τ).loc Cert.AdamSmallRefIdeal.main_arg25) = m ((c.tc : Thread Cert.AdamSmallRefIdeal.nD Cert.AdamSmallRefIdeal.τ).loc Cert.AdamSmallRefIdeal.main_arg25)
      ∧ r.2.mem ((c.tc : Thread Cert.AdamSmallRefIdeal.nD Cert.AdamSmallRefIdeal.τ).loc Cert.AdamSmallRefIdeal.main_arg26) = m ((c.tc : Thread Cert.AdamSmallRefIdeal.nD Cert.AdamSmallRefIdeal.τ).loc Cert.AdamSmallRefIdeal.main_arg26)
      ∧ r.2.mem ((c.tc : Thread Cert.AdamSmallRefIdeal.nD Cert.AdamSmallRefIdeal.τ).loc Cert.AdamSmallRefIdeal.main_arg27) = m ((c.tc : Thread Cert.AdamSmallRefIdeal.nD Cert.AdamSmallRefIdeal.τ).loc Cert.AdamSmallRefIdeal.main_arg27)
      ∧ r.2.mem ((c.tc : Thread Cert.AdamSmallRefIdeal.nD Cert.AdamSmallRefIdeal.τ).loc Cert.AdamSmallRefIdeal.main_arg28) = m ((c.tc : Thread Cert.AdamSmallRefIdeal.nD Cert.AdamSmallRefIdeal.τ).loc Cert.AdamSmallRefIdeal.main_arg28)
      ∧ r.2.mem ((c.tc : Thread Cert.AdamSmallRefIdeal.nD Cert.AdamSmallRefIdeal.τ).loc Cert.AdamSmallRefIdeal.main_arg29) = m ((c.tc : Thread Cert.AdamSmallRefIdeal.nD Cert.AdamSmallRefIdeal.τ).loc Cert.AdamSmallRefIdeal.main_arg29)
      ∧ r.2.mem ((c.tc : Thread Cert.AdamSmallRefIdeal.nD Cert.AdamSmallRefIdeal.τ).loc Cert.AdamSmallRefIdeal.main_arg30) = m ((c.tc : Thread Cert.AdamSmallRefIdeal.nD Cert.AdamSmallRefIdeal.τ).loc Cert.AdamSmallRefIdeal.main_arg30)
      ∧ r.2.mem ((c.tc : Thread Cert.AdamSmallRefIdeal.nD Cert.AdamSmallRefIdeal.τ).loc Cert.AdamSmallRefIdeal.main_arg31) = m ((c.tc : Thread Cert.AdamSmallRefIdeal.nD Cert.AdamSmallRefIdeal.τ).loc Cert.AdamSmallRefIdeal.main_arg31)
      ∧ r.2.mem ((c.tc : Thread Cert.AdamSmallRefIdeal.nD Cert.AdamSmallRefIdeal.τ).loc Cert.AdamSmallRefIdeal.main_arg32) = m ((c.tc : Thread Cert.AdamSmallRefIdeal.nD Cert.AdamSmallRefIdeal.τ).loc Cert.AdamSmallRefIdeal.main_arg32)
      ∧ r.2.mem ((c.tc : Thread Cert.AdamSmallRefIdeal.nD Cert.AdamSmallRefIdeal.τ).loc Cert.AdamSmallRefIdeal.main_arg33) = m ((c.tc : Thread Cert.AdamSmallRefIdeal.nD Cert.AdamSmallRefIdeal.τ).loc Cert.AdamSmallRefIdeal.main_arg33)
      ∧ r.2.mem ((c.tc : Thread Cert.AdamSmallRefIdeal.nD Cert.AdamSmallRefIdeal.τ).loc Cert.AdamSmallRefIdeal.main_arg34) = m ((c.tc : Thread Cert.AdamSmallRefIdeal.nD Cert.AdamSmallRefIdeal.τ).loc Cert.AdamSmallRefIdeal.main_arg34)
      ∧ r.2.mem ((c.tc : Thread Cert.AdamSmallRefIdeal.nD Cert.AdamSmallRefIdeal.τ).loc Cert.AdamSmallRefIdeal.main_arg35) = m ((c.tc : Thread Cert.AdamSmallRefIdeal.nD Cert.AdamSmallRefIdeal.τ).loc Cert.AdamSmallRefIdeal.main_arg35)
      ∧ r.2.mem ((c.tc : Thread Cert.AdamSmallRefIdeal.nD Cert.AdamSmallRefIdeal.τ).loc Cert.AdamSmallRefIdeal.main_arg36) = m ((c.tc : Thread Cert.AdamSmallRefIdeal.nD Cert.AdamSmallRefIdeal.τ).loc Cert.AdamSmallRefIdeal.main_arg36)
      ∧ r.2.mem ((c.tc : Thread Cert.AdamSmallRefIdeal.nD Cert.AdamSmallRefIdeal.τ).loc Cert.AdamSmallRefIdeal.main_arg37) = m ((c.tc : Thread Cert.AdamSmallRefIdeal.nD Cert.AdamSmallRefIdeal.τ).loc Cert.AdamSmallRefIdeal.main_arg37)
      ∧ r.2.mem ((c.tc : Thread Cert.AdamSmallRefIdeal.nD Cert.AdamSmallRefIdeal.τ).loc Cert.AdamSmallRefIdeal.main_arg38) = m ((c.tc : Thread Cert.AdamSmallRefIdeal.nD Cert.AdamSmallRefIdeal.τ).loc Cert.AdamSmallRefIdeal.main_arg38)
      ∧ r.2.mem ((c.tc : Thread Cert.AdamSmallRefIdeal.nD Cert.AdamSmallRefIdeal.τ).loc Cert.AdamSmallRefIdeal.main_arg39) = m ((c.tc : Thread Cert.AdamSmallRefIdeal.nD Cert.AdamSmallRefIdeal.τ).loc Cert.AdamSmallRefIdeal.main_arg39))
      ∧ r.2.sem = fun _ => 0)

def quiescent_SumDevices [hSumDevices : Cert.SumDevices.Facts] : Prop :=
  ∀ (m : (ℓ : Loc Cert.SumDevices.nD Cert.SumDevices.τ Cert.SumDevices.sig) → Buf (Elt Bits) ℓ) (g : Dev Cert.SumDevices.nD → PrngReg), Pre_SumDevices m →
    θ_run (Cert.SumDevices.defs (F := Bits)) (onTc (τ := Cert.SumDevices.τ) (Cert.SumDevices.main (F := Bits))) ⟨m, fun _ => 0, g⟩ (fun r => (∀ c : Dev Cert.SumDevices.nD,
      r.2.mem ((c.tc : Thread Cert.SumDevices.nD Cert.SumDevices.τ).loc Cert.SumDevices.main_arg0) = m ((c.tc : Thread Cert.SumDevices.nD Cert.SumDevices.τ).loc Cert.SumDevices.main_arg0))
      ∧ r.2.sem = fun _ => 0)

def quiescent_SumDevicesIdeal [hSumDevicesIdeal : Cert.SumDevicesIdeal.Facts] : Prop :=
  ∀ (m : (ℓ : Loc Cert.SumDevicesIdeal.nD Cert.SumDevicesIdeal.τ Cert.SumDevicesIdeal.sig) → Buf (Elt Ideal) ℓ) (g : Dev Cert.SumDevicesIdeal.nD → PrngReg), Pre_SumDevicesIdeal m →
    θ_run (Cert.SumDevicesIdeal.defs (F := Ideal)) (onTc (τ := Cert.SumDevicesIdeal.τ) (Cert.SumDevicesIdeal.main (F := Ideal))) ⟨m, fun _ => 0, g⟩ (fun r => (∀ c : Dev Cert.SumDevicesIdeal.nD,
      r.2.mem ((c.tc : Thread Cert.SumDevicesIdeal.nD Cert.SumDevicesIdeal.τ).loc Cert.SumDevicesIdeal.main_arg0) = m ((c.tc : Thread Cert.SumDevicesIdeal.nD Cert.SumDevicesIdeal.τ).loc Cert.SumDevicesIdeal.main_arg0))
      ∧ r.2.sem = fun _ => 0)

def quiescent_SumDevicesRefIdeal [hSumDevicesRefIdeal : Cert.SumDevicesRefIdeal.Facts] : Prop :=
  ∀ (m : (ℓ : Loc Cert.SumDevicesRefIdeal.nD Cert.SumDevicesRefIdeal.τ Cert.SumDevicesRefIdeal.sig) → Buf (Elt Ideal) ℓ) (g : Dev Cert.SumDevicesRefIdeal.nD → PrngReg), Pre_SumDevicesRefIdeal m →
    θ_run (Cert.SumDevicesRefIdeal.defs (F := Ideal)) (onTc (τ := Cert.SumDevicesRefIdeal.τ) (Cert.SumDevicesRefIdeal.main (F := Ideal))) ⟨m, fun _ => 0, g⟩ (fun r => (∀ c : Dev Cert.SumDevicesRefIdeal.nD,
      r.2.mem ((c.tc : Thread Cert.SumDevicesRefIdeal.nD Cert.SumDevicesRefIdeal.τ).loc Cert.SumDevicesRefIdeal.main_arg0) = m ((c.tc : Thread Cert.SumDevicesRefIdeal.nD Cert.SumDevicesRefIdeal.τ).loc Cert.SumDevicesRefIdeal.main_arg0))
      ∧ r.2.sem = fun _ => 0)

def quiescent_AdamInFirst [hAdamInFirst : Cert.AdamInFirst.Facts] : Prop :=
  ∀ (m : (ℓ : Loc Cert.AdamInFirst.nD Cert.AdamInFirst.τ Cert.AdamInFirst.sig) → Buf (Elt Bits) ℓ) (g : Dev Cert.AdamInFirst.nD → PrngReg), Pre_AdamInFirst m →
    θ_run (Cert.AdamInFirst.defs (F := Bits)) (onTc (τ := Cert.AdamInFirst.τ) (Cert.AdamInFirst.main (F := Bits))) ⟨m, fun _ => 0, g⟩ (fun r => (∀ c : Dev Cert.AdamInFirst.nD,
      r.2.mem ((c.tc : Thread Cert.AdamInFirst.nD Cert.AdamInFirst.τ).loc Cert.AdamInFirst.main_arg0) = m ((c.tc : Thread Cert.AdamInFirst.nD Cert.AdamInFirst.τ).loc Cert.AdamInFirst.main_arg0)
      ∧ r.2.mem ((c.tc : Thread Cert.AdamInFirst.nD Cert.AdamInFirst.τ).loc Cert.AdamInFirst.main_arg1) = m ((c.tc : Thread Cert.AdamInFirst.nD Cert.AdamInFirst.τ).loc Cert.AdamInFirst.main_arg1)
      ∧ r.2.mem ((c.tc : Thread Cert.AdamInFirst.nD Cert.AdamInFirst.τ).loc Cert.AdamInFirst.main_arg2) = m ((c.tc : Thread Cert.AdamInFirst.nD Cert.AdamInFirst.τ).loc Cert.AdamInFirst.main_arg2)
      ∧ r.2.mem ((c.tc : Thread Cert.AdamInFirst.nD Cert.AdamInFirst.τ).loc Cert.AdamInFirst.main_arg3) = m ((c.tc : Thread Cert.AdamInFirst.nD Cert.AdamInFirst.τ).loc Cert.AdamInFirst.main_arg3)
      ∧ r.2.mem ((c.tc : Thread Cert.AdamInFirst.nD Cert.AdamInFirst.τ).loc Cert.AdamInFirst.main_arg4) = m ((c.tc : Thread Cert.AdamInFirst.nD Cert.AdamInFirst.τ).loc Cert.AdamInFirst.main_arg4)
      ∧ r.2.mem ((c.tc : Thread Cert.AdamInFirst.nD Cert.AdamInFirst.τ).loc Cert.AdamInFirst.main_arg5) = m ((c.tc : Thread Cert.AdamInFirst.nD Cert.AdamInFirst.τ).loc Cert.AdamInFirst.main_arg5)
      ∧ r.2.mem ((c.tc : Thread Cert.AdamInFirst.nD Cert.AdamInFirst.τ).loc Cert.AdamInFirst.main_arg6) = m ((c.tc : Thread Cert.AdamInFirst.nD Cert.AdamInFirst.τ).loc Cert.AdamInFirst.main_arg6)
      ∧ r.2.mem ((c.tc : Thread Cert.AdamInFirst.nD Cert.AdamInFirst.τ).loc Cert.AdamInFirst.main_arg7) = m ((c.tc : Thread Cert.AdamInFirst.nD Cert.AdamInFirst.τ).loc Cert.AdamInFirst.main_arg7))
      ∧ r.2.sem = fun _ => 0)

def quiescent_AdamInFirstIdeal [hAdamInFirstIdeal : Cert.AdamInFirstIdeal.Facts] : Prop :=
  ∀ (m : (ℓ : Loc Cert.AdamInFirstIdeal.nD Cert.AdamInFirstIdeal.τ Cert.AdamInFirstIdeal.sig) → Buf (Elt Ideal) ℓ) (g : Dev Cert.AdamInFirstIdeal.nD → PrngReg), Pre_AdamInFirstIdeal m →
    θ_run (Cert.AdamInFirstIdeal.defs (F := Ideal)) (onTc (τ := Cert.AdamInFirstIdeal.τ) (Cert.AdamInFirstIdeal.main (F := Ideal))) ⟨m, fun _ => 0, g⟩ (fun r => (∀ c : Dev Cert.AdamInFirstIdeal.nD,
      r.2.mem ((c.tc : Thread Cert.AdamInFirstIdeal.nD Cert.AdamInFirstIdeal.τ).loc Cert.AdamInFirstIdeal.main_arg0) = m ((c.tc : Thread Cert.AdamInFirstIdeal.nD Cert.AdamInFirstIdeal.τ).loc Cert.AdamInFirstIdeal.main_arg0)
      ∧ r.2.mem ((c.tc : Thread Cert.AdamInFirstIdeal.nD Cert.AdamInFirstIdeal.τ).loc Cert.AdamInFirstIdeal.main_arg1) = m ((c.tc : Thread Cert.AdamInFirstIdeal.nD Cert.AdamInFirstIdeal.τ).loc Cert.AdamInFirstIdeal.main_arg1)
      ∧ r.2.mem ((c.tc : Thread Cert.AdamInFirstIdeal.nD Cert.AdamInFirstIdeal.τ).loc Cert.AdamInFirstIdeal.main_arg2) = m ((c.tc : Thread Cert.AdamInFirstIdeal.nD Cert.AdamInFirstIdeal.τ).loc Cert.AdamInFirstIdeal.main_arg2)
      ∧ r.2.mem ((c.tc : Thread Cert.AdamInFirstIdeal.nD Cert.AdamInFirstIdeal.τ).loc Cert.AdamInFirstIdeal.main_arg3) = m ((c.tc : Thread Cert.AdamInFirstIdeal.nD Cert.AdamInFirstIdeal.τ).loc Cert.AdamInFirstIdeal.main_arg3)
      ∧ r.2.mem ((c.tc : Thread Cert.AdamInFirstIdeal.nD Cert.AdamInFirstIdeal.τ).loc Cert.AdamInFirstIdeal.main_arg4) = m ((c.tc : Thread Cert.AdamInFirstIdeal.nD Cert.AdamInFirstIdeal.τ).loc Cert.AdamInFirstIdeal.main_arg4)
      ∧ r.2.mem ((c.tc : Thread Cert.AdamInFirstIdeal.nD Cert.AdamInFirstIdeal.τ).loc Cert.AdamInFirstIdeal.main_arg5) = m ((c.tc : Thread Cert.AdamInFirstIdeal.nD Cert.AdamInFirstIdeal.τ).loc Cert.AdamInFirstIdeal.main_arg5)
      ∧ r.2.mem ((c.tc : Thread Cert.AdamInFirstIdeal.nD Cert.AdamInFirstIdeal.τ).loc Cert.AdamInFirstIdeal.main_arg6) = m ((c.tc : Thread Cert.AdamInFirstIdeal.nD Cert.AdamInFirstIdeal.τ).loc Cert.AdamInFirstIdeal.main_arg6)
      ∧ r.2.mem ((c.tc : Thread Cert.AdamInFirstIdeal.nD Cert.AdamInFirstIdeal.τ).loc Cert.AdamInFirstIdeal.main_arg7) = m ((c.tc : Thread Cert.AdamInFirstIdeal.nD Cert.AdamInFirstIdeal.τ).loc Cert.AdamInFirstIdeal.main_arg7))
      ∧ r.2.sem = fun _ => 0)

def quiescent_AdamInFirstRefIdeal [hAdamInFirstRefIdeal : Cert.AdamInFirstRefIdeal.Facts] : Prop :=
  ∀ (m : (ℓ : Loc Cert.AdamInFirstRefIdeal.nD Cert.AdamInFirstRefIdeal.τ Cert.AdamInFirstRefIdeal.sig) → Buf (Elt Ideal) ℓ) (g : Dev Cert.AdamInFirstRefIdeal.nD → PrngReg), Pre_AdamInFirstRefIdeal m →
    θ_run (Cert.AdamInFirstRefIdeal.defs (F := Ideal)) (onTc (τ := Cert.AdamInFirstRefIdeal.τ) (Cert.AdamInFirstRefIdeal.main (F := Ideal))) ⟨m, fun _ => 0, g⟩ (fun r => (∀ c : Dev Cert.AdamInFirstRefIdeal.nD,
      r.2.mem ((c.tc : Thread Cert.AdamInFirstRefIdeal.nD Cert.AdamInFirstRefIdeal.τ).loc Cert.AdamInFirstRefIdeal.main_arg0) = m ((c.tc : Thread Cert.AdamInFirstRefIdeal.nD Cert.AdamInFirstRefIdeal.τ).loc Cert.AdamInFirstRefIdeal.main_arg0)
      ∧ r.2.mem ((c.tc : Thread Cert.AdamInFirstRefIdeal.nD Cert.AdamInFirstRefIdeal.τ).loc Cert.AdamInFirstRefIdeal.main_arg1) = m ((c.tc : Thread Cert.AdamInFirstRefIdeal.nD Cert.AdamInFirstRefIdeal.τ).loc Cert.AdamInFirstRefIdeal.main_arg1)
      ∧ r.2.mem ((c.tc : Thread Cert.AdamInFirstRefIdeal.nD Cert.AdamInFirstRefIdeal.τ).loc Cert.AdamInFirstRefIdeal.main_arg2) = m ((c.tc : Thread Cert.AdamInFirstRefIdeal.nD Cert.AdamInFirstRefIdeal.τ).loc Cert.AdamInFirstRefIdeal.main_arg2)
      ∧ r.2.mem ((c.tc : Thread Cert.AdamInFirstRefIdeal.nD Cert.AdamInFirstRefIdeal.τ).loc Cert.AdamInFirstRefIdeal.main_arg3) = m ((c.tc : Thread Cert.AdamInFirstRefIdeal.nD Cert.AdamInFirstRefIdeal.τ).loc Cert.AdamInFirstRefIdeal.main_arg3)
      ∧ r.2.mem ((c.tc : Thread Cert.AdamInFirstRefIdeal.nD Cert.AdamInFirstRefIdeal.τ).loc Cert.AdamInFirstRefIdeal.main_arg4) = m ((c.tc : Thread Cert.AdamInFirstRefIdeal.nD Cert.AdamInFirstRefIdeal.τ).loc Cert.AdamInFirstRefIdeal.main_arg4)
      ∧ r.2.mem ((c.tc : Thread Cert.AdamInFirstRefIdeal.nD Cert.AdamInFirstRefIdeal.τ).loc Cert.AdamInFirstRefIdeal.main_arg5) = m ((c.tc : Thread Cert.AdamInFirstRefIdeal.nD Cert.AdamInFirstRefIdeal.τ).loc Cert.AdamInFirstRefIdeal.main_arg5)
      ∧ r.2.mem ((c.tc : Thread Cert.AdamInFirstRefIdeal.nD Cert.AdamInFirstRefIdeal.τ).loc Cert.AdamInFirstRefIdeal.main_arg6) = m ((c.tc : Thread Cert.AdamInFirstRefIdeal.nD Cert.AdamInFirstRefIdeal.τ).loc Cert.AdamInFirstRefIdeal.main_arg6)
      ∧ r.2.mem ((c.tc : Thread Cert.AdamInFirstRefIdeal.nD Cert.AdamInFirstRefIdeal.τ).loc Cert.AdamInFirstRefIdeal.main_arg7) = m ((c.tc : Thread Cert.AdamInFirstRefIdeal.nD Cert.AdamInFirstRefIdeal.τ).loc Cert.AdamInFirstRefIdeal.main_arg7))
      ∧ r.2.sem = fun _ => 0)

def quiescent_LbsBwd [hLbsBwd : Cert.LbsBwd.Facts] : Prop :=
  ∀ (m : (ℓ : Loc Cert.LbsBwd.nD Cert.LbsBwd.τ Cert.LbsBwd.sig) → Buf (Elt Bits) ℓ) (g : Dev Cert.LbsBwd.nD → PrngReg), Pre_LbsBwd m →
    θ_run (Cert.LbsBwd.defs (F := Bits)) (onTc (τ := Cert.LbsBwd.τ) (Cert.LbsBwd.main (F := Bits))) ⟨m, fun _ => 0, g⟩ (fun r => (∀ c : Dev Cert.LbsBwd.nD,
      r.2.mem ((c.tc : Thread Cert.LbsBwd.nD Cert.LbsBwd.τ).loc Cert.LbsBwd.main_arg0) = m ((c.tc : Thread Cert.LbsBwd.nD Cert.LbsBwd.τ).loc Cert.LbsBwd.main_arg0)
      ∧ r.2.mem ((c.tc : Thread Cert.LbsBwd.nD Cert.LbsBwd.τ).loc Cert.LbsBwd.main_arg1) = m ((c.tc : Thread Cert.LbsBwd.nD Cert.LbsBwd.τ).loc Cert.LbsBwd.main_arg1))
      ∧ r.2.sem = fun _ => 0)

def quiescent_LbsBwdIdeal [hLbsBwdIdeal : Cert.LbsBwdIdeal.Facts] : Prop :=
  ∀ (m : (ℓ : Loc Cert.LbsBwdIdeal.nD Cert.LbsBwdIdeal.τ Cert.LbsBwdIdeal.sig) → Buf (Elt Ideal) ℓ) (g : Dev Cert.LbsBwdIdeal.nD → PrngReg), Pre_LbsBwdIdeal m →
    θ_run (Cert.LbsBwdIdeal.defs (F := Ideal)) (onTc (τ := Cert.LbsBwdIdeal.τ) (Cert.LbsBwdIdeal.main (F := Ideal))) ⟨m, fun _ => 0, g⟩ (fun r => (∀ c : Dev Cert.LbsBwdIdeal.nD,
      r.2.mem ((c.tc : Thread Cert.LbsBwdIdeal.nD Cert.LbsBwdIdeal.τ).loc Cert.LbsBwdIdeal.main_arg0) = m ((c.tc : Thread Cert.LbsBwdIdeal.nD Cert.LbsBwdIdeal.τ).loc Cert.LbsBwdIdeal.main_arg0)
      ∧ r.2.mem ((c.tc : Thread Cert.LbsBwdIdeal.nD Cert.LbsBwdIdeal.τ).loc Cert.LbsBwdIdeal.main_arg1) = m ((c.tc : Thread Cert.LbsBwdIdeal.nD Cert.LbsBwdIdeal.τ).loc Cert.LbsBwdIdeal.main_arg1))
      ∧ r.2.sem = fun _ => 0)

def quiescent_LbsBwdIdeal_pre_both_finite [hLbsBwdIdeal : Cert.LbsBwdIdeal.Facts] [hPre_both_finite : Cert.Pre_both_finite.Facts] : Prop :=
  ∀ (m : (ℓ : Loc Cert.LbsBwdIdeal.nD Cert.LbsBwdIdeal.τ Cert.LbsBwdIdeal.sig) → Buf (Elt Ideal) ℓ) (g : Dev Cert.LbsBwdIdeal.nD → PrngReg), Pre_LbsBwdIdeal_both_finite m →
    θ_run (Cert.LbsBwdIdeal.defs (F := Ideal)) (onTc (τ := Cert.LbsBwdIdeal.τ) (Cert.LbsBwdIdeal.main (F := Ideal))) ⟨m, fun _ => 0, g⟩ (fun r => (∀ c : Dev Cert.LbsBwdIdeal.nD,
      r.2.mem ((c.tc : Thread Cert.LbsBwdIdeal.nD Cert.LbsBwdIdeal.τ).loc Cert.LbsBwdIdeal.main_arg0) = m ((c.tc : Thread Cert.LbsBwdIdeal.nD Cert.LbsBwdIdeal.τ).loc Cert.LbsBwdIdeal.main_arg0)
      ∧ r.2.mem ((c.tc : Thread Cert.LbsBwdIdeal.nD Cert.LbsBwdIdeal.τ).loc Cert.LbsBwdIdeal.main_arg1) = m ((c.tc : Thread Cert.LbsBwdIdeal.nD Cert.LbsBwdIdeal.τ).loc Cert.LbsBwdIdeal.main_arg1))
      ∧ r.2.sem = fun _ => 0)

def quiescent_LbsBwdRefIdeal [hLbsBwdRefIdeal : Cert.LbsBwdRefIdeal.Facts] : Prop :=
  ∀ (m : (ℓ : Loc Cert.LbsBwdRefIdeal.nD Cert.LbsBwdRefIdeal.τ Cert.LbsBwdRefIdeal.sig) → Buf (Elt Ideal) ℓ) (g : Dev Cert.LbsBwdRefIdeal.nD → PrngReg), Pre_LbsBwdRefIdeal m →
    θ_run (Cert.LbsBwdRefIdeal.defs (F := Ideal)) (onTc (τ := Cert.LbsBwdRefIdeal.τ) (Cert.LbsBwdRefIdeal.main (F := Ideal))) ⟨m, fun _ => 0, g⟩ (fun r => (∀ c : Dev Cert.LbsBwdRefIdeal.nD,
      r.2.mem ((c.tc : Thread Cert.LbsBwdRefIdeal.nD Cert.LbsBwdRefIdeal.τ).loc Cert.LbsBwdRefIdeal.main_arg0) = m ((c.tc : Thread Cert.LbsBwdRefIdeal.nD Cert.LbsBwdRefIdeal.τ).loc Cert.LbsBwdRefIdeal.main_arg0)
      ∧ r.2.mem ((c.tc : Thread Cert.LbsBwdRefIdeal.nD Cert.LbsBwdRefIdeal.τ).loc Cert.LbsBwdRefIdeal.main_arg1) = m ((c.tc : Thread Cert.LbsBwdRefIdeal.nD Cert.LbsBwdRefIdeal.τ).loc Cert.LbsBwdRefIdeal.main_arg1))
      ∧ r.2.sem = fun _ => 0)

def quiescent_LbsBwdRefIdeal_pre_both_finite [hLbsBwdRefIdeal : Cert.LbsBwdRefIdeal.Facts] [hPre_both_finite : Cert.Pre_both_finite.Facts] : Prop :=
  ∀ (m : (ℓ : Loc Cert.LbsBwdRefIdeal.nD Cert.LbsBwdRefIdeal.τ Cert.LbsBwdRefIdeal.sig) → Buf (Elt Ideal) ℓ) (g : Dev Cert.LbsBwdRefIdeal.nD → PrngReg), Pre_LbsBwdRefIdeal_both_finite m →
    θ_run (Cert.LbsBwdRefIdeal.defs (F := Ideal)) (onTc (τ := Cert.LbsBwdRefIdeal.τ) (Cert.LbsBwdRefIdeal.main (F := Ideal))) ⟨m, fun _ => 0, g⟩ (fun r => (∀ c : Dev Cert.LbsBwdRefIdeal.nD,
      r.2.mem ((c.tc : Thread Cert.LbsBwdRefIdeal.nD Cert.LbsBwdRefIdeal.τ).loc Cert.LbsBwdRefIdeal.main_arg0) = m ((c.tc : Thread Cert.LbsBwdRefIdeal.nD Cert.LbsBwdRefIdeal.τ).loc Cert.LbsBwdRefIdeal.main_arg0)
      ∧ r.2.mem ((c.tc : Thread Cert.LbsBwdRefIdeal.nD Cert.LbsBwdRefIdeal.τ).loc Cert.LbsBwdRefIdeal.main_arg1) = m ((c.tc : Thread Cert.LbsBwdRefIdeal.nD Cert.LbsBwdRefIdeal.τ).loc Cert.LbsBwdRefIdeal.main_arg1))
      ∧ r.2.sem = fun _ => 0)

def quiescent_LbsFwd [hLbsFwd : Cert.LbsFwd.Facts] : Prop :=
  ∀ (m : (ℓ : Loc Cert.LbsFwd.nD Cert.LbsFwd.τ Cert.LbsFwd.sig) → Buf (Elt Bits) ℓ) (g : Dev Cert.LbsFwd.nD → PrngReg), Pre_LbsFwd m →
    θ_run (Cert.LbsFwd.defs (F := Bits)) (onTc (τ := Cert.LbsFwd.τ) (Cert.LbsFwd.main (F := Bits))) ⟨m, fun _ => 0, g⟩ (fun r => (∀ c : Dev Cert.LbsFwd.nD,
      r.2.mem ((c.tc : Thread Cert.LbsFwd.nD Cert.LbsFwd.τ).loc Cert.LbsFwd.main_arg0) = m ((c.tc : Thread Cert.LbsFwd.nD Cert.LbsFwd.τ).loc Cert.LbsFwd.main_arg0))
      ∧ r.2.sem = fun _ => 0)

def quiescent_LbsFwdIdeal [hLbsFwdIdeal : Cert.LbsFwdIdeal.Facts] : Prop :=
  ∀ (m : (ℓ : Loc Cert.LbsFwdIdeal.nD Cert.LbsFwdIdeal.τ Cert.LbsFwdIdeal.sig) → Buf (Elt Ideal) ℓ) (g : Dev Cert.LbsFwdIdeal.nD → PrngReg), Pre_LbsFwdIdeal m →
    θ_run (Cert.LbsFwdIdeal.defs (F := Ideal)) (onTc (τ := Cert.LbsFwdIdeal.τ) (Cert.LbsFwdIdeal.main (F := Ideal))) ⟨m, fun _ => 0, g⟩ (fun r => (∀ c : Dev Cert.LbsFwdIdeal.nD,
      r.2.mem ((c.tc : Thread Cert.LbsFwdIdeal.nD Cert.LbsFwdIdeal.τ).loc Cert.LbsFwdIdeal.main_arg0) = m ((c.tc : Thread Cert.LbsFwdIdeal.nD Cert.LbsFwdIdeal.τ).loc Cert.LbsFwdIdeal.main_arg0))
      ∧ r.2.sem = fun _ => 0)

def quiescent_LbsFwdIdeal_pre_finite [hLbsFwdIdeal : Cert.LbsFwdIdeal.Facts] [hPre_finite : Cert.Pre_finite.Facts] : Prop :=
  ∀ (m : (ℓ : Loc Cert.LbsFwdIdeal.nD Cert.LbsFwdIdeal.τ Cert.LbsFwdIdeal.sig) → Buf (Elt Ideal) ℓ) (g : Dev Cert.LbsFwdIdeal.nD → PrngReg), Pre_LbsFwdIdeal_finite m →
    θ_run (Cert.LbsFwdIdeal.defs (F := Ideal)) (onTc (τ := Cert.LbsFwdIdeal.τ) (Cert.LbsFwdIdeal.main (F := Ideal))) ⟨m, fun _ => 0, g⟩ (fun r => (∀ c : Dev Cert.LbsFwdIdeal.nD,
      r.2.mem ((c.tc : Thread Cert.LbsFwdIdeal.nD Cert.LbsFwdIdeal.τ).loc Cert.LbsFwdIdeal.main_arg0) = m ((c.tc : Thread Cert.LbsFwdIdeal.nD Cert.LbsFwdIdeal.τ).loc Cert.LbsFwdIdeal.main_arg0))
      ∧ r.2.sem = fun _ => 0)

def quiescent_LbsFwdRefIdeal [hLbsFwdRefIdeal : Cert.LbsFwdRefIdeal.Facts] : Prop :=
  ∀ (m : (ℓ : Loc Cert.LbsFwdRefIdeal.nD Cert.LbsFwdRefIdeal.τ Cert.LbsFwdRefIdeal.sig) → Buf (Elt Ideal) ℓ) (g : Dev Cert.LbsFwdRefIdeal.nD → PrngReg), Pre_LbsFwdRefIdeal m →
    θ_run (Cert.LbsFwdRefIdeal.defs (F := Ideal)) (onTc (τ := Cert.LbsFwdRefIdeal.τ) (Cert.LbsFwdRefIdeal.main (F := Ideal))) ⟨m, fun _ => 0, g⟩ (fun r => (∀ c : Dev Cert.LbsFwdRefIdeal.nD,
      r.2.mem ((c.tc : Thread Cert.LbsFwdRefIdeal.nD Cert.LbsFwdRefIdeal.τ).loc Cert.LbsFwdRefIdeal.main_arg0) = m ((c.tc : Thread Cert.LbsFwdRefIdeal.nD Cert.LbsFwdRefIdeal.τ).loc Cert.LbsFwdRefIdeal.main_arg0))
      ∧ r.2.sem = fun _ => 0)

def quiescent_LbsFwdRefIdeal_pre_finite [hLbsFwdRefIdeal : Cert.LbsFwdRefIdeal.Facts] [hPre_finite : Cert.Pre_finite.Facts] : Prop :=
  ∀ (m : (ℓ : Loc Cert.LbsFwdRefIdeal.nD Cert.LbsFwdRefIdeal.τ Cert.LbsFwdRefIdeal.sig) → Buf (Elt Ideal) ℓ) (g : Dev Cert.LbsFwdRefIdeal.nD → PrngReg), Pre_LbsFwdRefIdeal_finite m →
    θ_run (Cert.LbsFwdRefIdeal.defs (F := Ideal)) (onTc (τ := Cert.LbsFwdRefIdeal.τ) (Cert.LbsFwdRefIdeal.main (F := Ideal))) ⟨m, fun _ => 0, g⟩ (fun r => (∀ c : Dev Cert.LbsFwdRefIdeal.nD,
      r.2.mem ((c.tc : Thread Cert.LbsFwdRefIdeal.nD Cert.LbsFwdRefIdeal.τ).loc Cert.LbsFwdRefIdeal.main_arg0) = m ((c.tc : Thread Cert.LbsFwdRefIdeal.nD Cert.LbsFwdRefIdeal.τ).loc Cert.LbsFwdRefIdeal.main_arg0))
      ∧ r.2.sem = fun _ => 0)

def quiescent_RmsFwd [hRmsFwd : Cert.RmsFwd.Facts] : Prop :=
  ∀ (m : (ℓ : Loc Cert.RmsFwd.nD Cert.RmsFwd.τ Cert.RmsFwd.sig) → Buf (Elt Bits) ℓ) (g : Dev Cert.RmsFwd.nD → PrngReg), Pre_RmsFwd m →
    θ_run (Cert.RmsFwd.defs (F := Bits)) (onTc (τ := Cert.RmsFwd.τ) (Cert.RmsFwd.main (F := Bits))) ⟨m, fun _ => 0, g⟩ (fun r => (∀ c : Dev Cert.RmsFwd.nD,
      r.2.mem ((c.tc : Thread Cert.RmsFwd.nD Cert.RmsFwd.τ).loc Cert.RmsFwd.main_arg0) = m ((c.tc : Thread Cert.RmsFwd.nD Cert.RmsFwd.τ).loc Cert.RmsFwd.main_arg0)
      ∧ r.2.mem ((c.tc : Thread Cert.RmsFwd.nD Cert.RmsFwd.τ).loc Cert.RmsFwd.main_arg1) = m ((c.tc : Thread Cert.RmsFwd.nD Cert.RmsFwd.τ).loc Cert.RmsFwd.main_arg1))
      ∧ r.2.sem = fun _ => 0)

def quiescent_RmsFwdIdeal [hRmsFwdIdeal : Cert.RmsFwdIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg), Pre_RmsFwdIdeal m →
    θ_run (Cert.RmsFwdIdeal.defs (F := Ideal)) (onTc (τ := Cert.RmsFwdIdeal.τ) (Cert.RmsFwdIdeal.main (F := Ideal))) ⟨m, fun _ => 0, g⟩ (fun r => (∀ c : Dev Cert.RmsFwdIdeal.nD,
      r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
      ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ r.2.sem = fun _ => 0)

def quiescent_RmsFwdRefIdeal [hRmsFwdRefIdeal : Cert.RmsFwdRefIdeal.Facts] : Prop :=
  ∀ (m : (ℓ : Loc Cert.RmsFwdRefIdeal.nD Cert.RmsFwdRefIdeal.τ Cert.RmsFwdRefIdeal.sig) → Buf (Elt Ideal) ℓ) (g : Dev Cert.RmsFwdRefIdeal.nD → PrngReg), Pre_RmsFwdRefIdeal m →
    θ_run (Cert.RmsFwdRefIdeal.defs (F := Ideal)) (onTc (τ := Cert.RmsFwdRefIdeal.τ) (Cert.RmsFwdRefIdeal.main (F := Ideal))) ⟨m, fun _ => 0, g⟩ (fun r => (∀ c : Dev Cert.RmsFwdRefIdeal.nD,
      r.2.mem ((c.tc : Thread Cert.RmsFwdRefIdeal.nD Cert.RmsFwdRefIdeal.τ).loc Cert.RmsFwdRefIdeal.main_arg0) = m ((c.tc : Thread Cert.RmsFwdRefIdeal.nD Cert.RmsFwdRefIdeal.τ).loc Cert.RmsFwdRefIdeal.main_arg0)
      ∧ r.2.mem ((c.tc : Thread Cert.RmsFwdRefIdeal.nD Cert.RmsFwdRefIdeal.τ).loc Cert.RmsFwdRefIdeal.main_arg1) = m ((c.tc : Thread Cert.RmsFwdRefIdeal.nD Cert.RmsFwdRefIdeal.τ).loc Cert.RmsFwdRefIdeal.main_arg1))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ r.2.sem = fun _ => 0)

def quiescent_LossHeadRefIdeal [hLossHeadRefIdeal : Cert.LossHeadRefIdeal.Facts] : Prop :=
  ∀ (m : (ℓ : Loc Cert.LossHeadRefIdeal.nD Cert.LossHeadRefIdeal.τ Cert.LossHeadRefIdeal.sig) → Buf (Elt Ideal) ℓ) (g : Dev Cert.LossHeadRefIdeal.nD → PrngReg), Pre_LossHeadRefIdeal m →
    θ_run (Cert.LossHeadRefIdeal.defs (F := Ideal)) (onTc (τ := Cert.LossHeadRefIdeal.τ) (Cert.LossHeadRefIdeal.main (F := Ideal))) ⟨m, fun _ => 0, g⟩ (fun r => (∀ c : Dev Cert.LossHeadRefIdeal.nD,
      r.2.mem ((c.tc : Thread Cert.LossHeadRefIdeal.nD Cert.LossHeadRefIdeal.τ).loc Cert.LossHeadRefIdeal.main_arg0) = m ((c.tc : Thread Cert.LossHeadRefIdeal.nD Cert.LossHeadRefIdeal.τ).loc Cert.LossHeadRefIdeal.main_arg0)
      ∧ r.2.mem ((c.tc : Thread Cert.LossHeadRefIdeal.nD Cert.LossHeadRefIdeal.τ).loc Cert.LossHeadRefIdeal.main_arg1) = m ((c.tc : Thread Cert.LossHeadRefIdeal.nD Cert.LossHeadRefIdeal.τ).loc Cert.LossHeadRefIdeal.main_arg1)
      ∧ r.2.mem ((c.tc : Thread Cert.LossHeadRefIdeal.nD Cert.LossHeadRefIdeal.τ).loc Cert.LossHeadRefIdeal.main_arg2) = m ((c.tc : Thread Cert.LossHeadRefIdeal.nD Cert.LossHeadRefIdeal.τ).loc Cert.LossHeadRefIdeal.main_arg2))
      ∧ r.2.sem = fun _ => 0)

def quiescent_Hgrn [hHgrn : Cert.Hgrn.Facts] : Prop :=
  ∀ (m : (ℓ : Loc Cert.Hgrn.nD Cert.Hgrn.τ Cert.Hgrn.sig) → Buf (Elt Bits) ℓ) (g : Dev Cert.Hgrn.nD → PrngReg), Pre_Hgrn m →
    θ_run (Cert.Hgrn.defs (F := Bits)) (onTc (τ := Cert.Hgrn.τ) (Cert.Hgrn.main (F := Bits))) ⟨m, fun _ => 0, g⟩ (fun r => (∀ c : Dev Cert.Hgrn.nD,
      r.2.mem ((c.tc : Thread Cert.Hgrn.nD Cert.Hgrn.τ).loc Cert.Hgrn.main_arg0) = m ((c.tc : Thread Cert.Hgrn.nD Cert.Hgrn.τ).loc Cert.Hgrn.main_arg0)
      ∧ r.2.mem ((c.tc : Thread Cert.Hgrn.nD Cert.Hgrn.τ).loc Cert.Hgrn.main_arg1) = m ((c.tc : Thread Cert.Hgrn.nD Cert.Hgrn.τ).loc Cert.Hgrn.main_arg1)
      ∧ r.2.mem ((c.tc : Thread Cert.Hgrn.nD Cert.Hgrn.τ).loc Cert.Hgrn.main_arg2) = m ((c.tc : Thread Cert.Hgrn.nD Cert.Hgrn.τ).loc Cert.Hgrn.main_arg2)
      ∧ r.2.mem ((c.tc : Thread Cert.Hgrn.nD Cert.Hgrn.τ).loc Cert.Hgrn.main_arg3) = m ((c.tc : Thread Cert.Hgrn.nD Cert.Hgrn.τ).loc Cert.Hgrn.main_arg3)
      ∧ r.2.mem ((c.tc : Thread Cert.Hgrn.nD Cert.Hgrn.τ).loc Cert.Hgrn.main_arg4) = m ((c.tc : Thread Cert.Hgrn.nD Cert.Hgrn.τ).loc Cert.Hgrn.main_arg4)
      ∧ r.2.mem ((c.tc : Thread Cert.Hgrn.nD Cert.Hgrn.τ).loc Cert.Hgrn.main_arg5) = m ((c.tc : Thread Cert.Hgrn.nD Cert.Hgrn.τ).loc Cert.Hgrn.main_arg5)
      ∧ r.2.mem ((c.tc : Thread Cert.Hgrn.nD Cert.Hgrn.τ).loc Cert.Hgrn.main_arg6) = m ((c.tc : Thread Cert.Hgrn.nD Cert.Hgrn.τ).loc Cert.Hgrn.main_arg6))
      ∧ r.2.sem = fun _ => 0)

def quiescent_HgrnIdeal [hHgrnIdeal : Cert.HgrnIdeal.Facts] : Prop :=
  ∀ (m : (ℓ : Loc Cert.HgrnIdeal.nD Cert.HgrnIdeal.τ Cert.HgrnIdeal.sig) → Buf (Elt Ideal) ℓ) (g : Dev Cert.HgrnIdeal.nD → PrngReg), Pre_HgrnIdeal m →
    θ_run (Cert.HgrnIdeal.defs (F := Ideal)) (onTc (τ := Cert.HgrnIdeal.τ) (Cert.HgrnIdeal.main (F := Ideal))) ⟨m, fun _ => 0, g⟩ (fun r => (∀ c : Dev Cert.HgrnIdeal.nD,
      r.2.mem ((c.tc : Thread Cert.HgrnIdeal.nD Cert.HgrnIdeal.τ).loc Cert.HgrnIdeal.main_arg0) = m ((c.tc : Thread Cert.HgrnIdeal.nD Cert.HgrnIdeal.τ).loc Cert.HgrnIdeal.main_arg0)
      ∧ r.2.mem ((c.tc : Thread Cert.HgrnIdeal.nD Cert.HgrnIdeal.τ).loc Cert.HgrnIdeal.main_arg1) = m ((c.tc : Thread Cert.HgrnIdeal.nD Cert.HgrnIdeal.τ).loc Cert.HgrnIdeal.main_arg1)
      ∧ r.2.mem ((c.tc : Thread Cert.HgrnIdeal.nD Cert.HgrnIdeal.τ).loc Cert.HgrnIdeal.main_arg2) = m ((c.tc : Thread Cert.HgrnIdeal.nD Cert.HgrnIdeal.τ).loc Cert.HgrnIdeal.main_arg2)
      ∧ r.2.mem ((c.tc : Thread Cert.HgrnIdeal.nD Cert.HgrnIdeal.τ).loc Cert.HgrnIdeal.main_arg3) = m ((c.tc : Thread Cert.HgrnIdeal.nD Cert.HgrnIdeal.τ).loc Cert.HgrnIdeal.main_arg3)
      ∧ r.2.mem ((c.tc : Thread Cert.HgrnIdeal.nD Cert.HgrnIdeal.τ).loc Cert.HgrnIdeal.main_arg4) = m ((c.tc : Thread Cert.HgrnIdeal.nD Cert.HgrnIdeal.τ).loc Cert.HgrnIdeal.main_arg4)
      ∧ r.2.mem ((c.tc : Thread Cert.HgrnIdeal.nD Cert.HgrnIdeal.τ).loc Cert.HgrnIdeal.main_arg5) = m ((c.tc : Thread Cert.HgrnIdeal.nD Cert.HgrnIdeal.τ).loc Cert.HgrnIdeal.main_arg5)
      ∧ r.2.mem ((c.tc : Thread Cert.HgrnIdeal.nD Cert.HgrnIdeal.τ).loc Cert.HgrnIdeal.main_arg6) = m ((c.tc : Thread Cert.HgrnIdeal.nD Cert.HgrnIdeal.τ).loc Cert.HgrnIdeal.main_arg6))
      ∧ r.2.sem = fun _ => 0)

def preserves_Ff2Dgrad_Ff2DgradIdeal : Prop :=
  True

def algebraic_Ff2DgradIdeal_Ff2DgradRefIdeal [hFf2DgradIdeal : Cert.Ff2DgradIdeal.Facts] [hFf2DgradRefIdeal : Cert.Ff2DgradRefIdeal.Facts] : Prop :=
  ∀ (m : (ℓ : Loc Cert.Ff2DgradIdeal.nD Cert.Ff2DgradIdeal.τ Cert.Ff2DgradIdeal.sig) → Buf (Elt Ideal) ℓ) (g : Dev Cert.Ff2DgradIdeal.nD → PrngReg)
    (m' : (ℓ : Loc Cert.Ff2DgradRefIdeal.nD Cert.Ff2DgradRefIdeal.τ Cert.Ff2DgradRefIdeal.sig) → Buf (Elt Ideal) ℓ) (g' : Dev Cert.Ff2DgradRefIdeal.nD → PrngReg), Pre_Ff2DgradIdeal m →
    (∀ c : Dev Cert.Ff2DgradIdeal.nD,
      m' ((c.tc : Thread Cert.Ff2DgradRefIdeal.nD Cert.Ff2DgradRefIdeal.τ).loc Cert.Ff2DgradRefIdeal.main_arg0) = m ((c.tc : Thread Cert.Ff2DgradIdeal.nD Cert.Ff2DgradIdeal.τ).loc Cert.Ff2DgradIdeal.main_arg0)
      ∧ m' ((c.tc : Thread Cert.Ff2DgradRefIdeal.nD Cert.Ff2DgradRefIdeal.τ).loc Cert.Ff2DgradRefIdeal.main_arg1) = m ((c.tc : Thread Cert.Ff2DgradIdeal.nD Cert.Ff2DgradIdeal.τ).loc Cert.Ff2DgradIdeal.main_arg1)
      ∧ m' ((c.tc : Thread Cert.Ff2DgradRefIdeal.nD Cert.Ff2DgradRefIdeal.τ).loc Cert.Ff2DgradRefIdeal.main_arg2) = m ((c.tc : Thread Cert.Ff2DgradIdeal.nD Cert.Ff2DgradIdeal.τ).loc Cert.Ff2DgradIdeal.main_arg2)) →
    ∃ (v0 : (c : Dev Cert.Ff2DgradIdeal.nD) → Buf (Elt Ideal) ((c.tc : Thread Cert.Ff2DgradIdeal.nD Cert.Ff2DgradIdeal.τ).loc Cert.Ff2DgradIdeal.main_v6)),
      θ_run (Cert.Ff2DgradIdeal.defs (F := Ideal)) (onTc (τ := Cert.Ff2DgradIdeal.τ) (Cert.Ff2DgradIdeal.main (F := Ideal))) ⟨m, fun _ => 0, g⟩ (fun r => ∀ c : Dev Cert.Ff2DgradIdeal.nD,
          r.2.mem ((c.tc : Thread Cert.Ff2DgradIdeal.nD Cert.Ff2DgradIdeal.τ).loc Cert.Ff2DgradIdeal.main_v6) = v0 c
          ∧ r.2.mem ((c.tc : Thread Cert.Ff2DgradIdeal.nD Cert.Ff2DgradIdeal.τ).loc Cert.Ff2DgradIdeal.main_arg0) = m ((c.tc : Thread Cert.Ff2DgradIdeal.nD Cert.Ff2DgradIdeal.τ).loc Cert.Ff2DgradIdeal.main_arg0)
          ∧ r.2.mem ((c.tc : Thread Cert.Ff2DgradIdeal.nD Cert.Ff2DgradIdeal.τ).loc Cert.Ff2DgradIdeal.main_arg1) = m ((c.tc : Thread Cert.Ff2DgradIdeal.nD Cert.Ff2DgradIdeal.τ).loc Cert.Ff2DgradIdeal.main_arg1)
          ∧ r.2.mem ((c.tc : Thread Cert.Ff2DgradIdeal.nD Cert.Ff2DgradIdeal.τ).loc Cert.Ff2DgradIdeal.main_arg2) = m ((c.tc : Thread Cert.Ff2DgradIdeal.nD Cert.Ff2DgradIdeal.τ).loc Cert.Ff2DgradIdeal.main_arg2))
      ∧ θ_run (Cert.Ff2DgradRefIdeal.defs (F := Ideal)) (onTc (τ := Cert.Ff2DgradRefIdeal.τ) (Cert.Ff2DgradRefIdeal.main (F := Ideal))) ⟨m', fun _ => 0, g'⟩ (fun r => ∀ c : Dev Cert.Ff2DgradRefIdeal.nD,
          r.2.mem ((c.tc : Thread Cert.Ff2DgradRefIdeal.nD Cert.Ff2DgradRefIdeal.τ).loc Cert.Ff2DgradRefIdeal.main_v12) = v0 c
          ∧ r.2.mem ((c.tc : Thread Cert.Ff2DgradRefIdeal.nD Cert.Ff2DgradRefIdeal.τ).loc Cert.Ff2DgradRefIdeal.main_arg0) = m' ((c.tc : Thread Cert.Ff2DgradRefIdeal.nD Cert.Ff2DgradRefIdeal.τ).loc Cert.Ff2DgradRefIdeal.main_arg0)
          ∧ r.2.mem ((c.tc : Thread Cert.Ff2DgradRefIdeal.nD Cert.Ff2DgradRefIdeal.τ).loc Cert.Ff2DgradRefIdeal.main_arg1) = m' ((c.tc : Thread Cert.Ff2DgradRefIdeal.nD Cert.Ff2DgradRefIdeal.τ).loc Cert.Ff2DgradRefIdeal.main_arg1)
          ∧ r.2.mem ((c.tc : Thread Cert.Ff2DgradRefIdeal.nD Cert.Ff2DgradRefIdeal.τ).loc Cert.Ff2DgradRefIdeal.main_arg2) = m' ((c.tc : Thread Cert.Ff2DgradRefIdeal.nD Cert.Ff2DgradRefIdeal.τ).loc Cert.Ff2DgradRefIdeal.main_arg2))

def preserves_Ff2Wgrad_Ff2WgradIdeal : Prop :=
  True

def algebraic_Ff2WgradIdeal_Ff2WgradRefIdeal [hFf2WgradIdeal : Cert.Ff2WgradIdeal.Facts] [hFf2WgradRefIdeal : Cert.Ff2WgradRefIdeal.Facts] : Prop :=
  ∀ (m : (ℓ : Loc Cert.Ff2WgradIdeal.nD Cert.Ff2WgradIdeal.τ Cert.Ff2WgradIdeal.sig) → Buf (Elt Ideal) ℓ) (g : Dev Cert.Ff2WgradIdeal.nD → PrngReg)
    (m' : (ℓ : Loc Cert.Ff2WgradRefIdeal.nD Cert.Ff2WgradRefIdeal.τ Cert.Ff2WgradRefIdeal.sig) → Buf (Elt Ideal) ℓ) (g' : Dev Cert.Ff2WgradRefIdeal.nD → PrngReg), Pre_Ff2WgradIdeal m →
    (∀ c : Dev Cert.Ff2WgradIdeal.nD,
      m' ((c.tc : Thread Cert.Ff2WgradRefIdeal.nD Cert.Ff2WgradRefIdeal.τ).loc Cert.Ff2WgradRefIdeal.main_arg0) = m ((c.tc : Thread Cert.Ff2WgradIdeal.nD Cert.Ff2WgradIdeal.τ).loc Cert.Ff2WgradIdeal.main_arg0)
      ∧ m' ((c.tc : Thread Cert.Ff2WgradRefIdeal.nD Cert.Ff2WgradRefIdeal.τ).loc Cert.Ff2WgradRefIdeal.main_arg1) = m ((c.tc : Thread Cert.Ff2WgradIdeal.nD Cert.Ff2WgradIdeal.τ).loc Cert.Ff2WgradIdeal.main_arg1)
      ∧ m' ((c.tc : Thread Cert.Ff2WgradRefIdeal.nD Cert.Ff2WgradRefIdeal.τ).loc Cert.Ff2WgradRefIdeal.main_arg2) = m ((c.tc : Thread Cert.Ff2WgradIdeal.nD Cert.Ff2WgradIdeal.τ).loc Cert.Ff2WgradIdeal.main_arg2)) →
    ∃ (v0 : (c : Dev Cert.Ff2WgradIdeal.nD) → Buf (Elt Ideal) ((c.tc : Thread Cert.Ff2WgradIdeal.nD Cert.Ff2WgradIdeal.τ).loc Cert.Ff2WgradIdeal.main_v3)),
      θ_run (Cert.Ff2WgradIdeal.defs (F := Ideal)) (onTc (τ := Cert.Ff2WgradIdeal.τ) (Cert.Ff2WgradIdeal.main (F := Ideal))) ⟨m, fun _ => 0, g⟩ (fun r => ∀ c : Dev Cert.Ff2WgradIdeal.nD,
          r.2.mem ((c.tc : Thread Cert.Ff2WgradIdeal.nD Cert.Ff2WgradIdeal.τ).loc Cert.Ff2WgradIdeal.main_v3) = v0 c
          ∧ r.2.mem ((c.tc : Thread Cert.Ff2WgradIdeal.nD Cert.Ff2WgradIdeal.τ).loc Cert.Ff2WgradIdeal.main_arg0) = m ((c.tc : Thread Cert.Ff2WgradIdeal.nD Cert.Ff2WgradIdeal.τ).loc Cert.Ff2WgradIdeal.main_arg0)
          ∧ r.2.mem ((c.tc : Thread Cert.Ff2WgradIdeal.nD Cert.Ff2WgradIdeal.τ).loc Cert.Ff2WgradIdeal.main_arg1) = m ((c.tc : Thread Cert.Ff2WgradIdeal.nD Cert.Ff2WgradIdeal.τ).loc Cert.Ff2WgradIdeal.main_arg1)
          ∧ r.2.mem ((c.tc : Thread Cert.Ff2WgradIdeal.nD Cert.Ff2WgradIdeal.τ).loc Cert.Ff2WgradIdeal.main_arg2) = m ((c.tc : Thread Cert.Ff2WgradIdeal.nD Cert.Ff2WgradIdeal.τ).loc Cert.Ff2WgradIdeal.main_arg2))
      ∧ θ_run (Cert.Ff2WgradRefIdeal.defs (F := Ideal)) (onTc (τ := Cert.Ff2WgradRefIdeal.τ) (Cert.Ff2WgradRefIdeal.main (F := Ideal))) ⟨m', fun _ => 0, g'⟩ (fun r => ∀ c : Dev Cert.Ff2WgradRefIdeal.nD,
          r.2.mem ((c.tc : Thread Cert.Ff2WgradRefIdeal.nD Cert.Ff2WgradRefIdeal.τ).loc Cert.Ff2WgradRefIdeal.main_v5) = v0 c
          ∧ r.2.mem ((c.tc : Thread Cert.Ff2WgradRefIdeal.nD Cert.Ff2WgradRefIdeal.τ).loc Cert.Ff2WgradRefIdeal.main_arg0) = m' ((c.tc : Thread Cert.Ff2WgradRefIdeal.nD Cert.Ff2WgradRefIdeal.τ).loc Cert.Ff2WgradRefIdeal.main_arg0)
          ∧ r.2.mem ((c.tc : Thread Cert.Ff2WgradRefIdeal.nD Cert.Ff2WgradRefIdeal.τ).loc Cert.Ff2WgradRefIdeal.main_arg1) = m' ((c.tc : Thread Cert.Ff2WgradRefIdeal.nD Cert.Ff2WgradRefIdeal.τ).loc Cert.Ff2WgradRefIdeal.main_arg1)
          ∧ r.2.mem ((c.tc : Thread Cert.Ff2WgradRefIdeal.nD Cert.Ff2WgradRefIdeal.τ).loc Cert.Ff2WgradRefIdeal.main_arg2) = m' ((c.tc : Thread Cert.Ff2WgradRefIdeal.nD Cert.Ff2WgradRefIdeal.τ).loc Cert.Ff2WgradRefIdeal.main_arg2))

def preserves_Ff1Dgrad_Ff1DgradIdeal : Prop :=
  True

def algebraic_Ff1DgradIdeal_Ff1DgradRefIdeal [hFf1DgradIdeal : Cert.Ff1DgradIdeal.Facts] [hFf1DgradRefIdeal : Cert.Ff1DgradRefIdeal.Facts] : Prop :=
  ∀ (m : (ℓ : Loc Cert.Ff1DgradIdeal.nD Cert.Ff1DgradIdeal.τ Cert.Ff1DgradIdeal.sig) → Buf (Elt Ideal) ℓ) (g : Dev Cert.Ff1DgradIdeal.nD → PrngReg)
    (m' : (ℓ : Loc Cert.Ff1DgradRefIdeal.nD Cert.Ff1DgradRefIdeal.τ Cert.Ff1DgradRefIdeal.sig) → Buf (Elt Ideal) ℓ) (g' : Dev Cert.Ff1DgradRefIdeal.nD → PrngReg), Pre_Ff1DgradIdeal m →
    (∀ c : Dev Cert.Ff1DgradIdeal.nD,
      m' ((c.tc : Thread Cert.Ff1DgradRefIdeal.nD Cert.Ff1DgradRefIdeal.τ).loc Cert.Ff1DgradRefIdeal.main_arg0) = m ((c.tc : Thread Cert.Ff1DgradIdeal.nD Cert.Ff1DgradIdeal.τ).loc Cert.Ff1DgradIdeal.main_arg0)
      ∧ m' ((c.tc : Thread Cert.Ff1DgradRefIdeal.nD Cert.Ff1DgradRefIdeal.τ).loc Cert.Ff1DgradRefIdeal.main_arg1) = m ((c.tc : Thread Cert.Ff1DgradIdeal.nD Cert.Ff1DgradIdeal.τ).loc Cert.Ff1DgradIdeal.main_arg1)
      ∧ m' ((c.tc : Thread Cert.Ff1DgradRefIdeal.nD Cert.Ff1DgradRefIdeal.τ).loc Cert.Ff1DgradRefIdeal.main_arg2) = m ((c.tc : Thread Cert.Ff1DgradIdeal.nD Cert.Ff1DgradIdeal.τ).loc Cert.Ff1DgradIdeal.main_arg2)
      ∧ m' ((c.tc : Thread Cert.Ff1DgradRefIdeal.nD Cert.Ff1DgradRefIdeal.τ).loc Cert.Ff1DgradRefIdeal.main_arg3) = m ((c.tc : Thread Cert.Ff1DgradIdeal.nD Cert.Ff1DgradIdeal.τ).loc Cert.Ff1DgradIdeal.main_arg3)
      ∧ m' ((c.tc : Thread Cert.Ff1DgradRefIdeal.nD Cert.Ff1DgradRefIdeal.τ).loc Cert.Ff1DgradRefIdeal.main_arg4) = m ((c.tc : Thread Cert.Ff1DgradIdeal.nD Cert.Ff1DgradIdeal.τ).loc Cert.Ff1DgradIdeal.main_arg4)) →
    ∃ (v0 : (c : Dev Cert.Ff1DgradIdeal.nD) → Buf (Elt Ideal) ((c.tc : Thread Cert.Ff1DgradIdeal.nD Cert.Ff1DgradIdeal.τ).loc Cert.Ff1DgradIdeal.main_v4_0)) (v1 : (c : Dev Cert.Ff1DgradIdeal.nD) → Buf (Elt Ideal) ((c.tc : Thread Cert.Ff1DgradIdeal.nD Cert.Ff1DgradIdeal.τ).loc Cert.Ff1DgradIdeal.main_v4_1)),
      θ_run (Cert.Ff1DgradIdeal.defs (F := Ideal)) (onTc (τ := Cert.Ff1DgradIdeal.τ) (Cert.Ff1DgradIdeal.main (F := Ideal))) ⟨m, fun _ => 0, g⟩ (fun r => ∀ c : Dev Cert.Ff1DgradIdeal.nD,
          r.2.mem ((c.tc : Thread Cert.Ff1DgradIdeal.nD Cert.Ff1DgradIdeal.τ).loc Cert.Ff1DgradIdeal.main_v4_0) = v0 c
          ∧ r.2.mem ((c.tc : Thread Cert.Ff1DgradIdeal.nD Cert.Ff1DgradIdeal.τ).loc Cert.Ff1DgradIdeal.main_v4_1) = v1 c
          ∧ r.2.mem ((c.tc : Thread Cert.Ff1DgradIdeal.nD Cert.Ff1DgradIdeal.τ).loc Cert.Ff1DgradIdeal.main_arg0) = m ((c.tc : Thread Cert.Ff1DgradIdeal.nD Cert.Ff1DgradIdeal.τ).loc Cert.Ff1DgradIdeal.main_arg0)
          ∧ r.2.mem ((c.tc : Thread Cert.Ff1DgradIdeal.nD Cert.Ff1DgradIdeal.τ).loc Cert.Ff1DgradIdeal.main_arg1) = m ((c.tc : Thread Cert.Ff1DgradIdeal.nD Cert.Ff1DgradIdeal.τ).loc Cert.Ff1DgradIdeal.main_arg1)
          ∧ r.2.mem ((c.tc : Thread Cert.Ff1DgradIdeal.nD Cert.Ff1DgradIdeal.τ).loc Cert.Ff1DgradIdeal.main_arg2) = m ((c.tc : Thread Cert.Ff1DgradIdeal.nD Cert.Ff1DgradIdeal.τ).loc Cert.Ff1DgradIdeal.main_arg2)
          ∧ r.2.mem ((c.tc : Thread Cert.Ff1DgradIdeal.nD Cert.Ff1DgradIdeal.τ).loc Cert.Ff1DgradIdeal.main_arg3) = m ((c.tc : Thread Cert.Ff1DgradIdeal.nD Cert.Ff1DgradIdeal.τ).loc Cert.Ff1DgradIdeal.main_arg3)
          ∧ r.2.mem ((c.tc : Thread Cert.Ff1DgradIdeal.nD Cert.Ff1DgradIdeal.τ).loc Cert.Ff1DgradIdeal.main_arg4) = m ((c.tc : Thread Cert.Ff1DgradIdeal.nD Cert.Ff1DgradIdeal.τ).loc Cert.Ff1DgradIdeal.main_arg4))
      ∧ θ_run (Cert.Ff1DgradRefIdeal.defs (F := Ideal)) (onTc (τ := Cert.Ff1DgradRefIdeal.τ) (Cert.Ff1DgradRefIdeal.main (F := Ideal))) ⟨m', fun _ => 0, g'⟩ (fun r => ∀ c : Dev Cert.Ff1DgradRefIdeal.nD,
          r.2.mem ((c.tc : Thread Cert.Ff1DgradRefIdeal.nD Cert.Ff1DgradRefIdeal.τ).loc Cert.Ff1DgradRefIdeal.main_v36) = v0 c
          ∧ r.2.mem ((c.tc : Thread Cert.Ff1DgradRefIdeal.nD Cert.Ff1DgradRefIdeal.τ).loc Cert.Ff1DgradRefIdeal.main_v38) = v1 c
          ∧ r.2.mem ((c.tc : Thread Cert.Ff1DgradRefIdeal.nD Cert.Ff1DgradRefIdeal.τ).loc Cert.Ff1DgradRefIdeal.main_arg0) = m' ((c.tc : Thread Cert.Ff1DgradRefIdeal.nD Cert.Ff1DgradRefIdeal.τ).loc Cert.Ff1DgradRefIdeal.main_arg0)
          ∧ r.2.mem ((c.tc : Thread Cert.Ff1DgradRefIdeal.nD Cert.Ff1DgradRefIdeal.τ).loc Cert.Ff1DgradRefIdeal.main_arg1) = m' ((c.tc : Thread Cert.Ff1DgradRefIdeal.nD Cert.Ff1DgradRefIdeal.τ).loc Cert.Ff1DgradRefIdeal.main_arg1)
          ∧ r.2.mem ((c.tc : Thread Cert.Ff1DgradRefIdeal.nD Cert.Ff1DgradRefIdeal.τ).loc Cert.Ff1DgradRefIdeal.main_arg2) = m' ((c.tc : Thread Cert.Ff1DgradRefIdeal.nD Cert.Ff1DgradRefIdeal.τ).loc Cert.Ff1DgradRefIdeal.main_arg2)
          ∧ r.2.mem ((c.tc : Thread Cert.Ff1DgradRefIdeal.nD Cert.Ff1DgradRefIdeal.τ).loc Cert.Ff1DgradRefIdeal.main_arg3) = m' ((c.tc : Thread Cert.Ff1DgradRefIdeal.nD Cert.Ff1DgradRefIdeal.τ).loc Cert.Ff1DgradRefIdeal.main_arg3)
          ∧ r.2.mem ((c.tc : Thread Cert.Ff1DgradRefIdeal.nD Cert.Ff1DgradRefIdeal.τ).loc Cert.Ff1DgradRefIdeal.main_arg4) = m' ((c.tc : Thread Cert.Ff1DgradRefIdeal.nD Cert.Ff1DgradRefIdeal.τ).loc Cert.Ff1DgradRefIdeal.main_arg4))

def preserves_Ff1Wgrad_Ff1WgradIdeal : Prop :=
  True

def algebraic_Ff1WgradIdeal_Ff1WgradRefIdeal [hFf1WgradIdeal : Cert.Ff1WgradIdeal.Facts] [hFf1WgradRefIdeal : Cert.Ff1WgradRefIdeal.Facts] : Prop :=
  ∀ (m : (ℓ : Loc Cert.Ff1WgradIdeal.nD Cert.Ff1WgradIdeal.τ Cert.Ff1WgradIdeal.sig) → Buf (Elt Ideal) ℓ) (g : Dev Cert.Ff1WgradIdeal.nD → PrngReg)
    (m' : (ℓ : Loc Cert.Ff1WgradRefIdeal.nD Cert.Ff1WgradRefIdeal.τ Cert.Ff1WgradRefIdeal.sig) → Buf (Elt Ideal) ℓ) (g' : Dev Cert.Ff1WgradRefIdeal.nD → PrngReg), Pre_Ff1WgradIdeal m →
    (∀ c : Dev Cert.Ff1WgradIdeal.nD,
      m' ((c.tc : Thread Cert.Ff1WgradRefIdeal.nD Cert.Ff1WgradRefIdeal.τ).loc Cert.Ff1WgradRefIdeal.main_arg0) = m ((c.tc : Thread Cert.Ff1WgradIdeal.nD Cert.Ff1WgradIdeal.τ).loc Cert.Ff1WgradIdeal.main_arg0)
      ∧ m' ((c.tc : Thread Cert.Ff1WgradRefIdeal.nD Cert.Ff1WgradRefIdeal.τ).loc Cert.Ff1WgradRefIdeal.main_arg1) = m ((c.tc : Thread Cert.Ff1WgradIdeal.nD Cert.Ff1WgradIdeal.τ).loc Cert.Ff1WgradIdeal.main_arg1)
      ∧ m' ((c.tc : Thread Cert.Ff1WgradRefIdeal.nD Cert.Ff1WgradRefIdeal.τ).loc Cert.Ff1WgradRefIdeal.main_arg2) = m ((c.tc : Thread Cert.Ff1WgradIdeal.nD Cert.Ff1WgradIdeal.τ).loc Cert.Ff1WgradIdeal.main_arg2)) →
    ∃ (v0 : (c : Dev Cert.Ff1WgradIdeal.nD) → Buf (Elt Ideal) ((c.tc : Thread Cert.Ff1WgradIdeal.nD Cert.Ff1WgradIdeal.τ).loc Cert.Ff1WgradIdeal.main_v2)),
      θ_run (Cert.Ff1WgradIdeal.defs (F := Ideal)) (onTc (τ := Cert.Ff1WgradIdeal.τ) (Cert.Ff1WgradIdeal.main (F := Ideal))) ⟨m, fun _ => 0, g⟩ (fun r => ∀ c : Dev Cert.Ff1WgradIdeal.nD,
          r.2.mem ((c.tc : Thread Cert.Ff1WgradIdeal.nD Cert.Ff1WgradIdeal.τ).loc Cert.Ff1WgradIdeal.main_v2) = v0 c
          ∧ r.2.mem ((c.tc : Thread Cert.Ff1WgradIdeal.nD Cert.Ff1WgradIdeal.τ).loc Cert.Ff1WgradIdeal.main_arg0) = m ((c.tc : Thread Cert.Ff1WgradIdeal.nD Cert.Ff1WgradIdeal.τ).loc Cert.Ff1WgradIdeal.main_arg0)
          ∧ r.2.mem ((c.tc : Thread Cert.Ff1WgradIdeal.nD Cert.Ff1WgradIdeal.τ).loc Cert.Ff1WgradIdeal.main_arg1) = m ((c.tc : Thread Cert.Ff1WgradIdeal.nD Cert.Ff1WgradIdeal.τ).loc Cert.Ff1WgradIdeal.main_arg1)
          ∧ r.2.mem ((c.tc : Thread Cert.Ff1WgradIdeal.nD Cert.Ff1WgradIdeal.τ).loc Cert.Ff1WgradIdeal.main_arg2) = m ((c.tc : Thread Cert.Ff1WgradIdeal.nD Cert.Ff1WgradIdeal.τ).loc Cert.Ff1WgradIdeal.main_arg2))
      ∧ θ_run (Cert.Ff1WgradRefIdeal.defs (F := Ideal)) (onTc (τ := Cert.Ff1WgradRefIdeal.τ) (Cert.Ff1WgradRefIdeal.main (F := Ideal))) ⟨m', fun _ => 0, g'⟩ (fun r => ∀ c : Dev Cert.Ff1WgradRefIdeal.nD,
          r.2.mem ((c.tc : Thread Cert.Ff1WgradRefIdeal.nD Cert.Ff1WgradRefIdeal.τ).loc Cert.Ff1WgradRefIdeal.main_v4) = v0 c
          ∧ r.2.mem ((c.tc : Thread Cert.Ff1WgradRefIdeal.nD Cert.Ff1WgradRefIdeal.τ).loc Cert.Ff1WgradRefIdeal.main_arg0) = m' ((c.tc : Thread Cert.Ff1WgradRefIdeal.nD Cert.Ff1WgradRefIdeal.τ).loc Cert.Ff1WgradRefIdeal.main_arg0)
          ∧ r.2.mem ((c.tc : Thread Cert.Ff1WgradRefIdeal.nD Cert.Ff1WgradRefIdeal.τ).loc Cert.Ff1WgradRefIdeal.main_arg1) = m' ((c.tc : Thread Cert.Ff1WgradRefIdeal.nD Cert.Ff1WgradRefIdeal.τ).loc Cert.Ff1WgradRefIdeal.main_arg1)
          ∧ r.2.mem ((c.tc : Thread Cert.Ff1WgradRefIdeal.nD Cert.Ff1WgradRefIdeal.τ).loc Cert.Ff1WgradRefIdeal.main_arg2) = m' ((c.tc : Thread Cert.Ff1WgradRefIdeal.nD Cert.Ff1WgradRefIdeal.τ).loc Cert.Ff1WgradRefIdeal.main_arg2))

def preserves_OutDgrad_OutDgradIdeal : Prop :=
  True

def algebraic_OutDgradIdeal_OutDgradRefIdeal [hOutDgradIdeal : Cert.OutDgradIdeal.Facts] [hOutDgradRefIdeal : Cert.OutDgradRefIdeal.Facts] : Prop :=
  ∀ (m : (ℓ : Loc Cert.OutDgradIdeal.nD Cert.OutDgradIdeal.τ Cert.OutDgradIdeal.sig) → Buf (Elt Ideal) ℓ) (g : Dev Cert.OutDgradIdeal.nD → PrngReg)
    (m' : (ℓ : Loc Cert.OutDgradRefIdeal.nD Cert.OutDgradRefIdeal.τ Cert.OutDgradRefIdeal.sig) → Buf (Elt Ideal) ℓ) (g' : Dev Cert.OutDgradRefIdeal.nD → PrngReg), Pre_OutDgradIdeal m →
    (∀ c : Dev Cert.OutDgradIdeal.nD,
      m' ((c.tc : Thread Cert.OutDgradRefIdeal.nD Cert.OutDgradRefIdeal.τ).loc Cert.OutDgradRefIdeal.main_arg0) = m ((c.tc : Thread Cert.OutDgradIdeal.nD Cert.OutDgradIdeal.τ).loc Cert.OutDgradIdeal.main_arg0)
      ∧ m' ((c.tc : Thread Cert.OutDgradRefIdeal.nD Cert.OutDgradRefIdeal.τ).loc Cert.OutDgradRefIdeal.main_arg1) = m ((c.tc : Thread Cert.OutDgradIdeal.nD Cert.OutDgradIdeal.τ).loc Cert.OutDgradIdeal.main_arg1)
      ∧ m' ((c.tc : Thread Cert.OutDgradRefIdeal.nD Cert.OutDgradRefIdeal.τ).loc Cert.OutDgradRefIdeal.main_arg2) = m ((c.tc : Thread Cert.OutDgradIdeal.nD Cert.OutDgradIdeal.τ).loc Cert.OutDgradIdeal.main_arg2)) →
    ∃ (v0 : (c : Dev Cert.OutDgradIdeal.nD) → Buf (Elt Ideal) ((c.tc : Thread Cert.OutDgradIdeal.nD Cert.OutDgradIdeal.τ).loc Cert.OutDgradIdeal.main_v3)),
      θ_run (Cert.OutDgradIdeal.defs (F := Ideal)) (onTc (τ := Cert.OutDgradIdeal.τ) (Cert.OutDgradIdeal.main (F := Ideal))) ⟨m, fun _ => 0, g⟩ (fun r => ∀ c : Dev Cert.OutDgradIdeal.nD,
          r.2.mem ((c.tc : Thread Cert.OutDgradIdeal.nD Cert.OutDgradIdeal.τ).loc Cert.OutDgradIdeal.main_v3) = v0 c
          ∧ r.2.mem ((c.tc : Thread Cert.OutDgradIdeal.nD Cert.OutDgradIdeal.τ).loc Cert.OutDgradIdeal.main_arg0) = m ((c.tc : Thread Cert.OutDgradIdeal.nD Cert.OutDgradIdeal.τ).loc Cert.OutDgradIdeal.main_arg0)
          ∧ r.2.mem ((c.tc : Thread Cert.OutDgradIdeal.nD Cert.OutDgradIdeal.τ).loc Cert.OutDgradIdeal.main_arg1) = m ((c.tc : Thread Cert.OutDgradIdeal.nD Cert.OutDgradIdeal.τ).loc Cert.OutDgradIdeal.main_arg1)
          ∧ r.2.mem ((c.tc : Thread Cert.OutDgradIdeal.nD Cert.OutDgradIdeal.τ).loc Cert.OutDgradIdeal.main_arg2) = m ((c.tc : Thread Cert.OutDgradIdeal.nD Cert.OutDgradIdeal.τ).loc Cert.OutDgradIdeal.main_arg2))
      ∧ θ_run (Cert.OutDgradRefIdeal.defs (F := Ideal)) (onTc (τ := Cert.OutDgradRefIdeal.τ) (Cert.OutDgradRefIdeal.main (F := Ideal))) ⟨m', fun _ => 0, g'⟩ (fun r => ∀ c : Dev Cert.OutDgradRefIdeal.nD,
          r.2.mem ((c.tc : Thread Cert.OutDgradRefIdeal.nD Cert.OutDgradRefIdeal.τ).loc Cert.OutDgradRefIdeal.main_v2) = v0 c
          ∧ r.2.mem ((c.tc : Thread Cert.OutDgradRefIdeal.nD Cert.OutDgradRefIdeal.τ).loc Cert.OutDgradRefIdeal.main_arg0) = m' ((c.tc : Thread Cert.OutDgradRefIdeal.nD Cert.OutDgradRefIdeal.τ).loc Cert.OutDgradRefIdeal.main_arg0)
          ∧ r.2.mem ((c.tc : Thread Cert.OutDgradRefIdeal.nD Cert.OutDgradRefIdeal.τ).loc Cert.OutDgradRefIdeal.main_arg1) = m' ((c.tc : Thread Cert.OutDgradRefIdeal.nD Cert.OutDgradRefIdeal.τ).loc Cert.OutDgradRefIdeal.main_arg1)
          ∧ r.2.mem ((c.tc : Thread Cert.OutDgradRefIdeal.nD Cert.OutDgradRefIdeal.τ).loc Cert.OutDgradRefIdeal.main_arg2) = m' ((c.tc : Thread Cert.OutDgradRefIdeal.nD Cert.OutDgradRefIdeal.τ).loc Cert.OutDgradRefIdeal.main_arg2))

def preserves_OutWgrad_OutWgradIdeal : Prop :=
  True

def algebraic_OutWgradIdeal_OutWgradRefIdeal [hOutWgradIdeal : Cert.OutWgradIdeal.Facts] [hOutWgradRefIdeal : Cert.OutWgradRefIdeal.Facts] : Prop :=
  ∀ (m : (ℓ : Loc Cert.OutWgradIdeal.nD Cert.OutWgradIdeal.τ Cert.OutWgradIdeal.sig) → Buf (Elt Ideal) ℓ) (g : Dev Cert.OutWgradIdeal.nD → PrngReg)
    (m' : (ℓ : Loc Cert.OutWgradRefIdeal.nD Cert.OutWgradRefIdeal.τ Cert.OutWgradRefIdeal.sig) → Buf (Elt Ideal) ℓ) (g' : Dev Cert.OutWgradRefIdeal.nD → PrngReg), Pre_OutWgradIdeal m →
    (∀ c : Dev Cert.OutWgradIdeal.nD,
      m' ((c.tc : Thread Cert.OutWgradRefIdeal.nD Cert.OutWgradRefIdeal.τ).loc Cert.OutWgradRefIdeal.main_arg0) = m ((c.tc : Thread Cert.OutWgradIdeal.nD Cert.OutWgradIdeal.τ).loc Cert.OutWgradIdeal.main_arg0)
      ∧ m' ((c.tc : Thread Cert.OutWgradRefIdeal.nD Cert.OutWgradRefIdeal.τ).loc Cert.OutWgradRefIdeal.main_arg1) = m ((c.tc : Thread Cert.OutWgradIdeal.nD Cert.OutWgradIdeal.τ).loc Cert.OutWgradIdeal.main_arg1)
      ∧ m' ((c.tc : Thread Cert.OutWgradRefIdeal.nD Cert.OutWgradRefIdeal.τ).loc Cert.OutWgradRefIdeal.main_arg2) = m ((c.tc : Thread Cert.OutWgradIdeal.nD Cert.OutWgradIdeal.τ).loc Cert.OutWgradIdeal.main_arg2)) →
    ∃ (v0 : (c : Dev Cert.OutWgradIdeal.nD) → Buf (Elt Ideal) ((c.tc : Thread Cert.OutWgradIdeal.nD Cert.OutWgradIdeal.τ).loc Cert.OutWgradIdeal.main_v1)),
      θ_run (Cert.OutWgradIdeal.defs (F := Ideal)) (onTc (τ := Cert.OutWgradIdeal.τ) (Cert.OutWgradIdeal.main (F := Ideal))) ⟨m, fun _ => 0, g⟩ (fun r => ∀ c : Dev Cert.OutWgradIdeal.nD,
          r.2.mem ((c.tc : Thread Cert.OutWgradIdeal.nD Cert.OutWgradIdeal.τ).loc Cert.OutWgradIdeal.main_v1) = v0 c
          ∧ r.2.mem ((c.tc : Thread Cert.OutWgradIdeal.nD Cert.OutWgradIdeal.τ).loc Cert.OutWgradIdeal.main_arg0) = m ((c.tc : Thread Cert.OutWgradIdeal.nD Cert.OutWgradIdeal.τ).loc Cert.OutWgradIdeal.main_arg0)
          ∧ r.2.mem ((c.tc : Thread Cert.OutWgradIdeal.nD Cert.OutWgradIdeal.τ).loc Cert.OutWgradIdeal.main_arg1) = m ((c.tc : Thread Cert.OutWgradIdeal.nD Cert.OutWgradIdeal.τ).loc Cert.OutWgradIdeal.main_arg1)
          ∧ r.2.mem ((c.tc : Thread Cert.OutWgradIdeal.nD Cert.OutWgradIdeal.τ).loc Cert.OutWgradIdeal.main_arg2) = m ((c.tc : Thread Cert.OutWgradIdeal.nD Cert.OutWgradIdeal.τ).loc Cert.OutWgradIdeal.main_arg2))
      ∧ θ_run (Cert.OutWgradRefIdeal.defs (F := Ideal)) (onTc (τ := Cert.OutWgradRefIdeal.τ) (Cert.OutWgradRefIdeal.main (F := Ideal))) ⟨m', fun _ => 0, g'⟩ (fun r => ∀ c : Dev Cert.OutWgradRefIdeal.nD,
          r.2.mem ((c.tc : Thread Cert.OutWgradRefIdeal.nD Cert.OutWgradRefIdeal.τ).loc Cert.OutWgradRefIdeal.main_v3) = v0 c
          ∧ r.2.mem ((c.tc : Thread Cert.OutWgradRefIdeal.nD Cert.OutWgradRefIdeal.τ).loc Cert.OutWgradRefIdeal.main_arg0) = m' ((c.tc : Thread Cert.OutWgradRefIdeal.nD Cert.OutWgradRefIdeal.τ).loc Cert.OutWgradRefIdeal.main_arg0)
          ∧ r.2.mem ((c.tc : Thread Cert.OutWgradRefIdeal.nD Cert.OutWgradRefIdeal.τ).loc Cert.OutWgradRefIdeal.main_arg1) = m' ((c.tc : Thread Cert.OutWgradRefIdeal.nD Cert.OutWgradRefIdeal.τ).loc Cert.OutWgradRefIdeal.main_arg1)
          ∧ r.2.mem ((c.tc : Thread Cert.OutWgradRefIdeal.nD Cert.OutWgradRefIdeal.τ).loc Cert.OutWgradRefIdeal.main_arg2) = m' ((c.tc : Thread Cert.OutWgradRefIdeal.nD Cert.OutWgradRefIdeal.τ).loc Cert.OutWgradRefIdeal.main_arg2))

def preserves_InDgrad_InDgradIdeal : Prop :=
  True

def algebraic_InDgradIdeal_InDgradRefIdeal [hInDgradIdeal : Cert.InDgradIdeal.Facts] [hInDgradRefIdeal : Cert.InDgradRefIdeal.Facts] : Prop :=
  ∀ (m : (ℓ : Loc Cert.InDgradIdeal.nD Cert.InDgradIdeal.τ Cert.InDgradIdeal.sig) → Buf (Elt Ideal) ℓ) (g : Dev Cert.InDgradIdeal.nD → PrngReg)
    (m' : (ℓ : Loc Cert.InDgradRefIdeal.nD Cert.InDgradRefIdeal.τ Cert.InDgradRefIdeal.sig) → Buf (Elt Ideal) ℓ) (g' : Dev Cert.InDgradRefIdeal.nD → PrngReg), Pre_InDgradIdeal m →
    (∀ c : Dev Cert.InDgradIdeal.nD,
      m' ((c.tc : Thread Cert.InDgradRefIdeal.nD Cert.InDgradRefIdeal.τ).loc Cert.InDgradRefIdeal.main_arg0) = m ((c.tc : Thread Cert.InDgradIdeal.nD Cert.InDgradIdeal.τ).loc Cert.InDgradIdeal.main_arg0)
      ∧ m' ((c.tc : Thread Cert.InDgradRefIdeal.nD Cert.InDgradRefIdeal.τ).loc Cert.InDgradRefIdeal.main_arg1) = m ((c.tc : Thread Cert.InDgradIdeal.nD Cert.InDgradIdeal.τ).loc Cert.InDgradIdeal.main_arg1)
      ∧ m' ((c.tc : Thread Cert.InDgradRefIdeal.nD Cert.InDgradRefIdeal.τ).loc Cert.InDgradRefIdeal.main_arg2) = m ((c.tc : Thread Cert.InDgradIdeal.nD Cert.InDgradIdeal.τ).loc Cert.InDgradIdeal.main_arg2)
      ∧ m' ((c.tc : Thread Cert.InDgradRefIdeal.nD Cert.InDgradRefIdeal.τ).loc Cert.InDgradRefIdeal.main_arg3) = m ((c.tc : Thread Cert.InDgradIdeal.nD Cert.InDgradIdeal.τ).loc Cert.InDgradIdeal.main_arg3)
      ∧ m' ((c.tc : Thread Cert.InDgradRefIdeal.nD Cert.InDgradRefIdeal.τ).loc Cert.InDgradRefIdeal.main_arg4) = m ((c.tc : Thread Cert.InDgradIdeal.nD Cert.InDgradIdeal.τ).loc Cert.InDgradIdeal.main_arg4)) →
    ∃ (v0 : (c : Dev Cert.InDgradIdeal.nD) → Buf (Elt Ideal) ((c.tc : Thread Cert.InDgradIdeal.nD Cert.InDgradIdeal.τ).loc Cert.InDgradIdeal.main_v4_0)) (v1 : (c : Dev Cert.InDgradIdeal.nD) → Buf (Elt Ideal) ((c.tc : Thread Cert.InDgradIdeal.nD Cert.InDgradIdeal.τ).loc Cert.InDgradIdeal.main_v4_1)),
      θ_run (Cert.InDgradIdeal.defs (F := Ideal)) (onTc (τ := Cert.InDgradIdeal.τ) (Cert.InDgradIdeal.main (F := Ideal))) ⟨m, fun _ => 0, g⟩ (fun r => ∀ c : Dev Cert.InDgradIdeal.nD,
          r.2.mem ((c.tc : Thread Cert.InDgradIdeal.nD Cert.InDgradIdeal.τ).loc Cert.InDgradIdeal.main_v4_0) = v0 c
          ∧ r.2.mem ((c.tc : Thread Cert.InDgradIdeal.nD Cert.InDgradIdeal.τ).loc Cert.InDgradIdeal.main_v4_1) = v1 c
          ∧ r.2.mem ((c.tc : Thread Cert.InDgradIdeal.nD Cert.InDgradIdeal.τ).loc Cert.InDgradIdeal.main_arg0) = m ((c.tc : Thread Cert.InDgradIdeal.nD Cert.InDgradIdeal.τ).loc Cert.InDgradIdeal.main_arg0)
          ∧ r.2.mem ((c.tc : Thread Cert.InDgradIdeal.nD Cert.InDgradIdeal.τ).loc Cert.InDgradIdeal.main_arg1) = m ((c.tc : Thread Cert.InDgradIdeal.nD Cert.InDgradIdeal.τ).loc Cert.InDgradIdeal.main_arg1)
          ∧ r.2.mem ((c.tc : Thread Cert.InDgradIdeal.nD Cert.InDgradIdeal.τ).loc Cert.InDgradIdeal.main_arg2) = m ((c.tc : Thread Cert.InDgradIdeal.nD Cert.InDgradIdeal.τ).loc Cert.InDgradIdeal.main_arg2)
          ∧ r.2.mem ((c.tc : Thread Cert.InDgradIdeal.nD Cert.InDgradIdeal.τ).loc Cert.InDgradIdeal.main_arg3) = m ((c.tc : Thread Cert.InDgradIdeal.nD Cert.InDgradIdeal.τ).loc Cert.InDgradIdeal.main_arg3)
          ∧ r.2.mem ((c.tc : Thread Cert.InDgradIdeal.nD Cert.InDgradIdeal.τ).loc Cert.InDgradIdeal.main_arg4) = m ((c.tc : Thread Cert.InDgradIdeal.nD Cert.InDgradIdeal.τ).loc Cert.InDgradIdeal.main_arg4))
      ∧ θ_run (Cert.InDgradRefIdeal.defs (F := Ideal)) (onTc (τ := Cert.InDgradRefIdeal.τ) (Cert.InDgradRefIdeal.main (F := Ideal))) ⟨m', fun _ => 0, g'⟩ (fun r => ∀ c : Dev Cert.InDgradRefIdeal.nD,
          r.2.mem ((c.tc : Thread Cert.InDgradRefIdeal.nD Cert.InDgradRefIdeal.τ).loc Cert.InDgradRefIdeal.main_v36) = v0 c
          ∧ r.2.mem ((c.tc : Thread Cert.InDgradRefIdeal.nD Cert.InDgradRefIdeal.τ).loc Cert.InDgradRefIdeal.main_v38) = v1 c
          ∧ r.2.mem ((c.tc : Thread Cert.InDgradRefIdeal.nD Cert.InDgradRefIdeal.τ).loc Cert.InDgradRefIdeal.main_arg0) = m' ((c.tc : Thread Cert.InDgradRefIdeal.nD Cert.InDgradRefIdeal.τ).loc Cert.InDgradRefIdeal.main_arg0)
          ∧ r.2.mem ((c.tc : Thread Cert.InDgradRefIdeal.nD Cert.InDgradRefIdeal.τ).loc Cert.InDgradRefIdeal.main_arg1) = m' ((c.tc : Thread Cert.InDgradRefIdeal.nD Cert.InDgradRefIdeal.τ).loc Cert.InDgradRefIdeal.main_arg1)
          ∧ r.2.mem ((c.tc : Thread Cert.InDgradRefIdeal.nD Cert.InDgradRefIdeal.τ).loc Cert.InDgradRefIdeal.main_arg2) = m' ((c.tc : Thread Cert.InDgradRefIdeal.nD Cert.InDgradRefIdeal.τ).loc Cert.InDgradRefIdeal.main_arg2)
          ∧ r.2.mem ((c.tc : Thread Cert.InDgradRefIdeal.nD Cert.InDgradRefIdeal.τ).loc Cert.InDgradRefIdeal.main_arg3) = m' ((c.tc : Thread Cert.InDgradRefIdeal.nD Cert.InDgradRefIdeal.τ).loc Cert.InDgradRefIdeal.main_arg3)
          ∧ r.2.mem ((c.tc : Thread Cert.InDgradRefIdeal.nD Cert.InDgradRefIdeal.τ).loc Cert.InDgradRefIdeal.main_arg4) = m' ((c.tc : Thread Cert.InDgradRefIdeal.nD Cert.InDgradRefIdeal.τ).loc Cert.InDgradRefIdeal.main_arg4))

def preserves_InWgrad_InWgradIdeal : Prop :=
  True

def algebraic_InWgradIdeal_InWgradRefIdeal [hInWgradIdeal : Cert.InWgradIdeal.Facts] [hInWgradRefIdeal : Cert.InWgradRefIdeal.Facts] : Prop :=
  ∀ (m : (ℓ : Loc Cert.InWgradIdeal.nD Cert.InWgradIdeal.τ Cert.InWgradIdeal.sig) → Buf (Elt Ideal) ℓ) (g : Dev Cert.InWgradIdeal.nD → PrngReg)
    (m' : (ℓ : Loc Cert.InWgradRefIdeal.nD Cert.InWgradRefIdeal.τ Cert.InWgradRefIdeal.sig) → Buf (Elt Ideal) ℓ) (g' : Dev Cert.InWgradRefIdeal.nD → PrngReg), Pre_InWgradIdeal m →
    (∀ c : Dev Cert.InWgradIdeal.nD,
      m' ((c.tc : Thread Cert.InWgradRefIdeal.nD Cert.InWgradRefIdeal.τ).loc Cert.InWgradRefIdeal.main_arg0) = m ((c.tc : Thread Cert.InWgradIdeal.nD Cert.InWgradIdeal.τ).loc Cert.InWgradIdeal.main_arg0)
      ∧ m' ((c.tc : Thread Cert.InWgradRefIdeal.nD Cert.InWgradRefIdeal.τ).loc Cert.InWgradRefIdeal.main_arg1) = m ((c.tc : Thread Cert.InWgradIdeal.nD Cert.InWgradIdeal.τ).loc Cert.InWgradIdeal.main_arg1)
      ∧ m' ((c.tc : Thread Cert.InWgradRefIdeal.nD Cert.InWgradRefIdeal.τ).loc Cert.InWgradRefIdeal.main_arg2) = m ((c.tc : Thread Cert.InWgradIdeal.nD Cert.InWgradIdeal.τ).loc Cert.InWgradIdeal.main_arg2)) →
    ∃ (v0 : (c : Dev Cert.InWgradIdeal.nD) → Buf (Elt Ideal) ((c.tc : Thread Cert.InWgradIdeal.nD Cert.InWgradIdeal.τ).loc Cert.InWgradIdeal.main_v2)),
      θ_run (Cert.InWgradIdeal.defs (F := Ideal)) (onTc (τ := Cert.InWgradIdeal.τ) (Cert.InWgradIdeal.main (F := Ideal))) ⟨m, fun _ => 0, g⟩ (fun r => ∀ c : Dev Cert.InWgradIdeal.nD,
          r.2.mem ((c.tc : Thread Cert.InWgradIdeal.nD Cert.InWgradIdeal.τ).loc Cert.InWgradIdeal.main_v2) = v0 c
          ∧ r.2.mem ((c.tc : Thread Cert.InWgradIdeal.nD Cert.InWgradIdeal.τ).loc Cert.InWgradIdeal.main_arg0) = m ((c.tc : Thread Cert.InWgradIdeal.nD Cert.InWgradIdeal.τ).loc Cert.InWgradIdeal.main_arg0)
          ∧ r.2.mem ((c.tc : Thread Cert.InWgradIdeal.nD Cert.InWgradIdeal.τ).loc Cert.InWgradIdeal.main_arg1) = m ((c.tc : Thread Cert.InWgradIdeal.nD Cert.InWgradIdeal.τ).loc Cert.InWgradIdeal.main_arg1)
          ∧ r.2.mem ((c.tc : Thread Cert.InWgradIdeal.nD Cert.InWgradIdeal.τ).loc Cert.InWgradIdeal.main_arg2) = m ((c.tc : Thread Cert.InWgradIdeal.nD Cert.InWgradIdeal.τ).loc Cert.InWgradIdeal.main_arg2))
      ∧ θ_run (Cert.InWgradRefIdeal.defs (F := Ideal)) (onTc (τ := Cert.InWgradRefIdeal.τ) (Cert.InWgradRefIdeal.main (F := Ideal))) ⟨m', fun _ => 0, g'⟩ (fun r => ∀ c : Dev Cert.InWgradRefIdeal.nD,
          r.2.mem ((c.tc : Thread Cert.InWgradRefIdeal.nD Cert.InWgradRefIdeal.τ).loc Cert.InWgradRefIdeal.main_v4) = v0 c
          ∧ r.2.mem ((c.tc : Thread Cert.InWgradRefIdeal.nD Cert.InWgradRefIdeal.τ).loc Cert.InWgradRefIdeal.main_arg0) = m' ((c.tc : Thread Cert.InWgradRefIdeal.nD Cert.InWgradRefIdeal.τ).loc Cert.InWgradRefIdeal.main_arg0)
          ∧ r.2.mem ((c.tc : Thread Cert.InWgradRefIdeal.nD Cert.InWgradRefIdeal.τ).loc Cert.InWgradRefIdeal.main_arg1) = m' ((c.tc : Thread Cert.InWgradRefIdeal.nD Cert.InWgradRefIdeal.τ).loc Cert.InWgradRefIdeal.main_arg1)
          ∧ r.2.mem ((c.tc : Thread Cert.InWgradRefIdeal.nD Cert.InWgradRefIdeal.τ).loc Cert.InWgradRefIdeal.main_arg2) = m' ((c.tc : Thread Cert.InWgradRefIdeal.nD Cert.InWgradRefIdeal.τ).loc Cert.InWgradRefIdeal.main_arg2))

def preserves_InFwd_InFwdIdeal : Prop :=
  True

def algebraic_InFwdIdeal_InFwdRefIdeal [hInFwdIdeal : Cert.InFwdIdeal.Facts] [hInFwdRefIdeal : Cert.InFwdRefIdeal.Facts] : Prop :=
  ∀ (m : (ℓ : Loc Cert.InFwdIdeal.nD Cert.InFwdIdeal.τ Cert.InFwdIdeal.sig) → Buf (Elt Ideal) ℓ) (g : Dev Cert.InFwdIdeal.nD → PrngReg)
    (m' : (ℓ : Loc Cert.InFwdRefIdeal.nD Cert.InFwdRefIdeal.τ Cert.InFwdRefIdeal.sig) → Buf (Elt Ideal) ℓ) (g' : Dev Cert.InFwdRefIdeal.nD → PrngReg), Pre_InFwdIdeal m →
    (∀ c : Dev Cert.InFwdIdeal.nD,
      m' ((c.tc : Thread Cert.InFwdRefIdeal.nD Cert.InFwdRefIdeal.τ).loc Cert.InFwdRefIdeal.main_arg0) = m ((c.tc : Thread Cert.InFwdIdeal.nD Cert.InFwdIdeal.τ).loc Cert.InFwdIdeal.main_arg0)
      ∧ m' ((c.tc : Thread Cert.InFwdRefIdeal.nD Cert.InFwdRefIdeal.τ).loc Cert.InFwdRefIdeal.main_arg1) = m ((c.tc : Thread Cert.InFwdIdeal.nD Cert.InFwdIdeal.τ).loc Cert.InFwdIdeal.main_arg1)) →
    ∃ (v0 : (c : Dev Cert.InFwdIdeal.nD) → Buf (Elt Ideal) ((c.tc : Thread Cert.InFwdIdeal.nD Cert.InFwdIdeal.τ).loc Cert.InFwdIdeal.main_v4)),
      θ_run (Cert.InFwdIdeal.defs (F := Ideal)) (onTc (τ := Cert.InFwdIdeal.τ) (Cert.InFwdIdeal.main (F := Ideal))) ⟨m, fun _ => 0, g⟩ (fun r => ∀ c : Dev Cert.InFwdIdeal.nD,
          r.2.mem ((c.tc : Thread Cert.InFwdIdeal.nD Cert.InFwdIdeal.τ).loc Cert.InFwdIdeal.main_v4) = v0 c
          ∧ r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
          ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1))
      ∧ θ_run (Cert.InFwdRefIdeal.defs (F := Ideal)) (onTc (τ := Cert.InFwdRefIdeal.τ) (Cert.InFwdRefIdeal.main (F := Ideal))) ⟨m', fun _ => 0, g'⟩ (fun r => ∀ c : Dev Cert.InFwdRefIdeal.nD,
          r.2.mem ((c.tc : Thread Cert.InFwdRefIdeal.nD Cert.InFwdRefIdeal.τ).loc Cert.InFwdRefIdeal.main_v0) = v0 c
          ∧ r.2.mem ((c.tc : Thread Cert.InFwdRefIdeal.nD Cert.InFwdRefIdeal.τ).loc Cert.InFwdRefIdeal.main_arg0) = m' ((c.tc : Thread Cert.InFwdRefIdeal.nD Cert.InFwdRefIdeal.τ).loc Cert.InFwdRefIdeal.main_arg0)
          ∧ r.2.mem ((c.tc : Thread Cert.InFwdRefIdeal.nD Cert.InFwdRefIdeal.τ).loc Cert.InFwdRefIdeal.main_arg1) = m' ((c.tc : Thread Cert.InFwdRefIdeal.nD Cert.InFwdRefIdeal.τ).loc Cert.InFwdRefIdeal.main_arg1))

def preserves_OutFwd_OutFwdIdeal : Prop :=
  True

def algebraic_OutFwdIdeal_OutFwdRefIdeal [hOutFwdIdeal : Cert.OutFwdIdeal.Facts] [hOutFwdRefIdeal : Cert.OutFwdRefIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg)
    (m' : (ℓ : Loc Cert.OutFwdRefIdeal.nD Cert.OutFwdRefIdeal.τ Cert.OutFwdRefIdeal.sig) → Buf (Elt Ideal) ℓ) (g' : Dev Cert.OutFwdRefIdeal.nD → PrngReg), Pre_OutFwdIdeal m →
    (∀ c : Dev Cert.OutFwdIdeal.nD,
      m' ((c.tc : Thread Cert.OutFwdRefIdeal.nD Cert.OutFwdRefIdeal.τ).loc Cert.OutFwdRefIdeal.main_arg0) = m ((c.tc : Thread Cert.OutFwdIdeal.nD Cert.OutFwdIdeal.τ).loc Cert.OutFwdIdeal.main_arg0)
      ∧ m' ((c.tc : Thread Cert.OutFwdRefIdeal.nD Cert.OutFwdRefIdeal.τ).loc Cert.OutFwdRefIdeal.main_arg1) = m ((c.tc : Thread Cert.OutFwdIdeal.nD Cert.OutFwdIdeal.τ).loc Cert.OutFwdIdeal.main_arg1)
      ∧ m' ((c.tc : Thread Cert.OutFwdRefIdeal.nD Cert.OutFwdRefIdeal.τ).loc Cert.OutFwdRefIdeal.main_arg2) = m ((c.tc : Thread Cert.OutFwdIdeal.nD Cert.OutFwdIdeal.τ).loc Cert.OutFwdIdeal.main_arg2)
      ∧ m' ((c.tc : Thread Cert.OutFwdRefIdeal.nD Cert.OutFwdRefIdeal.τ).loc Cert.OutFwdRefIdeal.main_arg3) = m ((c.tc : Thread Cert.OutFwdIdeal.nD Cert.OutFwdIdeal.τ).loc Cert.OutFwdIdeal.main_arg3)) →
    ∃ (v0 : (c : Dev Cert.OutFwdIdeal.nD) → Buf (Elt Ideal) ((c.tc : Thread Cert.OutFwdIdeal.nD Cert.OutFwdIdeal.τ).loc Cert.OutFwdIdeal.main_v4_0)) (v1 : (c : Dev Cert.OutFwdIdeal.nD) → Buf (Elt Ideal) ((c.tc : Thread Cert.OutFwdIdeal.nD Cert.OutFwdIdeal.τ).loc Cert.OutFwdIdeal.main_v4_1)),
      θ_run (Cert.OutFwdIdeal.defs (F := Ideal)) (onTc (τ := Cert.OutFwdIdeal.τ) (Cert.OutFwdIdeal.main (F := Ideal))) ⟨m, fun _ => 0, g⟩ (fun r => ∀ c : Dev Cert.OutFwdIdeal.nD,
          r.2.mem ((c.tc : Thread Cert.OutFwdIdeal.nD Cert.OutFwdIdeal.τ).loc Cert.OutFwdIdeal.main_v4_0) = v0 c
          ∧ r.2.mem ((c.tc : Thread Cert.OutFwdIdeal.nD Cert.OutFwdIdeal.τ).loc Cert.OutFwdIdeal.main_v4_1) = v1 c
          ∧ r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
          ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
          ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
          ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3))
      ∧ θ_run (Cert.OutFwdRefIdeal.defs (F := Ideal)) (onTc (τ := Cert.OutFwdRefIdeal.τ) (Cert.OutFwdRefIdeal.main (F := Ideal))) ⟨m', fun _ => 0, g'⟩ (fun r => ∀ c : Dev Cert.OutFwdRefIdeal.nD,
          r.2.mem ((c.tc : Thread Cert.OutFwdRefIdeal.nD Cert.OutFwdRefIdeal.τ).loc Cert.OutFwdRefIdeal.main_v1) = v0 c
          ∧ r.2.mem ((c.tc : Thread Cert.OutFwdRefIdeal.nD Cert.OutFwdRefIdeal.τ).loc Cert.OutFwdRefIdeal.main_v14) = v1 c
          ∧ r.2.mem ((c.tc : Thread Cert.OutFwdRefIdeal.nD Cert.OutFwdRefIdeal.τ).loc Cert.OutFwdRefIdeal.main_arg0) = m' ((c.tc : Thread Cert.OutFwdRefIdeal.nD Cert.OutFwdRefIdeal.τ).loc Cert.OutFwdRefIdeal.main_arg0)
          ∧ r.2.mem ((c.tc : Thread Cert.OutFwdRefIdeal.nD Cert.OutFwdRefIdeal.τ).loc Cert.OutFwdRefIdeal.main_arg1) = m' ((c.tc : Thread Cert.OutFwdRefIdeal.nD Cert.OutFwdRefIdeal.τ).loc Cert.OutFwdRefIdeal.main_arg1)
          ∧ r.2.mem ((c.tc : Thread Cert.OutFwdRefIdeal.nD Cert.OutFwdRefIdeal.τ).loc Cert.OutFwdRefIdeal.main_arg2) = m' ((c.tc : Thread Cert.OutFwdRefIdeal.nD Cert.OutFwdRefIdeal.τ).loc Cert.OutFwdRefIdeal.main_arg2)
          ∧ r.2.mem ((c.tc : Thread Cert.OutFwdRefIdeal.nD Cert.OutFwdRefIdeal.τ).loc Cert.OutFwdRefIdeal.main_arg3) = m' ((c.tc : Thread Cert.OutFwdRefIdeal.nD Cert.OutFwdRefIdeal.τ).loc Cert.OutFwdRefIdeal.main_arg3))

def preserves_Ff1Fwd_Ff1FwdIdeal : Prop :=
  True

def algebraic_Ff1FwdIdeal_Ff1FwdRefIdeal [hFf1FwdIdeal : Cert.Ff1FwdIdeal.Facts] [hFf1FwdRefIdeal : Cert.Ff1FwdRefIdeal.Facts] : Prop :=
  ∀ (m : (ℓ : Loc Cert.Ff1FwdIdeal.nD Cert.Ff1FwdIdeal.τ Cert.Ff1FwdIdeal.sig) → Buf (Elt Ideal) ℓ) (g : Dev Cert.Ff1FwdIdeal.nD → PrngReg)
    (m' : (ℓ : Loc Cert.Ff1FwdRefIdeal.nD Cert.Ff1FwdRefIdeal.τ Cert.Ff1FwdRefIdeal.sig) → Buf (Elt Ideal) ℓ) (g' : Dev Cert.Ff1FwdRefIdeal.nD → PrngReg), Pre_Ff1FwdIdeal m →
    (∀ c : Dev Cert.Ff1FwdIdeal.nD,
      m' ((c.tc : Thread Cert.Ff1FwdRefIdeal.nD Cert.Ff1FwdRefIdeal.τ).loc Cert.Ff1FwdRefIdeal.main_arg0) = m ((c.tc : Thread Cert.Ff1FwdIdeal.nD Cert.Ff1FwdIdeal.τ).loc Cert.Ff1FwdIdeal.main_arg0)
      ∧ m' ((c.tc : Thread Cert.Ff1FwdRefIdeal.nD Cert.Ff1FwdRefIdeal.τ).loc Cert.Ff1FwdRefIdeal.main_arg1) = m ((c.tc : Thread Cert.Ff1FwdIdeal.nD Cert.Ff1FwdIdeal.τ).loc Cert.Ff1FwdIdeal.main_arg1)) →
    ∃ (v0 : (c : Dev Cert.Ff1FwdIdeal.nD) → Buf (Elt Ideal) ((c.tc : Thread Cert.Ff1FwdIdeal.nD Cert.Ff1FwdIdeal.τ).loc Cert.Ff1FwdIdeal.main_v4)),
      θ_run (Cert.Ff1FwdIdeal.defs (F := Ideal)) (onTc (τ := Cert.Ff1FwdIdeal.τ) (Cert.Ff1FwdIdeal.main (F := Ideal))) ⟨m, fun _ => 0, g⟩ (fun r => ∀ c : Dev Cert.Ff1FwdIdeal.nD,
          r.2.mem ((c.tc : Thread Cert.Ff1FwdIdeal.nD Cert.Ff1FwdIdeal.τ).loc Cert.Ff1FwdIdeal.main_v4) = v0 c
          ∧ r.2.mem ((c.tc : Thread Cert.Ff1FwdIdeal.nD Cert.Ff1FwdIdeal.τ).loc Cert.Ff1FwdIdeal.main_arg0) = m ((c.tc : Thread Cert.Ff1FwdIdeal.nD Cert.Ff1FwdIdeal.τ).loc Cert.Ff1FwdIdeal.main_arg0)
          ∧ r.2.mem ((c.tc : Thread Cert.Ff1FwdIdeal.nD Cert.Ff1FwdIdeal.τ).loc Cert.Ff1FwdIdeal.main_arg1) = m ((c.tc : Thread Cert.Ff1FwdIdeal.nD Cert.Ff1FwdIdeal.τ).loc Cert.Ff1FwdIdeal.main_arg1))
      ∧ θ_run (Cert.Ff1FwdRefIdeal.defs (F := Ideal)) (onTc (τ := Cert.Ff1FwdRefIdeal.τ) (Cert.Ff1FwdRefIdeal.main (F := Ideal))) ⟨m', fun _ => 0, g'⟩ (fun r => ∀ c : Dev Cert.Ff1FwdRefIdeal.nD,
          r.2.mem ((c.tc : Thread Cert.Ff1FwdRefIdeal.nD Cert.Ff1FwdRefIdeal.τ).loc Cert.Ff1FwdRefIdeal.main_v3) = v0 c
          ∧ r.2.mem ((c.tc : Thread Cert.Ff1FwdRefIdeal.nD Cert.Ff1FwdRefIdeal.τ).loc Cert.Ff1FwdRefIdeal.main_arg0) = m' ((c.tc : Thread Cert.Ff1FwdRefIdeal.nD Cert.Ff1FwdRefIdeal.τ).loc Cert.Ff1FwdRefIdeal.main_arg0)
          ∧ r.2.mem ((c.tc : Thread Cert.Ff1FwdRefIdeal.nD Cert.Ff1FwdRefIdeal.τ).loc Cert.Ff1FwdRefIdeal.main_arg1) = m' ((c.tc : Thread Cert.Ff1FwdRefIdeal.nD Cert.Ff1FwdRefIdeal.τ).loc Cert.Ff1FwdRefIdeal.main_arg1))

def preserves_Ff2Fwd_Ff2FwdIdeal : Prop :=
  True

def algebraic_Ff2FwdIdeal_Ff2FwdRefIdeal [hFf2FwdIdeal : Cert.Ff2FwdIdeal.Facts] [hFf2FwdRefIdeal : Cert.Ff2FwdRefIdeal.Facts] : Prop :=
  ∀ (m : (ℓ : Loc Cert.Ff2FwdIdeal.nD Cert.Ff2FwdIdeal.τ Cert.Ff2FwdIdeal.sig) → Buf (Elt Ideal) ℓ) (g : Dev Cert.Ff2FwdIdeal.nD → PrngReg)
    (m' : (ℓ : Loc Cert.Ff2FwdRefIdeal.nD Cert.Ff2FwdRefIdeal.τ Cert.Ff2FwdRefIdeal.sig) → Buf (Elt Ideal) ℓ) (g' : Dev Cert.Ff2FwdRefIdeal.nD → PrngReg), Pre_Ff2FwdIdeal m →
    (∀ c : Dev Cert.Ff2FwdIdeal.nD,
      m' ((c.tc : Thread Cert.Ff2FwdRefIdeal.nD Cert.Ff2FwdRefIdeal.τ).loc Cert.Ff2FwdRefIdeal.main_arg0) = m ((c.tc : Thread Cert.Ff2FwdIdeal.nD Cert.Ff2FwdIdeal.τ).loc Cert.Ff2FwdIdeal.main_arg0)
      ∧ m' ((c.tc : Thread Cert.Ff2FwdRefIdeal.nD Cert.Ff2FwdRefIdeal.τ).loc Cert.Ff2FwdRefIdeal.main_arg1) = m ((c.tc : Thread Cert.Ff2FwdIdeal.nD Cert.Ff2FwdIdeal.τ).loc Cert.Ff2FwdIdeal.main_arg1)
      ∧ m' ((c.tc : Thread Cert.Ff2FwdRefIdeal.nD Cert.Ff2FwdRefIdeal.τ).loc Cert.Ff2FwdRefIdeal.main_arg2) = m ((c.tc : Thread Cert.Ff2FwdIdeal.nD Cert.Ff2FwdIdeal.τ).loc Cert.Ff2FwdIdeal.main_arg2)
      ∧ m' ((c.tc : Thread Cert.Ff2FwdRefIdeal.nD Cert.Ff2FwdRefIdeal.τ).loc Cert.Ff2FwdRefIdeal.main_arg3) = m ((c.tc : Thread Cert.Ff2FwdIdeal.nD Cert.Ff2FwdIdeal.τ).loc Cert.Ff2FwdIdeal.main_arg3)) →
    ∃ (v0 : (c : Dev Cert.Ff2FwdIdeal.nD) → Buf (Elt Ideal) ((c.tc : Thread Cert.Ff2FwdIdeal.nD Cert.Ff2FwdIdeal.τ).loc Cert.Ff2FwdIdeal.main_v4_0)) (v1 : (c : Dev Cert.Ff2FwdIdeal.nD) → Buf (Elt Ideal) ((c.tc : Thread Cert.Ff2FwdIdeal.nD Cert.Ff2FwdIdeal.τ).loc Cert.Ff2FwdIdeal.main_v4_1)),
      θ_run (Cert.Ff2FwdIdeal.defs (F := Ideal)) (onTc (τ := Cert.Ff2FwdIdeal.τ) (Cert.Ff2FwdIdeal.main (F := Ideal))) ⟨m, fun _ => 0, g⟩ (fun r => ∀ c : Dev Cert.Ff2FwdIdeal.nD,
          r.2.mem ((c.tc : Thread Cert.Ff2FwdIdeal.nD Cert.Ff2FwdIdeal.τ).loc Cert.Ff2FwdIdeal.main_v4_0) = v0 c
          ∧ r.2.mem ((c.tc : Thread Cert.Ff2FwdIdeal.nD Cert.Ff2FwdIdeal.τ).loc Cert.Ff2FwdIdeal.main_v4_1) = v1 c
          ∧ r.2.mem ((c.tc : Thread Cert.Ff2FwdIdeal.nD Cert.Ff2FwdIdeal.τ).loc Cert.Ff2FwdIdeal.main_arg0) = m ((c.tc : Thread Cert.Ff2FwdIdeal.nD Cert.Ff2FwdIdeal.τ).loc Cert.Ff2FwdIdeal.main_arg0)
          ∧ r.2.mem ((c.tc : Thread Cert.Ff2FwdIdeal.nD Cert.Ff2FwdIdeal.τ).loc Cert.Ff2FwdIdeal.main_arg1) = m ((c.tc : Thread Cert.Ff2FwdIdeal.nD Cert.Ff2FwdIdeal.τ).loc Cert.Ff2FwdIdeal.main_arg1)
          ∧ r.2.mem ((c.tc : Thread Cert.Ff2FwdIdeal.nD Cert.Ff2FwdIdeal.τ).loc Cert.Ff2FwdIdeal.main_arg2) = m ((c.tc : Thread Cert.Ff2FwdIdeal.nD Cert.Ff2FwdIdeal.τ).loc Cert.Ff2FwdIdeal.main_arg2)
          ∧ r.2.mem ((c.tc : Thread Cert.Ff2FwdIdeal.nD Cert.Ff2FwdIdeal.τ).loc Cert.Ff2FwdIdeal.main_arg3) = m ((c.tc : Thread Cert.Ff2FwdIdeal.nD Cert.Ff2FwdIdeal.τ).loc Cert.Ff2FwdIdeal.main_arg3))
      ∧ θ_run (Cert.Ff2FwdRefIdeal.defs (F := Ideal)) (onTc (τ := Cert.Ff2FwdRefIdeal.τ) (Cert.Ff2FwdRefIdeal.main (F := Ideal))) ⟨m', fun _ => 0, g'⟩ (fun r => ∀ c : Dev Cert.Ff2FwdRefIdeal.nD,
          r.2.mem ((c.tc : Thread Cert.Ff2FwdRefIdeal.nD Cert.Ff2FwdRefIdeal.τ).loc Cert.Ff2FwdRefIdeal.main_v1) = v0 c
          ∧ r.2.mem ((c.tc : Thread Cert.Ff2FwdRefIdeal.nD Cert.Ff2FwdRefIdeal.τ).loc Cert.Ff2FwdRefIdeal.main_v14) = v1 c
          ∧ r.2.mem ((c.tc : Thread Cert.Ff2FwdRefIdeal.nD Cert.Ff2FwdRefIdeal.τ).loc Cert.Ff2FwdRefIdeal.main_arg0) = m' ((c.tc : Thread Cert.Ff2FwdRefIdeal.nD Cert.Ff2FwdRefIdeal.τ).loc Cert.Ff2FwdRefIdeal.main_arg0)
          ∧ r.2.mem ((c.tc : Thread Cert.Ff2FwdRefIdeal.nD Cert.Ff2FwdRefIdeal.τ).loc Cert.Ff2FwdRefIdeal.main_arg1) = m' ((c.tc : Thread Cert.Ff2FwdRefIdeal.nD Cert.Ff2FwdRefIdeal.τ).loc Cert.Ff2FwdRefIdeal.main_arg1)
          ∧ r.2.mem ((c.tc : Thread Cert.Ff2FwdRefIdeal.nD Cert.Ff2FwdRefIdeal.τ).loc Cert.Ff2FwdRefIdeal.main_arg2) = m' ((c.tc : Thread Cert.Ff2FwdRefIdeal.nD Cert.Ff2FwdRefIdeal.τ).loc Cert.Ff2FwdRefIdeal.main_arg2)
          ∧ r.2.mem ((c.tc : Thread Cert.Ff2FwdRefIdeal.nD Cert.Ff2FwdRefIdeal.τ).loc Cert.Ff2FwdRefIdeal.main_arg3) = m' ((c.tc : Thread Cert.Ff2FwdRefIdeal.nD Cert.Ff2FwdRefIdeal.τ).loc Cert.Ff2FwdRefIdeal.main_arg3))

def preserves_AdamFf_AdamFfIdeal : Prop :=
  True

def algebraic_AdamFfIdeal_AdamFfRefIdeal [hAdamFfIdeal : Cert.AdamFfIdeal.Facts] [hAdamFfRefIdeal : Cert.AdamFfRefIdeal.Facts] : Prop :=
  ∀ (m : (ℓ : Loc Cert.AdamFfIdeal.nD Cert.AdamFfIdeal.τ Cert.AdamFfIdeal.sig) → Buf (Elt Ideal) ℓ) (g : Dev Cert.AdamFfIdeal.nD → PrngReg)
    (m' : (ℓ : Loc Cert.AdamFfRefIdeal.nD Cert.AdamFfRefIdeal.τ Cert.AdamFfRefIdeal.sig) → Buf (Elt Ideal) ℓ) (g' : Dev Cert.AdamFfRefIdeal.nD → PrngReg), Pre_AdamFfIdeal m →
    (∀ c : Dev Cert.AdamFfIdeal.nD,
      m' ((c.tc : Thread Cert.AdamFfRefIdeal.nD Cert.AdamFfRefIdeal.τ).loc Cert.AdamFfRefIdeal.main_arg0) = m ((c.tc : Thread Cert.AdamFfIdeal.nD Cert.AdamFfIdeal.τ).loc Cert.AdamFfIdeal.main_arg0)
      ∧ m' ((c.tc : Thread Cert.AdamFfRefIdeal.nD Cert.AdamFfRefIdeal.τ).loc Cert.AdamFfRefIdeal.main_arg1) = m ((c.tc : Thread Cert.AdamFfIdeal.nD Cert.AdamFfIdeal.τ).loc Cert.AdamFfIdeal.main_arg1)
      ∧ m' ((c.tc : Thread Cert.AdamFfRefIdeal.nD Cert.AdamFfRefIdeal.τ).loc Cert.AdamFfRefIdeal.main_arg2) = m ((c.tc : Thread Cert.AdamFfIdeal.nD Cert.AdamFfIdeal.τ).loc Cert.AdamFfIdeal.main_arg2)
      ∧ m' ((c.tc : Thread Cert.AdamFfRefIdeal.nD Cert.AdamFfRefIdeal.τ).loc Cert.AdamFfRefIdeal.main_arg3) = m ((c.tc : Thread Cert.AdamFfIdeal.nD Cert.AdamFfIdeal.τ).loc Cert.AdamFfIdeal.main_arg3)
      ∧ m' ((c.tc : Thread Cert.AdamFfRefIdeal.nD Cert.AdamFfRefIdeal.τ).loc Cert.AdamFfRefIdeal.main_arg4) = m ((c.tc : Thread Cert.AdamFfIdeal.nD Cert.AdamFfIdeal.τ).loc Cert.AdamFfIdeal.main_arg4)
      ∧ m' ((c.tc : Thread Cert.AdamFfRefIdeal.nD Cert.AdamFfRefIdeal.τ).loc Cert.AdamFfRefIdeal.main_arg5) = m ((c.tc : Thread Cert.AdamFfIdeal.nD Cert.AdamFfIdeal.τ).loc Cert.AdamFfIdeal.main_arg5)
      ∧ m' ((c.tc : Thread Cert.AdamFfRefIdeal.nD Cert.AdamFfRefIdeal.τ).loc Cert.AdamFfRefIdeal.main_arg6) = m ((c.tc : Thread Cert.AdamFfIdeal.nD Cert.AdamFfIdeal.τ).loc Cert.AdamFfIdeal.main_arg6)) →
    ∃ (v0 : (c : Dev Cert.AdamFfIdeal.nD) → Buf (Elt Ideal) ((c.tc : Thread Cert.AdamFfIdeal.nD Cert.AdamFfIdeal.τ).loc Cert.AdamFfIdeal.main_v0_0)) (v1 : (c : Dev Cert.AdamFfIdeal.nD) → Buf (Elt Ideal) ((c.tc : Thread Cert.AdamFfIdeal.nD Cert.AdamFfIdeal.τ).loc Cert.AdamFfIdeal.main_v0_1)) (v2 : (c : Dev Cert.AdamFfIdeal.nD) → Buf (Elt Ideal) ((c.tc : Thread Cert.AdamFfIdeal.nD Cert.AdamFfIdeal.τ).loc Cert.AdamFfIdeal.main_v0_2)) (v3 : (c : Dev Cert.AdamFfIdeal.nD) → Buf (Elt Ideal) ((c.tc : Thread Cert.AdamFfIdeal.nD Cert.AdamFfIdeal.τ).loc Cert.AdamFfIdeal.main_v0_3)),
      θ_run (Cert.AdamFfIdeal.defs (F := Ideal)) (onTc (τ := Cert.AdamFfIdeal.τ) (Cert.AdamFfIdeal.main (F := Ideal))) ⟨m, fun _ => 0, g⟩ (fun r => ∀ c : Dev Cert.AdamFfIdeal.nD,
          r.2.mem ((c.tc : Thread Cert.AdamFfIdeal.nD Cert.AdamFfIdeal.τ).loc Cert.AdamFfIdeal.main_v0_0) = v0 c
          ∧ r.2.mem ((c.tc : Thread Cert.AdamFfIdeal.nD Cert.AdamFfIdeal.τ).loc Cert.AdamFfIdeal.main_v0_1) = v1 c
          ∧ r.2.mem ((c.tc : Thread Cert.AdamFfIdeal.nD Cert.AdamFfIdeal.τ).loc Cert.AdamFfIdeal.main_v0_2) = v2 c
          ∧ r.2.mem ((c.tc : Thread Cert.AdamFfIdeal.nD Cert.AdamFfIdeal.τ).loc Cert.AdamFfIdeal.main_v0_3) = v3 c
          ∧ r.2.mem ((c.tc : Thread Cert.AdamFfIdeal.nD Cert.AdamFfIdeal.τ).loc Cert.AdamFfIdeal.main_arg0) = m ((c.tc : Thread Cert.AdamFfIdeal.nD Cert.AdamFfIdeal.τ).loc Cert.AdamFfIdeal.main_arg0)
          ∧ r.2.mem ((c.tc : Thread Cert.AdamFfIdeal.nD Cert.AdamFfIdeal.τ).loc Cert.AdamFfIdeal.main_arg1) = m ((c.tc : Thread Cert.AdamFfIdeal.nD Cert.AdamFfIdeal.τ).loc Cert.AdamFfIdeal.main_arg1)
          ∧ r.2.mem ((c.tc : Thread Cert.AdamFfIdeal.nD Cert.AdamFfIdeal.τ).loc Cert.AdamFfIdeal.main_arg2) = m ((c.tc : Thread Cert.AdamFfIdeal.nD Cert.AdamFfIdeal.τ).loc Cert.AdamFfIdeal.main_arg2)
          ∧ r.2.mem ((c.tc : Thread Cert.AdamFfIdeal.nD Cert.AdamFfIdeal.τ).loc Cert.AdamFfIdeal.main_arg3) = m ((c.tc : Thread Cert.AdamFfIdeal.nD Cert.AdamFfIdeal.τ).loc Cert.AdamFfIdeal.main_arg3)
          ∧ r.2.mem ((c.tc : Thread Cert.AdamFfIdeal.nD Cert.AdamFfIdeal.τ).loc Cert.AdamFfIdeal.main_arg4) = m ((c.tc : Thread Cert.AdamFfIdeal.nD Cert.AdamFfIdeal.τ).loc Cert.AdamFfIdeal.main_arg4)
          ∧ r.2.mem ((c.tc : Thread Cert.AdamFfIdeal.nD Cert.AdamFfIdeal.τ).loc Cert.AdamFfIdeal.main_arg5) = m ((c.tc : Thread Cert.AdamFfIdeal.nD Cert.AdamFfIdeal.τ).loc Cert.AdamFfIdeal.main_arg5)
          ∧ r.2.mem ((c.tc : Thread Cert.AdamFfIdeal.nD Cert.AdamFfIdeal.τ).loc Cert.AdamFfIdeal.main_arg6) = m ((c.tc : Thread Cert.AdamFfIdeal.nD Cert.AdamFfIdeal.τ).loc Cert.AdamFfIdeal.main_arg6))
      ∧ θ_run (Cert.AdamFfRefIdeal.defs (F := Ideal)) (onTc (τ := Cert.AdamFfRefIdeal.τ) (Cert.AdamFfRefIdeal.main (F := Ideal))) ⟨m', fun _ => 0, g'⟩ (fun r => ∀ c : Dev Cert.AdamFfRefIdeal.nD,
          r.2.mem ((c.tc : Thread Cert.AdamFfRefIdeal.nD Cert.AdamFfRefIdeal.τ).loc Cert.AdamFfRefIdeal.main_v4) = v0 c
          ∧ r.2.mem ((c.tc : Thread Cert.AdamFfRefIdeal.nD Cert.AdamFfRefIdeal.τ).loc Cert.AdamFfRefIdeal.main_v28) = v1 c
          ∧ r.2.mem ((c.tc : Thread Cert.AdamFfRefIdeal.nD Cert.AdamFfRefIdeal.τ).loc Cert.AdamFfRefIdeal.main_v9) = v2 c
          ∧ r.2.mem ((c.tc : Thread Cert.AdamFfRefIdeal.nD Cert.AdamFfRefIdeal.τ).loc Cert.AdamFfRefIdeal.main_v15) = v3 c
          ∧ r.2.mem ((c.tc : Thread Cert.AdamFfRefIdeal.nD Cert.AdamFfRefIdeal.τ).loc Cert.AdamFfRefIdeal.main_arg0) = m' ((c.tc : Thread Cert.AdamFfRefIdeal.nD Cert.AdamFfRefIdeal.τ).loc Cert.AdamFfRefIdeal.main_arg0)
          ∧ r.2.mem ((c.tc : Thread Cert.AdamFfRefIdeal.nD Cert.AdamFfRefIdeal.τ).loc Cert.AdamFfRefIdeal.main_arg1) = m' ((c.tc : Thread Cert.AdamFfRefIdeal.nD Cert.AdamFfRefIdeal.τ).loc Cert.AdamFfRefIdeal.main_arg1)
          ∧ r.2.mem ((c.tc : Thread Cert.AdamFfRefIdeal.nD Cert.AdamFfRefIdeal.τ).loc Cert.AdamFfRefIdeal.main_arg2) = m' ((c.tc : Thread Cert.AdamFfRefIdeal.nD Cert.AdamFfRefIdeal.τ).loc Cert.AdamFfRefIdeal.main_arg2)
          ∧ r.2.mem ((c.tc : Thread Cert.AdamFfRefIdeal.nD Cert.AdamFfRefIdeal.τ).loc Cert.AdamFfRefIdeal.main_arg3) = m' ((c.tc : Thread Cert.AdamFfRefIdeal.nD Cert.AdamFfRefIdeal.τ).loc Cert.AdamFfRefIdeal.main_arg3)
          ∧ r.2.mem ((c.tc : Thread Cert.AdamFfRefIdeal.nD Cert.AdamFfRefIdeal.τ).loc Cert.AdamFfRefIdeal.main_arg4) = m' ((c.tc : Thread Cert.AdamFfRefIdeal.nD Cert.AdamFfRefIdeal.τ).loc Cert.AdamFfRefIdeal.main_arg4)
          ∧ r.2.mem ((c.tc : Thread Cert.AdamFfRefIdeal.nD Cert.AdamFfRefIdeal.τ).loc Cert.AdamFfRefIdeal.main_arg5) = m' ((c.tc : Thread Cert.AdamFfRefIdeal.nD Cert.AdamFfRefIdeal.τ).loc Cert.AdamFfRefIdeal.main_arg5)
          ∧ r.2.mem ((c.tc : Thread Cert.AdamFfRefIdeal.nD Cert.AdamFfRefIdeal.τ).loc Cert.AdamFfRefIdeal.main_arg6) = m' ((c.tc : Thread Cert.AdamFfRefIdeal.nD Cert.AdamFfRefIdeal.τ).loc Cert.AdamFfRefIdeal.main_arg6))

def preserves_AdamO_AdamOIdeal : Prop :=
  True

def algebraic_AdamOIdeal_AdamORefIdeal [hAdamOIdeal : Cert.AdamOIdeal.Facts] [hAdamORefIdeal : Cert.AdamORefIdeal.Facts] : Prop :=
  ∀ (m : (ℓ : Loc Cert.AdamOIdeal.nD Cert.AdamOIdeal.τ Cert.AdamOIdeal.sig) → Buf (Elt Ideal) ℓ) (g : Dev Cert.AdamOIdeal.nD → PrngReg)
    (m' : (ℓ : Loc Cert.AdamORefIdeal.nD Cert.AdamORefIdeal.τ Cert.AdamORefIdeal.sig) → Buf (Elt Ideal) ℓ) (g' : Dev Cert.AdamORefIdeal.nD → PrngReg), Pre_AdamOIdeal m →
    (∀ c : Dev Cert.AdamOIdeal.nD,
      m' ((c.tc : Thread Cert.AdamORefIdeal.nD Cert.AdamORefIdeal.τ).loc Cert.AdamORefIdeal.main_arg0) = m ((c.tc : Thread Cert.AdamOIdeal.nD Cert.AdamOIdeal.τ).loc Cert.AdamOIdeal.main_arg0)
      ∧ m' ((c.tc : Thread Cert.AdamORefIdeal.nD Cert.AdamORefIdeal.τ).loc Cert.AdamORefIdeal.main_arg1) = m ((c.tc : Thread Cert.AdamOIdeal.nD Cert.AdamOIdeal.τ).loc Cert.AdamOIdeal.main_arg1)
      ∧ m' ((c.tc : Thread Cert.AdamORefIdeal.nD Cert.AdamORefIdeal.τ).loc Cert.AdamORefIdeal.main_arg2) = m ((c.tc : Thread Cert.AdamOIdeal.nD Cert.AdamOIdeal.τ).loc Cert.AdamOIdeal.main_arg2)
      ∧ m' ((c.tc : Thread Cert.AdamORefIdeal.nD Cert.AdamORefIdeal.τ).loc Cert.AdamORefIdeal.main_arg3) = m ((c.tc : Thread Cert.AdamOIdeal.nD Cert.AdamOIdeal.τ).loc Cert.AdamOIdeal.main_arg3)
      ∧ m' ((c.tc : Thread Cert.AdamORefIdeal.nD Cert.AdamORefIdeal.τ).loc Cert.AdamORefIdeal.main_arg4) = m ((c.tc : Thread Cert.AdamOIdeal.nD Cert.AdamOIdeal.τ).loc Cert.AdamOIdeal.main_arg4)
      ∧ m' ((c.tc : Thread Cert.AdamORefIdeal.nD Cert.AdamORefIdeal.τ).loc Cert.AdamORefIdeal.main_arg5) = m ((c.tc : Thread Cert.AdamOIdeal.nD Cert.AdamOIdeal.τ).loc Cert.AdamOIdeal.main_arg5)
      ∧ m' ((c.tc : Thread Cert.AdamORefIdeal.nD Cert.AdamORefIdeal.τ).loc Cert.AdamORefIdeal.main_arg6) = m ((c.tc : Thread Cert.AdamOIdeal.nD Cert.AdamOIdeal.τ).loc Cert.AdamOIdeal.main_arg6)) →
    ∃ (v0 : (c : Dev Cert.AdamOIdeal.nD) → Buf (Elt Ideal) ((c.tc : Thread Cert.AdamOIdeal.nD Cert.AdamOIdeal.τ).loc Cert.AdamOIdeal.main_v0_0)) (v1 : (c : Dev Cert.AdamOIdeal.nD) → Buf (Elt Ideal) ((c.tc : Thread Cert.AdamOIdeal.nD Cert.AdamOIdeal.τ).loc Cert.AdamOIdeal.main_v0_1)) (v2 : (c : Dev Cert.AdamOIdeal.nD) → Buf (Elt Ideal) ((c.tc : Thread Cert.AdamOIdeal.nD Cert.AdamOIdeal.τ).loc Cert.AdamOIdeal.main_v0_2)) (v3 : (c : Dev Cert.AdamOIdeal.nD) → Buf (Elt Ideal) ((c.tc : Thread Cert.AdamOIdeal.nD Cert.AdamOIdeal.τ).loc Cert.AdamOIdeal.main_v0_3)),
      θ_run (Cert.AdamOIdeal.defs (F := Ideal)) (onTc (τ := Cert.AdamOIdeal.τ) (Cert.AdamOIdeal.main (F := Ideal))) ⟨m, fun _ => 0, g⟩ (fun r => ∀ c : Dev Cert.AdamOIdeal.nD,
          r.2.mem ((c.tc : Thread Cert.AdamOIdeal.nD Cert.AdamOIdeal.τ).loc Cert.AdamOIdeal.main_v0_0) = v0 c
          ∧ r.2.mem ((c.tc : Thread Cert.AdamOIdeal.nD Cert.AdamOIdeal.τ).loc Cert.AdamOIdeal.main_v0_1) = v1 c
          ∧ r.2.mem ((c.tc : Thread Cert.AdamOIdeal.nD Cert.AdamOIdeal.τ).loc Cert.AdamOIdeal.main_v0_2) = v2 c
          ∧ r.2.mem ((c.tc : Thread Cert.AdamOIdeal.nD Cert.AdamOIdeal.τ).loc Cert.AdamOIdeal.main_v0_3) = v3 c
          ∧ r.2.mem ((c.tc : Thread Cert.AdamOIdeal.nD Cert.AdamOIdeal.τ).loc Cert.AdamOIdeal.main_arg0) = m ((c.tc : Thread Cert.AdamOIdeal.nD Cert.AdamOIdeal.τ).loc Cert.AdamOIdeal.main_arg0)
          ∧ r.2.mem ((c.tc : Thread Cert.AdamOIdeal.nD Cert.AdamOIdeal.τ).loc Cert.AdamOIdeal.main_arg1) = m ((c.tc : Thread Cert.AdamOIdeal.nD Cert.AdamOIdeal.τ).loc Cert.AdamOIdeal.main_arg1)
          ∧ r.2.mem ((c.tc : Thread Cert.AdamOIdeal.nD Cert.AdamOIdeal.τ).loc Cert.AdamOIdeal.main_arg2) = m ((c.tc : Thread Cert.AdamOIdeal.nD Cert.AdamOIdeal.τ).loc Cert.AdamOIdeal.main_arg2)
          ∧ r.2.mem ((c.tc : Thread Cert.AdamOIdeal.nD Cert.AdamOIdeal.τ).loc Cert.AdamOIdeal.main_arg3) = m ((c.tc : Thread Cert.AdamOIdeal.nD Cert.AdamOIdeal.τ).loc Cert.AdamOIdeal.main_arg3)
          ∧ r.2.mem ((c.tc : Thread Cert.AdamOIdeal.nD Cert.AdamOIdeal.τ).loc Cert.AdamOIdeal.main_arg4) = m ((c.tc : Thread Cert.AdamOIdeal.nD Cert.AdamOIdeal.τ).loc Cert.AdamOIdeal.main_arg4)
          ∧ r.2.mem ((c.tc : Thread Cert.AdamOIdeal.nD Cert.AdamOIdeal.τ).loc Cert.AdamOIdeal.main_arg5) = m ((c.tc : Thread Cert.AdamOIdeal.nD Cert.AdamOIdeal.τ).loc Cert.AdamOIdeal.main_arg5)
          ∧ r.2.mem ((c.tc : Thread Cert.AdamOIdeal.nD Cert.AdamOIdeal.τ).loc Cert.AdamOIdeal.main_arg6) = m ((c.tc : Thread Cert.AdamOIdeal.nD Cert.AdamOIdeal.τ).loc Cert.AdamOIdeal.main_arg6))
      ∧ θ_run (Cert.AdamORefIdeal.defs (F := Ideal)) (onTc (τ := Cert.AdamORefIdeal.τ) (Cert.AdamORefIdeal.main (F := Ideal))) ⟨m', fun _ => 0, g'⟩ (fun r => ∀ c : Dev Cert.AdamORefIdeal.nD,
          r.2.mem ((c.tc : Thread Cert.AdamORefIdeal.nD Cert.AdamORefIdeal.τ).loc Cert.AdamORefIdeal.main_v4) = v0 c
          ∧ r.2.mem ((c.tc : Thread Cert.AdamORefIdeal.nD Cert.AdamORefIdeal.τ).loc Cert.AdamORefIdeal.main_v28) = v1 c
          ∧ r.2.mem ((c.tc : Thread Cert.AdamORefIdeal.nD Cert.AdamORefIdeal.τ).loc Cert.AdamORefIdeal.main_v9) = v2 c
          ∧ r.2.mem ((c.tc : Thread Cert.AdamORefIdeal.nD Cert.AdamORefIdeal.τ).loc Cert.AdamORefIdeal.main_v15) = v3 c
          ∧ r.2.mem ((c.tc : Thread Cert.AdamORefIdeal.nD Cert.AdamORefIdeal.τ).loc Cert.AdamORefIdeal.main_arg0) = m' ((c.tc : Thread Cert.AdamORefIdeal.nD Cert.AdamORefIdeal.τ).loc Cert.AdamORefIdeal.main_arg0)
          ∧ r.2.mem ((c.tc : Thread Cert.AdamORefIdeal.nD Cert.AdamORefIdeal.τ).loc Cert.AdamORefIdeal.main_arg1) = m' ((c.tc : Thread Cert.AdamORefIdeal.nD Cert.AdamORefIdeal.τ).loc Cert.AdamORefIdeal.main_arg1)
          ∧ r.2.mem ((c.tc : Thread Cert.AdamORefIdeal.nD Cert.AdamORefIdeal.τ).loc Cert.AdamORefIdeal.main_arg2) = m' ((c.tc : Thread Cert.AdamORefIdeal.nD Cert.AdamORefIdeal.τ).loc Cert.AdamORefIdeal.main_arg2)
          ∧ r.2.mem ((c.tc : Thread Cert.AdamORefIdeal.nD Cert.AdamORefIdeal.τ).loc Cert.AdamORefIdeal.main_arg3) = m' ((c.tc : Thread Cert.AdamORefIdeal.nD Cert.AdamORefIdeal.τ).loc Cert.AdamORefIdeal.main_arg3)
          ∧ r.2.mem ((c.tc : Thread Cert.AdamORefIdeal.nD Cert.AdamORefIdeal.τ).loc Cert.AdamORefIdeal.main_arg4) = m' ((c.tc : Thread Cert.AdamORefIdeal.nD Cert.AdamORefIdeal.τ).loc Cert.AdamORefIdeal.main_arg4)
          ∧ r.2.mem ((c.tc : Thread Cert.AdamORefIdeal.nD Cert.AdamORefIdeal.τ).loc Cert.AdamORefIdeal.main_arg5) = m' ((c.tc : Thread Cert.AdamORefIdeal.nD Cert.AdamORefIdeal.τ).loc Cert.AdamORefIdeal.main_arg5)
          ∧ r.2.mem ((c.tc : Thread Cert.AdamORefIdeal.nD Cert.AdamORefIdeal.τ).loc Cert.AdamORefIdeal.main_arg6) = m' ((c.tc : Thread Cert.AdamORefIdeal.nD Cert.AdamORefIdeal.τ).loc Cert.AdamORefIdeal.main_arg6))

def preserves_AdamBranch_AdamBranchIdeal : Prop :=
  True

def algebraic_AdamBranchIdeal_AdamBranchRefIdeal [hAdamBranchIdeal : Cert.AdamBranchIdeal.Facts] [hAdamBranchRefIdeal : Cert.AdamBranchRefIdeal.Facts] : Prop :=
  ∀ (m : (ℓ : Loc Cert.AdamBranchIdeal.nD Cert.AdamBranchIdeal.τ Cert.AdamBranchIdeal.sig) → Buf (Elt Ideal) ℓ) (g : Dev Cert.AdamBranchIdeal.nD → PrngReg)
    (m' : (ℓ : Loc Cert.AdamBranchRefIdeal.nD Cert.AdamBranchRefIdeal.τ Cert.AdamBranchRefIdeal.sig) → Buf (Elt Ideal) ℓ) (g' : Dev Cert.AdamBranchRefIdeal.nD → PrngReg), Pre_AdamBranchIdeal m →
    (∀ c : Dev Cert.AdamBranchIdeal.nD,
      m' ((c.tc : Thread Cert.AdamBranchRefIdeal.nD Cert.AdamBranchRefIdeal.τ).loc Cert.AdamBranchRefIdeal.main_arg0) = m ((c.tc : Thread Cert.AdamBranchIdeal.nD Cert.AdamBranchIdeal.τ).loc Cert.AdamBranchIdeal.main_arg0)
      ∧ m' ((c.tc : Thread Cert.AdamBranchRefIdeal.nD Cert.AdamBranchRefIdeal.τ).loc Cert.AdamBranchRefIdeal.main_arg1) = m ((c.tc : Thread Cert.AdamBranchIdeal.nD Cert.AdamBranchIdeal.τ).loc Cert.AdamBranchIdeal.main_arg1)
      ∧ m' ((c.tc : Thread Cert.AdamBranchRefIdeal.nD Cert.AdamBranchRefIdeal.τ).loc Cert.AdamBranchRefIdeal.main_arg2) = m ((c.tc : Thread Cert.AdamBranchIdeal.nD Cert.AdamBranchIdeal.τ).loc Cert.AdamBranchIdeal.main_arg2)
      ∧ m' ((c.tc : Thread Cert.AdamBranchRefIdeal.nD Cert.AdamBranchRefIdeal.τ).loc Cert.AdamBranchRefIdeal.main_arg3) = m ((c.tc : Thread Cert.AdamBranchIdeal.nD Cert.AdamBranchIdeal.τ).loc Cert.AdamBranchIdeal.main_arg3)
      ∧ m' ((c.tc : Thread Cert.AdamBranchRefIdeal.nD Cert.AdamBranchRefIdeal.τ).loc Cert.AdamBranchRefIdeal.main_arg4) = m ((c.tc : Thread Cert.AdamBranchIdeal.nD Cert.AdamBranchIdeal.τ).loc Cert.AdamBranchIdeal.main_arg4)
      ∧ m' ((c.tc : Thread Cert.AdamBranchRefIdeal.nD Cert.AdamBranchRefIdeal.τ).loc Cert.AdamBranchRefIdeal.main_arg5) = m ((c.tc : Thread Cert.AdamBranchIdeal.nD Cert.AdamBranchIdeal.τ).loc Cert.AdamBranchIdeal.main_arg5)
      ∧ m' ((c.tc : Thread Cert.AdamBranchRefIdeal.nD Cert.AdamBranchRefIdeal.τ).loc Cert.AdamBranchRefIdeal.main_arg6) = m ((c.tc : Thread Cert.AdamBranchIdeal.nD Cert.AdamBranchIdeal.τ).loc Cert.AdamBranchIdeal.main_arg6)) →
    ∃ (v0 : (c : Dev Cert.AdamBranchIdeal.nD) → Buf (Elt Ideal) ((c.tc : Thread Cert.AdamBranchIdeal.nD Cert.AdamBranchIdeal.τ).loc Cert.AdamBranchIdeal.main_v3_0)) (v1 : (c : Dev Cert.AdamBranchIdeal.nD) → Buf (Elt Ideal) ((c.tc : Thread Cert.AdamBranchIdeal.nD Cert.AdamBranchIdeal.τ).loc Cert.AdamBranchIdeal.main_v3_1)) (v2 : (c : Dev Cert.AdamBranchIdeal.nD) → Buf (Elt Ideal) ((c.tc : Thread Cert.AdamBranchIdeal.nD Cert.AdamBranchIdeal.τ).loc Cert.AdamBranchIdeal.main_v3_2)) (v3 : (c : Dev Cert.AdamBranchIdeal.nD) → Buf (Elt Ideal) ((c.tc : Thread Cert.AdamBranchIdeal.nD Cert.AdamBranchIdeal.τ).loc Cert.AdamBranchIdeal.main_v3_3)),
      θ_run (Cert.AdamBranchIdeal.defs (F := Ideal)) (onTc (τ := Cert.AdamBranchIdeal.τ) (Cert.AdamBranchIdeal.main (F := Ideal))) ⟨m, fun _ => 0, g⟩ (fun r => ∀ c : Dev Cert.AdamBranchIdeal.nD,
          r.2.mem ((c.tc : Thread Cert.AdamBranchIdeal.nD Cert.AdamBranchIdeal.τ).loc Cert.AdamBranchIdeal.main_v3_0) = v0 c
          ∧ r.2.mem ((c.tc : Thread Cert.AdamBranchIdeal.nD Cert.AdamBranchIdeal.τ).loc Cert.AdamBranchIdeal.main_v3_1) = v1 c
          ∧ r.2.mem ((c.tc : Thread Cert.AdamBranchIdeal.nD Cert.AdamBranchIdeal.τ).loc Cert.AdamBranchIdeal.main_v3_2) = v2 c
          ∧ r.2.mem ((c.tc : Thread Cert.AdamBranchIdeal.nD Cert.AdamBranchIdeal.τ).loc Cert.AdamBranchIdeal.main_v3_3) = v3 c
          ∧ r.2.mem ((c.tc : Thread Cert.AdamBranchIdeal.nD Cert.AdamBranchIdeal.τ).loc Cert.AdamBranchIdeal.main_arg0) = m ((c.tc : Thread Cert.AdamBranchIdeal.nD Cert.AdamBranchIdeal.τ).loc Cert.AdamBranchIdeal.main_arg0)
          ∧ r.2.mem ((c.tc : Thread Cert.AdamBranchIdeal.nD Cert.AdamBranchIdeal.τ).loc Cert.AdamBranchIdeal.main_arg1) = m ((c.tc : Thread Cert.AdamBranchIdeal.nD Cert.AdamBranchIdeal.τ).loc Cert.AdamBranchIdeal.main_arg1)
          ∧ r.2.mem ((c.tc : Thread Cert.AdamBranchIdeal.nD Cert.AdamBranchIdeal.τ).loc Cert.AdamBranchIdeal.main_arg2) = m ((c.tc : Thread Cert.AdamBranchIdeal.nD Cert.AdamBranchIdeal.τ).loc Cert.AdamBranchIdeal.main_arg2)
          ∧ r.2.mem ((c.tc : Thread Cert.AdamBranchIdeal.nD Cert.AdamBranchIdeal.τ).loc Cert.AdamBranchIdeal.main_arg3) = m ((c.tc : Thread Cert.AdamBranchIdeal.nD Cert.AdamBranchIdeal.τ).loc Cert.AdamBranchIdeal.main_arg3)
          ∧ r.2.mem ((c.tc : Thread Cert.AdamBranchIdeal.nD Cert.AdamBranchIdeal.τ).loc Cert.AdamBranchIdeal.main_arg4) = m ((c.tc : Thread Cert.AdamBranchIdeal.nD Cert.AdamBranchIdeal.τ).loc Cert.AdamBranchIdeal.main_arg4)
          ∧ r.2.mem ((c.tc : Thread Cert.AdamBranchIdeal.nD Cert.AdamBranchIdeal.τ).loc Cert.AdamBranchIdeal.main_arg5) = m ((c.tc : Thread Cert.AdamBranchIdeal.nD Cert.AdamBranchIdeal.τ).loc Cert.AdamBranchIdeal.main_arg5)
          ∧ r.2.mem ((c.tc : Thread Cert.AdamBranchIdeal.nD Cert.AdamBranchIdeal.τ).loc Cert.AdamBranchIdeal.main_arg6) = m ((c.tc : Thread Cert.AdamBranchIdeal.nD Cert.AdamBranchIdeal.τ).loc Cert.AdamBranchIdeal.main_arg6))
      ∧ θ_run (Cert.AdamBranchRefIdeal.defs (F := Ideal)) (onTc (τ := Cert.AdamBranchRefIdeal.τ) (Cert.AdamBranchRefIdeal.main (F := Ideal))) ⟨m', fun _ => 0, g'⟩ (fun r => ∀ c : Dev Cert.AdamBranchRefIdeal.nD,
          r.2.mem ((c.tc : Thread Cert.AdamBranchRefIdeal.nD Cert.AdamBranchRefIdeal.τ).loc Cert.AdamBranchRefIdeal.main_v30) = v0 c
          ∧ r.2.mem ((c.tc : Thread Cert.AdamBranchRefIdeal.nD Cert.AdamBranchRefIdeal.τ).loc Cert.AdamBranchRefIdeal.main_v31) = v1 c
          ∧ r.2.mem ((c.tc : Thread Cert.AdamBranchRefIdeal.nD Cert.AdamBranchRefIdeal.τ).loc Cert.AdamBranchRefIdeal.main_v32) = v2 c
          ∧ r.2.mem ((c.tc : Thread Cert.AdamBranchRefIdeal.nD Cert.AdamBranchRefIdeal.τ).loc Cert.AdamBranchRefIdeal.main_v33) = v3 c
          ∧ r.2.mem ((c.tc : Thread Cert.AdamBranchRefIdeal.nD Cert.AdamBranchRefIdeal.τ).loc Cert.AdamBranchRefIdeal.main_arg0) = m' ((c.tc : Thread Cert.AdamBranchRefIdeal.nD Cert.AdamBranchRefIdeal.τ).loc Cert.AdamBranchRefIdeal.main_arg0)
          ∧ r.2.mem ((c.tc : Thread Cert.AdamBranchRefIdeal.nD Cert.AdamBranchRefIdeal.τ).loc Cert.AdamBranchRefIdeal.main_arg1) = m' ((c.tc : Thread Cert.AdamBranchRefIdeal.nD Cert.AdamBranchRefIdeal.τ).loc Cert.AdamBranchRefIdeal.main_arg1)
          ∧ r.2.mem ((c.tc : Thread Cert.AdamBranchRefIdeal.nD Cert.AdamBranchRefIdeal.τ).loc Cert.AdamBranchRefIdeal.main_arg2) = m' ((c.tc : Thread Cert.AdamBranchRefIdeal.nD Cert.AdamBranchRefIdeal.τ).loc Cert.AdamBranchRefIdeal.main_arg2)
          ∧ r.2.mem ((c.tc : Thread Cert.AdamBranchRefIdeal.nD Cert.AdamBranchRefIdeal.τ).loc Cert.AdamBranchRefIdeal.main_arg3) = m' ((c.tc : Thread Cert.AdamBranchRefIdeal.nD Cert.AdamBranchRefIdeal.τ).loc Cert.AdamBranchRefIdeal.main_arg3)
          ∧ r.2.mem ((c.tc : Thread Cert.AdamBranchRefIdeal.nD Cert.AdamBranchRefIdeal.τ).loc Cert.AdamBranchRefIdeal.main_arg4) = m' ((c.tc : Thread Cert.AdamBranchRefIdeal.nD Cert.AdamBranchRefIdeal.τ).loc Cert.AdamBranchRefIdeal.main_arg4)
          ∧ r.2.mem ((c.tc : Thread Cert.AdamBranchRefIdeal.nD Cert.AdamBranchRefIdeal.τ).loc Cert.AdamBranchRefIdeal.main_arg5) = m' ((c.tc : Thread Cert.AdamBranchRefIdeal.nD Cert.AdamBranchRefIdeal.τ).loc Cert.AdamBranchRefIdeal.main_arg5)
          ∧ r.2.mem ((c.tc : Thread Cert.AdamBranchRefIdeal.nD Cert.AdamBranchRefIdeal.τ).loc Cert.AdamBranchRefIdeal.main_arg6) = m' ((c.tc : Thread Cert.AdamBranchRefIdeal.nD Cert.AdamBranchRefIdeal.τ).loc Cert.AdamBranchRefIdeal.main_arg6))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)
      ∧ m' ((c.tc : Thread Cert.AdamSmallRefIdeal.nD Cert.AdamSmallRefIdeal.τ).loc Cert.AdamSmallRefIdeal.main_arg4) = m ((c.tc : Thread Cert.AdamSmallIdeal.nD Cert.AdamSmallIdeal.τ).loc Cert.AdamSmallIdeal.main_arg4)
      ∧ m' ((c.tc : Thread Cert.AdamSmallRefIdeal.nD Cert.AdamSmallRefIdeal.τ).loc Cert.AdamSmallRefIdeal.main_arg5) = m ((c.tc : Thread Cert.AdamSmallIdeal.nD Cert.AdamSmallIdeal.τ).loc Cert.AdamSmallIdeal.main_arg5)
      ∧ m' ((c.tc : Thread Cert.AdamSmallRefIdeal.nD Cert.AdamSmallRefIdeal.τ).loc Cert.AdamSmallRefIdeal.main_arg6) = m ((c.tc : Thread Cert.AdamSmallIdeal.nD Cert.AdamSmallIdeal.τ).loc Cert.AdamSmallIdeal.main_arg6)
      ∧ m' ((c.tc : Thread Cert.AdamSmallRefIdeal.nD Cert.AdamSmallRefIdeal.τ).loc Cert.AdamSmallRefIdeal.main_arg7) = m ((c.tc : Thread Cert.AdamSmallIdeal.nD Cert.AdamSmallIdeal.τ).loc Cert.AdamSmallIdeal.main_arg7)
      ∧ m' ((c.tc : Thread Cert.AdamSmallRefIdeal.nD Cert.AdamSmallRefIdeal.τ).loc Cert.AdamSmallRefIdeal.main_arg8) = m ((c.tc : Thread Cert.AdamSmallIdeal.nD Cert.AdamSmallIdeal.τ).loc Cert.AdamSmallIdeal.main_arg8)
      ∧ m' ((c.tc : Thread Cert.AdamSmallRefIdeal.nD Cert.AdamSmallRefIdeal.τ).loc Cert.AdamSmallRefIdeal.main_arg9) = m ((c.tc : Thread Cert.AdamSmallIdeal.nD Cert.AdamSmallIdeal.τ).loc Cert.AdamSmallIdeal.main_arg9)
      ∧ m' ((c.tc : Thread Cert.AdamSmallRefIdeal.nD Cert.AdamSmallRefIdeal.τ).loc Cert.AdamSmallRefIdeal.main_arg10) = m ((c.tc : Thread Cert.AdamSmallIdeal.nD Cert.AdamSmallIdeal.τ).loc Cert.AdamSmallIdeal.main_arg10)
      ∧ m' ((c.tc : Thread Cert.AdamSmallRefIdeal.nD Cert.AdamSmallRefIdeal.τ).loc Cert.AdamSmallRefIdeal.main_arg11) = m ((c.tc : Thread Cert.AdamSmallIdeal.nD Cert.AdamSmallIdeal.τ).loc Cert.AdamSmallIdeal.main_arg11)
      ∧ m' ((c.tc : Thread Cert.AdamSmallRefIdeal.nD Cert.AdamSmallRefIdeal.τ).loc Cert.AdamSmallRefIdeal.main_arg12) = m ((c.tc : Thread Cert.AdamSmallIdeal.nD Cert.AdamSmallIdeal.τ).loc Cert.AdamSmallIdeal.main_arg12)
      ∧ m' ((c.tc : Thread Cert.AdamSmallRefIdeal.nD Cert.AdamSmallRefIdeal.τ).loc Cert.AdamSmallRefIdeal.main_arg13) = m ((c.tc : Thread Cert.AdamSmallIdeal.nD Cert.AdamSmallIdeal.τ).loc Cert.AdamSmallIdeal.main_arg13)
      ∧ m' ((c.tc : Thread Cert.AdamSmallRefIdeal.nD Cert.AdamSmallRefIdeal.τ).loc Cert.AdamSmallRefIdeal.main_arg14) = m ((c.tc : Thread Cert.AdamSmallIdeal.nD Cert.AdamSmallIdeal.τ).loc Cert.AdamSmallIdeal.main_arg14)
      ∧ m' ((c.tc : Thread Cert.AdamSmallRefIdeal.nD Cert.AdamSmallRefIdeal.τ).loc Cert.AdamSmallRefIdeal.main_arg15) = m ((c.tc : Thread Cert.AdamSmallIdeal.nD Cert.AdamSmallIdeal.τ).loc Cert.AdamSmallIdeal.main_arg15)
      ∧ m' ((c.tc : Thread Cert.AdamSmallRefIdeal.nD Cert.AdamSmallRefIdeal.τ).loc Cert.AdamSmallRefIdeal.main_arg16) = m ((c.tc : Thread Cert.AdamSmallIdeal.nD Cert.AdamSmallIdeal.τ).loc Cert.AdamSmallIdeal.main_arg16)
      ∧ m' ((c.tc : Thread Cert.AdamSmallRefIdeal.nD Cert.AdamSmallRefIdeal.τ).loc Cert.AdamSmallRefIdeal.main_arg17) = m ((c.tc : Thread Cert.AdamSmallIdeal.nD Cert.AdamSmallIdeal.τ).loc Cert.AdamSmallIdeal.main_arg17)
      ∧ m' ((c.tc : Thread Cert.AdamSmallRefIdeal.nD Cert.AdamSmallRefIdeal.τ).loc Cert.AdamSmallRefIdeal.main_arg18) = m ((c.tc : Thread Cert.AdamSmallIdeal.nD Cert.AdamSmallIdeal.τ).loc Cert.AdamSmallIdeal.main_arg18)
      ∧ m' ((c.tc : Thread Cert.AdamSmallRefIdeal.nD Cert.AdamSmallRefIdeal.τ).loc Cert.AdamSmallRefIdeal.main_arg19) = m ((c.tc : Thread Cert.AdamSmallIdeal.nD Cert.AdamSmallIdeal.τ).loc Cert.AdamSmallIdeal.main_arg19)
      ∧ m' ((c.tc : Thread Cert.AdamSmallRefIdeal.nD Cert.AdamSmallRefIdeal.τ).loc Cert.AdamSmallRefIdeal.main_arg20) = m ((c.tc : Thread Cert.AdamSmallIdeal.nD Cert.AdamSmallIdeal.τ).loc Cert.AdamSmallIdeal.main_arg20)
      ∧ m' ((c.tc : Thread Cert.AdamSmallRefIdeal.nD Cert.AdamSmallRefIdeal.τ).loc Cert.AdamSmallRefIdeal.main_arg21) = m ((c.tc : Thread Cert.AdamSmallIdeal.nD Cert.AdamSmallIdeal.τ).loc Cert.AdamSmallIdeal.main_arg21)
      ∧ m' ((c.tc : Thread Cert.AdamSmallRefIdeal.nD Cert.AdamSmallRefIdeal.τ).loc Cert.AdamSmallRefIdeal.main_arg22) = m ((c.tc : Thread Cert.AdamSmallIdeal.nD Cert.AdamSmallIdeal.τ).loc Cert.AdamSmallIdeal.main_arg22)
      ∧ m' ((c.tc : Thread Cert.AdamSmallRefIdeal.nD Cert.AdamSmallRefIdeal.τ).loc Cert.AdamSmallRefIdeal.main_arg23) = m ((c.tc : Thread Cert.AdamSmallIdeal.nD Cert.AdamSmallIdeal.τ).loc Cert.AdamSmallIdeal.main_arg23)
      ∧ m' ((c.tc : Thread Cert.AdamSmallRefIdeal.nD Cert.AdamSmallRefIdeal.τ).loc Cert.AdamSmallRefIdeal.main_arg24) = m ((c.tc : Thread Cert.AdamSmallIdeal.nD Cert.AdamSmallIdeal.τ).loc Cert.AdamSmallIdeal.main_arg24)
      ∧ m' ((c.tc : Thread Cert.AdamSmallRefIdeal.nD Cert.AdamSmallRefIdeal.τ).loc Cert.AdamSmallRefIdeal.main_arg25) = m ((c.tc : Thread Cert.AdamSmallIdeal.nD Cert.AdamSmallIdeal.τ).loc Cert.AdamSmallIdeal.main_arg25)
      ∧ m' ((c.tc : Thread Cert.AdamSmallRefIdeal.nD Cert.AdamSmallRefIdeal.τ).loc Cert.AdamSmallRefIdeal.main_arg26) = m ((c.tc : Thread Cert.AdamSmallIdeal.nD Cert.AdamSmallIdeal.τ).loc Cert.AdamSmallIdeal.main_arg26)
      ∧ m' ((c.tc : Thread Cert.AdamSmallRefIdeal.nD Cert.AdamSmallRefIdeal.τ).loc Cert.AdamSmallRefIdeal.main_arg27) = m ((c.tc : Thread Cert.AdamSmallIdeal.nD Cert.AdamSmallIdeal.τ).loc Cert.AdamSmallIdeal.main_arg27)
      ∧ m' ((c.tc : Thread Cert.AdamSmallRefIdeal.nD Cert.AdamSmallRefIdeal.τ).loc Cert.AdamSmallRefIdeal.main_arg28) = m ((c.tc : Thread Cert.AdamSmallIdeal.nD Cert.AdamSmallIdeal.τ).loc Cert.AdamSmallIdeal.main_arg28)
      ∧ m' ((c.tc : Thread Cert.AdamSmallRefIdeal.nD Cert.AdamSmallRefIdeal.τ).loc Cert.AdamSmallRefIdeal.main_arg29) = m ((c.tc : Thread Cert.AdamSmallIdeal.nD Cert.AdamSmallIdeal.τ).loc Cert.AdamSmallIdeal.main_arg29)
      ∧ m' ((c.tc : Thread Cert.AdamSmallRefIdeal.nD Cert.AdamSmallRefIdeal.τ).loc Cert.AdamSmallRefIdeal.main_arg30) = m ((c.tc : Thread Cert.AdamSmallIdeal.nD Cert.AdamSmallIdeal.τ).loc Cert.AdamSmallIdeal.main_arg30)
      ∧ m' ((c.tc : Thread Cert.AdamSmallRefIdeal.nD Cert.AdamSmallRefIdeal.τ).loc Cert.AdamSmallRefIdeal.main_arg31) = m ((c.tc : Thread Cert.AdamSmallIdeal.nD Cert.AdamSmallIdeal.τ).loc Cert.AdamSmallIdeal.main_arg31)
      ∧ m' ((c.tc : Thread Cert.AdamSmallRefIdeal.nD Cert.AdamSmallRefIdeal.τ).loc Cert.AdamSmallRefIdeal.main_arg32) = m ((c.tc : Thread Cert.AdamSmallIdeal.nD Cert.AdamSmallIdeal.τ).loc Cert.AdamSmallIdeal.main_arg32)
      ∧ m' ((c.tc : Thread Cert.AdamSmallRefIdeal.nD Cert.AdamSmallRefIdeal.τ).loc Cert.AdamSmallRefIdeal.main_arg33) = m ((c.tc : Thread Cert.AdamSmallIdeal.nD Cert.AdamSmallIdeal.τ).loc Cert.AdamSmallIdeal.main_arg33)
      ∧ m' ((c.tc : Thread Cert.AdamSmallRefIdeal.nD Cert.AdamSmallRefIdeal.τ).loc Cert.AdamSmallRefIdeal.main_arg34) = m ((c.tc : Thread Cert.AdamSmallIdeal.nD Cert.AdamSmallIdeal.τ).loc Cert.AdamSmallIdeal.main_arg34)
      ∧ m' ((c.tc : Thread Cert.AdamSmallRefIdeal.nD Cert.AdamSmallRefIdeal.τ).loc Cert.AdamSmallRefIdeal.main_arg35) = m ((c.tc : Thread Cert.AdamSmallIdeal.nD Cert.AdamSmallIdeal.τ).loc Cert.AdamSmallIdeal.main_arg35)
      ∧ m' ((c.tc : Thread Cert.AdamSmallRefIdeal.nD Cert.AdamSmallRefIdeal.τ).loc Cert.AdamSmallRefIdeal.main_arg36) = m ((c.tc : Thread Cert.AdamSmallIdeal.nD Cert.AdamSmallIdeal.τ).loc Cert.AdamSmallIdeal.main_arg36)
      ∧ m' ((c.tc : Thread Cert.AdamSmallRefIdeal.nD Cert.AdamSmallRefIdeal.τ).loc Cert.AdamSmallRefIdeal.main_arg37) = m ((c.tc : Thread Cert.AdamSmallIdeal.nD Cert.AdamSmallIdeal.τ).loc Cert.AdamSmallIdeal.main_arg37)
      ∧ m' ((c.tc : Thread Cert.AdamSmallRefIdeal.nD Cert.AdamSmallRefIdeal.τ).loc Cert.AdamSmallRefIdeal.main_arg38) = m ((c.tc : Thread Cert.AdamSmallIdeal.nD Cert.AdamSmallIdeal.τ).loc Cert.AdamSmallIdeal.main_arg38)
      ∧ m' ((c.tc : Thread Cert.AdamSmallRefIdeal.nD Cert.AdamSmallRefIdeal.τ).loc Cert.AdamSmallRefIdeal.main_arg39) = m ((c.tc : Thread Cert.AdamSmallIdeal.nD Cert.AdamSmallIdeal.τ).loc Cert.AdamSmallIdeal.main_arg39)) →
    ∃ (v0 : (c : Dev Cert.AdamSmallIdeal.nD) → Buf (Elt Ideal) ((c.tc : Thread Cert.AdamSmallIdeal.nD Cert.AdamSmallIdeal.τ).loc Cert.AdamSmallIdeal.main_v52_0)) (v1 : (c : Dev Cert.AdamSmallIdeal.nD) → Buf (Elt Ideal) ((c.tc : Thread Cert.AdamSmallIdeal.nD Cert.AdamSmallIdeal.τ).loc Cert.AdamSmallIdeal.main_v52_1)) (v2 : (c : Dev Cert.AdamSmallIdeal.nD) → Buf (Elt Ideal) ((c.tc : Thread Cert.AdamSmallIdeal.nD Cert.AdamSmallIdeal.τ).loc Cert.AdamSmallIdeal.main_v52_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v52_0) = v0 c
          ∧ r.2.mem ((c.tc : Thread Cert.AdamSmallIdeal.nD Cert.AdamSmallIdeal.τ).loc Cert.AdamSmallIdeal.main_v52_1) = v1 c
          ∧ r.2.mem ((c.tc : Thread Cert.AdamSmallIdeal.nD Cert.AdamSmallIdeal.τ).loc Cert.AdamSmallIdeal.main_v52_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
          ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
          ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
          ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
          ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
          ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
          ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
          ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
          ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
          ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
          ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
          ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
          ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
          ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
          ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
          ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
          ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19)
          ∧ r.2.mem ((c.tc : Thread Cert.AdamSmallIdeal.nD Cert.AdamSmallIdeal.τ).loc Cert.AdamSmallIdeal.main_arg20) = m ((c.tc : Thread Cert.AdamSmallIdeal.nD Cert.AdamSmallIdeal.τ).loc Cert.AdamSmallIdeal.main_arg20)
          ∧ r.2.mem ((c.tc : Thread Cert.AdamSmallIdeal.nD Cert.AdamSmallIdeal.τ).loc Cert.AdamSmallIdeal.main_arg21) = m ((c.tc : Thread Cert.AdamSmallIdeal.nD Cert.AdamSmallIdeal.τ).loc Cert.AdamSmallIdeal.main_arg21)
          ∧ r.2.mem ((c.tc : Thread Cert.AdamSmallIdeal.nD Cert.AdamSmallIdeal.τ).loc Cert.AdamSmallIdeal.main_arg22) = m ((c.tc : Thread Cert.AdamSmallIdeal.nD Cert.AdamSmallIdeal.τ).loc Cert.AdamSmallIdeal.main_arg22)
          ∧ r.2.mem ((c.tc : Thread Cert.AdamSmallIdeal.nD Cert.AdamSmallIdeal.τ).loc Cert.AdamSmallIdeal.main_arg23) = m ((c.tc : Thread Cert.AdamSmallIdeal.nD Cert.AdamSmallIdeal.τ).loc Cert.AdamSmallIdeal.main_arg23)
          ∧ r.2.mem ((c.tc : Thread Cert.AdamSmallIdeal.nD Cert.AdamSmallIdeal.τ).loc Cert.AdamSmallIdeal.main_arg24) = m ((c.tc : Thread Cert.AdamSmallIdeal.nD Cert.AdamSmallIdeal.τ).loc Cert.AdamSmallIdeal.main_arg24)
          ∧ r.2.mem ((c.tc : Thread Cert.AdamSmallIdeal.nD Cert.AdamSmallIdeal.τ).loc Cert.AdamSmallIdeal.main_arg25) = m ((c.tc : Thread Cert.AdamSmallIdeal.nD Cert.AdamSmallIdeal.τ).loc Cert.AdamSmallIdeal.main_arg25)
          ∧ r.2.mem ((c.tc : Thread Cert.AdamSmallIdeal.nD Cert.AdamSmallIdeal.τ).loc Cert.AdamSmallIdeal.main_arg26) = m ((c.tc : Thread Cert.AdamSmallIdeal.nD Cert.AdamSmallIdeal.τ).loc Cert.AdamSmallIdeal.main_arg26)
          ∧ r.2.mem ((c.tc : Thread Cert.AdamSmallIdeal.nD Cert.AdamSmallIdeal.τ).loc Cert.AdamSmallIdeal.main_arg27) = m ((c.tc : Thread Cert.AdamSmallIdeal.nD Cert.AdamSmallIdeal.τ).loc Cert.AdamSmallIdeal.main_arg27)
          ∧ r.2.mem ((c.tc : Thread Cert.AdamSmallIdeal.nD Cert.AdamSmallIdeal.τ).loc Cert.AdamSmallIdeal.main_arg28) = m ((c.tc : Thread Cert.AdamSmallIdeal.nD Cert.AdamSmallIdeal.τ).loc Cert.AdamSmallIdeal.main_arg28)
          ∧ r.2.mem ((c.tc : Thread Cert.AdamSmallIdeal.nD Cert.AdamSmallIdeal.τ).loc Cert.AdamSmallIdeal.main_arg29) = m ((c.tc : Thread Cert.AdamSmallIdeal.nD Cert.AdamSmallIdeal.τ).loc Cert.AdamSmallIdeal.main_arg29)
          ∧ r.2.mem ((c.tc : Thread Cert.AdamSmallIdeal.nD Cert.AdamSmallIdeal.τ).loc Cert.AdamSmallIdeal.main_arg30) = m ((c.tc : Thread Cert.AdamSmallIdeal.nD Cert.AdamSmallIdeal.τ).loc Cert.AdamSmallIdeal.main_arg30)
          ∧ r.2.mem ((c.tc : Thread Cert.AdamSmallIdeal.nD Cert.AdamSmallIdeal.τ).loc Cert.AdamSmallIdeal.main_arg31) = m ((c.tc : Thread Cert.AdamSmallIdeal.nD Cert.AdamSmallIdeal.τ).loc Cert.AdamSmallIdeal.main_arg31)
          ∧ r.2.mem ((c.tc : Thread Cert.AdamSmallIdeal.nD Cert.AdamSmallIdeal.τ).loc Cert.AdamSmallIdeal.main_arg32) = m ((c.tc : Thread Cert.AdamSmallIdeal.nD Cert.AdamSmallIdeal.τ).loc Cert.AdamSmallIdeal.main_arg32)
          ∧ r.2.mem ((c.tc : Thread Cert.AdamSmallIdeal.nD Cert.AdamSmallIdeal.τ).loc Cert.AdamSmallIdeal.main_arg33) = m ((c.tc : Thread Cert.AdamSmallIdeal.nD Cert.AdamSmallIdeal.τ).loc Cert.AdamSmallIdeal.main_arg33)
          ∧ r.2.mem ((c.tc : Thread Cert.AdamSmallIdeal.nD Cert.AdamSmallIdeal.τ).loc Cert.AdamSmallIdeal.main_arg34) = m ((c.tc : Thread Cert.AdamSmallIdeal.nD Cert.AdamSmallIdeal.τ).loc Cert.AdamSmallIdeal.main_arg34)
          ∧ r.2.mem ((c.tc : Thread Cert.AdamSmallIdeal.nD Cert.AdamSmallIdeal.τ).loc Cert.AdamSmallIdeal.main_arg35) = m ((c.tc : Thread Cert.AdamSmallIdeal.nD Cert.AdamSmallIdeal.τ).loc Cert.AdamSmallIdeal.main_arg35)
          ∧ r.2.mem ((c.tc : Thread Cert.AdamSmallIdeal.nD Cert.AdamSmallIdeal.τ).loc Cert.AdamSmallIdeal.main_arg36) = m ((c.tc : Thread Cert.AdamSmallIdeal.nD Cert.AdamSmallIdeal.τ).loc Cert.AdamSmallIdeal.main_arg36)
          ∧ r.2.mem ((c.tc : Thread Cert.AdamSmallIdeal.nD Cert.AdamSmallIdeal.τ).loc Cert.AdamSmallIdeal.main_arg37) = m ((c.tc : Thread Cert.AdamSmallIdeal.nD Cert.AdamSmallIdeal.τ).loc Cert.AdamSmallIdeal.main_arg37)
          ∧ r.2.mem ((c.tc : Thread Cert.AdamSmallIdeal.nD Cert.AdamSmallIdeal.τ).loc Cert.AdamSmallIdeal.main_arg38) = m ((c.tc : Thread Cert.AdamSmallIdeal.nD Cert.AdamSmallIdeal.τ).loc Cert.AdamSmallIdeal.main_arg38)
          ∧ r.2.mem ((c.tc : Thread Cert.AdamSmallIdeal.nD Cert.AdamSmallIdeal.τ).loc Cert.AdamSmallIdeal.main_arg39) = m ((c.tc : Thread Cert.AdamSmallIdeal.nD Cert.AdamSmallIdeal.τ).loc Cert.AdamSmallIdeal.main_arg39))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v252) = v0 c
          ∧ r.2.mem ((c.tc : Thread Cert.AdamSmallRefIdeal.nD Cert.AdamSmallRefIdeal.τ).loc Cert.AdamSmallRefIdeal.main_v265) = v1 c
          ∧ r.2.mem ((c.tc : Thread Cert.AdamSmallRefIdeal.nD Cert.AdamSmallRefIdeal.τ).loc Cert.AdamSmallRefIdeal.main_v278) = v2 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3)
          ∧ r.2.mem ((c.tc : Thread Cert.AdamSmallRefIdeal.nD Cert.AdamSmallRefIdeal.τ).loc Cert.AdamSmallRefIdeal.main_arg4) = m' ((c.tc : Thread Cert.AdamSmallRefIdeal.nD Cert.AdamSmallRefIdeal.τ).loc Cert.AdamSmallRefIdeal.main_arg4)
          ∧ r.2.mem ((c.tc : Thread Cert.AdamSmallRefIdeal.nD Cert.AdamSmallRefIdeal.τ).loc Cert.AdamSmallRefIdeal.main_arg5) = m' ((c.tc : Thread Cert.AdamSmallRefIdeal.nD Cert.AdamSmallRefIdeal.τ).loc Cert.AdamSmallRefIdeal.main_arg5)
          ∧ r.2.mem ((c.tc : Thread Cert.AdamSmallRefIdeal.nD Cert.AdamSmallRefIdeal.τ).loc Cert.AdamSmallRefIdeal.main_arg6) = m' ((c.tc : Thread Cert.AdamSmallRefIdeal.nD Cert.AdamSmallRefIdeal.τ).loc Cert.AdamSmallRefIdeal.main_arg6)
          ∧ r.2.mem ((c.tc : Thread Cert.AdamSmallRefIdeal.nD Cert.AdamSmallRefIdeal.τ).loc Cert.AdamSmallRefIdeal.main_arg7) = m' ((c.tc : Thread Cert.AdamSmallRefIdeal.nD Cert.AdamSmallRefIdeal.τ).loc Cert.AdamSmallRefIdeal.main_arg7)
          ∧ r.2.mem ((c.tc : Thread Cert.AdamSmallRefIdeal.nD Cert.AdamSmallRefIdeal.τ).loc Cert.AdamSmallRefIdeal.main_arg8) = m' ((c.tc : Thread Cert.AdamSmallRefIdeal.nD Cert.AdamSmallRefIdeal.τ).loc Cert.AdamSmallRefIdeal.main_arg8)
          ∧ r.2.mem ((c.tc : Thread Cert.AdamSmallRefIdeal.nD Cert.AdamSmallRefIdeal.τ).loc Cert.AdamSmallRefIdeal.main_arg9) = m' ((c.tc : Thread Cert.AdamSmallRefIdeal.nD Cert.AdamSmallRefIdeal.τ).loc Cert.AdamSmallRefIdeal.main_arg9)
          ∧ r.2.mem ((c.tc : Thread Cert.AdamSmallRefIdeal.nD Cert.AdamSmallRefIdeal.τ).loc Cert.AdamSmallRefIdeal.main_arg10) = m' ((c.tc : Thread Cert.AdamSmallRefIdeal.nD Cert.AdamSmallRefIdeal.τ).loc Cert.AdamSmallRefIdeal.main_arg10)
          ∧ r.2.mem ((c.tc : Thread Cert.AdamSmallRefIdeal.nD Cert.AdamSmallRefIdeal.τ).loc Cert.AdamSmallRefIdeal.main_arg11) = m' ((c.tc : Thread Cert.AdamSmallRefIdeal.nD Cert.AdamSmallRefIdeal.τ).loc Cert.AdamSmallRefIdeal.main_arg11)
          ∧ r.2.mem ((c.tc : Thread Cert.AdamSmallRefIdeal.nD Cert.AdamSmallRefIdeal.τ).loc Cert.AdamSmallRefIdeal.main_arg12) = m' ((c.tc : Thread Cert.AdamSmallRefIdeal.nD Cert.AdamSmallRefIdeal.τ).loc Cert.AdamSmallRefIdeal.main_arg12)
          ∧ r.2.mem ((c.tc : Thread Cert.AdamSmallRefIdeal.nD Cert.AdamSmallRefIdeal.τ).loc Cert.AdamSmallRefIdeal.main_arg13) = m' ((c.tc : Thread Cert.AdamSmallRefIdeal.nD Cert.AdamSmallRefIdeal.τ).loc Cert.AdamSmallRefIdeal.main_arg13)
          ∧ r.2.mem ((c.tc : Thread Cert.AdamSmallRefIdeal.nD Cert.AdamSmallRefIdeal.τ).loc Cert.AdamSmallRefIdeal.main_arg14) = m' ((c.tc : Thread Cert.AdamSmallRefIdeal.nD Cert.AdamSmallRefIdeal.τ).loc Cert.AdamSmallRefIdeal.main_arg14)
          ∧ r.2.mem ((c.tc : Thread Cert.AdamSmallRefIdeal.nD Cert.AdamSmallRefIdeal.τ).loc Cert.AdamSmallRefIdeal.main_arg15) = m' ((c.tc : Thread Cert.AdamSmallRefIdeal.nD Cert.AdamSmallRefIdeal.τ).loc Cert.AdamSmallRefIdeal.main_arg15)
          ∧ r.2.mem ((c.tc : Thread Cert.AdamSmallRefIdeal.nD Cert.AdamSmallRefIdeal.τ).loc Cert.AdamSmallRefIdeal.main_arg16) = m' ((c.tc : Thread Cert.AdamSmallRefIdeal.nD Cert.AdamSmallRefIdeal.τ).loc Cert.AdamSmallRefIdeal.main_arg16)
          ∧ r.2.mem ((c.tc : Thread Cert.AdamSmallRefIdeal.nD Cert.AdamSmallRefIdeal.τ).loc Cert.AdamSmallRefIdeal.main_arg17) = m' ((c.tc : Thread Cert.AdamSmallRefIdeal.nD Cert.AdamSmallRefIdeal.τ).loc Cert.AdamSmallRefIdeal.main_arg17)
          ∧ r.2.mem ((c.tc : Thread Cert.AdamSmallRefIdeal.nD Cert.AdamSmallRefIdeal.τ).loc Cert.AdamSmallRefIdeal.main_arg18) = m' ((c.tc : Thread Cert.AdamSmallRefIdeal.nD Cert.AdamSmallRefIdeal.τ).loc Cert.AdamSmallRefIdeal.main_arg18)
          ∧ r.2.mem ((c.tc : Thread Cert.AdamSmallRefIdeal.nD Cert.AdamSmallRefIdeal.τ).loc Cert.AdamSmallRefIdeal.main_arg19) = m' ((c.tc : Thread Cert.AdamSmallRefIdeal.nD Cert.AdamSmallRefIdeal.τ).loc Cert.AdamSmallRefIdeal.main_arg19)
          ∧ r.2.mem ((c.tc : Thread Cert.AdamSmallRefIdeal.nD Cert.AdamSmallRefIdeal.τ).loc Cert.AdamSmallRefIdeal.main_arg20) = m' ((c.tc : Thread Cert.AdamSmallRefIdeal.nD Cert.AdamSmallRefIdeal.τ).loc Cert.AdamSmallRefIdeal.main_arg20)
          ∧ r.2.mem ((c.tc : Thread Cert.AdamSmallRefIdeal.nD Cert.AdamSmallRefIdeal.τ).loc Cert.AdamSmallRefIdeal.main_arg21) = m' ((c.tc : Thread Cert.AdamSmallRefIdeal.nD Cert.AdamSmallRefIdeal.τ).loc Cert.AdamSmallRefIdeal.main_arg21)
          ∧ r.2.mem ((c.tc : Thread Cert.AdamSmallRefIdeal.nD Cert.AdamSmallRefIdeal.τ).loc Cert.AdamSmallRefIdeal.main_arg22) = m' ((c.tc : Thread Cert.AdamSmallRefIdeal.nD Cert.AdamSmallRefIdeal.τ).loc Cert.AdamSmallRefIdeal.main_arg22)
          ∧ r.2.mem ((c.tc : Thread Cert.AdamSmallRefIdeal.nD Cert.AdamSmallRefIdeal.τ).loc Cert.AdamSmallRefIdeal.main_arg23) = m' ((c.tc : Thread Cert.AdamSmallRefIdeal.nD Cert.AdamSmallRefIdeal.τ).loc Cert.AdamSmallRefIdeal.main_arg23)
          ∧ r.2.mem ((c.tc : Thread Cert.AdamSmallRefIdeal.nD Cert.AdamSmallRefIdeal.τ).loc Cert.AdamSmallRefIdeal.main_arg24) = m' ((c.tc : Thread Cert.AdamSmallRefIdeal.nD Cert.AdamSmallRefIdeal.τ).loc Cert.AdamSmallRefIdeal.main_arg24)
          ∧ r.2.mem ((c.tc : Thread Cert.AdamSmallRefIdeal.nD Cert.AdamSmallRefIdeal.τ).loc Cert.AdamSmallRefIdeal.main_arg25) = m' ((c.tc : Thread Cert.AdamSmallRefIdeal.nD Cert.AdamSmallRefIdeal.τ).loc Cert.AdamSmallRefIdeal.main_arg25)
          ∧ r.2.mem ((c.tc : Thread Cert.AdamSmallRefIdeal.nD Cert.AdamSmallRefIdeal.τ).loc Cert.AdamSmallRefIdeal.main_arg26) = m' ((c.tc : Thread Cert.AdamSmallRefIdeal.nD Cert.AdamSmallRefIdeal.τ).loc Cert.AdamSmallRefIdeal.main_arg26)
          ∧ r.2.mem ((c.tc : Thread Cert.AdamSmallRefIdeal.nD Cert.AdamSmallRefIdeal.τ).loc Cert.AdamSmallRefIdeal.main_arg27) = m' ((c.tc : Thread Cert.AdamSmallRefIdeal.nD Cert.AdamSmallRefIdeal.τ).loc Cert.AdamSmallRefIdeal.main_arg27)
          ∧ r.2.mem ((c.tc : Thread Cert.AdamSmallRefIdeal.nD Cert.AdamSmallRefIdeal.τ).loc Cert.AdamSmallRefIdeal.main_arg28) = m' ((c.tc : Thread Cert.AdamSmallRefIdeal.nD Cert.AdamSmallRefIdeal.τ).loc Cert.AdamSmallRefIdeal.main_arg28)
          ∧ r.2.mem ((c.tc : Thread Cert.AdamSmallRefIdeal.nD Cert.AdamSmallRefIdeal.τ).loc Cert.AdamSmallRefIdeal.main_arg29) = m' ((c.tc : Thread Cert.AdamSmallRefIdeal.nD Cert.AdamSmallRefIdeal.τ).loc Cert.AdamSmallRefIdeal.main_arg29)
          ∧ r.2.mem ((c.tc : Thread Cert.AdamSmallRefIdeal.nD Cert.AdamSmallRefIdeal.τ).loc Cert.AdamSmallRefIdeal.main_arg30) = m' ((c.tc : Thread Cert.AdamSmallRefIdeal.nD Cert.AdamSmallRefIdeal.τ).loc Cert.AdamSmallRefIdeal.main_arg30)
          ∧ r.2.mem ((c.tc : Thread Cert.AdamSmallRefIdeal.nD Cert.AdamSmallRefIdeal.τ).loc Cert.AdamSmallRefIdeal.main_arg31) = m' ((c.tc : Thread Cert.AdamSmallRefIdeal.nD Cert.AdamSmallRefIdeal.τ).loc Cert.AdamSmallRefIdeal.main_arg31)
          ∧ r.2.mem ((c.tc : Thread Cert.AdamSmallRefIdeal.nD Cert.AdamSmallRefIdeal.τ).loc Cert.AdamSmallRefIdeal.main_arg32) = m' ((c.tc : Thread Cert.AdamSmallRefIdeal.nD Cert.AdamSmallRefIdeal.τ).loc Cert.AdamSmallRefIdeal.main_arg32)
          ∧ r.2.mem ((c.tc : Thread Cert.AdamSmallRefIdeal.nD Cert.AdamSmallRefIdeal.τ).loc Cert.AdamSmallRefIdeal.main_arg33) = m' ((c.tc : Thread Cert.AdamSmallRefIdeal.nD Cert.AdamSmallRefIdeal.τ).loc Cert.AdamSmallRefIdeal.main_arg33)
          ∧ r.2.mem ((c.tc : Thread Cert.AdamSmallRefIdeal.nD Cert.AdamSmallRefIdeal.τ).loc Cert.AdamSmallRefIdeal.main_arg34) = m' ((c.tc : Thread Cert.AdamSmallRefIdeal.nD Cert.AdamSmallRefIdeal.τ).loc Cert.AdamSmallRefIdeal.main_arg34)
          ∧ r.2.mem ((c.tc : Thread Cert.AdamSmallRefIdeal.nD Cert.AdamSmallRefIdeal.τ).loc Cert.AdamSmallRefIdeal.main_arg35) = m' ((c.tc : Thread Cert.AdamSmallRefIdeal.nD Cert.AdamSmallRefIdeal.τ).loc Cert.AdamSmallRefIdeal.main_arg35)
          ∧ r.2.mem ((c.tc : Thread Cert.AdamSmallRefIdeal.nD Cert.AdamSmallRefIdeal.τ).loc Cert.AdamSmallRefIdeal.main_arg36) = m' ((c.tc : Thread Cert.AdamSmallRefIdeal.nD Cert.AdamSmallRefIdeal.τ).loc Cert.AdamSmallRefIdeal.main_arg36)
          ∧ r.2.mem ((c.tc : Thread Cert.AdamSmallRefIdeal.nD Cert.AdamSmallRefIdeal.τ).loc Cert.AdamSmallRefIdeal.main_arg37) = m' ((c.tc : Thread Cert.AdamSmallRefIdeal.nD Cert.AdamSmallRefIdeal.τ).loc Cert.AdamSmallRefIdeal.main_arg37)
          ∧ r.2.mem ((c.tc : Thread Cert.AdamSmallRefIdeal.nD Cert.AdamSmallRefIdeal.τ).loc Cert.AdamSmallRefIdeal.main_arg38) = m' ((c.tc : Thread Cert.AdamSmallRefIdeal.nD Cert.AdamSmallRefIdeal.τ).loc Cert.AdamSmallRefIdeal.main_arg38)
          ∧ r.2.mem ((c.tc : Thread Cert.AdamSmallRefIdeal.nD Cert.AdamSmallRefIdeal.τ).loc Cert.AdamSmallRefIdeal.main_arg39) = m' ((c.tc : Thread Cert.AdamSmallRefIdeal.nD Cert.AdamSmallRefIdeal.τ).loc Cert.AdamSmallRefIdeal.main_arg39))

def preserves_SumDevices_SumDevicesIdeal : Prop :=
  True

def algebraic_SumDevicesIdeal_SumDevicesRefIdeal [hSumDevicesIdeal : Cert.SumDevicesIdeal.Facts] [hSumDevicesRefIdeal : Cert.SumDevicesRefIdeal.Facts] : Prop :=
  ∀ (m : (ℓ : Loc Cert.SumDevicesIdeal.nD Cert.SumDevicesIdeal.τ Cert.SumDevicesIdeal.sig) → Buf (Elt Ideal) ℓ) (g : Dev Cert.SumDevicesIdeal.nD → PrngReg)
    (m' : (ℓ : Loc Cert.SumDevicesRefIdeal.nD Cert.SumDevicesRefIdeal.τ Cert.SumDevicesRefIdeal.sig) → Buf (Elt Ideal) ℓ) (g' : Dev Cert.SumDevicesRefIdeal.nD → PrngReg), Pre_SumDevicesIdeal m →
    (∀ c : Dev Cert.SumDevicesIdeal.nD,
      m' ((c.tc : Thread Cert.SumDevicesRefIdeal.nD Cert.SumDevicesRefIdeal.τ).loc Cert.SumDevicesRefIdeal.main_arg0) = m ((c.tc : Thread Cert.SumDevicesIdeal.nD Cert.SumDevicesIdeal.τ).loc Cert.SumDevicesIdeal.main_arg0)) →
    ∃ (v0 : (c : Dev Cert.SumDevicesIdeal.nD) → Buf (Elt Ideal) ((c.tc : Thread Cert.SumDevicesIdeal.nD Cert.SumDevicesIdeal.τ).loc Cert.SumDevicesIdeal.main_v0)),
      θ_run (Cert.SumDevicesIdeal.defs (F := Ideal)) (onTc (τ := Cert.SumDevicesIdeal.τ) (Cert.SumDevicesIdeal.main (F := Ideal))) ⟨m, fun _ => 0, g⟩ (fun r => ∀ c : Dev Cert.SumDevicesIdeal.nD,
          r.2.mem ((c.tc : Thread Cert.SumDevicesIdeal.nD Cert.SumDevicesIdeal.τ).loc Cert.SumDevicesIdeal.main_v0) = v0 c
          ∧ r.2.mem ((c.tc : Thread Cert.SumDevicesIdeal.nD Cert.SumDevicesIdeal.τ).loc Cert.SumDevicesIdeal.main_arg0) = m ((c.tc : Thread Cert.SumDevicesIdeal.nD Cert.SumDevicesIdeal.τ).loc Cert.SumDevicesIdeal.main_arg0))
      ∧ θ_run (Cert.SumDevicesRefIdeal.defs (F := Ideal)) (onTc (τ := Cert.SumDevicesRefIdeal.τ) (Cert.SumDevicesRefIdeal.main (F := Ideal))) ⟨m', fun _ => 0, g'⟩ (fun r => ∀ c : Dev Cert.SumDevicesRefIdeal.nD,
          r.2.mem ((c.tc : Thread Cert.SumDevicesRefIdeal.nD Cert.SumDevicesRefIdeal.τ).loc Cert.SumDevicesRefIdeal.main_v0) = v0 c
          ∧ r.2.mem ((c.tc : Thread Cert.SumDevicesRefIdeal.nD Cert.SumDevicesRefIdeal.τ).loc Cert.SumDevicesRefIdeal.main_arg0) = m' ((c.tc : Thread Cert.SumDevicesRefIdeal.nD Cert.SumDevicesRefIdeal.τ).loc Cert.SumDevicesRefIdeal.main_arg0))

def preserves_AdamInFirst_AdamInFirstIdeal : Prop :=
  True

def algebraic_AdamInFirstIdeal_AdamInFirstRefIdeal [hAdamInFirstIdeal : Cert.AdamInFirstIdeal.Facts] [hAdamInFirstRefIdeal : Cert.AdamInFirstRefIdeal.Facts] : Prop :=
  ∀ (m : (ℓ : Loc Cert.AdamInFirstIdeal.nD Cert.AdamInFirstIdeal.τ Cert.AdamInFirstIdeal.sig) → Buf (Elt Ideal) ℓ) (g : Dev Cert.AdamInFirstIdeal.nD → PrngReg)
    (m' : (ℓ : Loc Cert.AdamInFirstRefIdeal.nD Cert.AdamInFirstRefIdeal.τ Cert.AdamInFirstRefIdeal.sig) → Buf (Elt Ideal) ℓ) (g' : Dev Cert.AdamInFirstRefIdeal.nD → PrngReg), Pre_AdamInFirstIdeal m →
    (∀ c : Dev Cert.AdamInFirstIdeal.nD,
      m' ((c.tc : Thread Cert.AdamInFirstRefIdeal.nD Cert.AdamInFirstRefIdeal.τ).loc Cert.AdamInFirstRefIdeal.main_arg0) = m ((c.tc : Thread Cert.AdamInFirstIdeal.nD Cert.AdamInFirstIdeal.τ).loc Cert.AdamInFirstIdeal.main_arg0)
      ∧ m' ((c.tc : Thread Cert.AdamInFirstRefIdeal.nD Cert.AdamInFirstRefIdeal.τ).loc Cert.AdamInFirstRefIdeal.main_arg1) = m ((c.tc : Thread Cert.AdamInFirstIdeal.nD Cert.AdamInFirstIdeal.τ).loc Cert.AdamInFirstIdeal.main_arg1)
      ∧ m' ((c.tc : Thread Cert.AdamInFirstRefIdeal.nD Cert.AdamInFirstRefIdeal.τ).loc Cert.AdamInFirstRefIdeal.main_arg2) = m ((c.tc : Thread Cert.AdamInFirstIdeal.nD Cert.AdamInFirstIdeal.τ).loc Cert.AdamInFirstIdeal.main_arg2)
      ∧ m' ((c.tc : Thread Cert.AdamInFirstRefIdeal.nD Cert.AdamInFirstRefIdeal.τ).loc Cert.AdamInFirstRefIdeal.main_arg3) = m ((c.tc : Thread Cert.AdamInFirstIdeal.nD Cert.AdamInFirstIdeal.τ).loc Cert.AdamInFirstIdeal.main_arg3)
      ∧ m' ((c.tc : Thread Cert.AdamInFirstRefIdeal.nD Cert.AdamInFirstRefIdeal.τ).loc Cert.AdamInFirstRefIdeal.main_arg4) = m ((c.tc : Thread Cert.AdamInFirstIdeal.nD Cert.AdamInFirstIdeal.τ).loc Cert.AdamInFirstIdeal.main_arg4)
      ∧ m' ((c.tc : Thread Cert.AdamInFirstRefIdeal.nD Cert.AdamInFirstRefIdeal.τ).loc Cert.AdamInFirstRefIdeal.main_arg5) = m ((c.tc : Thread Cert.AdamInFirstIdeal.nD Cert.AdamInFirstIdeal.τ).loc Cert.AdamInFirstIdeal.main_arg5)
      ∧ m' ((c.tc : Thread Cert.AdamInFirstRefIdeal.nD Cert.AdamInFirstRefIdeal.τ).loc Cert.AdamInFirstRefIdeal.main_arg6) = m ((c.tc : Thread Cert.AdamInFirstIdeal.nD Cert.AdamInFirstIdeal.τ).loc Cert.AdamInFirstIdeal.main_arg6)
      ∧ m' ((c.tc : Thread Cert.AdamInFirstRefIdeal.nD Cert.AdamInFirstRefIdeal.τ).loc Cert.AdamInFirstRefIdeal.main_arg7) = m ((c.tc : Thread Cert.AdamInFirstIdeal.nD Cert.AdamInFirstIdeal.τ).loc Cert.AdamInFirstIdeal.main_arg7)) →
    ∃ (v0 : (c : Dev Cert.AdamInFirstIdeal.nD) → Buf (Elt Ideal) ((c.tc : Thread Cert.AdamInFirstIdeal.nD Cert.AdamInFirstIdeal.τ).loc Cert.AdamInFirstIdeal.main_v0_0)) (v1 : (c : Dev Cert.AdamInFirstIdeal.nD) → Buf (Elt Ideal) ((c.tc : Thread Cert.AdamInFirstIdeal.nD Cert.AdamInFirstIdeal.τ).loc Cert.AdamInFirstIdeal.main_v0_1)) (v2 : (c : Dev Cert.AdamInFirstIdeal.nD) → Buf (Elt Ideal) ((c.tc : Thread Cert.AdamInFirstIdeal.nD Cert.AdamInFirstIdeal.τ).loc Cert.AdamInFirstIdeal.main_v0_2)) (v3 : (c : Dev Cert.AdamInFirstIdeal.nD) → Buf (Elt Ideal) ((c.tc : Thread Cert.AdamInFirstIdeal.nD Cert.AdamInFirstIdeal.τ).loc Cert.AdamInFirstIdeal.main_v0_3)),
      θ_run (Cert.AdamInFirstIdeal.defs (F := Ideal)) (onTc (τ := Cert.AdamInFirstIdeal.τ) (Cert.AdamInFirstIdeal.main (F := Ideal))) ⟨m, fun _ => 0, g⟩ (fun r => ∀ c : Dev Cert.AdamInFirstIdeal.nD,
          r.2.mem ((c.tc : Thread Cert.AdamInFirstIdeal.nD Cert.AdamInFirstIdeal.τ).loc Cert.AdamInFirstIdeal.main_v0_0) = v0 c
          ∧ r.2.mem ((c.tc : Thread Cert.AdamInFirstIdeal.nD Cert.AdamInFirstIdeal.τ).loc Cert.AdamInFirstIdeal.main_v0_1) = v1 c
          ∧ r.2.mem ((c.tc : Thread Cert.AdamInFirstIdeal.nD Cert.AdamInFirstIdeal.τ).loc Cert.AdamInFirstIdeal.main_v0_2) = v2 c
          ∧ r.2.mem ((c.tc : Thread Cert.AdamInFirstIdeal.nD Cert.AdamInFirstIdeal.τ).loc Cert.AdamInFirstIdeal.main_v0_3) = v3 c
          ∧ r.2.mem ((c.tc : Thread Cert.AdamInFirstIdeal.nD Cert.AdamInFirstIdeal.τ).loc Cert.AdamInFirstIdeal.main_arg0) = m ((c.tc : Thread Cert.AdamInFirstIdeal.nD Cert.AdamInFirstIdeal.τ).loc Cert.AdamInFirstIdeal.main_arg0)
          ∧ r.2.mem ((c.tc : Thread Cert.AdamInFirstIdeal.nD Cert.AdamInFirstIdeal.τ).loc Cert.AdamInFirstIdeal.main_arg1) = m ((c.tc : Thread Cert.AdamInFirstIdeal.nD Cert.AdamInFirstIdeal.τ).loc Cert.AdamInFirstIdeal.main_arg1)
          ∧ r.2.mem ((c.tc : Thread Cert.AdamInFirstIdeal.nD Cert.AdamInFirstIdeal.τ).loc Cert.AdamInFirstIdeal.main_arg2) = m ((c.tc : Thread Cert.AdamInFirstIdeal.nD Cert.AdamInFirstIdeal.τ).loc Cert.AdamInFirstIdeal.main_arg2)
          ∧ r.2.mem ((c.tc : Thread Cert.AdamInFirstIdeal.nD Cert.AdamInFirstIdeal.τ).loc Cert.AdamInFirstIdeal.main_arg3) = m ((c.tc : Thread Cert.AdamInFirstIdeal.nD Cert.AdamInFirstIdeal.τ).loc Cert.AdamInFirstIdeal.main_arg3)
          ∧ r.2.mem ((c.tc : Thread Cert.AdamInFirstIdeal.nD Cert.AdamInFirstIdeal.τ).loc Cert.AdamInFirstIdeal.main_arg4) = m ((c.tc : Thread Cert.AdamInFirstIdeal.nD Cert.AdamInFirstIdeal.τ).loc Cert.AdamInFirstIdeal.main_arg4)
          ∧ r.2.mem ((c.tc : Thread Cert.AdamInFirstIdeal.nD Cert.AdamInFirstIdeal.τ).loc Cert.AdamInFirstIdeal.main_arg5) = m ((c.tc : Thread Cert.AdamInFirstIdeal.nD Cert.AdamInFirstIdeal.τ).loc Cert.AdamInFirstIdeal.main_arg5)
          ∧ r.2.mem ((c.tc : Thread Cert.AdamInFirstIdeal.nD Cert.AdamInFirstIdeal.τ).loc Cert.AdamInFirstIdeal.main_arg6) = m ((c.tc : Thread Cert.AdamInFirstIdeal.nD Cert.AdamInFirstIdeal.τ).loc Cert.AdamInFirstIdeal.main_arg6)
          ∧ r.2.mem ((c.tc : Thread Cert.AdamInFirstIdeal.nD Cert.AdamInFirstIdeal.τ).loc Cert.AdamInFirstIdeal.main_arg7) = m ((c.tc : Thread Cert.AdamInFirstIdeal.nD Cert.AdamInFirstIdeal.τ).loc Cert.AdamInFirstIdeal.main_arg7))
      ∧ θ_run (Cert.AdamInFirstRefIdeal.defs (F := Ideal)) (onTc (τ := Cert.AdamInFirstRefIdeal.τ) (Cert.AdamInFirstRefIdeal.main (F := Ideal))) ⟨m', fun _ => 0, g'⟩ (fun r => ∀ c : Dev Cert.AdamInFirstRefIdeal.nD,
          r.2.mem ((c.tc : Thread Cert.AdamInFirstRefIdeal.nD Cert.AdamInFirstRefIdeal.τ).loc Cert.AdamInFirstRefIdeal.main_v32) = v0 c
          ∧ r.2.mem ((c.tc : Thread Cert.AdamInFirstRefIdeal.nD Cert.AdamInFirstRefIdeal.τ).loc Cert.AdamInFirstRefIdeal.main_v35) = v1 c
          ∧ r.2.mem ((c.tc : Thread Cert.AdamInFirstRefIdeal.nD Cert.AdamInFirstRefIdeal.τ).loc Cert.AdamInFirstRefIdeal.main_v38) = v2 c
          ∧ r.2.mem ((c.tc : Thread Cert.AdamInFirstRefIdeal.nD Cert.AdamInFirstRefIdeal.τ).loc Cert.AdamInFirstRefIdeal.main_v41) = v3 c
          ∧ r.2.mem ((c.tc : Thread Cert.AdamInFirstRefIdeal.nD Cert.AdamInFirstRefIdeal.τ).loc Cert.AdamInFirstRefIdeal.main_arg0) = m' ((c.tc : Thread Cert.AdamInFirstRefIdeal.nD Cert.AdamInFirstRefIdeal.τ).loc Cert.AdamInFirstRefIdeal.main_arg0)
          ∧ r.2.mem ((c.tc : Thread Cert.AdamInFirstRefIdeal.nD Cert.AdamInFirstRefIdeal.τ).loc Cert.AdamInFirstRefIdeal.main_arg1) = m' ((c.tc : Thread Cert.AdamInFirstRefIdeal.nD Cert.AdamInFirstRefIdeal.τ).loc Cert.AdamInFirstRefIdeal.main_arg1)
          ∧ r.2.mem ((c.tc : Thread Cert.AdamInFirstRefIdeal.nD Cert.AdamInFirstRefIdeal.τ).loc Cert.AdamInFirstRefIdeal.main_arg2) = m' ((c.tc : Thread Cert.AdamInFirstRefIdeal.nD Cert.AdamInFirstRefIdeal.τ).loc Cert.AdamInFirstRefIdeal.main_arg2)
          ∧ r.2.mem ((c.tc : Thread Cert.AdamInFirstRefIdeal.nD Cert.AdamInFirstRefIdeal.τ).loc Cert.AdamInFirstRefIdeal.main_arg3) = m' ((c.tc : Thread Cert.AdamInFirstRefIdeal.nD Cert.AdamInFirstRefIdeal.τ).loc Cert.AdamInFirstRefIdeal.main_arg3)
          ∧ r.2.mem ((c.tc : Thread Cert.AdamInFirstRefIdeal.nD Cert.AdamInFirstRefIdeal.τ).loc Cert.AdamInFirstRefIdeal.main_arg4) = m' ((c.tc : Thread Cert.AdamInFirstRefIdeal.nD Cert.AdamInFirstRefIdeal.τ).loc Cert.AdamInFirstRefIdeal.main_arg4)
          ∧ r.2.mem ((c.tc : Thread Cert.AdamInFirstRefIdeal.nD Cert.AdamInFirstRefIdeal.τ).loc Cert.AdamInFirstRefIdeal.main_arg5) = m' ((c.tc : Thread Cert.AdamInFirstRefIdeal.nD Cert.AdamInFirstRefIdeal.τ).loc Cert.AdamInFirstRefIdeal.main_arg5)
          ∧ r.2.mem ((c.tc : Thread Cert.AdamInFirstRefIdeal.nD Cert.AdamInFirstRefIdeal.τ).loc Cert.AdamInFirstRefIdeal.main_arg6) = m' ((c.tc : Thread Cert.AdamInFirstRefIdeal.nD Cert.AdamInFirstRefIdeal.τ).loc Cert.AdamInFirstRefIdeal.main_arg6)
          ∧ r.2.mem ((c.tc : Thread Cert.AdamInFirstRefIdeal.nD Cert.AdamInFirstRefIdeal.τ).loc Cert.AdamInFirstRefIdeal.main_arg7) = m' ((c.tc : Thread Cert.AdamInFirstRefIdeal.nD Cert.AdamInFirstRefIdeal.τ).loc Cert.AdamInFirstRefIdeal.main_arg7))

def preserves_LbsBwd_LbsBwdIdeal : Prop :=
  True

def algebraic_LbsBwdIdeal_LbsBwdRefIdeal_pre_both_finite [hLbsBwdIdeal : Cert.LbsBwdIdeal.Facts] [hLbsBwdRefIdeal : Cert.LbsBwdRefIdeal.Facts] [hPre_both_finite : Cert.Pre_both_finite.Facts] : Prop :=
  ∀ (m : (ℓ : Loc Cert.LbsBwdIdeal.nD Cert.LbsBwdIdeal.τ Cert.LbsBwdIdeal.sig) → Buf (Elt Ideal) ℓ) (g : Dev Cert.LbsBwdIdeal.nD → PrngReg)
    (m' : (ℓ : Loc Cert.LbsBwdRefIdeal.nD Cert.LbsBwdRefIdeal.τ Cert.LbsBwdRefIdeal.sig) → Buf (Elt Ideal) ℓ) (g' : Dev Cert.LbsBwdRefIdeal.nD → PrngReg), Pre_LbsBwdIdeal_both_finite m →
    (∀ c : Dev Cert.LbsBwdIdeal.nD,
      m' ((c.tc : Thread Cert.LbsBwdRefIdeal.nD Cert.LbsBwdRefIdeal.τ).loc Cert.LbsBwdRefIdeal.main_arg0) = m ((c.tc : Thread Cert.LbsBwdIdeal.nD Cert.LbsBwdIdeal.τ).loc Cert.LbsBwdIdeal.main_arg0)
      ∧ m' ((c.tc : Thread Cert.LbsBwdRefIdeal.nD Cert.LbsBwdRefIdeal.τ).loc Cert.LbsBwdRefIdeal.main_arg1) = m ((c.tc : Thread Cert.LbsBwdIdeal.nD Cert.LbsBwdIdeal.τ).loc Cert.LbsBwdIdeal.main_arg1)) →
    ∃ (v0 : (c : Dev Cert.LbsBwdIdeal.nD) → Buf (Elt Ideal) ((c.tc : Thread Cert.LbsBwdIdeal.nD Cert.LbsBwdIdeal.τ).loc Cert.LbsBwdIdeal.main_v0)),
      θ_run (Cert.LbsBwdIdeal.defs (F := Ideal)) (onTc (τ := Cert.LbsBwdIdeal.τ) (Cert.LbsBwdIdeal.main (F := Ideal))) ⟨m, fun _ => 0, g⟩ (fun r => ∀ c : Dev Cert.LbsBwdIdeal.nD,
          r.2.mem ((c.tc : Thread Cert.LbsBwdIdeal.nD Cert.LbsBwdIdeal.τ).loc Cert.LbsBwdIdeal.main_v0) = v0 c
          ∧ r.2.mem ((c.tc : Thread Cert.LbsBwdIdeal.nD Cert.LbsBwdIdeal.τ).loc Cert.LbsBwdIdeal.main_arg0) = m ((c.tc : Thread Cert.LbsBwdIdeal.nD Cert.LbsBwdIdeal.τ).loc Cert.LbsBwdIdeal.main_arg0)
          ∧ r.2.mem ((c.tc : Thread Cert.LbsBwdIdeal.nD Cert.LbsBwdIdeal.τ).loc Cert.LbsBwdIdeal.main_arg1) = m ((c.tc : Thread Cert.LbsBwdIdeal.nD Cert.LbsBwdIdeal.τ).loc Cert.LbsBwdIdeal.main_arg1))
      ∧ θ_run (Cert.LbsBwdRefIdeal.defs (F := Ideal)) (onTc (τ := Cert.LbsBwdRefIdeal.τ) (Cert.LbsBwdRefIdeal.main (F := Ideal))) ⟨m', fun _ => 0, g'⟩ (fun r => ∀ c : Dev Cert.LbsBwdRefIdeal.nD,
          r.2.mem ((c.tc : Thread Cert.LbsBwdRefIdeal.nD Cert.LbsBwdRefIdeal.τ).loc Cert.LbsBwdRefIdeal.main_v54) = v0 c
          ∧ r.2.mem ((c.tc : Thread Cert.LbsBwdRefIdeal.nD Cert.LbsBwdRefIdeal.τ).loc Cert.LbsBwdRefIdeal.main_arg0) = m' ((c.tc : Thread Cert.LbsBwdRefIdeal.nD Cert.LbsBwdRefIdeal.τ).loc Cert.LbsBwdRefIdeal.main_arg0)
          ∧ r.2.mem ((c.tc : Thread Cert.LbsBwdRefIdeal.nD Cert.LbsBwdRefIdeal.τ).loc Cert.LbsBwdRefIdeal.main_arg1) = m' ((c.tc : Thread Cert.LbsBwdRefIdeal.nD Cert.LbsBwdRefIdeal.τ).loc Cert.LbsBwdRefIdeal.main_arg1))

def preserves_LbsFwd_LbsFwdIdeal : Prop :=
  True

def algebraic_LbsFwdIdeal_LbsFwdRefIdeal_pre_finite [hLbsFwdIdeal : Cert.LbsFwdIdeal.Facts] [hLbsFwdRefIdeal : Cert.LbsFwdRefIdeal.Facts] [hPre_finite : Cert.Pre_finite.Facts] : Prop :=
  ∀ (m : (ℓ : Loc Cert.LbsFwdIdeal.nD Cert.LbsFwdIdeal.τ Cert.LbsFwdIdeal.sig) → Buf (Elt Ideal) ℓ) (g : Dev Cert.LbsFwdIdeal.nD → PrngReg)
    (m' : (ℓ : Loc Cert.LbsFwdRefIdeal.nD Cert.LbsFwdRefIdeal.τ Cert.LbsFwdRefIdeal.sig) → Buf (Elt Ideal) ℓ) (g' : Dev Cert.LbsFwdRefIdeal.nD → PrngReg), Pre_LbsFwdIdeal_finite m →
    (∀ c : Dev Cert.LbsFwdIdeal.nD,
      m' ((c.tc : Thread Cert.LbsFwdRefIdeal.nD Cert.LbsFwdRefIdeal.τ).loc Cert.LbsFwdRefIdeal.main_arg0) = m ((c.tc : Thread Cert.LbsFwdIdeal.nD Cert.LbsFwdIdeal.τ).loc Cert.LbsFwdIdeal.main_arg0)) →
    ∃ (v0 : (c : Dev Cert.LbsFwdIdeal.nD) → Buf (Elt Ideal) ((c.tc : Thread Cert.LbsFwdIdeal.nD Cert.LbsFwdIdeal.τ).loc Cert.LbsFwdIdeal.main_v0)),
      θ_run (Cert.LbsFwdIdeal.defs (F := Ideal)) (onTc (τ := Cert.LbsFwdIdeal.τ) (Cert.LbsFwdIdeal.main (F := Ideal))) ⟨m, fun _ => 0, g⟩ (fun r => ∀ c : Dev Cert.LbsFwdIdeal.nD,
          r.2.mem ((c.tc : Thread Cert.LbsFwdIdeal.nD Cert.LbsFwdIdeal.τ).loc Cert.LbsFwdIdeal.main_v0) = v0 c
          ∧ r.2.mem ((c.tc : Thread Cert.LbsFwdIdeal.nD Cert.LbsFwdIdeal.τ).loc Cert.LbsFwdIdeal.main_arg0) = m ((c.tc : Thread Cert.LbsFwdIdeal.nD Cert.LbsFwdIdeal.τ).loc Cert.LbsFwdIdeal.main_arg0))
      ∧ θ_run (Cert.LbsFwdRefIdeal.defs (F := Ideal)) (onTc (τ := Cert.LbsFwdRefIdeal.τ) (Cert.LbsFwdRefIdeal.main (F := Ideal))) ⟨m', fun _ => 0, g'⟩ (fun r => ∀ c : Dev Cert.LbsFwdRefIdeal.nD,
          r.2.mem ((c.tc : Thread Cert.LbsFwdRefIdeal.nD Cert.LbsFwdRefIdeal.τ).loc Cert.LbsFwdRefIdeal.main_v16) = v0 c
          ∧ r.2.mem ((c.tc : Thread Cert.LbsFwdRefIdeal.nD Cert.LbsFwdRefIdeal.τ).loc Cert.LbsFwdRefIdeal.main_arg0) = m' ((c.tc : Thread Cert.LbsFwdRefIdeal.nD Cert.LbsFwdRefIdeal.τ).loc Cert.LbsFwdRefIdeal.main_arg0))

def preserves_RmsFwd_RmsFwdIdeal : Prop :=
  True

def algebraic_RmsFwdIdeal_RmsFwdRefIdeal [hRmsFwdIdeal : Cert.RmsFwdIdeal.Facts] [hRmsFwdRefIdeal : Cert.RmsFwdRefIdeal.Facts] : Prop :=
  ∀ (m : (ℓ : Loc Cert.RmsFwdIdeal.nD Cert.RmsFwdIdeal.τ Cert.RmsFwdIdeal.sig) → Buf (Elt Ideal) ℓ) (g : Dev Cert.RmsFwdIdeal.nD → PrngReg)
    (m' : (ℓ : Loc Cert.RmsFwdRefIdeal.nD Cert.RmsFwdRefIdeal.τ Cert.RmsFwdRefIdeal.sig) → Buf (Elt Ideal) ℓ) (g' : Dev Cert.RmsFwdRefIdeal.nD → PrngReg), Pre_RmsFwdIdeal m →
    (∀ c : Dev Cert.RmsFwdIdeal.nD,
      m' ((c.tc : Thread Cert.RmsFwdRefIdeal.nD Cert.RmsFwdRefIdeal.τ).loc Cert.RmsFwdRefIdeal.main_arg0) = m ((c.tc : Thread Cert.RmsFwdIdeal.nD Cert.RmsFwdIdeal.τ).loc Cert.RmsFwdIdeal.main_arg0)
      ∧ m' ((c.tc : Thread Cert.RmsFwdRefIdeal.nD Cert.RmsFwdRefIdeal.τ).loc Cert.RmsFwdRefIdeal.main_arg1) = m ((c.tc : Thread Cert.RmsFwdIdeal.nD Cert.RmsFwdIdeal.τ).loc Cert.RmsFwdIdeal.main_arg1)) →
    ∃ (v0 : (c : Dev Cert.RmsFwdIdeal.nD) → Buf (Elt Ideal) ((c.tc : Thread Cert.RmsFwdIdeal.nD Cert.RmsFwdIdeal.τ).loc Cert.RmsFwdIdeal.main_v0)),
      θ_run (Cert.RmsFwdIdeal.defs (F := Ideal)) (onTc (τ := Cert.RmsFwdIdeal.τ) (Cert.RmsFwdIdeal.main (F := Ideal))) ⟨m, fun _ => 0, g⟩ (fun r => ∀ c : Dev Cert.RmsFwdIdeal.nD,
          r.2.mem ((c.tc : Thread Cert.RmsFwdIdeal.nD Cert.RmsFwdIdeal.τ).loc Cert.RmsFwdIdeal.main_v0) = v0 c
          ∧ r.2.mem ((c.tc : Thread Cert.RmsFwdIdeal.nD Cert.RmsFwdIdeal.τ).loc Cert.RmsFwdIdeal.main_arg0) = m ((c.tc : Thread Cert.RmsFwdIdeal.nD Cert.RmsFwdIdeal.τ).loc Cert.RmsFwdIdeal.main_arg0)
          ∧ r.2.mem ((c.tc : Thread Cert.RmsFwdIdeal.nD Cert.RmsFwdIdeal.τ).loc Cert.RmsFwdIdeal.main_arg1) = m ((c.tc : Thread Cert.RmsFwdIdeal.nD Cert.RmsFwdIdeal.τ).loc Cert.RmsFwdIdeal.main_arg1))
      ∧ θ_run (Cert.RmsFwdRefIdeal.defs (F := Ideal)) (onTc (τ := Cert.RmsFwdRefIdeal.τ) (Cert.RmsFwdRefIdeal.main (F := Ideal))) ⟨m', fun _ => 0, g'⟩ (fun r => ∀ c : Dev Cert.RmsFwdRefIdeal.nD,
          r.2.mem ((c.tc : Thread Cert.RmsFwdRefIdeal.nD Cert.RmsFwdRefIdeal.τ).loc Cert.RmsFwdRefIdeal.main_v12) = v0 c
          ∧ r.2.mem ((c.tc : Thread Cert.RmsFwdRefIdeal.nD Cert.RmsFwdRefIdeal.τ).loc Cert.RmsFwdRefIdeal.main_arg0) = m' ((c.tc : Thread Cert.RmsFwdRefIdeal.nD Cert.RmsFwdRefIdeal.τ).loc Cert.RmsFwdRefIdeal.main_arg0)
          ∧ r.2.mem ((c.tc : Thread Cert.RmsFwdRefIdeal.nD Cert.RmsFwdRefIdeal.τ).loc Cert.RmsFwdRefIdeal.main_arg1) = m' ((c.tc : Thread Cert.RmsFwdRefIdeal.nD Cert.RmsFwdRefIdeal.τ).loc Cert.RmsFwdRefIdeal.main_arg1))

def preserves_LossHead_LossHeadIdeal : Prop :=
  True

def algebraic_LossHeadIdeal_LossHeadRefIdeal [hLossHeadIdeal : Cert.LossHeadIdeal.Facts] [hLossHeadRefIdeal : Cert.LossHeadRefIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossHeadRefIdeal.nD Cert.LossHeadRefIdeal.τ Cert.LossHeadRefIdeal.sig) → Buf (Elt Ideal) ℓ) (g' : Dev Cert.LossHeadRefIdeal.nD → PrngReg), Pre_LossHeadIdeal m →
    (∀ c : Dev Cert.LossHeadIdeal.nD,
      m' ((c.tc : Thread Cert.LossHeadRefIdeal.nD Cert.LossHeadRefIdeal.τ).loc Cert.LossHeadRefIdeal.main_arg0) = m ((c.tc : Thread Cert.LossHeadIdeal.nD Cert.LossHeadIdeal.τ).loc Cert.LossHeadIdeal.main_arg0)
      ∧ m' ((c.tc : Thread Cert.LossHeadRefIdeal.nD Cert.LossHeadRefIdeal.τ).loc Cert.LossHeadRefIdeal.main_arg1) = m ((c.tc : Thread Cert.LossHeadIdeal.nD Cert.LossHeadIdeal.τ).loc Cert.LossHeadIdeal.main_arg1)
      ∧ m' ((c.tc : Thread Cert.LossHeadRefIdeal.nD Cert.LossHeadRefIdeal.τ).loc Cert.LossHeadRefIdeal.main_arg2) = m ((c.tc : Thread Cert.LossHeadIdeal.nD Cert.LossHeadIdeal.τ).loc Cert.LossHeadIdeal.main_arg2)) →
    ∃ (v0 : (c : Dev Cert.LossHeadIdeal.nD) → Buf (Elt Ideal) ((c.tc : Thread Cert.LossHeadIdeal.nD Cert.LossHeadIdeal.τ).loc Cert.LossHeadIdeal.main_v0_0)) (v1 : (c : Dev Cert.LossHeadIdeal.nD) → Buf (Elt Ideal) ((c.tc : Thread Cert.LossHeadIdeal.nD Cert.LossHeadIdeal.τ).loc Cert.LossHeadIdeal.main_v0_1)) (v2 : (c : Dev Cert.LossHeadIdeal.nD) → Buf (Elt Ideal) ((c.tc : Thread Cert.LossHeadIdeal.nD Cert.LossHeadIdeal.τ).loc Cert.LossHeadIdeal.main_v0_2)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v0_0) = v0 c
          ∧ r.2.mem ((c.tc : Thread Cert.LossHeadIdeal.nD Cert.LossHeadIdeal.τ).loc Cert.LossHeadIdeal.main_v0_1) = v1 c
          ∧ r.2.mem ((c.tc : Thread Cert.LossHeadIdeal.nD Cert.LossHeadIdeal.τ).loc Cert.LossHeadIdeal.main_v0_2) = v2 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2))
      ∧ θ_run (Cert.LossHeadRefIdeal.defs (F := Ideal)) (onTc (τ := Cert.LossHeadRefIdeal.τ) (Cert.LossHeadRefIdeal.main (F := Ideal))) ⟨m', fun _ => 0, g'⟩ (fun r => ∀ c : Dev Cert.LossHeadRefIdeal.nD,
          r.2.mem ((c.tc : Thread Cert.LossHeadRefIdeal.nD Cert.LossHeadRefIdeal.τ).loc Cert.LossHeadRefIdeal.main_v49) = v0 c
          ∧ r.2.mem ((c.tc : Thread Cert.LossHeadRefIdeal.nD Cert.LossHeadRefIdeal.τ).loc Cert.LossHeadRefIdeal.main_v48) = v1 c
          ∧ r.2.mem ((c.tc : Thread Cert.LossHeadRefIdeal.nD Cert.LossHeadRefIdeal.τ).loc Cert.LossHeadRefIdeal.main_v51) = v2 c
          ∧ r.2.mem ((c.tc : Thread Cert.LossHeadRefIdeal.nD Cert.LossHeadRefIdeal.τ).loc Cert.LossHeadRefIdeal.main_arg0) = m' ((c.tc : Thread Cert.LossHeadRefIdeal.nD Cert.LossHeadRefIdeal.τ).loc Cert.LossHeadRefIdeal.main_arg0)
          ∧ r.2.mem ((c.tc : Thread Cert.LossHeadRefIdeal.nD Cert.LossHeadRefIdeal.τ).loc Cert.LossHeadRefIdeal.main_arg1) = m' ((c.tc : Thread Cert.LossHeadRefIdeal.nD Cert.LossHeadRefIdeal.τ).loc Cert.LossHeadRefIdeal.main_arg1)
          ∧ r.2.mem ((c.tc : Thread Cert.LossHeadRefIdeal.nD Cert.LossHeadRefIdeal.τ).loc Cert.LossHeadRefIdeal.main_arg2) = m' ((c.tc : Thread Cert.LossHeadRefIdeal.nD Cert.LossHeadRefIdeal.τ).loc Cert.LossHeadRefIdeal.main_arg2))

def preserves_Hgrn_HgrnIdeal : Prop :=
  True

def Claim : Prop :=
  ∃ (hFf2Dgrad : Cert.Ff2Dgrad.Facts) (hFf2DgradIdeal : Cert.Ff2DgradIdeal.Facts) (hFf2DgradRefIdeal : Cert.Ff2DgradRefIdeal.Facts) (hFf2Wgrad : Cert.Ff2Wgrad.Facts) (hFf2WgradIdeal : Cert.Ff2WgradIdeal.Facts) (hFf2WgradRefIdeal : Cert.Ff2WgradRefIdeal.Facts) (hFf1Dgrad : Cert.Ff1Dgrad.Facts) (hFf1DgradIdeal : Cert.Ff1DgradIdeal.Facts) (hFf1DgradRefIdeal : Cert.Ff1DgradRefIdeal.Facts) (hFf1Wgrad : Cert.Ff1Wgrad.Facts) (hFf1WgradIdeal : Cert.Ff1WgradIdeal.Facts) (hFf1WgradRefIdeal : Cert.Ff1WgradRefIdeal.Facts) (hOutDgrad : Cert.OutDgrad.Facts) (hOutDgradIdeal : Cert.OutDgradIdeal.Facts) (hOutDgradRefIdeal : Cert.OutDgradRefIdeal.Facts) (hOutWgrad : Cert.OutWgrad.Facts) (hOutWgradIdeal : Cert.OutWgradIdeal.Facts) (hOutWgradRefIdeal : Cert.OutWgradRefIdeal.Facts) (hInDgrad : Cert.InDgrad.Facts) (hInDgradIdeal : Cert.InDgradIdeal.Facts) (hInDgradRefIdeal : Cert.InDgradRefIdeal.Facts) (hInWgrad : Cert.InWgrad.Facts) (hInWgradIdeal : Cert.InWgradIdeal.Facts) (hInWgradRefIdeal : Cert.InWgradRefIdeal.Facts) (hInFwd : Cert.InFwd.Facts) (hInFwdIdeal : Cert.InFwdIdeal.Facts) (hInFwdRefIdeal : Cert.InFwdRefIdeal.Facts) (hOutFwd : Cert.OutFwd.Facts) (hOutFwdIdeal : Cert.OutFwdIdeal.Facts) (hOutFwdRefIdeal : Cert.OutFwdRefIdeal.Facts) (hFf1Fwd : Cert.Ff1Fwd.Facts) (hFf1FwdIdeal : Cert.Ff1FwdIdeal.Facts) (hFf1FwdRefIdeal : Cert.Ff1FwdRefIdeal.Facts) (hFf2Fwd : Cert.Ff2Fwd.Facts) (hFf2FwdIdeal : Cert.Ff2FwdIdeal.Facts) (hFf2FwdRefIdeal : Cert.Ff2FwdRefIdeal.Facts) (hAdamFf : Cert.AdamFf.Facts) (hAdamFfIdeal : Cert.AdamFfIdeal.Facts) (hAdamFfRefIdeal : Cert.AdamFfRefIdeal.Facts) (hAdamO : Cert.AdamO.Facts) (hAdamOIdeal : Cert.AdamOIdeal.Facts) (hAdamORefIdeal : Cert.AdamORefIdeal.Facts) (hAdamBranch : Cert.AdamBranch.Facts) (hAdamBranchIdeal : Cert.AdamBranchIdeal.Facts) (hAdamBranchRefIdeal : Cert.AdamBranchRefIdeal.Facts) (hAdamSmall : Cert.AdamSmall.Facts) (hAdamSmallIdeal : Cert.AdamSmallIdeal.Facts) (hAdamSmallRefIdeal : Cert.AdamSmallRefIdeal.Facts) (hSumDevices : Cert.SumDevices.Facts) (hSumDevicesIdeal : Cert.SumDevicesIdeal.Facts) (hSumDevicesRefIdeal : Cert.SumDevicesRefIdeal.Facts) (hAdamInFirst : Cert.AdamInFirst.Facts) (hAdamInFirstIdeal : Cert.AdamInFirstIdeal.Facts) (hAdamInFirstRefIdeal : Cert.AdamInFirstRefIdeal.Facts) (hLbsBwd : Cert.LbsBwd.Facts) (hLbsBwdIdeal : Cert.LbsBwdIdeal.Facts) (hLbsBwdRefIdeal : Cert.LbsBwdRefIdeal.Facts) (hLbsFwd : Cert.LbsFwd.Facts) (hLbsFwdIdeal : Cert.LbsFwdIdeal.Facts) (hLbsFwdRefIdeal : Cert.LbsFwdRefIdeal.Facts) (hRmsFwd : Cert.RmsFwd.Facts) (hRmsFwdIdeal : Cert.RmsFwdIdeal.Facts) (hRmsFwdRefIdeal : Cert.RmsFwdRefIdeal.Facts) (hLossHead : Cert.LossHead.Facts) (hLossHeadIdeal : Cert.LossHeadIdeal.Facts) (hLossHeadRefIdeal : Cert.LossHeadRefIdeal.Facts) (hHgrn : Cert.Hgrn.Facts) (hHgrnIdeal : Cert.HgrnIdeal.Facts) (hPre_both_finite : Cert.Pre_both_finite.Facts) (hPre_finite : Cert.Pre_finite.Facts),
    quiescent_Ff2Dgrad (hFf2Dgrad := hFf2Dgrad)
    ∧ quiescent_Ff2DgradIdeal (hFf2DgradIdeal := hFf2DgradIdeal)
    ∧ quiescent_Ff2DgradRefIdeal (hFf2DgradRefIdeal := hFf2DgradRefIdeal)
    ∧ quiescent_Ff2Wgrad (hFf2Wgrad := hFf2Wgrad)
    ∧ quiescent_Ff2WgradIdeal (hFf2WgradIdeal := hFf2WgradIdeal)
    ∧ quiescent_Ff2WgradRefIdeal (hFf2WgradRefIdeal := hFf2WgradRefIdeal)
    ∧ quiescent_Ff1Dgrad (hFf1Dgrad := hFf1Dgrad)
    ∧ quiescent_Ff1DgradIdeal (hFf1DgradIdeal := hFf1DgradIdeal)
    ∧ quiescent_Ff1DgradRefIdeal (hFf1DgradRefIdeal := hFf1DgradRefIdeal)
    ∧ quiescent_Ff1Wgrad (hFf1Wgrad := hFf1Wgrad)
    ∧ quiescent_Ff1WgradIdeal (hFf1WgradIdeal := hFf1WgradIdeal)
    ∧ quiescent_Ff1WgradRefIdeal (hFf1WgradRefIdeal := hFf1WgradRefIdeal)
    ∧ quiescent_OutDgrad (hOutDgrad := hOutDgrad)
    ∧ quiescent_OutDgradIdeal (hOutDgradIdeal := hOutDgradIdeal)
    ∧ quiescent_OutDgradRefIdeal (hOutDgradRefIdeal := hOutDgradRefIdeal)
    ∧ quiescent_OutWgrad (hOutWgrad := hOutWgrad)
    ∧ quiescent_OutWgradIdeal (hOutWgradIdeal := hOutWgradIdeal)
    ∧ quiescent_OutWgradRefIdeal (hOutWgradRefIdeal := hOutWgradRefIdeal)
    ∧ quiescent_InDgrad (hInDgrad := hInDgrad)
    ∧ quiescent_InDgradIdeal (hInDgradIdeal := hInDgradIdeal)
    ∧ quiescent_InDgradRefIdeal (hInDgradRefIdeal := hInDgradRefIdeal)
    ∧ quiescent_InWgrad (hInWgrad := hInWgrad)
    ∧ quiescent_InWgradIdeal (hInWgradIdeal := hInWgradIdeal)
    ∧ quiescent_InWgradRefIdeal (hInWgradRefIdeal := hInWgradRefIdeal)
    ∧ quiescent_InFwd (hInFwd := hInFwd)
    ∧ quiescent_InFwdIdeal (hInFwdIdeal := hInFwdIdeal)
    ∧ quiescent_InFwdRefIdeal (hInFwdRefIdeal := hInFwdRefIdeal)
    ∧ quiescent_OutFwd (hOutFwd := hOutFwd)
    ∧ quiescent_OutFwdIdeal (hOutFwdIdeal := hOutFwdIdeal)
    ∧ quiescent_OutFwdRefIdeal (hOutFwdRefIdeal := hOutFwdRefIdeal)
    ∧ quiescent_Ff1Fwd (hFf1Fwd := hFf1Fwd)
    ∧ quiescent_Ff1FwdIdeal (hFf1FwdIdeal := hFf1FwdIdeal)
    ∧ quiescent_Ff1FwdRefIdeal (hFf1FwdRefIdeal := hFf1FwdRefIdeal)
    ∧ quiescent_Ff2Fwd (hFf2Fwd := hFf2Fwd)
    ∧ quiescent_Ff2FwdIdeal (hFf2FwdIdeal := hFf2FwdIdeal)
    ∧ quiescent_Ff2FwdRefIdeal (hFf2FwdRefIdeal := hFf2FwdRefIdeal)
    ∧ quiescent_AdamFf (hAdamFf := hAdamFf)
    ∧ quiescent_AdamFfIdeal (hAdamFfIdeal := hAdamFfIdeal)
    ∧ quiescent_AdamFfRefIdeal (hAdamFfRefIdeal := hAdamFfRefIdeal)
    ∧ quiescent_AdamO (hAdamO := hAdamO)
    ∧ quiescent_AdamOIdeal (hAdamOIdeal := hAdamOIdeal)
    ∧ quiescent_AdamORefIdeal (hAdamORefIdeal := hAdamORefIdeal)
    ∧ quiescent_AdamBranch (hAdamBranch := hAdamBranch)
    ∧ quiescent_AdamBranchIdeal (hAdamBranchIdeal := hAdamBranchIdeal)
    ∧ quiescent_AdamBranchRefIdeal (hAdamBranchRefIdeal := hAdamBranchRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_SumDevices (hSumDevices := hSumDevices)
    ∧ quiescent_SumDevicesIdeal (hSumDevicesIdeal := hSumDevicesIdeal)
    ∧ quiescent_SumDevicesRefIdeal (hSumDevicesRefIdeal := hSumDevicesRefIdeal)
    ∧ quiescent_AdamInFirst (hAdamInFirst := hAdamInFirst)
    ∧ quiescent_AdamInFirstIdeal (hAdamInFirstIdeal := hAdamInFirstIdeal)
    ∧ quiescent_AdamInFirstRefIdeal (hAdamInFirstRefIdeal := hAdamInFirstRefIdeal)
    ∧ quiescent_LbsBwd (hLbsBwd := hLbsBwd)
    ∧ quiescent_LbsBwdIdeal (hLbsBwdIdeal := hLbsBwdIdeal)
    ∧ quiescent_LbsBwdIdeal_pre_both_finite (hLbsBwdIdeal := hLbsBwdIdeal) (hPre_both_finite := hPre_both_finite)
    ∧ quiescent_LbsBwdRefIdeal (hLbsBwdRefIdeal := hLbsBwdRefIdeal)
    ∧ quiescent_LbsBwdRefIdeal_pre_both_finite (hLbsBwdRefIdeal := hLbsBwdRefIdeal) (hPre_both_finite := hPre_both_finite)
    ∧ quiescent_LbsFwd (hLbsFwd := hLbsFwd)
    ∧ quiescent_LbsFwdIdeal (hLbsFwdIdeal := hLbsFwdIdeal)
    ∧ quiescent_LbsFwdIdeal_pre_finite (hLbsFwdIdeal := hLbsFwdIdeal) (hPre_finite := hPre_finite)
    ∧ quiescent_LbsFwdRefIdeal (hLbsFwdRefIdeal := hLbsFwdRefIdeal)
    ∧ quiescent_LbsFwdRefIdeal_pre_finite (hLbsFwdRefIdeal := hLbsFwdRefIdeal) (hPre_finite := hPre_finite)
    ∧ quiescent_RmsFwd (hRmsFwd := hRmsFwd)
    ∧ quiescent_RmsFwdIdeal (hRmsFwdIdeal := hRmsFwdIdeal)
    ∧ quiescent_RmsFwdRefIdeal (hRmsFwdRefIdeal := hRmsFwdRefIdeal)
    ∧ quiescent_LossHead (hLossHead := hLossHead)
    ∧ quiescent_LossHeadIdeal (hLossHeadIdeal := hLossHeadIdeal)
    ∧ quiescent_LossHeadRefIdeal (hLossHeadRefIdeal := hLossHeadRefIdeal)
    ∧ quiescent_Hgrn (hHgrn := hHgrn)
    ∧ quiescent_HgrnIdeal (hHgrnIdeal := hHgrnIdeal)
    ∧ preserves_Ff2Dgrad_Ff2DgradIdeal
    ∧ algebraic_Ff2DgradIdeal_Ff2DgradRefIdeal (hFf2DgradIdeal := hFf2DgradIdeal) (hFf2DgradRefIdeal := hFf2DgradRefIdeal)
    ∧ preserves_Ff2Wgrad_Ff2WgradIdeal
    ∧ algebraic_Ff2WgradIdeal_Ff2WgradRefIdeal (hFf2WgradIdeal := hFf2WgradIdeal) (hFf2WgradRefIdeal := hFf2WgradRefIdeal)
    ∧ preserves_Ff1Dgrad_Ff1DgradIdeal
    ∧ algebraic_Ff1DgradIdeal_Ff1DgradRefIdeal (hFf1DgradIdeal := hFf1DgradIdeal) (hFf1DgradRefIdeal := hFf1DgradRefIdeal)
    ∧ preserves_Ff1Wgrad_Ff1WgradIdeal
    ∧ algebraic_Ff1WgradIdeal_Ff1WgradRefIdeal (hFf1WgradIdeal := hFf1WgradIdeal) (hFf1WgradRefIdeal := hFf1WgradRefIdeal)
    ∧ preserves_OutDgrad_OutDgradIdeal
    ∧ algebraic_OutDgradIdeal_OutDgradRefIdeal (hOutDgradIdeal := hOutDgradIdeal) (hOutDgradRefIdeal := hOutDgradRefIdeal)
    ∧ preserves_OutWgrad_OutWgradIdeal
    ∧ algebraic_OutWgradIdeal_OutWgradRefIdeal (hOutWgradIdeal := hOutWgradIdeal) (hOutWgradRefIdeal := hOutWgradRefIdeal)
    ∧ preserves_InDgrad_InDgradIdeal
    ∧ algebraic_InDgradIdeal_InDgradRefIdeal (hInDgradIdeal := hInDgradIdeal) (hInDgradRefIdeal := hInDgradRefIdeal)
    ∧ preserves_InWgrad_InWgradIdeal
    ∧ algebraic_InWgradIdeal_InWgradRefIdeal (hInWgradIdeal := hInWgradIdeal) (hInWgradRefIdeal := hInWgradRefIdeal)
    ∧ preserves_InFwd_InFwdIdeal
    ∧ algebraic_InFwdIdeal_InFwdRefIdeal (hInFwdIdeal := hInFwdIdeal) (hInFwdRefIdeal := hInFwdRefIdeal)
    ∧ preserves_OutFwd_OutFwdIdeal
    ∧ algebraic_OutFwdIdeal_OutFwdRefIdeal (hOutFwdIdeal := hOutFwdIdeal) (hOutFwdRefIdeal := hOutFwdRefIdeal)
    ∧ preserves_Ff1Fwd_Ff1FwdIdeal
    ∧ algebraic_Ff1FwdIdeal_Ff1FwdRefIdeal (hFf1FwdIdeal := hFf1FwdIdeal) (hFf1FwdRefIdeal := hFf1FwdRefIdeal)
    ∧ preserves_Ff2Fwd_Ff2FwdIdeal
    ∧ algebraic_Ff2FwdIdeal_Ff2FwdRefIdeal (hFf2FwdIdeal := hFf2FwdIdeal) (hFf2FwdRefIdeal := hFf2FwdRefIdeal)
    ∧ preserves_AdamFf_AdamFfIdeal
    ∧ algebraic_AdamFfIdeal_AdamFfRefIdeal (hAdamFfIdeal := hAdamFfIdeal) (hAdamFfRefIdeal := hAdamFfRefIdeal)
    ∧ preserves_AdamO_AdamOIdeal
    ∧ algebraic_AdamOIdeal_AdamORefIdeal (hAdamOIdeal := hAdamOIdeal) (hAdamORefIdeal := hAdamORefIdeal)
    ∧ preserves_AdamBranch_AdamBranchIdeal
    ∧ algebraic_AdamBranchIdeal_AdamBranchRefIdeal (hAdamBranchIdeal := hAdamBranchIdeal) (hAdamBranchRefIdeal := hAdamBranchRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_SumDevices_SumDevicesIdeal
    ∧ algebraic_SumDevicesIdeal_SumDevicesRefIdeal (hSumDevicesIdeal := hSumDevicesIdeal) (hSumDevicesRefIdeal := hSumDevicesRefIdeal)
    ∧ preserves_AdamInFirst_AdamInFirstIdeal
    ∧ algebraic_AdamInFirstIdeal_AdamInFirstRefIdeal (hAdamInFirstIdeal := hAdamInFirstIdeal) (hAdamInFirstRefIdeal := hAdamInFirstRefIdeal)
    ∧ preserves_LbsBwd_LbsBwdIdeal
    ∧ algebraic_LbsBwdIdeal_LbsBwdRefIdeal_pre_both_finite (hLbsBwdIdeal := hLbsBwdIdeal) (hLbsBwdRefIdeal := hLbsBwdRefIdeal) (hPre_both_finite := hPre_both_finite)
    ∧ preserves_LbsFwd_LbsFwdIdeal
    ∧ algebraic_LbsFwdIdeal_LbsFwdRefIdeal_pre_finite (hLbsFwdIdeal := hLbsFwdIdeal) (hLbsFwdRefIdeal := hLbsFwdRefIdeal) (hPre_finite := hPre_finite)
    ∧ preserves_RmsFwd_RmsFwdIdeal
    ∧ algebraic_RmsFwdIdeal_RmsFwdRefIdeal (hRmsFwdIdeal := hRmsFwdIdeal) (hRmsFwdRefIdeal := hRmsFwdRefIdeal)
    ∧ preserves_LossHead_LossHeadIdeal
    ∧ algebraic_LossHeadIdeal_LossHeadRefIdeal (hLossHeadIdeal := hLossHeadIdeal) (hLossHeadRefIdeal := hLossHeadRefIdeal)
    ∧ preserves_Hgrn_HgrnIdeal
-- ==== Pre_both_finite.lean ====
abbrev S4x512 : Shape := ⟨2, ![4, 512]⟩
abbrev S_ : Shape := ⟨0, ![]⟩

class Facts : Prop where
  bcast_S_S4x512 : S_.BroadcastsInDim S4x512 (![] : Fin 0 → Fin S4x512.rank)

variable [Facts]

def fn {F : FTy → Type} [FloatOps F] (main_arg0 : FVec F S4x512 .f32) (main_arg1 : FVec F S4x512 .f32) : IVec S4x512 1 :=
  let main_v0 : FVec F S4x512 .f32 := Host.absf main_arg0
  let main_cst : FVec F S_ .f32 := constant S_ .f32 0x7F800000#32
  let main_v1 : FVec F S4x512 .f32 := broadcastInDim S4x512 ![] bcast_S_S4x512 main_cst
  let main_v2 : IVec S4x512 1 := cmpf .olt main_v0 main_v1
  let main_v3 : FVec F S4x512 .f32 := Host.absf main_arg1
  let main_cst_0 : FVec F S_ .f32 := constant S_ .f32 0x7F800000#32
  let main_v4 : FVec F S4x512 .f32 := broadcastInDim S4x512 ![] bcast_S_S4x512 main_cst_0
  let main_v5 : IVec S4x512 1 := cmpf .olt main_v3 main_v4
  let main_v6 : IVec S4x512 1 := andi main_v2 main_v5
  main_v6
-- ==== Pre_finite.lean ====
abbrev S4x512 : Shape := ⟨2, ![4, 512]⟩
abbrev S_ : Shape := ⟨0, ![]⟩

class Facts : Prop where
  bcast_S_S4x512 : S_.BroadcastsInDim S4x512 (![] : Fin 0 → Fin S4x512.rank)

variable [Facts]

def fn {F : FTy → Type} [FloatOps F] (main_arg0 : FVec F S4x512 .f32) : IVec S4x512 1 :=
  let main_v0 : FVec F S4x512 .f32 := Host.absf main_arg0
  let main_cst : FVec F S_ .f32 := constant S_ .f32 0x7F800000#32
  let main_v1 : FVec F S4x512 .f32 := broadcastInDim S4x512 ![] bcast_S_S4x512 main_cst
  let main_v2 : IVec S4x512 1 := cmpf .olt main_v0 main_v1
  main_v2
-- ==== Ff2Dgrad.lean ====
abbrev S2048x4096 : Shape := ⟨2, ![2048, 4096]⟩
abbrev S4096x1024 : Shape := ⟨2, ![4096, 1024]⟩
abbrev S2048x1024 : Shape := ⟨2, ![2048, 1024]⟩
abbrev S_ : Shape := ⟨0, ![]⟩
abbrev S4x1024x1024 : Shape := ⟨3, ![4, 1024, 1024]⟩
abbrev S256x1024 : Shape := ⟨2, ![256, 1024]⟩
abbrev S256x4096 : Shape := ⟨2, ![256, 4096]⟩

abbrev nBuf : Space → Nat
  | .hbm => 12
  | .vmem => 7
  | .smem => 0
  | _ => 0

abbrev bufTy : (tb : Table) → Fin (tcTables nBuf tb) → BufTy
  | .hbm, ⟨0, _⟩ => ⟨S2048x4096, .f32⟩
  | .hbm, ⟨1, _⟩ => ⟨S4096x1024, .f32⟩
  | .hbm, ⟨2, _⟩ => ⟨S2048x1024, .f32⟩
  | .hbm, ⟨3, _⟩ => ⟨S_, .f32⟩
  | .hbm, ⟨4, _⟩ => ⟨S2048x4096, .f32⟩
  | .hbm, ⟨5, _⟩ => ⟨S2048x4096, .f32⟩
  | .hbm, ⟨6, _⟩ => ⟨S2048x4096, .f32⟩
  | .hbm, ⟨7, _⟩ => ⟨S2048x4096, .bf16⟩
  | .hbm, ⟨8, _⟩ => ⟨S4x1024x1024, .f32⟩
  | .hbm, ⟨9, _⟩ => ⟨S4x1024x1024, .bf16⟩
  | .hbm, ⟨10, _⟩ => ⟨S4096x1024, .bf16⟩
  | .hbm, ⟨11, _⟩ => ⟨S2048x4096, .bf16⟩
  | .local _ .vmem, ⟨0, _⟩ => ⟨S256x1024, .f32⟩
  | .local _ .vmem, ⟨1, _⟩ => ⟨S256x1024, .f32⟩
  | .local _ .vmem, ⟨2, _⟩ => ⟨S4096x1024, .bf16⟩
  | .local _ .vmem, ⟨3, _⟩ => ⟨S256x4096, .bf16⟩
  | .local _ .vmem, ⟨4, _⟩ => ⟨S256x4096, .bf16⟩
  | .local _ .vmem, ⟨5, _⟩ => ⟨S256x4096, .bf16⟩
  | .local _ .vmem, ⟨6, _⟩ => ⟨S256x4096, .bf16⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]
-- ==== Ff2DgradRefIdeal.lean ====
abbrev S2048x4096 : Shape := ⟨2, ![2048, 4096]⟩
abbrev S4096x1024 : Shape := ⟨2, ![4096, 1024]⟩
abbrev S2048x1024 : Shape := ⟨2, ![2048, 1024]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4096x1024, .f32⟩
  | .hbm, ⟨2, _⟩ => ⟨S2048x1024, .f32⟩
  | .hbm, ⟨3, _⟩ => ⟨S_, .f32⟩
  | .hbm, ⟨4, _⟩ => ⟨S2048x4096, .f32⟩
  | .hbm, ⟨5, _⟩ => ⟨S2048x4096, .f32⟩
  | .hbm, ⟨6, _⟩ => ⟨S_, .f32⟩
  | .hbm, ⟨7, _⟩ => ⟨S2048x4096, .f32⟩
  | .hbm, ⟨8, _⟩ => ⟨S2048x4096, .i1⟩
  | .hbm, ⟨9, _⟩ => ⟨S_, .f32⟩
  | .hbm, ⟨10, _⟩ => ⟨S2048x4096, .f32⟩
  | .hbm, ⟨11, _⟩ => ⟨S2048x4096, .f32⟩
  | .hbm, ⟨12, _⟩ => ⟨S_, .f32⟩
  | .hbm, ⟨13, _⟩ => ⟨S2048x4096, .f32⟩
  | .hbm, ⟨14, _⟩ => ⟨S2048x4096, .f32⟩
  | .hbm, ⟨15, _⟩ => ⟨S2048x1024, .f32⟩
  | .hbm, ⟨16, _⟩ => ⟨S2048x4096, .f32⟩
  | .hbm, ⟨17, _⟩ => ⟨S2048x4096, .f32⟩
  | .hbm, ⟨18, _⟩ => ⟨S_, .f32⟩
  | .hbm, ⟨19, _⟩ => ⟨S2048x4096, .f32⟩
  | .hbm, ⟨20, _⟩ => ⟨S2048x4096, .f32⟩
  | .hbm, ⟨21, _⟩ => ⟨S2048x4096, .bf16⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩

abbrev nD : Nat := 1
abbrev τ : Topo := Topo.v7x

variable {F : FTy → Type} [FloatOps F]
-- ==== Ff2Wgrad.lean ====
abbrev S2048x4096 : Shape := ⟨2, ![2048, 4096]⟩
abbrev S4096x1024 : Shape := ⟨2, ![4096, 1024]⟩
abbrev S2048x1024 : Shape := ⟨2, ![2048, 1024]⟩
abbrev S_ : Shape := ⟨0, ![]⟩
abbrev S4x1024x1024 : Shape := ⟨3, ![4, 1024, 1024]⟩
abbrev S1x1024x1024 : Shape := ⟨3, ![1, 1024, 1024]⟩
abbrev S1024x1024 : Shape := ⟨2, ![1024, 1024]⟩

abbrev nBuf : Space → Nat
  | .hbm => 9
  | .vmem => 5
  | .smem => 0
  | _ => 0

abbrev bufTy : (tb : Table) → Fin (tcTables nBuf tb) → BufTy
  | .hbm, ⟨0, _⟩ => ⟨S2048x4096, .f32⟩
  | .hbm, ⟨1, _⟩ => ⟨S4096x1024, .f32⟩
  | .hbm, ⟨2, _⟩ => ⟨S2048x1024, .f32⟩
  | .hbm, ⟨3, _⟩ => ⟨S_, .f32⟩
  | .hbm, ⟨4, _⟩ => ⟨S2048x4096, .f32⟩
  | .hbm, ⟨5, _⟩ => ⟨S2048x4096, .f32⟩
  | .hbm, ⟨6, _⟩ => ⟨S2048x4096, .f32⟩
  | .hbm, ⟨7, _⟩ => ⟨S2048x4096, .bf16⟩
  | .hbm, ⟨8, _⟩ => ⟨S4x1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .f32⟩
  | .local _ .vmem, ⟨3, _⟩ => ⟨S1x1024x1024, .f32⟩
  | .local _ .vmem, ⟨4, _⟩ => ⟨S1x1024x1024, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Ff2WgradRefIdeal.lean ====
abbrev S2048x4096 : Shape := ⟨2, ![2048, 4096]⟩
abbrev S4096x1024 : Shape := ⟨2, ![4096, 1024]⟩
abbrev S2048x1024 : Shape := ⟨2, ![2048, 1024]⟩
abbrev S_ : Shape := ⟨0, ![]⟩
abbrev S1024x4096 : Shape := ⟨2, ![1024, 4096]⟩
abbrev S4x1024x1024 : Shape := ⟨3, ![4, 1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4096x1024, .f32⟩
  | .hbm, ⟨2, _⟩ => ⟨S2048x1024, .f32⟩
  | .hbm, ⟨3, _⟩ => ⟨S_, .f32⟩
  | .hbm, ⟨4, _⟩ => ⟨S2048x4096, .f32⟩
  | .hbm, ⟨5, _⟩ => ⟨S2048x4096, .f32⟩
  | .hbm, ⟨6, _⟩ => ⟨S2048x4096, .f32⟩
  | .hbm, ⟨7, _⟩ => ⟨S2048x1024, .f32⟩
  | .hbm, ⟨8, _⟩ => ⟨S1024x4096, .f32⟩
  | .hbm, ⟨9, _⟩ => ⟨S4096x1024, .f32⟩
  | .hbm, ⟨10, _⟩ => ⟨S4x1024x1024, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== Ff1Dgrad.lean ====
abbrev S2048x1024 : Shape := ⟨2, ![2048, 1024]⟩
abbrev S1x1024 : Shape := ⟨2, ![1, 1024]⟩
abbrev S1024x4096 : Shape := ⟨2, ![1024, 4096]⟩
abbrev S2048x4096 : Shape := ⟨2, ![2048, 4096]⟩
abbrev S1024x4x1024 : Shape := ⟨3, ![1024, 4, 1024]⟩
abbrev S4x1024x1024 : Shape := ⟨3, ![4, 1024, 1024]⟩
abbrev S8x1024 : Shape := ⟨2, ![8, 1024]⟩
abbrev S512x4096 : Shape := ⟨2, ![512, 4096]⟩
abbrev S512x1024 : Shape := ⟨2, ![512, 1024]⟩
abbrev S1x1024x1024 : Shape := ⟨3, ![1, 1024, 1024]⟩
abbrev S1024x1024 : Shape := ⟨2, ![1024, 1024]⟩
abbrev S512 : Shape := ⟨1, ![512]⟩
abbrev S512x1 : Shape := ⟨2, ![512, 1]⟩
abbrev S1024 : Shape := ⟨1, ![1024]⟩

abbrev nBuf : Space → Nat
  | .hbm => 11
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x4096, .f32⟩
  | .hbm, ⟨3, _⟩ => ⟨S2048x4096, .f32⟩
  | .hbm, ⟨4, _⟩ => ⟨S2048x1024, .f32⟩
  | .hbm, ⟨5, _⟩ => ⟨S2048x4096, .bf16⟩
  | .hbm, ⟨6, _⟩ => ⟨S1024x4x1024, .f32⟩
  | .hbm, ⟨7, _⟩ => ⟨S4x1024x1024, .f32⟩
  | .hbm, ⟨8, _⟩ => ⟨S4x1024x1024, .bf16⟩
  | .hbm, ⟨9, _⟩ => ⟨S2048x1024, .f32⟩
  | .hbm, ⟨10, _⟩ => ⟨S8x1024, .f32⟩
  | .local _ .vmem, ⟨0, _⟩ => ⟨S512x4096, .bf16⟩
  | .local _ .vmem, ⟨1, _⟩ => ⟨S512x4096, .bf16⟩
  | .local _ .vmem, ⟨2, _⟩ => ⟨S4x1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S8x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Ff1DgradRefIdeal.lean ====
abbrev S2048x1024 : Shape := ⟨2, ![2048, 1024]⟩
abbrev S1x1024 : Shape := ⟨2, ![1, 1024]⟩
abbrev S1024x4096 : Shape := ⟨2, ![1024, 4096]⟩
abbrev S2048x4096 : Shape := ⟨2, ![2048, 4096]⟩
abbrev S_ : Shape := ⟨0, ![]⟩
abbrev S2048 : Shape := ⟨1, ![2048]⟩
abbrev S2048x1 : Shape := ⟨2, ![2048, 1]⟩
abbrev S1024 : Shape := ⟨1, ![1024]⟩
abbrev S7x1024 : Shape := ⟨2, ![7, 1024]⟩
abbrev S8x1024 : Shape := ⟨2, ![8, 1024]⟩

abbrev nBuf : Space → Nat
  | .hbm => 53
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x4096, .f32⟩
  | .hbm, ⟨3, _⟩ => ⟨S2048x4096, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x4096, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048, .f32⟩
  | .hbm, ⟨35, _⟩ => ⟨S2048x1, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1, .f32⟩
  | .hbm, ⟨40, _⟩ => ⟨S_, .f32⟩
  | .hbm, ⟨41, _⟩ => ⟨S2048x1, .f32⟩
  | .hbm, ⟨42, _⟩ => ⟨S2048x1, .f32⟩
  | .hbm, ⟨43, _⟩ => ⟨S_, .f32⟩
  | .hbm, ⟨44, _⟩ => ⟨S2048, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S_, .f32⟩
  | .hbm, ⟨51, _⟩ => ⟨S7x1024, .f32⟩
  | .hbm, ⟨52, _⟩ => ⟨S8x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]
-- ==== Ff1Wgrad.lean ====
abbrev S2048x1024 : Shape := ⟨2, ![2048, 1024]⟩
abbrev S1024x4096 : Shape := ⟨2, ![1024, 4096]⟩
abbrev S2048x4096 : Shape := ⟨2, ![2048, 4096]⟩
abbrev S4x1024x1024 : Shape := ⟨3, ![4, 1024, 1024]⟩
abbrev S1x1024x1024 : Shape := ⟨3, ![1, 1024, 1024]⟩
abbrev S1024x1024 : Shape := ⟨2, ![1024, 1024]⟩

abbrev nBuf : Space → Nat
  | .hbm => 6
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S2048x4096, .f32⟩
  | .hbm, ⟨3, _⟩ => ⟨S2048x1024, .bf16⟩
  | .hbm, ⟨4, _⟩ => ⟨S2048x4096, .bf16⟩
  | .hbm, ⟨5, _⟩ => ⟨S4x1024x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S1x1024x1024, .f32⟩
  | .local _ .vmem, ⟨4, _⟩ => ⟨S1x1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== Ff1WgradRefIdeal.lean ====
abbrev S2048x1024 : Shape := ⟨2, ![2048, 1024]⟩
abbrev S1024x4096 : Shape := ⟨2, ![1024, 4096]⟩
abbrev S2048x4096 : Shape := ⟨2, ![2048, 4096]⟩
abbrev S4096x1024 : Shape := ⟨2, ![4096, 1024]⟩
abbrev S1024x4x1024 : Shape := ⟨3, ![1024, 4, 1024]⟩
abbrev S4x1024x1024 : Shape := ⟨3, ![4, 1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S2048x4096, .f32⟩
  | .hbm, ⟨3, _⟩ => ⟨S2048x4096, .f32⟩
  | .hbm, ⟨4, _⟩ => ⟨S4096x1024, .f32⟩
  | .hbm, ⟨5, _⟩ => ⟨S1024x4096, .f32⟩
  | .hbm, ⟨6, _⟩ => ⟨S1024x4x1024, .f32⟩
  | .hbm, ⟨7, _⟩ => ⟨S4x1024x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== OutDgrad.lean ====
abbrev S2048x1024 : Shape := ⟨2, ![2048, 1024]⟩
abbrev S1024x1024 : Shape := ⟨2, ![1024, 1024]⟩
abbrev S4x256x1024 : Shape := ⟨3, ![4, 256, 1024]⟩
abbrev S512x1024 : Shape := ⟨2, ![512, 1024]⟩

abbrev nBuf : Space → Nat
  | .hbm => 7
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .hbm, ⟨3, _⟩ => ⟨S4x256x1024, .f32⟩
  | .hbm, ⟨4, _⟩ => ⟨S4x256x1024, .bf16⟩
  | .hbm, ⟨5, _⟩ => ⟨S1024x1024, .bf16⟩
  | .hbm, ⟨6, _⟩ => ⟨S2048x1024, .bf16⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S512x1024, .bf16⟩
  | .local _ .vmem, ⟨4, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== OutDgradRefIdeal.lean ====
abbrev S2048x1024 : Shape := ⟨2, ![2048, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .hbm, ⟨3, _⟩ => ⟨S2048x1024, .f32⟩
  | .hbm, ⟨4, _⟩ => ⟨S2048x1024, .f32⟩
  | .hbm, ⟨5, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== OutWgrad.lean ====
abbrev S2048x1024 : Shape := ⟨2, ![2048, 1024]⟩
abbrev S1024x1024 : Shape := ⟨2, ![1024, 1024]⟩
abbrev S4x256x1024 : Shape := ⟨3, ![4, 256, 1024]⟩
abbrev S2048x256 : Shape := ⟨2, ![2048, 256]⟩
abbrev S1x256x1024 : Shape := ⟨3, ![1, 256, 1024]⟩
abbrev S256x1024 : Shape := ⟨2, ![256, 1024]⟩

abbrev nBuf : Space → Nat
  | .hbm => 5
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .hbm, ⟨3, _⟩ => ⟨S2048x1024, .bf16⟩
  | .hbm, ⟨4, _⟩ => ⟨S4x256x1024, .f32⟩
  | .local _ .vmem, ⟨0, _⟩ => ⟨S2048x256, .bf16⟩
  | .local _ .vmem, ⟨1, _⟩ => ⟨S2048x256, .bf16⟩
  | .local _ .vmem, ⟨2, _⟩ => ⟨S2048x1024, .f32⟩
  | .local _ .vmem, ⟨3, _⟩ => ⟨S1x256x1024, .f32⟩
  | .local _ .vmem, ⟨4, _⟩ => ⟨S1x256x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== OutWgradRefIdeal.lean ====
abbrev S2048x1024 : Shape := ⟨2, ![2048, 1024]⟩
abbrev S1024x1024 : Shape := ⟨2, ![1024, 1024]⟩
abbrev S4x256x1024 : Shape := ⟨3, ![4, 256, 1024]⟩

abbrev nBuf : Space → Nat
  | .hbm => 7
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .hbm, ⟨3, _⟩ => ⟨S2048x1024, .f32⟩
  | .hbm, ⟨4, _⟩ => ⟨S1024x1024, .f32⟩
  | .hbm, ⟨5, _⟩ => ⟨S1024x1024, .f32⟩
  | .hbm, ⟨6, _⟩ => ⟨S4x256x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== InDgrad.lean ====
abbrev S2048x1024 : Shape := ⟨2, ![2048, 1024]⟩
abbrev S1x1024 : Shape := ⟨2, ![1, 1024]⟩
abbrev S1024x7680 : Shape := ⟨2, ![1024, 7680]⟩
abbrev S2048x7680 : Shape := ⟨2, ![2048, 7680]⟩
abbrev S1024x4x1920 : Shape := ⟨3, ![1024, 4, 1920]⟩
abbrev S4x1024x1920 : Shape := ⟨3, ![4, 1024, 1920]⟩
abbrev S8x1024 : Shape := ⟨2, ![8, 1024]⟩
abbrev S512x7680 : Shape := ⟨2, ![512, 7680]⟩
abbrev S512x1024 : Shape := ⟨2, ![512, 1024]⟩
abbrev S512x1920 : Shape := ⟨2, ![512, 1920]⟩
abbrev S1x1024x1920 : Shape := ⟨3, ![1, 1024, 1920]⟩
abbrev S1024x1920 : Shape := ⟨2, ![1024, 1920]⟩
abbrev S512 : Shape := ⟨1, ![512]⟩
abbrev S512x1 : Shape := ⟨2, ![512, 1]⟩
abbrev S1024 : Shape := ⟨1, ![1024]⟩

abbrev nBuf : Space → Nat
  | .hbm => 11
  | .vmem => 11
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x7680, .f32⟩
  | .hbm, ⟨3, _⟩ => ⟨S2048x7680, .f32⟩
  | .hbm, ⟨4, _⟩ => ⟨S2048x1024, .f32⟩
  | .hbm, ⟨5, _⟩ => ⟨S2048x7680, .bf16⟩
  | .hbm, ⟨6, _⟩ => ⟨S1024x4x1920, .f32⟩
  | .hbm, ⟨7, _⟩ => ⟨S4x1024x1920, .f32⟩
  | .hbm, ⟨8, _⟩ => ⟨S4x1024x1920, .bf16⟩
  | .hbm, ⟨9, _⟩ => ⟨S2048x1024, .f32⟩
  | .hbm, ⟨10, _⟩ => ⟨S8x1024, .f32⟩
  | .local _ .vmem, ⟨0, _⟩ => ⟨S512x7680, .bf16⟩
  | .local _ .vmem, ⟨1, _⟩ => ⟨S512x7680, .bf16⟩
  | .local _ .vmem, ⟨2, _⟩ => ⟨S4x1024x1920, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S8x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x7680 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1920 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== InDgradRefIdeal.lean ====
abbrev S2048x1024 : Shape := ⟨2, ![2048, 1024]⟩
abbrev S1x1024 : Shape := ⟨2, ![1, 1024]⟩
abbrev S1024x7680 : Shape := ⟨2, ![1024, 7680]⟩
abbrev S2048x7680 : Shape := ⟨2, ![2048, 7680]⟩
abbrev S_ : Shape := ⟨0, ![]⟩
abbrev S2048 : Shape := ⟨1, ![2048]⟩
abbrev S2048x1 : Shape := ⟨2, ![2048, 1]⟩
abbrev S1024 : Shape := ⟨1, ![1024]⟩
abbrev S7x1024 : Shape := ⟨2, ![7, 1024]⟩
abbrev S8x1024 : Shape := ⟨2, ![8, 1024]⟩

abbrev nBuf : Space → Nat
  | .hbm => 53
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S1024x7680, .f32⟩
  | .hbm, ⟨3, _⟩ => ⟨S2048x7680, .f32⟩
  | .hbm, ⟨4, _⟩ => ⟨S2048x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S2048x7680, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S1024, .f32⟩
  | .hbm, ⟨29, _⟩ => ⟨S1x1024, .f32⟩
  | .hbm, ⟨30, _⟩ => ⟨S2048x1024, .f32⟩
  | .hbm, ⟨31, _⟩ => ⟨S2048x1024, .f32⟩
  | .hbm, ⟨32, _⟩ => ⟨S2048x1024, .f32⟩
  | .hbm, ⟨33, _⟩ => ⟨S_, .f32⟩
  | .hbm, ⟨34, _⟩ => ⟨S2048, .f32⟩
  | .hbm, ⟨35, _⟩ => ⟨S2048x1, .f32⟩
  | .hbm, ⟨36, _⟩ => ⟨S2048x1024, .f32⟩
  | .hbm, ⟨37, _⟩ => ⟨S2048x1024, .f32⟩
  | .hbm, ⟨38, _⟩ => ⟨S2048x1024, .f32⟩
  | .hbm, ⟨39, _⟩ => ⟨S2048x1, .f32⟩
  | .hbm, ⟨40, _⟩ => ⟨S_, .f32⟩
  | .hbm, ⟨41, _⟩ => ⟨S2048x1, .f32⟩
  | .hbm, ⟨42, _⟩ => ⟨S2048x1, .f32⟩
  | .hbm, ⟨43, _⟩ => ⟨S_, .f32⟩
  | .hbm, ⟨44, _⟩ => ⟨S2048, .f32⟩
  | .hbm, ⟨45, _⟩ => ⟨S2048x1024, .f32⟩
  | .hbm, ⟨46, _⟩ => ⟨S2048x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S_, .f32⟩
  | .hbm, ⟨51, _⟩ => ⟨S7x1024, .f32⟩
  | .hbm, ⟨52, _⟩ => ⟨S8x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_5 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩

abbrev nD : Nat := 1
abbrev τ : Topo := Topo.v7x

variable {F : FTy → Type} [FloatOps F]
-- ==== InWgrad.lean ====
abbrev S2048x1024 : Shape := ⟨2, ![2048, 1024]⟩
abbrev S1024x7680 : Shape := ⟨2, ![1024, 7680]⟩
abbrev S2048x7680 : Shape := ⟨2, ![2048, 7680]⟩
abbrev S4x1024x1920 : Shape := ⟨3, ![4, 1024, 1920]⟩
abbrev S2048x1920 : Shape := ⟨2, ![2048, 1920]⟩
abbrev S1x1024x1920 : Shape := ⟨3, ![1, 1024, 1920]⟩
abbrev S1024x1920 : Shape := ⟨2, ![1024, 1920]⟩

abbrev nBuf : Space → Nat
  | .hbm => 6
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1024x7680, .f32⟩
  | .hbm, ⟨2, _⟩ => ⟨S2048x7680, .f32⟩
  | .hbm, ⟨3, _⟩ => ⟨S2048x1024, .bf16⟩
  | .hbm, ⟨4, _⟩ => ⟨S2048x7680, .bf16⟩
  | .hbm, ⟨5, _⟩ => ⟨S4x1024x1920, .f32⟩
  | .local _ .vmem, ⟨0, _⟩ => ⟨S2048x1024, .bf16⟩
  | .local _ .vmem, ⟨1, _⟩ => ⟨S2048x1920, .bf16⟩
  | .local _ .vmem, ⟨2, _⟩ => ⟨S2048x1920, .bf16⟩
  | .local _ .vmem, ⟨3, _⟩ => ⟨S1x1024x1920, .f32⟩
  | .local _ .vmem, ⟨4, _⟩ => ⟨S1x1024x1920, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S2048x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, true]

abbrev stage0_1 : Fin 2 → Memref sig .tc .vmem S2048x1920 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1920 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]
-- ==== InWgradRefIdeal.lean ====
abbrev S2048x1024 : Shape := ⟨2, ![2048, 1024]⟩
abbrev S1024x7680 : Shape := ⟨2, ![1024, 7680]⟩
abbrev S2048x7680 : Shape := ⟨2, ![2048, 7680]⟩
abbrev S7680x1024 : Shape := ⟨2, ![7680, 1024]⟩
abbrev S1024x4x1920 : Shape := ⟨3, ![1024, 4, 1920]⟩
abbrev S4x1024x1920 : Shape := ⟨3, ![4, 1024, 1920]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x7680, .f32⟩
  | .hbm, ⟨2, _⟩ => ⟨S2048x7680, .f32⟩
  | .hbm, ⟨3, _⟩ => ⟨S2048x7680, .f32⟩
  | .hbm, ⟨4, _⟩ => ⟨S7680x1024, .f32⟩
  | .hbm, ⟨5, _⟩ => ⟨S1024x7680, .f32⟩
  | .hbm, ⟨6, _⟩ => ⟨S1024x4x1920, .f32⟩
  | .hbm, ⟨7, _⟩ => ⟨S4x1024x1920, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InFwd.lean ====
abbrev S2048x1024 : Shape := ⟨2, ![2048, 1024]⟩
abbrev S1024x7680 : Shape := ⟨2, ![1024, 7680]⟩
abbrev S1024x4x1920 : Shape := ⟨3, ![1024, 4, 1920]⟩
abbrev S4x1024x1920 : Shape := ⟨3, ![4, 1024, 1920]⟩
abbrev S2048x7680 : Shape := ⟨2, ![2048, 7680]⟩
abbrev S1024x1024 : Shape := ⟨2, ![1024, 1024]⟩
abbrev S1x1024x1920 : Shape := ⟨3, ![1, 1024, 1920]⟩
abbrev S1024x1920 : Shape := ⟨2, ![1024, 1920]⟩

abbrev nBuf : Space → Nat
  | .hbm => 7
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024x7680, .f32⟩
  | .hbm, ⟨2, _⟩ => ⟨S2048x1024, .bf16⟩
  | .hbm, ⟨3, _⟩ => ⟨S1024x4x1920, .f32⟩
  | .hbm, ⟨4, _⟩ => ⟨S4x1024x1920, .f32⟩
  | .hbm, ⟨5, _⟩ => ⟨S4x1024x1920, .bf16⟩
  | .hbm, ⟨6, _⟩ => ⟨S2048x7680, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1920, .bf16⟩
  | .local _ .vmem, ⟨3, _⟩ => ⟨S1x1024x1920, .bf16⟩
  | .local _ .vmem, ⟨4, _⟩ => ⟨S1024x1920, .f32⟩
  | .local _ .vmem, ⟨5, _⟩ => ⟨S1024x1920, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1x1024x1920 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1024x1920 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== InFwdRefIdeal.lean ====
abbrev S2048x1024 : Shape := ⟨2, ![2048, 1024]⟩
abbrev S1024x7680 : Shape := ⟨2, ![1024, 7680]⟩
abbrev S2048x7680 : Shape := ⟨2, ![2048, 7680]⟩

abbrev nBuf : Space → Nat
  | .hbm => 3
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x7680, .f32⟩
  | .hbm, ⟨2, _⟩ => ⟨S2048x7680, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== OutFwd.lean ====
abbrev S2048x1024 : Shape := ⟨2, ![2048, 1024]⟩
abbrev S1024x1024 : Shape := ⟨2, ![1024, 1024]⟩
abbrev S1x1024 : Shape := ⟨2, ![1, 1024]⟩
abbrev S4x256x1024 : Shape := ⟨3, ![4, 256, 1024]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 10
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .hbm, ⟨3, _⟩ => ⟨S1x1024, .f32⟩
  | .hbm, ⟨4, _⟩ => ⟨S2048x1024, .bf16⟩
  | .hbm, ⟨5, _⟩ => ⟨S4x256x1024, .f32⟩
  | .hbm, ⟨6, _⟩ => ⟨S4x256x1024, .bf16⟩
  | .hbm, ⟨7, _⟩ => ⟨S1024x1024, .bf16⟩
  | .hbm, ⟨8, _⟩ => ⟨S2048x1024, .f32⟩
  | .hbm, ⟨9, _⟩ => ⟨S2048x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]
-- ==== OutFwdRefIdeal.lean ====
abbrev S2048x1024 : Shape := ⟨2, ![2048, 1024]⟩
abbrev S1024x1024 : Shape := ⟨2, ![1024, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 22
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x1024, .f32⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Ff1Fwd.lean ====
abbrev S2048x1024 : Shape := ⟨2, ![2048, 1024]⟩
abbrev S1024x4096 : Shape := ⟨2, ![1024, 4096]⟩
abbrev S1024x4x1024 : Shape := ⟨3, ![1024, 4, 1024]⟩
abbrev S4x1024x1024 : Shape := ⟨3, ![4, 1024, 1024]⟩
abbrev S2048x4096 : Shape := ⟨2, ![2048, 4096]⟩
abbrev S1024x1024 : Shape := ⟨2, ![1024, 1024]⟩
abbrev S1x1024x1024 : Shape := ⟨3, ![1, 1024, 1024]⟩

abbrev nBuf : Space → Nat
  | .hbm => 7
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S2048x1024, .bf16⟩
  | .hbm, ⟨3, _⟩ => ⟨S1024x4x1024, .f32⟩
  | .hbm, ⟨4, _⟩ => ⟨S4x1024x1024, .f32⟩
  | .hbm, ⟨5, _⟩ => ⟨S4x1024x1024, .bf16⟩
  | .hbm, ⟨6, _⟩ => ⟨S2048x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .bf16⟩
  | .local _ .vmem, ⟨5, _⟩ => ⟨S1024x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Ff1FwdRefIdeal.lean ====
abbrev S2048x1024 : Shape := ⟨2, ![2048, 1024]⟩
abbrev S1024x4096 : Shape := ⟨2, ![1024, 4096]⟩
abbrev S2048x4096 : Shape := ⟨2, ![2048, 4096]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024x4096, .f32⟩
  | .hbm, ⟨2, _⟩ => ⟨S2048x4096, .f32⟩
  | .hbm, ⟨3, _⟩ => ⟨S_, .f32⟩
  | .hbm, ⟨4, _⟩ => ⟨S2048x4096, .f32⟩
  | .hbm, ⟨5, _⟩ => ⟨S2048x4096, .f32⟩
  | .hbm, ⟨6, _⟩ => ⟨S2048x4096, .f32⟩
  | .hbm, ⟨7, _⟩ => ⟨S2048x4096, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Ff2Fwd.lean ====
abbrev S2048x4096 : Shape := ⟨2, ![2048, 4096]⟩
abbrev S4096x1024 : Shape := ⟨2, ![4096, 1024]⟩
abbrev S2048x1024 : Shape := ⟨2, ![2048, 1024]⟩
abbrev S1x1024 : Shape := ⟨2, ![1, 1024]⟩
abbrev S4x1024x1024 : Shape := ⟨3, ![4, 1024, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩

abbrev nBuf : Space → Nat
  | .hbm => 10
  | .vmem => 10
  | .smem => 0
  | _ => 0

abbrev bufTy : (tb : Table) → Fin (tcTables nBuf tb) → BufTy
  | .hbm, ⟨0, _⟩ => ⟨S2048x4096, .f32⟩
  | .hbm, ⟨1, _⟩ => ⟨S4096x1024, .f32⟩
  | .hbm, ⟨2, _⟩ => ⟨S2048x1024, .f32⟩
  | .hbm, ⟨3, _⟩ => ⟨S1x1024, .f32⟩
  | .hbm, ⟨4, _⟩ => ⟨S2048x4096, .bf16⟩
  | .hbm, ⟨5, _⟩ => ⟨S4x1024x1024, .f32⟩
  | .hbm, ⟨6, _⟩ => ⟨S4x1024x1024, .bf16⟩
  | .hbm, ⟨7, _⟩ => ⟨S4096x1024, .bf16⟩
  | .hbm, ⟨8, _⟩ => ⟨S2048x1024, .f32⟩
  | .hbm, ⟨9, _⟩ => ⟨S2048x1024, .bf16⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4_0 : Ref sig .tc := ⟨.hbm, 8, rfl⟩
abbrev main_v4_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨3, ![4, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, false]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]
-- ==== Ff2FwdRefIdeal.lean ====
abbrev S2048x4096 : Shape := ⟨2, ![2048, 4096]⟩
abbrev S4096x1024 : Shape := ⟨2, ![4096, 1024]⟩
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 22
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S4096x1024, .f32⟩
  | .hbm, ⟨2, _⟩ => ⟨S2048x1024, .f32⟩
  | .hbm, ⟨3, _⟩ => ⟨S1x1024, .f32⟩
  | .hbm, ⟨4, _⟩ => ⟨S2048x1024, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S_, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S2048x1024, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .bf16⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== AdamFf.lean ====
abbrev S4x1024x1024 : Shape := ⟨3, ![4, 1024, 1024]⟩
abbrev S1024x1024 : Shape := ⟨2, ![1024, 1024]⟩
abbrev S1x512x1024 : Shape := ⟨3, ![1, 512, 1024]⟩
abbrev S512x1024 : Shape := ⟨2, ![512, 1024]⟩

abbrev nBuf : Space → Nat
  | .hbm => 11
  | .vmem => 22
  | .smem => 0
  | _ => 0

abbrev bufTy : (tb : Table) → Fin (tcTables nBuf tb) → BufTy
  | .hbm, ⟨0, _⟩ => ⟨S4x1024x1024, .f32⟩
  | .hbm, ⟨1, _⟩ => ⟨S4x1024x1024, .f32⟩
  | .hbm, ⟨2, _⟩ => ⟨S4x1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S4x1024x1024, .f32⟩
  | .hbm, ⟨8, _⟩ => ⟨S4x1024x1024, .f32⟩
  | .hbm, ⟨9, _⟩ => ⟨S4x1024x1024, .f32⟩
  | .hbm, ⟨10, _⟩ => ⟨S4x1024x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x512x1024, .f32⟩
  | .local _ .vmem, ⟨5, _⟩ => ⟨S1x512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S1x512x1024, .f32⟩
  | .local _ .vmem, ⟨15, _⟩ => ⟨S1x512x1024, .f32⟩
  | .local _ .vmem, ⟨16, _⟩ => ⟨S1x512x1024, .f32⟩
  | .local _ .vmem, ⟨17, _⟩ => ⟨S1x512x1024, .f32⟩
  | .local _ .vmem, ⟨18, _⟩ => ⟨S1x512x1024, .f32⟩
  | .local _ .vmem, ⟨19, _⟩ => ⟨S1x512x1024, .f32⟩
  | .local _ .vmem, ⟨20, _⟩ => ⟨S1x512x1024, .f32⟩
  | .local _ .vmem, ⟨21, _⟩ => ⟨S1x512x1024, .f32⟩
  | _, _ => ⟨S4x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AdamFfRefIdeal.lean ====
abbrev S4x1024x1024 : Shape := ⟨3, ![4, 1024, 1024]⟩
abbrev S1024x1024 : Shape := ⟨2, ![1024, 1024]⟩
abbrev S1x1024x1024 : Shape := ⟨3, ![1, 1024, 1024]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S4x1024x1024, .f32⟩
  | .hbm, ⟨1, _⟩ => ⟨S4x1024x1024, .f32⟩
  | .hbm, ⟨2, _⟩ => ⟨S4x1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1024x1024, .f32⟩
  | .hbm, ⟨7, _⟩ => ⟨S1x1024x1024, .f32⟩
  | .hbm, ⟨8, _⟩ => ⟨S1x1024x1024, .f32⟩
  | .hbm, ⟨9, _⟩ => ⟨S1x1024x1024, .f32⟩
  | .hbm, ⟨10, _⟩ => ⟨S1x1024x1024, .f32⟩
  | .hbm, ⟨11, _⟩ => ⟨S4x1024x1024, .f32⟩
  | .hbm, ⟨12, _⟩ => ⟨S_, .f32⟩
  | .hbm, ⟨13, _⟩ => ⟨S4x1024x1024, .f32⟩
  | .hbm, ⟨14, _⟩ => ⟨S4x1024x1024, .f32⟩
  | .hbm, ⟨15, _⟩ => ⟨S_, .f32⟩
  | .hbm, ⟨16, _⟩ => ⟨S4x1024x1024, .f32⟩
  | .hbm, ⟨17, _⟩ => ⟨S4x1024x1024, .f32⟩
  | .hbm, ⟨18, _⟩ => ⟨S4x1024x1024, .f32⟩
  | .hbm, ⟨19, _⟩ => ⟨S_, .f32⟩
  | .hbm, ⟨20, _⟩ => ⟨S4x1024x1024, .f32⟩
  | .hbm, ⟨21, _⟩ => ⟨S4x1024x1024, .f32⟩
  | .hbm, ⟨22, _⟩ => ⟨S4x1024x1024, .f32⟩
  | .hbm, ⟨23, _⟩ => ⟨S_, .f32⟩
  | .hbm, ⟨24, _⟩ => ⟨S4x1024x1024, .f32⟩
  | .hbm, ⟨25, _⟩ => ⟨S4x1024x1024, .f32⟩
  | .hbm, ⟨26, _⟩ => ⟨S4x1024x1024, .f32⟩
  | .hbm, ⟨27, _⟩ => ⟨S_, .f32⟩
  | .hbm, ⟨28, _⟩ => ⟨S4x1024x1024, .f32⟩
  | .hbm, ⟨29, _⟩ => ⟨S4x1024x1024, .f32⟩
  | .hbm, ⟨30, _⟩ => ⟨S_, .f32⟩
  | .hbm, ⟨31, _⟩ => ⟨S4x1024x1024, .f32⟩
  | .hbm, ⟨32, _⟩ => ⟨S4x1024x1024, .f32⟩
  | .hbm, ⟨33, _⟩ => ⟨S4x1024x1024, .f32⟩
  | .hbm, ⟨34, _⟩ => ⟨S_, .f32⟩
  | .hbm, ⟨35, _⟩ => ⟨S4x1024x1024, .f32⟩
  | .hbm, ⟨36, _⟩ => ⟨S4x1024x1024, .f32⟩
  | .hbm, ⟨37, _⟩ => ⟨S4x1024x1024, .f32⟩
  | .hbm, ⟨38, _⟩ => ⟨S_, .f32⟩
  | .hbm, ⟨39, _⟩ => ⟨S4x1024x1024, .f32⟩
  | .hbm, ⟨40, _⟩ => ⟨S4x1024x1024, .f32⟩
  | .hbm, ⟨41, _⟩ => ⟨S4x1024x1024, .f32⟩
  | .hbm, ⟨42, _⟩ => ⟨S_, .f32⟩
  | .hbm, ⟨43, _⟩ => ⟨S4x1024x1024, .f32⟩
  | .hbm, ⟨44, _⟩ => ⟨S4x1024x1024, .f32⟩
  | _, _ => ⟨S4x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== AdamO.lean ====
abbrev S4x256x1024 : Shape := ⟨3, ![4, 256, 1024]⟩
abbrev S256x1024 : Shape := ⟨2, ![256, 1024]⟩
abbrev S1x256x1024 : Shape := ⟨3, ![1, 256, 1024]⟩

abbrev nBuf : Space → Nat
  | .hbm => 11
  | .vmem => 22
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S4x256x1024, .f32⟩
  | .hbm, ⟨8, _⟩ => ⟨S4x256x1024, .f32⟩
  | .hbm, ⟨9, _⟩ => ⟨S4x256x1024, .f32⟩
  | .hbm, ⟨10, _⟩ => ⟨S4x256x1024, .f32⟩
  | .local _ .vmem, ⟨0, _⟩ => ⟨S1x256x1024, .f32⟩
  | .local _ .vmem, ⟨1, _⟩ => ⟨S1x256x1024, .f32⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | .local _ .vmem, ⟨18, _⟩ => ⟨S1x256x1024, .f32⟩
  | .local _ .vmem, ⟨19, _⟩ => ⟨S1x256x1024, .f32⟩
  | .local _ .vmem, ⟨20, _⟩ => ⟨S1x256x1024, .f32⟩
  | .local _ .vmem, ⟨21, _⟩ => ⟨S1x256x1024, .f32⟩
  | _, _ => ⟨S4x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AdamORefIdeal.lean ====
abbrev S4x256x1024 : Shape := ⟨3, ![4, 256, 1024]⟩
abbrev S256x1024 : Shape := ⟨2, ![256, 1024]⟩
abbrev S1x256x1024 : Shape := ⟨3, ![1, 256, 1024]⟩
abbrev S_ : Shape := ⟨0, ![]⟩

abbrev nBuf : Space → Nat
  | .hbm => 45
  | .vmem => 0
  | .smem => 0
  | _ => 0

abbrev bufTy : (tb : Table) → Fin (tcTables nBuf tb) → BufTy
  | .hbm, ⟨0, _⟩ => ⟨S4x256x1024, .f32⟩
  | .hbm, ⟨1, _⟩ => ⟨S4x256x1024, .f32⟩
  | .hbm, ⟨2, _⟩ => ⟨S4x256x1024, .f32⟩
  | .hbm, ⟨3, _⟩ => ⟨S256x1024, .f32⟩
  | .hbm, ⟨4, _⟩ => ⟨S256x1024, .f32⟩
  | .hbm, ⟨5, _⟩ => ⟨S256x1024, .f32⟩
  | .hbm, ⟨6, _⟩ => ⟨S256x1024, .f32⟩
  | .hbm, ⟨7, _⟩ => ⟨S1x256x1024, .f32⟩
  | .hbm, ⟨8, _⟩ => ⟨S1x256x1024, .f32⟩
  | .hbm, ⟨9, _⟩ => ⟨S1x256x1024, .f32⟩
  | .hbm, ⟨10, _⟩ => ⟨S1x256x1024, .f32⟩
  | .hbm, ⟨11, _⟩ => ⟨S4x256x1024, .f32⟩
  | .hbm, ⟨12, _⟩ => ⟨S_, .f32⟩
  | .hbm, ⟨13, _⟩ => ⟨S4x256x1024, .f32⟩
  | .hbm, ⟨14, _⟩ => ⟨S4x256x1024, .f32⟩
  | .hbm, ⟨15, _⟩ => ⟨S_, .f32⟩
  | .hbm, ⟨16, _⟩ => ⟨S4x256x1024, .f32⟩
  | .hbm, ⟨17, _⟩ => ⟨S4x256x1024, .f32⟩
  | .hbm, ⟨18, _⟩ => ⟨S4x256x1024, .f32⟩
  | .hbm, ⟨19, _⟩ => ⟨S_, .f32⟩
  | .hbm, ⟨20, _⟩ => ⟨S4x256x1024, .f32⟩
  | .hbm, ⟨21, _⟩ => ⟨S4x256x1024, .f32⟩
  | .hbm, ⟨22, _⟩ => ⟨S4x256x1024, .f32⟩
  | .hbm, ⟨23, _⟩ => ⟨S_, .f32⟩
  | .hbm, ⟨24, _⟩ => ⟨S4x256x1024, .f32⟩
  | .hbm, ⟨25, _⟩ => ⟨S4x256x1024, .f32⟩
  | .hbm, ⟨26, _⟩ => ⟨S4x256x1024, .f32⟩
  | .hbm, ⟨27, _⟩ => ⟨S_, .f32⟩
  | .hbm, ⟨28, _⟩ => ⟨S4x256x1024, .f32⟩
  | .hbm, ⟨29, _⟩ => ⟨S4x256x1024, .f32⟩
  | .hbm, ⟨30, _⟩ => ⟨S_, .f32⟩
  | .hbm, ⟨31, _⟩ => ⟨S4x256x1024, .f32⟩
  | .hbm, ⟨32, _⟩ => ⟨S4x256x1024, .f32⟩
  | .hbm, ⟨33, _⟩ => ⟨S4x256x1024, .f32⟩
  | .hbm, ⟨34, _⟩ => ⟨S_, .f32⟩
  | .hbm, ⟨35, _⟩ => ⟨S4x256x1024, .f32⟩
  | .hbm, ⟨36, _⟩ => ⟨S4x256x1024, .f32⟩
  | .hbm, ⟨37, _⟩ => ⟨S4x256x1024, .f32⟩
  | .hbm, ⟨38, _⟩ => ⟨S_, .f32⟩
  | .hbm, ⟨39, _⟩ => ⟨S4x256x1024, .f32⟩
  | .hbm, ⟨40, _⟩ => ⟨S4x256x1024, .f32⟩
  | .hbm, ⟨41, _⟩ => ⟨S4x256x1024, .f32⟩
  | .hbm, ⟨42, _⟩ => ⟨S_, .f32⟩
  | .hbm, ⟨43, _⟩ => ⟨S4x256x1024, .f32⟩
  | .hbm, ⟨44, _⟩ => ⟨S4x256x1024, .f32⟩
  | _, _ => ⟨S4x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_6 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_7 : Ref sig .tc := ⟨.hbm, 42, rfl⟩
abbrev main_v27 : Ref sig .tc := ⟨.hbm, 43, rfl⟩
abbrev main_v28 : Ref sig .tc := ⟨.hbm, 44, rfl⟩

abbrev nD : Nat := 1
abbrev τ : Topo := Topo.v7x

variable {F : FTy → Type} [FloatOps F]
-- ==== AdamBranch.lean ====
abbrev S4x3x512x256 : Shape := ⟨4, ![4, 3, 512, 256]⟩
abbrev S1536x256 : Shape := ⟨2, ![1536, 256]⟩
abbrev S4x1536x256 : Shape := ⟨3, ![4, 1536, 256]⟩
abbrev S1x1536x256 : Shape := ⟨3, ![1, 1536, 256]⟩

abbrev nBuf : Space → Nat
  | .hbm => 14
  | .vmem => 22
  | .smem => 0
  | _ => 0

abbrev bufTy : (tb : Table) → Fin (tcTables nBuf tb) → BufTy
  | .hbm, ⟨0, _⟩ => ⟨S4x3x512x256, .f32⟩
  | .hbm, ⟨1, _⟩ => ⟨S4x3x512x256, .f32⟩
  | .hbm, ⟨2, _⟩ => ⟨S4x3x512x256, .f32⟩
  | .hbm, ⟨3, _⟩ => ⟨S1536x256, .f32⟩
  | .hbm, ⟨4, _⟩ => ⟨S1536x256, .f32⟩
  | .hbm, ⟨5, _⟩ => ⟨S1536x256, .f32⟩
  | .hbm, ⟨6, _⟩ => ⟨S1536x256, .f32⟩
  | .hbm, ⟨7, _⟩ => ⟨S4x1536x256, .f32⟩
  | .hbm, ⟨8, _⟩ => ⟨S4x1536x256, .f32⟩
  | .hbm, ⟨9, _⟩ => ⟨S4x1536x256, .f32⟩
  | .hbm, ⟨10, _⟩ => ⟨S4x1536x256, .f32⟩
  | .hbm, ⟨11, _⟩ => ⟨S4x1536x256, .f32⟩
  | .hbm, ⟨12, _⟩ => ⟨S4x1536x256, .f32⟩
  | .hbm, ⟨13, _⟩ => ⟨S4x1536x256, .f32⟩
  | .local _ .vmem, ⟨0, _⟩ => ⟨S1x1536x256, .f32⟩
  | .local _ .vmem, ⟨1, _⟩ => ⟨S1x1536x256, .f32⟩
  | .local _ .vmem, ⟨2, _⟩ => ⟨S1x1536x256, .f32⟩
  | .local _ .vmem, ⟨3, _⟩ => ⟨S1x1536x256, .f32⟩
  | .local _ .vmem, ⟨4, _⟩ => ⟨S1x1536x256, .f32⟩
  | .local _ .vmem, ⟨5, _⟩ => ⟨S1x1536x256, .f32⟩
  | .local _ .vmem, ⟨6, _⟩ => ⟨S1536x256, .f32⟩
  | .local _ .vmem, ⟨7, _⟩ => ⟨S1536x256, .f32⟩
  | .local _ .vmem, ⟨8, _⟩ => ⟨S1536x256, .f32⟩
  | .local _ .vmem, ⟨9, _⟩ => ⟨S1536x256, .f32⟩
  | .local _ .vmem, ⟨10, _⟩ => ⟨S1536x256, .f32⟩
  | .local _ .vmem, ⟨11, _⟩ => ⟨S1536x256, .f32⟩
  | .local _ .vmem, ⟨12, _⟩ => ⟨S1536x256, .f32⟩
  | .local _ .vmem, ⟨13, _⟩ => ⟨S1536x256, .f32⟩
  | .local _ .vmem, ⟨14, _⟩ => ⟨S1x1536x256, .f32⟩
  | .local _ .vmem, ⟨15, _⟩ => ⟨S1x1536x256, .f32⟩
  | .local _ .vmem, ⟨16, _⟩ => ⟨S1x1536x256, .f32⟩
  | .local _ .vmem, ⟨17, _⟩ => ⟨S1x1536x256, .f32⟩
  | .local _ .vmem, ⟨18, _⟩ => ⟨S1x1536x256, .f32⟩
  | .local _ .vmem, ⟨19, _⟩ => ⟨S1x1536x256, .f32⟩
  | .local _ .vmem, ⟨20, _⟩ => ⟨S1x1536x256, .f32⟩
  | .local _ .vmem, ⟨21, _⟩ => ⟨S1x1536x256, .f32⟩
  | _, _ => ⟨S4x3x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 1 := Scalar.cmpi .eq arg0 c1_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_5 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .eq arg0 c2_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 1 := Scalar.cmpi .eq arg0 c3_i32
  let c0_i32 : BitVec 32 := 0#32
  let v1 : BitVec 32 := Scalar.select v0 arg1 c0_i32
  let c0_i32_0 : BitVec 32 := 0#32
  let c0_i32_1 : BitVec 32 := 0#32
  ![v1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

abbrev stage0_0 : Fin 2 → Memref sig .tc .vmem S1x1536x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1536x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1536x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1536x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1536x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1536x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1536x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1536x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x1536x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x1536x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x1536x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== AdamBranchRefIdeal.lean ====
abbrev S4x3x512x256 : Shape := ⟨4, ![4, 3, 512, 256]⟩
abbrev S1536x256 : Shape := ⟨2, ![1536, 256]⟩
abbrev S1x1536x256 : Shape := ⟨3, ![1, 1536, 256]⟩
abbrev S4x1536x256 : Shape := ⟨3, ![4, 1536, 256]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S4x3x512x256, .f32⟩
  | .hbm, ⟨1, _⟩ => ⟨S4x3x512x256, .f32⟩
  | .hbm, ⟨2, _⟩ => ⟨S4x3x512x256, .f32⟩
  | .hbm, ⟨3, _⟩ => ⟨S1536x256, .f32⟩
  | .hbm, ⟨4, _⟩ => ⟨S1536x256, .f32⟩
  | .hbm, ⟨5, _⟩ => ⟨S1536x256, .f32⟩
  | .hbm, ⟨6, _⟩ => ⟨S1536x256, .f32⟩
  | .hbm, ⟨7, _⟩ => ⟨S1x1536x256, .f32⟩
  | .hbm, ⟨8, _⟩ => ⟨S1x1536x256, .f32⟩
  | .hbm, ⟨9, _⟩ => ⟨S1x1536x256, .f32⟩
  | .hbm, ⟨10, _⟩ => ⟨S1x1536x256, .f32⟩
  | .hbm, ⟨11, _⟩ => ⟨S4x1536x256, .f32⟩
  | .hbm, ⟨12, _⟩ => ⟨S4x3x512x256, .f32⟩
  | .hbm, ⟨13, _⟩ => ⟨S_, .f32⟩
  | .hbm, ⟨14, _⟩ => ⟨S4x3x512x256, .f32⟩
  | .hbm, ⟨15, _⟩ => ⟨S4x3x512x256, .f32⟩
  | .hbm, ⟨16, _⟩ => ⟨S_, .f32⟩
  | .hbm, ⟨17, _⟩ => ⟨S4x3x512x256, .f32⟩
  | .hbm, ⟨18, _⟩ => ⟨S4x3x512x256, .f32⟩
  | .hbm, ⟨19, _⟩ => ⟨S4x3x512x256, .f32⟩
  | .hbm, ⟨20, _⟩ => ⟨S_, .f32⟩
  | .hbm, ⟨21, _⟩ => ⟨S4x3x512x256, .f32⟩
  | .hbm, ⟨22, _⟩ => ⟨S4x3x512x256, .f32⟩
  | .hbm, ⟨23, _⟩ => ⟨S4x3x512x256, .f32⟩
  | .hbm, ⟨24, _⟩ => ⟨S_, .f32⟩
  | .hbm, ⟨25, _⟩ => ⟨S4x3x512x256, .f32⟩
  | .hbm, ⟨26, _⟩ => ⟨S4x3x512x256, .f32⟩
  | .hbm, ⟨27, _⟩ => ⟨S4x3x512x256, .f32⟩
  | .hbm, ⟨28, _⟩ => ⟨S_, .f32⟩
  | .hbm, ⟨29, _⟩ => ⟨S4x3x512x256, .f32⟩
  | .hbm, ⟨30, _⟩ => ⟨S4x3x512x256, .f32⟩
  | .hbm, ⟨31, _⟩ => ⟨S_, .f32⟩
  | .hbm, ⟨32, _⟩ => ⟨S4x3x512x256, .f32⟩
  | .hbm, ⟨33, _⟩ => ⟨S4x3x512x256, .f32⟩
  | .hbm, ⟨34, _⟩ => ⟨S4x3x512x256, .f32⟩
  | .hbm, ⟨35, _⟩ => ⟨S_, .f32⟩
  | .hbm, ⟨36, _⟩ => ⟨S4x3x512x256, .f32⟩
  | .hbm, ⟨37, _⟩ => ⟨S4x3x512x256, .f32⟩
  | .hbm, ⟨38, _⟩ => ⟨S4x3x512x256, .f32⟩
  | .hbm, ⟨39, _⟩ => ⟨S_, .f32⟩
  | .hbm, ⟨40, _⟩ => ⟨S4x3x512x256, .f32⟩
  | .hbm, ⟨41, _⟩ => ⟨S4x3x512x256, .f32⟩
  | .hbm, ⟨42, _⟩ => ⟨S4x3x512x256, .f32⟩
  | .hbm, ⟨43, _⟩ => ⟨S_, .f32⟩
  | .hbm, ⟨44, _⟩ => ⟨S4x3x512x256, .f32⟩
  | .hbm, ⟨45, _⟩ => ⟨S4x3x512x256, .f32⟩
  | .hbm, ⟨46, _⟩ => ⟨S4x1536x256, .f32⟩
  | .hbm, ⟨47, _⟩ => ⟨S4x1536x256, .f32⟩
  | .hbm, ⟨48, _⟩ => ⟨S4x1536x256, .f32⟩
  | .hbm, ⟨49, _⟩ => ⟨S4x1536x256, .f32⟩
  | _, _ => ⟨S4x3x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_7 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩

abbrev nD : Nat := 1
abbrev τ : Topo := Topo.v7x

variable {F : FTy → Type} [FloatOps F]
-- ==== AdamSmall.lean ====
abbrev S4x1024 : Shape := ⟨2, ![4, 1024]⟩
abbrev S4x512 : Shape := ⟨2, ![4, 512]⟩
abbrev S4x3x128 : Shape := ⟨3, ![4, 3, 128]⟩
abbrev S4x4x128x128 : Shape := ⟨4, ![4, 4, 128, 128]⟩
abbrev S4x4x128 : Shape := ⟨3, ![4, 4, 128]⟩
abbrev S1024 : Shape := ⟨1, ![1024]⟩
abbrev S32x128 : Shape := ⟨2, ![32, 128]⟩
abbrev S16x128 : Shape := ⟨2, ![16, 128]⟩
abbrev S12x128 : Shape := ⟨2, ![12, 128]⟩
abbrev S_ : Shape := ⟨0, ![]⟩
abbrev S4x128 : Shape := ⟨2, ![4, 128]⟩
abbrev S2048x128 : Shape := ⟨2, ![2048, 128]⟩
abbrev S8x128 : Shape := ⟨2, ![8, 128]⟩
abbrev S2216x128 : Shape := ⟨2, ![2216, 128]⟩

abbrev nBuf : Space → Nat
  | .hbm => 99
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x512, .f32⟩
  | .hbm, ⟨2, _⟩ => ⟨S4x512, .f32⟩
  | .hbm, ⟨3, _⟩ => ⟨S4x3x128, .f32⟩
  | .hbm, ⟨4, _⟩ => ⟨S4x512, .f32⟩
  | .hbm, ⟨5, _⟩ => ⟨S4x512, .f32⟩
  | .hbm, ⟨6, _⟩ => ⟨S4x4x128x128, .f32⟩
  | .hbm, ⟨7, _⟩ => ⟨S4x4x128, .f32⟩
  | .hbm, ⟨8, _⟩ => ⟨S4x1024, .f32⟩
  | .hbm, ⟨9, _⟩ => ⟨S1024, .f32⟩
  | .hbm, ⟨10, _⟩ => ⟨S4x1024, .f32⟩
  | .hbm, ⟨11, _⟩ => ⟨S4x512, .f32⟩
  | .hbm, ⟨12, _⟩ => ⟨S4x512, .f32⟩
  | .hbm, ⟨13, _⟩ => ⟨S4x3x128, .f32⟩
  | .hbm, ⟨14, _⟩ => ⟨S4x512, .f32⟩
  | .hbm, ⟨15, _⟩ => ⟨S4x512, .f32⟩
  | .hbm, ⟨16, _⟩ => ⟨S4x4x128x128, .f32⟩
  | .hbm, ⟨17, _⟩ => ⟨S4x4x128, .f32⟩
  | .hbm, ⟨18, _⟩ => ⟨S4x1024, .f32⟩
  | .hbm, ⟨19, _⟩ => ⟨S1024, .f32⟩
  | .hbm, ⟨20, _⟩ => ⟨S4x1024, .f32⟩
  | .hbm, ⟨21, _⟩ => ⟨S4x512, .f32⟩
  | .hbm, ⟨22, _⟩ => ⟨S4x512, .f32⟩
  | .hbm, ⟨23, _⟩ => ⟨S4x3x128, .f32⟩
  | .hbm, ⟨24, _⟩ => ⟨S4x512, .f32⟩
  | .hbm, ⟨25, _⟩ => ⟨S4x512, .f32⟩
  | .hbm, ⟨26, _⟩ => ⟨S4x4x128x128, .f32⟩
  | .hbm, ⟨27, _⟩ => ⟨S4x4x128, .f32⟩
  | .hbm, ⟨28, _⟩ => ⟨S4x1024, .f32⟩
  | .hbm, ⟨29, _⟩ => ⟨S1024, .f32⟩
  | .hbm, ⟨30, _⟩ => ⟨S4x1024, .f32⟩
  | .hbm, ⟨31, _⟩ => ⟨S4x512, .f32⟩
  | .hbm, ⟨32, _⟩ => ⟨S4x512, .f32⟩
  | .hbm, ⟨33, _⟩ => ⟨S4x3x128, .f32⟩
  | .hbm, ⟨34, _⟩ => ⟨S4x512, .f32⟩
  | .hbm, ⟨35, _⟩ => ⟨S4x512, .f32⟩
  | .hbm, ⟨36, _⟩ => ⟨S4x4x128x128, .f32⟩
  | .hbm, ⟨37, _⟩ => ⟨S4x4x128, .f32⟩
  | .hbm, ⟨38, _⟩ => ⟨S4x1024, .f32⟩
  | .hbm, ⟨39, _⟩ => ⟨S1024, .f32⟩
  | .hbm, ⟨40, _⟩ => ⟨S32x128, .f32⟩
  | .hbm, ⟨41, _⟩ => ⟨S16x128, .f32⟩
  | .hbm, ⟨42, _⟩ => ⟨S16x128, .f32⟩
  | .hbm, ⟨43, _⟩ => ⟨S12x128, .f32⟩
  | .hbm, ⟨44, _⟩ => ⟨S_, .f32⟩
  | .hbm, ⟨45, _⟩ => ⟨S4x128, .f32⟩
  | .hbm, ⟨46, _⟩ => ⟨S16x128, .f32⟩
  | .hbm, ⟨47, _⟩ => ⟨S16x128, .f32⟩
  | .hbm, ⟨48, _⟩ => ⟨S16x128, .f32⟩
  | .hbm, ⟨49, _⟩ => ⟨S2048x128, .f32⟩
  | .hbm, ⟨50, _⟩ => ⟨S16x128, .f32⟩
  | .hbm, ⟨51, _⟩ => ⟨S32x128, .f32⟩
  | .hbm, ⟨52, _⟩ => ⟨S8x128, .f32⟩
  | .hbm, ⟨53, _⟩ => ⟨S2216x128, .f32⟩
  | .hbm, ⟨54, _⟩ => ⟨S32x128, .f32⟩
  | .hbm, ⟨55, _⟩ => ⟨S16x128, .f32⟩
  | .hbm, ⟨56, _⟩ => ⟨S16x128, .f32⟩
  | .hbm, ⟨57, _⟩ => ⟨S12x128, .f32⟩
  | .hbm, ⟨58, _⟩ => ⟨S_, .f32⟩
  | .hbm, ⟨59, _⟩ => ⟨S4x128, .f32⟩
  | .hbm, ⟨60, _⟩ => ⟨S16x128, .f32⟩
  | .hbm, ⟨61, _⟩ => ⟨S16x128, .f32⟩
  | .hbm, ⟨62, _⟩ => ⟨S16x128, .f32⟩
  | .hbm, ⟨63, _⟩ => ⟨S2048x128, .f32⟩
  | .hbm, ⟨64, _⟩ => ⟨S16x128, .f32⟩
  | .hbm, ⟨65, _⟩ => ⟨S32x128, .f32⟩
  | .hbm, ⟨66, _⟩ => ⟨S8x128, .f32⟩
  | .hbm, ⟨67, _⟩ => ⟨S2216x128, .f32⟩
  | .hbm, ⟨68, _⟩ => ⟨S32x128, .f32⟩
  | .hbm, ⟨69, _⟩ => ⟨S16x128, .f32⟩
  | .hbm, ⟨70, _⟩ => ⟨S16x128, .f32⟩
  | .hbm, ⟨71, _⟩ => ⟨S12x128, .f32⟩
  | .hbm, ⟨72, _⟩ => ⟨S_, .f32⟩
  | .hbm, ⟨73, _⟩ => ⟨S4x128, .f32⟩
  | .hbm, ⟨74, _⟩ => ⟨S16x128, .f32⟩
  | .hbm, ⟨75, _⟩ => ⟨S16x128, .f32⟩
  | .hbm, ⟨76, _⟩ => ⟨S16x128, .f32⟩
  | .hbm, ⟨77, _⟩ => ⟨S2048x128, .f32⟩
  | .hbm, ⟨78, _⟩ => ⟨S16x128, .f32⟩
  | .hbm, ⟨79, _⟩ => ⟨S32x128, .f32⟩
  | .hbm, ⟨80, _⟩ => ⟨S8x128, .f32⟩
  | .hbm, ⟨81, _⟩ => ⟨S2216x128, .f32⟩
  | .hbm, ⟨82, _⟩ => ⟨S32x128, .f32⟩
  | .hbm, ⟨83, _⟩ => ⟨S16x128, .f32⟩
  | .hbm, ⟨84, _⟩ => ⟨S16x128, .f32⟩
  | .hbm, ⟨85, _⟩ => ⟨S12x128, .f32⟩
  | .hbm, ⟨86, _⟩ => ⟨S_, .f32⟩
  | .hbm, ⟨87, _⟩ => ⟨S4x128, .f32⟩
  | .hbm, ⟨88, _⟩ => ⟨S16x128, .f32⟩
  | .hbm, ⟨89, _⟩ => ⟨S16x128, .f32⟩
  | .hbm, ⟨90, _⟩ => ⟨S16x128, .f32⟩
  | .hbm, ⟨91, _⟩ => ⟨S2048x128, .f32⟩
  | .hbm, ⟨92, _⟩ => ⟨S16x128, .f32⟩
  | .hbm, ⟨93, _⟩ => ⟨S32x128, .f32⟩
  | .hbm, ⟨94, _⟩ => ⟨S8x128, .f32⟩
  | .hbm, ⟨95, _⟩ => ⟨S2216x128, .f32⟩
  | .hbm, ⟨96, _⟩ => ⟨S2216x128, .f32⟩
  | .hbm, ⟨97, _⟩ => ⟨S2216x128, .f32⟩
  | .hbm, ⟨98, _⟩ => ⟨S2216x128, .f32⟩
  | .local _ .vmem, ⟨0, _⟩ => ⟨S2216x128, .f32⟩
  | .local _ .vmem, ⟨1, _⟩ => ⟨S2216x128, .f32⟩
  | .local _ .vmem, ⟨2, _⟩ => ⟨S2216x128, .f32⟩
  | .local _ .vmem, ⟨3, _⟩ => ⟨S2216x128, .f32⟩
  | .local _ .vmem, ⟨4, _⟩ => ⟨S2216x128, .f32⟩
  | .local _ .vmem, ⟨5, _⟩ => ⟨S2216x128, .f32⟩
  | .local _ .vmem, ⟨6, _⟩ => ⟨S2216x128, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_v0 : Ref sig .tc := ⟨.hbm, 40, rfl⟩
abbrev main_v1 : Ref sig .tc := ⟨.hbm, 41, rfl⟩
abbrev main_v2 : Ref sig .tc := ⟨.hbm, 42, rfl⟩
abbrev main_v3 : Ref sig .tc := ⟨.hbm, 43, rfl⟩
abbrev main_cst : Ref sig .tc := ⟨.hbm, 44, rfl⟩
abbrev main_v4 : Ref sig .tc := ⟨.hbm, 45, rfl⟩
abbrev main_v5 : Ref sig .tc := ⟨.hbm, 46, rfl⟩
abbrev main_v6 : Ref sig .tc := ⟨.hbm, 47, rfl⟩
abbrev main_v7 : Ref sig .tc := ⟨.hbm, 48, rfl⟩
abbrev main_v8 : Ref sig .tc := ⟨.hbm, 49, rfl⟩
abbrev main_v9 : Ref sig .tc := ⟨.hbm, 50, rfl⟩
abbrev main_v10 : Ref sig .tc := ⟨.hbm, 51, rfl⟩
abbrev main_v11 : Ref sig .tc := ⟨.hbm, 52, rfl⟩
abbrev main_v12 : Ref sig .tc := ⟨.hbm, 53, rfl⟩
abbrev main_v13 : Ref sig .tc := ⟨.hbm, 54, rfl⟩
abbrev main_v14 : Ref sig .tc := ⟨.hbm, 55, rfl⟩
abbrev main_v15 : Ref sig .tc := ⟨.hbm, 56, rfl⟩
abbrev main_v16 : Ref sig .tc := ⟨.hbm, 57, rfl⟩
abbrev main_cst_0 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩
abbrev main_v25 : Ref sig .tc := ⟨.hbm, 67, rfl⟩
abbrev main_v26 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_cst_1 : Ref sig .tc := ⟨.hbm, 72, rfl⟩
abbrev main_v30 : Ref sig .tc := ⟨.hbm, 73, rfl⟩
abbrev main_v31 : Ref sig .tc := ⟨.hbm, 74, rfl⟩
abbrev main_v32 : Ref sig .tc := ⟨.hbm, 75, rfl⟩
abbrev main_v33 : Ref sig .tc := ⟨.hbm, 76, rfl⟩
abbrev main_v34 : Ref sig .tc := ⟨.hbm, 77, rfl⟩
abbrev main_v35 : Ref sig .tc := ⟨.hbm, 78, rfl⟩
abbrev main_v36 : Ref sig .tc := ⟨.hbm, 79, rfl⟩
abbrev main_v37 : Ref sig .tc := ⟨.hbm, 80, rfl⟩
abbrev main_v38 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_cst_2 : Ref sig .tc := ⟨.hbm, 86, rfl⟩
abbrev main_v43 : Ref sig .tc := ⟨.hbm, 87, rfl⟩
abbrev main_v44 : Ref sig .tc := ⟨.hbm, 88, rfl⟩
abbrev main_v45 : Ref sig .tc := ⟨.hbm, 89, rfl⟩
abbrev main_v46 : Ref sig .tc := ⟨.hbm, 90, rfl⟩
abbrev main_v47 : Ref sig .tc := ⟨.hbm, 91, rfl⟩
abbrev main_v48 : Ref sig .tc := ⟨.hbm, 92, rfl⟩
abbrev main_v49 : Ref sig .tc := ⟨.hbm, 93, rfl⟩
abbrev main_v50 : Ref sig .tc := ⟨.hbm, 94, rfl⟩
abbrev main_v51 : Ref sig .tc := ⟨.hbm, 95, rfl⟩
abbrev main_v52_0 : Ref sig .tc := ⟨.hbm, 96, rfl⟩
abbrev main_v52_1 : Ref sig .tc := ⟨.hbm, 97, rfl⟩
abbrev main_v52_2 : Ref sig .tc := ⟨.hbm, 98, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S2216x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2216x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2216x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2216x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2216x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2216x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2216x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== AdamSmallRefIdeal.lean ====
abbrev S4x1024 : Shape := ⟨2, ![4, 1024]⟩
abbrev S4x512 : Shape := ⟨2, ![4, 512]⟩
abbrev S4x3x128 : Shape := ⟨3, ![4, 3, 128]⟩
abbrev S4x4x128x128 : Shape := ⟨4, ![4, 4, 128, 128]⟩
abbrev S4x4x128 : Shape := ⟨3, ![4, 4, 128]⟩
abbrev S1024 : Shape := ⟨1, ![1024]⟩
abbrev S_ : Shape := ⟨0, ![]⟩
abbrev S32x128 : Shape := ⟨2, ![32, 128]⟩
abbrev S16x128 : Shape := ⟨2, ![16, 128]⟩
abbrev S12x128 : Shape := ⟨2, ![12, 128]⟩
abbrev S4x128 : Shape := ⟨2, ![4, 128]⟩
abbrev S2048x128 : Shape := ⟨2, ![2048, 128]⟩
abbrev S8x128 : Shape := ⟨2, ![8, 128]⟩
abbrev S2216x128 : Shape := ⟨2, ![2216, 128]⟩

abbrev nBuf : Space → Nat
  | .hbm => 412
  | .vmem => 0
  | .smem => 0
  | _ => 0

abbrev hbmTy0_0 (i : Nat) : BufTy := match i % 128 with
  | 0 => ⟨S4x1024, .f32⟩
  | 1 => ⟨S4x512, .f32⟩
  | 2 => ⟨S4x512, .f32⟩
  | 3 => ⟨S4x3x128, .f32⟩
  | 4 => ⟨S4x512, .f32⟩
  | 5 => ⟨S4x512, .f32⟩
  | 6 => ⟨S4x4x128x128, .f32⟩
  | 7 => ⟨S4x4x128, .f32⟩
  | 8 => ⟨S4x1024, .f32⟩
  | 9 => ⟨S1024, .f32⟩
  | 10 => ⟨S4x1024, .f32⟩
  | 11 => ⟨S4x512, .f32⟩
  | 12 => ⟨S4x512, .f32⟩
  | 13 => ⟨S4x3x128, .f32⟩
  | 14 => ⟨S4x512, .f32⟩
  | 15 => ⟨S4x512, .f32⟩
  | 16 => ⟨S4x4x128x128, .f32⟩
  | 17 => ⟨S4x4x128, .f32⟩
  | 18 => ⟨S4x1024, .f32⟩
  | 19 => ⟨S1024, .f32⟩
  | 20 => ⟨S4x1024, .f32⟩
  | 21 => ⟨S4x512, .f32⟩
  | 22 => ⟨S4x512, .f32⟩
  | 23 => ⟨S4x3x128, .f32⟩
  | 24 => ⟨S4x512, .f32⟩
  | 25 => ⟨S4x512, .f32⟩
  | 26 => ⟨S4x4x128x128, .f32⟩
  | 27 => ⟨S4x4x128, .f32⟩
  | 28 => ⟨S4x1024, .f32⟩
  | 29 => ⟨S1024, .f32⟩
  | 30 => ⟨S4x1024, .f32⟩
  | 31 => ⟨S4x512, .f32⟩
  | 32 => ⟨S4x512, .f32⟩
  | 33 => ⟨S4x3x128, .f32⟩
  | 34 => ⟨S4x512, .f32⟩
  | 35 => ⟨S4x512, .f32⟩
  | 36 => ⟨S4x4x128x128, .f32⟩
  | 37 => ⟨S4x4x128, .f32⟩
  | 38 => ⟨S4x1024, .f32⟩
  | 39 => ⟨S1024, .f32⟩
  | 40 => ⟨S_, .f32⟩
  | 41 => ⟨S4x1024, .f32⟩
  | 42 => ⟨S4x1024, .f32⟩
  | 43 => ⟨S_, .f32⟩
  | 44 => ⟨S4x1024, .f32⟩
  | 45 => ⟨S4x1024, .f32⟩
  | 46 => ⟨S4x1024, .f32⟩
  | 47 => ⟨S_, .f32⟩
  | 48 => ⟨S4x1024, .f32⟩
  | 49 => ⟨S4x1024, .f32⟩
  | 50 => ⟨S4x1024, .f32⟩
  | 51 => ⟨S_, .f32⟩
  | 52 => ⟨S4x1024, .f32⟩
  | 53 => ⟨S4x1024, .f32⟩
  | 54 => ⟨S4x1024, .f32⟩
  | 55 => ⟨S_, .f32⟩
  | 56 => ⟨S4x1024, .f32⟩
  | 57 => ⟨S4x1024, .f32⟩
  | 58 => ⟨S_, .f32⟩
  | 59 => ⟨S4x1024, .f32⟩
  | 60 => ⟨S4x1024, .f32⟩
  | 61 => ⟨S4x1024, .f32⟩
  | 62 => ⟨S_, .f32⟩
  | 63 => ⟨S4x1024, .f32⟩
  | 64 => ⟨S4x1024, .f32⟩
  | 65 => ⟨S4x1024, .f32⟩
  | 66 => ⟨S_, .f32⟩
  | 67 => ⟨S4x1024, .f32⟩
  | 68 => ⟨S4x1024, .f32⟩
  | 69 => ⟨S4x1024, .f32⟩
  | 70 => ⟨S_, .f32⟩
  | 71 => ⟨S4x1024, .f32⟩
  | 72 => ⟨S4x1024, .f32⟩
  | 73 => ⟨S_, .f32⟩
  | 74 => ⟨S4x512, .f32⟩
  | 75 => ⟨S4x512, .f32⟩
  | 76 => ⟨S_, .f32⟩
  | 77 => ⟨S4x512, .f32⟩
  | 78 => ⟨S4x512, .f32⟩
  | 79 => ⟨S4x512, .f32⟩
  | 80 => ⟨S_, .f32⟩
  | 81 => ⟨S4x512, .f32⟩
  | 82 => ⟨S4x512, .f32⟩
  | 83 => ⟨S4x512, .f32⟩
  | 84 => ⟨S_, .f32⟩
  | 85 => ⟨S4x512, .f32⟩
  | 86 => ⟨S4x512, .f32⟩
  | 87 => ⟨S4x512, .f32⟩
  | 88 => ⟨S_, .f32⟩
  | 89 => ⟨S4x512, .f32⟩
  | 90 => ⟨S4x512, .f32⟩
  | 91 => ⟨S_, .f32⟩
  | 92 => ⟨S4x512, .f32⟩
  | 93 => ⟨S4x512, .f32⟩
  | 94 => ⟨S4x512, .f32⟩
  | 95 => ⟨S_, .f32⟩
  | 96 => ⟨S4x512, .f32⟩
  | 97 => ⟨S4x512, .f32⟩
  | 98 => ⟨S4x512, .f32⟩
  | 99 => ⟨S_, .f32⟩
  | 100 => ⟨S4x512, .f32⟩
  | 101 => ⟨S4x512, .f32⟩
  | 102 => ⟨S4x512, .f32⟩
  | 103 => ⟨S_, .f32⟩
  | 104 => ⟨S4x512, .f32⟩
  | 105 => ⟨S4x512, .f32⟩
  | 106 => ⟨S_, .f32⟩
  | 107 => ⟨S4x512, .f32⟩
  | 108 => ⟨S4x512, .f32⟩
  | 109 => ⟨S_, .f32⟩
  | 110 => ⟨S4x512, .f32⟩
  | 111 => ⟨S4x512, .f32⟩
  | 112 => ⟨S4x512, .f32⟩
  | 113 => ⟨S_, .f32⟩
  | 114 => ⟨S4x512, .f32⟩
  | 115 => ⟨S4x512, .f32⟩
  | 116 => ⟨S4x512, .f32⟩
  | 117 => ⟨S_, .f32⟩
  | 118 => ⟨S4x512, .f32⟩
  | 119 => ⟨S4x512, .f32⟩
  | 120 => ⟨S4x512, .f32⟩
  | 121 => ⟨S_, .f32⟩
  | 122 => ⟨S4x512, .f32⟩
  | 123 => ⟨S4x512, .f32⟩
  | 124 => ⟨S_, .f32⟩
  | 125 => ⟨S4x512, .f32⟩
  | 126 => ⟨S4x512, .f32⟩
  | 127 => ⟨S4x512, .f32⟩
  | _ => ⟨S4x1024, .f32⟩

abbrev hbmTy0_1 (i : Nat) : BufTy := match i % 128 with
  | 0 => ⟨S_, .f32⟩
  | 1 => ⟨S4x512, .f32⟩
  | 2 => ⟨S4x512, .f32⟩
  | 3 => ⟨S4x512, .f32⟩
  | 4 => ⟨S_, .f32⟩
  | 5 => ⟨S4x512, .f32⟩
  | 6 => ⟨S4x512, .f32⟩
  | 7 => ⟨S4x512, .f32⟩
  | 8 => ⟨S_, .f32⟩
  | 9 => ⟨S4x512, .f32⟩
  | 10 => ⟨S4x512, .f32⟩
  | 11 => ⟨S_, .f32⟩
  | 12 => ⟨S4x3x128, .f32⟩
  | 13 => ⟨S4x3x128, .f32⟩
  | 14 => ⟨S_, .f32⟩
  | 15 => ⟨S4x3x128, .f32⟩
  | 16 => ⟨S4x3x128, .f32⟩
  | 17 => ⟨S4x3x128, .f32⟩
  | 18 => ⟨S_, .f32⟩
  | 19 => ⟨S4x3x128, .f32⟩
  | 20 => ⟨S4x3x128, .f32⟩
  | 21 => ⟨S4x3x128, .f32⟩
  | 22 => ⟨S_, .f32⟩
  | 23 => ⟨S4x3x128, .f32⟩
  | 24 => ⟨S4x3x128, .f32⟩
  | 25 => ⟨S4x3x128, .f32⟩
  | 26 => ⟨S_, .f32⟩
  | 27 => ⟨S4x3x128, .f32⟩
  | 28 => ⟨S4x3x128, .f32⟩
  | 29 => ⟨S_, .f32⟩
  | 30 => ⟨S4x3x128, .f32⟩
  | 31 => ⟨S4x3x128, .f32⟩
  | 32 => ⟨S4x3x128, .f32⟩
  | 33 => ⟨S_, .f32⟩
  | 34 => ⟨S4x3x128, .f32⟩
  | 35 => ⟨S4x3x128, .f32⟩
  | 36 => ⟨S4x3x128, .f32⟩
  | 37 => ⟨S_, .f32⟩
  | 38 => ⟨S4x3x128, .f32⟩
  | 39 => ⟨S4x3x128, .f32⟩
  | 40 => ⟨S4x3x128, .f32⟩
  | 41 => ⟨S_, .f32⟩
  | 42 => ⟨S4x3x128, .f32⟩
  | 43 => ⟨S4x3x128, .f32⟩
  | 44 => ⟨S_, .f32⟩
  | 45 => ⟨S4x512, .f32⟩
  | 46 => ⟨S4x512, .f32⟩
  | 47 => ⟨S_, .f32⟩
  | 48 => ⟨S4x512, .f32⟩
  | 49 => ⟨S4x512, .f32⟩
  | 50 => ⟨S4x512, .f32⟩
  | 51 => ⟨S_, .f32⟩
  | 52 => ⟨S4x512, .f32⟩
  | 53 => ⟨S4x512, .f32⟩
  | 54 => ⟨S4x512, .f32⟩
  | 55 => ⟨S_, .f32⟩
  | 56 => ⟨S4x512, .f32⟩
  | 57 => ⟨S4x512, .f32⟩
  | 58 => ⟨S4x512, .f32⟩
  | 59 => ⟨S_, .f32⟩
  | 60 => ⟨S4x512, .f32⟩
  | 61 => ⟨S4x512, .f32⟩
  | 62 => ⟨S_, .f32⟩
  | 63 => ⟨S4x512, .f32⟩
  | 64 => ⟨S4x512, .f32⟩
  | 65 => ⟨S4x512, .f32⟩
  | 66 => ⟨S_, .f32⟩
  | 67 => ⟨S4x512, .f32⟩
  | 68 => ⟨S4x512, .f32⟩
  | 69 => ⟨S4x512, .f32⟩
  | 70 => ⟨S_, .f32⟩
  | 71 => ⟨S4x512, .f32⟩
  | 72 => ⟨S4x512, .f32⟩
  | 73 => ⟨S4x512, .f32⟩
  | 74 => ⟨S_, .f32⟩
  | 75 => ⟨S4x512, .f32⟩
  | 76 => ⟨S4x512, .f32⟩
  | 77 => ⟨S_, .f32⟩
  | 78 => ⟨S4x512, .f32⟩
  | 79 => ⟨S4x512, .f32⟩
  | 80 => ⟨S_, .f32⟩
  | 81 => ⟨S4x512, .f32⟩
  | 82 => ⟨S4x512, .f32⟩
  | 83 => ⟨S4x512, .f32⟩
  | 84 => ⟨S_, .f32⟩
  | 85 => ⟨S4x512, .f32⟩
  | 86 => ⟨S4x512, .f32⟩
  | 87 => ⟨S4x512, .f32⟩
  | 88 => ⟨S_, .f32⟩
  | 89 => ⟨S4x512, .f32⟩
  | 90 => ⟨S4x512, .f32⟩
  | 91 => ⟨S4x512, .f32⟩
  | 92 => ⟨S_, .f32⟩
  | 93 => ⟨S4x512, .f32⟩
  | 94 => ⟨S4x512, .f32⟩
  | 95 => ⟨S_, .f32⟩
  | 96 => ⟨S4x512, .f32⟩
  | 97 => ⟨S4x512, .f32⟩
  | 98 => ⟨S4x512, .f32⟩
  | 99 => ⟨S_, .f32⟩
  | 100 => ⟨S4x512, .f32⟩
  | 101 => ⟨S4x512, .f32⟩
  | 102 => ⟨S4x512, .f32⟩
  | 103 => ⟨S_, .f32⟩
  | 104 => ⟨S4x512, .f32⟩
  | 105 => ⟨S4x512, .f32⟩
  | 106 => ⟨S4x512, .f32⟩
  | 107 => ⟨S_, .f32⟩
  | 108 => ⟨S4x512, .f32⟩
  | 109 => ⟨S4x512, .f32⟩
  | 110 => ⟨S_, .f32⟩
  | 111 => ⟨S4x4x128x128, .f32⟩
  | 112 => ⟨S4x4x128x128, .f32⟩
  | 113 => ⟨S_, .f32⟩
  | 114 => ⟨S4x4x128x128, .f32⟩
  | 115 => ⟨S4x4x128x128, .f32⟩
  | 116 => ⟨S4x4x128x128, .f32⟩
  | 117 => ⟨S_, .f32⟩
  | 118 => ⟨S4x4x128x128, .f32⟩
  | 119 => ⟨S4x4x128x128, .f32⟩
  | 120 => ⟨S4x4x128x128, .f32⟩
  | 121 => ⟨S_, .f32⟩
  | 122 => ⟨S4x4x128x128, .f32⟩
  | 123 => ⟨S4x4x128x128, .f32⟩
  | 124 => ⟨S4x4x128x128, .f32⟩
  | 125 => ⟨S_, .f32⟩
  | 126 => ⟨S4x4x128x128, .f32⟩
  | 127 => ⟨S4x4x128x128, .f32⟩
  | _ => ⟨S4x1024, .f32⟩

abbrev hbmTy0_2 (i : Nat) : BufTy := match i % 128 with
  | 0 => ⟨S_, .f32⟩
  | 1 => ⟨S4x4x128x128, .f32⟩
  | 2 => ⟨S4x4x128x128, .f32⟩
  | 3 => ⟨S4x4x128x128, .f32⟩
  | 4 => ⟨S_, .f32⟩
  | 5 => ⟨S4x4x128x128, .f32⟩
  | 6 => ⟨S4x4x128x128, .f32⟩
  | 7 => ⟨S4x4x128x128, .f32⟩
  | 8 => ⟨S_, .f32⟩
  | 9 => ⟨S4x4x128x128, .f32⟩
  | 10 => ⟨S4x4x128x128, .f32⟩
  | 11 => ⟨S4x4x128x128, .f32⟩
  | 12 => ⟨S_, .f32⟩
  | 13 => ⟨S4x4x128x128, .f32⟩
  | 14 => ⟨S4x4x128x128, .f32⟩
  | 15 => ⟨S_, .f32⟩
  | 16 => ⟨S4x4x128, .f32⟩
  | 17 => ⟨S4x4x128, .f32⟩
  | 18 => ⟨S_, .f32⟩
  | 19 => ⟨S4x4x128, .f32⟩
  | 20 => ⟨S4x4x128, .f32⟩
  | 21 => ⟨S4x4x128, .f32⟩
  | 22 => ⟨S_, .f32⟩
  | 23 => ⟨S4x4x128, .f32⟩
  | 24 => ⟨S4x4x128, .f32⟩
  | 25 => ⟨S4x4x128, .f32⟩
  | 26 => ⟨S_, .f32⟩
  | 27 => ⟨S4x4x128, .f32⟩
  | 28 => ⟨S4x4x128, .f32⟩
  | 29 => ⟨S4x4x128, .f32⟩
  | 30 => ⟨S_, .f32⟩
  | 31 => ⟨S4x4x128, .f32⟩
  | 32 => ⟨S4x4x128, .f32⟩
  | 33 => ⟨S_, .f32⟩
  | 34 => ⟨S4x4x128, .f32⟩
  | 35 => ⟨S4x4x128, .f32⟩
  | 36 => ⟨S4x4x128, .f32⟩
  | 37 => ⟨S_, .f32⟩
  | 38 => ⟨S4x4x128, .f32⟩
  | 39 => ⟨S4x4x128, .f32⟩
  | 40 => ⟨S4x4x128, .f32⟩
  | 41 => ⟨S_, .f32⟩
  | 42 => ⟨S4x4x128, .f32⟩
  | 43 => ⟨S4x4x128, .f32⟩
  | 44 => ⟨S4x4x128, .f32⟩
  | 45 => ⟨S_, .f32⟩
  | 46 => ⟨S4x4x128, .f32⟩
  | 47 => ⟨S4x4x128, .f32⟩
  | 48 => ⟨S_, .f32⟩
  | 49 => ⟨S4x1024, .f32⟩
  | 50 => ⟨S4x1024, .f32⟩
  | 51 => ⟨S_, .f32⟩
  | 52 => ⟨S4x1024, .f32⟩
  | 53 => ⟨S4x1024, .f32⟩
  | 54 => ⟨S4x1024, .f32⟩
  | 55 => ⟨S_, .f32⟩
  | 56 => ⟨S4x1024, .f32⟩
  | 57 => ⟨S4x1024, .f32⟩
  | 58 => ⟨S4x1024, .f32⟩
  | 59 => ⟨S_, .f32⟩
  | 60 => ⟨S4x1024, .f32⟩
  | 61 => ⟨S4x1024, .f32⟩
  | 62 => ⟨S4x1024, .f32⟩
  | 63 => ⟨S_, .f32⟩
  | 64 => ⟨S4x1024, .f32⟩
  | 65 => ⟨S4x1024, .f32⟩
  | 66 => ⟨S_, .f32⟩
  | 67 => ⟨S4x1024, .f32⟩
  | 68 => ⟨S4x1024, .f32⟩
  | 69 => ⟨S4x1024, .f32⟩
  | 70 => ⟨S_, .f32⟩
  | 71 => ⟨S4x1024, .f32⟩
  | 72 => ⟨S4x1024, .f32⟩
  | 73 => ⟨S4x1024, .f32⟩
  | 74 => ⟨S_, .f32⟩
  | 75 => ⟨S4x1024, .f32⟩
  | 76 => ⟨S4x1024, .f32⟩
  | 77 => ⟨S4x1024, .f32⟩
  | 78 => ⟨S_, .f32⟩
  | 79 => ⟨S4x1024, .f32⟩
  | 80 => ⟨S4x1024, .f32⟩
  | 81 => ⟨S_, .f32⟩
  | 82 => ⟨S1024, .f32⟩
  | 83 => ⟨S1024, .f32⟩
  | 84 => ⟨S_, .f32⟩
  | 85 => ⟨S1024, .f32⟩
  | 86 => ⟨S1024, .f32⟩
  | 87 => ⟨S1024, .f32⟩
  | 88 => ⟨S_, .f32⟩
  | 89 => ⟨S1024, .f32⟩
  | 90 => ⟨S1024, .f32⟩
  | 91 => ⟨S1024, .f32⟩
  | 92 => ⟨S_, .f32⟩
  | 93 => ⟨S1024, .f32⟩
  | 94 => ⟨S1024, .f32⟩
  | 95 => ⟨S1024, .f32⟩
  | 96 => ⟨S_, .f32⟩
  | 97 => ⟨S1024, .f32⟩
  | 98 => ⟨S1024, .f32⟩
  | 99 => ⟨S_, .f32⟩
  | 100 => ⟨S1024, .f32⟩
  | 101 => ⟨S1024, .f32⟩
  | 102 => ⟨S1024, .f32⟩
  | 103 => ⟨S_, .f32⟩
  | 104 => ⟨S1024, .f32⟩
  | 105 => ⟨S1024, .f32⟩
  | 106 => ⟨S1024, .f32⟩
  | 107 => ⟨S_, .f32⟩
  | 108 => ⟨S1024, .f32⟩
  | 109 => ⟨S1024, .f32⟩
  | 110 => ⟨S1024, .f32⟩
  | 111 => ⟨S_, .f32⟩
  | 112 => ⟨S1024, .f32⟩
  | 113 => ⟨S1024, .f32⟩
  | 114 => ⟨S32x128, .f32⟩
  | 115 => ⟨S16x128, .f32⟩
  | 116 => ⟨S16x128, .f32⟩
  | 117 => ⟨S12x128, .f32⟩
  | 118 => ⟨S_, .f32⟩
  | 119 => ⟨S4x128, .f32⟩
  | 120 => ⟨S16x128, .f32⟩
  | 121 => ⟨S16x128, .f32⟩
  | 122 => ⟨S16x128, .f32⟩
  | 123 => ⟨S2048x128, .f32⟩
  | 124 => ⟨S16x128, .f32⟩
  | 125 => ⟨S32x128, .f32⟩
  | 126 => ⟨S8x128, .f32⟩
  | 127 => ⟨S2216x128, .f32⟩
  | _ => ⟨S4x1024, .f32⟩

abbrev hbmTy0_3 (i : Nat) : BufTy := match i % 128 with
  | 0 => ⟨S32x128, .f32⟩
  | 1 => ⟨S16x128, .f32⟩
  | 2 => ⟨S16x128, .f32⟩
  | 3 => ⟨S12x128, .f32⟩
  | 4 => ⟨S_, .f32⟩
  | 5 => ⟨S4x128, .f32⟩
  | 6 => ⟨S16x128, .f32⟩
  | 7 => ⟨S16x128, .f32⟩
  | 8 => ⟨S16x128, .f32⟩
  | 9 => ⟨S2048x128, .f32⟩
  | 10 => ⟨S16x128, .f32⟩
  | 11 => ⟨S32x128, .f32⟩
  | 12 => ⟨S8x128, .f32⟩
  | 13 => ⟨S2216x128, .f32⟩
  | 14 => ⟨S32x128, .f32⟩
  | 15 => ⟨S16x128, .f32⟩
  | 16 => ⟨S16x128, .f32⟩
  | 17 => ⟨S12x128, .f32⟩
  | 18 => ⟨S_, .f32⟩
  | 19 => ⟨S4x128, .f32⟩
  | 20 => ⟨S16x128, .f32⟩
  | 21 => ⟨S16x128, .f32⟩
  | 22 => ⟨S16x128, .f32⟩
  | 23 => ⟨S2048x128, .f32⟩
  | 24 => ⟨S16x128, .f32⟩
  | 25 => ⟨S32x128, .f32⟩
  | 26 => ⟨S8x128, .f32⟩
  | 27 => ⟨S2216x128, .f32⟩
  | _ => ⟨S4x1024, .f32⟩

abbrev hbmTy (i : Nat) : BufTy := match i / 128 with
  | 0 => hbmTy0_0 i
  | 1 => hbmTy0_1 i
  | 2 => hbmTy0_2 i
  | 3 => hbmTy0_3 i
  | _ => ⟨S4x1024, .f32⟩

abbrev bufTy : (tb : Table) → Fin (tcTables nBuf tb) → BufTy
  | .hbm, ⟨i, _⟩ => hbmTy i
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_cst : Ref sig .tc := ⟨.hbm, 40, rfl⟩
abbrev main_v0 : Ref sig .tc := ⟨.hbm, 41, rfl⟩
abbrev main_v1 : Ref sig .tc := ⟨.hbm, 42, rfl⟩
abbrev main_cst_0 : Ref sig .tc := ⟨.hbm, 43, rfl⟩
abbrev main_v2 : Ref sig .tc := ⟨.hbm, 44, rfl⟩
abbrev main_v3 : Ref sig .tc := ⟨.hbm, 45, rfl⟩
abbrev main_v4 : Ref sig .tc := ⟨.hbm, 46, rfl⟩
abbrev main_cst_1 : Ref sig .tc := ⟨.hbm, 47, rfl⟩
abbrev main_v5 : Ref sig .tc := ⟨.hbm, 48, rfl⟩
abbrev main_v6 : Ref sig .tc := ⟨.hbm, 49, rfl⟩
abbrev main_v7 : Ref sig .tc := ⟨.hbm, 50, rfl⟩
abbrev main_cst_2 : Ref sig .tc := ⟨.hbm, 51, rfl⟩
abbrev main_v8 : Ref sig .tc := ⟨.hbm, 52, rfl⟩
abbrev main_v9 : Ref sig .tc := ⟨.hbm, 53, rfl⟩
abbrev main_v10 : Ref sig .tc := ⟨.hbm, 54, rfl⟩
abbrev main_cst_3 : Ref sig .tc := ⟨.hbm, 55, rfl⟩
abbrev main_v11 : Ref sig .tc := ⟨.hbm, 56, rfl⟩
abbrev main_v12 : Ref sig .tc := ⟨.hbm, 57, rfl⟩
abbrev main_cst_4 : Ref sig .tc := ⟨.hbm, 58, rfl⟩
abbrev main_v13 : Ref sig .tc := ⟨.hbm, 59, rfl⟩
abbrev main_v14 : Ref sig .tc := ⟨.hbm, 60, rfl⟩
abbrev main_v15 : Ref sig .tc := ⟨.hbm, 61, rfl⟩
abbrev main_cst_5 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_cst_6 : Ref sig .tc := ⟨.hbm, 66, rfl⟩
abbrev main_v19 : Ref sig .tc := ⟨.hbm, 67, rfl⟩
abbrev main_v20 : Ref sig .tc := ⟨.hbm, 68, rfl⟩
abbrev main_v21 : Ref sig .tc := ⟨.hbm, 69, rfl⟩
abbrev main_cst_7 : Ref sig .tc := ⟨.hbm, 70, rfl⟩
abbrev main_v22 : Ref sig .tc := ⟨.hbm, 71, rfl⟩
abbrev main_v23 : Ref sig .tc := ⟨.hbm, 72, rfl⟩
abbrev main_cst_8 : Ref sig .tc := ⟨.hbm, 73, rfl⟩
abbrev main_v24 : Ref sig .tc := ⟨.hbm, 74, rfl⟩
abbrev main_v25 : Ref sig .tc := ⟨.hbm, 75, rfl⟩
abbrev main_cst_9 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_cst_10 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_cst_11 : Ref sig .tc := ⟨.hbm, 84, rfl⟩
abbrev main_v32 : Ref sig .tc := ⟨.hbm, 85, rfl⟩
abbrev main_v33 : Ref sig .tc := ⟨.hbm, 86, rfl⟩
abbrev main_v34 : Ref sig .tc := ⟨.hbm, 87, rfl⟩
abbrev main_cst_12 : Ref sig .tc := ⟨.hbm, 88, rfl⟩
abbrev main_v35 : Ref sig .tc := ⟨.hbm, 89, rfl⟩
abbrev main_v36 : Ref sig .tc := ⟨.hbm, 90, rfl⟩
abbrev main_cst_13 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩
abbrev main_cst_14 : Ref sig .tc := ⟨.hbm, 95, rfl⟩
abbrev main_v40 : Ref sig .tc := ⟨.hbm, 96, rfl⟩
abbrev main_v41 : Ref sig .tc := ⟨.hbm, 97, rfl⟩
abbrev main_v42 : Ref sig .tc := ⟨.hbm, 98, rfl⟩
abbrev main_cst_15 : Ref sig .tc := ⟨.hbm, 99, rfl⟩
abbrev main_v43 : Ref sig .tc := ⟨.hbm, 100, rfl⟩
abbrev main_v44 : Ref sig .tc := ⟨.hbm, 101, rfl⟩
abbrev main_v45 : Ref sig .tc := ⟨.hbm, 102, rfl⟩
abbrev main_cst_16 : Ref sig .tc := ⟨.hbm, 103, rfl⟩
abbrev main_v46 : Ref sig .tc := ⟨.hbm, 104, rfl⟩
abbrev main_v47 : Ref sig .tc := ⟨.hbm, 105, rfl⟩
abbrev main_cst_17 : Ref sig .tc := ⟨.hbm, 106, rfl⟩
abbrev main_v48 : Ref sig .tc := ⟨.hbm, 107, rfl⟩
abbrev main_v49 : Ref sig .tc := ⟨.hbm, 108, rfl⟩
abbrev main_cst_18 : Ref sig .tc := ⟨.hbm, 109, rfl⟩
abbrev main_v50 : Ref sig .tc := ⟨.hbm, 110, rfl⟩
abbrev main_v51 : Ref sig .tc := ⟨.hbm, 111, rfl⟩
abbrev main_v52 : Ref sig .tc := ⟨.hbm, 112, rfl⟩
abbrev main_cst_19 : Ref sig .tc := ⟨.hbm, 113, rfl⟩
abbrev main_v53 : Ref sig .tc := ⟨.hbm, 114, rfl⟩
abbrev main_v54 : Ref sig .tc := ⟨.hbm, 115, rfl⟩
abbrev main_v55 : Ref sig .tc := ⟨.hbm, 116, rfl⟩
abbrev main_cst_20 : Ref sig .tc := ⟨.hbm, 117, rfl⟩
abbrev main_v56 : Ref sig .tc := ⟨.hbm, 118, rfl⟩
abbrev main_v57 : Ref sig .tc := ⟨.hbm, 119, rfl⟩
abbrev main_v58 : Ref sig .tc := ⟨.hbm, 120, rfl⟩
abbrev main_cst_21 : Ref sig .tc := ⟨.hbm, 121, rfl⟩
abbrev main_v59 : Ref sig .tc := ⟨.hbm, 122, rfl⟩
abbrev main_v60 : Ref sig .tc := ⟨.hbm, 123, rfl⟩
abbrev main_cst_22 : Ref sig .tc := ⟨.hbm, 124, rfl⟩
abbrev main_v61 : Ref sig .tc := ⟨.hbm, 125, rfl⟩
abbrev main_v62 : Ref sig .tc := ⟨.hbm, 126, rfl⟩
abbrev main_v63 : Ref sig .tc := ⟨.hbm, 127, rfl⟩
abbrev main_cst_23 : Ref sig .tc := ⟨.hbm, 128, rfl⟩
abbrev main_v64 : Ref sig .tc := ⟨.hbm, 129, rfl⟩
abbrev main_v65 : Ref sig .tc := ⟨.hbm, 130, rfl⟩
abbrev main_v66 : Ref sig .tc := ⟨.hbm, 131, rfl⟩
abbrev main_cst_24 : Ref sig .tc := ⟨.hbm, 132, rfl⟩
abbrev main_v67 : Ref sig .tc := ⟨.hbm, 133, rfl⟩
abbrev main_v68 : Ref sig .tc := ⟨.hbm, 134, rfl⟩
abbrev main_v69 : Ref sig .tc := ⟨.hbm, 135, rfl⟩
abbrev main_cst_25 : Ref sig .tc := ⟨.hbm, 136, rfl⟩
abbrev main_v70 : Ref sig .tc := ⟨.hbm, 137, rfl⟩
abbrev main_v71 : Ref sig .tc := ⟨.hbm, 138, rfl⟩
abbrev main_cst_26 : Ref sig .tc := ⟨.hbm, 139, rfl⟩
abbrev main_v72 : Ref sig .tc := ⟨.hbm, 140, rfl⟩
abbrev main_v73 : Ref sig .tc := ⟨.hbm, 141, rfl⟩
abbrev main_cst_27 : Ref sig .tc := ⟨.hbm, 142, rfl⟩
abbrev main_v74 : Ref sig .tc := ⟨.hbm, 143, rfl⟩
abbrev main_v75 : Ref sig .tc := ⟨.hbm, 144, rfl⟩
abbrev main_v76 : Ref sig .tc := ⟨.hbm, 145, rfl⟩
abbrev main_cst_28 : Ref sig .tc := ⟨.hbm, 146, rfl⟩
abbrev main_v77 : Ref sig .tc := ⟨.hbm, 147, rfl⟩
abbrev main_v78 : Ref sig .tc := ⟨.hbm, 148, rfl⟩
abbrev main_v79 : Ref sig .tc := ⟨.hbm, 149, rfl⟩
abbrev main_cst_29 : Ref sig .tc := ⟨.hbm, 150, rfl⟩
abbrev main_v80 : Ref sig .tc := ⟨.hbm, 151, rfl⟩
abbrev main_v81 : Ref sig .tc := ⟨.hbm, 152, rfl⟩
abbrev main_v82 : Ref sig .tc := ⟨.hbm, 153, rfl⟩
abbrev main_cst_30 : Ref sig .tc := ⟨.hbm, 154, rfl⟩
abbrev main_v83 : Ref sig .tc := ⟨.hbm, 155, rfl⟩
abbrev main_v84 : Ref sig .tc := ⟨.hbm, 156, rfl⟩
abbrev main_cst_31 : Ref sig .tc := ⟨.hbm, 157, rfl⟩
abbrev main_v85 : Ref sig .tc := ⟨.hbm, 158, rfl⟩
abbrev main_v86 : Ref sig .tc := ⟨.hbm, 159, rfl⟩
abbrev main_v87 : Ref sig .tc := ⟨.hbm, 160, rfl⟩
abbrev main_cst_32 : Ref sig .tc := ⟨.hbm, 161, rfl⟩
abbrev main_v88 : Ref sig .tc := ⟨.hbm, 162, rfl⟩
abbrev main_v89 : Ref sig .tc := ⟨.hbm, 163, rfl⟩
abbrev main_v90 : Ref sig .tc := ⟨.hbm, 164, rfl⟩
abbrev main_cst_33 : Ref sig .tc := ⟨.hbm, 165, rfl⟩
abbrev main_v91 : Ref sig .tc := ⟨.hbm, 166, rfl⟩
abbrev main_v92 : Ref sig .tc := ⟨.hbm, 167, rfl⟩
abbrev main_v93 : Ref sig .tc := ⟨.hbm, 168, rfl⟩
abbrev main_cst_34 : Ref sig .tc := ⟨.hbm, 169, rfl⟩
abbrev main_v94 : Ref sig .tc := ⟨.hbm, 170, rfl⟩
abbrev main_v95 : Ref sig .tc := ⟨.hbm, 171, rfl⟩
abbrev main_cst_35 : Ref sig .tc := ⟨.hbm, 172, rfl⟩
abbrev main_v96 : Ref sig .tc := ⟨.hbm, 173, rfl⟩
abbrev main_v97 : Ref sig .tc := ⟨.hbm, 174, rfl⟩
abbrev main_cst_36 : Ref sig .tc := ⟨.hbm, 175, rfl⟩
abbrev main_v98 : Ref sig .tc := ⟨.hbm, 176, rfl⟩
abbrev main_v99 : Ref sig .tc := ⟨.hbm, 177, rfl⟩
abbrev main_v100 : Ref sig .tc := ⟨.hbm, 178, rfl⟩
abbrev main_cst_37 : Ref sig .tc := ⟨.hbm, 179, rfl⟩
abbrev main_v101 : Ref sig .tc := ⟨.hbm, 180, rfl⟩
abbrev main_v102 : Ref sig .tc := ⟨.hbm, 181, rfl⟩
abbrev main_v103 : Ref sig .tc := ⟨.hbm, 182, rfl⟩
abbrev main_cst_38 : Ref sig .tc := ⟨.hbm, 183, rfl⟩
abbrev main_v104 : Ref sig .tc := ⟨.hbm, 184, rfl⟩
abbrev main_v105 : Ref sig .tc := ⟨.hbm, 185, rfl⟩
abbrev main_v106 : Ref sig .tc := ⟨.hbm, 186, rfl⟩
abbrev main_cst_39 : Ref sig .tc := ⟨.hbm, 187, rfl⟩
abbrev main_v107 : Ref sig .tc := ⟨.hbm, 188, rfl⟩
abbrev main_v108 : Ref sig .tc := ⟨.hbm, 189, rfl⟩
abbrev main_cst_40 : Ref sig .tc := ⟨.hbm, 190, rfl⟩
abbrev main_v109 : Ref sig .tc := ⟨.hbm, 191, rfl⟩
abbrev main_v110 : Ref sig .tc := ⟨.hbm, 192, rfl⟩
abbrev main_v111 : Ref sig .tc := ⟨.hbm, 193, rfl⟩
abbrev main_cst_41 : Ref sig .tc := ⟨.hbm, 194, rfl⟩
abbrev main_v112 : Ref sig .tc := ⟨.hbm, 195, rfl⟩
abbrev main_v113 : Ref sig .tc := ⟨.hbm, 196, rfl⟩
abbrev main_v114 : Ref sig .tc := ⟨.hbm, 197, rfl⟩
abbrev main_cst_42 : Ref sig .tc := ⟨.hbm, 198, rfl⟩
abbrev main_v115 : Ref sig .tc := ⟨.hbm, 199, rfl⟩
abbrev main_v116 : Ref sig .tc := ⟨.hbm, 200, rfl⟩
abbrev main_v117 : Ref sig .tc := ⟨.hbm, 201, rfl⟩
abbrev main_cst_43 : Ref sig .tc := ⟨.hbm, 202, rfl⟩
abbrev main_v118 : Ref sig .tc := ⟨.hbm, 203, rfl⟩
abbrev main_v119 : Ref sig .tc := ⟨.hbm, 204, rfl⟩
abbrev main_cst_44 : Ref sig .tc := ⟨.hbm, 205, rfl⟩
abbrev main_v120 : Ref sig .tc := ⟨.hbm, 206, rfl⟩
abbrev main_v121 : Ref sig .tc := ⟨.hbm, 207, rfl⟩
abbrev main_cst_45 : Ref sig .tc := ⟨.hbm, 208, rfl⟩
abbrev main_v122 : Ref sig .tc := ⟨.hbm, 209, rfl⟩
abbrev main_v123 : Ref sig .tc := ⟨.hbm, 210, rfl⟩
abbrev main_v124 : Ref sig .tc := ⟨.hbm, 211, rfl⟩
abbrev main_cst_46 : Ref sig .tc := ⟨.hbm, 212, rfl⟩
abbrev main_v125 : Ref sig .tc := ⟨.hbm, 213, rfl⟩
abbrev main_v126 : Ref sig .tc := ⟨.hbm, 214, rfl⟩
abbrev main_v127 : Ref sig .tc := ⟨.hbm, 215, rfl⟩
abbrev main_cst_47 : Ref sig .tc := ⟨.hbm, 216, rfl⟩
abbrev main_v128 : Ref sig .tc := ⟨.hbm, 217, rfl⟩
abbrev main_v129 : Ref sig .tc := ⟨.hbm, 218, rfl⟩
abbrev main_v130 : Ref sig .tc := ⟨.hbm, 219, rfl⟩
abbrev main_cst_48 : Ref sig .tc := ⟨.hbm, 220, rfl⟩
abbrev main_v131 : Ref sig .tc := ⟨.hbm, 221, rfl⟩
abbrev main_v132 : Ref sig .tc := ⟨.hbm, 222, rfl⟩
abbrev main_cst_49 : Ref sig .tc := ⟨.hbm, 223, rfl⟩
abbrev main_v133 : Ref sig .tc := ⟨.hbm, 224, rfl⟩
abbrev main_v134 : Ref sig .tc := ⟨.hbm, 225, rfl⟩
abbrev main_v135 : Ref sig .tc := ⟨.hbm, 226, rfl⟩
abbrev main_cst_50 : Ref sig .tc := ⟨.hbm, 227, rfl⟩
abbrev main_v136 : Ref sig .tc := ⟨.hbm, 228, rfl⟩
abbrev main_v137 : Ref sig .tc := ⟨.hbm, 229, rfl⟩
abbrev main_v138 : Ref sig .tc := ⟨.hbm, 230, rfl⟩
abbrev main_cst_51 : Ref sig .tc := ⟨.hbm, 231, rfl⟩
abbrev main_v139 : Ref sig .tc := ⟨.hbm, 232, rfl⟩
abbrev main_v140 : Ref sig .tc := ⟨.hbm, 233, rfl⟩
abbrev main_v141 : Ref sig .tc := ⟨.hbm, 234, rfl⟩
abbrev main_cst_52 : Ref sig .tc := ⟨.hbm, 235, rfl⟩
abbrev main_v142 : Ref sig .tc := ⟨.hbm, 236, rfl⟩
abbrev main_v143 : Ref sig .tc := ⟨.hbm, 237, rfl⟩
abbrev main_cst_53 : Ref sig .tc := ⟨.hbm, 238, rfl⟩
abbrev main_v144 : Ref sig .tc := ⟨.hbm, 239, rfl⟩
abbrev main_v145 : Ref sig .tc := ⟨.hbm, 240, rfl⟩
abbrev main_cst_54 : Ref sig .tc := ⟨.hbm, 241, rfl⟩
abbrev main_v146 : Ref sig .tc := ⟨.hbm, 242, rfl⟩
abbrev main_v147 : Ref sig .tc := ⟨.hbm, 243, rfl⟩
abbrev main_v148 : Ref sig .tc := ⟨.hbm, 244, rfl⟩
abbrev main_cst_55 : Ref sig .tc := ⟨.hbm, 245, rfl⟩
abbrev main_v149 : Ref sig .tc := ⟨.hbm, 246, rfl⟩
abbrev main_v150 : Ref sig .tc := ⟨.hbm, 247, rfl⟩
abbrev main_v151 : Ref sig .tc := ⟨.hbm, 248, rfl⟩
abbrev main_cst_56 : Ref sig .tc := ⟨.hbm, 249, rfl⟩
abbrev main_v152 : Ref sig .tc := ⟨.hbm, 250, rfl⟩
abbrev main_v153 : Ref sig .tc := ⟨.hbm, 251, rfl⟩
abbrev main_v154 : Ref sig .tc := ⟨.hbm, 252, rfl⟩
abbrev main_cst_57 : Ref sig .tc := ⟨.hbm, 253, rfl⟩
abbrev main_v155 : Ref sig .tc := ⟨.hbm, 254, rfl⟩
abbrev main_v156 : Ref sig .tc := ⟨.hbm, 255, rfl⟩
abbrev main_cst_58 : Ref sig .tc := ⟨.hbm, 256, rfl⟩
abbrev main_v157 : Ref sig .tc := ⟨.hbm, 257, rfl⟩
abbrev main_v158 : Ref sig .tc := ⟨.hbm, 258, rfl⟩
abbrev main_v159 : Ref sig .tc := ⟨.hbm, 259, rfl⟩
abbrev main_cst_59 : Ref sig .tc := ⟨.hbm, 260, rfl⟩
abbrev main_v160 : Ref sig .tc := ⟨.hbm, 261, rfl⟩
abbrev main_v161 : Ref sig .tc := ⟨.hbm, 262, rfl⟩
abbrev main_v162 : Ref sig .tc := ⟨.hbm, 263, rfl⟩
abbrev main_cst_60 : Ref sig .tc := ⟨.hbm, 264, rfl⟩
abbrev main_v163 : Ref sig .tc := ⟨.hbm, 265, rfl⟩
abbrev main_v164 : Ref sig .tc := ⟨.hbm, 266, rfl⟩
abbrev main_v165 : Ref sig .tc := ⟨.hbm, 267, rfl⟩
abbrev main_cst_61 : Ref sig .tc := ⟨.hbm, 268, rfl⟩
abbrev main_v166 : Ref sig .tc := ⟨.hbm, 269, rfl⟩
abbrev main_v167 : Ref sig .tc := ⟨.hbm, 270, rfl⟩
abbrev main_cst_62 : Ref sig .tc := ⟨.hbm, 271, rfl⟩
abbrev main_v168 : Ref sig .tc := ⟨.hbm, 272, rfl⟩
abbrev main_v169 : Ref sig .tc := ⟨.hbm, 273, rfl⟩
abbrev main_cst_63 : Ref sig .tc := ⟨.hbm, 274, rfl⟩
abbrev main_v170 : Ref sig .tc := ⟨.hbm, 275, rfl⟩
abbrev main_v171 : Ref sig .tc := ⟨.hbm, 276, rfl⟩
abbrev main_v172 : Ref sig .tc := ⟨.hbm, 277, rfl⟩
abbrev main_cst_64 : Ref sig .tc := ⟨.hbm, 278, rfl⟩
abbrev main_v173 : Ref sig .tc := ⟨.hbm, 279, rfl⟩
abbrev main_v174 : Ref sig .tc := ⟨.hbm, 280, rfl⟩
abbrev main_v175 : Ref sig .tc := ⟨.hbm, 281, rfl⟩
abbrev main_cst_65 : Ref sig .tc := ⟨.hbm, 282, rfl⟩
abbrev main_v176 : Ref sig .tc := ⟨.hbm, 283, rfl⟩
abbrev main_v177 : Ref sig .tc := ⟨.hbm, 284, rfl⟩
abbrev main_v178 : Ref sig .tc := ⟨.hbm, 285, rfl⟩
abbrev main_cst_66 : Ref sig .tc := ⟨.hbm, 286, rfl⟩
abbrev main_v179 : Ref sig .tc := ⟨.hbm, 287, rfl⟩
abbrev main_v180 : Ref sig .tc := ⟨.hbm, 288, rfl⟩
abbrev main_cst_67 : Ref sig .tc := ⟨.hbm, 289, rfl⟩
abbrev main_v181 : Ref sig .tc := ⟨.hbm, 290, rfl⟩
abbrev main_v182 : Ref sig .tc := ⟨.hbm, 291, rfl⟩
abbrev main_v183 : Ref sig .tc := ⟨.hbm, 292, rfl⟩
abbrev main_cst_68 : Ref sig .tc := ⟨.hbm, 293, rfl⟩
abbrev main_v184 : Ref sig .tc := ⟨.hbm, 294, rfl⟩
abbrev main_v185 : Ref sig .tc := ⟨.hbm, 295, rfl⟩
abbrev main_v186 : Ref sig .tc := ⟨.hbm, 296, rfl⟩
abbrev main_cst_69 : Ref sig .tc := ⟨.hbm, 297, rfl⟩
abbrev main_v187 : Ref sig .tc := ⟨.hbm, 298, rfl⟩
abbrev main_v188 : Ref sig .tc := ⟨.hbm, 299, rfl⟩
abbrev main_v189 : Ref sig .tc := ⟨.hbm, 300, rfl⟩
abbrev main_cst_70 : Ref sig .tc := ⟨.hbm, 301, rfl⟩
abbrev main_v190 : Ref sig .tc := ⟨.hbm, 302, rfl⟩
abbrev main_v191 : Ref sig .tc := ⟨.hbm, 303, rfl⟩
abbrev main_cst_71 : Ref sig .tc := ⟨.hbm, 304, rfl⟩
abbrev main_v192 : Ref sig .tc := ⟨.hbm, 305, rfl⟩
abbrev main_v193 : Ref sig .tc := ⟨.hbm, 306, rfl⟩
abbrev main_cst_72 : Ref sig .tc := ⟨.hbm, 307, rfl⟩
abbrev main_v194 : Ref sig .tc := ⟨.hbm, 308, rfl⟩
abbrev main_v195 : Ref sig .tc := ⟨.hbm, 309, rfl⟩
abbrev main_v196 : Ref sig .tc := ⟨.hbm, 310, rfl⟩
abbrev main_cst_73 : Ref sig .tc := ⟨.hbm, 311, rfl⟩
abbrev main_v197 : Ref sig .tc := ⟨.hbm, 312, rfl⟩
abbrev main_v198 : Ref sig .tc := ⟨.hbm, 313, rfl⟩
abbrev main_v199 : Ref sig .tc := ⟨.hbm, 314, rfl⟩
abbrev main_cst_74 : Ref sig .tc := ⟨.hbm, 315, rfl⟩
abbrev main_v200 : Ref sig .tc := ⟨.hbm, 316, rfl⟩
abbrev main_v201 : Ref sig .tc := ⟨.hbm, 317, rfl⟩
abbrev main_v202 : Ref sig .tc := ⟨.hbm, 318, rfl⟩
abbrev main_cst_75 : Ref sig .tc := ⟨.hbm, 319, rfl⟩
abbrev main_v203 : Ref sig .tc := ⟨.hbm, 320, rfl⟩
abbrev main_v204 : Ref sig .tc := ⟨.hbm, 321, rfl⟩
abbrev main_cst_76 : Ref sig .tc := ⟨.hbm, 322, rfl⟩
abbrev main_v205 : Ref sig .tc := ⟨.hbm, 323, rfl⟩
abbrev main_v206 : Ref sig .tc := ⟨.hbm, 324, rfl⟩
abbrev main_v207 : Ref sig .tc := ⟨.hbm, 325, rfl⟩
abbrev main_cst_77 : Ref sig .tc := ⟨.hbm, 326, rfl⟩
abbrev main_v208 : Ref sig .tc := ⟨.hbm, 327, rfl⟩
abbrev main_v209 : Ref sig .tc := ⟨.hbm, 328, rfl⟩
abbrev main_v210 : Ref sig .tc := ⟨.hbm, 329, rfl⟩
abbrev main_cst_78 : Ref sig .tc := ⟨.hbm, 330, rfl⟩
abbrev main_v211 : Ref sig .tc := ⟨.hbm, 331, rfl⟩
abbrev main_v212 : Ref sig .tc := ⟨.hbm, 332, rfl⟩
abbrev main_v213 : Ref sig .tc := ⟨.hbm, 333, rfl⟩
abbrev main_cst_79 : Ref sig .tc := ⟨.hbm, 334, rfl⟩
abbrev main_v214 : Ref sig .tc := ⟨.hbm, 335, rfl⟩
abbrev main_v215 : Ref sig .tc := ⟨.hbm, 336, rfl⟩
abbrev main_cst_80 : Ref sig .tc := ⟨.hbm, 337, rfl⟩
abbrev main_v216 : Ref sig .tc := ⟨.hbm, 338, rfl⟩
abbrev main_v217 : Ref sig .tc := ⟨.hbm, 339, rfl⟩
abbrev main_cst_81 : Ref sig .tc := ⟨.hbm, 340, rfl⟩
abbrev main_v218 : Ref sig .tc := ⟨.hbm, 341, rfl⟩
abbrev main_v219 : Ref sig .tc := ⟨.hbm, 342, rfl⟩
abbrev main_v220 : Ref sig .tc := ⟨.hbm, 343, rfl⟩
abbrev main_cst_82 : Ref sig .tc := ⟨.hbm, 344, rfl⟩
abbrev main_v221 : Ref sig .tc := ⟨.hbm, 345, rfl⟩
abbrev main_v222 : Ref sig .tc := ⟨.hbm, 346, rfl⟩
abbrev main_v223 : Ref sig .tc := ⟨.hbm, 347, rfl⟩
abbrev main_cst_83 : Ref sig .tc := ⟨.hbm, 348, rfl⟩
abbrev main_v224 : Ref sig .tc := ⟨.hbm, 349, rfl⟩
abbrev main_v225 : Ref sig .tc := ⟨.hbm, 350, rfl⟩
abbrev main_v226 : Ref sig .tc := ⟨.hbm, 351, rfl⟩
abbrev main_cst_84 : Ref sig .tc := ⟨.hbm, 352, rfl⟩
abbrev main_v227 : Ref sig .tc := ⟨.hbm, 353, rfl⟩
abbrev main_v228 : Ref sig .tc := ⟨.hbm, 354, rfl⟩
abbrev main_cst_85 : Ref sig .tc := ⟨.hbm, 355, rfl⟩
abbrev main_v229 : Ref sig .tc := ⟨.hbm, 356, rfl⟩
abbrev main_v230 : Ref sig .tc := ⟨.hbm, 357, rfl⟩
abbrev main_v231 : Ref sig .tc := ⟨.hbm, 358, rfl⟩
abbrev main_cst_86 : Ref sig .tc := ⟨.hbm, 359, rfl⟩
abbrev main_v232 : Ref sig .tc := ⟨.hbm, 360, rfl⟩
abbrev main_v233 : Ref sig .tc := ⟨.hbm, 361, rfl⟩
abbrev main_v234 : Ref sig .tc := ⟨.hbm, 362, rfl⟩
abbrev main_cst_87 : Ref sig .tc := ⟨.hbm, 363, rfl⟩
abbrev main_v235 : Ref sig .tc := ⟨.hbm, 364, rfl⟩
abbrev main_v236 : Ref sig .tc := ⟨.hbm, 365, rfl⟩
abbrev main_v237 : Ref sig .tc := ⟨.hbm, 366, rfl⟩
abbrev main_cst_88 : Ref sig .tc := ⟨.hbm, 367, rfl⟩
abbrev main_v238 : Ref sig .tc := ⟨.hbm, 368, rfl⟩
abbrev main_v239 : Ref sig .tc := ⟨.hbm, 369, rfl⟩
abbrev main_v240 : Ref sig .tc := ⟨.hbm, 370, rfl⟩
abbrev main_v241 : Ref sig .tc := ⟨.hbm, 371, rfl⟩
abbrev main_v242 : Ref sig .tc := ⟨.hbm, 372, rfl⟩
abbrev main_v243 : Ref sig .tc := ⟨.hbm, 373, rfl⟩
abbrev main_cst_89 : Ref sig .tc := ⟨.hbm, 374, rfl⟩
abbrev main_v244 : Ref sig .tc := ⟨.hbm, 375, rfl⟩
abbrev main_v245 : Ref sig .tc := ⟨.hbm, 376, rfl⟩
abbrev main_v246 : Ref sig .tc := ⟨.hbm, 377, rfl⟩
abbrev main_v247 : Ref sig .tc := ⟨.hbm, 378, rfl⟩
abbrev main_v248 : Ref sig .tc := ⟨.hbm, 379, rfl⟩
abbrev main_v249 : Ref sig .tc := ⟨.hbm, 380, rfl⟩
abbrev main_v250 : Ref sig .tc := ⟨.hbm, 381, rfl⟩
abbrev main_v251 : Ref sig .tc := ⟨.hbm, 382, rfl⟩
abbrev main_v252 : Ref sig .tc := ⟨.hbm, 383, rfl⟩
abbrev main_v253 : Ref sig .tc := ⟨.hbm, 384, rfl⟩
abbrev main_v254 : Ref sig .tc := ⟨.hbm, 385, rfl⟩
abbrev main_v255 : Ref sig .tc := ⟨.hbm, 386, rfl⟩
abbrev main_v256 : Ref sig .tc := ⟨.hbm, 387, rfl⟩
abbrev main_cst_90 : Ref sig .tc := ⟨.hbm, 388, rfl⟩
abbrev main_v257 : Ref sig .tc := ⟨.hbm, 389, rfl⟩
abbrev main_v258 : Ref sig .tc := ⟨.hbm, 390, rfl⟩
abbrev main_v259 : Ref sig .tc := ⟨.hbm, 391, rfl⟩
abbrev main_v260 : Ref sig .tc := ⟨.hbm, 392, rfl⟩
abbrev main_v261 : Ref sig .tc := ⟨.hbm, 393, rfl⟩
abbrev main_v262 : Ref sig .tc := ⟨.hbm, 394, rfl⟩
abbrev main_v263 : Ref sig .tc := ⟨.hbm, 395, rfl⟩
abbrev main_v264 : Ref sig .tc := ⟨.hbm, 396, rfl⟩
abbrev main_v265 : Ref sig .tc := ⟨.hbm, 397, rfl⟩
abbrev main_v266 : Ref sig .tc := ⟨.hbm, 398, rfl⟩
abbrev main_v267 : Ref sig .tc := ⟨.hbm, 399, rfl⟩
abbrev main_v268 : Ref sig .tc := ⟨.hbm, 400, rfl⟩
abbrev main_v269 : Ref sig .tc := ⟨.hbm, 401, rfl⟩
abbrev main_cst_91 : Ref sig .tc := ⟨.hbm, 402, rfl⟩
abbrev main_v270 : Ref sig .tc := ⟨.hbm, 403, rfl⟩
abbrev main_v271 : Ref sig .tc := ⟨.hbm, 404, rfl⟩
abbrev main_v272 : Ref sig .tc := ⟨.hbm, 405, rfl⟩
abbrev main_v273 : Ref sig .tc := ⟨.hbm, 406, rfl⟩
abbrev main_v274 : Ref sig .tc := ⟨.hbm, 407, rfl⟩
abbrev main_v275 : Ref sig .tc := ⟨.hbm, 408, rfl⟩
abbrev main_v276 : Ref sig .tc := ⟨.hbm, 409, rfl⟩
abbrev main_v277 : Ref sig .tc := ⟨.hbm, 410, rfl⟩
abbrev main_v278 : Ref sig .tc := ⟨.hbm, 411, rfl⟩

abbrev nD : Nat := 1
abbrev τ : Topo := Topo.v7x

variable {F : FTy → Type} [FloatOps F]
-- ==== SumDevices.lean ====
abbrev S8x2224x128 : Shape := ⟨3, ![8, 2224, 128]⟩
abbrev S2224x128 : Shape := ⟨2, ![2224, 128]⟩
abbrev S1x2224x128 : Shape := ⟨3, ![1, 2224, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x2224x128, .f32⟩
  | .hbm, ⟨1, _⟩ => ⟨S2224x128, .f32⟩
  | .local _ .vmem, ⟨0, _⟩ => ⟨S8x2224x128, .f32⟩
  | .local _ .vmem, ⟨1, _⟩ => ⟨S2224x128, .f32⟩
  | _, _ => ⟨S8x2224x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x2224x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2224x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== SumDevicesRefIdeal.lean ====
abbrev S8x2224x128 : Shape := ⟨3, ![8, 2224, 128]⟩
abbrev S_ : Shape := ⟨0, ![]⟩
abbrev S2224x128 : Shape := ⟨2, ![2224, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x2224x128, .f32⟩
  | .hbm, ⟨1, _⟩ => ⟨S_, .f32⟩
  | .hbm, ⟨2, _⟩ => ⟨S2224x128, .f32⟩
  | _, _ => ⟨S8x2224x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== AdamInFirst.lean ====
abbrev S4x1024x1920 : Shape := ⟨3, ![4, 1024, 1920]⟩
abbrev S1024x1920 : Shape := ⟨2, ![1024, 1920]⟩
abbrev S1x256x1920 : Shape := ⟨3, ![1, 256, 1920]⟩
abbrev S256x1920 : Shape := ⟨2, ![256, 1920]⟩

abbrev nBuf : Space → Nat
  | .hbm => 12
  | .vmem => 16
  | .smem => 0
  | _ => 0

abbrev bufTy : (tb : Table) → Fin (tcTables nBuf tb) → BufTy
  | .hbm, ⟨0, _⟩ => ⟨S4x1024x1920, .f32⟩
  | .hbm, ⟨1, _⟩ => ⟨S4x1024x1920, .f32⟩
  | .hbm, ⟨2, _⟩ => ⟨S4x1024x1920, .f32⟩
  | .hbm, ⟨3, _⟩ => ⟨S1024x1920, .f32⟩
  | .hbm, ⟨4, _⟩ => ⟨S4x1024x1920, .f32⟩
  | .hbm, ⟨5, _⟩ => ⟨S4x1024x1920, .f32⟩
  | .hbm, ⟨6, _⟩ => ⟨S4x1024x1920, .f32⟩
  | .hbm, ⟨7, _⟩ => ⟨S4x1024x1920, .f32⟩
  | .hbm, ⟨8, _⟩ => ⟨S4x1024x1920, .f32⟩
  | .hbm, ⟨9, _⟩ => ⟨S4x1024x1920, .f32⟩
  | .hbm, ⟨10, _⟩ => ⟨S4x1024x1920, .f32⟩
  | .hbm, ⟨11, _⟩ => ⟨S4x1024x1920, .f32⟩
  | .local _ .vmem, ⟨0, _⟩ => ⟨S1x256x1920, .f32⟩
  | .local _ .vmem, ⟨1, _⟩ => ⟨S1x256x1920, .f32⟩
  | .local _ .vmem, ⟨2, _⟩ => ⟨S1x256x1920, .f32⟩
  | .local _ .vmem, ⟨3, _⟩ => ⟨S1x256x1920, .f32⟩
  | .local _ .vmem, ⟨4, _⟩ => ⟨S1x256x1920, .f32⟩
  | .local _ .vmem, ⟨5, _⟩ => ⟨S1x256x1920, .f32⟩
  | .local _ .vmem, ⟨6, _⟩ => ⟨S256x1920, .f32⟩
  | .local _ .vmem, ⟨7, _⟩ => ⟨S256x1920, .f32⟩
  | .local _ .vmem, ⟨8, _⟩ => ⟨S1x256x1920, .f32⟩
  | .local _ .vmem, ⟨9, _⟩ => ⟨S1x256x1920, .f32⟩
  | .local _ .vmem, ⟨10, _⟩ => ⟨S1x256x1920, .f32⟩
  | .local _ .vmem, ⟨11, _⟩ => ⟨S1x256x1920, .f32⟩
  | .local _ .vmem, ⟨12, _⟩ => ⟨S1x256x1920, .f32⟩
  | .local _ .vmem, ⟨13, _⟩ => ⟨S1x256x1920, .f32⟩
  | .local _ .vmem, ⟨14, _⟩ => ⟨S1x256x1920, .f32⟩
  | .local _ .vmem, ⟨15, _⟩ => ⟨S1x256x1920, .f32⟩
  | _, _ => ⟨S4x1024x1920, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![1, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 arg1 c0_i32_0
  let c0_i32_1 : BitVec 32 := 0#32
  let c0_i32_2 : BitVec 32 := 0#32
  ![v1.toNat, c0_i32_1.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, arg1.toNat, c0_i32_0.toNat]

abbrev stage0_0 : Fin 2 → Memref sig .tc .vmem S1x256x1920 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1920 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1920 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1920 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1920 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1920 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1920 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1920 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== AdamInFirstRefIdeal.lean ====
abbrev S4x1024x1920 : Shape := ⟨3, ![4, 1024, 1920]⟩
abbrev S1024x1920 : Shape := ⟨2, ![1024, 1920]⟩
abbrev S1x1024x1920 : Shape := ⟨3, ![1, 1024, 1920]⟩
abbrev S_ : Shape := ⟨0, ![]⟩
abbrev S3x1024x1920 : Shape := ⟨3, ![3, 1024, 1920]⟩

abbrev nBuf : Space → Nat
  | .hbm => 59
  | .vmem => 0
  | .smem => 0
  | _ => 0

abbrev bufTy : (tb : Table) → Fin (tcTables nBuf tb) → BufTy
  | .hbm, ⟨0, _⟩ => ⟨S4x1024x1920, .f32⟩
  | .hbm, ⟨1, _⟩ => ⟨S4x1024x1920, .f32⟩
  | .hbm, ⟨2, _⟩ => ⟨S4x1024x1920, .f32⟩
  | .hbm, ⟨3, _⟩ => ⟨S1024x1920, .f32⟩
  | .hbm, ⟨4, _⟩ => ⟨S4x1024x1920, .f32⟩
  | .hbm, ⟨5, _⟩ => ⟨S4x1024x1920, .f32⟩
  | .hbm, ⟨6, _⟩ => ⟨S4x1024x1920, .f32⟩
  | .hbm, ⟨7, _⟩ => ⟨S4x1024x1920, .f32⟩
  | .hbm, ⟨8, _⟩ => ⟨S1x1024x1920, .f32⟩
  | .hbm, ⟨9, _⟩ => ⟨S1024x1920, .f32⟩
  | .hbm, ⟨10, _⟩ => ⟨S1x1024x1920, .f32⟩
  | .hbm, ⟨11, _⟩ => ⟨S1024x1920, .f32⟩
  | .hbm, ⟨12, _⟩ => ⟨S1x1024x1920, .f32⟩
  | .hbm, ⟨13, _⟩ => ⟨S1024x1920, .f32⟩
  | .hbm, ⟨14, _⟩ => ⟨S_, .f32⟩
  | .hbm, ⟨15, _⟩ => ⟨S1024x1920, .f32⟩
  | .hbm, ⟨16, _⟩ => ⟨S1024x1920, .f32⟩
  | .hbm, ⟨17, _⟩ => ⟨S_, .f32⟩
  | .hbm, ⟨18, _⟩ => ⟨S1024x1920, .f32⟩
  | .hbm, ⟨19, _⟩ => ⟨S1024x1920, .f32⟩
  | .hbm, ⟨20, _⟩ => ⟨S1024x1920, .f32⟩
  | .hbm, ⟨21, _⟩ => ⟨S_, .f32⟩
  | .hbm, ⟨22, _⟩ => ⟨S1024x1920, .f32⟩
  | .hbm, ⟨23, _⟩ => ⟨S1024x1920, .f32⟩
  | .hbm, ⟨24, _⟩ => ⟨S1024x1920, .f32⟩
  | .hbm, ⟨25, _⟩ => ⟨S_, .f32⟩
  | .hbm, ⟨26, _⟩ => ⟨S1024x1920, .f32⟩
  | .hbm, ⟨27, _⟩ => ⟨S1024x1920, .f32⟩
  | .hbm, ⟨28, _⟩ => ⟨S1024x1920, .f32⟩
  | .hbm, ⟨29, _⟩ => ⟨S_, .f32⟩
  | .hbm, ⟨30, _⟩ => ⟨S1024x1920, .f32⟩
  | .hbm, ⟨31, _⟩ => ⟨S1024x1920, .f32⟩
  | .hbm, ⟨32, _⟩ => ⟨S_, .f32⟩
  | .hbm, ⟨33, _⟩ => ⟨S1024x1920, .f32⟩
  | .hbm, ⟨34, _⟩ => ⟨S1024x1920, .f32⟩
  | .hbm, ⟨35, _⟩ => ⟨S1024x1920, .f32⟩
  | .hbm, ⟨36, _⟩ => ⟨S_, .f32⟩
  | .hbm, ⟨37, _⟩ => ⟨S1024x1920, .f32⟩
  | .hbm, ⟨38, _⟩ => ⟨S1024x1920, .f32⟩
  | .hbm, ⟨39, _⟩ => ⟨S1024x1920, .f32⟩
  | .hbm, ⟨40, _⟩ => ⟨S_, .f32⟩
  | .hbm, ⟨41, _⟩ => ⟨S1024x1920, .f32⟩
  | .hbm, ⟨42, _⟩ => ⟨S1024x1920, .f32⟩
  | .hbm, ⟨43, _⟩ => ⟨S1024x1920, .f32⟩
  | .hbm, ⟨44, _⟩ => ⟨S_, .f32⟩
  | .hbm, ⟨45, _⟩ => ⟨S1024x1920, .f32⟩
  | .hbm, ⟨46, _⟩ => ⟨S1024x1920, .f32⟩
  | .hbm, ⟨47, _⟩ => ⟨S1x1024x1920, .f32⟩
  | .hbm, ⟨48, _⟩ => ⟨S3x1024x1920, .f32⟩
  | .hbm, ⟨49, _⟩ => ⟨S4x1024x1920, .f32⟩
  | .hbm, ⟨50, _⟩ => ⟨S1x1024x1920, .f32⟩
  | .hbm, ⟨51, _⟩ => ⟨S3x1024x1920, .f32⟩
  | .hbm, ⟨52, _⟩ => ⟨S4x1024x1920, .f32⟩
  | .hbm, ⟨53, _⟩ => ⟨S1x1024x1920, .f32⟩
  | .hbm, ⟨54, _⟩ => ⟨S3x1024x1920, .f32⟩
  | .hbm, ⟨55, _⟩ => ⟨S4x1024x1920, .f32⟩
  | .hbm, ⟨56, _⟩ => ⟨S1x1024x1920, .f32⟩
  | .hbm, ⟨57, _⟩ => ⟨S3x1024x1920, .f32⟩
  | .hbm, ⟨58, _⟩ => ⟨S4x1024x1920, .f32⟩
  | _, _ => ⟨S4x1024x1920, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_7 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩

abbrev nD : Nat := 1
abbrev τ : Topo := Topo.v7x

variable {F : FTy → Type} [FloatOps F]
-- ==== LbsBwd.lean ====
abbrev S4x512 : Shape := ⟨2, ![4, 512]⟩
abbrev S1x512 : Shape := ⟨2, ![1, 512]⟩

abbrev nBuf : Space → Nat
  | .hbm => 3
  | .vmem => 3
  | .smem => 0
  | _ => 0

abbrev bufTy : (tb : Table) → Fin (tcTables nBuf tb) → BufTy
  | .hbm, ⟨0, _⟩ => ⟨S4x512, .f32⟩
  | .hbm, ⟨1, _⟩ => ⟨S4x512, .f32⟩
  | .hbm, ⟨2, _⟩ => ⟨S4x512, .f32⟩
  | .local _ .vmem, ⟨0, _⟩ => ⟨S4x512, .f32⟩
  | .local _ .vmem, ⟨1, _⟩ => ⟨S4x512, .f32⟩
  | .local _ .vmem, ⟨2, _⟩ => ⟨S4x512, .f32⟩
  | _, _ => ⟨S4x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S4x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== LbsBwdRefIdeal.lean ====
abbrev S4x512 : Shape := ⟨2, ![4, 512]⟩
abbrev S_ : Shape := ⟨0, ![]⟩
abbrev S512 : Shape := ⟨1, ![512]⟩
abbrev S1x512 : Shape := ⟨2, ![1, 512]⟩

abbrev nBuf : Space → Nat
  | .hbm => 76
  | .vmem => 0
  | .smem => 0
  | _ => 0

abbrev bufTy : (tb : Table) → Fin (tcTables nBuf tb) → BufTy
  | .hbm, ⟨0, _⟩ => ⟨S4x512, .f32⟩
  | .hbm, ⟨1, _⟩ => ⟨S4x512, .f32⟩
  | .hbm, ⟨2, _⟩ => ⟨S_, .f32⟩
  | .hbm, ⟨3, _⟩ => ⟨S512, .f32⟩
  | .hbm, ⟨4, _⟩ => ⟨S1x512, .f32⟩
  | .hbm, ⟨5, _⟩ => ⟨S4x512, .f32⟩
  | .hbm, ⟨6, _⟩ => ⟨S4x512, .i1⟩
  | .hbm, ⟨7, _⟩ => ⟨S4x512, .f32⟩
  | .hbm, ⟨8, _⟩ => ⟨S_, .f32⟩
  | .hbm, ⟨9, _⟩ => ⟨S512, .f32⟩
  | .hbm, ⟨10, _⟩ => ⟨S_, .f32⟩
  | .hbm, ⟨11, _⟩ => ⟨S512, .f32⟩
  | .hbm, ⟨12, _⟩ => ⟨S512, .f32⟩
  | .hbm, ⟨13, _⟩ => ⟨S_, .f32⟩
  | .hbm, ⟨14, _⟩ => ⟨S512, .f32⟩
  | .hbm, ⟨15, _⟩ => ⟨S512, .i1⟩
  | .hbm, ⟨16, _⟩ => ⟨S_, .f32⟩
  | .hbm, ⟨17, _⟩ => ⟨S512, .f32⟩
  | .hbm, ⟨18, _⟩ => ⟨S512, .i1⟩
  | .hbm, ⟨19, _⟩ => ⟨S_, .f32⟩
  | .hbm, ⟨20, _⟩ => ⟨S512, .f32⟩
  | .hbm, ⟨21, _⟩ => ⟨S_, .f32⟩
  | .hbm, ⟨22, _⟩ => ⟨S512, .f32⟩
  | .hbm, ⟨23, _⟩ => ⟨S_, .f32⟩
  | .hbm, ⟨24, _⟩ => ⟨S512, .f32⟩
  | .hbm, ⟨25, _⟩ => ⟨S512, .f32⟩
  | .hbm, ⟨26, _⟩ => ⟨S512, .f32⟩
  | .hbm, ⟨27, _⟩ => ⟨S1x512, .f32⟩
  | .hbm, ⟨28, _⟩ => ⟨S4x512, .f32⟩
  | .hbm, ⟨29, _⟩ => ⟨S4x512, .f32⟩
  | .hbm, ⟨30, _⟩ => ⟨S4x512, .f32⟩
  | .hbm, ⟨31, _⟩ => ⟨S_, .f32⟩
  | .hbm, ⟨32, _⟩ => ⟨S512, .f32⟩
  | .hbm, ⟨33, _⟩ => ⟨S1x512, .f32⟩
  | .hbm, ⟨34, _⟩ => ⟨S4x512, .f32⟩
  | .hbm, ⟨35, _⟩ => ⟨S4x512, .f32⟩
  | .hbm, ⟨36, _⟩ => ⟨S1x512, .f32⟩
  | .hbm, ⟨37, _⟩ => ⟨S_, .f32⟩
  | .hbm, ⟨38, _⟩ => ⟨S1x512, .f32⟩
  | .hbm, ⟨39, _⟩ => ⟨S1x512, .f32⟩
  | .hbm, ⟨40, _⟩ => ⟨S_, .f32⟩
  | .hbm, ⟨41, _⟩ => ⟨S_, .f32⟩
  | .hbm, ⟨42, _⟩ => ⟨S4x512, .f32⟩
  | .hbm, ⟨43, _⟩ => ⟨S1x512, .f32⟩
  | .hbm, ⟨44, _⟩ => ⟨S512, .f32⟩
  | .hbm, ⟨45, _⟩ => ⟨S1x512, .f32⟩
  | .hbm, ⟨46, _⟩ => ⟨S4x512, .f32⟩
  | .hbm, ⟨47, _⟩ => ⟨S4x512, .f32⟩
  | .hbm, ⟨48, _⟩ => ⟨S4x512, .f32⟩
  | .hbm, ⟨49, _⟩ => ⟨S4x512, .f32⟩
  | .hbm, ⟨50, _⟩ => ⟨S_, .f32⟩
  | .hbm, ⟨51, _⟩ => ⟨S512, .f32⟩
  | .hbm, ⟨52, _⟩ => ⟨S1x512, .f32⟩
  | .hbm, ⟨53, _⟩ => ⟨S_, .f32⟩
  | .hbm, ⟨54, _⟩ => ⟨S512, .f32⟩
  | .hbm, ⟨55, _⟩ => ⟨S1x512, .f32⟩
  | .hbm, ⟨56, _⟩ => ⟨S_, .f32⟩
  | .hbm, ⟨57, _⟩ => ⟨S4x512, .f32⟩
  | .hbm, ⟨58, _⟩ => ⟨S_, .f32⟩
  | .hbm, ⟨59, _⟩ => ⟨S_, .f32⟩
  | .hbm, ⟨60, _⟩ => ⟨S4x512, .f32⟩
  | .hbm, ⟨61, _⟩ => ⟨S4x512, .f32⟩
  | .hbm, ⟨62, _⟩ => ⟨S4x512, .f32⟩
  | .hbm, ⟨63, _⟩ => ⟨S4x512, .f32⟩
  | .hbm, ⟨64, _⟩ => ⟨S4x512, .f32⟩
  | .hbm, ⟨65, _⟩ => ⟨S_, .f32⟩
  | .hbm, ⟨66, _⟩ => ⟨S512, .f32⟩
  | .hbm, ⟨67, _⟩ => ⟨S1x512, .f32⟩
  | .hbm, ⟨68, _⟩ => ⟨S1x512, .f32⟩
  | .hbm, ⟨69, _⟩ => ⟨S4x512, .f32⟩
  | .hbm, ⟨70, _⟩ => ⟨S4x512, .f32⟩
  | .hbm, ⟨71, _⟩ => ⟨S_, .f32⟩
  | .hbm, ⟨72, _⟩ => ⟨S512, .f32⟩
  | .hbm, ⟨73, _⟩ => ⟨S4x512, .f32⟩
  | .hbm, ⟨74, _⟩ => ⟨S4x512, .f32⟩
  | .hbm, ⟨75, _⟩ => ⟨S4x512, .f32⟩
  | _, _ => ⟨S4x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_v10 : Ref sig .tc := ⟨.hbm, 17, rfl⟩
abbrev main_v11 : Ref sig .tc := ⟨.hbm, 18, rfl⟩
abbrev main_cst_4 : Ref sig .tc := ⟨.hbm, 19, rfl⟩
abbrev main_v12 : Ref sig .tc := ⟨.hbm, 20, rfl⟩
abbrev main_cst_5 : Ref sig .tc := ⟨.hbm, 21, rfl⟩
abbrev main_v13 : Ref sig .tc := ⟨.hbm, 22, rfl⟩
abbrev main_cst_6 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_7 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_8 : Ref sig .tc := ⟨.hbm, 37, rfl⟩
abbrev main_v26 : Ref sig .tc := ⟨.hbm, 38, rfl⟩
abbrev main_v27 : Ref sig .tc := ⟨.hbm, 39, rfl⟩
abbrev main_call0_call0_cst : Ref sig .tc := ⟨.hbm, 40, rfl⟩
abbrev main_call0_call0_v0 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_9 : Ref sig .tc := ⟨.hbm, 50, rfl⟩
abbrev main_v36 : Ref sig .tc := ⟨.hbm, 51, rfl⟩
abbrev main_v37 : Ref sig .tc := ⟨.hbm, 52, rfl⟩
abbrev main_cst_10 : Ref sig .tc := ⟨.hbm, 53, rfl⟩
abbrev main_v38 : Ref sig .tc := ⟨.hbm, 54, rfl⟩
abbrev main_v39 : Ref sig .tc := ⟨.hbm, 55, rfl⟩
abbrev main_cst_11 : Ref sig .tc := ⟨.hbm, 56, rfl⟩
abbrev main_v40 : Ref sig .tc := ⟨.hbm, 57, rfl⟩
abbrev main_call1_call0_cst : Ref sig .tc := ⟨.hbm, 58, rfl⟩
abbrev main_call1_call0_v0 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_12 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_13 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩

abbrev nD : Nat := 1
abbrev τ : Topo := Topo.v7x

variable {F : FTy → Type} [FloatOps F]
-- ==== LbsFwd.lean ====
abbrev S4x512 : Shape := ⟨2, ![4, 512]⟩
abbrev S1x512 : Shape := ⟨2, ![1, 512]⟩

abbrev nBuf : Space → Nat
  | .hbm => 2
  | .vmem => 2
  | .smem => 0
  | _ => 0

abbrev bufTy : (tb : Table) → Fin (tcTables nBuf tb) → BufTy
  | .hbm, ⟨0, _⟩ => ⟨S4x512, .f32⟩
  | .hbm, ⟨1, _⟩ => ⟨S4x512, .f32⟩
  | .local _ .vmem, ⟨0, _⟩ => ⟨S4x512, .f32⟩
  | .local _ .vmem, ⟨1, _⟩ => ⟨S4x512, .f32⟩
  | _, _ => ⟨S4x512, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S4x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== LbsFwdRefIdeal.lean ====
abbrev S4x512 : Shape := ⟨2, ![4, 512]⟩
abbrev S_ : Shape := ⟨0, ![]⟩
abbrev S512 : Shape := ⟨1, ![512]⟩
abbrev S1x512 : Shape := ⟨2, ![1, 512]⟩

abbrev nBuf : Space → Nat
  | .hbm => 23
  | .vmem => 0
  | .smem => 0
  | _ => 0

abbrev bufTy : (tb : Table) → Fin (tcTables nBuf tb) → BufTy
  | .hbm, ⟨0, _⟩ => ⟨S4x512, .f32⟩
  | .hbm, ⟨1, _⟩ => ⟨S_, .f32⟩
  | .hbm, ⟨2, _⟩ => ⟨S512, .f32⟩
  | .hbm, ⟨3, _⟩ => ⟨S_, .f32⟩
  | .hbm, ⟨4, _⟩ => ⟨S512, .f32⟩
  | .hbm, ⟨5, _⟩ => ⟨S512, .f32⟩
  | .hbm, ⟨6, _⟩ => ⟨S1x512, .f32⟩
  | .hbm, ⟨7, _⟩ => ⟨S4x512, .f32⟩
  | .hbm, ⟨8, _⟩ => ⟨S4x512, .f32⟩
  | .hbm, ⟨9, _⟩ => ⟨S4x512, .f32⟩
  | .hbm, ⟨10, _⟩ => ⟨S_, .f32⟩
  | .hbm, ⟨11, _⟩ => ⟨S512, .f32⟩
  | .hbm, ⟨12, _⟩ => ⟨S1x512, .f32⟩
  | .hbm, ⟨13, _⟩ => ⟨S4x512, .f32⟩
  | .hbm, ⟨14, _⟩ => ⟨S4x512, .f32⟩
  | .hbm, ⟨15, _⟩ => ⟨S_, .f32⟩
  | .hbm, ⟨16, _⟩ => ⟨S_, .f32⟩
  | .hbm, ⟨17, _⟩ => ⟨S4x512, .f32⟩
  | .hbm, ⟨18, _⟩ => ⟨S1x512, .f32⟩
  | .hbm, ⟨19, _⟩ => ⟨S512, .f32⟩
  | .hbm, ⟨20, _⟩ => ⟨S1x512, .f32⟩
  | .hbm, ⟨21, _⟩ => ⟨S4x512, .f32⟩
  | .hbm, ⟨22, _⟩ => ⟨S4x512, .f32⟩
  | _, _ => ⟨S4x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_call0_call0_cst : Ref sig .tc := ⟨.hbm, 15, rfl⟩
abbrev main_call0_call0_v0 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩

abbrev nD : Nat := 1
abbrev τ : Topo := Topo.v7x

variable {F : FTy → Type} [FloatOps F]
-- ==== RmsFwd.lean ====
abbrev S2048x1024 : Shape := ⟨2, ![2048, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 3
  | .vmem => 5
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .bf16⟩
  | .local _ .vmem, ⟨4, _⟩ => ⟨S256x1024, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RmsFwdRefIdeal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩

abbrev nBuf : Space → Nat
  | .hbm => 18
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S_, .f32⟩
  | .hbm, ⟨4, _⟩ => ⟨S2048, .f32⟩
  | .hbm, ⟨5, _⟩ => ⟨S2048x1, .f32⟩
  | .hbm, ⟨6, _⟩ => ⟨S_, .f32⟩
  | .hbm, ⟨7, _⟩ => ⟨S2048x1, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S2048x1, .f32⟩
  | .hbm, ⟨13, _⟩ => ⟨S2048x1024, .f32⟩
  | .hbm, ⟨14, _⟩ => ⟨S2048x1024, .f32⟩
  | .hbm, ⟨15, _⟩ => ⟨S2048x1024, .f32⟩
  | .hbm, ⟨16, _⟩ => ⟨S2048x1024, .f32⟩
  | .hbm, ⟨17, _⟩ => ⟨S2048x1024, .bf16⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== LossHead.lean ====
abbrev S2048x1024 : Shape := ⟨2, ![2048, 1024]⟩
abbrev S1x1024 : Shape := ⟨2, ![1, 1024]⟩
abbrev S8x128 : Shape := ⟨2, ![8, 128]⟩
abbrev S8x1024 : Shape := ⟨2, ![8, 1024]⟩
abbrev S256x1024 : Shape := ⟨2, ![256, 1024]⟩
abbrev S256 : Shape := ⟨1, ![256]⟩
abbrev S256x1 : Shape := ⟨2, ![256, 1]⟩
abbrev S1024 : Shape := ⟨1, ![1024]⟩
abbrev S1 : Shape := ⟨1, ![1]⟩
abbrev S1x1 : Shape := ⟨2, ![1, 1]⟩

abbrev nBuf : Space → Nat
  | .hbm => 6
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S8x128, .f32⟩
  | .hbm, ⟨4, _⟩ => ⟨S2048x1024, .f32⟩
  | .hbm, ⟨5, _⟩ => ⟨S8x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .f32⟩
  | .local _ .vmem, ⟨4, _⟩ => ⟨S256x1024, .f32⟩
  | .local _ .vmem, ⟨5, _⟩ => ⟨S8x128, .f32⟩
  | .local _ .vmem, ⟨6, _⟩ => ⟨S256x1024, .f32⟩
  | .local _ .vmem, ⟨7, _⟩ => ⟨S256x1024, .f32⟩
  | .local _ .vmem, ⟨8, _⟩ => ⟨S8x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== LossHeadRefIdeal.lean ====
abbrev S2048x1024 : Shape := ⟨2, ![2048, 1024]⟩
abbrev S1x1024 : Shape := ⟨2, ![1, 1024]⟩
abbrev S_ : Shape := ⟨0, ![]⟩
abbrev S2048 : Shape := ⟨1, ![2048]⟩
abbrev S2048x1 : Shape := ⟨2, ![2048, 1]⟩
abbrev S1024 : Shape := ⟨1, ![1024]⟩
abbrev S8x128 : Shape := ⟨2, ![8, 128]⟩
abbrev S7x1024 : Shape := ⟨2, ![7, 1024]⟩
abbrev S8x1024 : Shape := ⟨2, ![8, 1024]⟩

abbrev nBuf : Space → Nat
  | .hbm => 72
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1x1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048, .f32⟩
  | .hbm, ⟨6, _⟩ => ⟨S2048x1, .f32⟩
  | .hbm, ⟨7, _⟩ => ⟨S_, .f32⟩
  | .hbm, ⟨8, _⟩ => ⟨S2048x1, .f32⟩
  | .hbm, ⟨9, _⟩ => ⟨S2048x1, .f32⟩
  | .hbm, ⟨10, _⟩ => ⟨S_, .f32⟩
  | .hbm, ⟨11, _⟩ => ⟨S2048x1, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1024, .f32⟩
  | .hbm, ⟨19, _⟩ => ⟨S2048x1024, .f32⟩
  | .hbm, ⟨20, _⟩ => ⟨S2048x1024, .f32⟩
  | .hbm, ⟨21, _⟩ => ⟨S2048x1024, .f32⟩
  | .hbm, ⟨22, _⟩ => ⟨S2048x1024, .f32⟩
  | .hbm, ⟨23, _⟩ => ⟨S2048x1024, .f32⟩
  | .hbm, ⟨24, _⟩ => ⟨S_, .f32⟩
  | .hbm, ⟨25, _⟩ => ⟨S2048x1024, .f32⟩
  | .hbm, ⟨26, _⟩ => ⟨S2048x1024, .f32⟩
  | .hbm, ⟨27, _⟩ => ⟨S_, .f32⟩
  | .hbm, ⟨28, _⟩ => ⟨S2048, .f32⟩
  | .hbm, ⟨29, _⟩ => ⟨S_, .f32⟩
  | .hbm, ⟨30, _⟩ => ⟨S2048, .f32⟩
  | .hbm, ⟨31, _⟩ => ⟨S2048, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S2048, .f32⟩
  | .hbm, ⟨40, _⟩ => ⟨S_, .f32⟩
  | .hbm, ⟨41, _⟩ => ⟨S2048, .f32⟩
  | .hbm, ⟨42, _⟩ => ⟨S2048, .f32⟩
  | .hbm, ⟨43, _⟩ => ⟨S2048x1024, .f32⟩
  | .hbm, ⟨44, _⟩ => ⟨S2048x1024, .f32⟩
  | .hbm, ⟨45, _⟩ => ⟨S2048x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S2048x1024, .f32⟩
  | .hbm, ⟨50, _⟩ => ⟨S2048x1024, .f32⟩
  | .hbm, ⟨51, _⟩ => ⟨S2048x1024, .f32⟩
  | .hbm, ⟨52, _⟩ => ⟨S_, .f32⟩
  | .hbm, ⟨53, _⟩ => ⟨S2048, .f32⟩
  | .hbm, ⟨54, _⟩ => ⟨S2048x1, .f32⟩
  | .hbm, ⟨55, _⟩ => ⟨S2048x1024, .f32⟩
  | .hbm, ⟨56, _⟩ => ⟨S2048x1024, .f32⟩
  | .hbm, ⟨57, _⟩ => ⟨S2048x1, .f32⟩
  | .hbm, ⟨58, _⟩ => ⟨S_, .f32⟩
  | .hbm, ⟨59, _⟩ => ⟨S2048x1, .f32⟩
  | .hbm, ⟨60, _⟩ => ⟨S2048x1, .f32⟩
  | .hbm, ⟨61, _⟩ => ⟨S_, .f32⟩
  | .hbm, ⟨62, _⟩ => ⟨S2048, .f32⟩
  | .hbm, ⟨63, _⟩ => ⟨S2048x1024, .f32⟩
  | .hbm, ⟨64, _⟩ => ⟨S2048x1024, .f32⟩
  | .hbm, ⟨65, _⟩ => ⟨S2048x1024, .f32⟩
  | .hbm, ⟨66, _⟩ => ⟨S2048x1024, .f32⟩
  | .hbm, ⟨67, _⟩ => ⟨S2048x1024, .f32⟩
  | .hbm, ⟨68, _⟩ => ⟨S8x128, .f32⟩
  | .hbm, ⟨69, _⟩ => ⟨S_, .f32⟩
  | .hbm, ⟨70, _⟩ => ⟨S7x1024, .f32⟩
  | .hbm, ⟨71, _⟩ => ⟨S8x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_cst_4 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_v21 : Ref sig .tc := ⟨.hbm, 31, rfl⟩
abbrev main_cst_6 : Ref sig .tc := ⟨.hbm, 32, rfl⟩
abbrev main_v22 : Ref sig .tc := ⟨.hbm, 33, rfl⟩
abbrev main_cst_7 : Ref sig .tc := ⟨.hbm, 34, rfl⟩
abbrev main_v23 : Ref sig .tc := ⟨.hbm, 35, rfl⟩
abbrev main_cst_8 : Ref sig .tc := ⟨.hbm, 36, rfl⟩
abbrev main_cst_9 : Ref sig .tc := ⟨.hbm, 37, rfl⟩
abbrev main_v24 : Ref sig .tc := ⟨.hbm, 38, rfl⟩
abbrev main_v25 : Ref sig .tc := ⟨.hbm, 39, rfl⟩
abbrev main_cst_10 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_11 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_13 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_15 : Ref sig .tc := ⟨.hbm, 69, rfl⟩
abbrev main_v50 : Ref sig .tc := ⟨.hbm, 70, rfl⟩
abbrev main_v51 : Ref sig .tc := ⟨.hbm, 71, rfl⟩

abbrev nD : Nat := 1
abbrev τ : Topo := Topo.v7x

variable {F : FTy → Type} [FloatOps F]
-- ==== Hgrn.lean ====
abbrev S2048x7680 : Shape := ⟨2, ![2048, 7680]⟩
abbrev S2048x512 : Shape := ⟨2, ![2048, 512]⟩
abbrev S3x2048x512 : Shape := ⟨3, ![3, 2048, 512]⟩
abbrev S32x4x128x128 : Shape := ⟨4, ![32, 4, 128, 128]⟩
abbrev S1x512 : Shape := ⟨2, ![1, 512]⟩
abbrev S512x64 : Shape := ⟨2, ![512, 64]⟩
abbrev S6x64x64 : Shape := ⟨3, ![6, 64, 64]⟩
abbrev S8x512 : Shape := ⟨2, ![8, 512]⟩
abbrev S256x2048 : Shape := ⟨2, ![256, 2048]⟩
abbrev S256x512 : Shape := ⟨2, ![256, 512]⟩
abbrev S1x256x512 : Shape := ⟨3, ![1, 256, 512]⟩
abbrev S4x4x128x128 : Shape := ⟨4, ![4, 4, 128, 128]⟩
abbrev S4x128x128 : Shape := ⟨3, ![4, 128, 128]⟩
abbrev S64x128 : Shape := ⟨2, ![64, 128]⟩
abbrev S1x128 : Shape := ⟨2, ![1, 128]⟩
abbrev S64x384 : Shape := ⟨2, ![64, 384]⟩
abbrev S512x384 : Shape := ⟨2, ![512, 384]⟩
abbrev S512x128 : Shape := ⟨2, ![512, 128]⟩
abbrev S64x64 : Shape := ⟨2, ![64, 64]⟩
abbrev S64 : Shape := ⟨1, ![64]⟩
abbrev S64x1 : Shape := ⟨2, ![64, 1]⟩
abbrev S1x64x64 : Shape := ⟨3, ![1, 64, 64]⟩
abbrev S1x1x128x128 : Shape := ⟨4, ![1, 1, 128, 128]⟩
abbrev S128x128 : Shape := ⟨2, ![128, 128]⟩
abbrev S1x128x128 : Shape := ⟨3, ![1, 128, 128]⟩
abbrev S128 : Shape := ⟨1, ![128]⟩
abbrev S1x64x128 : Shape := ⟨3, ![1, 64, 128]⟩
abbrev S8x128 : Shape := ⟨2, ![8, 128]⟩

abbrev nBuf : Space → Nat
  | .hbm => 12
  | .vmem => 17
  | .smem => 0
  | _ => 0

abbrev bufTy : (tb : Table) → Fin (tcTables nBuf tb) → BufTy
  | .hbm, ⟨0, _⟩ => ⟨S2048x7680, .f32⟩
  | .hbm, ⟨1, _⟩ => ⟨S2048x512, .f32⟩
  | .hbm, ⟨2, _⟩ => ⟨S3x2048x512, .f32⟩
  | .hbm, ⟨3, _⟩ => ⟨S32x4x128x128, .f32⟩
  | .hbm, ⟨4, _⟩ => ⟨S1x512, .f32⟩
  | .hbm, ⟨5, _⟩ => ⟨S1x512, .f32⟩
  | .hbm, ⟨6, _⟩ => ⟨S2048x7680, .bf16⟩
  | .hbm, ⟨7, _⟩ => ⟨S512x64, .bf16⟩
  | .hbm, ⟨8, _⟩ => ⟨S6x64x64, .f32⟩
  | .hbm, ⟨9, _⟩ => ⟨S2048x7680, .bf16⟩
  | .hbm, ⟨10, _⟩ => ⟨S8x512, .f32⟩
  | .hbm, ⟨11, _⟩ => ⟨S8x512, .f32⟩
  | .local _ .vmem, ⟨0, _⟩ => ⟨S256x2048, .f32⟩
  | .local _ .vmem, ⟨1, _⟩ => ⟨S256x2048, .f32⟩
  | .local _ .vmem, ⟨2, _⟩ => ⟨S256x512, .f32⟩
  | .local _ .vmem, ⟨3, _⟩ => ⟨S256x512, .f32⟩
  | .local _ .vmem, ⟨4, _⟩ => ⟨S1x256x512, .f32⟩
  | .local _ .vmem, ⟨5, _⟩ => ⟨S1x256x512, .f32⟩
  | .local _ .vmem, ⟨6, _⟩ => ⟨S4x4x128x128, .f32⟩
  | .local _ .vmem, ⟨7, _⟩ => ⟨S4x4x128x128, .f32⟩
  | .local _ .vmem, ⟨8, _⟩ => ⟨S1x512, .f32⟩
  | .local _ .vmem, ⟨9, _⟩ => ⟨S1x512, .f32⟩
  | .local _ .vmem, ⟨10, _⟩ => ⟨S512x64, .bf16⟩
  | .local _ .vmem, ⟨11, _⟩ => ⟨S6x64x64, .f32⟩
  | .local _ .vmem, ⟨12, _⟩ => ⟨S256x2048, .bf16⟩
  | .local _ .vmem, ⟨13, _⟩ => ⟨S256x2048, .bf16⟩
  | .local _ .vmem, ⟨14, _⟩ => ⟨S8x512, .f32⟩
  | .local _ .vmem, ⟨15, _⟩ => ⟨S8x512, .f32⟩
  | .local _ .vmem, ⟨16, _⟩ => ⟨S4x128x128, .f32⟩
  | _, _ => ⟨S2048x7680, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_cst_0 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg10_0 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_2 (i : grid0.Coords) : Fin 3 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  ![c0_i32.toNat, v0.toNat, c0_i32_0.toNat]

def cc0_transform_3 (i : grid0.Coords) : Fin 4 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  let c0_i32_1 : BitVec 32 := 0#32
  let c0_i32_2 : BitVec 32 := 0#32
  ![v0.toNat, c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c7_i32 : BitVec 32 := 7#32
  let v0 : BitVec 32 := Scalar.subi c7_i32 arg0
  let c0_i32 : BitVec 32 := 0#32
  let c0_i32_0 : BitVec 32 := 0#32
  ![v0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x4x128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S6x64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S8x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Proof.Ff2Dgrad.lean ====
/-
  The gradient of the MLP's hidden activations: the product of the incoming gradient with the second weight, times the derivative
  of the squared ReLU, which the kernel recovers from the saved square as twice its root.
  Each grid point computes 256 rows: what one point computes (`pay_apply`), where the blocks lie, what the output array holds
  (`final`), what the reference computes (`reference_eq`), and the claim that the two agree (`algebraic`).
-/
module

public import proofs.«01_k».proof.Defs
public import proofs.«01_k».proof.Proof.Gen.Ff2DgradIdeal.Value
public import proofs.«01_k».proof.Proof.Gen.Ff2DgradRefIdeal.Read
public import Idealize.ShloMosaic.Lib.Pointwise
public import Idealize.ShloMosaic.Lib.StableHlo.ReadAt

@[expose] public section

noncomputable section

open Idealize.ShloMosaic Idealize.ShloMosaic.TcCoe Idealize.SL.Sem
open Idealize.ShloMosaic.Pipeline (Dat)

namespace Cert.Proof.Ff2Dgrad

/-- The root of the square of a nonnegative extended real is that number. -/
theorem sqrt_mul_self {v : EReal} (hv : 0 ≤ v) : Ideal.sqrt (v * v) = v := by
  induction v using EReal.rec with
  | bot => exact absurd hv (by simp)
  | top => rw [EReal.top_mul_top, Ideal.sqrt_top]
  | coe r =>
    have hr : 0 ≤ r := EReal.coe_nonneg.mp hv
    rw [← EReal.coe_mul, Ideal.sqrt_coe, if_neg (not_lt.mpr (mul_self_nonneg r)), Real.sqrt_mul_self hr]

/-- The product `s` times twice the root of the saved square is the reference's derivative of the squared ReLU at `a` times `s`. -/
theorem slope_eq (s two a : EReal) :
    s * two * Ideal.sqrt (max a 0 * max a 0) = if 0 < a then s * (two * max a 0) else 0 := by
  rw [sqrt_mul_self (le_max_right _ _), mul_assoc]
  split
  · rfl
  · rw [max_eq_right (not_lt.mp ‹_›), mul_zero, mul_zero]

end Cert.Proof.Ff2Dgrad

namespace Cert.Ff2DgradIdeal.Product

open Cert.Ff2DgradIdeal Cert.Ff2DgradIdeal.Gen

variable (m : (ℓ : Loc nD τ sig) → Buf (Elt Ideal) ℓ) (ρ : Dev nD → PrngReg)

theorem zero2 : (![0, 0] : Fin 2 → Nat) = fun _ => 0 := funext fun a => by fin_cases a <;> rfl

/-- What one grid point computes, entry by entry. -/
theorem pay_apply (x : Vec Ideal S256x1024 .f32) (y : Vec Ideal S4096x1024 .bf16) (z : Vec Ideal S256x4096 .bf16) (p : Fin 256) (q : Fin 4096) :
    k0_pay1 x y z (ix2 p q) = (∑ n : Fin 1024, x (ix2 p n) * y (ix2 q n)) * Ideal.ofBits .f32 0x40000000#32 * Ideal.sqrt (z (ix2 p q)) := by
  pointwise [k0_pay1]

/-- The block index of window 0 at grid point `t`. -/
theorem index0 : ∀ t : Fin grid0.N, win0_0.index t 0 = t.val ∧ win0_0.index t 1 = 0 := by decide +kernel

/-- What the block of the incoming gradient holds at grid point `t`. -/
theorem block0_apply (c : Dev nD) (t : Fin cfg0.N) (p : Fin 256) (q : Fin 1024) (i : S2048x1024.Idx)
    (h0 : (i 0).val = t.val * 256 + p.val) (h1 : (i 1).val = q.val) :
    iblk m c 0 t (ix2 p q) = V m c main_arg2 i := by
  show V m c main_arg2 ((win0_0.rect t).emb (ix2 p q)) = V m c main_arg2 i
  have e := index0 t
  congr 1
  funext a
  apply Fin.ext
  rw [win0_0.rect_emb_val]
  match a with
  | ⟨0, _⟩ => show win0_0.index t 0 * 256 + p.val = (i 0).val; omega
  | ⟨1, _⟩ => show win0_0.index t 1 * 1024 + q.val = (i 1).val; omega

/-- The block index of window 1 at grid point `t`. -/
theorem index1 : ∀ t : Fin grid0.N, win0_1.index t 0 = 0 ∧ win0_1.index t 1 = 0 := by decide +kernel

/-- The weight's block is the whole weight at every grid point. -/
theorem block1_apply (c : Dev nD) (t : Fin cfg0.N) (p : Fin 4096) (q : Fin 1024) (i : S4096x1024.Idx)
    (h0 : (i 0).val = p.val) (h1 : (i 1).val = q.val) :
    iblk m c 1 t (ix2 p q) = V m c main_v5 i := by
  show V m c main_v5 ((win0_1.rect t).emb (ix2 p q)) = V m c main_v5 i
  have e := index1 t
  congr 1
  funext a
  apply Fin.ext
  rw [win0_1.rect_emb_val]
  match a with
  | ⟨0, _⟩ => show win0_1.index t 0 * 4096 + p.val = (i 0).val; omega
  | ⟨1, _⟩ => show win0_1.index t 1 * 1024 + q.val = (i 1).val; omega

/-- The block index of window 2 at grid point `t`. -/
theorem index2 : ∀ t : Fin grid0.N, win0_2.index t 0 = t.val ∧ win0_2.index t 1 = 0 := by decide +kernel

/-- What the block of the saved squares holds at grid point `t`. -/
theorem block2_apply (c : Dev nD) (t : Fin cfg0.N) (p : Fin 256) (q : Fin 4096) (i : S2048x4096.Idx)
    (h0 : (i 0).val = t.val * 256 + p.val) (h1 : (i 1).val = q.val) :
    iblk m c 2 t (ix2 p q) = V m c main_v2 i := by
  show V m c main_v2 ((win0_2.rect t).emb (ix2 p q)) = V m c main_v2 i
  have e := index2 t
  congr 1
  funext a
  apply Fin.ext
  rw [win0_2.rect_emb_val]
  match a with
  | ⟨0, _⟩ => show win0_2.index t 0 * 256 + p.val = (i 0).val; omega
  | ⟨1, _⟩ => show win0_2.index t 1 * 4096 + q.val = (i 1).val; omega

/-- The block index of the output window 3 at grid point `t`. -/
theorem index3 : ∀ t : Fin grid0.N, win0_3.index t 0 = t.val ∧ win0_3.index t 1 = 0 := by decide +kernel

/-- Where element (p, q) of the block written at point `t` sits in the output array. -/
theorem place3 (t : Fin cfg0.N) (p : Fin 256) (q : Fin 4096) :
    ((win0_3.rect t).emb (ix2 p q) 0).val = t.val * 256 + p.val ∧ ((win0_3.rect t).emb (ix2 p q) 1).val = q.val := by
  have e := index3 t
  refine ⟨?_, ?_⟩
  · rw [win0_3.rect_emb_val]; show win0_3.index t 0 * 256 + p.val = _; omega
  · rw [win0_3.rect_emb_val]; show win0_3.index t 1 * 4096 + q.val = _; omega

/-- Every element of the output array lies in some point's block. -/
theorem cover3 (i : S2048x4096.Idx) : ∃ t : Fin cfg0.N, (cfg0.win 3).flush t = true ∧ i ∈ ((cfg0.win 3).blk t).view.set := by
  have h0 : (i 0 : Nat) < 2048 := (i 0).isLt
  have h1 : (i 1 : Nat) < 4096 := (i 1).isLt
  have hN : cfg0.N = 8 := N_0
  obtain ⟨t, ht⟩ : ∃ t : Fin cfg0.N, t.val = (i 0).val / 256 := ⟨⟨(i 0).val / 256, by omega⟩, rfl⟩
  have e := index3 t
  refine ⟨t, flush0_3 _, ?_⟩
  show i ∈ ((View.whole main_v6).slice (win0_3.rect t)).set
  rw [View.set_slice_whole, Rect.mem_set_unit]
  intro a
  match a with
  | ⟨0, _⟩ =>
    show win0_3.index t 0 * 256 ≤ (i 0).val ∧ (i 0).val < win0_3.index t 0 * 256 + 256
    omega
  | ⟨1, _⟩ =>
    show win0_3.index t 1 * 4096 ≤ (i 1).val ∧ (i 1).val < win0_3.index t 1 * 4096 + 4096
    omega

/-- The squared ReLU, which the forward pass saves. -/
def saved (a : Vec Ideal S2048x4096 .f32) : Vec Ideal S2048x4096 .bf16 := fun i => max (a i : EReal) 0 * max (a i : EReal) 0

/-- The gradient's entries. -/
def grad (a : Vec Ideal S2048x4096 .f32) (w : Vec Ideal S4096x1024 .f32) (ct : Vec Ideal S2048x1024 .f32) : Vec Ideal S2048x4096 .bf16 := fun i =>
  (∑ n : Fin 1024, (ct (ix2 (i 0) n) : EReal) * (w (ix2 (i 1) n) : EReal)) * Ideal.ofBits .f32 0x40000000#32
    * Ideal.sqrt (max (a i) 0 * max (a i) 0)

/-- The incoming gradient as the call finds it. -/
theorem operand0 (c : Dev nD) (p : Fin 2048) (n : Fin 1024) :
    V m c main_arg2 (ix2 p n) = m ((c : Thread nD τ).loc main_arg2) (ix2 p n) := by
  rw [V_main_arg2]

/-- The weight as the call finds it. -/
theorem operand1 (c : Dev nD) (q : Fin 4096) (n : Fin 1024) :
    V m c main_v5 (ix2 q n) = m ((c : Thread nD τ).loc main_arg1) (ix2 q n) := by
  unfold V
  after_reads_at
  have e : (⟨q.val / 1024 * 1024 + q.val % 1024, by omega⟩ : Fin 4096) = q := Fin.ext (by simp only; omega)
  exact congrArg (fun k : Fin 4096 => m ((c : Thread nD τ).loc main_arg1) (ix2 k n)) e

/-- The saved square as the call finds it. -/
theorem operand2 (c : Dev nD) (i : S2048x4096.Idx) :
    V m c main_v2 i = saved (m ((c : Thread nD τ).loc main_arg0)) i := by
  obtain ⟨p, q, rfl⟩ : ∃ (p : Fin 2048) (q : Fin 4096), i = ix2 p q := ⟨i 0, i 1, by funext a; fin_cases a <;> rfl⟩
  unfold V
  after_reads_at
  rfl

/-- A point's entry is the gradient's entry once its blocks' entries are the operands' entries. -/
theorem assemble (x : Vec Ideal S256x1024 .f32) (y : Vec Ideal S4096x1024 .bf16) (z : Vec Ideal S256x4096 .bf16)
    (A : Vec Ideal S2048x4096 .f32) (W : Vec Ideal S4096x1024 .f32) (C : Vec Ideal S2048x1024 .f32)
    (p : Fin 256) (q : Fin 4096) (i : S2048x4096.Idx) (hi : (i 1).val = q.val)
    (hx : ∀ n : Fin 1024, x (ix2 p n) = C (ix2 (i 0) n)) (hy : ∀ n : Fin 1024, y (ix2 q n) = W (ix2 q n))
    (hz : z (ix2 p q) = max (A i) (0 : EReal) * max (A i) (0 : EReal)) :
    (∑ n : Fin 1024, x (ix2 p n) * y (ix2 q n)) * Ideal.ofBits .f32 0x40000000#32 * Ideal.sqrt (z (ix2 p q)) = grad A W C i := by
  have hi' : q = i 1 := Fin.ext hi.symm
  unfold grad
  rw [hz]
  congr 2
  refine Finset.sum_congr rfl fun n _ => ?_
  rw [hx, hy, hi']

/-- What point `t` writes back is its block of the gradient. -/
theorem flushed_eq (c : Dev nD) (t : Fin cfg0.N) :
    (dats m 0 c).flushed 3 t = (win0_3.blk t).view.read (Elt Ideal)
      (grad (m ((c : Thread nD τ).loc main_arg0)) (m ((c : Thread nD τ).loc main_arg1)) (m ((c : Thread nD τ).loc main_arg2))) := by
  rw [Value.flushed3]
  unfold out0_3
  rw [View.canon_unit_zero zero2, View.ld_unit_zero zero2, View.ld_unit_zero zero2, View.ld_unit_zero zero2]
  funext j
  obtain ⟨p, q, rfl⟩ : ∃ (p : Fin 256) (q : Fin 4096), j = ix2 p q := ⟨j 0, j 1, by funext a; fin_cases a <;> rfl⟩
  refine (pay_apply _ _ _ p q).trans ?_
  show _ = grad _ _ _ ((win0_3.rect t).emb (ix2 p q))
  obtain ⟨e0, e1⟩ := place3 t p q
  exact assemble _ _ _ _ _ _ p q ((win0_3.rect t).emb (ix2 p q)) e1
    (fun n => (block0_apply m c t p n (ix2 _ n) e0 rfl).trans (operand0 m c _ _))
    (fun n => (block1_apply m c t q n (ix2 q n) rfl rfl).trans (operand1 m c _ _))
    ((block2_apply m c t p q _ e0 e1).trans (operand2 m c _))

/-- After the run the output array holds the gradient. -/
theorem final (c : Dev nD) : (dats m 0 c).arrAt 3 cfg0.N
    = grad (m ((c : Thread nD τ).loc main_arg0)) (m ((c : Thread nD τ).loc main_arg1)) (m ((c : Thread nD τ).loc main_arg2)) :=
  (dats m 0 c).arrAt_eq_of_cover 3 _ (fun t _ => flushed_eq m c t) cover3

end Cert.Ff2DgradIdeal.Product

namespace Cert.Proof.Ff2Dgrad

open Cert.Ff2DgradRefIdeal Cert.Ff2DgradRefIdeal.Read Cert.Ff2DgradIdeal.Product in
/-- The reference's gradient, entry by entry, is the same. -/
theorem reference_eq (a : Vec Ideal Cert.Ff2DgradRefIdeal.S2048x4096 .f32) (w : Vec Ideal Cert.Ff2DgradRefIdeal.S4096x1024 .f32)
    (ct : Vec Ideal Cert.Ff2DgradRefIdeal.S2048x1024 .f32) :
    val_main_v12 (F := Ideal) a w ct = grad a w ct := by
  funext j
  obtain ⟨p, q, rfl⟩ : ∃ (p : Fin 2048) (q : Fin 4096), j = ix2 p q := ⟨j 0, j 1, by funext a; fin_cases a <;> rfl⟩
  pointwise [val_main_v12, val_main_v11, val_main_v10, val_main_v9, val_main_v8, val_main_v6, val_main_v5, val_main_v3, val_main_v2,
    val_main_v1, val_main_v0, val_main_call0_v0, val_main_call0_cst, val_main_cst, val_main_cst_1, val_main_cst_2]
  exact (slope_eq _ _ _).symm

/-- The kernel's gradient is the reference's. -/
theorem algebraic : Cert.algebraic_Ff2DgradIdeal_Ff2DgradRefIdeal := by
  intro m ρ m' ρ' _ hagree
  refine ⟨fun c => Cert.Ff2DgradIdeal.Product.grad (m ((c.tc : Thread _ _).loc Cert.Ff2DgradIdeal.main_arg0))
    (m ((c.tc : Thread _ _).loc Cert.Ff2DgradIdeal.main_arg1)) (m ((c.tc : Thread _ _).loc Cert.Ff2DgradIdeal.main_arg2)), ?_, ?_⟩
  · exact (θ_run Cert.Ff2DgradIdeal.defs _ _).mono
      (fun _ h c => ⟨(h c).1.trans (Cert.Ff2DgradIdeal.Product.final m c), (h c).2⟩)
      (Cert.Ff2DgradIdeal.Value.run_blocks (F := Ideal) m ρ)
  · refine (θ_run Cert.Ff2DgradRefIdeal.defs _ _).mono (fun _ h c => ⟨(h c).1.trans ?_, (h c).2⟩)
      (Cert.Ff2DgradRefIdeal.Value.run (F := Ideal) m' ρ')
    rw [(hagree c).1, (hagree c).2.1, (hagree c).2.2]
    exact reference_eq _ _ _

end Cert.Proof.Ff2Dgrad
-- ==== Proof.Ff2Wgrad.lean ====
/-
  The gradient of the second MLP weight.
  Each grid point multiplies the transposed rows of one operand with the other and writes one block of the weight gradient:
  what one point computes (`pay_apply`), where the blocks lie, what the output array holds (`final`), what the reference
  computes (`reference_eq`), and the claim that the two agree (`algebraic`).
-/
module

public import proofs.«01_k».proof.Defs
public import proofs.«01_k».proof.Proof.Gen.Ff2WgradIdeal.Value
public import proofs.«01_k».proof.Proof.Gen.Ff2WgradRefIdeal.Read
public import Idealize.ShloMosaic.Lib.Pointwise
public import Idealize.ShloMosaic.Lib.StableHlo.ReadAt

@[expose] public section

noncomputable section

open Idealize.ShloMosaic Idealize.ShloMosaic.TcCoe Idealize.SL.Sem
open Idealize.ShloMosaic.Pipeline (Dat)

namespace Cert.Ff2WgradIdeal.Product

open Cert.Ff2WgradIdeal Cert.Ff2WgradIdeal.Gen

variable (m : (ℓ : Loc nD τ sig) → Buf (Elt Ideal) ℓ) (ρ : Dev nD → PrngReg)

theorem zero2 : (![0, 0] : Fin 2 → Nat) = fun _ => 0 := funext fun a => by fin_cases a <;> rfl
theorem zero3 : (![0, 0, 0] : Fin 3 → Nat) = fun _ => 0 := funext fun a => by fin_cases a <;> rfl

/-- What one grid point computes: row `q`, column `r` of its block is the sum over the 2048 tokens of the products. -/
theorem pay_apply (x : Vec Ideal S2048x1024 .bf16) (y : Vec Ideal S2048x1024 .f32) (p : Fin 1) (q : Fin 1024) (r : Fin 1024) :
    k0_pay1 x y (ix3 p q r) = ∑ n : Fin 2048, x (ix2 n q) * y (ix2 n r) := by
  pointwise [k0_pay1]

/-- The block index of window 0 at grid point `t`. -/
theorem index0 : ∀ t : Fin grid0.N, win0_0.index t 0 = 0 ∧ win0_0.index t 1 = t.val := by decide +kernel

/-- What the first operand's block holds at grid point `t`. -/
theorem block0_apply (c : Dev nD) (t : Fin cfg0.N) (p : Fin 2048) (q : Fin 1024) (i : S2048x4096.Idx)
    (h0 : (i 0).val = p.val) (h1 : (i 1).val = t.val * 1024 + q.val) :
    iblk m c 0 t (ix2 p q) = V m c main_v2 i := by
  show V m c main_v2 ((win0_0.rect t).emb (ix2 p q)) = V m c main_v2 i
  have e := index0 t
  congr 1
  funext a
  apply Fin.ext
  rw [win0_0.rect_emb_val]
  match a with
  | ⟨0, _⟩ => show win0_0.index t 0 * 2048 + p.val = (i 0).val; omega
  | ⟨1, _⟩ => show win0_0.index t 1 * 1024 + q.val = (i 1).val; omega

/-- The block index of window 1 at grid point `t`. -/
theorem index1 : ∀ t : Fin grid0.N, win0_1.index t 0 = 0 ∧ win0_1.index t 1 = 0 := by decide +kernel

/-- What the second operand's block holds at grid point `t`. -/
theorem block1_apply (c : Dev nD) (t : Fin cfg0.N) (p : Fin 2048) (q : Fin 1024) (i : S2048x1024.Idx)
    (h0 : (i 0).val = p.val) (h1 : (i 1).val = q.val) :
    iblk m c 1 t (ix2 p q) = V m c main_arg2 i := by
  show V m c main_arg2 ((win0_1.rect t).emb (ix2 p q)) = V m c main_arg2 i
  have e := index1 t
  congr 1
  funext a
  apply Fin.ext
  rw [win0_1.rect_emb_val]
  match a with
  | ⟨0, _⟩ => show win0_1.index t 0 * 2048 + p.val = (i 0).val; omega
  | ⟨1, _⟩ => show win0_1.index t 1 * 1024 + q.val = (i 1).val; omega

/-- The block index of the output window 2 at grid point `t`. -/
theorem index2 : ∀ t : Fin grid0.N, win0_2.index t 0 = t.val ∧ win0_2.index t 1 = 0 ∧ win0_2.index t 2 = 0 := by decide +kernel

/-- Where element (p, q, r) of the block written at point `t` sits in the output array. -/
theorem place2 (t : Fin cfg0.N) (p : Fin 1) (q : Fin 1024) (r : Fin 1024) :
    ((win0_2.rect t).emb (ix3 p q r) 0).val = t.val * 1 + p.val ∧ ((win0_2.rect t).emb (ix3 p q r) 1).val = q.val ∧ ((win0_2.rect t).emb (ix3 p q r) 2).val = r.val := by
  have e := index2 t
  refine ⟨?_, ?_, ?_⟩
  · rw [win0_2.rect_emb_val]; show win0_2.index t 0 * 1 + p.val = _; omega
  · rw [win0_2.rect_emb_val]; show win0_2.index t 1 * 1024 + q.val = _; omega
  · rw [win0_2.rect_emb_val]; show win0_2.index t 2 * 1024 + r.val = _; omega

/-- Every element of the output array lies in some point's block. -/
theorem cover2 (i : S4x1024x1024.Idx) : ∃ t : Fin cfg0.N, (cfg0.win 2).flush t = true ∧ i ∈ ((cfg0.win 2).blk t).view.set := by
  have h0 : (i 0 : Nat) < 4 := (i 0).isLt
  have h1 : (i 1 : Nat) < 1024 := (i 1).isLt
  have h2 : (i 2 : Nat) < 1024 := (i 2).isLt
  have hN : cfg0.N = 4 := N_0
  obtain ⟨t, ht⟩ : ∃ t : Fin cfg0.N, t.val = (i 0).val := ⟨⟨(i 0).val, by omega⟩, rfl⟩
  have e := index2 t
  refine ⟨t, flush0_2 _, ?_⟩
  show i ∈ ((View.whole main_v3).slice (win0_2.rect t)).set
  rw [View.set_slice_whole, Rect.mem_set_unit]
  intro a
  match a with
  | ⟨0, _⟩ =>
    show win0_2.index t 0 * 1 ≤ (i 0).val ∧ (i 0).val < win0_2.index t 0 * 1 + 1
    omega
  | ⟨1, _⟩ =>
    show win0_2.index t 1 * 1024 ≤ (i 1).val ∧ (i 1).val < win0_2.index t 1 * 1024 + 1024
    omega
  | ⟨2, _⟩ =>
    show win0_2.index t 2 * 1024 ≤ (i 2).val ∧ (i 2).val < win0_2.index t 2 * 1024 + 1024
    omega

/-- Column `b` of chip `a`'s block, in the whole array. -/
def blockCol (a : Fin 4) (b : Fin 1024) : Fin 4096 := ⟨a.val * 1024 + b.val, by omega⟩

/-- The squared ReLU, as the forward pass saves it. -/
def act (v : EReal) : EReal := max v 0 * max v 0

/-- The weight gradient of all four blocks: entry (q, r) of block `a` is the sum over the tokens. -/
def grad (x : Vec Ideal S2048x4096 .f32) (ct : Vec Ideal S2048x1024 .f32) : Vec Ideal S4x1024x1024 .f32 := fun i =>
  (∑ n : Fin 2048, act (x (ix2 n (blockCol (i 0) (i 1)))) * (ct (ix2 n (i 2)) : EReal) : EReal)

/-- The first operand as the call finds it, in terms of the arguments. -/
theorem operand0 (c : Dev nD) (n : Fin 2048) (k : Fin 4096) :
    V m c main_v2 (ix2 n k) = act (m ((c : Thread nD τ).loc main_arg0) (ix2 n k)) := by
  unfold V
  after_reads_at
  rfl

/-- The second operand as the call finds it. -/
theorem operand1 (c : Dev nD) (n : Fin 2048) (k : Fin 1024) :
    V m c main_arg2 (ix2 n k) = m ((c : Thread nD τ).loc main_arg2) (ix2 n k) := by
  rw [V_main_arg2]

/-- A sum over two blocks is the gradient's entry once each block's entries are the operands' entries. -/
theorem assemble (x : Vec Ideal S2048x1024 .bf16) (y : Vec Ideal S2048x1024 .f32) (X : Vec Ideal S2048x4096 .f32) (Y : Vec Ideal S2048x1024 .f32)
    (q : Fin 1024) (r : Fin 1024) (i : S4x1024x1024.Idx) (hx : ∀ n : Fin 2048, x (ix2 n q) = act (X (ix2 n (blockCol (i 0) (i 1)))))
    (hy : ∀ n : Fin 2048, y (ix2 n r) = Y (ix2 n (i 2))) :
    ∑ n : Fin 2048, x (ix2 n q) * y (ix2 n r) = grad X Y i :=
  Finset.sum_congr rfl fun n _ => by rw [hx, hy]

/-- What point `t` writes back is its block of the gradient. -/
theorem flushed_eq (c : Dev nD) (t : Fin cfg0.N) :
    (dats m 0 c).flushed 2 t = (win0_2.blk t).view.read (Elt Ideal)
      (grad (m ((c : Thread nD τ).loc main_arg0)) (m ((c : Thread nD τ).loc main_arg2))) := by
  rw [Value.flushed2]
  unfold out0_2
  rw [View.canon_unit_zero zero3, View.ld_unit_zero zero2, View.ld_unit_zero zero2]
  funext j
  obtain ⟨p, q, r, rfl⟩ : ∃ (p : Fin 1) (q : Fin 1024) (r : Fin 1024), j = ix3 p q r :=
    ⟨j 0, j 1, j 2, by funext a; fin_cases a <;> rfl⟩
  refine (pay_apply _ _ p q r).trans ?_
  have hp := p.isLt
  show _ = grad _ _ ((win0_2.rect t).emb (ix3 p q r))
  obtain ⟨e0, e1, e2⟩ := place2 t p q r
  exact assemble _ _ _ _ q r ((win0_2.rect t).emb (ix3 p q r))
    (fun n => (block0_apply m c t n q (ix2 n _) rfl (by
      show ((win0_2.rect t).emb (ix3 p q r) 0).val * 1024 + ((win0_2.rect t).emb (ix3 p q r) 1).val = _; rw [e0, e1]; omega)).trans (operand0 m c _ _))
    (fun n => (block1_apply m c t n r (ix2 n _) rfl (by
      exact e2)).trans (operand1 m c _ _))

/-- After the run the output array holds the gradient. -/
theorem final (c : Dev nD) : (dats m 0 c).arrAt 2 cfg0.N
    = grad (m ((c : Thread nD τ).loc main_arg0)) (m ((c : Thread nD τ).loc main_arg2)) :=
  (dats m 0 c).arrAt_eq_of_cover 2 _ (fun t _ => flushed_eq m c t) cover2

end Cert.Ff2WgradIdeal.Product

namespace Cert.Proof.Ff2Wgrad

open Cert.Ff2WgradRefIdeal Cert.Ff2WgradRefIdeal.Read Cert.Ff2WgradIdeal.Product in
/-- The reference's gradient, entry by entry, is the same sum. -/
theorem reference_eq (x : Vec Ideal Cert.Ff2WgradRefIdeal.S2048x4096 .f32) (ct : Vec Ideal Cert.Ff2WgradRefIdeal.S2048x1024 .f32) :
    val_main_v5 (F := Ideal) x ct = grad x ct := by
  funext j
  obtain ⟨p, q, r, rfl⟩ : ∃ (p : Fin 4) (q : Fin 1024) (r : Fin 1024), j = ix3 p q r :=
    ⟨j 0, j 1, j 2, by funext a; fin_cases a <;> rfl⟩
  pointwise [val_main_v5, val_main_v4, val_main_v3, val_main_v1, val_main_v0, val_main_call0_v0, val_main_call0_cst]
  exact Finset.sum_congr rfl fun n _ => mul_comm _ _

/-- The kernel's weight gradient is the reference's. -/
theorem algebraic : Cert.algebraic_Ff2WgradIdeal_Ff2WgradRefIdeal := by
  intro m ρ m' ρ' _ hagree
  refine ⟨fun c => Cert.Ff2WgradIdeal.Product.grad (m ((c.tc : Thread _ _).loc Cert.Ff2WgradIdeal.main_arg0))
    (m ((c.tc : Thread _ _).loc Cert.Ff2WgradIdeal.main_arg2)), ?_, ?_⟩
  · exact (θ_run Cert.Ff2WgradIdeal.defs _ _).mono
      (fun _ h c => ⟨(h c).1.trans (Cert.Ff2WgradIdeal.Product.final m c), (h c).2⟩)
      (Cert.Ff2WgradIdeal.Value.run_blocks (F := Ideal) m ρ)
  · refine (θ_run Cert.Ff2WgradRefIdeal.defs _ _).mono (fun _ h c => ⟨(h c).1.trans ?_, (h c).2⟩)
      (Cert.Ff2WgradRefIdeal.Value.run (F := Ideal) m' ρ')
    rw [(hagree c).1, (hagree c).2.2]
    exact reference_eq _ _

end Cert.Proof.Ff2Wgrad
-- ==== Proof.RmsGrad.lean ====
/-
  The gradient through an RMS norm, for one row over the extended reals.
  The kernel writes it as `r · (d − x r · mean (d · x r))`, with `r` the reciprocal root of the row's mean square plus the floor;
  the derivative of the norm's lines differentiates the reciprocal root, which gives `-1/2 · r / v` and the row's entry twice.
  `dx_eq` says that the two are equal for every row: a finite row has a positive real `r`, which distributes over sums, and a row
  with an infinite entry has `r = 0`, which leaves the residual's gradient alone on both sides.
-/
module

public import Idealize.ShloMosaic.Lib.Pointwise

@[expose] public section

noncomputable section

open Idealize.ShloMosaic

namespace Cert.Proof.RmsGrad

/-- A row's mean square plus the norm's floor. -/
def meanSq (x : Fin 1024 → EReal) : EReal :=
  Ideal.div (∑ n, x n * x n) (Ideal.ofBits .f32 0x44800000#32) + Ideal.ofBits .f32 0x358637BD#32

/-- The word for the row's length. -/
theorem length_word : Ideal.ofBits .f32 0x44800000#32 = ((1024 : ℝ) : EReal) := by
  simp [Ideal.ofBits, Ideal.ieee, -EReal.coe_mul]; norm_num

/-- The word for minus one half. -/
theorem half_word : Ideal.ofBits .f32 0xBF000000#32 = ((-1 / 2 : ℝ) : EReal) := by
  simp [Ideal.ofBits, Ideal.ieee, -EReal.coe_mul]; norm_num

/-- The word for the norm's floor is a positive real. -/
theorem floor_word : ∃ e : ℝ, 0 < e ∧ Ideal.ofBits .f32 0x358637BD#32 = (e : EReal) := by
  refine ⟨_, ?_, by simp [Ideal.ofBits, Ideal.ieee, -EReal.coe_mul]; rfl⟩
  norm_num

/-- Division by the row's length is a product with a real. -/
theorem div_length (a : EReal) : Ideal.div a (Ideal.ofBits .f32 0x44800000#32) = a * ((1 / 1024 : ℝ) : EReal) := by
  rw [length_word, Ideal.div, if_neg (by exact_mod_cast (by norm_num : (1024 : ℝ) ≠ 0)), ← EReal.coe_inv]
  norm_num

/-- A nonnegative real distributes over a sum of extended reals. -/
theorem mul_sum_of_nonneg {r : ℝ} (hr : 0 ≤ r) {ι : Type} (s : Finset ι) (f : ι → EReal) :
    (r : EReal) * ∑ n ∈ s, f n = ∑ n ∈ s, (r : EReal) * f n := by
  classical
  induction s using Finset.induction_on with
  | empty => simp
  | insert a s ha ih =>
    rw [Finset.sum_insert ha, Finset.sum_insert ha,
      EReal.left_distrib_of_nonneg_of_ne_top (EReal.coe_nonneg.mpr hr) (EReal.coe_ne_top r), ih]

/-- A sum of reals, read in the extended reals, is real. -/
theorem sum_coe {ι : Type} (s : Finset ι) (f : ι → ℝ) : ∑ n ∈ s, ((f n : ℝ) : EReal) = ((∑ n ∈ s, f n : ℝ) : EReal) := by
  classical
  induction s using Finset.induction_on with
  | empty => simp
  | insert a s ha ih => rw [Finset.sum_insert ha, Finset.sum_insert ha, ih, EReal.coe_add]

/-- A square is nonnegative. -/
theorem sq_nonneg' (a : EReal) : 0 ≤ a * a := by
  induction a using EReal.rec with
  | bot => simp
  | top => simp
  | coe r => rw [← EReal.coe_mul]; exact EReal.coe_nonneg.mpr (mul_self_nonneg r)

/-- Either every entry of a row is real and its mean square plus the floor is a positive real, or that number is infinite. -/
theorem row_cases (x : Fin 1024 → EReal) :
    (∃ (y : Fin 1024 → ℝ) (w : ℝ), (∀ n, x n = (y n : EReal)) ∧ 0 < w ∧ meanSq x = (w : EReal)) ∨ meanSq x = ⊤ := by
  obtain ⟨e, he, hw⟩ := floor_word
  by_cases h : ∀ n, x n ≠ ⊤ ∧ x n ≠ ⊥
  · left
    refine ⟨fun n => (x n).toReal, (∑ n, (x n).toReal * (x n).toReal) * (1 / 1024) + e,
      fun n => (EReal.coe_toReal (h n).1 (h n).2).symm, ?_, ?_⟩
    · have := Finset.sum_nonneg (s := Finset.univ) (fun n _ => mul_self_nonneg (x n).toReal)
      positivity
    · have hs : ∑ n, x n * x n = ((∑ n, (x n).toReal * (x n).toReal : ℝ) : EReal) := by
        rw [← sum_coe]
        exact Finset.sum_congr rfl fun n _ => by rw [EReal.coe_mul, EReal.coe_toReal (h n).1 (h n).2]
      rw [meanSq, div_length, hw, hs, ← EReal.coe_mul, ← EReal.coe_add]
  · right
    push Not at h
    obtain ⟨n, hn⟩ := h
    have hsq : x n * x n = ⊤ := by
      by_cases ht : x n = ⊤
      · rw [ht, EReal.top_mul_top]
      · rw [hn ht, EReal.bot_mul_bot]
    have hs : ∑ k, x k * x k = ⊤ := by
      refine top_le_iff.mp (hsq ▸ ?_)
      exact Finset.single_le_sum (f := fun k => x k * x k) (fun k _ => sq_nonneg' (x k)) (Finset.mem_univ n)
    rw [meanSq, div_length, hw, hs, EReal.top_mul_coe_of_pos (by norm_num), EReal.top_add_coe]

/-- Adding a product to itself doubles the real factor. -/
theorem add_self (h : ℝ) (u : EReal) : (h : EReal) * u + (h : EReal) * u = ((2 * h : ℝ) : EReal) * u := by
  rcases lt_trichotomy h 0 with hh | hh | hh
  · induction u using EReal.rec with
    | bot => rw [EReal.coe_mul_bot_of_neg hh, EReal.coe_mul_bot_of_neg (by linarith)]; rfl
    | top => rw [EReal.coe_mul_top_of_neg hh, EReal.coe_mul_top_of_neg (by linarith)]; rfl
    | coe r => rw [← EReal.coe_mul, ← EReal.coe_mul, ← EReal.coe_add]; congr 1; ring
  · subst hh; simp
  · induction u using EReal.rec with
    | bot => rw [EReal.coe_mul_bot_of_pos hh, EReal.coe_mul_bot_of_pos (by linarith)]; rfl
    | top => rw [EReal.coe_mul_top_of_pos hh, EReal.coe_mul_top_of_pos (by linarith)]; rfl
    | coe r => rw [← EReal.coe_mul, ← EReal.coe_mul, ← EReal.coe_add]; congr 1; ring

/-- The gradient of one entry of a row, as the kernel writes it: `x` the row, `d` the gradient of the normalised row, `res` the
    gradient that reaches the entry along the residual. -/
def dxEntry (x d : Fin 1024 → EReal) (res : EReal) (q : Fin 1024) : EReal :=
  res + Ideal.rsqrt (meanSq x) * (d q - x q * Ideal.rsqrt (meanSq x)
    * Ideal.div (∑ n, d n * (x n * Ideal.rsqrt (meanSq x))) (Ideal.ofBits .f32 0x44800000#32))

/-- The kernel's gradient of a row's entry is the derivative of the norm's lines. -/
theorem dx_eq (x d : Fin 1024 → EReal) (res : EReal) (q : Fin 1024) :
    dxEntry x d res q
      = res + d q * Ideal.rsqrt (meanSq x)
        + x q * Ideal.div ((∑ n, x n * d n) * (Ideal.ofBits .f32 0xBF000000#32 * Ideal.div (Ideal.rsqrt (meanSq x)) (meanSq x)))
            (Ideal.ofBits .f32 0x44800000#32)
        + Ideal.div ((∑ n, x n * d n) * (Ideal.ofBits .f32 0xBF000000#32 * Ideal.div (Ideal.rsqrt (meanSq x)) (meanSq x)))
            (Ideal.ofBits .f32 0x44800000#32) * x q := by
  rw [dxEntry, div_length, div_length, half_word]
  rcases row_cases x with ⟨y, w, hx, hw, hv⟩ | hv
  · have hr : Ideal.rsqrt (meanSq x) = (((Real.sqrt w)⁻¹ : ℝ) : EReal) := by
      rw [hv, Ideal.rsqrt_coe, if_neg (not_lt.mpr hw.le), if_neg hw.ne']
    have hdv : Ideal.div (((Real.sqrt w)⁻¹ : ℝ) : EReal) (w : EReal) = (((Real.sqrt w)⁻¹ * w⁻¹ : ℝ) : EReal) := by
      rw [Ideal.div, if_neg (by exact_mod_cast hw.ne'), ← EReal.coe_inv, ← EReal.coe_mul]
    have hρ : 0 < (Real.sqrt w)⁻¹ := inv_pos.mpr (Real.sqrt_pos.mpr hw)
    have hww : w⁻¹ = (Real.sqrt w)⁻¹ * (Real.sqrt w)⁻¹ := by
      rw [← mul_inv, Real.mul_self_sqrt hw.le]
    rw [hr, hv, hdv, hww]
    generalize (Real.sqrt w)⁻¹ = ρ at hρ
    have hsum : ∑ n, d n * (x n * (ρ : EReal)) = (ρ : EReal) * ∑ n, x n * d n := by
      rw [mul_sum_of_nonneg hρ.le]
      exact Finset.sum_congr rfl fun n _ => by rw [mul_comm (d n), mul_comm (x n) (ρ : EReal), mul_assoc]
    rw [hsum, hx q]
    generalize ∑ n, x n * d n = s
    rw [sub_eq_add_neg, EReal.left_distrib_of_nonneg_of_ne_top (EReal.coe_nonneg.mpr hρ.le) (EReal.coe_ne_top ρ), ← add_assoc,
      mul_comm (ρ : EReal) (d q), add_assoc (res + d q * (ρ : EReal))]
    congr 1
    have h1 : (y q : EReal) * (s * (((-1 / 2 : ℝ) : EReal) * ((ρ * (ρ * ρ) : ℝ) : EReal)) * ((1 / 1024 : ℝ) : EReal))
        = ((y q * (-1 / 2 * (ρ * (ρ * ρ)) * (1 / 1024)) : ℝ) : EReal) * s := by
      simp only [EReal.coe_mul]; ac_rfl
    rw [mul_comm (s * _ * _) (y q : EReal), h1, add_self]
    have h2 : (ρ : EReal) * -((y q : EReal) * (ρ : EReal) * ((ρ : EReal) * s * ((1 / 1024 : ℝ) : EReal)))
        = ((-(ρ * (y q * ρ * (ρ * (1 / 1024)))) : ℝ) : EReal) * s := by
      rw [EReal.coe_neg, EReal.neg_mul, mul_neg]
      simp only [EReal.coe_mul]
      congr 1
      ac_rfl
    rw [h2]
    congr 2
    ring
  · have hr : Ideal.rsqrt (meanSq x) = 0 := by rw [hv, Ideal.rsqrt_top]
    have hdv : Ideal.div 0 (⊤ : EReal) = 0 := by rw [Ideal.div, if_neg (by simp), zero_mul]
    rw [hr, hv, hdv]
    simp

/-- A sum over four equal parts, part by part. -/
theorem sum_four {N M : ℕ} (h : M = 4 * N) (f : Fin M → EReal) :
    ∑ i, f i = (∑ n : Fin N, f ⟨0 * N + n.val, by omega⟩) + (∑ n : Fin N, f ⟨1 * N + n.val, by omega⟩)
      + (∑ n : Fin N, f ⟨2 * N + n.val, by omega⟩) + ∑ n : Fin N, f ⟨3 * N + n.val, by omega⟩ := by
  subst h
  rw [← finProdFinEquiv.sum_comp f, Fintype.sum_prod_type, Fin.sum_univ_four]
  have e : ∀ (k : Fin 4) (n : Fin N) (hk : k.val * N + n.val < 4 * N),
      f (finProdFinEquiv (k, n)) = f ⟨k.val * N + n.val, hk⟩ := fun k n hk =>
    congrArg f (Fin.ext (by show n.val + N * k.val = k.val * N + n.val; rw [Nat.mul_comm, Nat.add_comm]))
  congr 1
  · congr 1
    · congr 1
      · exact Finset.sum_congr rfl fun n _ => e 0 n _
      · exact Finset.sum_congr rfl fun n _ => e 1 n _
    · exact Finset.sum_congr rfl fun n _ => e 2 n _
  · exact Finset.sum_congr rfl fun n _ => e 3 n _

/-- The kernel's choice of the first of eight rows. -/
theorem select_row (a : Fin 8) (u v : EReal) :
    Scalar.select (IntOp.cmpi .eq (BitVec.ofNat 32 a.val) 0#32) u v = if a.val = 0 then u else v := by
  fin_cases a <;> rfl

end Cert.Proof.RmsGrad
-- ==== Proof.Ff1Dgrad.lean ====
/-
  The gradient through the MLP's first product and the RMS norm before it.
  Each grid point takes 512 rows: it sums the product with the weight over the weight's four column blocks, writes the gradient of
  the residual stream, and adds its rows to the gradient of the norm's gain, which stays in place over the grid.
  What one point computes (`dx_block`, `gain_block`), where the blocks lie, what the gain's gradient holds after each point
  (`gain_after`), what the two output arrays hold (`final5`, `final6`), what the reference computes, and the claim (`algebraic`).
-/
module

public import proofs.«01_k».proof.Defs
public import proofs.«01_k».proof.Proof.Gen.Ff1DgradIdeal.Value
public import proofs.«01_k».proof.Proof.Gen.Ff1DgradRefIdeal.Read
public import proofs.«01_k».proof.Proof.RmsGrad
public import Idealize.ShloMosaic.Lib.Pipeline.ValueKit.Tiles
public import Idealize.ShloMosaic.Lib.Pointwise
public import Idealize.ShloMosaic.Lib.StableHlo.ReadAt

@[expose] public section

noncomputable section

open Idealize.ShloMosaic Idealize.ShloMosaic.TcCoe Idealize.SL.Sem
open Idealize.ShloMosaic.Pipeline (Dat)

namespace Cert.Ff1DgradIdeal.Product

open Cert.Ff1DgradIdeal Cert.Ff1DgradIdeal.Gen

variable (m : (ℓ : Loc nD τ sig) → Buf (Elt Ideal) ℓ) (ρ : Dev nD → PrngReg)

open Cert.Proof.RmsGrad

theorem zero2 : (![0, 0] : Fin 2 → Nat) = fun _ => 0 := funext fun a => by fin_cases a <;> rfl

/-! ## One grid point -/

/-- A load of 1024 columns of the incoming gradient's block, from column `k`. -/
theorem cols_apply (x : Vec Ideal S512x4096 .bf16) (k : ℕ) (h : ∀ a, (![0, k] : Fin 2 → Nat) a + S512x1024.size a ≤ S512x4096.size a)
    (p : Fin 512) (n : Fin 1024) (hk : k + n.val < 4096) :
    View.ld x (Rect.unit (s := S512x4096) ![0, k] S512x1024.size h) (ix2 p n) = x (ix2 p ⟨k + n.val, hk⟩) := by
  refine congrArg x (funext fun a => Fin.ext ?_)
  match a with
  | ⟨0, _⟩ => exact (Rect.idx_unit_val _ _ h _ _).trans (Nat.zero_add _)
  | ⟨1, _⟩ => exact Rect.idx_unit_val _ _ h _ _

/-- A load of the weight's column block `k`. -/
theorem slab_apply (x : Vec Ideal S4x1024x1024 .bf16) (k : ℕ)
    (h : ∀ a, (![k, 0, 0] : Fin 3 → Nat) a + S1x1024x1024.size a ≤ S4x1024x1024.size a) (q : Fin 1024) (n : Fin 1024) (hk : k < 4) :
    View.ld x (Rect.unit (s := S4x1024x1024) ![k, 0, 0] S1x1024x1024.size h) (ix3 0 q n) = x (ix3 ⟨k, hk⟩ q n) := by
  refine congrArg x (funext fun a => Fin.ext ?_)
  match a with
  | ⟨0, _⟩ => exact (Rect.idx_unit_val _ _ h _ _).trans (Nat.add_zero _)
  | ⟨1, _⟩ => exact (Rect.idx_unit_val _ _ h _ _).trans (Nat.zero_add _)
  | ⟨2, _⟩ => exact (Rect.idx_unit_val _ _ h _ _).trans (Nat.zero_add _)

/-- The product of a point's rows with the weight, as the body computes it: four column blocks, one after another. -/
def product (x0 : Vec Ideal S512x4096 .bf16) (x1 : Vec Ideal S4x1024x1024 .bf16) : Vec Ideal S512x1024 .f32 :=
  k0_pay6 (View.ld x0 (Rect.unit (s := S512x4096) ![0, 0] S512x1024.size inb_S512x4096_S512x1024_0_0))
    (View.ld x1 (Rect.unit (s := S4x1024x1024) ![0, 0, 0] S1x1024x1024.size inb_S4x1024x1024_S1x1024x1024_0_0_0))
    (View.ld x0 (Rect.unit (s := S512x4096) ![0, 1024] S512x1024.size inb_S512x4096_S512x1024_0_1024))
    (View.ld x1 (Rect.unit (s := S4x1024x1024) ![1, 0, 0] S1x1024x1024.size inb_S4x1024x1024_S1x1024x1024_1_0_0))
    (View.ld x0 (Rect.unit (s := S512x4096) ![0, 2048] S512x1024.size inb_S512x4096_S512x1024_0_2048))
    (View.ld x1 (Rect.unit (s := S4x1024x1024) ![2, 0, 0] S1x1024x1024.size inb_S4x1024x1024_S1x1024x1024_2_0_0))
    (View.ld x0 (Rect.unit (s := S512x4096) ![0, 3072] S512x1024.size inb_S512x4096_S512x1024_0_3072))
    (View.ld x1 (Rect.unit (s := S4x1024x1024) ![3, 0, 0] S1x1024x1024.size inb_S4x1024x1024_S1x1024x1024_3_0_0))

/-- The four partial products, entry by entry. -/
theorem parts_apply (v0 v5 v11 v17 : Vec Ideal S512x1024 .bf16) (v2 v7 v13 v19 : Vec Ideal S1x1024x1024 .bf16) (p : Fin 512) (q : Fin 1024) :
    k0_pay6 v0 v2 v5 v7 v11 v13 v17 v19 (ix2 p q)
      = (∑ n : Fin 1024, v0 (ix2 p n) * v2 (ix3 0 q n)) + (∑ n : Fin 1024, v5 (ix2 p n) * v7 (ix3 0 q n))
        + (∑ n : Fin 1024, v11 (ix2 p n) * v13 (ix3 0 q n)) + ∑ n : Fin 1024, v17 (ix2 p n) * v19 (ix3 0 q n) := by
  pointwise [k0_pay6]

/-- The stream's gradient at an entry of the block. -/
theorem dx_apply (d x res : Vec Ideal S512x1024 .f32) (g : Vec Ideal S1x1024 .f32) (p : Fin 512) (q : Fin 1024) :
    k0_pay3 d x (k0_pay7 x) k0_pay8 g res (ix2 p q)
      = dxEntry (fun n => x (ix2 p n)) (fun n => d (ix2 p n) * g (ix2 0 n)) (res (ix2 p q)) q := by
  pointwise [k0_pay3, k0_pay2, k0_pay1, k0_pay7, k0_pay8]
  rfl

/-- The gain's gradient after a point's rows are added, at an entry. -/
theorem gain_apply (d x : Vec Ideal S512x1024 .f32) (prev : Vec Ideal S8x1024 .f32) (a : Fin 8) (q : Fin 1024) :
    k0_pay5 d x (k0_pay7 x) k0_pay8 prev (ix2 a q)
      = prev (ix2 a q) + if a.val = 0 then
          ∑ p : Fin 512, d (ix2 p q) * (x (ix2 p q) * Ideal.rsqrt (meanSq fun n => x (ix2 p n))) else 0 := by
  pointwise [k0_pay5, k0_pay2, k0_pay1, k0_pay7, k0_pay8]
  exact congrArg _ (select_row a _ _)

/-- What a point leaves in the stream's gradient, first point. -/
theorem out_A_5 (c : Dev nD) (i : grid0.Coords) (arg1 : Memref sig .tc .vmem S512x4096 .bf16) (harg1 : arg1.IsWhole) (arg2 : Memref sig .tc .vmem S4x1024x1024 .bf16) (harg2 : arg2.IsWhole) (arg3 : Memref sig .tc .vmem S512x1024 .f32) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S8x1024 .f32) (harg7 : arg7.IsWhole) (hc : cond0_0 i)
    (x0 : Vec Ideal S512x4096 .bf16) (x1 : Vec Ideal S4x1024x1024 .bf16) (x2 : Vec Ideal S512x1024 .f32) (x3 : Vec Ideal S1x1024 .f32)
    (x4 : Vec Ideal S512x1024 .f32) :
    out0_A_5 c i arg1 harg1 arg2 harg2 arg3 harg3 arg4 harg4 arg5 harg5 arg6 harg6 arg7 harg7 hc x0 x1 x2 x3 x4
      = k0_pay3 (product x0 x1) x2 (k0_pay7 x2) k0_pay8 x3 x4 := by
  unfold out0_A_5 product
  rw [View.read_writes_eq_canon _ _ _ (cover0_A_5 c i arg1 harg1 arg2 harg2 arg3 harg3 arg4 harg4 arg5 harg5 arg6 harg6 arg7 harg7 hc x0 x1 x2 x3 x4)]
  unfold kernelRun0_A
  dsimp only
  sl_unfold_words
  rw [View.canon_unit_zero zero2]
  simp only [View.readAt_eq_ld, harg1.read_unread, harg2.read_unread, harg3.read_unread, harg4.read_unread, harg5.read_unread,
    View.ld_unit_zero (S := S512x1024) zero2, View.ld_unit_zero (S := S1x1024) zero2]

/-- What a point leaves in the stream's gradient, later points. -/
theorem out_B_5 (c : Dev nD) (i : grid0.Coords) (arg1 : Memref sig .tc .vmem S512x4096 .bf16) (harg1 : arg1.IsWhole) (arg2 : Memref sig .tc .vmem S4x1024x1024 .bf16) (harg2 : arg2.IsWhole) (arg3 : Memref sig .tc .vmem S512x1024 .f32) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S8x1024 .f32) (harg7 : arg7.IsWhole) (hc : ¬cond0_0 i)
    (x0 : Vec Ideal S512x4096 .bf16) (x1 : Vec Ideal S4x1024x1024 .bf16) (x2 : Vec Ideal S512x1024 .f32) (x3 : Vec Ideal S1x1024 .f32)
    (x4 : Vec Ideal S512x1024 .f32) (xo : Vec Ideal S8x1024 .f32) :
    out0_B_5 c i arg1 harg1 arg2 harg2 arg3 harg3 arg4 harg4 arg5 harg5 arg6 harg6 arg7 harg7 hc x0 x1 x2 x3 x4 xo
      = k0_pay3 (product x0 x1) x2 (k0_pay7 x2) k0_pay8 x3 x4 := by
  unfold out0_B_5 product
  rw [View.read_writes_eq_canon _ _ _ (cover0_B_5 c i arg1 harg1 arg2 harg2 arg3 harg3 arg4 harg4 arg5 harg5 arg6 harg6 arg7 harg7 hc x0 x1 x2 x3 x4 xo)]
  unfold kernelRun0_B
  dsimp only
  sl_unfold_words
  rw [View.canon_unit_zero zero2]
  simp only [View.readAt_eq_ld, harg1.read_unread, harg2.read_unread, harg3.read_unread, harg4.read_unread, harg5.read_unread,
    View.ld_unit_zero (S := S512x1024) zero2, View.ld_unit_zero (S := S1x1024) zero2]

/-- What the first point leaves in the gain's gradient: it starts from zero. -/
theorem out_A_6 (c : Dev nD) (i : grid0.Coords) (arg1 : Memref sig .tc .vmem S512x4096 .bf16) (harg1 : arg1.IsWhole) (arg2 : Memref sig .tc .vmem S4x1024x1024 .bf16) (harg2 : arg2.IsWhole) (arg3 : Memref sig .tc .vmem S512x1024 .f32) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S8x1024 .f32) (harg7 : arg7.IsWhole) (hc : cond0_0 i)
    (x0 : Vec Ideal S512x4096 .bf16) (x1 : Vec Ideal S4x1024x1024 .bf16) (x2 : Vec Ideal S512x1024 .f32) (x3 : Vec Ideal S1x1024 .f32)
    (x4 : Vec Ideal S512x1024 .f32) :
    out0_A_6 c i arg1 harg1 arg2 harg2 arg3 harg3 arg4 harg4 arg5 harg5 arg6 harg6 arg7 harg7 hc x0 x1 x2 x3 x4
      = k0_pay5 (product x0 x1) x2 (k0_pay7 x2) k0_pay8 (k0_pay4 (F := Ideal)) := by
  unfold out0_A_6 product
  rw [View.read_writes_eq_canon _ _ _ (cover0_A_6 c i arg1 harg1 arg2 harg2 arg3 harg3 arg4 harg4 arg5 harg5 arg6 harg6 arg7 harg7 hc x0 x1 x2 x3 x4)]
  unfold kernelRun0_A
  dsimp only
  sl_unfold_words
  rw [View.canon_cons_unit_zero (S := S8x1024) zero2, View.readCov_unit_zero (S := S8x1024) _ zero2]
  simp only [View.readAt_eq_ld, harg1.read_unread, harg2.read_unread, harg3.read_unread, harg4.read_unread, harg5.read_unread,
    View.ld_unit_zero (S := S512x1024) zero2, View.ld_unit_zero (S := S1x1024) zero2]

/-- What a later point leaves in the gain's gradient: its rows added to what it found. -/
theorem out_B_6 (c : Dev nD) (i : grid0.Coords) (arg1 : Memref sig .tc .vmem S512x4096 .bf16) (harg1 : arg1.IsWhole) (arg2 : Memref sig .tc .vmem S4x1024x1024 .bf16) (harg2 : arg2.IsWhole) (arg3 : Memref sig .tc .vmem S512x1024 .f32) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S8x1024 .f32) (harg7 : arg7.IsWhole) (hc : ¬cond0_0 i)
    (x0 : Vec Ideal S512x4096 .bf16) (x1 : Vec Ideal S4x1024x1024 .bf16) (x2 : Vec Ideal S512x1024 .f32) (x3 : Vec Ideal S1x1024 .f32)
    (x4 : Vec Ideal S512x1024 .f32) (xo : Vec Ideal S8x1024 .f32) :
    out0_B_6 c i arg1 harg1 arg2 harg2 arg3 harg3 arg4 harg4 arg5 harg5 arg6 harg6 arg7 harg7 hc x0 x1 x2 x3 x4 xo
      = k0_pay5 (product x0 x1) x2 (k0_pay7 x2) k0_pay8 xo := by
  unfold out0_B_6 product
  rw [View.read_writes_eq_canon _ _ _ (cover0_B_6 c i arg1 harg1 arg2 harg2 arg3 harg3 arg4 harg4 arg5 harg5 arg6 harg6 arg7 harg7 hc x0 x1 x2 x3 x4 xo)]
  unfold kernelRun0_B
  dsimp only
  sl_unfold_words
  rw [View.canon_unit_zero zero2]
  simp only [View.readAt_eq_ld, harg1.read_unread, harg2.read_unread, harg3.read_unread, harg4.read_unread, harg5.read_unread,
    harg7.read_unread, View.ld_unit_zero (S := S512x1024) zero2, View.ld_unit_zero (S := S1x1024) zero2,
    View.ld_unit_zero (S := S8x1024) zero2]

/-! ## Where the blocks lie -/

/-- The block index of window 0 at grid point `t`. -/
theorem index0 : ∀ t : Fin grid0.N, win0_0.index t 0 = t.val ∧ win0_0.index t 1 = 0 := by decide +kernel

/-- What the block of the incoming gradient holds at grid point `t`. -/
theorem block0_apply (c : Dev nD) (t : Fin cfg0.N) (p : Fin 512) (q : Fin 4096) (i : S2048x4096.Idx)
    (h0 : (i 0).val = t.val * 512 + p.val) (h1 : (i 1).val = q.val) :
    iblk m c 0 t (ix2 p q) = V m c main_v0 i := by
  show V m c main_v0 ((win0_0.rect t).emb (ix2 p q)) = V m c main_v0 i
  have e := index0 t
  congr 1
  funext a
  apply Fin.ext
  rw [win0_0.rect_emb_val]
  match a with
  | ⟨0, _⟩ => show win0_0.index t 0 * 512 + p.val = (i 0).val; omega
  | ⟨1, _⟩ => show win0_0.index t 1 * 4096 + q.val = (i 1).val; omega

/-- The block index of window 1 at grid point `t`. -/
theorem index1 : ∀ t : Fin grid0.N, win0_1.index t 0 = 0 ∧ win0_1.index t 1 = 0 ∧ win0_1.index t 2 = 0 := by decide +kernel

/-- The weight's block is the whole weight, in its four column blocks. -/
theorem block1_apply (c : Dev nD) (t : Fin cfg0.N) (p : Fin 4) (q : Fin 1024) (r : Fin 1024) (i : S4x1024x1024.Idx)
    (h0 : (i 0).val = p.val) (h1 : (i 1).val = q.val) (h2 : (i 2).val = r.val) :
    iblk m c 1 t (ix3 p q r) = V m c main_v3 i := by
  show V m c main_v3 ((win0_1.rect t).emb (ix3 p q r)) = V m c main_v3 i
  have e := index1 t
  congr 1
  funext a
  apply Fin.ext
  rw [win0_1.rect_emb_val]
  match a with
  | ⟨0, _⟩ => show win0_1.index t 0 * 4 + p.val = (i 0).val; omega
  | ⟨1, _⟩ => show win0_1.index t 1 * 1024 + q.val = (i 1).val; omega
  | ⟨2, _⟩ => show win0_1.index t 2 * 1024 + r.val = (i 2).val; omega

/-- The block index of window 2 at grid point `t`. -/
theorem index2 : ∀ t : Fin grid0.N, win0_2.index t 0 = t.val ∧ win0_2.index t 1 = 0 := by decide +kernel

/-- What the block of the norm's argument holds at grid point `t`. -/
theorem block2_apply (c : Dev nD) (t : Fin cfg0.N) (p : Fin 512) (q : Fin 1024) (i : S2048x1024.Idx)
    (h0 : (i 0).val = t.val * 512 + p.val) (h1 : (i 1).val = q.val) :
    iblk m c 2 t (ix2 p q) = V m c main_arg0 i := by
  show V m c main_arg0 ((win0_2.rect t).emb (ix2 p q)) = V m c main_arg0 i
  have e := index2 t
  congr 1
  funext a
  apply Fin.ext
  rw [win0_2.rect_emb_val]
  match a with
  | ⟨0, _⟩ => show win0_2.index t 0 * 512 + p.val = (i 0).val; omega
  | ⟨1, _⟩ => show win0_2.index t 1 * 1024 + q.val = (i 1).val; omega

/-- The block index of window 3 at grid point `t`. -/
theorem index3 : ∀ t : Fin grid0.N, win0_3.index t 0 = 0 ∧ win0_3.index t 1 = 0 := by decide +kernel

/-- The gain's block is the whole gain. -/
theorem block3_apply (c : Dev nD) (t : Fin cfg0.N) (p : Fin 1) (q : Fin 1024) (i : S1x1024.Idx)
    (h0 : (i 0).val = p.val) (h1 : (i 1).val = q.val) :
    iblk m c 3 t (ix2 p q) = V m c main_arg1 i := by
  show V m c main_arg1 ((win0_3.rect t).emb (ix2 p q)) = V m c main_arg1 i
  have e := index3 t
  congr 1
  funext a
  apply Fin.ext
  rw [win0_3.rect_emb_val]
  match a with
  | ⟨0, _⟩ => show win0_3.index t 0 * 1 + p.val = (i 0).val; omega
  | ⟨1, _⟩ => show win0_3.index t 1 * 1024 + q.val = (i 1).val; omega

/-- The block index of window 4 at grid point `t`. -/
theorem index4 : ∀ t : Fin grid0.N, win0_4.index t 0 = t.val ∧ win0_4.index t 1 = 0 := by decide +kernel

/-- What the block of the residual's gradient holds at grid point `t`. -/
theorem block4_apply (c : Dev nD) (t : Fin cfg0.N) (p : Fin 512) (q : Fin 1024) (i : S2048x1024.Idx)
    (h0 : (i 0).val = t.val * 512 + p.val) (h1 : (i 1).val = q.val) :
    iblk m c 4 t (ix2 p q) = V m c main_arg4 i := by
  show V m c main_arg4 ((win0_4.rect t).emb (ix2 p q)) = V m c main_arg4 i
  have e := index4 t
  congr 1
  funext a
  apply Fin.ext
  rw [win0_4.rect_emb_val]
  match a with
  | ⟨0, _⟩ => show win0_4.index t 0 * 512 + p.val = (i 0).val; omega
  | ⟨1, _⟩ => show win0_4.index t 1 * 1024 + q.val = (i 1).val; omega

/-- The block index of the output window 5 at grid point `t`. -/
theorem index5 : ∀ t : Fin grid0.N, win0_5.index t 0 = t.val ∧ win0_5.index t 1 = 0 := by decide +kernel

/-- Where element (p, q) of the block written at point `t` sits in the output array. -/
theorem place5 (t : Fin cfg0.N) (p : Fin 512) (q : Fin 1024) :
    ((win0_5.rect t).emb (ix2 p q) 0).val = t.val * 512 + p.val ∧ ((win0_5.rect t).emb (ix2 p q) 1).val = q.val := by
  have e := index5 t
  refine ⟨?_, ?_⟩
  · rw [win0_5.rect_emb_val]; show win0_5.index t 0 * 512 + p.val = _; omega
  · rw [win0_5.rect_emb_val]; show win0_5.index t 1 * 1024 + q.val = _; omega

/-- Every element of the output array lies in some point's block. -/
theorem cover5 (i : S2048x1024.Idx) : ∃ t : Fin cfg0.N, (cfg0.win 5).flush t = true ∧ i ∈ ((cfg0.win 5).blk t).view.set := by
  have h0 : (i 0 : Nat) < 2048 := (i 0).isLt
  have h1 : (i 1 : Nat) < 1024 := (i 1).isLt
  have hN : cfg0.N = 4 := N_0
  obtain ⟨t, ht⟩ : ∃ t : Fin cfg0.N, t.val = (i 0).val / 512 := ⟨⟨(i 0).val / 512, by omega⟩, rfl⟩
  have e := index5 t
  refine ⟨t, flush0_5 _, ?_⟩
  show i ∈ ((View.whole main_v4_0).slice (win0_5.rect t)).set
  rw [View.set_slice_whole, Rect.mem_set_unit]
  intro a
  match a with
  | ⟨0, _⟩ =>
    show win0_5.index t 0 * 512 ≤ (i 0).val ∧ (i 0).val < win0_5.index t 0 * 512 + 512
    omega
  | ⟨1, _⟩ =>
    show win0_5.index t 1 * 1024 ≤ (i 1).val ∧ (i 1).val < win0_5.index t 1 * 1024 + 1024
    omega

/-- The incoming gradient as the call finds it. -/
theorem operand0 (c : Dev nD) (p : Fin 2048) (n : Fin 4096) :
    V m c main_v0 (ix2 p n) = m ((c : Thread nD τ).loc main_arg3) (ix2 p n) := by
  unfold V
  after_reads_at

/-- The weight as the call finds it: column `n` of block `k` is column `1024 k + n` of the weight. -/
theorem operand1 (c : Dev nD) (k : Fin 4) (q : Fin 1024) (n : Fin 1024) :
    V m c main_v3 (ix3 k q n) = m ((c : Thread nD τ).loc main_arg2) (ix2 q ⟨k.val * 1024 + n.val, by omega⟩) := by
  unfold V
  after_reads_at

/-! ## The gradients -/

section Gradients

variable (x res : Vec Ideal S2048x1024 .f32) (g : Vec Ideal S1x1024 .f32) (w : Vec Ideal S1024x4096 .f32) (ct : Vec Ideal S2048x4096 .f32)

/-- The gradient of the normalised rows, before the gain. -/
def dh (p : Fin 2048) (q : Fin 1024) : EReal := ∑ n : Fin 4096, (ct (ix2 p n) : EReal) * (w (ix2 q n) : EReal)

/-- The gradient of the residual stream. -/
def dx : Vec Ideal S2048x1024 .f32 := fun i =>
  dxEntry (fun n => x (ix2 (i 0) n)) (fun n => dh w ct (i 0) n * g (ix2 0 n)) (res i) (i 1)

/-- What row `p` adds to the gain's gradient. -/
def share (p : Fin 2048) (q : Fin 1024) : EReal := dh w ct p q * (x (ix2 p q) * Ideal.rsqrt (meanSq fun n => x (ix2 p n)))

/-- What block `t`'s rows add to the gain's gradient. -/
def blockShare (t : ℕ) (q : Fin 1024) : EReal := ∑ p : Fin 512, share x w ct ⟨(t * 512 + p.val) % 2048, Nat.mod_lt _ (by norm_num)⟩ q

/-- The gain's gradient, in the first of eight rows. -/
def dgain : Vec Ideal S8x1024 .f32 := fun i => if (i 0).val = 0 then ∑ p : Fin 2048, share x w ct p (i 1) else 0

/-- The rows' sum is the sum of the four blocks'. -/
theorem share_sum (q : Fin 1024) : ∑ p : Fin 2048, share x w ct p q
    = blockShare x w ct 0 q + blockShare x w ct 1 q + blockShare x w ct 2 q + blockShare x w ct 3 q := by
  rw [sum_four (N := 512) rfl]
  have e : ∀ (k : ℕ) (hk : k < 4), (∑ n : Fin 512, share x w ct ⟨k * 512 + n.val, by omega⟩ q) = blockShare x w ct k q := fun k hk =>
    Finset.sum_congr rfl fun n _ => congrArg (fun p : Fin 2048 => share x w ct p q) (Fin.ext (Nat.mod_eq_of_lt (by omega)).symm)
  rw [e 0 (by norm_num), e 1 (by norm_num), e 2 (by norm_num), e 3 (by norm_num)]

/-- A point's product is the gradient of its normalised rows, once its blocks are the operands' blocks. -/
theorem product_eq (x0 : Vec Ideal S512x4096 .bf16) (x1 : Vec Ideal S4x1024x1024 .bf16) (p : Fin 512) (P : Fin 2048)
    (h0 : ∀ n : Fin 4096, x0 (ix2 p n) = ct (ix2 P n))
    (h1 : ∀ (k : Fin 4) (q : Fin 1024) (n : Fin 1024), x1 (ix3 k q n) = w (ix2 q ⟨k.val * 1024 + n.val, by omega⟩)) (q : Fin 1024) :
    product x0 x1 (ix2 p q) = dh w ct P q := by
  unfold product dh
  rw [parts_apply, sum_four (N := 1024) rfl]
  have e : ∀ (k : ℕ) (hk : k < 4) (K : ℕ) (hK : K = k * 1024) (ha : ∀ a, (![0, K] : Fin 2 → Nat) a + S512x1024.size a ≤ S512x4096.size a)
      (hb : ∀ a, (![k, 0, 0] : Fin 3 → Nat) a + S1x1024x1024.size a ≤ S4x1024x1024.size a),
      (∑ n : Fin 1024, (View.ld x0 (Rect.unit (s := S512x4096) ![0, K] S512x1024.size ha) (ix2 p n) : EReal)
        * (View.ld x1 (Rect.unit (s := S4x1024x1024) ![k, 0, 0] S1x1024x1024.size hb) (ix3 0 q n) : EReal))
        = ∑ n : Fin 1024, (ct (ix2 P ⟨k * 1024 + n.val, by omega⟩) : EReal) * (w (ix2 q ⟨k * 1024 + n.val, by omega⟩) : EReal) := by
    intro k hk K hK ha hb
    subst hK
    exact Finset.sum_congr rfl fun n _ => congrArg₂ (fun u v : EReal => u * v)
      ((cols_apply x0 _ ha p n (by omega)).trans (h0 _)) ((slab_apply x1 k hb q n hk).trans (h1 ⟨k, hk⟩ q n))
  exact congrArg₂ (fun u v : EReal => u + v) (congrArg₂ (fun u v : EReal => u + v) (congrArg₂ (fun u v : EReal => u + v)
    (e 0 (by norm_num) 0 rfl _ _) (e 1 (by norm_num) 1024 rfl _ _)) (e 2 (by norm_num) 2048 rfl _ _)) (e 3 (by norm_num) 3072 rfl _ _)

end Gradients

/-- The product at point `t` is the gradient of the rows' normalised values. -/
theorem product_row (c : Dev nD) (t : Fin cfg0.N) (p : Fin 512) (P : Fin 2048) (hP : P.val = t.val * 512 + p.val) (q : Fin 1024) :
    product (iblk m c 0 t) (iblk m c 1 t) (ix2 p q)
      = dh (m ((c : Thread nD τ).loc main_arg2)) (m ((c : Thread nD τ).loc main_arg3)) P q :=
  product_eq _ _ _ _ p P
    (fun n => (block0_apply m c t p n (ix2 P n) hP rfl).trans (operand0 m c _ _))
    (fun k q n => (block1_apply m c t k q n (ix3 k q n) rfl rfl rfl).trans (operand1 m c _ _ _)) q

/-- The norm's argument at point `t`. -/
theorem arg_row (c : Dev nD) (t : Fin cfg0.N) (p : Fin 512) (P : Fin 2048) (hP : P.val = t.val * 512 + p.val) (q : Fin 1024) :
    iblk m c 2 t (ix2 p q) = m ((c : Thread nD τ).loc main_arg0) (ix2 P q) :=
  (block2_apply m c t p q (ix2 P q) hP rfl).trans (by rw [V_main_arg0])

/-- The first output's block after point `t`. -/
theorem after5 (c : Dev nD) (t : Fin cfg0.N) : (outsAt0 m c t.val t.isLt).1
    = k0_pay3 (product (iblk m c 0 t) (iblk m c 1 t)) (iblk m c 2 t) (k0_pay7 (iblk m c 2 t)) k0_pay8 (iblk m c 3 t) (iblk m c 4 t) := by
  by_cases h : t.val % 4 = 0
  · rw [outsAt0_A m c t h]; dsimp only; rw [out_A_5]
  · rw [outsAt0_B m c t h]; dsimp only; rw [out_B_5]

/-- A block's entry of the stream's gradient, once the block's rows are the operands' rows. -/
theorem dx_block (d x res : Vec Ideal S512x1024 .f32) (g : Vec Ideal S1x1024 .f32) (X RES : Vec Ideal S2048x1024 .f32)
    (G : Vec Ideal S1x1024 .f32) (W : Vec Ideal S1024x4096 .f32) (C : Vec Ideal S2048x4096 .f32) (p : Fin 512) (q : Fin 1024) (i : S2048x1024.Idx)
    (hq : (i 1).val = q.val) (hd : ∀ n, d (ix2 p n) = dh W C (i 0) n) (hx : ∀ n : Fin 1024, x (ix2 p n) = X (ix2 (i 0) n))
    (hg : ∀ n : Fin 1024, g (ix2 0 n) = G (ix2 0 n)) (hr : res (ix2 p q) = RES i) :
    k0_pay3 d x (k0_pay7 x) k0_pay8 g res (ix2 p q) = dx X RES G W C i := by
  have hq' : q = i 1 := Fin.ext hq.symm
  rw [dx_apply]
  unfold dx
  rw [hr, funext hx, ← hq', show (fun n => d (ix2 p n) * g (ix2 0 n)) = fun n => dh W C (i 0) n * G (ix2 0 n) from
    funext fun n => congrArg₂ (fun u v : EReal => u * v) (hd n) (hg n)]

/-- What point `t` writes back to the first output is its block of the stream's gradient. -/
theorem flushed5_eq (c : Dev nD) (t : Fin cfg0.N) :
    (dats m 0 c).flushed 5 t = (win0_5.blk t).view.read (Elt Ideal)
      (dx (m ((c : Thread nD τ).loc main_arg0)) (m ((c : Thread nD τ).loc main_arg4)) (m ((c : Thread nD τ).loc main_arg1))
        (m ((c : Thread nD τ).loc main_arg2)) (m ((c : Thread nD τ).loc main_arg3))) := by
  rw [Value.flushed5, after5]
  funext j
  obtain ⟨p, q, rfl⟩ : ∃ (p : Fin 512) (q : Fin 1024), j = ix2 p q := ⟨j 0, j 1, by funext a; fin_cases a <;> rfl⟩
  obtain ⟨e0, e1⟩ := place5 t p q
  show k0_pay3 (F := Ideal) _ _ _ _ _ _ (ix2 p q) = dx _ _ _ _ _ ((win0_5.rect t).emb (ix2 p q))
  exact dx_block _ _ _ _ _ _ _ _ _ p q ((win0_5.rect t).emb (ix2 p q)) e1 (product_row m c t p _ e0) (arg_row m c t p _ e0)
    (fun n => (block3_apply m c t 0 n (ix2 0 n) rfl rfl).trans (by rw [V_main_arg1]))
    ((block4_apply m c t p q _ e0 e1).trans (by rw [V_main_arg4]))

/-- After the run the first output array holds the stream's gradient. -/
theorem final5 (c : Dev nD) : (dats m 0 c).arrAt 5 cfg0.N
    = dx (m ((c : Thread nD τ).loc main_arg0)) (m ((c : Thread nD τ).loc main_arg4)) (m ((c : Thread nD τ).loc main_arg1))
        (m ((c : Thread nD τ).loc main_arg2)) (m ((c : Thread nD τ).loc main_arg3)) :=
  (dats m 0 c).arrAt_eq_of_cover 5 _ (fun t _ => flushed5_eq m c t) cover5

/-! ## The gain's gradient over the grid -/

/-- What point `t` adds to the gain's gradient. -/
theorem gain_block (c : Dev nD) (t : Fin cfg0.N) (prev : Vec Ideal S8x1024 .f32) (a : Fin 8) (q : Fin 1024) :
    k0_pay5 (product (iblk m c 0 t) (iblk m c 1 t)) (iblk m c 2 t) (k0_pay7 (iblk m c 2 t)) k0_pay8 prev (ix2 a q)
      = prev (ix2 a q) + if a.val = 0 then blockShare (m ((c : Thread nD τ).loc main_arg0)) (m ((c : Thread nD τ).loc main_arg2))
          (m ((c : Thread nD τ).loc main_arg3)) t.val q else 0 := by
  have hN : cfg0.N = 4 := N_0
  have ht := t.isLt
  refine (gain_apply _ _ _ a q).trans ?_
  refine congrArg (fun u : EReal => prev (ix2 a q) + if a.val = 0 then u else 0) ?_
  refine Finset.sum_congr rfl fun p _ => ?_
  have hP : (⟨(t.val * 512 + p.val) % 2048, Nat.mod_lt _ (by norm_num)⟩ : Fin 2048).val = t.val * 512 + p.val := by
    have := p.isLt
    exact Nat.mod_eq_of_lt (by omega)
  have hx := arg_row m c t p _ hP
  refine congrArg₂ (fun u v : EReal => u * v) (product_row m c t p _ hP q) ?_
  exact congrArg₂ (fun (u : EReal) (f : Fin 1024 → EReal) => u * Ideal.rsqrt (meanSq f)) (hx q) (funext hx)

/-- The sum of the first blocks' shares. -/
def running (x : Vec Ideal S2048x1024 .f32) (w : Vec Ideal S1024x4096 .f32) (ct : Vec Ideal S2048x4096 .f32) : ℕ → Fin 1024 → EReal
  | 0, q => blockShare x w ct 0 q
  | t + 1, q => running x w ct t q + blockShare x w ct (t + 1) q

/-- The gain's gradient after point `t`: the sum of the first blocks' shares, in the first row. -/
theorem gain_after (c : Dev nD) (a : Fin 8) (q : Fin 1024) : ∀ (t : ℕ) (h : t < cfg0.N), (outsAt0 m c t h).2 (ix2 a q)
    = if a.val = 0 then running (m ((c : Thread nD τ).loc main_arg0)) (m ((c : Thread nD τ).loc main_arg2))
        (m ((c : Thread nD τ).loc main_arg3)) t q else 0
  | 0, h => by
    rw [outsAt0_A m c ⟨0, h⟩ rfl]
    dsimp only
    rw [out_A_6]
    refine (gain_block m c ⟨0, h⟩ _ a q).trans ?_
    have z : (k0_pay4 (F := Ideal) (ix2 a q) : EReal) = 0 := by pointwise [k0_pay4]
    rw [z, zero_add]
    rfl
  | t + 1, h => by
    have hN : cfg0.N = 4 := N_0
    have hB : ¬(⟨t + 1, h⟩ : Fin cfg0.N).val % 4 = 0 := by dsimp only; omega
    rw [outsAt0_B m c ⟨t + 1, h⟩ hB]
    dsimp only
    rw [out_B_6]
    refine (gain_block m c ⟨t + 1, h⟩ _ a q).trans ?_
    refine (congrArg (fun u : EReal => u + _) (gain_after c a q t _)).trans ?_
    by_cases ha : a.val = 0
    · simp only [if_pos ha]; rfl
    · simp only [if_neg ha, add_zero]

/-- The one write-back of the gain's gradient, at the last point. -/
theorem flushed6_eq (c : Dev nD) (t : Fin cfg0.N) (hf : (cfg0.win 6).flush t = true) :
    (dats m 0 c).flushed 6 t = (win0_6.blk t).view.read (Elt Ideal)
      (dgain (m ((c : Thread nD τ).loc main_arg0)) (m ((c : Thread nD τ).loc main_arg2)) (m ((c : Thread nD τ).loc main_arg3))) := by
  have hN : cfg0.N = 4 := N_0
  have h3 : t.val = 3 := by have := (flush0_6 t).mp hf; have := t.isLt; omega
  obtain rfl : t = t0_3 := Fin.ext h3
  have hz : (fun a => win0_6.index t0_3 a * main_v4_1.ty.shape.size a) = fun _ => 0 := funext fun a => by fin_cases a <;> decide
  refine Eq.trans ?_ (Memref.read_access_unit_zero (Elt Ideal) main_v4_1 hz (fun a => by rw [congrFun hz a]; simp) (dgain _ _ _)).symm
  rw [Value.flushed6]
  funext j
  obtain ⟨a, q, rfl⟩ : ∃ (a : Fin 8) (q : Fin 1024), j = ix2 a q := ⟨j 0, j 1, by funext a; fin_cases a <;> rfl⟩
  exact (gain_after m c a q 3 t0_3.isLt).trans (congrArg (fun u : EReal => if a.val = 0 then u else 0) (share_sum _ _ _ q).symm)

/-- After the run the second output array holds the gain's gradient. -/
theorem final6 (c : Dev nD) : (dats m 0 c).arrAt 6 cfg0.N
    = dgain (m ((c : Thread nD τ).loc main_arg0)) (m ((c : Thread nD τ).loc main_arg2)) (m ((c : Thread nD τ).loc main_arg3)) :=
  (dats m 0 c).arrAt_eq_of_cover 6 _ (fun t hf => flushed6_eq m c t hf) fun i =>
    ⟨t0_3, (flush0_6 t0_3).mpr rfl, by
      show i ∈ ((View.whole main_v4_1).slice (win0_6.rect t0_3)).set
      rw [View.set_slice_whole, Rect.mem_set_unit]
      intro a
      have := (i a).isLt
      match a with
      | ⟨0, _⟩ => exact ⟨Nat.zero_le _, by show (i 0).val < win0_6.index t0_3 0 * 8 + 8; have : win0_6.index t0_3 0 = 0 := by decide
                                           rw [this]; exact (i 0).isLt⟩
      | ⟨1, _⟩ => exact ⟨Nat.zero_le _, by show (i 1).val < win0_6.index t0_3 1 * 1024 + 1024; have : win0_6.index t0_3 1 = 0 := by decide
                                           rw [this]; exact (i 1).isLt⟩⟩

end Cert.Ff1DgradIdeal.Product

namespace Cert.Proof.Ff1Dgrad

open Cert.Ff1DgradRefIdeal Cert.Ff1DgradRefIdeal.Read Cert.Ff1DgradIdeal.Product Cert.Proof.RmsGrad

/-- The reference's gradient of the stream, entry by entry, is the same. -/
theorem reference_dx (x : Vec Ideal Cert.Ff1DgradRefIdeal.S2048x1024 .f32) (g : Vec Ideal Cert.Ff1DgradRefIdeal.S1x1024 .f32)
    (w : Vec Ideal Cert.Ff1DgradRefIdeal.S1024x4096 .f32) (ct : Vec Ideal Cert.Ff1DgradRefIdeal.S2048x4096 .f32)
    (res : Vec Ideal Cert.Ff1DgradRefIdeal.S2048x1024 .f32) : val_main_v36 (F := Ideal) x g w ct res = dx x res g w ct := by
  funext j
  obtain ⟨p, q, rfl⟩ : ∃ (p : Fin 2048) (q : Fin 1024), j = ix2 p q := ⟨j 0, j 1, by funext a; fin_cases a <;> rfl⟩
  pointwise [val_main_v36, val_main_v35, val_main_v34, val_main_v33, val_main_v32, val_main_v31, val_main_v30, val_main_v29, val_main_v28,
    val_main_v27, val_main_v26, val_main_v25, val_main_v24, val_main_v23, val_main_v22, val_main_v21, val_main_v20, val_main_v16,
    val_main_v12, val_main_v11, val_main_v10, val_main_v9, val_main_v8, val_main_v7, val_main_v6, val_main_v5, val_main_v4, val_main_v3,
    val_main_v2, val_main_v1, val_main_v0, val_main_cst, val_main_cst_0, val_main_cst_1, val_main_cst_2, val_main_cst_3, val_main_cst_4,
    val_main_cst_5, val_main_cst_6]
  rw [Fin.sum_univ_one]
  exact (dx_eq (fun n => x (ix2 p n)) (fun n => dh w ct p n * g (ix2 0 n)) (res (ix2 p q)) q).symm

/-- The reference's gradient of the gain, entry by entry, is the same. -/
theorem reference_dgain (x : Vec Ideal Cert.Ff1DgradRefIdeal.S2048x1024 .f32) (w : Vec Ideal Cert.Ff1DgradRefIdeal.S1024x4096 .f32)
    (ct : Vec Ideal Cert.Ff1DgradRefIdeal.S2048x4096 .f32) : val_main_v38 (F := Ideal) x w ct = dgain x w ct := by
  funext j
  obtain ⟨a, q, rfl⟩ : ∃ (a : Fin 8) (q : Fin 1024), j = ix2 a q := ⟨j 0, j 1, by funext a; fin_cases a <;> rfl⟩
  pointwise [val_main_v38, val_main_v37, val_main_v19, val_main_v18, val_main_v17, val_main_v16, val_main_v12, val_main_v11, val_main_v10,
    val_main_v9, val_main_v8, val_main_v7, val_main_v6, val_main_v5, val_main_v4, val_main_v3, val_main_v2, val_main_v1, val_main_v0,
    val_main_cst, val_main_cst_0, val_main_cst_1, val_main_cst_2, val_main_cst_3, val_main_cst_4, val_main_cst_5, val_main_cst_6,
    val_main_cst_7]
  show _ = if a.val = 0 then ∑ p : Fin 2048, share x w ct p q else 0
  by_cases ha : a.val = 0
  · rw [if_pos ha, dif_pos (by omega)]
    exact Finset.sum_congr rfl fun p _ => mul_comm _ _
  · rw [if_neg ha, dif_neg (by omega)]

/-- The kernel's two gradients are the reference's. -/
theorem algebraic : Cert.algebraic_Ff1DgradIdeal_Ff1DgradRefIdeal := by
  intro m ρ m' ρ' _ hagree
  refine ⟨fun c => dx (m ((c.tc : Thread _ _).loc Cert.Ff1DgradIdeal.main_arg0)) (m ((c.tc : Thread _ _).loc Cert.Ff1DgradIdeal.main_arg4))
      (m ((c.tc : Thread _ _).loc Cert.Ff1DgradIdeal.main_arg1)) (m ((c.tc : Thread _ _).loc Cert.Ff1DgradIdeal.main_arg2))
      (m ((c.tc : Thread _ _).loc Cert.Ff1DgradIdeal.main_arg3)),
    fun c => dgain (m ((c.tc : Thread _ _).loc Cert.Ff1DgradIdeal.main_arg0)) (m ((c.tc : Thread _ _).loc Cert.Ff1DgradIdeal.main_arg2))
      (m ((c.tc : Thread _ _).loc Cert.Ff1DgradIdeal.main_arg3)), ?_, ?_⟩
  · exact (θ_run Cert.Ff1DgradIdeal.defs _ _).mono
      (fun _ h c => ⟨(h c).1.trans (final5 m c), (h c).2.1.trans (final6 m c), (h c).2.2⟩)
      (Cert.Ff1DgradIdeal.Value.run_blocks (F := Ideal) m ρ)
  · refine (θ_run Cert.Ff1DgradRefIdeal.defs _ _).mono (fun _ h c => ⟨(h c).1.trans ?_, (h c).2.1.trans ?_, (h c).2.2⟩)
      (Cert.Ff1DgradRefIdeal.Value.run (F := Ideal) m' ρ')
    · rw [val_main_v36_eq, (hagree c).1, (hagree c).2.1, (hagree c).2.2.1, (hagree c).2.2.2.1, (hagree c).2.2.2.2]
      exact reference_dx _ _ _ _ _
    · rw [(hagree c).1, (hagree c).2.2.1, (hagree c).2.2.2.1]
      exact reference_dgain _ _ _

end Cert.Proof.Ff1Dgrad
-- ==== Proof.Ff1Wgrad.lean ====
/-
  The gradient of the first MLP weight.
  Each grid point multiplies the transposed rows of one operand with the other and writes one block of the weight gradient:
  what one point computes (`pay_apply`), where the blocks lie, what the output array holds (`final`), what the reference
  computes (`reference_eq`), and the claim that the two agree (`algebraic`).
-/
module

public import proofs.«01_k».proof.Defs
public import proofs.«01_k».proof.Proof.Gen.Ff1WgradIdeal.Value
public import proofs.«01_k».proof.Proof.Gen.Ff1WgradRefIdeal.Read
public import Idealize.ShloMosaic.Lib.Pointwise
public import Idealize.ShloMosaic.Lib.StableHlo.ReadAt

@[expose] public section

noncomputable section

open Idealize.ShloMosaic Idealize.ShloMosaic.TcCoe Idealize.SL.Sem
open Idealize.ShloMosaic.Pipeline (Dat)

namespace Cert.Ff1WgradIdeal.Product

open Cert.Ff1WgradIdeal Cert.Ff1WgradIdeal.Gen

variable (m : (ℓ : Loc nD τ sig) → Buf (Elt Ideal) ℓ) (ρ : Dev nD → PrngReg)

theorem zero2 : (![0, 0] : Fin 2 → Nat) = fun _ => 0 := funext fun a => by fin_cases a <;> rfl
theorem zero3 : (![0, 0, 0] : Fin 3 → Nat) = fun _ => 0 := funext fun a => by fin_cases a <;> rfl

/-- What one grid point computes: row `q`, column `r` of its block is the sum over the 2048 tokens of the products. -/
theorem pay_apply (x : Vec Ideal S2048x1024 .bf16) (y : Vec Ideal S2048x1024 .bf16) (p : Fin 1) (q : Fin 1024) (r : Fin 1024) :
    k0_pay1 x y (ix3 p q r) = ∑ n : Fin 2048, x (ix2 n q) * y (ix2 n r) := by
  pointwise [k0_pay1]

/-- The block index of window 0 at grid point `t`. -/
theorem index0 : ∀ t : Fin grid0.N, win0_0.index t 0 = 0 ∧ win0_0.index t 1 = 0 := by decide +kernel

/-- What the first operand's block holds at grid point `t`. -/
theorem block0_apply (c : Dev nD) (t : Fin cfg0.N) (p : Fin 2048) (q : Fin 1024) (i : S2048x1024.Idx)
    (h0 : (i 0).val = p.val) (h1 : (i 1).val = q.val) :
    iblk m c 0 t (ix2 p q) = V m c main_v0 i := by
  show V m c main_v0 ((win0_0.rect t).emb (ix2 p q)) = V m c main_v0 i
  have e := index0 t
  congr 1
  funext a
  apply Fin.ext
  rw [win0_0.rect_emb_val]
  match a with
  | ⟨0, _⟩ => show win0_0.index t 0 * 2048 + p.val = (i 0).val; omega
  | ⟨1, _⟩ => show win0_0.index t 1 * 1024 + q.val = (i 1).val; omega

/-- The block index of window 1 at grid point `t`. -/
theorem index1 : ∀ t : Fin grid0.N, win0_1.index t 0 = 0 ∧ win0_1.index t 1 = t.val := by decide +kernel

/-- What the second operand's block holds at grid point `t`. -/
theorem block1_apply (c : Dev nD) (t : Fin cfg0.N) (p : Fin 2048) (q : Fin 1024) (i : S2048x4096.Idx)
    (h0 : (i 0).val = p.val) (h1 : (i 1).val = t.val * 1024 + q.val) :
    iblk m c 1 t (ix2 p q) = V m c main_v1 i := by
  show V m c main_v1 ((win0_1.rect t).emb (ix2 p q)) = V m c main_v1 i
  have e := index1 t
  congr 1
  funext a
  apply Fin.ext
  rw [win0_1.rect_emb_val]
  match a with
  | ⟨0, _⟩ => show win0_1.index t 0 * 2048 + p.val = (i 0).val; omega
  | ⟨1, _⟩ => show win0_1.index t 1 * 1024 + q.val = (i 1).val; omega

/-- The block index of the output window 2 at grid point `t`. -/
theorem index2 : ∀ t : Fin grid0.N, win0_2.index t 0 = t.val ∧ win0_2.index t 1 = 0 ∧ win0_2.index t 2 = 0 := by decide +kernel

/-- Where element (p, q, r) of the block written at point `t` sits in the output array. -/
theorem place2 (t : Fin cfg0.N) (p : Fin 1) (q : Fin 1024) (r : Fin 1024) :
    ((win0_2.rect t).emb (ix3 p q r) 0).val = t.val * 1 + p.val ∧ ((win0_2.rect t).emb (ix3 p q r) 1).val = q.val ∧ ((win0_2.rect t).emb (ix3 p q r) 2).val = r.val := by
  have e := index2 t
  refine ⟨?_, ?_, ?_⟩
  · rw [win0_2.rect_emb_val]; show win0_2.index t 0 * 1 + p.val = _; omega
  · rw [win0_2.rect_emb_val]; show win0_2.index t 1 * 1024 + q.val = _; omega
  · rw [win0_2.rect_emb_val]; show win0_2.index t 2 * 1024 + r.val = _; omega

/-- Every element of the output array lies in some point's block. -/
theorem cover2 (i : S4x1024x1024.Idx) : ∃ t : Fin cfg0.N, (cfg0.win 2).flush t = true ∧ i ∈ ((cfg0.win 2).blk t).view.set := by
  have h0 : (i 0 : Nat) < 4 := (i 0).isLt
  have h1 : (i 1 : Nat) < 1024 := (i 1).isLt
  have h2 : (i 2 : Nat) < 1024 := (i 2).isLt
  have hN : cfg0.N = 4 := N_0
  obtain ⟨t, ht⟩ : ∃ t : Fin cfg0.N, t.val = (i 0).val := ⟨⟨(i 0).val, by omega⟩, rfl⟩
  have e := index2 t
  refine ⟨t, flush0_2 _, ?_⟩
  show i ∈ ((View.whole main_v2).slice (win0_2.rect t)).set
  rw [View.set_slice_whole, Rect.mem_set_unit]
  intro a
  match a with
  | ⟨0, _⟩ =>
    show win0_2.index t 0 * 1 ≤ (i 0).val ∧ (i 0).val < win0_2.index t 0 * 1 + 1
    omega
  | ⟨1, _⟩ =>
    show win0_2.index t 1 * 1024 ≤ (i 1).val ∧ (i 1).val < win0_2.index t 1 * 1024 + 1024
    omega
  | ⟨2, _⟩ =>
    show win0_2.index t 2 * 1024 ≤ (i 2).val ∧ (i 2).val < win0_2.index t 2 * 1024 + 1024
    omega

/-- Column `b` of chip `a`'s block, in the whole array. -/
def blockCol (a : Fin 4) (b : Fin 1024) : Fin 4096 := ⟨a.val * 1024 + b.val, by omega⟩

/-- The weight gradient of all four blocks: entry (q, r) of block `a` is the sum over the tokens. -/
def grad (x : Vec Ideal S2048x1024 .f32) (ct : Vec Ideal S2048x4096 .f32) : Vec Ideal S4x1024x1024 .f32 := fun i =>
  (∑ n : Fin 2048, (x (ix2 n (i 1)) : EReal) * (ct (ix2 n (blockCol (i 0) (i 2))) : EReal) : EReal)

/-- The first operand as the call finds it, in terms of the arguments. -/
theorem operand0 (c : Dev nD) (n : Fin 2048) (k : Fin 1024) :
    V m c main_v0 (ix2 n k) = m ((c : Thread nD τ).loc main_arg0) (ix2 n k) := by
  unfold V
  after_reads_at

/-- The second operand as the call finds it. -/
theorem operand1 (c : Dev nD) (n : Fin 2048) (k : Fin 4096) :
    V m c main_v1 (ix2 n k) = m ((c : Thread nD τ).loc main_arg2) (ix2 n k) := by
  unfold V
  after_reads_at

/-- A sum over two blocks is the gradient's entry once each block's entries are the operands' entries. -/
theorem assemble (x : Vec Ideal S2048x1024 .bf16) (y : Vec Ideal S2048x1024 .bf16) (X : Vec Ideal S2048x1024 .f32) (Y : Vec Ideal S2048x4096 .f32)
    (q : Fin 1024) (r : Fin 1024) (i : S4x1024x1024.Idx) (hx : ∀ n : Fin 2048, x (ix2 n q) = X (ix2 n (i 1)))
    (hy : ∀ n : Fin 2048, y (ix2 n r) = Y (ix2 n (blockCol (i 0) (i 2)))) :
    ∑ n : Fin 2048, x (ix2 n q) * y (ix2 n r) = grad X Y i :=
  Finset.sum_congr rfl fun n _ => by rw [hx, hy]

/-- What point `t` writes back is its block of the gradient. -/
theorem flushed_eq (c : Dev nD) (t : Fin cfg0.N) :
    (dats m 0 c).flushed 2 t = (win0_2.blk t).view.read (Elt Ideal)
      (grad (m ((c : Thread nD τ).loc main_arg0)) (m ((c : Thread nD τ).loc main_arg2))) := by
  rw [Value.flushed2]
  unfold out0_2
  rw [View.canon_unit_zero zero3, View.ld_unit_zero zero2, View.ld_unit_zero zero2]
  funext j
  obtain ⟨p, q, r, rfl⟩ : ∃ (p : Fin 1) (q : Fin 1024) (r : Fin 1024), j = ix3 p q r :=
    ⟨j 0, j 1, j 2, by funext a; fin_cases a <;> rfl⟩
  refine (pay_apply _ _ p q r).trans ?_
  have hp := p.isLt
  show _ = grad _ _ ((win0_2.rect t).emb (ix3 p q r))
  obtain ⟨e0, e1, e2⟩ := place2 t p q r
  exact assemble _ _ _ _ q r ((win0_2.rect t).emb (ix3 p q r))
    (fun n => (block0_apply m c t n q (ix2 n _) rfl (by
      exact e1)).trans (operand0 m c _ _))
    (fun n => (block1_apply m c t n r (ix2 n _) rfl (by
      show ((win0_2.rect t).emb (ix3 p q r) 0).val * 1024 + ((win0_2.rect t).emb (ix3 p q r) 2).val = _; rw [e0, e2]; omega)).trans (operand1 m c _ _))

/-- After the run the output array holds the gradient. -/
theorem final (c : Dev nD) : (dats m 0 c).arrAt 2 cfg0.N
    = grad (m ((c : Thread nD τ).loc main_arg0)) (m ((c : Thread nD τ).loc main_arg2)) :=
  (dats m 0 c).arrAt_eq_of_cover 2 _ (fun t _ => flushed_eq m c t) cover2

end Cert.Ff1WgradIdeal.Product

namespace Cert.Proof.Ff1Wgrad

open Cert.Ff1WgradRefIdeal Cert.Ff1WgradRefIdeal.Read Cert.Ff1WgradIdeal.Product in
/-- The reference's gradient, entry by entry, is the same sum. -/
theorem reference_eq (x : Vec Ideal Cert.Ff1WgradRefIdeal.S2048x1024 .f32) (ct : Vec Ideal Cert.Ff1WgradRefIdeal.S2048x4096 .f32) :
    val_main_v4 (F := Ideal) x ct = grad x ct := by
  funext j
  obtain ⟨p, q, r, rfl⟩ : ∃ (p : Fin 4) (q : Fin 1024) (r : Fin 1024), j = ix3 p q r :=
    ⟨j 0, j 1, j 2, by funext a; fin_cases a <;> rfl⟩
  pointwise [val_main_v4, val_main_v3, val_main_v2, val_main_v1]
  exact Finset.sum_congr rfl fun n _ => mul_comm _ _

/-- The kernel's weight gradient is the reference's. -/
theorem algebraic : Cert.algebraic_Ff1WgradIdeal_Ff1WgradRefIdeal := by
  intro m ρ m' ρ' _ hagree
  refine ⟨fun c => Cert.Ff1WgradIdeal.Product.grad (m ((c.tc : Thread _ _).loc Cert.Ff1WgradIdeal.main_arg0))
    (m ((c.tc : Thread _ _).loc Cert.Ff1WgradIdeal.main_arg2)), ?_, ?_⟩
  · exact (θ_run Cert.Ff1WgradIdeal.defs _ _).mono
      (fun _ h c => ⟨(h c).1.trans (Cert.Ff1WgradIdeal.Product.final m c), (h c).2⟩)
      (Cert.Ff1WgradIdeal.Value.run_blocks (F := Ideal) m ρ)
  · refine (θ_run Cert.Ff1WgradRefIdeal.defs _ _).mono (fun _ h c => ⟨(h c).1.trans ?_, (h c).2⟩)
      (Cert.Ff1WgradRefIdeal.Value.run (F := Ideal) m' ρ')
    rw [(hagree c).1, (hagree c).2.2]
    exact reference_eq _ _

end Cert.Proof.Ff1Wgrad
-- ==== Proof.OutDgrad.lean ====
/-
  The gradient of the output projection's operand: the incoming gradient times the transposed weight.
  Each grid point computes 512 rows: what one point computes (`pay_apply`), where the blocks lie, what the output array holds
  (`final`), what the reference computes (`reference_eq`), and the claim that the two agree (`algebraic`).
-/
module

public import proofs.«01_k».proof.Defs
public import proofs.«01_k».proof.Proof.Gen.OutDgradIdeal.Value
public import proofs.«01_k».proof.Proof.Gen.OutDgradRefIdeal.Read
public import Idealize.ShloMosaic.Lib.Pointwise
public import Idealize.ShloMosaic.Lib.StableHlo.ReadAt

@[expose] public section

noncomputable section

open Idealize.ShloMosaic Idealize.ShloMosaic.TcCoe Idealize.SL.Sem
open Idealize.ShloMosaic.Pipeline (Dat)

namespace Cert.OutDgradIdeal.Product

open Cert.OutDgradIdeal Cert.OutDgradIdeal.Gen

variable (m : (ℓ : Loc nD τ sig) → Buf (Elt Ideal) ℓ) (ρ : Dev nD → PrngReg)

theorem hz : (![0, 0] : Fin 2 → Nat) = fun _ => 0 := funext fun a => by fin_cases a <;> rfl

/-- What one grid point computes, entry by entry. -/
theorem pay_apply (x0 : Vec Ideal S512x1024 .f32) (x1 : Vec Ideal S1024x1024 .bf16) (r : Fin 512) (k : Fin 1024) :
    k0_pay1 x0 x1 (ix2 r k) = ∑ n : Fin 1024, x0 (ix2 r n) * x1 (ix2 k n) := by
  pointwise [k0_pay1]

/-- The weight as the call finds it. -/
theorem weight_apply (c : Dev nD) (k n : Fin 1024) :
    V m c main_v2 (ix2 k n) = m ((c : Thread nD τ).loc main_arg1) (ix2 k n) := by
  unfold V
  after_reads_at
  show _ = m (c, Proc.tc.devRef main_arg1) (ix2 k n)
  congr 2
  apply Fin.ext
  simp only
  omega

/-- The gradient. -/
def grad (ct : Vec Ideal S2048x1024 .f32) (w : Vec Ideal S1024x1024 .f32) : Vec Ideal S2048x1024 .bf16 := fun i =>
  (∑ n : Fin 1024, (ct (ix2 (i 0) n) : EReal) * (w (ix2 (i 1) n) : EReal) : EReal)

/-- Where each window's block lies at grid point `t`. -/
theorem idx_facts : ∀ t : Fin grid0.N, win0_0.index t 0 = t.val ∧ win0_0.index t 1 = 0 ∧ win0_1.index t 0 = 0 ∧ win0_1.index t 1 = 0
    ∧ win0_2.index t 0 = t.val ∧ win0_2.index t 1 = 0 := by decide +kernel

/-- What the block of the incoming gradient holds at grid point `t`. -/
theorem block0_apply (c : Dev nD) (t : Fin cfg0.N) (r : Fin 512) (n : Fin 1024) (i : S2048x1024.Idx)
    (h0 : (i 0).val = t.val * 512 + r.val) (h1 : (i 1).val = n.val) :
    iblk m c 0 t (ix2 r n) = m ((c : Thread nD τ).loc main_arg2) i := by
  rw [← V_main_arg2 m c]
  show V m c main_arg2 ((win0_0.rect t).emb (ix2 r n)) = V m c main_arg2 i
  congr 1
  funext a
  apply Fin.ext
  rw [win0_0.rect_emb_val]
  match a with
  | ⟨0, _⟩ => show win0_0.index t 0 * 512 + r.val = (i 0).val; rw [(idx_facts t).1]; omega
  | ⟨1, _⟩ => show win0_0.index t 1 * 1024 + n.val = (i 1).val; rw [(idx_facts t).2.1]; omega

/-- The weight's block is the whole weight at every grid point. -/
theorem block1_apply (c : Dev nD) (t : Fin cfg0.N) (k n : Fin 1024) (i : S1024x1024.Idx)
    (h0 : (i 0).val = k.val) (h1 : (i 1).val = n.val) :
    iblk m c 1 t (ix2 k n) = m ((c : Thread nD τ).loc main_arg1) i := by
  have e : i = ix2 k n := by idx_ext <;> assumption
  rw [e, ← weight_apply m c]
  show V m c main_v2 ((win0_1.rect t).emb (ix2 k n)) = _
  congr 1
  funext a
  apply Fin.ext
  rw [win0_1.rect_emb_val]
  match a with
  | ⟨0, _⟩ => show win0_1.index t 0 * 1024 + k.val = k.val; rw [(idx_facts t).2.2.1]; omega
  | ⟨1, _⟩ => show win0_1.index t 1 * 1024 + n.val = n.val; rw [(idx_facts t).2.2.2.1]; omega

/-- What point `t` writes back is its block of the gradient. -/
theorem flushed_eq (c : Dev nD) (t : Fin cfg0.N) :
    (dats m 0 c).flushed 2 t = (win0_2.blk t).view.read (Elt Ideal) (grad (m ((c : Thread nD τ).loc main_arg2)) (m ((c : Thread nD τ).loc main_arg1))) := by
  rw [Value.flushed2]
  unfold out0_2
  rw [View.canon_unit_zero hz, View.ld_unit_zero hz, View.ld_unit_zero hz]
  funext j
  obtain ⟨r, k, rfl⟩ : ∃ (r : Fin 512) (k : Fin 1024), j = ix2 r k := ⟨j 0, j 1, by funext a; fin_cases a <;> rfl⟩
  refine (pay_apply _ _ r k).trans ?_
  show _ = grad _ _ ((win0_2.rect t).emb (ix2 r k))
  unfold grad
  refine Finset.sum_congr rfl fun n _ => ?_
  have e0 : (((win0_2.rect t).emb (ix2 r k)) 0).val = t.val * 512 + r.val := by
    rw [win0_2.rect_emb_val]; show win0_2.index t 0 * 512 + r.val = _; rw [(idx_facts t).2.2.2.2.1]
  have e1 : (((win0_2.rect t).emb (ix2 r k)) 1).val = k.val := by
    rw [win0_2.rect_emb_val]; show win0_2.index t 1 * 1024 + k.val = _; rw [(idx_facts t).2.2.2.2.2]; omega
  rw [block0_apply m c t r n (ix2 (((win0_2.rect t).emb (ix2 r k)) 0) n) e0 rfl, block1_apply m c t k n (ix2 (((win0_2.rect t).emb (ix2 r k)) 1) n) e1 rfl]

/-- Every entry lies in the block of the point that owns its row. -/
theorem cover (i : S2048x1024.Idx) : ∃ t : Fin cfg0.N, (cfg0.win 2).flush t = true ∧ i ∈ ((cfg0.win 2).blk t).view.set := by
  have h0 : (i 0 : Nat) < 2048 := (i 0).isLt
  have h1 : (i 1 : Nat) < 1024 := (i 1).isLt
  have hN : cfg0.N = 4 := N_0
  obtain ⟨t, ht⟩ : ∃ t : Fin cfg0.N, t.val = (i 0).val / 512 := ⟨⟨(i 0).val / 512, by omega⟩, rfl⟩
  refine ⟨t, flush0_2 _, ?_⟩
  show i ∈ ((View.whole main_v3).slice (win0_2.rect t)).set
  rw [View.set_slice_whole, Rect.mem_set_unit]
  intro a
  match a with
  | ⟨0, _⟩ =>
    show win0_2.index t 0 * 512 ≤ (i 0).val ∧ (i 0).val < win0_2.index t 0 * 512 + 512
    rw [(idx_facts _).2.2.2.2.1]; omega
  | ⟨1, _⟩ =>
    show win0_2.index t 1 * 1024 ≤ (i 1).val ∧ (i 1).val < win0_2.index t 1 * 1024 + 1024
    rw [(idx_facts _).2.2.2.2.2]; omega

/-- After the run the output array holds the gradient. -/
theorem final (c : Dev nD) : (dats m 0 c).arrAt 2 cfg0.N = grad (m ((c : Thread nD τ).loc main_arg2)) (m ((c : Thread nD τ).loc main_arg1)) :=
  (dats m 0 c).arrAt_eq_of_cover 2 _ (fun t _ => flushed_eq m c t) cover

end Cert.OutDgradIdeal.Product

namespace Cert.Proof.OutDgrad

open Cert.OutDgradRefIdeal.Read in
/-- The reference's gradient, entry by entry, is the same. -/
theorem reference_eq (x1 : Vec Ideal Cert.OutDgradRefIdeal.S1024x1024 .f32) (x2 : Vec Ideal Cert.OutDgradRefIdeal.S2048x1024 .f32) :
    val_main_v2 (F := Ideal) x1 x2 = Cert.OutDgradIdeal.Product.grad x2 x1 := by
  funext i
  rw [val_main_v2_apply, val_main_v1_apply]
  show (∑ k : Fin 1024, (x2 (lidx_main_v1 i k) : EReal) * (x1 (ridx_main_v1 i k) : EReal)) = Cert.OutDgradIdeal.Product.grad x2 x1 i
  unfold Cert.OutDgradIdeal.Product.grad
  refine Finset.sum_congr rfl fun n _ => ?_
  congr 2 <;> (funext a; fin_cases a <;> rfl)

/-- The kernel's gradient is the reference's. -/
theorem algebraic : Cert.algebraic_OutDgradIdeal_OutDgradRefIdeal := by
  intro m ρ m' ρ' _ hagree
  refine ⟨fun c => Cert.OutDgradIdeal.Product.grad (m ((c.tc : Thread _ _).loc Cert.OutDgradIdeal.main_arg2)) (m ((c.tc : Thread _ _).loc Cert.OutDgradIdeal.main_arg1)), ?_, ?_⟩
  · exact (θ_run Cert.OutDgradIdeal.defs _ _).mono
      (fun _ h c => ⟨(h c).1.trans (Cert.OutDgradIdeal.Product.final m c), (h c).2⟩)
      (Cert.OutDgradIdeal.Value.run_blocks (F := Ideal) m ρ)
  · refine (θ_run Cert.OutDgradRefIdeal.defs _ _).mono (fun _ h c => ⟨(h c).1.trans ?_, (h c).2⟩)
      (Cert.OutDgradRefIdeal.Value.run (F := Ideal) m' ρ')
    rw [(hagree c).2.2, (hagree c).2.1]
    exact reference_eq _ _

end Cert.Proof.OutDgrad
-- ==== Proof.OutWgrad.lean ====
/-
  The gradient of the output projection's weight.
  Each grid point multiplies the transposed rows of one operand with the other and writes one block of the weight gradient:
  what one point computes (`pay_apply`), where the blocks lie, what the output array holds (`final`), what the reference
  computes (`reference_eq`), and the claim that the two agree (`algebraic`).
-/
module

public import proofs.«01_k».proof.Defs
public import proofs.«01_k».proof.Proof.Gen.OutWgradIdeal.Value
public import proofs.«01_k».proof.Proof.Gen.OutWgradRefIdeal.Read
public import Idealize.ShloMosaic.Lib.Pointwise
public import Idealize.ShloMosaic.Lib.StableHlo.ReadAt

@[expose] public section

noncomputable section

open Idealize.ShloMosaic Idealize.ShloMosaic.TcCoe Idealize.SL.Sem
open Idealize.ShloMosaic.Pipeline (Dat)

namespace Cert.OutWgradIdeal.Product

open Cert.OutWgradIdeal Cert.OutWgradIdeal.Gen

variable (m : (ℓ : Loc nD τ sig) → Buf (Elt Ideal) ℓ) (ρ : Dev nD → PrngReg)

theorem zero2 : (![0, 0] : Fin 2 → Nat) = fun _ => 0 := funext fun a => by fin_cases a <;> rfl
theorem zero3 : (![0, 0, 0] : Fin 3 → Nat) = fun _ => 0 := funext fun a => by fin_cases a <;> rfl

/-- What one grid point computes: row `q`, column `r` of its block is the sum over the 2048 tokens of the products. -/
theorem pay_apply (x : Vec Ideal S2048x256 .bf16) (y : Vec Ideal S2048x1024 .f32) (p : Fin 1) (q : Fin 256) (r : Fin 1024) :
    k0_pay1 x y (ix3 p q r) = ∑ n : Fin 2048, x (ix2 n q) * y (ix2 n r) := by
  pointwise [k0_pay1]

/-- The block index of window 0 at grid point `t`. -/
theorem index0 : ∀ t : Fin grid0.N, win0_0.index t 0 = 0 ∧ win0_0.index t 1 = t.val := by decide +kernel

/-- What the first operand's block holds at grid point `t`. -/
theorem block0_apply (c : Dev nD) (t : Fin cfg0.N) (p : Fin 2048) (q : Fin 256) (i : S2048x1024.Idx)
    (h0 : (i 0).val = p.val) (h1 : (i 1).val = t.val * 256 + q.val) :
    iblk m c 0 t (ix2 p q) = V m c main_v0 i := by
  show V m c main_v0 ((win0_0.rect t).emb (ix2 p q)) = V m c main_v0 i
  have e := index0 t
  congr 1
  funext a
  apply Fin.ext
  rw [win0_0.rect_emb_val]
  match a with
  | ⟨0, _⟩ => show win0_0.index t 0 * 2048 + p.val = (i 0).val; omega
  | ⟨1, _⟩ => show win0_0.index t 1 * 256 + q.val = (i 1).val; omega

/-- The block index of window 1 at grid point `t`. -/
theorem index1 : ∀ t : Fin grid0.N, win0_1.index t 0 = 0 ∧ win0_1.index t 1 = 0 := by decide +kernel

/-- What the second operand's block holds at grid point `t`. -/
theorem block1_apply (c : Dev nD) (t : Fin cfg0.N) (p : Fin 2048) (q : Fin 1024) (i : S2048x1024.Idx)
    (h0 : (i 0).val = p.val) (h1 : (i 1).val = q.val) :
    iblk m c 1 t (ix2 p q) = V m c main_arg2 i := by
  show V m c main_arg2 ((win0_1.rect t).emb (ix2 p q)) = V m c main_arg2 i
  have e := index1 t
  congr 1
  funext a
  apply Fin.ext
  rw [win0_1.rect_emb_val]
  match a with
  | ⟨0, _⟩ => show win0_1.index t 0 * 2048 + p.val = (i 0).val; omega
  | ⟨1, _⟩ => show win0_1.index t 1 * 1024 + q.val = (i 1).val; omega

/-- The block index of the output window 2 at grid point `t`. -/
theorem index2 : ∀ t : Fin grid0.N, win0_2.index t 0 = t.val ∧ win0_2.index t 1 = 0 ∧ win0_2.index t 2 = 0 := by decide +kernel

/-- Where element (p, q, r) of the block written at point `t` sits in the output array. -/
theorem place2 (t : Fin cfg0.N) (p : Fin 1) (q : Fin 256) (r : Fin 1024) :
    ((win0_2.rect t).emb (ix3 p q r) 0).val = t.val * 1 + p.val ∧ ((win0_2.rect t).emb (ix3 p q r) 1).val = q.val ∧ ((win0_2.rect t).emb (ix3 p q r) 2).val = r.val := by
  have e := index2 t
  refine ⟨?_, ?_, ?_⟩
  · rw [win0_2.rect_emb_val]; show win0_2.index t 0 * 1 + p.val = _; omega
  · rw [win0_2.rect_emb_val]; show win0_2.index t 1 * 256 + q.val = _; omega
  · rw [win0_2.rect_emb_val]; show win0_2.index t 2 * 1024 + r.val = _; omega

/-- Every element of the output array lies in some point's block. -/
theorem cover2 (i : S4x256x1024.Idx) : ∃ t : Fin cfg0.N, (cfg0.win 2).flush t = true ∧ i ∈ ((cfg0.win 2).blk t).view.set := by
  have h0 : (i 0 : Nat) < 4 := (i 0).isLt
  have h1 : (i 1 : Nat) < 256 := (i 1).isLt
  have h2 : (i 2 : Nat) < 1024 := (i 2).isLt
  have hN : cfg0.N = 4 := N_0
  obtain ⟨t, ht⟩ : ∃ t : Fin cfg0.N, t.val = (i 0).val := ⟨⟨(i 0).val, by omega⟩, rfl⟩
  have e := index2 t
  refine ⟨t, flush0_2 _, ?_⟩
  show i ∈ ((View.whole main_v1).slice (win0_2.rect t)).set
  rw [View.set_slice_whole, Rect.mem_set_unit]
  intro a
  match a with
  | ⟨0, _⟩ =>
    show win0_2.index t 0 * 1 ≤ (i 0).val ∧ (i 0).val < win0_2.index t 0 * 1 + 1
    omega
  | ⟨1, _⟩ =>
    show win0_2.index t 1 * 256 ≤ (i 1).val ∧ (i 1).val < win0_2.index t 1 * 256 + 256
    omega
  | ⟨2, _⟩ =>
    show win0_2.index t 2 * 1024 ≤ (i 2).val ∧ (i 2).val < win0_2.index t 2 * 1024 + 1024
    omega

/-- Column `b` of chip `a`'s block, in the whole array. -/
def blockCol (a : Fin 4) (b : Fin 256) : Fin 1024 := ⟨a.val * 256 + b.val, by omega⟩

/-- The weight gradient of all four blocks: entry (q, r) of block `a` is the sum over the tokens. -/
def grad (x : Vec Ideal S2048x1024 .f32) (ct : Vec Ideal S2048x1024 .f32) : Vec Ideal S4x256x1024 .f32 := fun i =>
  (∑ n : Fin 2048, (x (ix2 n (blockCol (i 0) (i 1))) : EReal) * (ct (ix2 n (i 2)) : EReal) : EReal)

/-- The first operand as the call finds it, in terms of the arguments. -/
theorem operand0 (c : Dev nD) (n : Fin 2048) (k : Fin 1024) :
    V m c main_v0 (ix2 n k) = m ((c : Thread nD τ).loc main_arg0) (ix2 n k) := by
  unfold V
  after_reads_at

/-- The second operand as the call finds it. -/
theorem operand1 (c : Dev nD) (n : Fin 2048) (k : Fin 1024) :
    V m c main_arg2 (ix2 n k) = m ((c : Thread nD τ).loc main_arg2) (ix2 n k) := by
  rw [V_main_arg2]

/-- A sum over two blocks is the gradient's entry once each block's entries are the operands' entries. -/
theorem assemble (x : Vec Ideal S2048x256 .bf16) (y : Vec Ideal S2048x1024 .f32) (X : Vec Ideal S2048x1024 .f32) (Y : Vec Ideal S2048x1024 .f32)
    (q : Fin 256) (r : Fin 1024) (i : S4x256x1024.Idx) (hx : ∀ n : Fin 2048, x (ix2 n q) = X (ix2 n (blockCol (i 0) (i 1))))
    (hy : ∀ n : Fin 2048, y (ix2 n r) = Y (ix2 n (i 2))) :
    ∑ n : Fin 2048, x (ix2 n q) * y (ix2 n r) = grad X Y i :=
  Finset.sum_congr rfl fun n _ => by rw [hx, hy]

/-- What point `t` writes back is its block of the gradient. -/
theorem flushed_eq (c : Dev nD) (t : Fin cfg0.N) :
    (dats m 0 c).flushed 2 t = (win0_2.blk t).view.read (Elt Ideal)
      (grad (m ((c : Thread nD τ).loc main_arg0)) (m ((c : Thread nD τ).loc main_arg2))) := by
  rw [Value.flushed2]
  unfold out0_2
  rw [View.canon_unit_zero zero3, View.ld_unit_zero zero2, View.ld_unit_zero zero2]
  funext j
  obtain ⟨p, q, r, rfl⟩ : ∃ (p : Fin 1) (q : Fin 256) (r : Fin 1024), j = ix3 p q r :=
    ⟨j 0, j 1, j 2, by funext a; fin_cases a <;> rfl⟩
  refine (pay_apply _ _ p q r).trans ?_
  have hp := p.isLt
  show _ = grad _ _ ((win0_2.rect t).emb (ix3 p q r))
  obtain ⟨e0, e1, e2⟩ := place2 t p q r
  exact assemble _ _ _ _ q r ((win0_2.rect t).emb (ix3 p q r))
    (fun n => (block0_apply m c t n q (ix2 n _) rfl (by
      show ((win0_2.rect t).emb (ix3 p q r) 0).val * 256 + ((win0_2.rect t).emb (ix3 p q r) 1).val = _; rw [e0, e1]; omega)).trans (operand0 m c _ _))
    (fun n => (block1_apply m c t n r (ix2 n _) rfl (by
      exact e2)).trans (operand1 m c _ _))

/-- After the run the output array holds the gradient. -/
theorem final (c : Dev nD) : (dats m 0 c).arrAt 2 cfg0.N
    = grad (m ((c : Thread nD τ).loc main_arg0)) (m ((c : Thread nD τ).loc main_arg2)) :=
  (dats m 0 c).arrAt_eq_of_cover 2 _ (fun t _ => flushed_eq m c t) cover2

end Cert.OutWgradIdeal.Product

namespace Cert.Proof.OutWgrad

open Cert.OutWgradRefIdeal Cert.OutWgradRefIdeal.Read Cert.OutWgradIdeal.Product in
/-- The reference's gradient, entry by entry, is the same sum. -/
theorem reference_eq (x : Vec Ideal Cert.OutWgradRefIdeal.S2048x1024 .f32) (ct : Vec Ideal Cert.OutWgradRefIdeal.S2048x1024 .f32) :
    val_main_v3 (F := Ideal) x ct = grad x ct := by
  funext j
  obtain ⟨p, q, r, rfl⟩ : ∃ (p : Fin 4) (q : Fin 256) (r : Fin 1024), j = ix3 p q r :=
    ⟨j 0, j 1, j 2, by funext a; fin_cases a <;> rfl⟩
  pointwise [val_main_v3, val_main_v2, val_main_v1]
  exact Finset.sum_congr rfl fun n _ => mul_comm _ _

/-- The kernel's weight gradient is the reference's. -/
theorem algebraic : Cert.algebraic_OutWgradIdeal_OutWgradRefIdeal := by
  intro m ρ m' ρ' _ hagree
  refine ⟨fun c => Cert.OutWgradIdeal.Product.grad (m ((c.tc : Thread _ _).loc Cert.OutWgradIdeal.main_arg0))
    (m ((c.tc : Thread _ _).loc Cert.OutWgradIdeal.main_arg2)), ?_, ?_⟩
  · exact (θ_run Cert.OutWgradIdeal.defs _ _).mono
      (fun _ h c => ⟨(h c).1.trans (Cert.OutWgradIdeal.Product.final m c), (h c).2⟩)
      (Cert.OutWgradIdeal.Value.run_blocks (F := Ideal) m ρ)
  · refine (θ_run Cert.OutWgradRefIdeal.defs _ _).mono (fun _ h c => ⟨(h c).1.trans ?_, (h c).2⟩)
      (Cert.OutWgradRefIdeal.Value.run (F := Ideal) m' ρ')
    rw [(hagree c).1, (hagree c).2.2]
    exact reference_eq _ _

end Cert.Proof.OutWgrad
-- ==== Proof.InDgrad.lean ====
/-
  The gradient through the input projection and the RMS norm before it.
  Each grid point takes 512 rows: it sums the product with the weight over the weight's four column blocks, writes the gradient of
  the residual stream, and adds its rows to the gradient of the norm's gain, which stays in place over the grid.
  What one point computes (`dx_block`, `gain_block`), where the blocks lie, what the gain's gradient holds after each point
  (`gain_after`), what the two output arrays hold (`final5`, `final6`), what the reference computes, and the claim (`algebraic`).
-/
module

public import proofs.«01_k».proof.Defs
public import proofs.«01_k».proof.Proof.Gen.InDgradIdeal.Value
public import proofs.«01_k».proof.Proof.Gen.InDgradRefIdeal.Read
public import proofs.«01_k».proof.Proof.RmsGrad
public import Idealize.ShloMosaic.Lib.Pipeline.ValueKit.Tiles
public import Idealize.ShloMosaic.Lib.Pointwise
public import Idealize.ShloMosaic.Lib.StableHlo.ReadAt

@[expose] public section

noncomputable section

open Idealize.ShloMosaic Idealize.ShloMosaic.TcCoe Idealize.SL.Sem
open Idealize.ShloMosaic.Pipeline (Dat)

namespace Cert.InDgradIdeal.Product

open Cert.InDgradIdeal Cert.InDgradIdeal.Gen

variable (m : (ℓ : Loc nD τ sig) → Buf (Elt Ideal) ℓ) (ρ : Dev nD → PrngReg)

open Cert.Proof.RmsGrad

theorem zero2 : (![0, 0] : Fin 2 → Nat) = fun _ => 0 := funext fun a => by fin_cases a <;> rfl

/-! ## One grid point -/

/-- A load of 1920 columns of the incoming gradient's block, from column `k`. -/
theorem cols_apply (x : Vec Ideal S512x7680 .bf16) (k : ℕ) (h : ∀ a, (![0, k] : Fin 2 → Nat) a + S512x1920.size a ≤ S512x7680.size a)
    (p : Fin 512) (n : Fin 1920) (hk : k + n.val < 7680) :
    View.ld x (Rect.unit (s := S512x7680) ![0, k] S512x1920.size h) (ix2 p n) = x (ix2 p ⟨k + n.val, hk⟩) := by
  refine congrArg x (funext fun a => Fin.ext ?_)
  match a with
  | ⟨0, _⟩ => exact (Rect.idx_unit_val _ _ h _ _).trans (Nat.zero_add _)
  | ⟨1, _⟩ => exact Rect.idx_unit_val _ _ h _ _

/-- A load of the weight's column block `k`. -/
theorem slab_apply (x : Vec Ideal S4x1024x1920 .bf16) (k : ℕ)
    (h : ∀ a, (![k, 0, 0] : Fin 3 → Nat) a + S1x1024x1920.size a ≤ S4x1024x1920.size a) (q : Fin 1024) (n : Fin 1920) (hk : k < 4) :
    View.ld x (Rect.unit (s := S4x1024x1920) ![k, 0, 0] S1x1024x1920.size h) (ix3 0 q n) = x (ix3 ⟨k, hk⟩ q n) := by
  refine congrArg x (funext fun a => Fin.ext ?_)
  match a with
  | ⟨0, _⟩ => exact (Rect.idx_unit_val _ _ h _ _).trans (Nat.add_zero _)
  | ⟨1, _⟩ => exact (Rect.idx_unit_val _ _ h _ _).trans (Nat.zero_add _)
  | ⟨2, _⟩ => exact (Rect.idx_unit_val _ _ h _ _).trans (Nat.zero_add _)

/-- The product of a point's rows with the weight, as the body computes it: four column blocks, one after another. -/
def product (x0 : Vec Ideal S512x7680 .bf16) (x1 : Vec Ideal S4x1024x1920 .bf16) : Vec Ideal S512x1024 .f32 :=
  k0_pay6 (View.ld x0 (Rect.unit (s := S512x7680) ![0, 0] S512x1920.size inb_S512x7680_S512x1920_0_0))
    (View.ld x1 (Rect.unit (s := S4x1024x1920) ![0, 0, 0] S1x1024x1920.size inb_S4x1024x1920_S1x1024x1920_0_0_0))
    (View.ld x0 (Rect.unit (s := S512x7680) ![0, 1920] S512x1920.size inb_S512x7680_S512x1920_0_1920))
    (View.ld x1 (Rect.unit (s := S4x1024x1920) ![1, 0, 0] S1x1024x1920.size inb_S4x1024x1920_S1x1024x1920_1_0_0))
    (View.ld x0 (Rect.unit (s := S512x7680) ![0, 3840] S512x1920.size inb_S512x7680_S512x1920_0_3840))
    (View.ld x1 (Rect.unit (s := S4x1024x1920) ![2, 0, 0] S1x1024x1920.size inb_S4x1024x1920_S1x1024x1920_2_0_0))
    (View.ld x0 (Rect.unit (s := S512x7680) ![0, 5760] S512x1920.size inb_S512x7680_S512x1920_0_5760))
    (View.ld x1 (Rect.unit (s := S4x1024x1920) ![3, 0, 0] S1x1024x1920.size inb_S4x1024x1920_S1x1024x1920_3_0_0))

/-- The four partial products, entry by entry. -/
theorem parts_apply (v0 v5 v11 v17 : Vec Ideal S512x1920 .bf16) (v2 v7 v13 v19 : Vec Ideal S1x1024x1920 .bf16) (p : Fin 512) (q : Fin 1024) :
    k0_pay6 v0 v2 v5 v7 v11 v13 v17 v19 (ix2 p q)
      = (∑ n : Fin 1920, v0 (ix2 p n) * v2 (ix3 0 q n)) + (∑ n : Fin 1920, v5 (ix2 p n) * v7 (ix3 0 q n))
        + (∑ n : Fin 1920, v11 (ix2 p n) * v13 (ix3 0 q n)) + ∑ n : Fin 1920, v17 (ix2 p n) * v19 (ix3 0 q n) := by
  pointwise [k0_pay6]

/-- The stream's gradient at an entry of the block. -/
theorem dx_apply (d x res : Vec Ideal S512x1024 .f32) (g : Vec Ideal S1x1024 .f32) (p : Fin 512) (q : Fin 1024) :
    k0_pay3 d x (k0_pay7 x) k0_pay8 g res (ix2 p q)
      = dxEntry (fun n => x (ix2 p n)) (fun n => d (ix2 p n) * g (ix2 0 n)) (res (ix2 p q)) q := by
  pointwise [k0_pay3, k0_pay2, k0_pay1, k0_pay7, k0_pay8]
  rfl

/-- The gain's gradient after a point's rows are added, at an entry. -/
theorem gain_apply (d x : Vec Ideal S512x1024 .f32) (prev : Vec Ideal S8x1024 .f32) (a : Fin 8) (q : Fin 1024) :
    k0_pay5 d x (k0_pay7 x) k0_pay8 prev (ix2 a q)
      = prev (ix2 a q) + if a.val = 0 then
          ∑ p : Fin 512, d (ix2 p q) * (x (ix2 p q) * Ideal.rsqrt (meanSq fun n => x (ix2 p n))) else 0 := by
  pointwise [k0_pay5, k0_pay2, k0_pay1, k0_pay7, k0_pay8]
  exact congrArg _ (select_row a _ _)

/-- What a point leaves in the stream's gradient, first point. -/
theorem out_A_5 (c : Dev nD) (i : grid0.Coords) (arg1 : Memref sig .tc .vmem S512x7680 .bf16) (harg1 : arg1.IsWhole) (arg2 : Memref sig .tc .vmem S4x1024x1920 .bf16) (harg2 : arg2.IsWhole) (arg3 : Memref sig .tc .vmem S512x1024 .f32) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S8x1024 .f32) (harg7 : arg7.IsWhole) (hc : cond0_0 i)
    (x0 : Vec Ideal S512x7680 .bf16) (x1 : Vec Ideal S4x1024x1920 .bf16) (x2 : Vec Ideal S512x1024 .f32) (x3 : Vec Ideal S1x1024 .f32)
    (x4 : Vec Ideal S512x1024 .f32) :
    out0_A_5 c i arg1 harg1 arg2 harg2 arg3 harg3 arg4 harg4 arg5 harg5 arg6 harg6 arg7 harg7 hc x0 x1 x2 x3 x4
      = k0_pay3 (product x0 x1) x2 (k0_pay7 x2) k0_pay8 x3 x4 := by
  unfold out0_A_5 product
  rw [View.read_writes_eq_canon _ _ _ (cover0_A_5 c i arg1 harg1 arg2 harg2 arg3 harg3 arg4 harg4 arg5 harg5 arg6 harg6 arg7 harg7 hc x0 x1 x2 x3 x4)]
  unfold kernelRun0_A
  dsimp only
  sl_unfold_words
  rw [View.canon_unit_zero zero2]
  simp only [View.readAt_eq_ld, harg1.read_unread, harg2.read_unread, harg3.read_unread, harg4.read_unread, harg5.read_unread,
    View.ld_unit_zero (S := S512x1024) zero2, View.ld_unit_zero (S := S1x1024) zero2]

/-- What a point leaves in the stream's gradient, later points. -/
theorem out_B_5 (c : Dev nD) (i : grid0.Coords) (arg1 : Memref sig .tc .vmem S512x7680 .bf16) (harg1 : arg1.IsWhole) (arg2 : Memref sig .tc .vmem S4x1024x1920 .bf16) (harg2 : arg2.IsWhole) (arg3 : Memref sig .tc .vmem S512x1024 .f32) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S8x1024 .f32) (harg7 : arg7.IsWhole) (hc : ¬cond0_0 i)
    (x0 : Vec Ideal S512x7680 .bf16) (x1 : Vec Ideal S4x1024x1920 .bf16) (x2 : Vec Ideal S512x1024 .f32) (x3 : Vec Ideal S1x1024 .f32)
    (x4 : Vec Ideal S512x1024 .f32) (xo : Vec Ideal S8x1024 .f32) :
    out0_B_5 c i arg1 harg1 arg2 harg2 arg3 harg3 arg4 harg4 arg5 harg5 arg6 harg6 arg7 harg7 hc x0 x1 x2 x3 x4 xo
      = k0_pay3 (product x0 x1) x2 (k0_pay7 x2) k0_pay8 x3 x4 := by
  unfold out0_B_5 product
  rw [View.read_writes_eq_canon _ _ _ (cover0_B_5 c i arg1 harg1 arg2 harg2 arg3 harg3 arg4 harg4 arg5 harg5 arg6 harg6 arg7 harg7 hc x0 x1 x2 x3 x4 xo)]
  unfold kernelRun0_B
  dsimp only
  sl_unfold_words
  rw [View.canon_unit_zero zero2]
  simp only [View.readAt_eq_ld, harg1.read_unread, harg2.read_unread, harg3.read_unread, harg4.read_unread, harg5.read_unread,
    View.ld_unit_zero (S := S512x1024) zero2, View.ld_unit_zero (S := S1x1024) zero2]

/-- What the first point leaves in the gain's gradient: it starts from zero. -/
theorem out_A_6 (c : Dev nD) (i : grid0.Coords) (arg1 : Memref sig .tc .vmem S512x7680 .bf16) (harg1 : arg1.IsWhole) (arg2 : Memref sig .tc .vmem S4x1024x1920 .bf16) (harg2 : arg2.IsWhole) (arg3 : Memref sig .tc .vmem S512x1024 .f32) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S8x1024 .f32) (harg7 : arg7.IsWhole) (hc : cond0_0 i)
    (x0 : Vec Ideal S512x7680 .bf16) (x1 : Vec Ideal S4x1024x1920 .bf16) (x2 : Vec Ideal S512x1024 .f32) (x3 : Vec Ideal S1x1024 .f32)
    (x4 : Vec Ideal S512x1024 .f32) :
    out0_A_6 c i arg1 harg1 arg2 harg2 arg3 harg3 arg4 harg4 arg5 harg5 arg6 harg6 arg7 harg7 hc x0 x1 x2 x3 x4
      = k0_pay5 (product x0 x1) x2 (k0_pay7 x2) k0_pay8 (k0_pay4 (F := Ideal)) := by
  unfold out0_A_6 product
  rw [View.read_writes_eq_canon _ _ _ (cover0_A_6 c i arg1 harg1 arg2 harg2 arg3 harg3 arg4 harg4 arg5 harg5 arg6 harg6 arg7 harg7 hc x0 x1 x2 x3 x4)]
  unfold kernelRun0_A
  dsimp only
  sl_unfold_words
  rw [View.canon_cons_unit_zero (S := S8x1024) zero2, View.readCov_unit_zero (S := S8x1024) _ zero2]
  simp only [View.readAt_eq_ld, harg1.read_unread, harg2.read_unread, harg3.read_unread, harg4.read_unread, harg5.read_unread,
    View.ld_unit_zero (S := S512x1024) zero2, View.ld_unit_zero (S := S1x1024) zero2]

/-- What a later point leaves in the gain's gradient: its rows added to what it found. -/
theorem out_B_6 (c : Dev nD) (i : grid0.Coords) (arg1 : Memref sig .tc .vmem S512x7680 .bf16) (harg1 : arg1.IsWhole) (arg2 : Memref sig .tc .vmem S4x1024x1920 .bf16) (harg2 : arg2.IsWhole) (arg3 : Memref sig .tc .vmem S512x1024 .f32) (harg3 : arg3.IsWhole) (arg4 : Memref sig .tc .vmem S1x1024 .f32) (harg4 : arg4.IsWhole) (arg5 : Memref sig .tc .vmem S512x1024 .f32) (harg5 : arg5.IsWhole) (arg6 : Memref sig .tc .vmem S512x1024 .f32) (harg6 : arg6.IsWhole) (arg7 : Memref sig .tc .vmem S8x1024 .f32) (harg7 : arg7.IsWhole) (hc : ¬cond0_0 i)
    (x0 : Vec Ideal S512x7680 .bf16) (x1 : Vec Ideal S4x1024x1920 .bf16) (x2 : Vec Ideal S512x1024 .f32) (x3 : Vec Ideal S1x1024 .f32)
    (x4 : Vec Ideal S512x1024 .f32) (xo : Vec Ideal S8x1024 .f32) :
    out0_B_6 c i arg1 harg1 arg2 harg2 arg3 harg3 arg4 harg4 arg5 harg5 arg6 harg6 arg7 harg7 hc x0 x1 x2 x3 x4 xo
      = k0_pay5 (product x0 x1) x2 (k0_pay7 x2) k0_pay8 xo := by
  unfold out0_B_6 product
  rw [View.read_writes_eq_canon _ _ _ (cover0_B_6 c i arg1 harg1 arg2 harg2 arg3 harg3 arg4 harg4 arg5 harg5 arg6 harg6 arg7 harg7 hc x0 x1 x2 x3 x4 xo)]
  unfold kernelRun0_B
  dsimp only
  sl_unfold_words
  rw [View.canon_unit_zero zero2]
  simp only [View.readAt_eq_ld, harg1.read_unread, harg2.read_unread, harg3.read_unread, harg4.read_unread, harg5.read_unread,
    harg7.read_unread, View.ld_unit_zero (S := S512x1024) zero2, View.ld_unit_zero (S := S1x1024) zero2,
    View.ld_unit_zero (S := S8x1024) zero2]

/-! ## Where the blocks lie -/

/-- The block index of window 0 at grid point `t`. -/
theorem index0 : ∀ t : Fin grid0.N, win0_0.index t 0 = t.val ∧ win0_0.index t 1 = 0 := by decide +kernel

/-- What the block of the incoming gradient holds at grid point `t`. -/
theorem block0_apply (c : Dev nD) (t : Fin cfg0.N) (p : Fin 512) (q : Fin 7680) (i : S2048x7680.Idx)
    (h0 : (i 0).val = t.val * 512 + p.val) (h1 : (i 1).val = q.val) :
    iblk m c 0 t (ix2 p q) = V m c main_v0 i := by
  show V m c main_v0 ((win0_0.rect t).emb (ix2 p q)) = V m c main_v0 i
  have e := index0 t
  congr 1
  funext a
  apply Fin.ext
  rw [win0_0.rect_emb_val]
  match a with
  | ⟨0, _⟩ => show win0_0.index t 0 * 512 + p.val = (i 0).val; omega
  | ⟨1, _⟩ => show win0_0.index t 1 * 7680 + q.val = (i 1).val; omega

/-- The block index of window 1 at grid point `t`. -/
theorem index1 : ∀ t : Fin grid0.N, win0_1.index t 0 = 0 ∧ win0_1.index t 1 = 0 ∧ win0_1.index t 2 = 0 := by decide +kernel

/-- The weight's block is the whole weight, in its four column blocks. -/
theorem block1_apply (c : Dev nD) (t : Fin cfg0.N) (p : Fin 4) (q : Fin 1024) (r : Fin 1920) (i : S4x1024x1920.Idx)
    (h0 : (i 0).val = p.val) (h1 : (i 1).val = q.val) (h2 : (i 2).val = r.val) :
    iblk m c 1 t (ix3 p q r) = V m c main_v3 i := by
  show V m c main_v3 ((win0_1.rect t).emb (ix3 p q r)) = V m c main_v3 i
  have e := index1 t
  congr 1
  funext a
  apply Fin.ext
  rw [win0_1.rect_emb_val]
  match a with
  | ⟨0, _⟩ => show win0_1.index t 0 * 4 + p.val = (i 0).val; omega
  | ⟨1, _⟩ => show win0_1.index t 1 * 1024 + q.val = (i 1).val; omega
  | ⟨2, _⟩ => show win0_1.index t 2 * 1920 + r.val = (i 2).val; omega

/-- The block index of window 2 at grid point `t`. -/
theorem index2 : ∀ t : Fin grid0.N, win0_2.index t 0 = t.val ∧ win0_2.index t 1 = 0 := by decide +kernel

/-- What the block of the norm's argument holds at grid point `t`. -/
theorem block2_apply (c : Dev nD) (t : Fin cfg0.N) (p : Fin 512) (q : Fin 1024) (i : S2048x1024.Idx)
    (h0 : (i 0).val = t.val * 512 + p.val) (h1 : (i 1).val = q.val) :
    iblk m c 2 t (ix2 p q) = V m c main_arg0 i := by
  show V m c main_arg0 ((win0_2.rect t).emb (ix2 p q)) = V m c main_arg0 i
  have e := index2 t
  congr 1
  funext a
  apply Fin.ext
  rw [win0_2.rect_emb_val]
  match a with
  | ⟨0, _⟩ => show win0_2.index t 0 * 512 + p.val = (i 0).val; omega
  | ⟨1, _⟩ => show win0_2.index t 1 * 1024 + q.val = (i 1).val; omega

/-- The block index of window 3 at grid point `t`. -/
theorem index3 : ∀ t : Fin grid0.N, win0_3.index t 0 = 0 ∧ win0_3.index t 1 = 0 := by decide +kernel

/-- The gain's block is the whole gain. -/
theorem block3_apply (c : Dev nD) (t : Fin cfg0.N) (p : Fin 1) (q : Fin 1024) (i : S1x1024.Idx)
    (h0 : (i 0).val = p.val) (h1 : (i 1).val = q.val) :
    iblk m c 3 t (ix2 p q) = V m c main_arg1 i := by
  show V m c main_arg1 ((win0_3.rect t).emb (ix2 p q)) = V m c main_arg1 i
  have e := index3 t
  congr 1
  funext a
  apply Fin.ext
  rw [win0_3.rect_emb_val]
  match a with
  | ⟨0, _⟩ => show win0_3.index t 0 * 1 + p.val = (i 0).val; omega
  | ⟨1, _⟩ => show win0_3.index t 1 * 1024 + q.val = (i 1).val; omega

/-- The block index of window 4 at grid point `t`. -/
theorem index4 : ∀ t : Fin grid0.N, win0_4.index t 0 = t.val ∧ win0_4.index t 1 = 0 := by decide +kernel

/-- What the block of the residual's gradient holds at grid point `t`. -/
theorem block4_apply (c : Dev nD) (t : Fin cfg0.N) (p : Fin 512) (q : Fin 1024) (i : S2048x1024.Idx)
    (h0 : (i 0).val = t.val * 512 + p.val) (h1 : (i 1).val = q.val) :
    iblk m c 4 t (ix2 p q) = V m c main_arg4 i := by
  show V m c main_arg4 ((win0_4.rect t).emb (ix2 p q)) = V m c main_arg4 i
  have e := index4 t
  congr 1
  funext a
  apply Fin.ext
  rw [win0_4.rect_emb_val]
  match a with
  | ⟨0, _⟩ => show win0_4.index t 0 * 512 + p.val = (i 0).val; omega
  | ⟨1, _⟩ => show win0_4.index t 1 * 1024 + q.val = (i 1).val; omega

/-- The block index of the output window 5 at grid point `t`. -/
theorem index5 : ∀ t : Fin grid0.N, win0_5.index t 0 = t.val ∧ win0_5.index t 1 = 0 := by decide +kernel

/-- Where element (p, q) of the block written at point `t` sits in the output array. -/
theorem place5 (t : Fin cfg0.N) (p : Fin 512) (q : Fin 1024) :
    ((win0_5.rect t).emb (ix2 p q) 0).val = t.val * 512 + p.val ∧ ((win0_5.rect t).emb (ix2 p q) 1).val = q.val := by
  have e := index5 t
  refine ⟨?_, ?_⟩
  · rw [win0_5.rect_emb_val]; show win0_5.index t 0 * 512 + p.val = _; omega
  · rw [win0_5.rect_emb_val]; show win0_5.index t 1 * 1024 + q.val = _; omega

/-- Every element of the output array lies in some point's block. -/
theorem cover5 (i : S2048x1024.Idx) : ∃ t : Fin cfg0.N, (cfg0.win 5).flush t = true ∧ i ∈ ((cfg0.win 5).blk t).view.set := by
  have h0 : (i 0 : Nat) < 2048 := (i 0).isLt
  have h1 : (i 1 : Nat) < 1024 := (i 1).isLt
  have hN : cfg0.N = 4 := N_0
  obtain ⟨t, ht⟩ : ∃ t : Fin cfg0.N, t.val = (i 0).val / 512 := ⟨⟨(i 0).val / 512, by omega⟩, rfl⟩
  have e := index5 t
  refine ⟨t, flush0_5 _, ?_⟩
  show i ∈ ((View.whole main_v4_0).slice (win0_5.rect t)).set
  rw [View.set_slice_whole, Rect.mem_set_unit]
  intro a
  match a with
  | ⟨0, _⟩ =>
    show win0_5.index t 0 * 512 ≤ (i 0).val ∧ (i 0).val < win0_5.index t 0 * 512 + 512
    omega
  | ⟨1, _⟩ =>
    show win0_5.index t 1 * 1024 ≤ (i 1).val ∧ (i 1).val < win0_5.index t 1 * 1024 + 1024
    omega

/-- The incoming gradient as the call finds it. -/
theorem operand0 (c : Dev nD) (p : Fin 2048) (n : Fin 7680) :
    V m c main_v0 (ix2 p n) = m ((c : Thread nD τ).loc main_arg3) (ix2 p n) := by
  unfold V
  after_reads_at

/-- The weight as the call finds it: column `n` of block `k` is column `1920 k + n` of the weight. -/
theorem operand1 (c : Dev nD) (k : Fin 4) (q : Fin 1024) (n : Fin 1920) :
    V m c main_v3 (ix3 k q n) = m ((c : Thread nD τ).loc main_arg2) (ix2 q ⟨k.val * 1920 + n.val, by omega⟩) := by
  unfold V
  after_reads_at

/-! ## The gradients -/

section Gradients

variable (x res : Vec Ideal S2048x1024 .f32) (g : Vec Ideal S1x1024 .f32) (w : Vec Ideal S1024x7680 .f32) (ct : Vec Ideal S2048x7680 .f32)

/-- The gradient of the normalised rows, before the gain. -/
def dh (p : Fin 2048) (q : Fin 1024) : EReal := ∑ n : Fin 7680, (ct (ix2 p n) : EReal) * (w (ix2 q n) : EReal)

/-- The gradient of the residual stream. -/
def dx : Vec Ideal S2048x1024 .f32 := fun i =>
  dxEntry (fun n => x (ix2 (i 0) n)) (fun n => dh w ct (i 0) n * g (ix2 0 n)) (res i) (i 1)

/-- What row `p` adds to the gain's gradient. -/
def share (p : Fin 2048) (q : Fin 1024) : EReal := dh w ct p q * (x (ix2 p q) * Ideal.rsqrt (meanSq fun n => x (ix2 p n)))

/-- What block `t`'s rows add to the gain's gradient. -/
def blockShare (t : ℕ) (q : Fin 1024) : EReal := ∑ p : Fin 512, share x w ct ⟨(t * 512 + p.val) % 2048, Nat.mod_lt _ (by norm_num)⟩ q

/-- The gain's gradient, in the first of eight rows. -/
def dgain : Vec Ideal S8x1024 .f32 := fun i => if (i 0).val = 0 then ∑ p : Fin 2048, share x w ct p (i 1) else 0

/-- The rows' sum is the sum of the four blocks'. -/
theorem share_sum (q : Fin 1024) : ∑ p : Fin 2048, share x w ct p q
    = blockShare x w ct 0 q + blockShare x w ct 1 q + blockShare x w ct 2 q + blockShare x w ct 3 q := by
  rw [sum_four (N := 512) rfl]
  have e : ∀ (k : ℕ) (hk : k < 4), (∑ n : Fin 512, share x w ct ⟨k * 512 + n.val, by omega⟩ q) = blockShare x w ct k q := fun k hk =>
    Finset.sum_congr rfl fun n _ => congrArg (fun p : Fin 2048 => share x w ct p q) (Fin.ext (Nat.mod_eq_of_lt (by omega)).symm)
  rw [e 0 (by norm_num), e 1 (by norm_num), e 2 (by norm_num), e 3 (by norm_num)]

/-- A point's product is the gradient of its normalised rows, once its blocks are the operands' blocks. -/
theorem product_eq (x0 : Vec Ideal S512x7680 .bf16) (x1 : Vec Ideal S4x1024x1920 .bf16) (p : Fin 512) (P : Fin 2048)
    (h0 : ∀ n : Fin 7680, x0 (ix2 p n) = ct (ix2 P n))
    (h1 : ∀ (k : Fin 4) (q : Fin 1024) (n : Fin 1920), x1 (ix3 k q n) = w (ix2 q ⟨k.val * 1920 + n.val, by omega⟩)) (q : Fin 1024) :
    product x0 x1 (ix2 p q) = dh w ct P q := by
  unfold product dh
  rw [parts_apply, sum_four (N := 1920) rfl]
  have e : ∀ (k : ℕ) (hk : k < 4) (K : ℕ) (hK : K = k * 1920) (ha : ∀ a, (![0, K] : Fin 2 → Nat) a + S512x1920.size a ≤ S512x7680.size a)
      (hb : ∀ a, (![k, 0, 0] : Fin 3 → Nat) a + S1x1024x1920.size a ≤ S4x1024x1920.size a),
      (∑ n : Fin 1920, (View.ld x0 (Rect.unit (s := S512x7680) ![0, K] S512x1920.size ha) (ix2 p n) : EReal)
        * (View.ld x1 (Rect.unit (s := S4x1024x1920) ![k, 0, 0] S1x1024x1920.size hb) (ix3 0 q n) : EReal))
        = ∑ n : Fin 1920, (ct (ix2 P ⟨k * 1920 + n.val, by omega⟩) : EReal) * (w (ix2 q ⟨k * 1920 + n.val, by omega⟩) : EReal) := by
    intro k hk K hK ha hb
    subst hK
    exact Finset.sum_congr rfl fun n _ => congrArg₂ (fun u v : EReal => u * v)
      ((cols_apply x0 _ ha p n (by omega)).trans (h0 _)) ((slab_apply x1 k hb q n hk).trans (h1 ⟨k, hk⟩ q n))
  exact congrArg₂ (fun u v : EReal => u + v) (congrArg₂ (fun u v : EReal => u + v) (congrArg₂ (fun u v : EReal => u + v)
    (e 0 (by norm_num) 0 rfl _ _) (e 1 (by norm_num) 1920 rfl _ _)) (e 2 (by norm_num) 3840 rfl _ _)) (e 3 (by norm_num) 5760 rfl _ _)

end Gradients

/-- The product at point `t` is the gradient of the rows' normalised values. -/
theorem product_row (c : Dev nD) (t : Fin cfg0.N) (p : Fin 512) (P : Fin 2048) (hP : P.val = t.val * 512 + p.val) (q : Fin 1024) :
    product (iblk m c 0 t) (iblk m c 1 t) (ix2 p q)
      = dh (m ((c : Thread nD τ).loc main_arg2)) (m ((c : Thread nD τ).loc main_arg3)) P q :=
  product_eq _ _ _ _ p P
    (fun n => (block0_apply m c t p n (ix2 P n) hP rfl).trans (operand0 m c _ _))
    (fun k q n => (block1_apply m c t k q n (ix3 k q n) rfl rfl rfl).trans (operand1 m c _ _ _)) q

/-- The norm's argument at point `t`. -/
theorem arg_row (c : Dev nD) (t : Fin cfg0.N) (p : Fin 512) (P : Fin 2048) (hP : P.val = t.val * 512 + p.val) (q : Fin 1024) :
    iblk m c 2 t (ix2 p q) = m ((c : Thread nD τ).loc main_arg0) (ix2 P q) :=
  (block2_apply m c t p q (ix2 P q) hP rfl).trans (by rw [V_main_arg0])

/-- The first output's block after point `t`. -/
theorem after5 (c : Dev nD) (t : Fin cfg0.N) : (outsAt0 m c t.val t.isLt).1
    = k0_pay3 (product (iblk m c 0 t) (iblk m c 1 t)) (iblk m c 2 t) (k0_pay7 (iblk m c 2 t)) k0_pay8 (iblk m c 3 t) (iblk m c 4 t) := by
  by_cases h : t.val % 4 = 0
  · rw [outsAt0_A m c t h]; dsimp only; rw [out_A_5]
  · rw [outsAt0_B m c t h]; dsimp only; rw [out_B_5]

/-- A block's entry of the stream's gradient, once the block's rows are the operands' rows. -/
theorem dx_block (d x res : Vec Ideal S512x1024 .f32) (g : Vec Ideal S1x1024 .f32) (X RES : Vec Ideal S2048x1024 .f32)
    (G : Vec Ideal S1x1024 .f32) (W : Vec Ideal S1024x7680 .f32) (C : Vec Ideal S2048x7680 .f32) (p : Fin 512) (q : Fin 1024) (i : S2048x1024.Idx)
    (hq : (i 1).val = q.val) (hd : ∀ n, d (ix2 p n) = dh W C (i 0) n) (hx : ∀ n : Fin 1024, x (ix2 p n) = X (ix2 (i 0) n))
    (hg : ∀ n : Fin 1024, g (ix2 0 n) = G (ix2 0 n)) (hr : res (ix2 p q) = RES i) :
    k0_pay3 d x (k0_pay7 x) k0_pay8 g res (ix2 p q) = dx X RES G W C i := by
  have hq' : q = i 1 := Fin.ext hq.symm
  rw [dx_apply]
  unfold dx
  rw [hr, funext hx, ← hq', show (fun n => d (ix2 p n) * g (ix2 0 n)) = fun n => dh W C (i 0) n * G (ix2 0 n) from
    funext fun n => congrArg₂ (fun u v : EReal => u * v) (hd n) (hg n)]

/-- What point `t` writes back to the first output is its block of the stream's gradient. -/
theorem flushed5_eq (c : Dev nD) (t : Fin cfg0.N) :
    (dats m 0 c).flushed 5 t = (win0_5.blk t).view.read (Elt Ideal)
      (dx (m ((c : Thread nD τ).loc main_arg0)) (m ((c : Thread nD τ).loc main_arg4)) (m ((c : Thread nD τ).loc main_arg1))
        (m ((c : Thread nD τ).loc main_arg2)) (m ((c : Thread nD τ).loc main_arg3))) := by
  rw [Value.flushed5, after5]
  funext j
  obtain ⟨p, q, rfl⟩ : ∃ (p : Fin 512) (q : Fin 1024), j = ix2 p q := ⟨j 0, j 1, by funext a; fin_cases a <;> rfl⟩
  obtain ⟨e0, e1⟩ := place5 t p q
  show k0_pay3 (F := Ideal) _ _ _ _ _ _ (ix2 p q) = dx _ _ _ _ _ ((win0_5.rect t).emb (ix2 p q))
  exact dx_block _ _ _ _ _ _ _ _ _ p q ((win0_5.rect t).emb (ix2 p q)) e1 (product_row m c t p _ e0) (arg_row m c t p _ e0)
    (fun n => (block3_apply m c t 0 n (ix2 0 n) rfl rfl).trans (by rw [V_main_arg1]))
    ((block4_apply m c t p q _ e0 e1).trans (by rw [V_main_arg4]))

/-- After the run the first output array holds the stream's gradient. -/
theorem final5 (c : Dev nD) : (dats m 0 c).arrAt 5 cfg0.N
    = dx (m ((c : Thread nD τ).loc main_arg0)) (m ((c : Thread nD τ).loc main_arg4)) (m ((c : Thread nD τ).loc main_arg1))
        (m ((c : Thread nD τ).loc main_arg2)) (m ((c : Thread nD τ).loc main_arg3)) :=
  (dats m 0 c).arrAt_eq_of_cover 5 _ (fun t _ => flushed5_eq m c t) cover5

/-! ## The gain's gradient over the grid -/

/-- What point `t` adds to the gain's gradient. -/
theorem gain_block (c : Dev nD) (t : Fin cfg0.N) (prev : Vec Ideal S8x1024 .f32) (a : Fin 8) (q : Fin 1024) :
    k0_pay5 (product (iblk m c 0 t) (iblk m c 1 t)) (iblk m c 2 t) (k0_pay7 (iblk m c 2 t)) k0_pay8 prev (ix2 a q)
      = prev (ix2 a q) + if a.val = 0 then blockShare (m ((c : Thread nD τ).loc main_arg0)) (m ((c : Thread nD τ).loc main_arg2))
          (m ((c : Thread nD τ).loc main_arg3)) t.val q else 0 := by
  have hN : cfg0.N = 4 := N_0
  have ht := t.isLt
  refine (gain_apply _ _ _ a q).trans ?_
  refine congrArg (fun u : EReal => prev (ix2 a q) + if a.val = 0 then u else 0) ?_
  refine Finset.sum_congr rfl fun p _ => ?_
  have hP : (⟨(t.val * 512 + p.val) % 2048, Nat.mod_lt _ (by norm_num)⟩ : Fin 2048).val = t.val * 512 + p.val := by
    have := p.isLt
    exact Nat.mod_eq_of_lt (by omega)
  have hx := arg_row m c t p _ hP
  refine congrArg₂ (fun u v : EReal => u * v) (product_row m c t p _ hP q) ?_
  exact congrArg₂ (fun (u : EReal) (f : Fin 1024 → EReal) => u * Ideal.rsqrt (meanSq f)) (hx q) (funext hx)

/-- The sum of the first blocks' shares. -/
def running (x : Vec Ideal S2048x1024 .f32) (w : Vec Ideal S1024x7680 .f32) (ct : Vec Ideal S2048x7680 .f32) : ℕ → Fin 1024 → EReal
  | 0, q => blockShare x w ct 0 q
  | t + 1, q => running x w ct t q + blockShare x w ct (t + 1) q

/-- The gain's gradient after point `t`: the sum of the first blocks' shares, in the first row. -/
theorem gain_after (c : Dev nD) (a : Fin 8) (q : Fin 1024) : ∀ (t : ℕ) (h : t < cfg0.N), (outsAt0 m c t h).2 (ix2 a q)
    = if a.val = 0 then running (m ((c : Thread nD τ).loc main_arg0)) (m ((c : Thread nD τ).loc main_arg2))
        (m ((c : Thread nD τ).loc main_arg3)) t q else 0
  | 0, h => by
    rw [outsAt0_A m c ⟨0, h⟩ rfl]
    dsimp only
    rw [out_A_6]
    refine (gain_block m c ⟨0, h⟩ _ a q).trans ?_
    have z : (k0_pay4 (F := Ideal) (ix2 a q) : EReal) = 0 := by pointwise [k0_pay4]
    rw [z, zero_add]
    rfl
  | t + 1, h => by
    have hN : cfg0.N = 4 := N_0
    have hB : ¬(⟨t + 1, h⟩ : Fin cfg0.N).val % 4 = 0 := by dsimp only; omega
    rw [outsAt0_B m c ⟨t + 1, h⟩ hB]
    dsimp only
    rw [out_B_6]
    refine (gain_block m c ⟨t + 1, h⟩ _ a q).trans ?_
    refine (congrArg (fun u : EReal => u + _) (gain_after c a q t _)).trans ?_
    by_cases ha : a.val = 0
    · simp only [if_pos ha]; rfl
    · simp only [if_neg ha, add_zero]

/-- The one write-back of the gain's gradient, at the last point. -/
theorem flushed6_eq (c : Dev nD) (t : Fin cfg0.N) (hf : (cfg0.win 6).flush t = true) :
    (dats m 0 c).flushed 6 t = (win0_6.blk t).view.read (Elt Ideal)
      (dgain (m ((c : Thread nD τ).loc main_arg0)) (m ((c : Thread nD τ).loc main_arg2)) (m ((c : Thread nD τ).loc main_arg3))) := by
  have hN : cfg0.N = 4 := N_0
  have h3 : t.val = 3 := by have := (flush0_6 t).mp hf; have := t.isLt; omega
  obtain rfl : t = t0_3 := Fin.ext h3
  have hz : (fun a => win0_6.index t0_3 a * main_v4_1.ty.shape.size a) = fun _ => 0 := funext fun a => by fin_cases a <;> decide
  refine Eq.trans ?_ (Memref.read_access_unit_zero (Elt Ideal) main_v4_1 hz (fun a => by rw [congrFun hz a]; simp) (dgain _ _ _)).symm
  rw [Value.flushed6]
  funext j
  obtain ⟨a, q, rfl⟩ : ∃ (a : Fin 8) (q : Fin 1024), j = ix2 a q := ⟨j 0, j 1, by funext a; fin_cases a <;> rfl⟩
  exact (gain_after m c a q 3 t0_3.isLt).trans (congrArg (fun u : EReal => if a.val = 0 then u else 0) (share_sum _ _ _ q).symm)

/-- After the run the second output array holds the gain's gradient. -/
theorem final6 (c : Dev nD) : (dats m 0 c).arrAt 6 cfg0.N
    = dgain (m ((c : Thread nD τ).loc main_arg0)) (m ((c : Thread nD τ).loc main_arg2)) (m ((c : Thread nD τ).loc main_arg3)) :=
  (dats m 0 c).arrAt_eq_of_cover 6 _ (fun t hf => flushed6_eq m c t hf) fun i =>
    ⟨t0_3, (flush0_6 t0_3).mpr rfl, by
      show i ∈ ((View.whole main_v4_1).slice (win0_6.rect t0_3)).set
      rw [View.set_slice_whole, Rect.mem_set_unit]
      intro a
      have := (i a).isLt
      match a with
      | ⟨0, _⟩ => exact ⟨Nat.zero_le _, by show (i 0).val < win0_6.index t0_3 0 * 8 + 8; have : win0_6.index t0_3 0 = 0 := by decide
                                           rw [this]; exact (i 0).isLt⟩
      | ⟨1, _⟩ => exact ⟨Nat.zero_le _, by show (i 1).val < win0_6.index t0_3 1 * 1024 + 1024; have : win0_6.index t0_3 1 = 0 := by decide
                                           rw [this]; exact (i 1).isLt⟩⟩

end Cert.InDgradIdeal.Product

namespace Cert.Proof.InDgrad

open Cert.InDgradRefIdeal Cert.InDgradRefIdeal.Read Cert.InDgradIdeal.Product Cert.Proof.RmsGrad

/-- The reference's gradient of the stream, entry by entry, is the same. -/
theorem reference_dx (x : Vec Ideal Cert.InDgradRefIdeal.S2048x1024 .f32) (g : Vec Ideal Cert.InDgradRefIdeal.S1x1024 .f32)
    (w : Vec Ideal Cert.InDgradRefIdeal.S1024x7680 .f32) (ct : Vec Ideal Cert.InDgradRefIdeal.S2048x7680 .f32)
    (res : Vec Ideal Cert.InDgradRefIdeal.S2048x1024 .f32) : val_main_v36 (F := Ideal) x g w ct res = dx x res g w ct := by
  funext j
  obtain ⟨p, q, rfl⟩ : ∃ (p : Fin 2048) (q : Fin 1024), j = ix2 p q := ⟨j 0, j 1, by funext a; fin_cases a <;> rfl⟩
  pointwise [val_main_v36, val_main_v35, val_main_v34, val_main_v33, val_main_v32, val_main_v31, val_main_v30, val_main_v29, val_main_v28,
    val_main_v27, val_main_v26, val_main_v25, val_main_v24, val_main_v23, val_main_v22, val_main_v21, val_main_v20, val_main_v16,
    val_main_v12, val_main_v11, val_main_v10, val_main_v9, val_main_v8, val_main_v7, val_main_v6, val_main_v5, val_main_v4, val_main_v3,
    val_main_v2, val_main_v1, val_main_v0, val_main_cst, val_main_cst_0, val_main_cst_1, val_main_cst_2, val_main_cst_3, val_main_cst_4,
    val_main_cst_5, val_main_cst_6]
  rw [Fin.sum_univ_one]
  exact (dx_eq (fun n => x (ix2 p n)) (fun n => dh w ct p n * g (ix2 0 n)) (res (ix2 p q)) q).symm

/-- The reference's gradient of the gain, entry by entry, is the same. -/
theorem reference_dgain (x : Vec Ideal Cert.InDgradRefIdeal.S2048x1024 .f32) (w : Vec Ideal Cert.InDgradRefIdeal.S1024x7680 .f32)
    (ct : Vec Ideal Cert.InDgradRefIdeal.S2048x7680 .f32) : val_main_v38 (F := Ideal) x w ct = dgain x w ct := by
  funext j
  obtain ⟨a, q, rfl⟩ : ∃ (a : Fin 8) (q : Fin 1024), j = ix2 a q := ⟨j 0, j 1, by funext a; fin_cases a <;> rfl⟩
  pointwise [val_main_v38, val_main_v37, val_main_v19, val_main_v18, val_main_v17, val_main_v16, val_main_v12, val_main_v11, val_main_v10,
    val_main_v9, val_main_v8, val_main_v7, val_main_v6, val_main_v5, val_main_v4, val_main_v3, val_main_v2, val_main_v1, val_main_v0,
    val_main_cst, val_main_cst_0, val_main_cst_1, val_main_cst_2, val_main_cst_3, val_main_cst_4, val_main_cst_5, val_main_cst_6,
    val_main_cst_7]
  show _ = if a.val = 0 then ∑ p : Fin 2048, share x w ct p q else 0
  by_cases ha : a.val = 0
  · rw [if_pos ha, dif_pos (by omega)]
    exact Finset.sum_congr rfl fun p _ => mul_comm _ _
  · rw [if_neg ha, dif_neg (by omega)]

/-- The kernel's two gradients are the reference's. -/
theorem algebraic : Cert.algebraic_InDgradIdeal_InDgradRefIdeal := by
  intro m ρ m' ρ' _ hagree
  refine ⟨fun c => dx (m ((c.tc : Thread _ _).loc Cert.InDgradIdeal.main_arg0)) (m ((c.tc : Thread _ _).loc Cert.InDgradIdeal.main_arg4))
      (m ((c.tc : Thread _ _).loc Cert.InDgradIdeal.main_arg1)) (m ((c.tc : Thread _ _).loc Cert.InDgradIdeal.main_arg2))
      (m ((c.tc : Thread _ _).loc Cert.InDgradIdeal.main_arg3)),
    fun c => dgain (m ((c.tc : Thread _ _).loc Cert.InDgradIdeal.main_arg0)) (m ((c.tc : Thread _ _).loc Cert.InDgradIdeal.main_arg2))
      (m ((c.tc : Thread _ _).loc Cert.InDgradIdeal.main_arg3)), ?_, ?_⟩
  · exact (θ_run Cert.InDgradIdeal.defs _ _).mono
      (fun _ h c => ⟨(h c).1.trans (final5 m c), (h c).2.1.trans (final6 m c), (h c).2.2⟩)
      (Cert.InDgradIdeal.Value.run_blocks (F := Ideal) m ρ)
  · refine (θ_run Cert.InDgradRefIdeal.defs _ _).mono (fun _ h c => ⟨(h c).1.trans ?_, (h c).2.1.trans ?_, (h c).2.2⟩)
      (Cert.InDgradRefIdeal.Value.run (F := Ideal) m' ρ')
    · rw [val_main_v36_eq, (hagree c).1, (hagree c).2.1, (hagree c).2.2.1, (hagree c).2.2.2.1, (hagree c).2.2.2.2]
      exact reference_dx _ _ _ _ _
    · rw [(hagree c).1, (hagree c).2.2.1, (hagree c).2.2.2.1]
      exact reference_dgain _ _ _

end Cert.Proof.InDgrad
-- ==== Proof.InWgrad.lean ====
/-
  The gradient of the input projection's weight.
  Each grid point multiplies the transposed rows of one operand with the other and writes one block of the weight gradient:
  what one point computes (`pay_apply`), where the blocks lie, what the output array holds (`final`), what the reference
  computes (`reference_eq`), and the claim that the two agree (`algebraic`).
-/
module

public import proofs.«01_k».proof.Defs
public import proofs.«01_k».proof.Proof.Gen.InWgradIdeal.Value
public import proofs.«01_k».proof.Proof.Gen.InWgradRefIdeal.Read
public import Idealize.ShloMosaic.Lib.Pointwise
public import Idealize.ShloMosaic.Lib.StableHlo.ReadAt

@[expose] public section

noncomputable section

open Idealize.ShloMosaic Idealize.ShloMosaic.TcCoe Idealize.SL.Sem
open Idealize.ShloMosaic.Pipeline (Dat)

namespace Cert.InWgradIdeal.Product

open Cert.InWgradIdeal Cert.InWgradIdeal.Gen

variable (m : (ℓ : Loc nD τ sig) → Buf (Elt Ideal) ℓ) (ρ : Dev nD → PrngReg)

theorem zero2 : (![0, 0] : Fin 2 → Nat) = fun _ => 0 := funext fun a => by fin_cases a <;> rfl
theorem zero3 : (![0, 0, 0] : Fin 3 → Nat) = fun _ => 0 := funext fun a => by fin_cases a <;> rfl

/-- What one grid point computes: row `q`, column `r` of its block is the sum over the 2048 tokens of the products. -/
theorem pay_apply (x : Vec Ideal S2048x1024 .bf16) (y : Vec Ideal S2048x1920 .bf16) (p : Fin 1) (q : Fin 1024) (r : Fin 1920) :
    k0_pay1 x y (ix3 p q r) = ∑ n : Fin 2048, x (ix2 n q) * y (ix2 n r) := by
  pointwise [k0_pay1]

/-- The block index of window 0 at grid point `t`. -/
theorem index0 : ∀ t : Fin grid0.N, win0_0.index t 0 = 0 ∧ win0_0.index t 1 = 0 := by decide +kernel

/-- What the first operand's block holds at grid point `t`. -/
theorem block0_apply (c : Dev nD) (t : Fin cfg0.N) (p : Fin 2048) (q : Fin 1024) (i : S2048x1024.Idx)
    (h0 : (i 0).val = p.val) (h1 : (i 1).val = q.val) :
    iblk m c 0 t (ix2 p q) = V m c main_v0 i := by
  show V m c main_v0 ((win0_0.rect t).emb (ix2 p q)) = V m c main_v0 i
  have e := index0 t
  congr 1
  funext a
  apply Fin.ext
  rw [win0_0.rect_emb_val]
  match a with
  | ⟨0, _⟩ => show win0_0.index t 0 * 2048 + p.val = (i 0).val; omega
  | ⟨1, _⟩ => show win0_0.index t 1 * 1024 + q.val = (i 1).val; omega

/-- The block index of window 1 at grid point `t`. -/
theorem index1 : ∀ t : Fin grid0.N, win0_1.index t 0 = 0 ∧ win0_1.index t 1 = t.val := by decide +kernel

/-- What the second operand's block holds at grid point `t`. -/
theorem block1_apply (c : Dev nD) (t : Fin cfg0.N) (p : Fin 2048) (q : Fin 1920) (i : S2048x7680.Idx)
    (h0 : (i 0).val = p.val) (h1 : (i 1).val = t.val * 1920 + q.val) :
    iblk m c 1 t (ix2 p q) = V m c main_v1 i := by
  show V m c main_v1 ((win0_1.rect t).emb (ix2 p q)) = V m c main_v1 i
  have e := index1 t
  congr 1
  funext a
  apply Fin.ext
  rw [win0_1.rect_emb_val]
  match a with
  | ⟨0, _⟩ => show win0_1.index t 0 * 2048 + p.val = (i 0).val; omega
  | ⟨1, _⟩ => show win0_1.index t 1 * 1920 + q.val = (i 1).val; omega

/-- The block index of the output window 2 at grid point `t`. -/
theorem index2 : ∀ t : Fin grid0.N, win0_2.index t 0 = t.val ∧ win0_2.index t 1 = 0 ∧ win0_2.index t 2 = 0 := by decide +kernel

/-- Where element (p, q, r) of the block written at point `t` sits in the output array. -/
theorem place2 (t : Fin cfg0.N) (p : Fin 1) (q : Fin 1024) (r : Fin 1920) :
    ((win0_2.rect t).emb (ix3 p q r) 0).val = t.val * 1 + p.val ∧ ((win0_2.rect t).emb (ix3 p q r) 1).val = q.val ∧ ((win0_2.rect t).emb (ix3 p q r) 2).val = r.val := by
  have e := index2 t
  refine ⟨?_, ?_, ?_⟩
  · rw [win0_2.rect_emb_val]; show win0_2.index t 0 * 1 + p.val = _; omega
  · rw [win0_2.rect_emb_val]; show win0_2.index t 1 * 1024 + q.val = _; omega
  · rw [win0_2.rect_emb_val]; show win0_2.index t 2 * 1920 + r.val = _; omega

/-- Every element of the output array lies in some point's block. -/
theorem cover2 (i : S4x1024x1920.Idx) : ∃ t : Fin cfg0.N, (cfg0.win 2).flush t = true ∧ i ∈ ((cfg0.win 2).blk t).view.set := by
  have h0 : (i 0 : Nat) < 4 := (i 0).isLt
  have h1 : (i 1 : Nat) < 1024 := (i 1).isLt
  have h2 : (i 2 : Nat) < 1920 := (i 2).isLt
  have hN : cfg0.N = 4 := N_0
  obtain ⟨t, ht⟩ : ∃ t : Fin cfg0.N, t.val = (i 0).val := ⟨⟨(i 0).val, by omega⟩, rfl⟩
  have e := index2 t
  refine ⟨t, flush0_2 _, ?_⟩
  show i ∈ ((View.whole main_v2).slice (win0_2.rect t)).set
  rw [View.set_slice_whole, Rect.mem_set_unit]
  intro a
  match a with
  | ⟨0, _⟩ =>
    show win0_2.index t 0 * 1 ≤ (i 0).val ∧ (i 0).val < win0_2.index t 0 * 1 + 1
    omega
  | ⟨1, _⟩ =>
    show win0_2.index t 1 * 1024 ≤ (i 1).val ∧ (i 1).val < win0_2.index t 1 * 1024 + 1024
    omega
  | ⟨2, _⟩ =>
    show win0_2.index t 2 * 1920 ≤ (i 2).val ∧ (i 2).val < win0_2.index t 2 * 1920 + 1920
    omega

/-- Column `b` of chip `a`'s block, in the whole array. -/
def blockCol (a : Fin 4) (b : Fin 1920) : Fin 7680 := ⟨a.val * 1920 + b.val, by omega⟩

/-- The weight gradient of all four blocks: entry (q, r) of block `a` is the sum over the tokens. -/
def grad (x : Vec Ideal S2048x1024 .f32) (ct : Vec Ideal S2048x7680 .f32) : Vec Ideal S4x1024x1920 .f32 := fun i =>
  (∑ n : Fin 2048, (x (ix2 n (i 1)) : EReal) * (ct (ix2 n (blockCol (i 0) (i 2))) : EReal) : EReal)

/-- The first operand as the call finds it, in terms of the arguments. -/
theorem operand0 (c : Dev nD) (n : Fin 2048) (k : Fin 1024) :
    V m c main_v0 (ix2 n k) = m ((c : Thread nD τ).loc main_arg0) (ix2 n k) := by
  unfold V
  after_reads_at

/-- The second operand as the call finds it. -/
theorem operand1 (c : Dev nD) (n : Fin 2048) (k : Fin 7680) :
    V m c main_v1 (ix2 n k) = m ((c : Thread nD τ).loc main_arg2) (ix2 n k) := by
  unfold V
  after_reads_at

/-- A sum over two blocks is the gradient's entry once each block's entries are the operands' entries. -/
theorem assemble (x : Vec Ideal S2048x1024 .bf16) (y : Vec Ideal S2048x1920 .bf16) (X : Vec Ideal S2048x1024 .f32) (Y : Vec Ideal S2048x7680 .f32)
    (q : Fin 1024) (r : Fin 1920) (i : S4x1024x1920.Idx) (hx : ∀ n : Fin 2048, x (ix2 n q) = X (ix2 n (i 1)))
    (hy : ∀ n : Fin 2048, y (ix2 n r) = Y (ix2 n (blockCol (i 0) (i 2)))) :
    ∑ n : Fin 2048, x (ix2 n q) * y (ix2 n r) = grad X Y i :=
  Finset.sum_congr rfl fun n _ => by rw [hx, hy]

/-- What point `t` writes back is its block of the gradient. -/
theorem flushed_eq (c : Dev nD) (t : Fin cfg0.N) :
    (dats m 0 c).flushed 2 t = (win0_2.blk t).view.read (Elt Ideal)
      (grad (m ((c : Thread nD τ).loc main_arg0)) (m ((c : Thread nD τ).loc main_arg2))) := by
  rw [Value.flushed2]
  unfold out0_2
  rw [View.canon_unit_zero zero3, View.ld_unit_zero zero2, View.ld_unit_zero zero2]
  funext j
  obtain ⟨p, q, r, rfl⟩ : ∃ (p : Fin 1) (q : Fin 1024) (r : Fin 1920), j = ix3 p q r :=
    ⟨j 0, j 1, j 2, by funext a; fin_cases a <;> rfl⟩
  refine (pay_apply _ _ p q r).trans ?_
  have hp := p.isLt
  show _ = grad _ _ ((win0_2.rect t).emb (ix3 p q r))
  obtain ⟨e0, e1, e2⟩ := place2 t p q r
  exact assemble _ _ _ _ q r ((win0_2.rect t).emb (ix3 p q r))
    (fun n => (block0_apply m c t n q (ix2 n _) rfl (by
      exact e1)).trans (operand0 m c _ _))
    (fun n => (block1_apply m c t n r (ix2 n _) rfl (by
      show ((win0_2.rect t).emb (ix3 p q r) 0).val * 1920 + ((win0_2.rect t).emb (ix3 p q r) 2).val = _; rw [e0, e2]; omega)).trans (operand1 m c _ _))

/-- After the run the output array holds the gradient. -/
theorem final (c : Dev nD) : (dats m 0 c).arrAt 2 cfg0.N
    = grad (m ((c : Thread nD τ).loc main_arg0)) (m ((c : Thread nD τ).loc main_arg2)) :=
  (dats m 0 c).arrAt_eq_of_cover 2 _ (fun t _ => flushed_eq m c t) cover2

end Cert.InWgradIdeal.Product

namespace Cert.Proof.InWgrad

open Cert.InWgradRefIdeal Cert.InWgradRefIdeal.Read Cert.InWgradIdeal.Product in
/-- The reference's gradient, entry by entry, is the same sum. -/
theorem reference_eq (x : Vec Ideal Cert.InWgradRefIdeal.S2048x1024 .f32) (ct : Vec Ideal Cert.InWgradRefIdeal.S2048x7680 .f32) :
    val_main_v4 (F := Ideal) x ct = grad x ct := by
  funext j
  obtain ⟨p, q, r, rfl⟩ : ∃ (p : Fin 4) (q : Fin 1024) (r : Fin 1920), j = ix3 p q r :=
    ⟨j 0, j 1, j 2, by funext a; fin_cases a <;> rfl⟩
  pointwise [val_main_v4, val_main_v3, val_main_v2, val_main_v1]
  exact Finset.sum_congr rfl fun n _ => mul_comm _ _

/-- The kernel's weight gradient is the reference's. -/
theorem algebraic : Cert.algebraic_InWgradIdeal_InWgradRefIdeal := by
  intro m ρ m' ρ' _ hagree
  refine ⟨fun c => Cert.InWgradIdeal.Product.grad (m ((c.tc : Thread _ _).loc Cert.InWgradIdeal.main_arg0))
    (m ((c.tc : Thread _ _).loc Cert.InWgradIdeal.main_arg2)), ?_, ?_⟩
  · exact (θ_run Cert.InWgradIdeal.defs _ _).mono
      (fun _ h c => ⟨(h c).1.trans (Cert.InWgradIdeal.Product.final m c), (h c).2⟩)
      (Cert.InWgradIdeal.Value.run_blocks (F := Ideal) m ρ)
  · refine (θ_run Cert.InWgradRefIdeal.defs _ _).mono (fun _ h c => ⟨(h c).1.trans ?_, (h c).2⟩)
      (Cert.InWgradRefIdeal.Value.run (F := Ideal) m' ρ')
    rw [(hagree c).1, (hagree c).2.2]
    exact reference_eq _ _

end Cert.Proof.InWgrad
-- ==== Proof.InFwd.lean ====
/-
  The input projection, forward.
  Each grid point multiplies 1024 rows of the activations with one chip's block of columns of the weight: what one point computes
  (`pay_apply`), where the blocks lie, what the output array holds (`final`), what the reference computes (`reference_eq`), and
  the claim that the two agree (`algebraic`).
-/
module

public import proofs.«01_k».proof.Defs
public import proofs.«01_k».proof.Proof.Gen.InFwdIdeal.Value
public import proofs.«01_k».proof.Proof.Gen.InFwdRefIdeal.Read
public import Idealize.ShloMosaic.Lib.Pointwise
public import Idealize.ShloMosaic.Lib.StableHlo.ReadAt

@[expose] public section

noncomputable section

open Idealize.ShloMosaic Idealize.ShloMosaic.TcCoe Idealize.SL.Sem
open Idealize.ShloMosaic.Pipeline (Dat)

namespace Cert.InFwdIdeal.Product

open Cert.InFwdIdeal Cert.InFwdIdeal.Gen

variable (m : (ℓ : Loc nD τ sig) → Buf (Elt Ideal) ℓ) (ρ : Dev nD → PrngReg)

theorem zero2 : (![0, 0] : Fin 2 → Nat) = fun _ => 0 := funext fun a => by fin_cases a <;> rfl
theorem zero3 : (![0, 0, 0] : Fin 3 → Nat) = fun _ => 0 := funext fun a => by fin_cases a <;> rfl

/-- What one grid point computes, entry by entry. -/
theorem pay_apply (x : Vec Ideal S1024x1024 .bf16) (y : Vec Ideal S1x1024x1920 .bf16) (p : Fin 1024) (q : Fin 1920) :
    k0_pay1 x y (ix2 p q) = ∑ n : Fin 1024, x (ix2 p n) * y (ix3 0 n q) := by
  pointwise [k0_pay1]

/-- The block index of window 0 at grid point `t`. -/
theorem index0 : ∀ t : Fin grid0.N, win0_0.index t 0 = (t.val % 2) ∧ win0_0.index t 1 = 0 := by decide +kernel

/-- What the block of activations holds at grid point `t`. -/
theorem block0_apply (c : Dev nD) (t : Fin cfg0.N) (p : Fin 1024) (q : Fin 1024) (i : S2048x1024.Idx)
    (h0 : (i 0).val = (t.val % 2) * 1024 + p.val) (h1 : (i 1).val = q.val) :
    iblk m c 0 t (ix2 p q) = V m c main_v0 i := by
  show V m c main_v0 ((win0_0.rect t).emb (ix2 p q)) = V m c main_v0 i
  have e := index0 t
  congr 1
  funext a
  apply Fin.ext
  rw [win0_0.rect_emb_val]
  match a with
  | ⟨0, _⟩ => show win0_0.index t 0 * 1024 + p.val = (i 0).val; omega
  | ⟨1, _⟩ => show win0_0.index t 1 * 1024 + q.val = (i 1).val; omega

/-- The block index of window 1 at grid point `t`. -/
theorem index1 : ∀ t : Fin grid0.N, win0_1.index t 0 = (t.val / 2) ∧ win0_1.index t 1 = 0 ∧ win0_1.index t 2 = 0 := by decide +kernel

/-- What the block of the weight holds at grid point `t`. -/
theorem block1_apply (c : Dev nD) (t : Fin cfg0.N) (p : Fin 1) (q : Fin 1024) (r : Fin 1920) (i : S4x1024x1920.Idx)
    (h0 : (i 0).val = (t.val / 2) * 1 + p.val) (h1 : (i 1).val = q.val) (h2 : (i 2).val = r.val) :
    iblk m c 1 t (ix3 p q r) = V m c main_v3 i := by
  show V m c main_v3 ((win0_1.rect t).emb (ix3 p q r)) = V m c main_v3 i
  have e := index1 t
  congr 1
  funext a
  apply Fin.ext
  rw [win0_1.rect_emb_val]
  match a with
  | ⟨0, _⟩ => show win0_1.index t 0 * 1 + p.val = (i 0).val; omega
  | ⟨1, _⟩ => show win0_1.index t 1 * 1024 + q.val = (i 1).val; omega
  | ⟨2, _⟩ => show win0_1.index t 2 * 1920 + r.val = (i 2).val; omega

/-- The block index of the output window 2 at grid point `t`. -/
theorem index2 : ∀ t : Fin grid0.N, win0_2.index t 0 = (t.val % 2) ∧ win0_2.index t 1 = (t.val / 2) := by decide +kernel

/-- Where element (p, q) of the block written at point `t` sits in the output array. -/
theorem place2 (t : Fin cfg0.N) (p : Fin 1024) (q : Fin 1920) :
    ((win0_2.rect t).emb (ix2 p q) 0).val = (t.val % 2) * 1024 + p.val ∧ ((win0_2.rect t).emb (ix2 p q) 1).val = (t.val / 2) * 1920 + q.val := by
  have e := index2 t
  refine ⟨?_, ?_⟩
  · rw [win0_2.rect_emb_val]; show win0_2.index t 0 * 1024 + p.val = _; omega
  · rw [win0_2.rect_emb_val]; show win0_2.index t 1 * 1920 + q.val = _; omega

/-- Every element of the output array lies in some point's block. -/
theorem cover2 (i : S2048x7680.Idx) : ∃ t : Fin cfg0.N, (cfg0.win 2).flush t = true ∧ i ∈ ((cfg0.win 2).blk t).view.set := by
  have h0 : (i 0 : Nat) < 2048 := (i 0).isLt
  have h1 : (i 1 : Nat) < 7680 := (i 1).isLt
  have hN : cfg0.N = 8 := N_0
  obtain ⟨t, ht⟩ : ∃ t : Fin cfg0.N, t.val = (i 1).val / 1920 * 2 + (i 0).val / 1024 := ⟨⟨(i 1).val / 1920 * 2 + (i 0).val / 1024, by omega⟩, rfl⟩
  have e := index2 t
  refine ⟨t, flush0_2 _, ?_⟩
  show i ∈ ((View.whole main_v4).slice (win0_2.rect t)).set
  rw [View.set_slice_whole, Rect.mem_set_unit]
  intro a
  match a with
  | ⟨0, _⟩ =>
    show win0_2.index t 0 * 1024 ≤ (i 0).val ∧ (i 0).val < win0_2.index t 0 * 1024 + 1024
    omega
  | ⟨1, _⟩ =>
    show win0_2.index t 1 * 1920 ≤ (i 1).val ∧ (i 1).val < win0_2.index t 1 * 1920 + 1920
    omega

/-- The product's entries. -/
def product (x : Vec Ideal S2048x1024 .f32) (w : Vec Ideal S1024x7680 .f32) : Vec Ideal S2048x7680 .f32 := fun i =>
  (∑ n : Fin 1024, (x (ix2 (i 0) n) : EReal) * (w (ix2 n (i 1)) : EReal) : EReal)

/-- The activations as the call finds them. -/
theorem operand0 (c : Dev nD) (p : Fin 2048) (n : Fin 1024) :
    V m c main_v0 (ix2 p n) = m ((c : Thread nD τ).loc main_arg0) (ix2 p n) := by
  unfold V
  after_reads_at

/-- The weight as the call finds it: block `a` of columns. -/
theorem operand1 (c : Dev nD) (a : Fin 4) (n : Fin 1024) (q : Fin 1920) :
    V m c main_v3 (ix3 a n q) = m ((c : Thread nD τ).loc main_arg1) (ix2 n ⟨a.val * 1920 + q.val, by omega⟩) := by
  unfold V
  after_reads_at

/-- A point's entry is the product's entry once its blocks' entries are the operands' entries. -/
theorem assemble (x : Vec Ideal S1024x1024 .bf16) (y : Vec Ideal S1x1024x1920 .bf16) (X : Vec Ideal S2048x1024 .f32) (W : Vec Ideal S1024x7680 .f32)
    (p : Fin 1024) (q : Fin 1920) (a : Fin 4) (i : S2048x7680.Idx) (hi : (i 1).val = a.val * 1920 + q.val)
    (hx : ∀ n : Fin 1024, x (ix2 p n) = X (ix2 (i 0) n))
    (hy : ∀ n : Fin 1024, y (ix3 0 n q) = W (ix2 n ⟨a.val * 1920 + q.val, by omega⟩)) :
    ∑ n : Fin 1024, x (ix2 p n) * y (ix3 0 n q) = product X W i := by
  have hi' : (⟨a.val * 1920 + q.val, by omega⟩ : Fin 7680) = i 1 := Fin.ext hi.symm
  rw [hi'] at hy
  unfold product
  exact Finset.sum_congr rfl fun n _ => by rw [hx, hy]

/-- What point `t` writes back is its block of the product. -/
theorem flushed_eq (c : Dev nD) (t : Fin cfg0.N) :
    (dats m 0 c).flushed 2 t = (win0_2.blk t).view.read (Elt Ideal)
      (product (m ((c : Thread nD τ).loc main_arg0)) (m ((c : Thread nD τ).loc main_arg1))) := by
  rw [Value.flushed2]
  unfold out0_2
  rw [View.canon_unit_zero zero2, View.ld_unit_zero zero2, View.ld_unit_zero zero3]
  funext j
  obtain ⟨p, q, rfl⟩ : ∃ (p : Fin 1024) (q : Fin 1920), j = ix2 p q := ⟨j 0, j 1, by funext a; fin_cases a <;> rfl⟩
  refine (pay_apply _ _ p q).trans ?_
  show _ = product _ _ ((win0_2.rect t).emb (ix2 p q))
  obtain ⟨e0, e1⟩ := place2 t p q
  have ht : t.val / 2 < 4 := by have h := t.isLt; have hN : cfg0.N = 8 := N_0; omega
  exact assemble _ _ _ _ p q ⟨t.val / 2, ht⟩ ((win0_2.rect t).emb (ix2 p q)) e1
    (fun n => (block0_apply m c t p n (ix2 _ n) e0 rfl).trans (operand0 m c _ _))
    (fun n => (block1_apply m c t 0 n q (ix3 ⟨t.val / 2, ht⟩ n q) (by show t.val / 2 = t.val / 2 * 1 + 0; omega) rfl rfl).trans (operand1 m c _ _ _))

/-- After the run the output array holds the product. -/
theorem final (c : Dev nD) : (dats m 0 c).arrAt 2 cfg0.N
    = product (m ((c : Thread nD τ).loc main_arg0)) (m ((c : Thread nD τ).loc main_arg1)) :=
  (dats m 0 c).arrAt_eq_of_cover 2 _ (fun t _ => flushed_eq m c t) cover2

end Cert.InFwdIdeal.Product

namespace Cert.Proof.InFwd

open Cert.InFwdRefIdeal Cert.InFwdRefIdeal.Read Cert.InFwdIdeal.Product in
/-- The reference's product, entry by entry, is the same. -/
theorem reference_eq (x : Vec Ideal Cert.InFwdRefIdeal.S2048x1024 .f32) (w : Vec Ideal Cert.InFwdRefIdeal.S1024x7680 .f32) :
    val_main_v0 (F := Ideal) x w = product x w := by
  funext j
  obtain ⟨p, q, rfl⟩ : ∃ (p : Fin 2048) (q : Fin 7680), j = ix2 p q := ⟨j 0, j 1, by funext a; fin_cases a <;> rfl⟩
  pointwise [val_main_v0]
  rfl

/-- The kernel's product is the reference's. -/
theorem algebraic : Cert.algebraic_InFwdIdeal_InFwdRefIdeal := by
  intro m ρ m' ρ' _ hagree
  refine ⟨fun c => Cert.InFwdIdeal.Product.product (m ((c.tc : Thread _ _).loc Cert.InFwdIdeal.main_arg0))
    (m ((c.tc : Thread _ _).loc Cert.InFwdIdeal.main_arg1)), ?_, ?_⟩
  · exact (θ_run Cert.InFwdIdeal.defs _ _).mono
      (fun _ h c => ⟨(h c).1.trans (Cert.InFwdIdeal.Product.final m c), (h c).2⟩)
      (Cert.InFwdIdeal.Value.run_blocks (F := Ideal) m ρ)
  · refine (θ_run Cert.InFwdRefIdeal.defs _ _).mono (fun _ h c => ⟨(h c).1.trans ?_, (h c).2⟩)
      (Cert.InFwdRefIdeal.Value.run (F := Ideal) m' ρ')
    rw [(hagree c).1, (hagree c).2]
    exact reference_eq _ _

end Cert.Proof.InFwd
-- ==== Proof.OutFwd.lean ====
/-
  The output projection with its residual and norm, forward.
  Each grid point multiplies 512 rows with the whole weight, adds the residual and normalises the rows: what one point computes
  (`stream_apply`, `norm_apply`), where the blocks lie, what the two output arrays hold (`final4`, `final5`), what the reference
  computes (`reference_stream`, `reference_norm`), and the claim that the two agree (`algebraic`).
-/
module

public import proofs.«01_k».proof.Defs
public import proofs.«01_k».proof.Proof.Gen.OutFwdIdeal.Value
public import proofs.«01_k».proof.Proof.Gen.OutFwdRefIdeal.Read
public import Idealize.ShloMosaic.Lib.Pointwise
public import Idealize.ShloMosaic.Lib.StableHlo.ReadAt

@[expose] public section

noncomputable section

open Idealize.ShloMosaic Idealize.ShloMosaic.TcCoe Idealize.SL.Sem
open Idealize.ShloMosaic.Pipeline (Dat)

namespace Cert.OutFwdIdeal.Product

open Cert.OutFwdIdeal Cert.OutFwdIdeal.Gen

variable (m : (ℓ : Loc nD τ sig) → Buf (Elt Ideal) ℓ) (ρ : Dev nD → PrngReg)

theorem zero2 : (![0, 0] : Fin 2 → Nat) = fun _ => 0 := funext fun a => by fin_cases a <;> rfl

/-- One entry of the new residual stream: the residual plus the product of a row with a column. -/
def entry (x : EReal) (a b : Fin 1024 → EReal) : EReal := x + ∑ n, a n * b n

/-- One entry of the normalised row: the row's entry over its root mean square, times the gain. -/
def normed (s : Fin 1024 → EReal) (q : Fin 1024) (g : EReal) : EReal :=
  s q * Ideal.rsqrt (Ideal.div (∑ k, s k * s k) (Ideal.ofBits .f32 0x44800000#32) + Ideal.ofBits .f32 0x358637BD#32) * g

/-- What one grid point stores of the residual stream, entry by entry. -/
theorem stream_apply (a : Vec Ideal S512x1024 .bf16) (w : Vec Ideal S1024x1024 .bf16) (x : Vec Ideal S512x1024 .f32) (p : Fin 512) (q : Fin 1024) :
    k0_pay1 a w x (ix2 p q) = entry (x (ix2 p q)) (fun n => a (ix2 p n)) (fun n => w (ix2 n q)) := by
  pointwise [k0_pay1]
  exact add_comm _ _

/-- What one grid point stores of the normalised rows, entry by entry. -/
theorem norm_apply (a : Vec Ideal S512x1024 .bf16) (w : Vec Ideal S1024x1024 .bf16) (x : Vec Ideal S512x1024 .f32) (g : Vec Ideal S1x1024 .f32) (p : Fin 512) (q : Fin 1024) :
    k0_pay2 a w x g (ix2 p q) = normed (fun k => k0_pay1 a w x (ix2 p k)) q (g (ix2 0 q)) := by
  pointwise [k0_pay2]
  rfl

/-- The block index of window 0 at grid point `t`. -/
theorem index0 : ∀ t : Fin grid0.N, win0_0.index t 0 = t.val ∧ win0_0.index t 1 = 0 := by decide +kernel

/-- What the block of rows holds at grid point `t`. -/
theorem block0_apply (c : Dev nD) (t : Fin cfg0.N) (p : Fin 512) (q : Fin 1024) (i : S2048x1024.Idx)
    (h0 : (i 0).val = t.val * 512 + p.val) (h1 : (i 1).val = q.val) :
    iblk m c 0 t (ix2 p q) = V m c main_v0 i := by
  show V m c main_v0 ((win0_0.rect t).emb (ix2 p q)) = V m c main_v0 i
  have e := index0 t
  congr 1
  funext a
  apply Fin.ext
  rw [win0_0.rect_emb_val]
  match a with
  | ⟨0, _⟩ => show win0_0.index t 0 * 512 + p.val = (i 0).val; omega
  | ⟨1, _⟩ => show win0_0.index t 1 * 1024 + q.val = (i 1).val; omega

/-- The block index of window 1 at grid point `t`. -/
theorem index1 : ∀ t : Fin grid0.N, win0_1.index t 0 = 0 ∧ win0_1.index t 1 = 0 := by decide +kernel

/-- The weight's block is the whole weight at every grid point. -/
theorem block1_apply (c : Dev nD) (t : Fin cfg0.N) (p : Fin 1024) (q : Fin 1024) (i : S1024x1024.Idx)
    (h0 : (i 0).val = p.val) (h1 : (i 1).val = q.val) :
    iblk m c 1 t (ix2 p q) = V m c main_v3 i := by
  show V m c main_v3 ((win0_1.rect t).emb (ix2 p q)) = V m c main_v3 i
  have e := index1 t
  congr 1
  funext a
  apply Fin.ext
  rw [win0_1.rect_emb_val]
  match a with
  | ⟨0, _⟩ => show win0_1.index t 0 * 1024 + p.val = (i 0).val; omega
  | ⟨1, _⟩ => show win0_1.index t 1 * 1024 + q.val = (i 1).val; omega

/-- The block index of window 2 at grid point `t`. -/
theorem index2 : ∀ t : Fin grid0.N, win0_2.index t 0 = t.val ∧ win0_2.index t 1 = 0 := by decide +kernel

/-- What the block of the residual holds at grid point `t`. -/
theorem block2_apply (c : Dev nD) (t : Fin cfg0.N) (p : Fin 512) (q : Fin 1024) (i : S2048x1024.Idx)
    (h0 : (i 0).val = t.val * 512 + p.val) (h1 : (i 1).val = q.val) :
    iblk m c 2 t (ix2 p q) = V m c main_arg2 i := by
  show V m c main_arg2 ((win0_2.rect t).emb (ix2 p q)) = V m c main_arg2 i
  have e := index2 t
  congr 1
  funext a
  apply Fin.ext
  rw [win0_2.rect_emb_val]
  match a with
  | ⟨0, _⟩ => show win0_2.index t 0 * 512 + p.val = (i 0).val; omega
  | ⟨1, _⟩ => show win0_2.index t 1 * 1024 + q.val = (i 1).val; omega

/-- The block index of window 3 at grid point `t`. -/
theorem index3 : ∀ t : Fin grid0.N, win0_3.index t 0 = 0 ∧ win0_3.index t 1 = 0 := by decide +kernel

/-- The gain's block is the whole gain at every grid point. -/
theorem block3_apply (c : Dev nD) (t : Fin cfg0.N) (p : Fin 1) (q : Fin 1024) (i : S1x1024.Idx)
    (h0 : (i 0).val = p.val) (h1 : (i 1).val = q.val) :
    iblk m c 3 t (ix2 p q) = V m c main_arg3 i := by
  show V m c main_arg3 ((win0_3.rect t).emb (ix2 p q)) = V m c main_arg3 i
  have e := index3 t
  congr 1
  funext a
  apply Fin.ext
  rw [win0_3.rect_emb_val]
  match a with
  | ⟨0, _⟩ => show win0_3.index t 0 * 1 + p.val = (i 0).val; omega
  | ⟨1, _⟩ => show win0_3.index t 1 * 1024 + q.val = (i 1).val; omega

/-- The block index of the output window 4 at grid point `t`. -/
theorem index4 : ∀ t : Fin grid0.N, win0_4.index t 0 = t.val ∧ win0_4.index t 1 = 0 := by decide +kernel

/-- Where element (p, q) of the block written at point `t` sits in the output array. -/
theorem place4 (t : Fin cfg0.N) (p : Fin 512) (q : Fin 1024) :
    ((win0_4.rect t).emb (ix2 p q) 0).val = t.val * 512 + p.val ∧ ((win0_4.rect t).emb (ix2 p q) 1).val = q.val := by
  have e := index4 t
  refine ⟨?_, ?_⟩
  · rw [win0_4.rect_emb_val]; show win0_4.index t 0 * 512 + p.val = _; omega
  · rw [win0_4.rect_emb_val]; show win0_4.index t 1 * 1024 + q.val = _; omega

/-- Every element of the output array lies in some point's block. -/
theorem cover4 (i : S2048x1024.Idx) : ∃ t : Fin cfg0.N, (cfg0.win 4).flush t = true ∧ i ∈ ((cfg0.win 4).blk t).view.set := by
  have h0 : (i 0 : Nat) < 2048 := (i 0).isLt
  have h1 : (i 1 : Nat) < 1024 := (i 1).isLt
  have hN : cfg0.N = 4 := N_0
  obtain ⟨t, ht⟩ : ∃ t : Fin cfg0.N, t.val = (i 0).val / 512 := ⟨⟨(i 0).val / 512, by omega⟩, rfl⟩
  have e := index4 t
  refine ⟨t, flush0_4 _, ?_⟩
  show i ∈ ((View.whole main_v4_0).slice (win0_4.rect t)).set
  rw [View.set_slice_whole, Rect.mem_set_unit]
  intro a
  match a with
  | ⟨0, _⟩ =>
    show win0_4.index t 0 * 512 ≤ (i 0).val ∧ (i 0).val < win0_4.index t 0 * 512 + 512
    omega
  | ⟨1, _⟩ =>
    show win0_4.index t 1 * 1024 ≤ (i 1).val ∧ (i 1).val < win0_4.index t 1 * 1024 + 1024
    omega

/-- The block index of the output window 5 at grid point `t`. -/
theorem index5 : ∀ t : Fin grid0.N, win0_5.index t 0 = t.val ∧ win0_5.index t 1 = 0 := by decide +kernel

/-- Where element (p, q) of the block written at point `t` sits in the output array. -/
theorem place5 (t : Fin cfg0.N) (p : Fin 512) (q : Fin 1024) :
    ((win0_5.rect t).emb (ix2 p q) 0).val = t.val * 512 + p.val ∧ ((win0_5.rect t).emb (ix2 p q) 1).val = q.val := by
  have e := index5 t
  refine ⟨?_, ?_⟩
  · rw [win0_5.rect_emb_val]; show win0_5.index t 0 * 512 + p.val = _; omega
  · rw [win0_5.rect_emb_val]; show win0_5.index t 1 * 1024 + q.val = _; omega

/-- Every element of the output array lies in some point's block. -/
theorem cover5 (i : S2048x1024.Idx) : ∃ t : Fin cfg0.N, (cfg0.win 5).flush t = true ∧ i ∈ ((cfg0.win 5).blk t).view.set := by
  have h0 : (i 0 : Nat) < 2048 := (i 0).isLt
  have h1 : (i 1 : Nat) < 1024 := (i 1).isLt
  have hN : cfg0.N = 4 := N_0
  obtain ⟨t, ht⟩ : ∃ t : Fin cfg0.N, t.val = (i 0).val / 512 := ⟨⟨(i 0).val / 512, by omega⟩, rfl⟩
  have e := index5 t
  refine ⟨t, flush0_5 _, ?_⟩
  show i ∈ ((View.whole main_v4_1).slice (win0_5.rect t)).set
  rw [View.set_slice_whole, Rect.mem_set_unit]
  intro a
  match a with
  | ⟨0, _⟩ =>
    show win0_5.index t 0 * 512 ≤ (i 0).val ∧ (i 0).val < win0_5.index t 0 * 512 + 512
    omega
  | ⟨1, _⟩ =>
    show win0_5.index t 1 * 1024 ≤ (i 1).val ∧ (i 1).val < win0_5.index t 1 * 1024 + 1024
    omega

/-- The new residual stream. -/
def stream (a : Vec Ideal S2048x1024 .f32) (w : Vec Ideal S1024x1024 .f32) (x : Vec Ideal S2048x1024 .f32) : Vec Ideal S2048x1024 .f32 := fun i =>
  entry (x i) (fun n => a (ix2 (i 0) n)) (fun n => w (ix2 n (i 1)))

/-- Its normalised rows. -/
def norm (a : Vec Ideal S2048x1024 .f32) (w : Vec Ideal S1024x1024 .f32) (x : Vec Ideal S2048x1024 .f32) (g : Vec Ideal S1x1024 .f32) : Vec Ideal S2048x1024 .bf16 := fun i =>
  normed (fun k => stream a w x (ix2 (i 0) k)) (i 1) (g (ix2 0 (i 1)))

/-- The rows as the call finds them. -/
theorem operand0 (c : Dev nD) (p : Fin 2048) (n : Fin 1024) :
    V m c main_v0 (ix2 p n) = m ((c : Thread nD τ).loc main_arg0) (ix2 p n) := by
  unfold V
  after_reads_at

/-- The weight as the call finds it. -/
theorem operand1 (c : Dev nD) (n : Fin 1024) (q : Fin 1024) :
    V m c main_v3 (ix2 n q) = m ((c : Thread nD τ).loc main_arg1) (ix2 n q) := by
  unfold V
  after_reads_at
  have e : (⟨n.val / 256 * 256 + n.val % 256, by omega⟩ : Fin 1024) = n := Fin.ext (by simp only; omega)
  exact congrArg (fun k : Fin 1024 => m ((c : Thread nD τ).loc main_arg1) (ix2 k q)) e

/-- A point's stream entry is the stream's entry once its blocks' entries are the operands' entries. -/
theorem assemble (a : Vec Ideal S512x1024 .bf16) (w : Vec Ideal S1024x1024 .bf16) (x : Vec Ideal S512x1024 .f32)
    (A : Vec Ideal S2048x1024 .f32) (W : Vec Ideal S1024x1024 .f32) (X : Vec Ideal S2048x1024 .f32) (p : Fin 512) (P : Fin 2048)
    (ha : ∀ n : Fin 1024, a (ix2 p n) = A (ix2 P n)) (hw : ∀ (n : Fin 1024) (q : Fin 1024), w (ix2 n q) = W (ix2 n q))
    (hx : ∀ q : Fin 1024, x (ix2 p q) = X (ix2 P q)) (q : Fin 1024) :
    k0_pay1 a w x (ix2 p q) = stream A W X (ix2 P q) := by
  rw [stream_apply, hx]
  unfold stream entry
  congr 1
  exact Finset.sum_congr rfl fun n _ => congrArg₂ (fun u v : EReal => u * v) (ha n) (hw n q)

/-- The stream of a block's row at point `t`. -/
theorem stream_row (c : Dev nD) (t : Fin cfg0.N) (p : Fin 512) (P : Fin 2048) (hP : P.val = t.val * 512 + p.val) (q : Fin 1024) :
    k0_pay1 (iblk m c 0 t) (iblk m c 1 t) (iblk m c 2 t) (ix2 p q)
      = stream (m ((c : Thread nD τ).loc main_arg0)) (m ((c : Thread nD τ).loc main_arg1)) (m ((c : Thread nD τ).loc main_arg2)) (ix2 P q) :=
  assemble _ _ _ _ _ _ p P
    (fun n => (block0_apply m c t p n (ix2 P n) hP rfl).trans (operand0 m c _ _))
    (fun n q => (block1_apply m c t n q (ix2 n q) rfl rfl).trans (operand1 m c _ _))
    (fun q => (block2_apply m c t p q (ix2 P q) hP rfl).trans (by rw [V_main_arg2])) q

/-- What point `t` writes back to the stream is its block of it. -/
theorem flushed4_eq (c : Dev nD) (t : Fin cfg0.N) :
    (dats m 0 c).flushed 4 t = (win0_4.blk t).view.read (Elt Ideal)
      (stream (m ((c : Thread nD τ).loc main_arg0)) (m ((c : Thread nD τ).loc main_arg1)) (m ((c : Thread nD τ).loc main_arg2))) := by
  rw [Value.flushed4]
  unfold out0_4
  rw [View.canon_unit_zero zero2, View.ld_unit_zero zero2, View.ld_unit_zero zero2, View.ld_unit_zero zero2]
  funext j
  obtain ⟨p, q, rfl⟩ : ∃ (p : Fin 512) (q : Fin 1024), j = ix2 p q := ⟨j 0, j 1, by funext a; fin_cases a <;> rfl⟩
  obtain ⟨e0, e1⟩ := place4 t p q
  refine (stream_row m c t p ((win0_4.rect t).emb (ix2 p q) 0) e0 q).trans ?_
  show stream _ _ _ _ = stream _ _ _ ((win0_4.rect t).emb (ix2 p q))
  congr 1
  funext a
  match a with
  | ⟨0, _⟩ => rfl
  | ⟨1, _⟩ => exact Fin.ext e1.symm

/-- What point `t` writes back to the normalised rows is its block of them. -/
theorem flushed5_eq (c : Dev nD) (t : Fin cfg0.N) :
    (dats m 0 c).flushed 5 t = (win0_5.blk t).view.read (Elt Ideal)
      (norm (m ((c : Thread nD τ).loc main_arg0)) (m ((c : Thread nD τ).loc main_arg1)) (m ((c : Thread nD τ).loc main_arg2)) (m ((c : Thread nD τ).loc main_arg3))) := by
  rw [Value.flushed5]
  unfold out0_5
  rw [View.canon_unit_zero zero2, View.ld_unit_zero zero2, View.ld_unit_zero zero2, View.ld_unit_zero zero2, View.ld_unit_zero zero2]
  funext j
  obtain ⟨p, q, rfl⟩ : ∃ (p : Fin 512) (q : Fin 1024), j = ix2 p q := ⟨j 0, j 1, by funext a; fin_cases a <;> rfl⟩
  obtain ⟨e0, e1⟩ := place5 t p q
  refine (norm_apply _ _ _ _ p q).trans ?_
  show _ = norm _ _ _ _ ((win0_5.rect t).emb (ix2 p q))
  have e1' : q = (win0_5.rect t).emb (ix2 p q) 1 := Fin.ext e1.symm
  unfold norm
  rw [funext (stream_row m c t p ((win0_5.rect t).emb (ix2 p q) 0) e0),
    (block3_apply m c t 0 q (ix2 0 q) rfl rfl).trans (congrFun (V_main_arg3 m c) _)]
  exact congrArg (fun k : Fin 1024 => normed (fun k => stream _ _ _ (ix2 ((win0_5.rect t).emb (ix2 p q) 0) k)) k (m ((c : Thread nD τ).loc main_arg3) (ix2 0 k))) e1'

/-- After the run the first output array holds the residual stream, -/
theorem final4 (c : Dev nD) : (dats m 0 c).arrAt 4 cfg0.N
    = stream (m ((c : Thread nD τ).loc main_arg0)) (m ((c : Thread nD τ).loc main_arg1)) (m ((c : Thread nD τ).loc main_arg2)) :=
  (dats m 0 c).arrAt_eq_of_cover 4 _ (fun t _ => flushed4_eq m c t) cover4

/-- and the second its normalised rows. -/
theorem final5 (c : Dev nD) : (dats m 0 c).arrAt 5 cfg0.N
    = norm (m ((c : Thread nD τ).loc main_arg0)) (m ((c : Thread nD τ).loc main_arg1)) (m ((c : Thread nD τ).loc main_arg2)) (m ((c : Thread nD τ).loc main_arg3)) :=
  (dats m 0 c).arrAt_eq_of_cover 5 _ (fun t _ => flushed5_eq m c t) cover5

end Cert.OutFwdIdeal.Product

namespace Cert.Proof.OutFwd

open Cert.OutFwdRefIdeal Cert.OutFwdRefIdeal.Read Cert.OutFwdIdeal.Product

/-- The reference's residual stream, entry by entry, is the same. -/
theorem reference_stream (a : Vec Ideal Cert.OutFwdRefIdeal.S2048x1024 .f32) (w : Vec Ideal Cert.OutFwdRefIdeal.S1024x1024 .f32)
    (x : Vec Ideal Cert.OutFwdRefIdeal.S2048x1024 .f32) : val_main_v1 (F := Ideal) a w x = stream a w x := by
  funext j
  obtain ⟨p, q, rfl⟩ : ∃ (p : Fin 2048) (q : Fin 1024), j = ix2 p q := ⟨j 0, j 1, by funext a; fin_cases a <;> rfl⟩
  pointwise [val_main_v1, val_main_v0]
  rfl

/-- The reference's normalised rows, entry by entry, are the same. -/
theorem reference_norm (a : Vec Ideal Cert.OutFwdRefIdeal.S2048x1024 .f32) (w : Vec Ideal Cert.OutFwdRefIdeal.S1024x1024 .f32)
    (x : Vec Ideal Cert.OutFwdRefIdeal.S2048x1024 .f32) (g : Vec Ideal Cert.OutFwdRefIdeal.S1x1024 .f32) :
    val_main_v14 (F := Ideal) a w x g = norm a w x g := by
  funext j
  obtain ⟨p, q, rfl⟩ : ∃ (p : Fin 2048) (q : Fin 1024), j = ix2 p q := ⟨j 0, j 1, by funext a; fin_cases a <;> rfl⟩
  pointwise [val_main_v14, val_main_v13, val_main_v12, val_main_v11, val_main_v10, val_main_v9, val_main_v8, val_main_v7, val_main_v6,
    val_main_v5, val_main_v4, val_main_v3, val_main_v2, val_main_cst, val_main_cst_0, val_main_cst_1, reference_stream]
  rfl

/-- The kernel's residual stream and normalised rows are the reference's. -/
theorem algebraic : Cert.algebraic_OutFwdIdeal_OutFwdRefIdeal := by
  intro m ρ m' ρ' _ hagree
  refine ⟨fun c => stream (m ((c.tc : Thread _ _).loc Cert.OutFwdIdeal.main_arg0)) (m ((c.tc : Thread _ _).loc Cert.OutFwdIdeal.main_arg1))
      (m ((c.tc : Thread _ _).loc Cert.OutFwdIdeal.main_arg2)),
    fun c => norm (m ((c.tc : Thread _ _).loc Cert.OutFwdIdeal.main_arg0)) (m ((c.tc : Thread _ _).loc Cert.OutFwdIdeal.main_arg1))
      (m ((c.tc : Thread _ _).loc Cert.OutFwdIdeal.main_arg2)) (m ((c.tc : Thread _ _).loc Cert.OutFwdIdeal.main_arg3)), ?_, ?_⟩
  · exact (θ_run Cert.OutFwdIdeal.defs _ _).mono
      (fun _ h c => ⟨(h c).1.trans (final4 m c), (h c).2.1.trans (final5 m c), (h c).2.2⟩)
      (Cert.OutFwdIdeal.Value.run_blocks (F := Ideal) m ρ)
  · refine (θ_run Cert.OutFwdRefIdeal.defs _ _).mono (fun _ h c => ⟨(h c).1.trans ?_, (h c).2.1.trans ?_, (h c).2.2⟩)
      (Cert.OutFwdRefIdeal.Value.run (F := Ideal) m' ρ')
    · rw [(hagree c).1, (hagree c).2.1, (hagree c).2.2.1]
      exact reference_stream _ _ _
    · rw [(hagree c).1, (hagree c).2.1, (hagree c).2.2.1, (hagree c).2.2.2]
      exact reference_norm _ _ _ _

end Cert.Proof.OutFwd
-- ==== Proof.Ff1Fwd.lean ====
/-
  The first MLP product with its squared ReLU, forward.
  Each grid point multiplies 1024 rows of the activations with one chip's block of columns of the weight: what one point computes
  (`pay_apply`), where the blocks lie, what the output array holds (`final`), what the reference computes (`reference_eq`), and
  the claim that the two agree (`algebraic`).
-/
module

public import proofs.«01_k».proof.Defs
public import proofs.«01_k».proof.Proof.Gen.Ff1FwdIdeal.Value
public import proofs.«01_k».proof.Proof.Gen.Ff1FwdRefIdeal.Read
public import Idealize.ShloMosaic.Lib.Pointwise
public import Idealize.ShloMosaic.Lib.StableHlo.ReadAt

@[expose] public section

noncomputable section

open Idealize.ShloMosaic Idealize.ShloMosaic.TcCoe Idealize.SL.Sem
open Idealize.ShloMosaic.Pipeline (Dat)

namespace Cert.Ff1FwdIdeal.Product

open Cert.Ff1FwdIdeal Cert.Ff1FwdIdeal.Gen

variable (m : (ℓ : Loc nD τ sig) → Buf (Elt Ideal) ℓ) (ρ : Dev nD → PrngReg)

/-- The squared ReLU. -/
def act (v : EReal) : EReal := max v 0 * max v 0

theorem zero2 : (![0, 0] : Fin 2 → Nat) = fun _ => 0 := funext fun a => by fin_cases a <;> rfl
theorem zero3 : (![0, 0, 0] : Fin 3 → Nat) = fun _ => 0 := funext fun a => by fin_cases a <;> rfl

/-- What one grid point computes, entry by entry. -/
theorem pay_apply (x : Vec Ideal S1024x1024 .bf16) (y : Vec Ideal S1x1024x1024 .bf16) (p : Fin 1024) (q : Fin 1024) :
    k0_pay1 x y (ix2 p q) = act (∑ n : Fin 1024, x (ix2 p n) * y (ix3 0 n q)) := by
  pointwise [k0_pay1]
  rfl

/-- The block index of window 0 at grid point `t`. -/
theorem index0 : ∀ t : Fin grid0.N, win0_0.index t 0 = (t.val % 2) ∧ win0_0.index t 1 = 0 := by decide +kernel

/-- What the block of activations holds at grid point `t`. -/
theorem block0_apply (c : Dev nD) (t : Fin cfg0.N) (p : Fin 1024) (q : Fin 1024) (i : S2048x1024.Idx)
    (h0 : (i 0).val = (t.val % 2) * 1024 + p.val) (h1 : (i 1).val = q.val) :
    iblk m c 0 t (ix2 p q) = V m c main_v0 i := by
  show V m c main_v0 ((win0_0.rect t).emb (ix2 p q)) = V m c main_v0 i
  have e := index0 t
  congr 1
  funext a
  apply Fin.ext
  rw [win0_0.rect_emb_val]
  match a with
  | ⟨0, _⟩ => show win0_0.index t 0 * 1024 + p.val = (i 0).val; omega
  | ⟨1, _⟩ => show win0_0.index t 1 * 1024 + q.val = (i 1).val; omega

/-- The block index of window 1 at grid point `t`. -/
theorem index1 : ∀ t : Fin grid0.N, win0_1.index t 0 = (t.val / 2) ∧ win0_1.index t 1 = 0 ∧ win0_1.index t 2 = 0 := by decide +kernel

/-- What the block of the weight holds at grid point `t`. -/
theorem block1_apply (c : Dev nD) (t : Fin cfg0.N) (p : Fin 1) (q : Fin 1024) (r : Fin 1024) (i : S4x1024x1024.Idx)
    (h0 : (i 0).val = (t.val / 2) * 1 + p.val) (h1 : (i 1).val = q.val) (h2 : (i 2).val = r.val) :
    iblk m c 1 t (ix3 p q r) = V m c main_v3 i := by
  show V m c main_v3 ((win0_1.rect t).emb (ix3 p q r)) = V m c main_v3 i
  have e := index1 t
  congr 1
  funext a
  apply Fin.ext
  rw [win0_1.rect_emb_val]
  match a with
  | ⟨0, _⟩ => show win0_1.index t 0 * 1 + p.val = (i 0).val; omega
  | ⟨1, _⟩ => show win0_1.index t 1 * 1024 + q.val = (i 1).val; omega
  | ⟨2, _⟩ => show win0_1.index t 2 * 1024 + r.val = (i 2).val; omega

/-- The block index of the output window 2 at grid point `t`. -/
theorem index2 : ∀ t : Fin grid0.N, win0_2.index t 0 = (t.val % 2) ∧ win0_2.index t 1 = (t.val / 2) := by decide +kernel

/-- Where element (p, q) of the block written at point `t` sits in the output array. -/
theorem place2 (t : Fin cfg0.N) (p : Fin 1024) (q : Fin 1024) :
    ((win0_2.rect t).emb (ix2 p q) 0).val = (t.val % 2) * 1024 + p.val ∧ ((win0_2.rect t).emb (ix2 p q) 1).val = (t.val / 2) * 1024 + q.val := by
  have e := index2 t
  refine ⟨?_, ?_⟩
  · rw [win0_2.rect_emb_val]; show win0_2.index t 0 * 1024 + p.val = _; omega
  · rw [win0_2.rect_emb_val]; show win0_2.index t 1 * 1024 + q.val = _; omega

/-- Every element of the output array lies in some point's block. -/
theorem cover2 (i : S2048x4096.Idx) : ∃ t : Fin cfg0.N, (cfg0.win 2).flush t = true ∧ i ∈ ((cfg0.win 2).blk t).view.set := by
  have h0 : (i 0 : Nat) < 2048 := (i 0).isLt
  have h1 : (i 1 : Nat) < 4096 := (i 1).isLt
  have hN : cfg0.N = 8 := N_0
  obtain ⟨t, ht⟩ : ∃ t : Fin cfg0.N, t.val = (i 1).val / 1024 * 2 + (i 0).val / 1024 := ⟨⟨(i 1).val / 1024 * 2 + (i 0).val / 1024, by omega⟩, rfl⟩
  have e := index2 t
  refine ⟨t, flush0_2 _, ?_⟩
  show i ∈ ((View.whole main_v4).slice (win0_2.rect t)).set
  rw [View.set_slice_whole, Rect.mem_set_unit]
  intro a
  match a with
  | ⟨0, _⟩ =>
    show win0_2.index t 0 * 1024 ≤ (i 0).val ∧ (i 0).val < win0_2.index t 0 * 1024 + 1024
    omega
  | ⟨1, _⟩ =>
    show win0_2.index t 1 * 1024 ≤ (i 1).val ∧ (i 1).val < win0_2.index t 1 * 1024 + 1024
    omega

/-- The product's entries. -/
def product (x : Vec Ideal S2048x1024 .f32) (w : Vec Ideal S1024x4096 .f32) : Vec Ideal S2048x4096 .bf16 := fun i =>
  act (∑ n : Fin 1024, (x (ix2 (i 0) n) : EReal) * (w (ix2 n (i 1)) : EReal))

/-- The activations as the call finds them. -/
theorem operand0 (c : Dev nD) (p : Fin 2048) (n : Fin 1024) :
    V m c main_v0 (ix2 p n) = m ((c : Thread nD τ).loc main_arg0) (ix2 p n) := by
  unfold V
  after_reads_at

/-- The weight as the call finds it: block `a` of columns. -/
theorem operand1 (c : Dev nD) (a : Fin 4) (n : Fin 1024) (q : Fin 1024) :
    V m c main_v3 (ix3 a n q) = m ((c : Thread nD τ).loc main_arg1) (ix2 n ⟨a.val * 1024 + q.val, by omega⟩) := by
  unfold V
  after_reads_at

/-- A point's entry is the product's entry once its blocks' entries are the operands' entries. -/
theorem assemble (x : Vec Ideal S1024x1024 .bf16) (y : Vec Ideal S1x1024x1024 .bf16) (X : Vec Ideal S2048x1024 .f32) (W : Vec Ideal S1024x4096 .f32)
    (p : Fin 1024) (q : Fin 1024) (a : Fin 4) (i : S2048x4096.Idx) (hi : (i 1).val = a.val * 1024 + q.val)
    (hx : ∀ n : Fin 1024, x (ix2 p n) = X (ix2 (i 0) n))
    (hy : ∀ n : Fin 1024, y (ix3 0 n q) = W (ix2 n ⟨a.val * 1024 + q.val, by omega⟩)) :
    act (∑ n : Fin 1024, x (ix2 p n) * y (ix3 0 n q)) = product X W i := by
  have hi' : (⟨a.val * 1024 + q.val, by omega⟩ : Fin 4096) = i 1 := Fin.ext hi.symm
  rw [hi'] at hy
  unfold product; congr 1
  exact Finset.sum_congr rfl fun n _ => by rw [hx, hy]

/-- What point `t` writes back is its block of the product. -/
theorem flushed_eq (c : Dev nD) (t : Fin cfg0.N) :
    (dats m 0 c).flushed 2 t = (win0_2.blk t).view.read (Elt Ideal)
      (product (m ((c : Thread nD τ).loc main_arg0)) (m ((c : Thread nD τ).loc main_arg1))) := by
  rw [Value.flushed2]
  unfold out0_2
  rw [View.canon_unit_zero zero2, View.ld_unit_zero zero2, View.ld_unit_zero zero3]
  funext j
  obtain ⟨p, q, rfl⟩ : ∃ (p : Fin 1024) (q : Fin 1024), j = ix2 p q := ⟨j 0, j 1, by funext a; fin_cases a <;> rfl⟩
  refine (pay_apply _ _ p q).trans ?_
  show _ = product _ _ ((win0_2.rect t).emb (ix2 p q))
  obtain ⟨e0, e1⟩ := place2 t p q
  have ht : t.val / 2 < 4 := by have h := t.isLt; have hN : cfg0.N = 8 := N_0; omega
  exact assemble _ _ _ _ p q ⟨t.val / 2, ht⟩ ((win0_2.rect t).emb (ix2 p q)) e1
    (fun n => (block0_apply m c t p n (ix2 _ n) e0 rfl).trans (operand0 m c _ _))
    (fun n => (block1_apply m c t 0 n q (ix3 ⟨t.val / 2, ht⟩ n q) (by show t.val / 2 = t.val / 2 * 1 + 0; omega) rfl rfl).trans (operand1 m c _ _ _))

/-- After the run the output array holds the product. -/
theorem final (c : Dev nD) : (dats m 0 c).arrAt 2 cfg0.N
    = product (m ((c : Thread nD τ).loc main_arg0)) (m ((c : Thread nD τ).loc main_arg1)) :=
  (dats m 0 c).arrAt_eq_of_cover 2 _ (fun t _ => flushed_eq m c t) cover2

end Cert.Ff1FwdIdeal.Product

namespace Cert.Proof.Ff1Fwd

open Cert.Ff1FwdRefIdeal Cert.Ff1FwdRefIdeal.Read Cert.Ff1FwdIdeal.Product in
/-- The reference's product, entry by entry, is the same. -/
theorem reference_eq (x : Vec Ideal Cert.Ff1FwdRefIdeal.S2048x1024 .f32) (w : Vec Ideal Cert.Ff1FwdRefIdeal.S1024x4096 .f32) :
    val_main_v3 (F := Ideal) x w = product x w := by
  funext j
  obtain ⟨p, q, rfl⟩ : ∃ (p : Fin 2048) (q : Fin 4096), j = ix2 p q := ⟨j 0, j 1, by funext a; fin_cases a <;> rfl⟩
  pointwise [val_main_v3, val_main_v2, val_main_v1, val_main_v0, val_main_call0_v0, val_main_call0_cst]
  rfl

/-- The kernel's product is the reference's. -/
theorem algebraic : Cert.algebraic_Ff1FwdIdeal_Ff1FwdRefIdeal := by
  intro m ρ m' ρ' _ hagree
  refine ⟨fun c => Cert.Ff1FwdIdeal.Product.product (m ((c.tc : Thread _ _).loc Cert.Ff1FwdIdeal.main_arg0))
    (m ((c.tc : Thread _ _).loc Cert.Ff1FwdIdeal.main_arg1)), ?_, ?_⟩
  · exact (θ_run Cert.Ff1FwdIdeal.defs _ _).mono
      (fun _ h c => ⟨(h c).1.trans (Cert.Ff1FwdIdeal.Product.final m c), (h c).2⟩)
      (Cert.Ff1FwdIdeal.Value.run_blocks (F := Ideal) m ρ)
  · refine (θ_run Cert.Ff1FwdRefIdeal.defs _ _).mono (fun _ h c => ⟨(h c).1.trans ?_, (h c).2⟩)
      (Cert.Ff1FwdRefIdeal.Value.run (F := Ideal) m' ρ')
    rw [(hagree c).1, (hagree c).2]
    exact reference_eq _ _

end Cert.Proof.Ff1Fwd
-- ==== Proof.Ff2Fwd.lean ====
/-
  The second MLP product with its residual and norm, forward.
  Each grid point multiplies 512 rows with the whole weight, adds the residual and normalises the rows: what one point computes
  (`stream_apply`, `norm_apply`), where the blocks lie, what the two output arrays hold (`final4`, `final5`), what the reference
  computes (`reference_stream`, `reference_norm`), and the claim that the two agree (`algebraic`).
-/
module

public import proofs.«01_k».proof.Defs
public import proofs.«01_k».proof.Proof.Gen.Ff2FwdIdeal.Value
public import proofs.«01_k».proof.Proof.Gen.Ff2FwdRefIdeal.Read
public import Idealize.ShloMosaic.Lib.Pointwise
public import Idealize.ShloMosaic.Lib.StableHlo.ReadAt

@[expose] public section

noncomputable section

open Idealize.ShloMosaic Idealize.ShloMosaic.TcCoe Idealize.SL.Sem
open Idealize.ShloMosaic.Pipeline (Dat)

namespace Cert.Ff2FwdIdeal.Product

open Cert.Ff2FwdIdeal Cert.Ff2FwdIdeal.Gen

variable (m : (ℓ : Loc nD τ sig) → Buf (Elt Ideal) ℓ) (ρ : Dev nD → PrngReg)

theorem zero2 : (![0, 0] : Fin 2 → Nat) = fun _ => 0 := funext fun a => by fin_cases a <;> rfl

/-- One entry of the new residual stream: the residual plus the product of a row with a column. -/
def entry (x : EReal) (a b : Fin 4096 → EReal) : EReal := x + ∑ n, a n * b n

/-- One entry of the normalised row: the row's entry over its root mean square, times the gain. -/
def normed (s : Fin 1024 → EReal) (q : Fin 1024) (g : EReal) : EReal :=
  s q * Ideal.rsqrt (Ideal.div (∑ k, s k * s k) (Ideal.ofBits .f32 0x44800000#32) + Ideal.ofBits .f32 0x358637BD#32) * g

/-- What one grid point stores of the residual stream, entry by entry. -/
theorem stream_apply (a : Vec Ideal S512x4096 .bf16) (w : Vec Ideal S4096x1024 .bf16) (x : Vec Ideal S512x1024 .f32) (p : Fin 512) (q : Fin 1024) :
    k0_pay1 a w x (ix2 p q) = entry (x (ix2 p q)) (fun n => a (ix2 p n)) (fun n => w (ix2 n q)) := by
  pointwise [k0_pay1]
  exact add_comm _ _

/-- What one grid point stores of the normalised rows, entry by entry. -/
theorem norm_apply (a : Vec Ideal S512x4096 .bf16) (w : Vec Ideal S4096x1024 .bf16) (x : Vec Ideal S512x1024 .f32) (g : Vec Ideal S1x1024 .f32) (p : Fin 512) (q : Fin 1024) :
    k0_pay2 a w x g (ix2 p q) = normed (fun k => k0_pay1 a w x (ix2 p k)) q (g (ix2 0 q)) := by
  pointwise [k0_pay2]
  rfl

/-- The block index of window 0 at grid point `t`. -/
theorem index0 : ∀ t : Fin grid0.N, win0_0.index t 0 = t.val ∧ win0_0.index t 1 = 0 := by decide +kernel

/-- What the block of rows holds at grid point `t`. -/
theorem block0_apply (c : Dev nD) (t : Fin cfg0.N) (p : Fin 512) (q : Fin 4096) (i : S2048x4096.Idx)
    (h0 : (i 0).val = t.val * 512 + p.val) (h1 : (i 1).val = q.val) :
    iblk m c 0 t (ix2 p q) = V m c main_v0 i := by
  show V m c main_v0 ((win0_0.rect t).emb (ix2 p q)) = V m c main_v0 i
  have e := index0 t
  congr 1
  funext a
  apply Fin.ext
  rw [win0_0.rect_emb_val]
  match a with
  | ⟨0, _⟩ => show win0_0.index t 0 * 512 + p.val = (i 0).val; omega
  | ⟨1, _⟩ => show win0_0.index t 1 * 4096 + q.val = (i 1).val; omega

/-- The block index of window 1 at grid point `t`. -/
theorem index1 : ∀ t : Fin grid0.N, win0_1.index t 0 = 0 ∧ win0_1.index t 1 = 0 := by decide +kernel

/-- The weight's block is the whole weight at every grid point. -/
theorem block1_apply (c : Dev nD) (t : Fin cfg0.N) (p : Fin 4096) (q : Fin 1024) (i : S4096x1024.Idx)
    (h0 : (i 0).val = p.val) (h1 : (i 1).val = q.val) :
    iblk m c 1 t (ix2 p q) = V m c main_v3 i := by
  show V m c main_v3 ((win0_1.rect t).emb (ix2 p q)) = V m c main_v3 i
  have e := index1 t
  congr 1
  funext a
  apply Fin.ext
  rw [win0_1.rect_emb_val]
  match a with
  | ⟨0, _⟩ => show win0_1.index t 0 * 4096 + p.val = (i 0).val; omega
  | ⟨1, _⟩ => show win0_1.index t 1 * 1024 + q.val = (i 1).val; omega

/-- The block index of window 2 at grid point `t`. -/
theorem index2 : ∀ t : Fin grid0.N, win0_2.index t 0 = t.val ∧ win0_2.index t 1 = 0 := by decide +kernel

/-- What the block of the residual holds at grid point `t`. -/
theorem block2_apply (c : Dev nD) (t : Fin cfg0.N) (p : Fin 512) (q : Fin 1024) (i : S2048x1024.Idx)
    (h0 : (i 0).val = t.val * 512 + p.val) (h1 : (i 1).val = q.val) :
    iblk m c 2 t (ix2 p q) = V m c main_arg2 i := by
  show V m c main_arg2 ((win0_2.rect t).emb (ix2 p q)) = V m c main_arg2 i
  have e := index2 t
  congr 1
  funext a
  apply Fin.ext
  rw [win0_2.rect_emb_val]
  match a with
  | ⟨0, _⟩ => show win0_2.index t 0 * 512 + p.val = (i 0).val; omega
  | ⟨1, _⟩ => show win0_2.index t 1 * 1024 + q.val = (i 1).val; omega

/-- The block index of window 3 at grid point `t`. -/
theorem index3 : ∀ t : Fin grid0.N, win0_3.index t 0 = 0 ∧ win0_3.index t 1 = 0 := by decide +kernel

/-- The gain's block is the whole gain at every grid point. -/
theorem block3_apply (c : Dev nD) (t : Fin cfg0.N) (p : Fin 1) (q : Fin 1024) (i : S1x1024.Idx)
    (h0 : (i 0).val = p.val) (h1 : (i 1).val = q.val) :
    iblk m c 3 t (ix2 p q) = V m c main_arg3 i := by
  show V m c main_arg3 ((win0_3.rect t).emb (ix2 p q)) = V m c main_arg3 i
  have e := index3 t
  congr 1
  funext a
  apply Fin.ext
  rw [win0_3.rect_emb_val]
  match a with
  | ⟨0, _⟩ => show win0_3.index t 0 * 1 + p.val = (i 0).val; omega
  | ⟨1, _⟩ => show win0_3.index t 1 * 1024 + q.val = (i 1).val; omega

/-- The block index of the output window 4 at grid point `t`. -/
theorem index4 : ∀ t : Fin grid0.N, win0_4.index t 0 = t.val ∧ win0_4.index t 1 = 0 := by decide +kernel

/-- Where element (p, q) of the block written at point `t` sits in the output array. -/
theorem place4 (t : Fin cfg0.N) (p : Fin 512) (q : Fin 1024) :
    ((win0_4.rect t).emb (ix2 p q) 0).val = t.val * 512 + p.val ∧ ((win0_4.rect t).emb (ix2 p q) 1).val = q.val := by
  have e := index4 t
  refine ⟨?_, ?_⟩
  · rw [win0_4.rect_emb_val]; show win0_4.index t 0 * 512 + p.val = _; omega
  · rw [win0_4.rect_emb_val]; show win0_4.index t 1 * 1024 + q.val = _; omega

/-- Every element of the output array lies in some point's block. -/
theorem cover4 (i : S2048x1024.Idx) : ∃ t : Fin cfg0.N, (cfg0.win 4).flush t = true ∧ i ∈ ((cfg0.win 4).blk t).view.set := by
  have h0 : (i 0 : Nat) < 2048 := (i 0).isLt
  have h1 : (i 1 : Nat) < 1024 := (i 1).isLt
  have hN : cfg0.N = 4 := N_0
  obtain ⟨t, ht⟩ : ∃ t : Fin cfg0.N, t.val = (i 0).val / 512 := ⟨⟨(i 0).val / 512, by omega⟩, rfl⟩
  have e := index4 t
  refine ⟨t, flush0_4 _, ?_⟩
  show i ∈ ((View.whole main_v4_0).slice (win0_4.rect t)).set
  rw [View.set_slice_whole, Rect.mem_set_unit]
  intro a
  match a with
  | ⟨0, _⟩ =>
    show win0_4.index t 0 * 512 ≤ (i 0).val ∧ (i 0).val < win0_4.index t 0 * 512 + 512
    omega
  | ⟨1, _⟩ =>
    show win0_4.index t 1 * 1024 ≤ (i 1).val ∧ (i 1).val < win0_4.index t 1 * 1024 + 1024
    omega

/-- The block index of the output window 5 at grid point `t`. -/
theorem index5 : ∀ t : Fin grid0.N, win0_5.index t 0 = t.val ∧ win0_5.index t 1 = 0 := by decide +kernel

/-- Where element (p, q) of the block written at point `t` sits in the output array. -/
theorem place5 (t : Fin cfg0.N) (p : Fin 512) (q : Fin 1024) :
    ((win0_5.rect t).emb (ix2 p q) 0).val = t.val * 512 + p.val ∧ ((win0_5.rect t).emb (ix2 p q) 1).val = q.val := by
  have e := index5 t
  refine ⟨?_, ?_⟩
  · rw [win0_5.rect_emb_val]; show win0_5.index t 0 * 512 + p.val = _; omega
  · rw [win0_5.rect_emb_val]; show win0_5.index t 1 * 1024 + q.val = _; omega

/-- Every element of the output array lies in some point's block. -/
theorem cover5 (i : S2048x1024.Idx) : ∃ t : Fin cfg0.N, (cfg0.win 5).flush t = true ∧ i ∈ ((cfg0.win 5).blk t).view.set := by
  have h0 : (i 0 : Nat) < 2048 := (i 0).isLt
  have h1 : (i 1 : Nat) < 1024 := (i 1).isLt
  have hN : cfg0.N = 4 := N_0
  obtain ⟨t, ht⟩ : ∃ t : Fin cfg0.N, t.val = (i 0).val / 512 := ⟨⟨(i 0).val / 512, by omega⟩, rfl⟩
  have e := index5 t
  refine ⟨t, flush0_5 _, ?_⟩
  show i ∈ ((View.whole main_v4_1).slice (win0_5.rect t)).set
  rw [View.set_slice_whole, Rect.mem_set_unit]
  intro a
  match a with
  | ⟨0, _⟩ =>
    show win0_5.index t 0 * 512 ≤ (i 0).val ∧ (i 0).val < win0_5.index t 0 * 512 + 512
    omega
  | ⟨1, _⟩ =>
    show win0_5.index t 1 * 1024 ≤ (i 1).val ∧ (i 1).val < win0_5.index t 1 * 1024 + 1024
    omega

/-- The new residual stream. -/
def stream (a : Vec Ideal S2048x4096 .f32) (w : Vec Ideal S4096x1024 .f32) (x : Vec Ideal S2048x1024 .f32) : Vec Ideal S2048x1024 .f32 := fun i =>
  entry (x i) (fun n => a (ix2 (i 0) n)) (fun n => w (ix2 n (i 1)))

/-- Its normalised rows. -/
def norm (a : Vec Ideal S2048x4096 .f32) (w : Vec Ideal S4096x1024 .f32) (x : Vec Ideal S2048x1024 .f32) (g : Vec Ideal S1x1024 .f32) : Vec Ideal S2048x1024 .bf16 := fun i =>
  normed (fun k => stream a w x (ix2 (i 0) k)) (i 1) (g (ix2 0 (i 1)))

/-- The rows as the call finds them. -/
theorem operand0 (c : Dev nD) (p : Fin 2048) (n : Fin 4096) :
    V m c main_v0 (ix2 p n) = m ((c : Thread nD τ).loc main_arg0) (ix2 p n) := by
  unfold V
  after_reads_at

/-- The weight as the call finds it. -/
theorem operand1 (c : Dev nD) (n : Fin 4096) (q : Fin 1024) :
    V m c main_v3 (ix2 n q) = m ((c : Thread nD τ).loc main_arg1) (ix2 n q) := by
  unfold V
  after_reads_at
  have e : (⟨n.val / 1024 * 1024 + n.val % 1024, by omega⟩ : Fin 4096) = n := Fin.ext (by simp only; omega)
  exact congrArg (fun k : Fin 4096 => m ((c : Thread nD τ).loc main_arg1) (ix2 k q)) e

/-- A point's stream entry is the stream's entry once its blocks' entries are the operands' entries. -/
theorem assemble (a : Vec Ideal S512x4096 .bf16) (w : Vec Ideal S4096x1024 .bf16) (x : Vec Ideal S512x1024 .f32)
    (A : Vec Ideal S2048x4096 .f32) (W : Vec Ideal S4096x1024 .f32) (X : Vec Ideal S2048x1024 .f32) (p : Fin 512) (P : Fin 2048)
    (ha : ∀ n : Fin 4096, a (ix2 p n) = A (ix2 P n)) (hw : ∀ (n : Fin 4096) (q : Fin 1024), w (ix2 n q) = W (ix2 n q))
    (hx : ∀ q : Fin 1024, x (ix2 p q) = X (ix2 P q)) (q : Fin 1024) :
    k0_pay1 a w x (ix2 p q) = stream A W X (ix2 P q) := by
  rw [stream_apply, hx]
  unfold stream entry
  congr 1
  exact Finset.sum_congr rfl fun n _ => congrArg₂ (fun u v : EReal => u * v) (ha n) (hw n q)

/-- The stream of a block's row at point `t`. -/
theorem stream_row (c : Dev nD) (t : Fin cfg0.N) (p : Fin 512) (P : Fin 2048) (hP : P.val = t.val * 512 + p.val) (q : Fin 1024) :
    k0_pay1 (iblk m c 0 t) (iblk m c 1 t) (iblk m c 2 t) (ix2 p q)
      = stream (m ((c : Thread nD τ).loc main_arg0)) (m ((c : Thread nD τ).loc main_arg1)) (m ((c : Thread nD τ).loc main_arg2)) (ix2 P q) :=
  assemble _ _ _ _ _ _ p P
    (fun n => (block0_apply m c t p n (ix2 P n) hP rfl).trans (operand0 m c _ _))
    (fun n q => (block1_apply m c t n q (ix2 n q) rfl rfl).trans (operand1 m c _ _))
    (fun q => (block2_apply m c t p q (ix2 P q) hP rfl).trans (by rw [V_main_arg2])) q

/-- What point `t` writes back to the stream is its block of it. -/
theorem flushed4_eq (c : Dev nD) (t : Fin cfg0.N) :
    (dats m 0 c).flushed 4 t = (win0_4.blk t).view.read (Elt Ideal)
      (stream (m ((c : Thread nD τ).loc main_arg0)) (m ((c : Thread nD τ).loc main_arg1)) (m ((c : Thread nD τ).loc main_arg2))) := by
  rw [Value.flushed4]
  unfold out0_4
  rw [View.canon_unit_zero zero2, View.ld_unit_zero zero2, View.ld_unit_zero zero2, View.ld_unit_zero zero2]
  funext j
  obtain ⟨p, q, rfl⟩ : ∃ (p : Fin 512) (q : Fin 1024), j = ix2 p q := ⟨j 0, j 1, by funext a; fin_cases a <;> rfl⟩
  obtain ⟨e0, e1⟩ := place4 t p q
  refine (stream_row m c t p ((win0_4.rect t).emb (ix2 p q) 0) e0 q).trans ?_
  show stream _ _ _ _ = stream _ _ _ ((win0_4.rect t).emb (ix2 p q))
  congr 1
  funext a
  match a with
  | ⟨0, _⟩ => rfl
  | ⟨1, _⟩ => exact Fin.ext e1.symm

/-- What point `t` writes back to the normalised rows is its block of them. -/
theorem flushed5_eq (c : Dev nD) (t : Fin cfg0.N) :
    (dats m 0 c).flushed 5 t = (win0_5.blk t).view.read (Elt Ideal)
      (norm (m ((c : Thread nD τ).loc main_arg0)) (m ((c : Thread nD τ).loc main_arg1)) (m ((c : Thread nD τ).loc main_arg2)) (m ((c : Thread nD τ).loc main_arg3))) := by
  rw [Value.flushed5]
  unfold out0_5
  rw [View.canon_unit_zero zero2, View.ld_unit_zero zero2, View.ld_unit_zero zero2, View.ld_unit_zero zero2, View.ld_unit_zero zero2]
  funext j
  obtain ⟨p, q, rfl⟩ : ∃ (p : Fin 512) (q : Fin 1024), j = ix2 p q := ⟨j 0, j 1, by funext a; fin_cases a <;> rfl⟩
  obtain ⟨e0, e1⟩ := place5 t p q
  refine (norm_apply _ _ _ _ p q).trans ?_
  show _ = norm _ _ _ _ ((win0_5.rect t).emb (ix2 p q))
  have e1' : q = (win0_5.rect t).emb (ix2 p q) 1 := Fin.ext e1.symm
  unfold norm
  rw [funext (stream_row m c t p ((win0_5.rect t).emb (ix2 p q) 0) e0),
    (block3_apply m c t 0 q (ix2 0 q) rfl rfl).trans (congrFun (V_main_arg3 m c) _)]
  exact congrArg (fun k : Fin 1024 => normed (fun k => stream _ _ _ (ix2 ((win0_5.rect t).emb (ix2 p q) 0) k)) k (m ((c : Thread nD τ).loc main_arg3) (ix2 0 k))) e1'

/-- After the run the first output array holds the residual stream, -/
theorem final4 (c : Dev nD) : (dats m 0 c).arrAt 4 cfg0.N
    = stream (m ((c : Thread nD τ).loc main_arg0)) (m ((c : Thread nD τ).loc main_arg1)) (m ((c : Thread nD τ).loc main_arg2)) :=
  (dats m 0 c).arrAt_eq_of_cover 4 _ (fun t _ => flushed4_eq m c t) cover4

/-- and the second its normalised rows. -/
theorem final5 (c : Dev nD) : (dats m 0 c).arrAt 5 cfg0.N
    = norm (m ((c : Thread nD τ).loc main_arg0)) (m ((c : Thread nD τ).loc main_arg1)) (m ((c : Thread nD τ).loc main_arg2)) (m ((c : Thread nD τ).loc main_arg3)) :=
  (dats m 0 c).arrAt_eq_of_cover 5 _ (fun t _ => flushed5_eq m c t) cover5

end Cert.Ff2FwdIdeal.Product

namespace Cert.Proof.Ff2Fwd

open Cert.Ff2FwdRefIdeal Cert.Ff2FwdRefIdeal.Read Cert.Ff2FwdIdeal.Product

/-- The reference's residual stream, entry by entry, is the same. -/
theorem reference_stream (a : Vec Ideal Cert.Ff2FwdRefIdeal.S2048x4096 .f32) (w : Vec Ideal Cert.Ff2FwdRefIdeal.S4096x1024 .f32)
    (x : Vec Ideal Cert.Ff2FwdRefIdeal.S2048x1024 .f32) : val_main_v1 (F := Ideal) a w x = stream a w x := by
  funext j
  obtain ⟨p, q, rfl⟩ : ∃ (p : Fin 2048) (q : Fin 1024), j = ix2 p q := ⟨j 0, j 1, by funext a; fin_cases a <;> rfl⟩
  pointwise [val_main_v1, val_main_v0]
  rfl

/-- The reference's normalised rows, entry by entry, are the same. -/
theorem reference_norm (a : Vec Ideal Cert.Ff2FwdRefIdeal.S2048x4096 .f32) (w : Vec Ideal Cert.Ff2FwdRefIdeal.S4096x1024 .f32)
    (x : Vec Ideal Cert.Ff2FwdRefIdeal.S2048x1024 .f32) (g : Vec Ideal Cert.Ff2FwdRefIdeal.S1x1024 .f32) :
    val_main_v14 (F := Ideal) a w x g = norm a w x g := by
  funext j
  obtain ⟨p, q, rfl⟩ : ∃ (p : Fin 2048) (q : Fin 1024), j = ix2 p q := ⟨j 0, j 1, by funext a; fin_cases a <;> rfl⟩
  pointwise [val_main_v14, val_main_v13, val_main_v12, val_main_v11, val_main_v10, val_main_v9, val_main_v8, val_main_v7, val_main_v6,
    val_main_v5, val_main_v4, val_main_v3, val_main_v2, val_main_cst, val_main_cst_0, val_main_cst_1, reference_stream]
  rfl

/-- The kernel's residual stream and normalised rows are the reference's. -/
theorem algebraic : Cert.algebraic_Ff2FwdIdeal_Ff2FwdRefIdeal := by
  intro m ρ m' ρ' _ hagree
  refine ⟨fun c => stream (m ((c.tc : Thread _ _).loc Cert.Ff2FwdIdeal.main_arg0)) (m ((c.tc : Thread _ _).loc Cert.Ff2FwdIdeal.main_arg1))
      (m ((c.tc : Thread _ _).loc Cert.Ff2FwdIdeal.main_arg2)),
    fun c => norm (m ((c.tc : Thread _ _).loc Cert.Ff2FwdIdeal.main_arg0)) (m ((c.tc : Thread _ _).loc Cert.Ff2FwdIdeal.main_arg1))
      (m ((c.tc : Thread _ _).loc Cert.Ff2FwdIdeal.main_arg2)) (m ((c.tc : Thread _ _).loc Cert.Ff2FwdIdeal.main_arg3)), ?_, ?_⟩
  · exact (θ_run Cert.Ff2FwdIdeal.defs _ _).mono
      (fun _ h c => ⟨(h c).1.trans (final4 m c), (h c).2.1.trans (final5 m c), (h c).2.2⟩)
      (Cert.Ff2FwdIdeal.Value.run_blocks (F := Ideal) m ρ)
  · refine (θ_run Cert.Ff2FwdRefIdeal.defs _ _).mono (fun _ h c => ⟨(h c).1.trans ?_, (h c).2.1.trans ?_, (h c).2.2⟩)
      (Cert.Ff2FwdRefIdeal.Value.run (F := Ideal) m' ρ')
    · rw [(hagree c).1, (hagree c).2.1, (hagree c).2.2.1]
      exact reference_stream _ _ _
    · rw [(hagree c).1, (hagree c).2.1, (hagree c).2.2.1, (hagree c).2.2.2]
      exact reference_norm _ _ _ _

end Cert.Proof.Ff2Fwd
-- ==== Proof.AdamMath.lean ====
/-
  The AdamW step of one entry over the extended reals, and the choice of the layer's gradient among the four.
-/
module

public import Idealize.ShloMosaic.Lib.Pointwise

@[expose] public section

noncomputable section

open Idealize.ShloMosaic

namespace Cert.Proof.AdamMath

/-- The first moment after the step, from the moment before it and the gradient. -/
def moment1 (m g : EReal) : EReal :=
  Ideal.ofBits .f32 0x3F666666#32 * m + Ideal.ofBits .f32 0x3DCCCCCD#32 * g

/-- The second moment after the step. -/
def moment2 (v g : EReal) : EReal :=
  Ideal.ofBits .f32 0x3F7FBE77#32 * v + Ideal.ofBits .f32 0x3A83126F#32 * (g * g)

/-- The change of the weight, from the weight and the two moments after the step. -/
def change (w m v : EReal) : EReal :=
  Ideal.ofBits .f32 0xBA83126F#32
    * (Ideal.div (Ideal.div m (Ideal.ofBits .f32 0x3F26BD02#32))
        (Ideal.sqrt (Ideal.div v (Ideal.ofBits .f32 0x3C231ACC#32)) + Ideal.ofBits .f32 0x322BCC77#32)
      + Ideal.ofBits .f32 0x3C23D70A#32 * w)

/-- The value of layer `l` among the values of the four layers. -/
def pick (l : Nat) (a b c d : EReal) : EReal :=
  if l = 3 then d else if l = 2 then c else if l = 1 then b else a

/-- Only the value of the layer picked matters. -/
theorem pick_congr {l : Nat} (hl : l < 4) {a b c d a' b' c' d' : EReal} (ha : l = 0 → a = a') (hb : l = 1 → b = b')
    (hc : l = 2 → c = c') (hd : l = 3 → d = d') : pick l a b c d = pick l a' b' c' d' := by
  unfold pick
  split
  · exact hd ‹_›
  split
  · exact hc ‹_›
  split
  · exact hb ‹_›
  exact ha (by omega)

end Cert.Proof.AdamMath
-- ==== Proof.AdamFf.lean ====
/-
  The AdamW step of one of the MLP's two weights, all four layers in one call: the gradient of the layer is chosen among four arrays, and the
  moments and the change of every entry are those of the step written out for that entry.
-/
module

public import proofs.«01_k».proof.Defs
public import proofs.«01_k».proof.Proof.AdamMath
public import proofs.«01_k».proof.Proof.Gen.AdamFfIdeal.Value
public import proofs.«01_k».proof.Proof.Gen.AdamFfRefIdeal.Run
public import proofs.«01_k».proof.Proof.Gen.AdamFfRefIdeal.Read
public import Idealize.ShloMosaic.Lib.Pointwise
public import Idealize.ShloMosaic.Lib.StableHlo.ReadAt

@[expose] public section

noncomputable section

open Idealize.ShloMosaic Idealize.ShloMosaic.TcCoe Idealize.SL.Sem
open Idealize.ShloMosaic.Pipeline (Dat)
open Cert.Proof.AdamMath

namespace Cert.AdamFfIdeal.Product

open Cert.AdamFfIdeal Cert.AdamFfIdeal.Gen

variable (m : (ℓ : Loc nD τ sig) → Buf (Elt Ideal) ℓ) (ρ : Dev nD → PrngReg)

theorem zero2 : (![0, 0] : Fin 2 → Nat) = fun _ => 0 := funext fun a => by fin_cases a <;> rfl
theorem zero3 : (![0, 0, 0] : Fin 3 → Nat) = fun _ => 0 := funext fun a => by fin_cases a <;> rfl

/-- A whole block is loaded as it is. -/
theorem load2 (x : Vec Ideal S512x1024 .f32) : View.ld x r0_0 = x := View.ld_unit_zero zero2 _ _
theorem load3 (x : Vec Ideal S1x512x1024 .f32) : View.ld x r0_1 = x := View.ld_unit_zero zero3 _ _

/-- The body chooses the gradient of the grid point's layer. -/
theorem chosen_apply (i : grid0.Coords) (a b c d : Vec Ideal S512x1024 .f32) (q : Fin 512) (r : Fin 1024) :
    k0_pay4 i a b c d (ix2 q r) = pick (i 0).val (a (ix2 q r)) (b (ix2 q r)) (c (ix2 q r)) (d (ix2 q r)) := by
  obtain ⟨l, hl⟩ : ∃ l : Fin 4, (i 0).val = l.val := ⟨i 0, rfl⟩
  unfold k0_pay4
  simp only [hl]
  fin_cases l <;> rfl

/-- The gradient block the body stores. -/
theorem grad_apply (i : grid0.Coords) (a b c d : Vec Ideal S512x1024 .f32) (p : Fin 1) (q : Fin 512) (r : Fin 1024) :
    k0_pay5 i a b c d (ix3 p q r) = k0_pay4 i a b c d (ix2 q r) := by
  pointwise [k0_pay5]

/-- The first moment the body computes. -/
theorem moment1_apply (i : grid0.Coords) (a b c d : Vec Ideal S512x1024 .f32) (x : Vec Ideal S1x512x1024 .f32) (p : Fin 1) (q : Fin 512) (r : Fin 1024) :
    k0_pay7 i a b c d x (ix2 q r) = moment1 (x (ix3 p q r)) (k0_pay4 i a b c d (ix2 q r)) := by
  obtain rfl : p = 0 := Subsingleton.elim _ _
  pointwise [k0_pay7]
  rfl

/-- The second moment the body computes. -/
theorem moment2_apply (i : grid0.Coords) (a b c d : Vec Ideal S512x1024 .f32) (x : Vec Ideal S1x512x1024 .f32) (p : Fin 1) (q : Fin 512) (r : Fin 1024) :
    k0_pay8 i a b c d x (ix2 q r) = moment2 (x (ix3 p q r)) (k0_pay4 i a b c d (ix2 q r)) := by
  obtain rfl : p = 0 := Subsingleton.elim _ _
  pointwise [k0_pay8]
  rfl

/-- The change of the weight the body stores. -/
theorem change_apply (w : Vec Ideal S1x512x1024 .f32) (x y : Vec Ideal S512x1024 .f32) (p : Fin 1) (q : Fin 512) (r : Fin 1024) :
    k0_pay1 (k0_pay6 w) x y (ix3 p q r) = change (w (ix3 p q r)) (x (ix2 q r)) (y (ix2 q r)) := by
  obtain rfl : p = 0 := Subsingleton.elim _ _
  pointwise [k0_pay1, k0_pay6]
  rfl

/-- The moments are stored as they are. -/
theorem stored1_apply (x : Vec Ideal S512x1024 .f32) (p : Fin 1) (q : Fin 512) (r : Fin 1024) : k0_pay2 (F := Ideal) x (ix3 p q r) = x (ix2 q r) := by
  pointwise [k0_pay2]

theorem stored2_apply (x : Vec Ideal S512x1024 .f32) (p : Fin 1) (q : Fin 512) (r : Fin 1024) : k0_pay3 (F := Ideal) x (ix3 p q r) = x (ix2 q r) := by
  pointwise [k0_pay3]

/-- The layer of grid point `t`. -/
theorem layer : ∀ t : Fin grid0.N, (grid0.coords t 0).val = t.val / 2 := by decide +kernel

/-- The block index of window 0 at grid point `t`. -/
theorem index0 : ∀ t : Fin grid0.N, win0_0.index t 0 = t.val / 2 ∧ win0_0.index t 1 = t.val % 2 ∧ win0_0.index t 2 = 0 := by decide +kernel

/-- What the weight's block holds at grid point `t`. -/
theorem block0_apply (c : Dev nD) (t : Fin cfg0.N) (p : Fin 1) (q : Fin 512) (r : Fin 1024) (i : S4x1024x1024.Idx)
    (h0 : (i 0).val = t.val / 2 * 1 + p.val) (h1 : (i 1).val = t.val % 2 * 512 + q.val) (h2 : (i 2).val = r.val) :
    iblk m c 0 t (ix3 p q r) = V m c main_arg0 i := by
  show V m c main_arg0 ((win0_0.rect t).emb (ix3 p q r)) = V m c main_arg0 i
  have e := index0 t
  congr 1
  funext a
  apply Fin.ext
  rw [win0_0.rect_emb_val]
  match a with
  | ⟨0, _⟩ => show win0_0.index t 0 * 1 + p.val = (i 0).val; omega
  | ⟨1, _⟩ => show win0_0.index t 1 * 512 + q.val = (i 1).val; omega
  | ⟨2, _⟩ => show win0_0.index t 2 * 1024 + r.val = (i 2).val; omega

/-- The block index of window 1 at grid point `t`. -/
theorem index1 : ∀ t : Fin grid0.N, win0_1.index t 0 = t.val / 2 ∧ win0_1.index t 1 = t.val % 2 ∧ win0_1.index t 2 = 0 := by decide +kernel

/-- What the first moment's block holds at grid point `t`. -/
theorem block1_apply (c : Dev nD) (t : Fin cfg0.N) (p : Fin 1) (q : Fin 512) (r : Fin 1024) (i : S4x1024x1024.Idx)
    (h0 : (i 0).val = t.val / 2 * 1 + p.val) (h1 : (i 1).val = t.val % 2 * 512 + q.val) (h2 : (i 2).val = r.val) :
    iblk m c 1 t (ix3 p q r) = V m c main_arg1 i := by
  show V m c main_arg1 ((win0_1.rect t).emb (ix3 p q r)) = V m c main_arg1 i
  have e := index1 t
  congr 1
  funext a
  apply Fin.ext
  rw [win0_1.rect_emb_val]
  match a with
  | ⟨0, _⟩ => show win0_1.index t 0 * 1 + p.val = (i 0).val; omega
  | ⟨1, _⟩ => show win0_1.index t 1 * 512 + q.val = (i 1).val; omega
  | ⟨2, _⟩ => show win0_1.index t 2 * 1024 + r.val = (i 2).val; omega

/-- The block index of window 2 at grid point `t`. -/
theorem index2 : ∀ t : Fin grid0.N, win0_2.index t 0 = t.val / 2 ∧ win0_2.index t 1 = t.val % 2 ∧ win0_2.index t 2 = 0 := by decide +kernel

/-- What the second moment's block holds at grid point `t`. -/
theorem block2_apply (c : Dev nD) (t : Fin cfg0.N) (p : Fin 1) (q : Fin 512) (r : Fin 1024) (i : S4x1024x1024.Idx)
    (h0 : (i 0).val = t.val / 2 * 1 + p.val) (h1 : (i 1).val = t.val % 2 * 512 + q.val) (h2 : (i 2).val = r.val) :
    iblk m c 2 t (ix3 p q r) = V m c main_arg2 i := by
  show V m c main_arg2 ((win0_2.rect t).emb (ix3 p q r)) = V m c main_arg2 i
  have e := index2 t
  congr 1
  funext a
  apply Fin.ext
  rw [win0_2.rect_emb_val]
  match a with
  | ⟨0, _⟩ => show win0_2.index t 0 * 1 + p.val = (i 0).val; omega
  | ⟨1, _⟩ => show win0_2.index t 1 * 512 + q.val = (i 1).val; omega
  | ⟨2, _⟩ => show win0_2.index t 2 * 1024 + r.val = (i 2).val; omega

/-- The block index of window 3 at grid point `t`. -/
theorem index3 : ∀ t : Fin grid0.N, win0_3.index t 0 = (if t.val / 2 = 0 then t.val % 2 else 0) ∧ win0_3.index t 1 = 0 := by decide +kernel

/-- What the block of layer 0's gradient holds at grid point `t` of its layer. -/
theorem block3_apply (c : Dev nD) (t : Fin cfg0.N) (p : Fin 512) (q : Fin 1024) (i : S1024x1024.Idx)
    (hl : t.val / 2 = 0) (h0 : (i 0).val = t.val % 2 * 512 + p.val) (h1 : (i 1).val = q.val) :
    iblk m c 3 t (ix2 p q) = V m c main_arg3 i := by
  show V m c main_arg3 ((win0_3.rect t).emb (ix2 p q)) = V m c main_arg3 i
  have e := index3 t
  rw [if_pos hl] at e
  congr 1
  funext a
  apply Fin.ext
  rw [win0_3.rect_emb_val]
  match a with
  | ⟨0, _⟩ => show win0_3.index t 0 * 512 + p.val = (i 0).val; omega
  | ⟨1, _⟩ => show win0_3.index t 1 * 1024 + q.val = (i 1).val; omega

/-- The block index of window 4 at grid point `t`. -/
theorem index4 : ∀ t : Fin grid0.N, win0_4.index t 0 = (if t.val / 2 = 1 then t.val % 2 else 0) ∧ win0_4.index t 1 = 0 := by decide +kernel

/-- What the block of layer 1's gradient holds at grid point `t` of its layer. -/
theorem block4_apply (c : Dev nD) (t : Fin cfg0.N) (p : Fin 512) (q : Fin 1024) (i : S1024x1024.Idx)
    (hl : t.val / 2 = 1) (h0 : (i 0).val = t.val % 2 * 512 + p.val) (h1 : (i 1).val = q.val) :
    iblk m c 4 t (ix2 p q) = V m c main_arg4 i := by
  show V m c main_arg4 ((win0_4.rect t).emb (ix2 p q)) = V m c main_arg4 i
  have e := index4 t
  rw [if_pos hl] at e
  congr 1
  funext a
  apply Fin.ext
  rw [win0_4.rect_emb_val]
  match a with
  | ⟨0, _⟩ => show win0_4.index t 0 * 512 + p.val = (i 0).val; omega
  | ⟨1, _⟩ => show win0_4.index t 1 * 1024 + q.val = (i 1).val; omega

/-- The block index of window 5 at grid point `t`. -/
theorem index5 : ∀ t : Fin grid0.N, win0_5.index t 0 = (if t.val / 2 = 2 then t.val % 2 else 0) ∧ win0_5.index t 1 = 0 := by decide +kernel

/-- What the block of layer 2's gradient holds at grid point `t` of its layer. -/
theorem block5_apply (c : Dev nD) (t : Fin cfg0.N) (p : Fin 512) (q : Fin 1024) (i : S1024x1024.Idx)
    (hl : t.val / 2 = 2) (h0 : (i 0).val = t.val % 2 * 512 + p.val) (h1 : (i 1).val = q.val) :
    iblk m c 5 t (ix2 p q) = V m c main_arg5 i := by
  show V m c main_arg5 ((win0_5.rect t).emb (ix2 p q)) = V m c main_arg5 i
  have e := index5 t
  rw [if_pos hl] at e
  congr 1
  funext a
  apply Fin.ext
  rw [win0_5.rect_emb_val]
  match a with
  | ⟨0, _⟩ => show win0_5.index t 0 * 512 + p.val = (i 0).val; omega
  | ⟨1, _⟩ => show win0_5.index t 1 * 1024 + q.val = (i 1).val; omega

/-- The block index of window 6 at grid point `t`. -/
theorem index6 : ∀ t : Fin grid0.N, win0_6.index t 0 = (if t.val / 2 = 3 then t.val % 2 else 0) ∧ win0_6.index t 1 = 0 := by decide +kernel

/-- What the block of layer 3's gradient holds at grid point `t` of its layer. -/
theorem block6_apply (c : Dev nD) (t : Fin cfg0.N) (p : Fin 512) (q : Fin 1024) (i : S1024x1024.Idx)
    (hl : t.val / 2 = 3) (h0 : (i 0).val = t.val % 2 * 512 + p.val) (h1 : (i 1).val = q.val) :
    iblk m c 6 t (ix2 p q) = V m c main_arg6 i := by
  show V m c main_arg6 ((win0_6.rect t).emb (ix2 p q)) = V m c main_arg6 i
  have e := index6 t
  rw [if_pos hl] at e
  congr 1
  funext a
  apply Fin.ext
  rw [win0_6.rect_emb_val]
  match a with
  | ⟨0, _⟩ => show win0_6.index t 0 * 512 + p.val = (i 0).val; omega
  | ⟨1, _⟩ => show win0_6.index t 1 * 1024 + q.val = (i 1).val; omega

/-- The block index of the output window 7 at grid point `t`. -/
theorem index7 : ∀ t : Fin grid0.N, win0_7.index t 0 = t.val / 2 ∧ win0_7.index t 1 = t.val % 2 ∧ win0_7.index t 2 = 0 := by decide +kernel

/-- Where element (p, q, r) of the block written at point `t` sits in the output array. -/
theorem place7 (t : Fin cfg0.N) (p : Fin 1) (q : Fin 512) (r : Fin 1024) :
    ((win0_7.rect t).emb (ix3 p q r) 0).val = t.val / 2 * 1 + p.val ∧ ((win0_7.rect t).emb (ix3 p q r) 1).val = t.val % 2 * 512 + q.val ∧ ((win0_7.rect t).emb (ix3 p q r) 2).val = r.val := by
  have e := index7 t
  refine ⟨?_, ?_, ?_⟩
  · rw [win0_7.rect_emb_val]; show win0_7.index t 0 * 1 + p.val = _; omega
  · rw [win0_7.rect_emb_val]; show win0_7.index t 1 * 512 + q.val = _; omega
  · rw [win0_7.rect_emb_val]; show win0_7.index t 2 * 1024 + r.val = _; omega

/-- Every element of the output array lies in some point's block. -/
theorem cover7 (i : S4x1024x1024.Idx) : ∃ t : Fin cfg0.N, (cfg0.win 7).flush t = true ∧ i ∈ ((cfg0.win 7).blk t).view.set := by
  have h0 : (i 0 : Nat) < 4 := (i 0).isLt
  have h1 : (i 1 : Nat) < 1024 := (i 1).isLt
  have h2 : (i 2 : Nat) < 1024 := (i 2).isLt
  have hN : cfg0.N = 8 := N_0
  obtain ⟨t, ht⟩ : ∃ t : Fin cfg0.N, t.val = (i 0).val * 2 + (i 1).val / 512 := ⟨⟨(i 0).val * 2 + (i 1).val / 512, by omega⟩, rfl⟩
  have e := index7 t
  refine ⟨t, flush0_7 _, ?_⟩
  show i ∈ ((View.whole main_v0_0).slice (win0_7.rect t)).set
  rw [View.set_slice_whole, Rect.mem_set_unit]
  intro a
  match a with
  | ⟨0, _⟩ =>
    show win0_7.index t 0 * 1 ≤ (i 0).val ∧ (i 0).val < win0_7.index t 0 * 1 + 1
    omega
  | ⟨1, _⟩ =>
    show win0_7.index t 1 * 512 ≤ (i 1).val ∧ (i 1).val < win0_7.index t 1 * 512 + 512
    omega
  | ⟨2, _⟩ =>
    show win0_7.index t 2 * 1024 ≤ (i 2).val ∧ (i 2).val < win0_7.index t 2 * 1024 + 1024
    omega

/-- The block index of the output window 8 at grid point `t`. -/
theorem index8 : ∀ t : Fin grid0.N, win0_8.index t 0 = t.val / 2 ∧ win0_8.index t 1 = t.val % 2 ∧ win0_8.index t 2 = 0 := by decide +kernel

/-- Where element (p, q, r) of the block written at point `t` sits in the output array. -/
theorem place8 (t : Fin cfg0.N) (p : Fin 1) (q : Fin 512) (r : Fin 1024) :
    ((win0_8.rect t).emb (ix3 p q r) 0).val = t.val / 2 * 1 + p.val ∧ ((win0_8.rect t).emb (ix3 p q r) 1).val = t.val % 2 * 512 + q.val ∧ ((win0_8.rect t).emb (ix3 p q r) 2).val = r.val := by
  have e := index8 t
  refine ⟨?_, ?_, ?_⟩
  · rw [win0_8.rect_emb_val]; show win0_8.index t 0 * 1 + p.val = _; omega
  · rw [win0_8.rect_emb_val]; show win0_8.index t 1 * 512 + q.val = _; omega
  · rw [win0_8.rect_emb_val]; show win0_8.index t 2 * 1024 + r.val = _; omega

/-- Every element of the output array lies in some point's block. -/
theorem cover8 (i : S4x1024x1024.Idx) : ∃ t : Fin cfg0.N, (cfg0.win 8).flush t = true ∧ i ∈ ((cfg0.win 8).blk t).view.set := by
  have h0 : (i 0 : Nat) < 4 := (i 0).isLt
  have h1 : (i 1 : Nat) < 1024 := (i 1).isLt
  have h2 : (i 2 : Nat) < 1024 := (i 2).isLt
  have hN : cfg0.N = 8 := N_0
  obtain ⟨t, ht⟩ : ∃ t : Fin cfg0.N, t.val = (i 0).val * 2 + (i 1).val / 512 := ⟨⟨(i 0).val * 2 + (i 1).val / 512, by omega⟩, rfl⟩
  have e := index8 t
  refine ⟨t, flush0_8 _, ?_⟩
  show i ∈ ((View.whole main_v0_1).slice (win0_8.rect t)).set
  rw [View.set_slice_whole, Rect.mem_set_unit]
  intro a
  match a with
  | ⟨0, _⟩ =>
    show win0_8.index t 0 * 1 ≤ (i 0).val ∧ (i 0).val < win0_8.index t 0 * 1 + 1
    omega
  | ⟨1, _⟩ =>
    show win0_8.index t 1 * 512 ≤ (i 1).val ∧ (i 1).val < win0_8.index t 1 * 512 + 512
    omega
  | ⟨2, _⟩ =>
    show win0_8.index t 2 * 1024 ≤ (i 2).val ∧ (i 2).val < win0_8.index t 2 * 1024 + 1024
    omega

/-- The block index of the output window 9 at grid point `t`. -/
theorem index9 : ∀ t : Fin grid0.N, win0_9.index t 0 = t.val / 2 ∧ win0_9.index t 1 = t.val % 2 ∧ win0_9.index t 2 = 0 := by decide +kernel

/-- Where element (p, q, r) of the block written at point `t` sits in the output array. -/
theorem place9 (t : Fin cfg0.N) (p : Fin 1) (q : Fin 512) (r : Fin 1024) :
    ((win0_9.rect t).emb (ix3 p q r) 0).val = t.val / 2 * 1 + p.val ∧ ((win0_9.rect t).emb (ix3 p q r) 1).val = t.val % 2 * 512 + q.val ∧ ((win0_9.rect t).emb (ix3 p q r) 2).val = r.val := by
  have e := index9 t
  refine ⟨?_, ?_, ?_⟩
  · rw [win0_9.rect_emb_val]; show win0_9.index t 0 * 1 + p.val = _; omega
  · rw [win0_9.rect_emb_val]; show win0_9.index t 1 * 512 + q.val = _; omega
  · rw [win0_9.rect_emb_val]; show win0_9.index t 2 * 1024 + r.val = _; omega

/-- Every element of the output array lies in some point's block. -/
theorem cover9 (i : S4x1024x1024.Idx) : ∃ t : Fin cfg0.N, (cfg0.win 9).flush t = true ∧ i ∈ ((cfg0.win 9).blk t).view.set := by
  have h0 : (i 0 : Nat) < 4 := (i 0).isLt
  have h1 : (i 1 : Nat) < 1024 := (i 1).isLt
  have h2 : (i 2 : Nat) < 1024 := (i 2).isLt
  have hN : cfg0.N = 8 := N_0
  obtain ⟨t, ht⟩ : ∃ t : Fin cfg0.N, t.val = (i 0).val * 2 + (i 1).val / 512 := ⟨⟨(i 0).val * 2 + (i 1).val / 512, by omega⟩, rfl⟩
  have e := index9 t
  refine ⟨t, flush0_9 _, ?_⟩
  show i ∈ ((View.whole main_v0_2).slice (win0_9.rect t)).set
  rw [View.set_slice_whole, Rect.mem_set_unit]
  intro a
  match a with
  | ⟨0, _⟩ =>
    show win0_9.index t 0 * 1 ≤ (i 0).val ∧ (i 0).val < win0_9.index t 0 * 1 + 1
    omega
  | ⟨1, _⟩ =>
    show win0_9.index t 1 * 512 ≤ (i 1).val ∧ (i 1).val < win0_9.index t 1 * 512 + 512
    omega
  | ⟨2, _⟩ =>
    show win0_9.index t 2 * 1024 ≤ (i 2).val ∧ (i 2).val < win0_9.index t 2 * 1024 + 1024
    omega

/-- The block index of the output window 10 at grid point `t`. -/
theorem index10 : ∀ t : Fin grid0.N, win0_10.index t 0 = t.val / 2 ∧ win0_10.index t 1 = t.val % 2 ∧ win0_10.index t 2 = 0 := by decide +kernel

/-- Where element (p, q, r) of the block written at point `t` sits in the output array. -/
theorem place10 (t : Fin cfg0.N) (p : Fin 1) (q : Fin 512) (r : Fin 1024) :
    ((win0_10.rect t).emb (ix3 p q r) 0).val = t.val / 2 * 1 + p.val ∧ ((win0_10.rect t).emb (ix3 p q r) 1).val = t.val % 2 * 512 + q.val ∧ ((win0_10.rect t).emb (ix3 p q r) 2).val = r.val := by
  have e := index10 t
  refine ⟨?_, ?_, ?_⟩
  · rw [win0_10.rect_emb_val]; show win0_10.index t 0 * 1 + p.val = _; omega
  · rw [win0_10.rect_emb_val]; show win0_10.index t 1 * 512 + q.val = _; omega
  · rw [win0_10.rect_emb_val]; show win0_10.index t 2 * 1024 + r.val = _; omega

/-- Every element of the output array lies in some point's block. -/
theorem cover10 (i : S4x1024x1024.Idx) : ∃ t : Fin cfg0.N, (cfg0.win 10).flush t = true ∧ i ∈ ((cfg0.win 10).blk t).view.set := by
  have h0 : (i 0 : Nat) < 4 := (i 0).isLt
  have h1 : (i 1 : Nat) < 1024 := (i 1).isLt
  have h2 : (i 2 : Nat) < 1024 := (i 2).isLt
  have hN : cfg0.N = 8 := N_0
  obtain ⟨t, ht⟩ : ∃ t : Fin cfg0.N, t.val = (i 0).val * 2 + (i 1).val / 512 := ⟨⟨(i 0).val * 2 + (i 1).val / 512, by omega⟩, rfl⟩
  have e := index10 t
  refine ⟨t, flush0_10 _, ?_⟩
  show i ∈ ((View.whole main_v0_3).slice (win0_10.rect t)).set
  rw [View.set_slice_whole, Rect.mem_set_unit]
  intro a
  match a with
  | ⟨0, _⟩ =>
    show win0_10.index t 0 * 1 ≤ (i 0).val ∧ (i 0).val < win0_10.index t 0 * 1 + 1
    omega
  | ⟨1, _⟩ =>
    show win0_10.index t 1 * 512 ≤ (i 1).val ∧ (i 1).val < win0_10.index t 1 * 512 + 512
    omega
  | ⟨2, _⟩ =>
    show win0_10.index t 2 * 1024 ≤ (i 2).val ∧ (i 2).val < win0_10.index t 2 * 1024 + 1024
    omega

/-- The gradients of the four layers, stacked. -/
def grads (a b c d : Vec Ideal S1024x1024 .f32) : Vec Ideal S4x1024x1024 .f32 := fun i =>
  pick (i 0).val (a (ix2 (i 1) (i 2))) (b (ix2 (i 1) (i 2))) (c (ix2 (i 1) (i 2))) (d (ix2 (i 1) (i 2)))

/-- The new first moments. -/
def moments1 (x : Vec Ideal S4x1024x1024 .f32) (a b c d : Vec Ideal S1024x1024 .f32) : Vec Ideal S4x1024x1024 .f32 := fun i => moment1 (x i) (grads a b c d i)

/-- The new second moments. -/
def moments2 (y : Vec Ideal S4x1024x1024 .f32) (a b c d : Vec Ideal S1024x1024 .f32) : Vec Ideal S4x1024x1024 .f32 := fun i => moment2 (y i) (grads a b c d i)

/-- The changes of the weights. -/
def changes (w x y : Vec Ideal S4x1024x1024 .f32) (a b c d : Vec Ideal S1024x1024 .f32) : Vec Ideal S4x1024x1024 .f32 := fun i => change (w i) (moments1 x a b c d i) (moments2 y a b c d i)

/-- The gradient chosen at grid point `t` is the stacked gradients' entry at the place the block is written to. -/
theorem chosen_eq (c : Dev nD) (t : Fin cfg0.N) (q : Fin 512) (r : Fin 1024) (i : S4x1024x1024.Idx) (h0 : (i 0).val = t.val / 2)
    (h1 : (i 1).val = t.val % 2 * 512 + q.val) (h2 : (i 2).val = r.val) :
    k0_pay4 (grid0.coords t) (iblk m c 3 t) (iblk m c 4 t) (iblk m c 5 t) (iblk m c 6 t) (ix2 q r)
      = grads (V m c main_arg3) (V m c main_arg4) (V m c main_arg5) (V m c main_arg6) i := by
  rw [chosen_apply, layer t, ← h0]
  exact pick_congr (i 0).isLt
    (fun hl => block3_apply m c t q r (ix2 (i 1) (i 2)) (h0.symm.trans hl) h1 h2)
    (fun hl => block4_apply m c t q r (ix2 (i 1) (i 2)) (h0.symm.trans hl) h1 h2)
    (fun hl => block5_apply m c t q r (ix2 (i 1) (i 2)) (h0.symm.trans hl) h1 h2)
    (fun hl => block6_apply m c t q r (ix2 (i 1) (i 2)) (h0.symm.trans hl) h1 h2)

/-- What point `t` writes back to the gradients is its block of them. -/
theorem flushed7_eq (c : Dev nD) (t : Fin cfg0.N) :
    (dats m 0 c).flushed 7 t = (win0_7.blk t).view.read (Elt Ideal) (grads (V m c main_arg3) (V m c main_arg4) (V m c main_arg5) (V m c main_arg6)) := by
  rw [Value.flushed7]
  unfold_out out0_7
  rw [View.canon_unit_zero zero3]
  rw [load2 (iblk m c 3 t), load2 (iblk m c 4 t), load2 (iblk m c 5 t), load2 (iblk m c 6 t)]
  funext j
  obtain ⟨p, q, r, rfl⟩ : ∃ (p : Fin 1) (q : Fin 512) (r : Fin 1024), j = ix3 p q r :=
    ⟨j 0, j 1, j 2, by funext a; fin_cases a <;> rfl⟩
  obtain ⟨e0', e1, e2⟩ := place7 t p q r
  have hp := p.isLt
  have e0 : ((win0_7.rect t).emb (ix3 p q r) 0).val = t.val / 2 := by omega
  exact (grad_apply _ _ _ _ _ p q r).trans (chosen_eq m c t q r _ e0 e1 e2)

theorem final7 (c : Dev nD) : (dats m 0 c).arrAt 7 cfg0.N = grads (V m c main_arg3) (V m c main_arg4) (V m c main_arg5) (V m c main_arg6) :=
  (dats m 0 c).arrAt_eq_of_cover 7 _ (fun t _ => flushed7_eq m c t) cover7

/-- What point `t` writes back to the changes is its block of them. -/
theorem flushed8_eq (c : Dev nD) (t : Fin cfg0.N) :
    (dats m 0 c).flushed 8 t = (win0_8.blk t).view.read (Elt Ideal) (changes (V m c main_arg0) (V m c main_arg1) (V m c main_arg2) (V m c main_arg3) (V m c main_arg4) (V m c main_arg5) (V m c main_arg6)) := by
  rw [Value.flushed8]
  unfold_out out0_8
  rw [View.canon_unit_zero zero3]
  rw [load3 (iblk m c 0 t), load3 (iblk m c 1 t), load3 (iblk m c 2 t), load2 (iblk m c 3 t), load2 (iblk m c 4 t), load2 (iblk m c 5 t), load2 (iblk m c 6 t)]
  funext j
  obtain ⟨p, q, r, rfl⟩ : ∃ (p : Fin 1) (q : Fin 512) (r : Fin 1024), j = ix3 p q r :=
    ⟨j 0, j 1, j 2, by funext a; fin_cases a <;> rfl⟩
  obtain ⟨e0', e1, e2⟩ := place8 t p q r
  have hp := p.isLt
  have e0 : ((win0_8.rect t).emb (ix3 p q r) 0).val = t.val / 2 := by omega
  have e := (moment1_apply (grid0.coords t) (iblk m c 3 t) (iblk m c 4 t) (iblk m c 5 t) (iblk m c 6 t) (iblk m c 1 t) p q r).trans
    (congrArg₂ moment1 (block1_apply m c t p q r _ e0' e1 e2) (chosen_eq m c t q r _ e0 e1 e2))
  have e' := (moment2_apply (grid0.coords t) (iblk m c 3 t) (iblk m c 4 t) (iblk m c 5 t) (iblk m c 6 t) (iblk m c 2 t) p q r).trans
    (congrArg₂ moment2 (block2_apply m c t p q r _ e0' e1 e2) (chosen_eq m c t q r _ e0 e1 e2))
  refine (change_apply _ _ _ p q r).trans ?_
  rw [e, e', block0_apply m c t p q r _ e0' e1 e2]
  rfl

theorem final8 (c : Dev nD) : (dats m 0 c).arrAt 8 cfg0.N = changes (V m c main_arg0) (V m c main_arg1) (V m c main_arg2) (V m c main_arg3) (V m c main_arg4) (V m c main_arg5) (V m c main_arg6) :=
  (dats m 0 c).arrAt_eq_of_cover 8 _ (fun t _ => flushed8_eq m c t) cover8

/-- What point `t` writes back to the first moments is its block of them. -/
theorem flushed9_eq (c : Dev nD) (t : Fin cfg0.N) :
    (dats m 0 c).flushed 9 t = (win0_9.blk t).view.read (Elt Ideal) (moments1 (V m c main_arg1) (V m c main_arg3) (V m c main_arg4) (V m c main_arg5) (V m c main_arg6)) := by
  rw [Value.flushed9]
  unfold_out out0_9
  rw [View.canon_unit_zero zero3]
  rw [load2 (iblk m c 3 t), load2 (iblk m c 4 t), load2 (iblk m c 5 t), load2 (iblk m c 6 t), load3 (iblk m c 1 t)]
  funext j
  obtain ⟨p, q, r, rfl⟩ : ∃ (p : Fin 1) (q : Fin 512) (r : Fin 1024), j = ix3 p q r :=
    ⟨j 0, j 1, j 2, by funext a; fin_cases a <;> rfl⟩
  obtain ⟨e0', e1, e2⟩ := place9 t p q r
  have hp := p.isLt
  have e0 : ((win0_9.rect t).emb (ix3 p q r) 0).val = t.val / 2 := by omega
  exact (stored1_apply _ p q r).trans ((moment1_apply _ _ _ _ _ _ p q r).trans (congrArg₂ moment1 (block1_apply m c t p q r _ e0' e1 e2) (chosen_eq m c t q r _ e0 e1 e2)))

theorem final9 (c : Dev nD) : (dats m 0 c).arrAt 9 cfg0.N = moments1 (V m c main_arg1) (V m c main_arg3) (V m c main_arg4) (V m c main_arg5) (V m c main_arg6) :=
  (dats m 0 c).arrAt_eq_of_cover 9 _ (fun t _ => flushed9_eq m c t) cover9

/-- What point `t` writes back to the second moments is its block of them. -/
theorem flushed10_eq (c : Dev nD) (t : Fin cfg0.N) :
    (dats m 0 c).flushed 10 t = (win0_10.blk t).view.read (Elt Ideal) (moments2 (V m c main_arg2) (V m c main_arg3) (V m c main_arg4) (V m c main_arg5) (V m c main_arg6)) := by
  rw [Value.flushed10]
  unfold_out out0_10
  rw [View.canon_unit_zero zero3]
  rw [load2 (iblk m c 3 t), load2 (iblk m c 4 t), load2 (iblk m c 5 t), load2 (iblk m c 6 t), load3 (iblk m c 2 t)]
  funext j
  obtain ⟨p, q, r, rfl⟩ : ∃ (p : Fin 1) (q : Fin 512) (r : Fin 1024), j = ix3 p q r :=
    ⟨j 0, j 1, j 2, by funext a; fin_cases a <;> rfl⟩
  obtain ⟨e0', e1, e2⟩ := place10 t p q r
  have hp := p.isLt
  have e0 : ((win0_10.rect t).emb (ix3 p q r) 0).val = t.val / 2 := by omega
  exact (stored2_apply _ p q r).trans ((moment2_apply _ _ _ _ _ _ p q r).trans (congrArg₂ moment2 (block2_apply m c t p q r _ e0' e1 e2) (chosen_eq m c t q r _ e0 e1 e2)))

theorem final10 (c : Dev nD) : (dats m 0 c).arrAt 10 cfg0.N = moments2 (V m c main_arg2) (V m c main_arg3) (V m c main_arg4) (V m c main_arg5) (V m c main_arg6) :=
  (dats m 0 c).arrAt_eq_of_cover 10 _ (fun t _ => flushed10_eq m c t) cover10

end Cert.AdamFfIdeal.Product

namespace Cert.Proof.AdamFf

open Cert.AdamFfRefIdeal Cert.AdamFfRefIdeal.Read Cert.AdamFfIdeal.Product

/-- The reference's stack of the gradients. -/
theorem reference_grads (a b c d : Vec Ideal Cert.AdamFfRefIdeal.S1024x1024 .f32) : val_main_v4 (F := Ideal) a b c d = grads a b c d := by
  funext j
  obtain ⟨p, q, r, rfl⟩ : ∃ (p : Fin 4) (q : Fin 1024) (r : Fin 1024), j = ix3 p q r :=
    ⟨j 0, j 1, j 2, by funext a; fin_cases a <;> rfl⟩
  pointwise [val_main_v4, val_main_v3, val_main_v2, val_main_v1, val_main_v0]
  show _ = pick p.val (a (ix2 q r)) (b (ix2 q r)) (c (ix2 q r)) (d (ix2 q r))
  fin_cases p <;> rfl

/-- The reference's first moments. -/
theorem reference_moments1 (x : Vec Ideal Cert.AdamFfRefIdeal.S4x1024x1024 .f32) (a b c d : Vec Ideal Cert.AdamFfRefIdeal.S1024x1024 .f32) : val_main_v9 (F := Ideal) x a b c d = moments1 x a b c d := by
  funext j
  obtain ⟨p, q, r, rfl⟩ : ∃ (p : Fin 4) (q : Fin 1024) (r : Fin 1024), j = ix3 p q r :=
    ⟨j 0, j 1, j 2, by funext a; fin_cases a <;> rfl⟩
  pointwise [val_main_v9, val_main_v8, val_main_v7, val_main_v6, val_main_v5, val_main_cst, val_main_cst_0]
  rw [reference_grads]
  rfl

/-- The reference's second moments. -/
theorem reference_moments2 (y : Vec Ideal Cert.AdamFfRefIdeal.S4x1024x1024 .f32) (a b c d : Vec Ideal Cert.AdamFfRefIdeal.S1024x1024 .f32) : val_main_v15 (F := Ideal) y a b c d = moments2 y a b c d := by
  funext j
  obtain ⟨p, q, r, rfl⟩ : ∃ (p : Fin 4) (q : Fin 1024) (r : Fin 1024), j = ix3 p q r :=
    ⟨j 0, j 1, j 2, by funext a; fin_cases a <;> rfl⟩
  pointwise [val_main_v15, val_main_v14, val_main_v13, val_main_v12, val_main_v11, val_main_v10, val_main_cst_1, val_main_cst_2]
  rw [reference_grads]
  rfl

/-- The reference's changes of the weights. -/
theorem reference_changes (w x y : Vec Ideal Cert.AdamFfRefIdeal.S4x1024x1024 .f32) (a b c d : Vec Ideal Cert.AdamFfRefIdeal.S1024x1024 .f32) : val_main_v28 (F := Ideal) w x y a b c d = changes w x y a b c d := by
  funext j
  obtain ⟨p, q, r, rfl⟩ : ∃ (p : Fin 4) (q : Fin 1024) (r : Fin 1024), j = ix3 p q r :=
    ⟨j 0, j 1, j 2, by funext a; fin_cases a <;> rfl⟩
  pointwise [val_main_v28, val_main_v27, val_main_v26, val_main_v25, val_main_v24, val_main_v23, val_main_v22, val_main_v21, val_main_v20,
    val_main_v19, val_main_v18, val_main_v17, val_main_v16, val_main_cst_3, val_main_cst_4, val_main_cst_5, val_main_cst_6, val_main_cst_7]
  rw [reference_moments1, reference_moments2]
  rfl

/-- The kernel's gradients, changes and moments are the reference's. -/
theorem algebraic : Cert.algebraic_AdamFfIdeal_AdamFfRefIdeal := by
  intro m ρ m' ρ' _ hagree
  refine ⟨fun c => grads (m ((c.tc : Thread _ _).loc Cert.AdamFfIdeal.main_arg3)) (m ((c.tc : Thread _ _).loc Cert.AdamFfIdeal.main_arg4)) (m ((c.tc : Thread _ _).loc Cert.AdamFfIdeal.main_arg5)) (m ((c.tc : Thread _ _).loc Cert.AdamFfIdeal.main_arg6)),
    fun c => changes (m ((c.tc : Thread _ _).loc Cert.AdamFfIdeal.main_arg0)) (m ((c.tc : Thread _ _).loc Cert.AdamFfIdeal.main_arg1)) (m ((c.tc : Thread _ _).loc Cert.AdamFfIdeal.main_arg2)) (m ((c.tc : Thread _ _).loc Cert.AdamFfIdeal.main_arg3)) (m ((c.tc : Thread _ _).loc Cert.AdamFfIdeal.main_arg4)) (m ((c.tc : Thread _ _).loc Cert.AdamFfIdeal.main_arg5)) (m ((c.tc : Thread _ _).loc Cert.AdamFfIdeal.main_arg6)),
    fun c => moments1 (m ((c.tc : Thread _ _).loc Cert.AdamFfIdeal.main_arg1)) (m ((c.tc : Thread _ _).loc Cert.AdamFfIdeal.main_arg3)) (m ((c.tc : Thread _ _).loc Cert.AdamFfIdeal.main_arg4)) (m ((c.tc : Thread _ _).loc Cert.AdamFfIdeal.main_arg5)) (m ((c.tc : Thread _ _).loc Cert.AdamFfIdeal.main_arg6)),
    fun c => moments2 (m ((c.tc : Thread _ _).loc Cert.AdamFfIdeal.main_arg2)) (m ((c.tc : Thread _ _).loc Cert.AdamFfIdeal.main_arg3)) (m ((c.tc : Thread _ _).loc Cert.AdamFfIdeal.main_arg4)) (m ((c.tc : Thread _ _).loc Cert.AdamFfIdeal.main_arg5)) (m ((c.tc : Thread _ _).loc Cert.AdamFfIdeal.main_arg6)), ?_, ?_⟩
  · exact (θ_run Cert.AdamFfIdeal.defs _ _).mono
      (fun _ h c => ⟨(h c).1.trans (final7 m c), (h c).2.1.trans (final8 m c), (h c).2.2.1.trans (final9 m c), (h c).2.2.2.1.trans (final10 m c), (h c).2.2.2.2⟩)
      (Cert.AdamFfIdeal.Value.run_blocks (F := Ideal) m ρ)
  · refine (θ_run Cert.AdamFfRefIdeal.defs _ _).mono (fun _ h c => ?_) (Cert.AdamFfRefIdeal.Value.run (F := Ideal) m' ρ')
    obtain ⟨h0, h1, h2, g⟩ := hagree c
    refine ⟨(h c).1.trans ?_, (h c).2.1.trans ?_, (h c).2.2.1.trans ?_, (h c).2.2.2.1.trans ?_, (h c).2.2.2.2⟩
    · rw [g.1, g.2.1, g.2.2.1, g.2.2.2]
      exact reference_grads _ _ _ _
    · rw [h0, h1, h2, g.1, g.2.1, g.2.2.1, g.2.2.2]
      exact reference_changes _ _ _ _ _ _ _
    · rw [h1, g.1, g.2.1, g.2.2.1, g.2.2.2]
      exact reference_moments1 _ _ _ _ _
    · rw [h2, g.1, g.2.1, g.2.2.1, g.2.2.2]
      exact reference_moments2 _ _ _ _ _

end Cert.Proof.AdamFf
-- ==== Proof.AdamO.lean ====
/-
  The AdamW step of the output projection's weight, all four layers in one call: the gradient of the layer is chosen among four arrays, and the
  moments and the change of every entry are those of the step written out for that entry.
-/
module

public import proofs.«01_k».proof.Defs
public import proofs.«01_k».proof.Proof.AdamMath
public import proofs.«01_k».proof.Proof.Gen.AdamOIdeal.Value
public import proofs.«01_k».proof.Proof.Gen.AdamORefIdeal.Run
public import proofs.«01_k».proof.Proof.Gen.AdamORefIdeal.Read
public import Idealize.ShloMosaic.Lib.Pointwise
public import Idealize.ShloMosaic.Lib.StableHlo.ReadAt

@[expose] public section

noncomputable section

open Idealize.ShloMosaic Idealize.ShloMosaic.TcCoe Idealize.SL.Sem
open Idealize.ShloMosaic.Pipeline (Dat)
open Cert.Proof.AdamMath

namespace Cert.AdamOIdeal.Product

open Cert.AdamOIdeal Cert.AdamOIdeal.Gen

variable (m : (ℓ : Loc nD τ sig) → Buf (Elt Ideal) ℓ) (ρ : Dev nD → PrngReg)

theorem zero2 : (![0, 0] : Fin 2 → Nat) = fun _ => 0 := funext fun a => by fin_cases a <;> rfl
theorem zero3 : (![0, 0, 0] : Fin 3 → Nat) = fun _ => 0 := funext fun a => by fin_cases a <;> rfl

/-- A whole block is loaded as it is. -/
theorem load2 (x : Vec Ideal S256x1024 .f32) : View.ld x r0_0 = x := View.ld_unit_zero zero2 _ _
theorem load3 (x : Vec Ideal S1x256x1024 .f32) : View.ld x r0_1 = x := View.ld_unit_zero zero3 _ _

/-- The body chooses the gradient of the grid point's layer. -/
theorem chosen_apply (i : grid0.Coords) (a b c d : Vec Ideal S256x1024 .f32) (q : Fin 256) (r : Fin 1024) :
    k0_pay4 i a b c d (ix2 q r) = pick (i 0).val (a (ix2 q r)) (b (ix2 q r)) (c (ix2 q r)) (d (ix2 q r)) := by
  obtain ⟨l, hl⟩ : ∃ l : Fin 4, (i 0).val = l.val := ⟨i 0, rfl⟩
  unfold k0_pay4
  simp only [hl]
  fin_cases l <;> rfl

/-- The gradient block the body stores. -/
theorem grad_apply (i : grid0.Coords) (a b c d : Vec Ideal S256x1024 .f32) (p : Fin 1) (q : Fin 256) (r : Fin 1024) :
    k0_pay5 i a b c d (ix3 p q r) = k0_pay4 i a b c d (ix2 q r) := by
  pointwise [k0_pay5]

/-- The first moment the body computes. -/
theorem moment1_apply (i : grid0.Coords) (a b c d : Vec Ideal S256x1024 .f32) (x : Vec Ideal S1x256x1024 .f32) (p : Fin 1) (q : Fin 256) (r : Fin 1024) :
    k0_pay7 i a b c d x (ix2 q r) = moment1 (x (ix3 p q r)) (k0_pay4 i a b c d (ix2 q r)) := by
  obtain rfl : p = 0 := Subsingleton.elim _ _
  pointwise [k0_pay7]
  rfl

/-- The second moment the body computes. -/
theorem moment2_apply (i : grid0.Coords) (a b c d : Vec Ideal S256x1024 .f32) (x : Vec Ideal S1x256x1024 .f32) (p : Fin 1) (q : Fin 256) (r : Fin 1024) :
    k0_pay8 i a b c d x (ix2 q r) = moment2 (x (ix3 p q r)) (k0_pay4 i a b c d (ix2 q r)) := by
  obtain rfl : p = 0 := Subsingleton.elim _ _
  pointwise [k0_pay8]
  rfl

/-- The change of the weight the body stores. -/
theorem change_apply (w : Vec Ideal S1x256x1024 .f32) (x y : Vec Ideal S256x1024 .f32) (p : Fin 1) (q : Fin 256) (r : Fin 1024) :
    k0_pay1 (k0_pay6 w) x y (ix3 p q r) = change (w (ix3 p q r)) (x (ix2 q r)) (y (ix2 q r)) := by
  obtain rfl : p = 0 := Subsingleton.elim _ _
  pointwise [k0_pay1, k0_pay6]
  rfl

/-- The moments are stored as they are. -/
theorem stored1_apply (x : Vec Ideal S256x1024 .f32) (p : Fin 1) (q : Fin 256) (r : Fin 1024) : k0_pay2 (F := Ideal) x (ix3 p q r) = x (ix2 q r) := by
  pointwise [k0_pay2]

theorem stored2_apply (x : Vec Ideal S256x1024 .f32) (p : Fin 1) (q : Fin 256) (r : Fin 1024) : k0_pay3 (F := Ideal) x (ix3 p q r) = x (ix2 q r) := by
  pointwise [k0_pay3]

/-- The layer of grid point `t`. -/
theorem layer : ∀ t : Fin grid0.N, (grid0.coords t 0).val = t.val := by decide +kernel

/-- The block index of window 0 at grid point `t`. -/
theorem index0 : ∀ t : Fin grid0.N, win0_0.index t 0 = t.val ∧ win0_0.index t 1 = 0 ∧ win0_0.index t 2 = 0 := by decide +kernel

/-- What the weight's block holds at grid point `t`. -/
theorem block0_apply (c : Dev nD) (t : Fin cfg0.N) (p : Fin 1) (q : Fin 256) (r : Fin 1024) (i : S4x256x1024.Idx)
    (h0 : (i 0).val = t.val * 1 + p.val) (h1 : (i 1).val = q.val) (h2 : (i 2).val = r.val) :
    iblk m c 0 t (ix3 p q r) = V m c main_arg0 i := by
  show V m c main_arg0 ((win0_0.rect t).emb (ix3 p q r)) = V m c main_arg0 i
  have e := index0 t
  congr 1
  funext a
  apply Fin.ext
  rw [win0_0.rect_emb_val]
  match a with
  | ⟨0, _⟩ => show win0_0.index t 0 * 1 + p.val = (i 0).val; omega
  | ⟨1, _⟩ => show win0_0.index t 1 * 256 + q.val = (i 1).val; omega
  | ⟨2, _⟩ => show win0_0.index t 2 * 1024 + r.val = (i 2).val; omega

/-- The block index of window 1 at grid point `t`. -/
theorem index1 : ∀ t : Fin grid0.N, win0_1.index t 0 = t.val ∧ win0_1.index t 1 = 0 ∧ win0_1.index t 2 = 0 := by decide +kernel

/-- What the first moment's block holds at grid point `t`. -/
theorem block1_apply (c : Dev nD) (t : Fin cfg0.N) (p : Fin 1) (q : Fin 256) (r : Fin 1024) (i : S4x256x1024.Idx)
    (h0 : (i 0).val = t.val * 1 + p.val) (h1 : (i 1).val = q.val) (h2 : (i 2).val = r.val) :
    iblk m c 1 t (ix3 p q r) = V m c main_arg1 i := by
  show V m c main_arg1 ((win0_1.rect t).emb (ix3 p q r)) = V m c main_arg1 i
  have e := index1 t
  congr 1
  funext a
  apply Fin.ext
  rw [win0_1.rect_emb_val]
  match a with
  | ⟨0, _⟩ => show win0_1.index t 0 * 1 + p.val = (i 0).val; omega
  | ⟨1, _⟩ => show win0_1.index t 1 * 256 + q.val = (i 1).val; omega
  | ⟨2, _⟩ => show win0_1.index t 2 * 1024 + r.val = (i 2).val; omega

/-- The block index of window 2 at grid point `t`. -/
theorem index2 : ∀ t : Fin grid0.N, win0_2.index t 0 = t.val ∧ win0_2.index t 1 = 0 ∧ win0_2.index t 2 = 0 := by decide +kernel

/-- What the second moment's block holds at grid point `t`. -/
theorem block2_apply (c : Dev nD) (t : Fin cfg0.N) (p : Fin 1) (q : Fin 256) (r : Fin 1024) (i : S4x256x1024.Idx)
    (h0 : (i 0).val = t.val * 1 + p.val) (h1 : (i 1).val = q.val) (h2 : (i 2).val = r.val) :
    iblk m c 2 t (ix3 p q r) = V m c main_arg2 i := by
  show V m c main_arg2 ((win0_2.rect t).emb (ix3 p q r)) = V m c main_arg2 i
  have e := index2 t
  congr 1
  funext a
  apply Fin.ext
  rw [win0_2.rect_emb_val]
  match a with
  | ⟨0, _⟩ => show win0_2.index t 0 * 1 + p.val = (i 0).val; omega
  | ⟨1, _⟩ => show win0_2.index t 1 * 256 + q.val = (i 1).val; omega
  | ⟨2, _⟩ => show win0_2.index t 2 * 1024 + r.val = (i 2).val; omega

/-- The block index of window 3 at grid point `t`. -/
theorem index3 : ∀ t : Fin grid0.N, win0_3.index t 0 = 0 ∧ win0_3.index t 1 = 0 := by decide +kernel

/-- What the block of layer 0's gradient holds at grid point `t`. -/
theorem block3_apply (c : Dev nD) (t : Fin cfg0.N) (p : Fin 256) (q : Fin 1024) (i : S256x1024.Idx)
    (h0 : (i 0).val = p.val) (h1 : (i 1).val = q.val) :
    iblk m c 3 t (ix2 p q) = V m c main_arg3 i := by
  show V m c main_arg3 ((win0_3.rect t).emb (ix2 p q)) = V m c main_arg3 i
  have e := index3 t
  congr 1
  funext a
  apply Fin.ext
  rw [win0_3.rect_emb_val]
  match a with
  | ⟨0, _⟩ => show win0_3.index t 0 * 256 + p.val = (i 0).val; omega
  | ⟨1, _⟩ => show win0_3.index t 1 * 1024 + q.val = (i 1).val; omega

/-- The block index of window 4 at grid point `t`. -/
theorem index4 : ∀ t : Fin grid0.N, win0_4.index t 0 = 0 ∧ win0_4.index t 1 = 0 := by decide +kernel

/-- What the block of layer 1's gradient holds at grid point `t`. -/
theorem block4_apply (c : Dev nD) (t : Fin cfg0.N) (p : Fin 256) (q : Fin 1024) (i : S256x1024.Idx)
    (h0 : (i 0).val = p.val) (h1 : (i 1).val = q.val) :
    iblk m c 4 t (ix2 p q) = V m c main_arg4 i := by
  show V m c main_arg4 ((win0_4.rect t).emb (ix2 p q)) = V m c main_arg4 i
  have e := index4 t
  congr 1
  funext a
  apply Fin.ext
  rw [win0_4.rect_emb_val]
  match a with
  | ⟨0, _⟩ => show win0_4.index t 0 * 256 + p.val = (i 0).val; omega
  | ⟨1, _⟩ => show win0_4.index t 1 * 1024 + q.val = (i 1).val; omega

/-- The block index of window 5 at grid point `t`. -/
theorem index5 : ∀ t : Fin grid0.N, win0_5.index t 0 = 0 ∧ win0_5.index t 1 = 0 := by decide +kernel

/-- What the block of layer 2's gradient holds at grid point `t`. -/
theorem block5_apply (c : Dev nD) (t : Fin cfg0.N) (p : Fin 256) (q : Fin 1024) (i : S256x1024.Idx)
    (h0 : (i 0).val = p.val) (h1 : (i 1).val = q.val) :
    iblk m c 5 t (ix2 p q) = V m c main_arg5 i := by
  show V m c main_arg5 ((win0_5.rect t).emb (ix2 p q)) = V m c main_arg5 i
  have e := index5 t
  congr 1
  funext a
  apply Fin.ext
  rw [win0_5.rect_emb_val]
  match a with
  | ⟨0, _⟩ => show win0_5.index t 0 * 256 + p.val = (i 0).val; omega
  | ⟨1, _⟩ => show win0_5.index t 1 * 1024 + q.val = (i 1).val; omega

/-- The block index of window 6 at grid point `t`. -/
theorem index6 : ∀ t : Fin grid0.N, win0_6.index t 0 = 0 ∧ win0_6.index t 1 = 0 := by decide +kernel

/-- What the block of layer 3's gradient holds at grid point `t`. -/
theorem block6_apply (c : Dev nD) (t : Fin cfg0.N) (p : Fin 256) (q : Fin 1024) (i : S256x1024.Idx)
    (h0 : (i 0).val = p.val) (h1 : (i 1).val = q.val) :
    iblk m c 6 t (ix2 p q) = V m c main_arg6 i := by
  show V m c main_arg6 ((win0_6.rect t).emb (ix2 p q)) = V m c main_arg6 i
  have e := index6 t
  congr 1
  funext a
  apply Fin.ext
  rw [win0_6.rect_emb_val]
  match a with
  | ⟨0, _⟩ => show win0_6.index t 0 * 256 + p.val = (i 0).val; omega
  | ⟨1, _⟩ => show win0_6.index t 1 * 1024 + q.val = (i 1).val; omega

/-- The block index of the output window 7 at grid point `t`. -/
theorem index7 : ∀ t : Fin grid0.N, win0_7.index t 0 = t.val ∧ win0_7.index t 1 = 0 ∧ win0_7.index t 2 = 0 := by decide +kernel

/-- Where element (p, q, r) of the block written at point `t` sits in the output array. -/
theorem place7 (t : Fin cfg0.N) (p : Fin 1) (q : Fin 256) (r : Fin 1024) :
    ((win0_7.rect t).emb (ix3 p q r) 0).val = t.val * 1 + p.val ∧ ((win0_7.rect t).emb (ix3 p q r) 1).val = q.val ∧ ((win0_7.rect t).emb (ix3 p q r) 2).val = r.val := by
  have e := index7 t
  refine ⟨?_, ?_, ?_⟩
  · rw [win0_7.rect_emb_val]; show win0_7.index t 0 * 1 + p.val = _; omega
  · rw [win0_7.rect_emb_val]; show win0_7.index t 1 * 256 + q.val = _; omega
  · rw [win0_7.rect_emb_val]; show win0_7.index t 2 * 1024 + r.val = _; omega

/-- Every element of the output array lies in some point's block. -/
theorem cover7 (i : S4x256x1024.Idx) : ∃ t : Fin cfg0.N, (cfg0.win 7).flush t = true ∧ i ∈ ((cfg0.win 7).blk t).view.set := by
  have h0 : (i 0 : Nat) < 4 := (i 0).isLt
  have h1 : (i 1 : Nat) < 256 := (i 1).isLt
  have h2 : (i 2 : Nat) < 1024 := (i 2).isLt
  have hN : cfg0.N = 4 := N_0
  obtain ⟨t, ht⟩ : ∃ t : Fin cfg0.N, t.val = (i 0).val := ⟨⟨(i 0).val, by omega⟩, rfl⟩
  have e := index7 t
  refine ⟨t, flush0_7 _, ?_⟩
  show i ∈ ((View.whole main_v0_0).slice (win0_7.rect t)).set
  rw [View.set_slice_whole, Rect.mem_set_unit]
  intro a
  match a with
  | ⟨0, _⟩ =>
    show win0_7.index t 0 * 1 ≤ (i 0).val ∧ (i 0).val < win0_7.index t 0 * 1 + 1
    omega
  | ⟨1, _⟩ =>
    show win0_7.index t 1 * 256 ≤ (i 1).val ∧ (i 1).val < win0_7.index t 1 * 256 + 256
    omega
  | ⟨2, _⟩ =>
    show win0_7.index t 2 * 1024 ≤ (i 2).val ∧ (i 2).val < win0_7.index t 2 * 1024 + 1024
    omega

/-- The block index of the output window 8 at grid point `t`. -/
theorem index8 : ∀ t : Fin grid0.N, win0_8.index t 0 = t.val ∧ win0_8.index t 1 = 0 ∧ win0_8.index t 2 = 0 := by decide +kernel

/-- Where element (p, q, r) of the block written at point `t` sits in the output array. -/
theorem place8 (t : Fin cfg0.N) (p : Fin 1) (q : Fin 256) (r : Fin 1024) :
    ((win0_8.rect t).emb (ix3 p q r) 0).val = t.val * 1 + p.val ∧ ((win0_8.rect t).emb (ix3 p q r) 1).val = q.val ∧ ((win0_8.rect t).emb (ix3 p q r) 2).val = r.val := by
  have e := index8 t
  refine ⟨?_, ?_, ?_⟩
  · rw [win0_8.rect_emb_val]; show win0_8.index t 0 * 1 + p.val = _; omega
  · rw [win0_8.rect_emb_val]; show win0_8.index t 1 * 256 + q.val = _; omega
  · rw [win0_8.rect_emb_val]; show win0_8.index t 2 * 1024 + r.val = _; omega

/-- Every element of the output array lies in some point's block. -/
theorem cover8 (i : S4x256x1024.Idx) : ∃ t : Fin cfg0.N, (cfg0.win 8).flush t = true ∧ i ∈ ((cfg0.win 8).blk t).view.set := by
  have h0 : (i 0 : Nat) < 4 := (i 0).isLt
  have h1 : (i 1 : Nat) < 256 := (i 1).isLt
  have h2 : (i 2 : Nat) < 1024 := (i 2).isLt
  have hN : cfg0.N = 4 := N_0
  obtain ⟨t, ht⟩ : ∃ t : Fin cfg0.N, t.val = (i 0).val := ⟨⟨(i 0).val, by omega⟩, rfl⟩
  have e := index8 t
  refine ⟨t, flush0_8 _, ?_⟩
  show i ∈ ((View.whole main_v0_1).slice (win0_8.rect t)).set
  rw [View.set_slice_whole, Rect.mem_set_unit]
  intro a
  match a with
  | ⟨0, _⟩ =>
    show win0_8.index t 0 * 1 ≤ (i 0).val ∧ (i 0).val < win0_8.index t 0 * 1 + 1
    omega
  | ⟨1, _⟩ =>
    show win0_8.index t 1 * 256 ≤ (i 1).val ∧ (i 1).val < win0_8.index t 1 * 256 + 256
    omega
  | ⟨2, _⟩ =>
    show win0_8.index t 2 * 1024 ≤ (i 2).val ∧ (i 2).val < win0_8.index t 2 * 1024 + 1024
    omega

/-- The block index of the output window 9 at grid point `t`. -/
theorem index9 : ∀ t : Fin grid0.N, win0_9.index t 0 = t.val ∧ win0_9.index t 1 = 0 ∧ win0_9.index t 2 = 0 := by decide +kernel

/-- Where element (p, q, r) of the block written at point `t` sits in the output array. -/
theorem place9 (t : Fin cfg0.N) (p : Fin 1) (q : Fin 256) (r : Fin 1024) :
    ((win0_9.rect t).emb (ix3 p q r) 0).val = t.val * 1 + p.val ∧ ((win0_9.rect t).emb (ix3 p q r) 1).val = q.val ∧ ((win0_9.rect t).emb (ix3 p q r) 2).val = r.val := by
  have e := index9 t
  refine ⟨?_, ?_, ?_⟩
  · rw [win0_9.rect_emb_val]; show win0_9.index t 0 * 1 + p.val = _; omega
  · rw [win0_9.rect_emb_val]; show win0_9.index t 1 * 256 + q.val = _; omega
  · rw [win0_9.rect_emb_val]; show win0_9.index t 2 * 1024 + r.val = _; omega

/-- Every element of the output array lies in some point's block. -/
theorem cover9 (i : S4x256x1024.Idx) : ∃ t : Fin cfg0.N, (cfg0.win 9).flush t = true ∧ i ∈ ((cfg0.win 9).blk t).view.set := by
  have h0 : (i 0 : Nat) < 4 := (i 0).isLt
  have h1 : (i 1 : Nat) < 256 := (i 1).isLt
  have h2 : (i 2 : Nat) < 1024 := (i 2).isLt
  have hN : cfg0.N = 4 := N_0
  obtain ⟨t, ht⟩ : ∃ t : Fin cfg0.N, t.val = (i 0).val := ⟨⟨(i 0).val, by omega⟩, rfl⟩
  have e := index9 t
  refine ⟨t, flush0_9 _, ?_⟩
  show i ∈ ((View.whole main_v0_2).slice (win0_9.rect t)).set
  rw [View.set_slice_whole, Rect.mem_set_unit]
  intro a
  match a with
  | ⟨0, _⟩ =>
    show win0_9.index t 0 * 1 ≤ (i 0).val ∧ (i 0).val < win0_9.index t 0 * 1 + 1
    omega
  | ⟨1, _⟩ =>
    show win0_9.index t 1 * 256 ≤ (i 1).val ∧ (i 1).val < win0_9.index t 1 * 256 + 256
    omega
  | ⟨2, _⟩ =>
    show win0_9.index t 2 * 1024 ≤ (i 2).val ∧ (i 2).val < win0_9.index t 2 * 1024 + 1024
    omega

/-- The block index of the output window 10 at grid point `t`. -/
theorem index10 : ∀ t : Fin grid0.N, win0_10.index t 0 = t.val ∧ win0_10.index t 1 = 0 ∧ win0_10.index t 2 = 0 := by decide +kernel

/-- Where element (p, q, r) of the block written at point `t` sits in the output array. -/
theorem place10 (t : Fin cfg0.N) (p : Fin 1) (q : Fin 256) (r : Fin 1024) :
    ((win0_10.rect t).emb (ix3 p q r) 0).val = t.val * 1 + p.val ∧ ((win0_10.rect t).emb (ix3 p q r) 1).val = q.val ∧ ((win0_10.rect t).emb (ix3 p q r) 2).val = r.val := by
  have e := index10 t
  refine ⟨?_, ?_, ?_⟩
  · rw [win0_10.rect_emb_val]; show win0_10.index t 0 * 1 + p.val = _; omega
  · rw [win0_10.rect_emb_val]; show win0_10.index t 1 * 256 + q.val = _; omega
  · rw [win0_10.rect_emb_val]; show win0_10.index t 2 * 1024 + r.val = _; omega

/-- Every element of the output array lies in some point's block. -/
theorem cover10 (i : S4x256x1024.Idx) : ∃ t : Fin cfg0.N, (cfg0.win 10).flush t = true ∧ i ∈ ((cfg0.win 10).blk t).view.set := by
  have h0 : (i 0 : Nat) < 4 := (i 0).isLt
  have h1 : (i 1 : Nat) < 256 := (i 1).isLt
  have h2 : (i 2 : Nat) < 1024 := (i 2).isLt
  have hN : cfg0.N = 4 := N_0
  obtain ⟨t, ht⟩ : ∃ t : Fin cfg0.N, t.val = (i 0).val := ⟨⟨(i 0).val, by omega⟩, rfl⟩
  have e := index10 t
  refine ⟨t, flush0_10 _, ?_⟩
  show i ∈ ((View.whole main_v0_3).slice (win0_10.rect t)).set
  rw [View.set_slice_whole, Rect.mem_set_unit]
  intro a
  match a with
  | ⟨0, _⟩ =>
    show win0_10.index t 0 * 1 ≤ (i 0).val ∧ (i 0).val < win0_10.index t 0 * 1 + 1
    omega
  | ⟨1, _⟩ =>
    show win0_10.index t 1 * 256 ≤ (i 1).val ∧ (i 1).val < win0_10.index t 1 * 256 + 256
    omega
  | ⟨2, _⟩ =>
    show win0_10.index t 2 * 1024 ≤ (i 2).val ∧ (i 2).val < win0_10.index t 2 * 1024 + 1024
    omega

/-- The gradients of the four layers, stacked. -/
def grads (a b c d : Vec Ideal S256x1024 .f32) : Vec Ideal S4x256x1024 .f32 := fun i =>
  pick (i 0).val (a (ix2 (i 1) (i 2))) (b (ix2 (i 1) (i 2))) (c (ix2 (i 1) (i 2))) (d (ix2 (i 1) (i 2)))

/-- The new first moments. -/
def moments1 (x : Vec Ideal S4x256x1024 .f32) (a b c d : Vec Ideal S256x1024 .f32) : Vec Ideal S4x256x1024 .f32 := fun i => moment1 (x i) (grads a b c d i)

/-- The new second moments. -/
def moments2 (y : Vec Ideal S4x256x1024 .f32) (a b c d : Vec Ideal S256x1024 .f32) : Vec Ideal S4x256x1024 .f32 := fun i => moment2 (y i) (grads a b c d i)

/-- The changes of the weights. -/
def changes (w x y : Vec Ideal S4x256x1024 .f32) (a b c d : Vec Ideal S256x1024 .f32) : Vec Ideal S4x256x1024 .f32 := fun i => change (w i) (moments1 x a b c d i) (moments2 y a b c d i)

/-- The gradient chosen at grid point `t` is the stacked gradients' entry at the place the block is written to. -/
theorem chosen_eq (c : Dev nD) (t : Fin cfg0.N) (q : Fin 256) (r : Fin 1024) (i : S4x256x1024.Idx) (h0 : (i 0).val = t.val)
    (h1 : (i 1).val = q.val) (h2 : (i 2).val = r.val) :
    k0_pay4 (grid0.coords t) (iblk m c 3 t) (iblk m c 4 t) (iblk m c 5 t) (iblk m c 6 t) (ix2 q r)
      = grads (V m c main_arg3) (V m c main_arg4) (V m c main_arg5) (V m c main_arg6) i := by
  rw [chosen_apply, layer t, ← h0]
  exact pick_congr (i 0).isLt
    (fun _ => block3_apply m c t q r (ix2 (i 1) (i 2)) h1 h2)
    (fun _ => block4_apply m c t q r (ix2 (i 1) (i 2)) h1 h2)
    (fun _ => block5_apply m c t q r (ix2 (i 1) (i 2)) h1 h2)
    (fun _ => block6_apply m c t q r (ix2 (i 1) (i 2)) h1 h2)

/-- What point `t` writes back to the gradients is its block of them. -/
theorem flushed7_eq (c : Dev nD) (t : Fin cfg0.N) :
    (dats m 0 c).flushed 7 t = (win0_7.blk t).view.read (Elt Ideal) (grads (V m c main_arg3) (V m c main_arg4) (V m c main_arg5) (V m c main_arg6)) := by
  rw [Value.flushed7]
  unfold_out out0_7
  rw [View.canon_unit_zero zero3]
  rw [load2 (iblk m c 3 t), load2 (iblk m c 4 t), load2 (iblk m c 5 t), load2 (iblk m c 6 t)]
  funext j
  obtain ⟨p, q, r, rfl⟩ : ∃ (p : Fin 1) (q : Fin 256) (r : Fin 1024), j = ix3 p q r :=
    ⟨j 0, j 1, j 2, by funext a; fin_cases a <;> rfl⟩
  obtain ⟨e0', e1, e2⟩ := place7 t p q r
  have hp := p.isLt
  have e0 : ((win0_7.rect t).emb (ix3 p q r) 0).val = t.val := by omega
  exact (grad_apply _ _ _ _ _ p q r).trans (chosen_eq m c t q r _ e0 e1 e2)

theorem final7 (c : Dev nD) : (dats m 0 c).arrAt 7 cfg0.N = grads (V m c main_arg3) (V m c main_arg4) (V m c main_arg5) (V m c main_arg6) :=
  (dats m 0 c).arrAt_eq_of_cover 7 _ (fun t _ => flushed7_eq m c t) cover7

/-- What point `t` writes back to the changes is its block of them. -/
theorem flushed8_eq (c : Dev nD) (t : Fin cfg0.N) :
    (dats m 0 c).flushed 8 t = (win0_8.blk t).view.read (Elt Ideal) (changes (V m c main_arg0) (V m c main_arg1) (V m c main_arg2) (V m c main_arg3) (V m c main_arg4) (V m c main_arg5) (V m c main_arg6)) := by
  rw [Value.flushed8]
  unfold_out out0_8
  rw [View.canon_unit_zero zero3]
  rw [load3 (iblk m c 0 t), load3 (iblk m c 1 t), load3 (iblk m c 2 t), load2 (iblk m c 3 t), load2 (iblk m c 4 t), load2 (iblk m c 5 t), load2 (iblk m c 6 t)]
  funext j
  obtain ⟨p, q, r, rfl⟩ : ∃ (p : Fin 1) (q : Fin 256) (r : Fin 1024), j = ix3 p q r :=
    ⟨j 0, j 1, j 2, by funext a; fin_cases a <;> rfl⟩
  obtain ⟨e0', e1, e2⟩ := place8 t p q r
  have hp := p.isLt
  have e0 : ((win0_8.rect t).emb (ix3 p q r) 0).val = t.val := by omega
  have e := (moment1_apply (grid0.coords t) (iblk m c 3 t) (iblk m c 4 t) (iblk m c 5 t) (iblk m c 6 t) (iblk m c 1 t) p q r).trans
    (congrArg₂ moment1 (block1_apply m c t p q r _ e0' e1 e2) (chosen_eq m c t q r _ e0 e1 e2))
  have e' := (moment2_apply (grid0.coords t) (iblk m c 3 t) (iblk m c 4 t) (iblk m c 5 t) (iblk m c 6 t) (iblk m c 2 t) p q r).trans
    (congrArg₂ moment2 (block2_apply m c t p q r _ e0' e1 e2) (chosen_eq m c t q r _ e0 e1 e2))
  refine (change_apply _ _ _ p q r).trans ?_
  rw [e, e', block0_apply m c t p q r _ e0' e1 e2]
  rfl

theorem final8 (c : Dev nD) : (dats m 0 c).arrAt 8 cfg0.N = changes (V m c main_arg0) (V m c main_arg1) (V m c main_arg2) (V m c main_arg3) (V m c main_arg4) (V m c main_arg5) (V m c main_arg6) :=
  (dats m 0 c).arrAt_eq_of_cover 8 _ (fun t _ => flushed8_eq m c t) cover8

/-- What point `t` writes back to the first moments is its block of them. -/
theorem flushed9_eq (c : Dev nD) (t : Fin cfg0.N) :
    (dats m 0 c).flushed 9 t = (win0_9.blk t).view.read (Elt Ideal) (moments1 (V m c main_arg1) (V m c main_arg3) (V m c main_arg4) (V m c main_arg5) (V m c main_arg6)) := by
  rw [Value.flushed9]
  unfold_out out0_9
  rw [View.canon_unit_zero zero3]
  rw [load2 (iblk m c 3 t), load2 (iblk m c 4 t), load2 (iblk m c 5 t), load2 (iblk m c 6 t), load3 (iblk m c 1 t)]
  funext j
  obtain ⟨p, q, r, rfl⟩ : ∃ (p : Fin 1) (q : Fin 256) (r : Fin 1024), j = ix3 p q r :=
    ⟨j 0, j 1, j 2, by funext a; fin_cases a <;> rfl⟩
  obtain ⟨e0', e1, e2⟩ := place9 t p q r
  have hp := p.isLt
  have e0 : ((win0_9.rect t).emb (ix3 p q r) 0).val = t.val := by omega
  exact (stored1_apply _ p q r).trans ((moment1_apply _ _ _ _ _ _ p q r).trans (congrArg₂ moment1 (block1_apply m c t p q r _ e0' e1 e2) (chosen_eq m c t q r _ e0 e1 e2)))

theorem final9 (c : Dev nD) : (dats m 0 c).arrAt 9 cfg0.N = moments1 (V m c main_arg1) (V m c main_arg3) (V m c main_arg4) (V m c main_arg5) (V m c main_arg6) :=
  (dats m 0 c).arrAt_eq_of_cover 9 _ (fun t _ => flushed9_eq m c t) cover9

/-- What point `t` writes back to the second moments is its block of them. -/
theorem flushed10_eq (c : Dev nD) (t : Fin cfg0.N) :
    (dats m 0 c).flushed 10 t = (win0_10.blk t).view.read (Elt Ideal) (moments2 (V m c main_arg2) (V m c main_arg3) (V m c main_arg4) (V m c main_arg5) (V m c main_arg6)) := by
  rw [Value.flushed10]
  unfold_out out0_10
  rw [View.canon_unit_zero zero3]
  rw [load2 (iblk m c 3 t), load2 (iblk m c 4 t), load2 (iblk m c 5 t), load2 (iblk m c 6 t), load3 (iblk m c 2 t)]
  funext j
  obtain ⟨p, q, r, rfl⟩ : ∃ (p : Fin 1) (q : Fin 256) (r : Fin 1024), j = ix3 p q r :=
    ⟨j 0, j 1, j 2, by funext a; fin_cases a <;> rfl⟩
  obtain ⟨e0', e1, e2⟩ := place10 t p q r
  have hp := p.isLt
  have e0 : ((win0_10.rect t).emb (ix3 p q r) 0).val = t.val := by omega
  exact (stored2_apply _ p q r).trans ((moment2_apply _ _ _ _ _ _ p q r).trans (congrArg₂ moment2 (block2_apply m c t p q r _ e0' e1 e2) (chosen_eq m c t q r _ e0 e1 e2)))

theorem final10 (c : Dev nD) : (dats m 0 c).arrAt 10 cfg0.N = moments2 (V m c main_arg2) (V m c main_arg3) (V m c main_arg4) (V m c main_arg5) (V m c main_arg6) :=
  (dats m 0 c).arrAt_eq_of_cover 10 _ (fun t _ => flushed10_eq m c t) cover10

end Cert.AdamOIdeal.Product

namespace Cert.Proof.AdamO

open Cert.AdamORefIdeal Cert.AdamORefIdeal.Read Cert.AdamOIdeal.Product

/-- The reference's stack of the gradients. -/
theorem reference_grads (a b c d : Vec Ideal Cert.AdamORefIdeal.S256x1024 .f32) : val_main_v4 (F := Ideal) a b c d = grads a b c d := by
  funext j
  obtain ⟨p, q, r, rfl⟩ : ∃ (p : Fin 4) (q : Fin 256) (r : Fin 1024), j = ix3 p q r :=
    ⟨j 0, j 1, j 2, by funext a; fin_cases a <;> rfl⟩
  pointwise [val_main_v4, val_main_v3, val_main_v2, val_main_v1, val_main_v0]
  show _ = pick p.val (a (ix2 q r)) (b (ix2 q r)) (c (ix2 q r)) (d (ix2 q r))
  fin_cases p <;> rfl

/-- The reference's first moments. -/
theorem reference_moments1 (x : Vec Ideal Cert.AdamORefIdeal.S4x256x1024 .f32) (a b c d : Vec Ideal Cert.AdamORefIdeal.S256x1024 .f32) : val_main_v9 (F := Ideal) x a b c d = moments1 x a b c d := by
  funext j
  obtain ⟨p, q, r, rfl⟩ : ∃ (p : Fin 4) (q : Fin 256) (r : Fin 1024), j = ix3 p q r :=
    ⟨j 0, j 1, j 2, by funext a; fin_cases a <;> rfl⟩
  pointwise [val_main_v9, val_main_v8, val_main_v7, val_main_v6, val_main_v5, val_main_cst, val_main_cst_0]
  rw [reference_grads]
  rfl

/-- The reference's second moments. -/
theorem reference_moments2 (y : Vec Ideal Cert.AdamORefIdeal.S4x256x1024 .f32) (a b c d : Vec Ideal Cert.AdamORefIdeal.S256x1024 .f32) : val_main_v15 (F := Ideal) y a b c d = moments2 y a b c d := by
  funext j
  obtain ⟨p, q, r, rfl⟩ : ∃ (p : Fin 4) (q : Fin 256) (r : Fin 1024), j = ix3 p q r :=
    ⟨j 0, j 1, j 2, by funext a; fin_cases a <;> rfl⟩
  pointwise [val_main_v15, val_main_v14, val_main_v13, val_main_v12, val_main_v11, val_main_v10, val_main_cst_1, val_main_cst_2]
  rw [reference_grads]
  rfl

/-- The reference's changes of the weights. -/
theorem reference_changes (w x y : Vec Ideal Cert.AdamORefIdeal.S4x256x1024 .f32) (a b c d : Vec Ideal Cert.AdamORefIdeal.S256x1024 .f32) : val_main_v28 (F := Ideal) w x y a b c d = changes w x y a b c d := by
  funext j
  obtain ⟨p, q, r, rfl⟩ : ∃ (p : Fin 4) (q : Fin 256) (r : Fin 1024), j = ix3 p q r :=
    ⟨j 0, j 1, j 2, by funext a; fin_cases a <;> rfl⟩
  pointwise [val_main_v28, val_main_v27, val_main_v26, val_main_v25, val_main_v24, val_main_v23, val_main_v22, val_main_v21, val_main_v20,
    val_main_v19, val_main_v18, val_main_v17, val_main_v16, val_main_cst_3, val_main_cst_4, val_main_cst_5, val_main_cst_6, val_main_cst_7]
  rw [reference_moments1, reference_moments2]
  rfl

/-- The kernel's gradients, changes and moments are the reference's. -/
theorem algebraic : Cert.algebraic_AdamOIdeal_AdamORefIdeal := by
  intro m ρ m' ρ' _ hagree
  refine ⟨fun c => grads (m ((c.tc : Thread _ _).loc Cert.AdamOIdeal.main_arg3)) (m ((c.tc : Thread _ _).loc Cert.AdamOIdeal.main_arg4)) (m ((c.tc : Thread _ _).loc Cert.AdamOIdeal.main_arg5)) (m ((c.tc : Thread _ _).loc Cert.AdamOIdeal.main_arg6)),
    fun c => changes (m ((c.tc : Thread _ _).loc Cert.AdamOIdeal.main_arg0)) (m ((c.tc : Thread _ _).loc Cert.AdamOIdeal.main_arg1)) (m ((c.tc : Thread _ _).loc Cert.AdamOIdeal.main_arg2)) (m ((c.tc : Thread _ _).loc Cert.AdamOIdeal.main_arg3)) (m ((c.tc : Thread _ _).loc Cert.AdamOIdeal.main_arg4)) (m ((c.tc : Thread _ _).loc Cert.AdamOIdeal.main_arg5)) (m ((c.tc : Thread _ _).loc Cert.AdamOIdeal.main_arg6)),
    fun c => moments1 (m ((c.tc : Thread _ _).loc Cert.AdamOIdeal.main_arg1)) (m ((c.tc : Thread _ _).loc Cert.AdamOIdeal.main_arg3)) (m ((c.tc : Thread _ _).loc Cert.AdamOIdeal.main_arg4)) (m ((c.tc : Thread _ _).loc Cert.AdamOIdeal.main_arg5)) (m ((c.tc : Thread _ _).loc Cert.AdamOIdeal.main_arg6)),
    fun c => moments2 (m ((c.tc : Thread _ _).loc Cert.AdamOIdeal.main_arg2)) (m ((c.tc : Thread _ _).loc Cert.AdamOIdeal.main_arg3)) (m ((c.tc : Thread _ _).loc Cert.AdamOIdeal.main_arg4)) (m ((c.tc : Thread _ _).loc Cert.AdamOIdeal.main_arg5)) (m ((c.tc : Thread _ _).loc Cert.AdamOIdeal.main_arg6)), ?_, ?_⟩
  · exact (θ_run Cert.AdamOIdeal.defs _ _).mono
      (fun _ h c => ⟨(h c).1.trans (final7 m c), (h c).2.1.trans (final8 m c), (h c).2.2.1.trans (final9 m c), (h c).2.2.2.1.trans (final10 m c), (h c).2.2.2.2⟩)
      (Cert.AdamOIdeal.Value.run_blocks (F := Ideal) m ρ)
  · refine (θ_run Cert.AdamORefIdeal.defs _ _).mono (fun _ h c => ?_) (Cert.AdamORefIdeal.Value.run (F := Ideal) m' ρ')
    obtain ⟨h0, h1, h2, g⟩ := hagree c
    refine ⟨(h c).1.trans ?_, (h c).2.1.trans ?_, (h c).2.2.1.trans ?_, (h c).2.2.2.1.trans ?_, (h c).2.2.2.2⟩
    · rw [g.1, g.2.1, g.2.2.1, g.2.2.2]
      exact reference_grads _ _ _ _
    · rw [h0, h1, h2, g.1, g.2.1, g.2.2.1, g.2.2.2]
      exact reference_changes _ _ _ _ _ _ _
    · rw [h1, g.1, g.2.1, g.2.2.1, g.2.2.2]
      exact reference_moments1 _ _ _ _ _
    · rw [h2, g.1, g.2.1, g.2.2.1, g.2.2.2]
      exact reference_moments2 _ _ _ _ _

end Cert.Proof.AdamO
-- ==== Proof.AdamBranch.lean ====
/-
  The AdamW step of the branches' weight, all four layers in one call: the gradient of the layer is chosen among four arrays, and the
  moments and the change of every entry are those of the step written out for that entry.
-/
module

public import proofs.«01_k».proof.Defs
public import proofs.«01_k».proof.Proof.AdamMath
public import proofs.«01_k».proof.Proof.Gen.AdamBranchIdeal.Value
public import proofs.«01_k».proof.Proof.Gen.AdamBranchRefIdeal.Run
public import proofs.«01_k».proof.Proof.Gen.AdamBranchRefIdeal.Read
public import Idealize.ShloMosaic.Lib.Pointwise
public import Idealize.ShloMosaic.Lib.StableHlo.ReadAt

@[expose] public section

noncomputable section

open Idealize.ShloMosaic Idealize.ShloMosaic.TcCoe Idealize.SL.Sem
open Idealize.ShloMosaic.Pipeline (Dat)
open Cert.Proof.AdamMath

namespace Cert.AdamBranchIdeal.Product

open Cert.AdamBranchIdeal Cert.AdamBranchIdeal.Gen

variable (m : (ℓ : Loc nD τ sig) → Buf (Elt Ideal) ℓ) (ρ : Dev nD → PrngReg)

theorem zero2 : (![0, 0] : Fin 2 → Nat) = fun _ => 0 := funext fun a => by fin_cases a <;> rfl
theorem zero3 : (![0, 0, 0] : Fin 3 → Nat) = fun _ => 0 := funext fun a => by fin_cases a <;> rfl

/-- A whole block is loaded as it is. -/
theorem load2 (x : Vec Ideal S1536x256 .f32) : View.ld x r0_0 = x := View.ld_unit_zero zero2 _ _
theorem load3 (x : Vec Ideal S1x1536x256 .f32) : View.ld x r0_1 = x := View.ld_unit_zero zero3 _ _

/-- The body chooses the gradient of the grid point's layer. -/
theorem chosen_apply (i : grid0.Coords) (a b c d : Vec Ideal S1536x256 .f32) (q : Fin 1536) (r : Fin 256) :
    k0_pay4 i a b c d (ix2 q r) = pick (i 0).val (a (ix2 q r)) (b (ix2 q r)) (c (ix2 q r)) (d (ix2 q r)) := by
  obtain ⟨l, hl⟩ : ∃ l : Fin 4, (i 0).val = l.val := ⟨i 0, rfl⟩
  unfold k0_pay4
  simp only [hl]
  fin_cases l <;> rfl

/-- The gradient block the body stores. -/
theorem grad_apply (i : grid0.Coords) (a b c d : Vec Ideal S1536x256 .f32) (p : Fin 1) (q : Fin 1536) (r : Fin 256) :
    k0_pay5 i a b c d (ix3 p q r) = k0_pay4 i a b c d (ix2 q r) := by
  pointwise [k0_pay5]

/-- The first moment the body computes. -/
theorem moment1_apply (i : grid0.Coords) (a b c d : Vec Ideal S1536x256 .f32) (x : Vec Ideal S1x1536x256 .f32) (p : Fin 1) (q : Fin 1536) (r : Fin 256) :
    k0_pay7 i a b c d x (ix2 q r) = moment1 (x (ix3 p q r)) (k0_pay4 i a b c d (ix2 q r)) := by
  obtain rfl : p = 0 := Subsingleton.elim _ _
  pointwise [k0_pay7]
  rfl

/-- The second moment the body computes. -/
theorem moment2_apply (i : grid0.Coords) (a b c d : Vec Ideal S1536x256 .f32) (x : Vec Ideal S1x1536x256 .f32) (p : Fin 1) (q : Fin 1536) (r : Fin 256) :
    k0_pay8 i a b c d x (ix2 q r) = moment2 (x (ix3 p q r)) (k0_pay4 i a b c d (ix2 q r)) := by
  obtain rfl : p = 0 := Subsingleton.elim _ _
  pointwise [k0_pay8]
  rfl

/-- The change of the weight the body stores. -/
theorem change_apply (w : Vec Ideal S1x1536x256 .f32) (x y : Vec Ideal S1536x256 .f32) (p : Fin 1) (q : Fin 1536) (r : Fin 256) :
    k0_pay1 (k0_pay6 w) x y (ix3 p q r) = change (w (ix3 p q r)) (x (ix2 q r)) (y (ix2 q r)) := by
  obtain rfl : p = 0 := Subsingleton.elim _ _
  pointwise [k0_pay1, k0_pay6]
  rfl

/-- The moments are stored as they are. -/
theorem stored1_apply (x : Vec Ideal S1536x256 .f32) (p : Fin 1) (q : Fin 1536) (r : Fin 256) : k0_pay2 (F := Ideal) x (ix3 p q r) = x (ix2 q r) := by
  pointwise [k0_pay2]

theorem stored2_apply (x : Vec Ideal S1536x256 .f32) (p : Fin 1) (q : Fin 1536) (r : Fin 256) : k0_pay3 (F := Ideal) x (ix3 p q r) = x (ix2 q r) := by
  pointwise [k0_pay3]

/-- The layer of grid point `t`. -/
theorem layer : ∀ t : Fin grid0.N, (grid0.coords t 0).val = t.val := by decide +kernel

/-- The block index of window 0 at grid point `t`. -/
theorem index0 : ∀ t : Fin grid0.N, win0_0.index t 0 = t.val ∧ win0_0.index t 1 = 0 ∧ win0_0.index t 2 = 0 := by decide +kernel

/-- What the weight's block holds at grid point `t`. -/
theorem block0_apply (c : Dev nD) (t : Fin cfg0.N) (p : Fin 1) (q : Fin 1536) (r : Fin 256) (i : S4x1536x256.Idx)
    (h0 : (i 0).val = t.val * 1 + p.val) (h1 : (i 1).val = q.val) (h2 : (i 2).val = r.val) :
    iblk m c 0 t (ix3 p q r) = V m c main_v0 i := by
  show V m c main_v0 ((win0_0.rect t).emb (ix3 p q r)) = V m c main_v0 i
  have e := index0 t
  congr 1
  funext a
  apply Fin.ext
  rw [win0_0.rect_emb_val]
  match a with
  | ⟨0, _⟩ => show win0_0.index t 0 * 1 + p.val = (i 0).val; omega
  | ⟨1, _⟩ => show win0_0.index t 1 * 1536 + q.val = (i 1).val; omega
  | ⟨2, _⟩ => show win0_0.index t 2 * 256 + r.val = (i 2).val; omega

/-- The block index of window 1 at grid point `t`. -/
theorem index1 : ∀ t : Fin grid0.N, win0_1.index t 0 = t.val ∧ win0_1.index t 1 = 0 ∧ win0_1.index t 2 = 0 := by decide +kernel

/-- What the first moment's block holds at grid point `t`. -/
theorem block1_apply (c : Dev nD) (t : Fin cfg0.N) (p : Fin 1) (q : Fin 1536) (r : Fin 256) (i : S4x1536x256.Idx)
    (h0 : (i 0).val = t.val * 1 + p.val) (h1 : (i 1).val = q.val) (h2 : (i 2).val = r.val) :
    iblk m c 1 t (ix3 p q r) = V m c main_v1 i := by
  show V m c main_v1 ((win0_1.rect t).emb (ix3 p q r)) = V m c main_v1 i
  have e := index1 t
  congr 1
  funext a
  apply Fin.ext
  rw [win0_1.rect_emb_val]
  match a with
  | ⟨0, _⟩ => show win0_1.index t 0 * 1 + p.val = (i 0).val; omega
  | ⟨1, _⟩ => show win0_1.index t 1 * 1536 + q.val = (i 1).val; omega
  | ⟨2, _⟩ => show win0_1.index t 2 * 256 + r.val = (i 2).val; omega

/-- The block index of window 2 at grid point `t`. -/
theorem index2 : ∀ t : Fin grid0.N, win0_2.index t 0 = t.val ∧ win0_2.index t 1 = 0 ∧ win0_2.index t 2 = 0 := by decide +kernel

/-- What the second moment's block holds at grid point `t`. -/
theorem block2_apply (c : Dev nD) (t : Fin cfg0.N) (p : Fin 1) (q : Fin 1536) (r : Fin 256) (i : S4x1536x256.Idx)
    (h0 : (i 0).val = t.val * 1 + p.val) (h1 : (i 1).val = q.val) (h2 : (i 2).val = r.val) :
    iblk m c 2 t (ix3 p q r) = V m c main_v2 i := by
  show V m c main_v2 ((win0_2.rect t).emb (ix3 p q r)) = V m c main_v2 i
  have e := index2 t
  congr 1
  funext a
  apply Fin.ext
  rw [win0_2.rect_emb_val]
  match a with
  | ⟨0, _⟩ => show win0_2.index t 0 * 1 + p.val = (i 0).val; omega
  | ⟨1, _⟩ => show win0_2.index t 1 * 1536 + q.val = (i 1).val; omega
  | ⟨2, _⟩ => show win0_2.index t 2 * 256 + r.val = (i 2).val; omega

/-- The block index of window 3 at grid point `t`. -/
theorem index3 : ∀ t : Fin grid0.N, win0_3.index t 0 = 0 ∧ win0_3.index t 1 = 0 := by decide +kernel

/-- What the block of layer 0's gradient holds at grid point `t`. -/
theorem block3_apply (c : Dev nD) (t : Fin cfg0.N) (p : Fin 1536) (q : Fin 256) (i : S1536x256.Idx)
    (h0 : (i 0).val = p.val) (h1 : (i 1).val = q.val) :
    iblk m c 3 t (ix2 p q) = V m c main_arg3 i := by
  show V m c main_arg3 ((win0_3.rect t).emb (ix2 p q)) = V m c main_arg3 i
  have e := index3 t
  congr 1
  funext a
  apply Fin.ext
  rw [win0_3.rect_emb_val]
  match a with
  | ⟨0, _⟩ => show win0_3.index t 0 * 1536 + p.val = (i 0).val; omega
  | ⟨1, _⟩ => show win0_3.index t 1 * 256 + q.val = (i 1).val; omega

/-- The block index of window 4 at grid point `t`. -/
theorem index4 : ∀ t : Fin grid0.N, win0_4.index t 0 = 0 ∧ win0_4.index t 1 = 0 := by decide +kernel

/-- What the block of layer 1's gradient holds at grid point `t`. -/
theorem block4_apply (c : Dev nD) (t : Fin cfg0.N) (p : Fin 1536) (q : Fin 256) (i : S1536x256.Idx)
    (h0 : (i 0).val = p.val) (h1 : (i 1).val = q.val) :
    iblk m c 4 t (ix2 p q) = V m c main_arg4 i := by
  show V m c main_arg4 ((win0_4.rect t).emb (ix2 p q)) = V m c main_arg4 i
  have e := index4 t
  congr 1
  funext a
  apply Fin.ext
  rw [win0_4.rect_emb_val]
  match a with
  | ⟨0, _⟩ => show win0_4.index t 0 * 1536 + p.val = (i 0).val; omega
  | ⟨1, _⟩ => show win0_4.index t 1 * 256 + q.val = (i 1).val; omega

/-- The block index of window 5 at grid point `t`. -/
theorem index5 : ∀ t : Fin grid0.N, win0_5.index t 0 = 0 ∧ win0_5.index t 1 = 0 := by decide +kernel

/-- What the block of layer 2's gradient holds at grid point `t`. -/
theorem block5_apply (c : Dev nD) (t : Fin cfg0.N) (p : Fin 1536) (q : Fin 256) (i : S1536x256.Idx)
    (h0 : (i 0).val = p.val) (h1 : (i 1).val = q.val) :
    iblk m c 5 t (ix2 p q) = V m c main_arg5 i := by
  show V m c main_arg5 ((win0_5.rect t).emb (ix2 p q)) = V m c main_arg5 i
  have e := index5 t
  congr 1
  funext a
  apply Fin.ext
  rw [win0_5.rect_emb_val]
  match a with
  | ⟨0, _⟩ => show win0_5.index t 0 * 1536 + p.val = (i 0).val; omega
  | ⟨1, _⟩ => show win0_5.index t 1 * 256 + q.val = (i 1).val; omega

/-- The block index of window 6 at grid point `t`. -/
theorem index6 : ∀ t : Fin grid0.N, win0_6.index t 0 = 0 ∧ win0_6.index t 1 = 0 := by decide +kernel

/-- What the block of layer 3's gradient holds at grid point `t`. -/
theorem block6_apply (c : Dev nD) (t : Fin cfg0.N) (p : Fin 1536) (q : Fin 256) (i : S1536x256.Idx)
    (h0 : (i 0).val = p.val) (h1 : (i 1).val = q.val) :
    iblk m c 6 t (ix2 p q) = V m c main_arg6 i := by
  show V m c main_arg6 ((win0_6.rect t).emb (ix2 p q)) = V m c main_arg6 i
  have e := index6 t
  congr 1
  funext a
  apply Fin.ext
  rw [win0_6.rect_emb_val]
  match a with
  | ⟨0, _⟩ => show win0_6.index t 0 * 1536 + p.val = (i 0).val; omega
  | ⟨1, _⟩ => show win0_6.index t 1 * 256 + q.val = (i 1).val; omega

/-- The block index of the output window 7 at grid point `t`. -/
theorem index7 : ∀ t : Fin grid0.N, win0_7.index t 0 = t.val ∧ win0_7.index t 1 = 0 ∧ win0_7.index t 2 = 0 := by decide +kernel

/-- Where element (p, q, r) of the block written at point `t` sits in the output array. -/
theorem place7 (t : Fin cfg0.N) (p : Fin 1) (q : Fin 1536) (r : Fin 256) :
    ((win0_7.rect t).emb (ix3 p q r) 0).val = t.val * 1 + p.val ∧ ((win0_7.rect t).emb (ix3 p q r) 1).val = q.val ∧ ((win0_7.rect t).emb (ix3 p q r) 2).val = r.val := by
  have e := index7 t
  refine ⟨?_, ?_, ?_⟩
  · rw [win0_7.rect_emb_val]; show win0_7.index t 0 * 1 + p.val = _; omega
  · rw [win0_7.rect_emb_val]; show win0_7.index t 1 * 1536 + q.val = _; omega
  · rw [win0_7.rect_emb_val]; show win0_7.index t 2 * 256 + r.val = _; omega

/-- Every element of the output array lies in some point's block. -/
theorem cover7 (i : S4x1536x256.Idx) : ∃ t : Fin cfg0.N, (cfg0.win 7).flush t = true ∧ i ∈ ((cfg0.win 7).blk t).view.set := by
  have h0 : (i 0 : Nat) < 4 := (i 0).isLt
  have h1 : (i 1 : Nat) < 1536 := (i 1).isLt
  have h2 : (i 2 : Nat) < 256 := (i 2).isLt
  have hN : cfg0.N = 4 := N_0
  obtain ⟨t, ht⟩ : ∃ t : Fin cfg0.N, t.val = (i 0).val := ⟨⟨(i 0).val, by omega⟩, rfl⟩
  have e := index7 t
  refine ⟨t, flush0_7 _, ?_⟩
  show i ∈ ((View.whole main_v3_0).slice (win0_7.rect t)).set
  rw [View.set_slice_whole, Rect.mem_set_unit]
  intro a
  match a with
  | ⟨0, _⟩ =>
    show win0_7.index t 0 * 1 ≤ (i 0).val ∧ (i 0).val < win0_7.index t 0 * 1 + 1
    omega
  | ⟨1, _⟩ =>
    show win0_7.index t 1 * 1536 ≤ (i 1).val ∧ (i 1).val < win0_7.index t 1 * 1536 + 1536
    omega
  | ⟨2, _⟩ =>
    show win0_7.index t 2 * 256 ≤ (i 2).val ∧ (i 2).val < win0_7.index t 2 * 256 + 256
    omega

/-- The block index of the output window 8 at grid point `t`. -/
theorem index8 : ∀ t : Fin grid0.N, win0_8.index t 0 = t.val ∧ win0_8.index t 1 = 0 ∧ win0_8.index t 2 = 0 := by decide +kernel

/-- Where element (p, q, r) of the block written at point `t` sits in the output array. -/
theorem place8 (t : Fin cfg0.N) (p : Fin 1) (q : Fin 1536) (r : Fin 256) :
    ((win0_8.rect t).emb (ix3 p q r) 0).val = t.val * 1 + p.val ∧ ((win0_8.rect t).emb (ix3 p q r) 1).val = q.val ∧ ((win0_8.rect t).emb (ix3 p q r) 2).val = r.val := by
  have e := index8 t
  refine ⟨?_, ?_, ?_⟩
  · rw [win0_8.rect_emb_val]; show win0_8.index t 0 * 1 + p.val = _; omega
  · rw [win0_8.rect_emb_val]; show win0_8.index t 1 * 1536 + q.val = _; omega
  · rw [win0_8.rect_emb_val]; show win0_8.index t 2 * 256 + r.val = _; omega

/-- Every element of the output array lies in some point's block. -/
theorem cover8 (i : S4x1536x256.Idx) : ∃ t : Fin cfg0.N, (cfg0.win 8).flush t = true ∧ i ∈ ((cfg0.win 8).blk t).view.set := by
  have h0 : (i 0 : Nat) < 4 := (i 0).isLt
  have h1 : (i 1 : Nat) < 1536 := (i 1).isLt
  have h2 : (i 2 : Nat) < 256 := (i 2).isLt
  have hN : cfg0.N = 4 := N_0
  obtain ⟨t, ht⟩ : ∃ t : Fin cfg0.N, t.val = (i 0).val := ⟨⟨(i 0).val, by omega⟩, rfl⟩
  have e := index8 t
  refine ⟨t, flush0_8 _, ?_⟩
  show i ∈ ((View.whole main_v3_1).slice (win0_8.rect t)).set
  rw [View.set_slice_whole, Rect.mem_set_unit]
  intro a
  match a with
  | ⟨0, _⟩ =>
    show win0_8.index t 0 * 1 ≤ (i 0).val ∧ (i 0).val < win0_8.index t 0 * 1 + 1
    omega
  | ⟨1, _⟩ =>
    show win0_8.index t 1 * 1536 ≤ (i 1).val ∧ (i 1).val < win0_8.index t 1 * 1536 + 1536
    omega
  | ⟨2, _⟩ =>
    show win0_8.index t 2 * 256 ≤ (i 2).val ∧ (i 2).val < win0_8.index t 2 * 256 + 256
    omega

/-- The block index of the output window 9 at grid point `t`. -/
theorem index9 : ∀ t : Fin grid0.N, win0_9.index t 0 = t.val ∧ win0_9.index t 1 = 0 ∧ win0_9.index t 2 = 0 := by decide +kernel

/-- Where element (p, q, r) of the block written at point `t` sits in the output array. -/
theorem place9 (t : Fin cfg0.N) (p : Fin 1) (q : Fin 1536) (r : Fin 256) :
    ((win0_9.rect t).emb (ix3 p q r) 0).val = t.val * 1 + p.val ∧ ((win0_9.rect t).emb (ix3 p q r) 1).val = q.val ∧ ((win0_9.rect t).emb (ix3 p q r) 2).val = r.val := by
  have e := index9 t
  refine ⟨?_, ?_, ?_⟩
  · rw [win0_9.rect_emb_val]; show win0_9.index t 0 * 1 + p.val = _; omega
  · rw [win0_9.rect_emb_val]; show win0_9.index t 1 * 1536 + q.val = _; omega
  · rw [win0_9.rect_emb_val]; show win0_9.index t 2 * 256 + r.val = _; omega

/-- Every element of the output array lies in some point's block. -/
theorem cover9 (i : S4x1536x256.Idx) : ∃ t : Fin cfg0.N, (cfg0.win 9).flush t = true ∧ i ∈ ((cfg0.win 9).blk t).view.set := by
  have h0 : (i 0 : Nat) < 4 := (i 0).isLt
  have h1 : (i 1 : Nat) < 1536 := (i 1).isLt
  have h2 : (i 2 : Nat) < 256 := (i 2).isLt
  have hN : cfg0.N = 4 := N_0
  obtain ⟨t, ht⟩ : ∃ t : Fin cfg0.N, t.val = (i 0).val := ⟨⟨(i 0).val, by omega⟩, rfl⟩
  have e := index9 t
  refine ⟨t, flush0_9 _, ?_⟩
  show i ∈ ((View.whole main_v3_2).slice (win0_9.rect t)).set
  rw [View.set_slice_whole, Rect.mem_set_unit]
  intro a
  match a with
  | ⟨0, _⟩ =>
    show win0_9.index t 0 * 1 ≤ (i 0).val ∧ (i 0).val < win0_9.index t 0 * 1 + 1
    omega
  | ⟨1, _⟩ =>
    show win0_9.index t 1 * 1536 ≤ (i 1).val ∧ (i 1).val < win0_9.index t 1 * 1536 + 1536
    omega
  | ⟨2, _⟩ =>
    show win0_9.index t 2 * 256 ≤ (i 2).val ∧ (i 2).val < win0_9.index t 2 * 256 + 256
    omega

/-- The block index of the output window 10 at grid point `t`. -/
theorem index10 : ∀ t : Fin grid0.N, win0_10.index t 0 = t.val ∧ win0_10.index t 1 = 0 ∧ win0_10.index t 2 = 0 := by decide +kernel

/-- Where element (p, q, r) of the block written at point `t` sits in the output array. -/
theorem place10 (t : Fin cfg0.N) (p : Fin 1) (q : Fin 1536) (r : Fin 256) :
    ((win0_10.rect t).emb (ix3 p q r) 0).val = t.val * 1 + p.val ∧ ((win0_10.rect t).emb (ix3 p q r) 1).val = q.val ∧ ((win0_10.rect t).emb (ix3 p q r) 2).val = r.val := by
  have e := index10 t
  refine ⟨?_, ?_, ?_⟩
  · rw [win0_10.rect_emb_val]; show win0_10.index t 0 * 1 + p.val = _; omega
  · rw [win0_10.rect_emb_val]; show win0_10.index t 1 * 1536 + q.val = _; omega
  · rw [win0_10.rect_emb_val]; show win0_10.index t 2 * 256 + r.val = _; omega

/-- Every element of the output array lies in some point's block. -/
theorem cover10 (i : S4x1536x256.Idx) : ∃ t : Fin cfg0.N, (cfg0.win 10).flush t = true ∧ i ∈ ((cfg0.win 10).blk t).view.set := by
  have h0 : (i 0 : Nat) < 4 := (i 0).isLt
  have h1 : (i 1 : Nat) < 1536 := (i 1).isLt
  have h2 : (i 2 : Nat) < 256 := (i 2).isLt
  have hN : cfg0.N = 4 := N_0
  obtain ⟨t, ht⟩ : ∃ t : Fin cfg0.N, t.val = (i 0).val := ⟨⟨(i 0).val, by omega⟩, rfl⟩
  have e := index10 t
  refine ⟨t, flush0_10 _, ?_⟩
  show i ∈ ((View.whole main_v3_3).slice (win0_10.rect t)).set
  rw [View.set_slice_whole, Rect.mem_set_unit]
  intro a
  match a with
  | ⟨0, _⟩ =>
    show win0_10.index t 0 * 1 ≤ (i 0).val ∧ (i 0).val < win0_10.index t 0 * 1 + 1
    omega
  | ⟨1, _⟩ =>
    show win0_10.index t 1 * 1536 ≤ (i 1).val ∧ (i 1).val < win0_10.index t 1 * 1536 + 1536
    omega
  | ⟨2, _⟩ =>
    show win0_10.index t 2 * 256 ≤ (i 2).val ∧ (i 2).val < win0_10.index t 2 * 256 + 256
    omega

/-- The gradients of the four layers, stacked. -/
def grads (a b c d : Vec Ideal S1536x256 .f32) : Vec Ideal S4x1536x256 .f32 := fun i =>
  pick (i 0).val (a (ix2 (i 1) (i 2))) (b (ix2 (i 1) (i 2))) (c (ix2 (i 1) (i 2))) (d (ix2 (i 1) (i 2)))

/-- The new first moments. -/
def moments1 (x : Vec Ideal S4x1536x256 .f32) (a b c d : Vec Ideal S1536x256 .f32) : Vec Ideal S4x1536x256 .f32 := fun i => moment1 (x i) (grads a b c d i)

/-- The new second moments. -/
def moments2 (y : Vec Ideal S4x1536x256 .f32) (a b c d : Vec Ideal S1536x256 .f32) : Vec Ideal S4x1536x256 .f32 := fun i => moment2 (y i) (grads a b c d i)

/-- The changes of the weights. -/
def changes (w x y : Vec Ideal S4x1536x256 .f32) (a b c d : Vec Ideal S1536x256 .f32) : Vec Ideal S4x1536x256 .f32 := fun i => change (w i) (moments1 x a b c d i) (moments2 y a b c d i)

/-- The gradient chosen at grid point `t` is the stacked gradients' entry at the place the block is written to. -/
theorem chosen_eq (c : Dev nD) (t : Fin cfg0.N) (q : Fin 1536) (r : Fin 256) (i : S4x1536x256.Idx) (h0 : (i 0).val = t.val)
    (h1 : (i 1).val = q.val) (h2 : (i 2).val = r.val) :
    k0_pay4 (grid0.coords t) (iblk m c 3 t) (iblk m c 4 t) (iblk m c 5 t) (iblk m c 6 t) (ix2 q r)
      = grads (V m c main_arg3) (V m c main_arg4) (V m c main_arg5) (V m c main_arg6) i := by
  rw [chosen_apply, layer t, ← h0]
  exact pick_congr (i 0).isLt
    (fun _ => block3_apply m c t q r (ix2 (i 1) (i 2)) h1 h2)
    (fun _ => block4_apply m c t q r (ix2 (i 1) (i 2)) h1 h2)
    (fun _ => block5_apply m c t q r (ix2 (i 1) (i 2)) h1 h2)
    (fun _ => block6_apply m c t q r (ix2 (i 1) (i 2)) h1 h2)

/-- What point `t` writes back to the gradients is its block of them. -/
theorem flushed7_eq (c : Dev nD) (t : Fin cfg0.N) :
    (dats m 0 c).flushed 7 t = (win0_7.blk t).view.read (Elt Ideal) (grads (V m c main_arg3) (V m c main_arg4) (V m c main_arg5) (V m c main_arg6)) := by
  rw [Value.flushed7]
  unfold_out out0_7
  rw [View.canon_unit_zero zero3]
  rw [load2 (iblk m c 3 t), load2 (iblk m c 4 t), load2 (iblk m c 5 t), load2 (iblk m c 6 t)]
  funext j
  obtain ⟨p, q, r, rfl⟩ : ∃ (p : Fin 1) (q : Fin 1536) (r : Fin 256), j = ix3 p q r :=
    ⟨j 0, j 1, j 2, by funext a; fin_cases a <;> rfl⟩
  obtain ⟨e0', e1, e2⟩ := place7 t p q r
  have hp := p.isLt
  have e0 : ((win0_7.rect t).emb (ix3 p q r) 0).val = t.val := by omega
  exact (grad_apply _ _ _ _ _ p q r).trans (chosen_eq m c t q r _ e0 e1 e2)

theorem final7 (c : Dev nD) : (dats m 0 c).arrAt 7 cfg0.N = grads (V m c main_arg3) (V m c main_arg4) (V m c main_arg5) (V m c main_arg6) :=
  (dats m 0 c).arrAt_eq_of_cover 7 _ (fun t _ => flushed7_eq m c t) cover7

/-- What point `t` writes back to the changes is its block of them. -/
theorem flushed8_eq (c : Dev nD) (t : Fin cfg0.N) :
    (dats m 0 c).flushed 8 t = (win0_8.blk t).view.read (Elt Ideal) (changes (V m c main_v0) (V m c main_v1) (V m c main_v2) (V m c main_arg3) (V m c main_arg4) (V m c main_arg5) (V m c main_arg6)) := by
  rw [Value.flushed8]
  unfold_out out0_8
  rw [View.canon_unit_zero zero3]
  rw [load3 (iblk m c 0 t), load3 (iblk m c 1 t), load3 (iblk m c 2 t), load2 (iblk m c 3 t), load2 (iblk m c 4 t), load2 (iblk m c 5 t), load2 (iblk m c 6 t)]
  funext j
  obtain ⟨p, q, r, rfl⟩ : ∃ (p : Fin 1) (q : Fin 1536) (r : Fin 256), j = ix3 p q r :=
    ⟨j 0, j 1, j 2, by funext a; fin_cases a <;> rfl⟩
  obtain ⟨e0', e1, e2⟩ := place8 t p q r
  have hp := p.isLt
  have e0 : ((win0_8.rect t).emb (ix3 p q r) 0).val = t.val := by omega
  have e := (moment1_apply (grid0.coords t) (iblk m c 3 t) (iblk m c 4 t) (iblk m c 5 t) (iblk m c 6 t) (iblk m c 1 t) p q r).trans
    (congrArg₂ moment1 (block1_apply m c t p q r _ e0' e1 e2) (chosen_eq m c t q r _ e0 e1 e2))
  have e' := (moment2_apply (grid0.coords t) (iblk m c 3 t) (iblk m c 4 t) (iblk m c 5 t) (iblk m c 6 t) (iblk m c 2 t) p q r).trans
    (congrArg₂ moment2 (block2_apply m c t p q r _ e0' e1 e2) (chosen_eq m c t q r _ e0 e1 e2))
  refine (change_apply _ _ _ p q r).trans ?_
  rw [e, e', block0_apply m c t p q r _ e0' e1 e2]
  rfl

theorem final8 (c : Dev nD) : (dats m 0 c).arrAt 8 cfg0.N = changes (V m c main_v0) (V m c main_v1) (V m c main_v2) (V m c main_arg3) (V m c main_arg4) (V m c main_arg5) (V m c main_arg6) :=
  (dats m 0 c).arrAt_eq_of_cover 8 _ (fun t _ => flushed8_eq m c t) cover8

/-- What point `t` writes back to the first moments is its block of them. -/
theorem flushed9_eq (c : Dev nD) (t : Fin cfg0.N) :
    (dats m 0 c).flushed 9 t = (win0_9.blk t).view.read (Elt Ideal) (moments1 (V m c main_v1) (V m c main_arg3) (V m c main_arg4) (V m c main_arg5) (V m c main_arg6)) := by
  rw [Value.flushed9]
  unfold_out out0_9
  rw [View.canon_unit_zero zero3]
  rw [load2 (iblk m c 3 t), load2 (iblk m c 4 t), load2 (iblk m c 5 t), load2 (iblk m c 6 t), load3 (iblk m c 1 t)]
  funext j
  obtain ⟨p, q, r, rfl⟩ : ∃ (p : Fin 1) (q : Fin 1536) (r : Fin 256), j = ix3 p q r :=
    ⟨j 0, j 1, j 2, by funext a; fin_cases a <;> rfl⟩
  obtain ⟨e0', e1, e2⟩ := place9 t p q r
  have hp := p.isLt
  have e0 : ((win0_9.rect t).emb (ix3 p q r) 0).val = t.val := by omega
  exact (stored1_apply _ p q r).trans ((moment1_apply _ _ _ _ _ _ p q r).trans (congrArg₂ moment1 (block1_apply m c t p q r _ e0' e1 e2) (chosen_eq m c t q r _ e0 e1 e2)))

theorem final9 (c : Dev nD) : (dats m 0 c).arrAt 9 cfg0.N = moments1 (V m c main_v1) (V m c main_arg3) (V m c main_arg4) (V m c main_arg5) (V m c main_arg6) :=
  (dats m 0 c).arrAt_eq_of_cover 9 _ (fun t _ => flushed9_eq m c t) cover9

/-- What point `t` writes back to the second moments is its block of them. -/
theorem flushed10_eq (c : Dev nD) (t : Fin cfg0.N) :
    (dats m 0 c).flushed 10 t = (win0_10.blk t).view.read (Elt Ideal) (moments2 (V m c main_v2) (V m c main_arg3) (V m c main_arg4) (V m c main_arg5) (V m c main_arg6)) := by
  rw [Value.flushed10]
  unfold_out out0_10
  rw [View.canon_unit_zero zero3]
  rw [load2 (iblk m c 3 t), load2 (iblk m c 4 t), load2 (iblk m c 5 t), load2 (iblk m c 6 t), load3 (iblk m c 2 t)]
  funext j
  obtain ⟨p, q, r, rfl⟩ : ∃ (p : Fin 1) (q : Fin 1536) (r : Fin 256), j = ix3 p q r :=
    ⟨j 0, j 1, j 2, by funext a; fin_cases a <;> rfl⟩
  obtain ⟨e0', e1, e2⟩ := place10 t p q r
  have hp := p.isLt
  have e0 : ((win0_10.rect t).emb (ix3 p q r) 0).val = t.val := by omega
  exact (stored2_apply _ p q r).trans ((moment2_apply _ _ _ _ _ _ p q r).trans (congrArg₂ moment2 (block2_apply m c t p q r _ e0' e1 e2) (chosen_eq m c t q r _ e0 e1 e2)))

theorem final10 (c : Dev nD) : (dats m 0 c).arrAt 10 cfg0.N = moments2 (V m c main_v2) (V m c main_arg3) (V m c main_arg4) (V m c main_arg5) (V m c main_arg6) :=
  (dats m 0 c).arrAt_eq_of_cover 10 _ (fun t _ => flushed10_eq m c t) cover10

/-- A weight of three branches as one array of rows per layer. -/
def flat (x : Vec Ideal S4x3x512x256 .f32) : Vec Ideal S4x1536x256 .f32 := fun i =>
  x (ix4 (i 0) ⟨(i 1).val / 512, by have h : (i 1).val < 1536 := (i 1).isLt; omega⟩ ⟨(i 1).val % 512, by omega⟩ (i 2))

/-- Argument 0 as the call finds it. -/
theorem operand0 (c : Dev nD) : V m c main_v0 = flat (m ((c : Thread nD τ).loc main_arg0)) := by
  funext j
  obtain ⟨p, q, r, rfl⟩ : ∃ (p : Fin 4) (q : Fin 1536) (r : Fin 256), j = ix3 p q r :=
    ⟨j 0, j 1, j 2, by funext a; fin_cases a <;> rfl⟩
  unfold V
  after_reads_at
  rfl

/-- Argument 1 as the call finds it. -/
theorem operand1 (c : Dev nD) : V m c main_v1 = flat (m ((c : Thread nD τ).loc main_arg1)) := by
  funext j
  obtain ⟨p, q, r, rfl⟩ : ∃ (p : Fin 4) (q : Fin 1536) (r : Fin 256), j = ix3 p q r :=
    ⟨j 0, j 1, j 2, by funext a; fin_cases a <;> rfl⟩
  unfold V
  after_reads_at
  rfl

/-- Argument 2 as the call finds it. -/
theorem operand2 (c : Dev nD) : V m c main_v2 = flat (m ((c : Thread nD τ).loc main_arg2)) := by
  funext j
  obtain ⟨p, q, r, rfl⟩ : ∃ (p : Fin 4) (q : Fin 1536) (r : Fin 256), j = ix3 p q r :=
    ⟨j 0, j 1, j 2, by funext a; fin_cases a <;> rfl⟩
  unfold V
  after_reads_at
  rfl

end Cert.AdamBranchIdeal.Product

namespace Cert.Proof.AdamBranch

open Cert.AdamBranchRefIdeal Cert.AdamBranchRefIdeal.Read Cert.AdamBranchIdeal.Product

/-- The reference's stack of the gradients. -/
theorem reference_stack (a b c d : Vec Ideal Cert.AdamBranchRefIdeal.S1536x256 .f32) : val_main_v4 (F := Ideal) a b c d = grads a b c d := by
  funext j
  obtain ⟨p, q, r, rfl⟩ : ∃ (p : Fin 4) (q : Fin 1536) (r : Fin 256), j = ix3 p q r :=
    ⟨j 0, j 1, j 2, by funext a; fin_cases a <;> rfl⟩
  pointwise [val_main_v4, val_main_v3, val_main_v2, val_main_v1, val_main_v0]
  show _ = pick p.val (a (ix2 q r)) (b (ix2 q r)) (c (ix2 q r)) (d (ix2 q r))
  fin_cases p <;> rfl

/-- Reshaped to the weight's three branches and back it is the same. -/
theorem reference_grads (a b c d : Vec Ideal Cert.AdamBranchRefIdeal.S1536x256 .f32) : val_main_v30 (F := Ideal) a b c d = grads a b c d := by
  funext j
  obtain ⟨p, q, r, rfl⟩ : ∃ (p : Fin 4) (q : Fin 1536) (r : Fin 256), j = ix3 p q r :=
    ⟨j 0, j 1, j 2, by funext a; fin_cases a <;> rfl⟩
  pointwise [val_main_v30, val_main_v5]
  rw [reference_stack]

/-- The reference's first moments. -/
theorem reference_moments1 (x : Vec Ideal Cert.AdamBranchRefIdeal.S4x3x512x256 .f32) (a b c d : Vec Ideal Cert.AdamBranchRefIdeal.S1536x256 .f32) : val_main_v32 (F := Ideal) x a b c d = moments1 (flat x) a b c d := by
  funext j
  obtain ⟨p, q, r, rfl⟩ : ∃ (p : Fin 4) (q : Fin 1536) (r : Fin 256), j = ix3 p q r :=
    ⟨j 0, j 1, j 2, by funext a; fin_cases a <;> rfl⟩
  pointwise [val_main_v32, val_main_v10, val_main_v9, val_main_v8, val_main_v7, val_main_v6, val_main_cst, val_main_cst_0, val_main_v5]
  rw [reference_stack]
  rfl

/-- The reference's second moments. -/
theorem reference_moments2 (y : Vec Ideal Cert.AdamBranchRefIdeal.S4x3x512x256 .f32) (a b c d : Vec Ideal Cert.AdamBranchRefIdeal.S1536x256 .f32) : val_main_v33 (F := Ideal) y a b c d = moments2 (flat y) a b c d := by
  funext j
  obtain ⟨p, q, r, rfl⟩ : ∃ (p : Fin 4) (q : Fin 1536) (r : Fin 256), j = ix3 p q r :=
    ⟨j 0, j 1, j 2, by funext a; fin_cases a <;> rfl⟩
  pointwise [val_main_v33, val_main_v16, val_main_v15, val_main_v14, val_main_v13, val_main_v12, val_main_v11, val_main_cst_1, val_main_cst_2, val_main_v5]
  rw [reference_stack]
  rfl

/-- The reference's changes of the weights. -/
theorem reference_changes (w x y : Vec Ideal Cert.AdamBranchRefIdeal.S4x3x512x256 .f32) (a b c d : Vec Ideal Cert.AdamBranchRefIdeal.S1536x256 .f32) : val_main_v31 (F := Ideal) w x y a b c d = changes (flat w) (flat x) (flat y) a b c d := by
  funext j
  obtain ⟨p, q, r, rfl⟩ : ∃ (p : Fin 4) (q : Fin 1536) (r : Fin 256), j = ix3 p q r :=
    ⟨j 0, j 1, j 2, by funext a; fin_cases a <;> rfl⟩
  pointwise [val_main_v31, val_main_v29, val_main_v28, val_main_v27, val_main_v26, val_main_v25, val_main_v24, val_main_v23, val_main_v22, val_main_v21, val_main_v20, val_main_v19, val_main_v18, val_main_v17, val_main_cst_3, val_main_cst_4, val_main_cst_5, val_main_cst_6, val_main_cst_7, val_main_v10, val_main_v9, val_main_v8, val_main_v7, val_main_v6, val_main_cst, val_main_cst_0, val_main_v5, val_main_v16, val_main_v15, val_main_v14, val_main_v13, val_main_v12, val_main_v11, val_main_cst_1, val_main_cst_2]
  rw [reference_stack]
  rfl

/-- The kernel's gradients, changes and moments are the reference's. -/
theorem algebraic : Cert.algebraic_AdamBranchIdeal_AdamBranchRefIdeal := by
  intro m ρ m' ρ' _ hagree
  refine ⟨fun c => grads (m ((c.tc : Thread _ _).loc Cert.AdamBranchIdeal.main_arg3)) (m ((c.tc : Thread _ _).loc Cert.AdamBranchIdeal.main_arg4)) (m ((c.tc : Thread _ _).loc Cert.AdamBranchIdeal.main_arg5)) (m ((c.tc : Thread _ _).loc Cert.AdamBranchIdeal.main_arg6)),
    fun c => changes (flat (m ((c.tc : Thread _ _).loc Cert.AdamBranchIdeal.main_arg0))) (flat (m ((c.tc : Thread _ _).loc Cert.AdamBranchIdeal.main_arg1))) (flat (m ((c.tc : Thread _ _).loc Cert.AdamBranchIdeal.main_arg2))) (m ((c.tc : Thread _ _).loc Cert.AdamBranchIdeal.main_arg3)) (m ((c.tc : Thread _ _).loc Cert.AdamBranchIdeal.main_arg4)) (m ((c.tc : Thread _ _).loc Cert.AdamBranchIdeal.main_arg5)) (m ((c.tc : Thread _ _).loc Cert.AdamBranchIdeal.main_arg6)),
    fun c => moments1 (flat (m ((c.tc : Thread _ _).loc Cert.AdamBranchIdeal.main_arg1))) (m ((c.tc : Thread _ _).loc Cert.AdamBranchIdeal.main_arg3)) (m ((c.tc : Thread _ _).loc Cert.AdamBranchIdeal.main_arg4)) (m ((c.tc : Thread _ _).loc Cert.AdamBranchIdeal.main_arg5)) (m ((c.tc : Thread _ _).loc Cert.AdamBranchIdeal.main_arg6)),
    fun c => moments2 (flat (m ((c.tc : Thread _ _).loc Cert.AdamBranchIdeal.main_arg2))) (m ((c.tc : Thread _ _).loc Cert.AdamBranchIdeal.main_arg3)) (m ((c.tc : Thread _ _).loc Cert.AdamBranchIdeal.main_arg4)) (m ((c.tc : Thread _ _).loc Cert.AdamBranchIdeal.main_arg5)) (m ((c.tc : Thread _ _).loc Cert.AdamBranchIdeal.main_arg6)), ?_, ?_⟩
  · exact (θ_run Cert.AdamBranchIdeal.defs _ _).mono
      (fun _ h c => ⟨(h c).1.trans ((final7 m c).trans (by rw [Cert.AdamBranchIdeal.Gen.V_main_arg3, Cert.AdamBranchIdeal.Gen.V_main_arg4, Cert.AdamBranchIdeal.Gen.V_main_arg5, Cert.AdamBranchIdeal.Gen.V_main_arg6])), (h c).2.1.trans ((final8 m c).trans (by rw [operand0, operand1, operand2, Cert.AdamBranchIdeal.Gen.V_main_arg3, Cert.AdamBranchIdeal.Gen.V_main_arg4, Cert.AdamBranchIdeal.Gen.V_main_arg5, Cert.AdamBranchIdeal.Gen.V_main_arg6])), (h c).2.2.1.trans ((final9 m c).trans (by rw [operand1, Cert.AdamBranchIdeal.Gen.V_main_arg3, Cert.AdamBranchIdeal.Gen.V_main_arg4, Cert.AdamBranchIdeal.Gen.V_main_arg5, Cert.AdamBranchIdeal.Gen.V_main_arg6])), (h c).2.2.2.1.trans ((final10 m c).trans (by rw [operand2, Cert.AdamBranchIdeal.Gen.V_main_arg3, Cert.AdamBranchIdeal.Gen.V_main_arg4, Cert.AdamBranchIdeal.Gen.V_main_arg5, Cert.AdamBranchIdeal.Gen.V_main_arg6])), (h c).2.2.2.2⟩)
      (Cert.AdamBranchIdeal.Value.run_blocks (F := Ideal) m ρ)
  · refine (θ_run Cert.AdamBranchRefIdeal.defs _ _).mono (fun _ h c => ?_) (Cert.AdamBranchRefIdeal.Value.run (F := Ideal) m' ρ')
    obtain ⟨h0, h1, h2, g⟩ := hagree c
    refine ⟨(h c).1.trans ?_, (h c).2.1.trans ?_, (h c).2.2.1.trans ?_, (h c).2.2.2.1.trans ?_, (h c).2.2.2.2⟩
    · rw [g.1, g.2.1, g.2.2.1, g.2.2.2]
      exact reference_grads _ _ _ _
    · rw [h0, h1, h2, g.1, g.2.1, g.2.2.1, g.2.2.2]
      exact reference_changes _ _ _ _ _ _ _
    · rw [h1, g.1, g.2.1, g.2.2.1, g.2.2.2]
      exact reference_moments1 _ _ _ _ _
    · rw [h2, g.1, g.2.1, g.2.2.1, g.2.2.2]
      exact reference_moments2 _ _ _ _ _

end Cert.Proof.AdamBranch
-- ==== Proof.Packing.lean ====
/-
  Joining arrays commutes with a function taken entry by entry.
-/
module

public import Idealize.ShloMosaic.Lib.Pointwise

@[expose] public section

open Idealize.ShloMosaic

namespace Cert.Proof.Packing

variable {α β : Type}

/-- The pieces with `f` taken entry by entry. -/
def mapPieces (f : α → β) (xs : List ((s : Shape) × (s.Idx → α))) : List ((s : Shape) × (s.Idx → β)) :=
  xs.map fun p => ⟨p.1, fun i => f (p.2 i)⟩

theorem joined_at_map (f : α → β) (t : Shape) (a : Fin t.rank) (j : t.Idx) :
    ∀ (xs : List ((s : Shape) × (s.Idx → α))) (hs : ∀ s ∈ xs.map (·.1), s.FitsOff t a)
      (hs' : ∀ s ∈ (mapPieces f xs).map (·.1), s.FitsOff t a) (c : Nat) (hc : c < (axisSizes t a xs).sum)
      (hc' : c < (axisSizes t a (mapPieces f xs)).sum),
      concatenateAt t a j (mapPieces f xs) hs' c hc' = f (concatenateAt t a j xs hs c hc)
  | [], _, _, _, hc, _ => absurd hc (Nat.not_lt_zero _)
  | [⟨s, x⟩], hs, hs', c, hc, hc' => by
    rw [concatenateAt_singleton a j x hs c hc]
    exact concatenateAt_singleton a j (fun i => f (x i)) hs' c hc'
  | ⟨s, x⟩ :: ⟨s', x'⟩ :: xs, hs, hs', c, hc, hc' => by
    rw [concatenateAt_cons a j x ⟨s', x'⟩ xs hs c hc]
    refine (concatenateAt_cons a j (fun i => f (x i)) ⟨s', fun i => f (x' i)⟩ (mapPieces f xs) hs' c hc').trans ?_
    split
    · rfl
    · exact joined_at_map f t a j (⟨s', x'⟩ :: xs) _ _ _ _ _

/-- A function taken entry by entry of the joined array is the pieces' own, joined. -/
theorem joined_map (f : α → β) (t : Shape) (a : Fin t.rank) (xs : List ((s : Shape) × (s.Idx → α)))
    (h : Shape.Concatenates (xs.map (·.1)) t a) (h' : Shape.Concatenates ((mapPieces f xs).map (·.1)) t a) :
    concatenate t a (mapPieces f xs) h' = fun j => f (concatenate t a xs h j) := by
  funext j
  rw [concatenate_apply, concatenate_apply]
  exact joined_at_map f t a j xs _ _ _ _ _

end Cert.Proof.Packing
-- ==== Proof.AdamSmall.lean ====
/-
  The AdamW step of the ten small weights, packed in one array of rows of 128: packing commutes with a step taken entry by entry, so
  the step of the packed arrays is the packed steps.
-/
module

public import proofs.«01_k».proof.Defs
public import proofs.«01_k».proof.Proof.AdamMath
public import proofs.«01_k».proof.Proof.Packing
public import proofs.«01_k».proof.Proof.Gen.AdamSmallIdeal.Value
public import proofs.«01_k».proof.Proof.Gen.AdamSmallRefIdeal.Run
public import proofs.«01_k».proof.Proof.Gen.AdamSmallRefIdeal.Read
public import Idealize.ShloMosaic.Lib.Pointwise
public import Idealize.ShloMosaic.Lib.StableHlo.ReadAt

@[expose] public section

noncomputable section

open Idealize.ShloMosaic Idealize.ShloMosaic.TcCoe Idealize.SL.Sem
open Idealize.ShloMosaic.Pipeline (Dat)
open Cert.Proof.AdamMath Cert.Proof.Packing

namespace Cert.AdamSmallIdeal.Product

open Cert.AdamSmallIdeal Cert.AdamSmallIdeal.Gen

variable (m : (ℓ : Loc nD τ sig) → Buf (Elt Ideal) ℓ) (ρ : Dev nD → PrngReg)

/-- Ten arrays of the shapes of the small weights. -/
structure Ten (α : Type) where
  mix : S4x1024.Idx → α
  bounds : S4x512.Idx → α
  out : S4x512.Idx → α
  conv : S4x3x128.Idx → α
  gain : S4x512.Idx → α
  shift : S4x512.Idx → α
  gate : S4x4x128x128.Idx → α
  offset : S4x4x128.Idx → α
  ffn : S4x1024.Idx → α
  last : S1024.Idx → α

/-- The ten arrays as rows of 128, one after the other; the convolution's twelve rows are filled up to sixteen with `z`. -/
def Ten.pack {α : Type} (z : α) (x : Ten α) : S2216x128.Idx → α :=
  concatenate S2216x128 0 [⟨S32x128, shapeCast _ x.mix shapeCasts_S4x1024_S32x128⟩,
    ⟨S16x128, shapeCast _ x.bounds shapeCasts_S4x512_S16x128⟩,
    ⟨S16x128, shapeCast _ x.out shapeCasts_S4x512_S16x128⟩,
    ⟨S16x128, concatenate S16x128 0 [⟨S12x128, shapeCast _ x.conv shapeCasts_S4x3x128_S12x128⟩, ⟨S4x128, fun _ => z⟩] concatenates_S12x128_S4x128_S16x128_d0⟩,
    ⟨S16x128, shapeCast _ x.gain shapeCasts_S4x512_S16x128⟩,
    ⟨S16x128, shapeCast _ x.shift shapeCasts_S4x512_S16x128⟩,
    ⟨S2048x128, shapeCast _ x.gate shapeCasts_S4x4x128x128_S2048x128⟩,
    ⟨S16x128, shapeCast _ x.offset shapeCasts_S4x4x128_S16x128⟩,
    ⟨S32x128, shapeCast _ x.ffn shapeCasts_S4x1024_S32x128⟩,
    ⟨S8x128, shapeCast _ x.last shapeCasts_S1024_S8x128⟩] concatenates_S32x128_S16x128_S16x128_S16x128_S16x128_S16x128_S2048x128_S16x128_S32x128_S8x128_S2216x128_d0

/-- A function taken entry by entry. -/
def Ten.map {α β : Type} (f : α → β) (x : Ten α) : Ten β where
  mix i := f (x.mix i)
  bounds i := f (x.bounds i)
  out i := f (x.out i)
  conv i := f (x.conv i)
  gain i := f (x.gain i)
  shift i := f (x.shift i)
  gate i := f (x.gate i)
  offset i := f (x.offset i)
  ffn i := f (x.ffn i)
  last i := f (x.last i)

/-- The entries of four such groups side by side. -/
def Ten.beside (w g x y : Ten EReal) : Ten (EReal × EReal × EReal × EReal) where
  mix i := (w.mix i, g.mix i, x.mix i, y.mix i)
  bounds i := (w.bounds i, g.bounds i, x.bounds i, y.bounds i)
  out i := (w.out i, g.out i, x.out i, y.out i)
  conv i := (w.conv i, g.conv i, x.conv i, y.conv i)
  gain i := (w.gain i, g.gain i, x.gain i, y.gain i)
  shift i := (w.shift i, g.shift i, x.shift i, y.shift i)
  gate i := (w.gate i, g.gate i, x.gate i, y.gate i)
  offset i := (w.offset i, g.offset i, x.offset i, y.offset i)
  ffn i := (w.ffn i, g.ffn i, x.ffn i, y.ffn i)
  last i := (w.last i, g.last i, x.last i, y.last i)

/-- A function may be taken before or after packing. -/
theorem pack_map {α β : Type} (f : α → β) (z : α) (x : Ten α) : (x.map f).pack (f z) = fun i => f (x.pack z i) := by
  have e := joined_map f S16x128 0 [⟨S12x128, shapeCast S12x128 x.conv shapeCasts_S4x3x128_S12x128⟩, ⟨S4x128, fun _ => z⟩]
    concatenates_S12x128_S4x128_S16x128_d0 concatenates_S12x128_S4x128_S16x128_d0
  refine Eq.trans ?_ (joined_map f S2216x128 0 [⟨S32x128, shapeCast _ x.mix shapeCasts_S4x1024_S32x128⟩,
    ⟨S16x128, shapeCast _ x.bounds shapeCasts_S4x512_S16x128⟩,
    ⟨S16x128, shapeCast _ x.out shapeCasts_S4x512_S16x128⟩,
    ⟨S16x128, concatenate S16x128 0 [⟨S12x128, shapeCast _ x.conv shapeCasts_S4x3x128_S12x128⟩, ⟨S4x128, fun _ => z⟩] concatenates_S12x128_S4x128_S16x128_d0⟩,
    ⟨S16x128, shapeCast _ x.gain shapeCasts_S4x512_S16x128⟩,
    ⟨S16x128, shapeCast _ x.shift shapeCasts_S4x512_S16x128⟩,
    ⟨S2048x128, shapeCast _ x.gate shapeCasts_S4x4x128x128_S2048x128⟩,
    ⟨S16x128, shapeCast _ x.offset shapeCasts_S4x4x128_S16x128⟩,
    ⟨S32x128, shapeCast _ x.ffn shapeCasts_S4x1024_S32x128⟩,
    ⟨S8x128, shapeCast _ x.last shapeCasts_S1024_S8x128⟩] concatenates_S32x128_S16x128_S16x128_S16x128_S16x128_S16x128_S2048x128_S16x128_S32x128_S8x128_S2216x128_d0 concatenates_S32x128_S16x128_S16x128_S16x128_S16x128_S16x128_S2048x128_S16x128_S32x128_S8x128_S2216x128_d0)
  show Ten.pack (f z) (x.map f) = concatenate S2216x128 0 [⟨S32x128, shapeCast _ (fun i => f (x.mix i)) shapeCasts_S4x1024_S32x128⟩,
    ⟨S16x128, shapeCast _ (fun i => f (x.bounds i)) shapeCasts_S4x512_S16x128⟩,
    ⟨S16x128, shapeCast _ (fun i => f (x.out i)) shapeCasts_S4x512_S16x128⟩,
    ⟨S16x128, fun i => f (concatenate S16x128 0 [⟨S12x128, shapeCast _ x.conv shapeCasts_S4x3x128_S12x128⟩, ⟨S4x128, fun _ => z⟩] concatenates_S12x128_S4x128_S16x128_d0 i)⟩,
    ⟨S16x128, shapeCast _ (fun i => f (x.gain i)) shapeCasts_S4x512_S16x128⟩,
    ⟨S16x128, shapeCast _ (fun i => f (x.shift i)) shapeCasts_S4x512_S16x128⟩,
    ⟨S2048x128, shapeCast _ (fun i => f (x.gate i)) shapeCasts_S4x4x128x128_S2048x128⟩,
    ⟨S16x128, shapeCast _ (fun i => f (x.offset i)) shapeCasts_S4x4x128_S16x128⟩,
    ⟨S32x128, shapeCast _ (fun i => f (x.ffn i)) shapeCasts_S4x1024_S32x128⟩,
    ⟨S8x128, shapeCast _ (fun i => f (x.last i)) shapeCasts_S1024_S8x128⟩] concatenates_S32x128_S16x128_S16x128_S16x128_S16x128_S16x128_S2048x128_S16x128_S32x128_S8x128_S2216x128_d0
  rw [← e]
  rfl

/-- A step of four entries taken on the packed arrays is the packed steps, if it keeps the filling. -/
theorem pack_step (f : EReal → EReal → EReal → EReal → EReal) (z : EReal) (h : f z z z z = z) (w g x y : Ten EReal) :
    ((Ten.beside w g x y).map fun p => f p.1 p.2.1 p.2.2.1 p.2.2.2).pack z
      = fun i => f (w.pack z i) (g.pack z i) (x.pack z i) (y.pack z i) := by
  have e := pack_map (fun p : EReal × EReal × EReal × EReal => f p.1 p.2.1 p.2.2.1 p.2.2.2) (z, z, z, z) (Ten.beside w g x y)
  have e0 := pack_map (fun p : EReal × EReal × EReal × EReal => p.1) (z, z, z, z) (Ten.beside w g x y)
  have e1 := pack_map (fun p : EReal × EReal × EReal × EReal => p.2.1) (z, z, z, z) (Ten.beside w g x y)
  have e2 := pack_map (fun p : EReal × EReal × EReal × EReal => p.2.2.1) (z, z, z, z) (Ten.beside w g x y)
  have e3 := pack_map (fun p : EReal × EReal × EReal × EReal => p.2.2.2) (z, z, z, z) (Ten.beside w g x y)
  dsimp only at e e0 e1 e2 e3
  rw [h] at e
  rw [e]
  funext i
  exact congr (congr (congr (congrArg f (congrFun e0 i).symm) (congrFun e1 i).symm) (congrFun e2 i).symm) (congrFun e3 i).symm

/-- The ten weights, gradients and moments as launched. -/
def W (c : Dev nD) : Ten EReal := ⟨m ((c.tc : Thread _ _).loc main_arg0), m ((c.tc : Thread _ _).loc main_arg1), m ((c.tc : Thread _ _).loc main_arg2), m ((c.tc : Thread _ _).loc main_arg3), m ((c.tc : Thread _ _).loc main_arg4), m ((c.tc : Thread _ _).loc main_arg5), m ((c.tc : Thread _ _).loc main_arg6), m ((c.tc : Thread _ _).loc main_arg7), m ((c.tc : Thread _ _).loc main_arg8), m ((c.tc : Thread _ _).loc main_arg9)⟩
def G (c : Dev nD) : Ten EReal := ⟨m ((c.tc : Thread _ _).loc main_arg10), m ((c.tc : Thread _ _).loc main_arg11), m ((c.tc : Thread _ _).loc main_arg12), m ((c.tc : Thread _ _).loc main_arg13), m ((c.tc : Thread _ _).loc main_arg14), m ((c.tc : Thread _ _).loc main_arg15), m ((c.tc : Thread _ _).loc main_arg16), m ((c.tc : Thread _ _).loc main_arg17), m ((c.tc : Thread _ _).loc main_arg18), m ((c.tc : Thread _ _).loc main_arg19)⟩
def M1 (c : Dev nD) : Ten EReal := ⟨m ((c.tc : Thread _ _).loc main_arg20), m ((c.tc : Thread _ _).loc main_arg21), m ((c.tc : Thread _ _).loc main_arg22), m ((c.tc : Thread _ _).loc main_arg23), m ((c.tc : Thread _ _).loc main_arg24), m ((c.tc : Thread _ _).loc main_arg25), m ((c.tc : Thread _ _).loc main_arg26), m ((c.tc : Thread _ _).loc main_arg27), m ((c.tc : Thread _ _).loc main_arg28), m ((c.tc : Thread _ _).loc main_arg29)⟩
def M2 (c : Dev nD) : Ten EReal := ⟨m ((c.tc : Thread _ _).loc main_arg30), m ((c.tc : Thread _ _).loc main_arg31), m ((c.tc : Thread _ _).loc main_arg32), m ((c.tc : Thread _ _).loc main_arg33), m ((c.tc : Thread _ _).loc main_arg34), m ((c.tc : Thread _ _).loc main_arg35), m ((c.tc : Thread _ _).loc main_arg36), m ((c.tc : Thread _ _).loc main_arg37), m ((c.tc : Thread _ _).loc main_arg38), m ((c.tc : Thread _ _).loc main_arg39)⟩

/-- The word of the filling. -/
abbrev zero : EReal := Ideal.ofBits .f32 0x00000000#32

/-- Arrays that are the ten, as rows, joined are the packed ones. -/
theorem pack_of_parts (z : EReal) (X : Ten EReal) {x0 : S32x128.Idx → EReal} {x1 : S16x128.Idx → EReal} {x2 : S16x128.Idx → EReal} {x3 : S16x128.Idx → EReal} {x4 : S16x128.Idx → EReal} {x5 : S16x128.Idx → EReal} {x6 : S2048x128.Idx → EReal} {x7 : S16x128.Idx → EReal} {x8 : S32x128.Idx → EReal} {x9 : S8x128.Idx → EReal}
    (h0 : x0 = shapeCast _ X.mix shapeCasts_S4x1024_S32x128)
    (h1 : x1 = shapeCast _ X.bounds shapeCasts_S4x512_S16x128)
    (h2 : x2 = shapeCast _ X.out shapeCasts_S4x512_S16x128)
    (h3 : x3 = concatenate S16x128 0 [⟨S12x128, shapeCast _ X.conv shapeCasts_S4x3x128_S12x128⟩, ⟨S4x128, fun _ => z⟩] concatenates_S12x128_S4x128_S16x128_d0)
    (h4 : x4 = shapeCast _ X.gain shapeCasts_S4x512_S16x128)
    (h5 : x5 = shapeCast _ X.shift shapeCasts_S4x512_S16x128)
    (h6 : x6 = shapeCast _ X.gate shapeCasts_S4x4x128x128_S2048x128)
    (h7 : x7 = shapeCast _ X.offset shapeCasts_S4x4x128_S16x128)
    (h8 : x8 = shapeCast _ X.ffn shapeCasts_S4x1024_S32x128)
    (h9 : x9 = shapeCast _ X.last shapeCasts_S1024_S8x128) :
    concatenate S2216x128 0 [⟨S32x128, x0⟩, ⟨S16x128, x1⟩, ⟨S16x128, x2⟩, ⟨S16x128, x3⟩, ⟨S16x128, x4⟩, ⟨S16x128, x5⟩, ⟨S2048x128, x6⟩, ⟨S16x128, x7⟩, ⟨S32x128, x8⟩, ⟨S8x128, x9⟩]
      concatenates_S32x128_S16x128_S16x128_S16x128_S16x128_S16x128_S2048x128_S16x128_S32x128_S8x128_S2216x128_d0 = X.pack z := by
  subst h0 h1 h2 h3 h4 h5 h6 h7 h8 h9
  rfl

/-- The kernel's weights are the packed ones. -/
theorem operand_W (c : Dev nD) : V m c main_v12 = (W m c).pack zero := by
  unfold V
  after_reads_simp
  refine pack_of_parts zero (W m c) ?_ ?_ ?_ ?_ ?_ ?_ ?_ ?_ ?_ ?_ <;> dsimp only [Matrix.cons_val] <;> after_reads_simp <;> rfl

/-- The kernel's gradients are the packed ones. -/
theorem operand_G (c : Dev nD) : V m c main_v25 = (G m c).pack zero := by
  unfold V
  after_reads_simp
  refine pack_of_parts zero (G m c) ?_ ?_ ?_ ?_ ?_ ?_ ?_ ?_ ?_ ?_ <;> dsimp only [Matrix.cons_val] <;> after_reads_simp <;> rfl

/-- The kernel's first moments are the packed ones. -/
theorem operand_M1 (c : Dev nD) : V m c main_v38 = (M1 m c).pack zero := by
  unfold V
  after_reads_simp
  refine pack_of_parts zero (M1 m c) ?_ ?_ ?_ ?_ ?_ ?_ ?_ ?_ ?_ ?_ <;> dsimp only [Matrix.cons_val] <;> after_reads_simp <;> rfl

/-- The kernel's second moments are the packed ones. -/
theorem operand_M2 (c : Dev nD) : V m c main_v51 = (M2 m c).pack zero := by
  unfold V
  after_reads_simp
  refine pack_of_parts zero (M2 m c) ?_ ?_ ?_ ?_ ?_ ?_ ?_ ?_ ?_ ?_ <;> dsimp only [Matrix.cons_val] <;> after_reads_simp <;> rfl

theorem zero2 : (![0, 0] : Fin 2 → Nat) = fun _ => 0 := funext fun a => by fin_cases a <;> rfl

/-- A whole block is loaded as it is. -/
theorem load2 (x : Vec Ideal S2216x128 .f32) : View.ld x r0_0 = x := View.ld_unit_zero zero2 _ _

/-- The change the body stores. -/
theorem change_apply (w g x y : Vec Ideal S2216x128 .f32) (q : Fin 2216) (r : Fin 128) :
    k0_pay4 w g x y (ix2 q r) = change (w (ix2 q r)) (moment1 (x (ix2 q r)) (g (ix2 q r))) (moment2 (y (ix2 q r)) (g (ix2 q r))) := by
  pointwise [k0_pay4, k0_pay3, k0_pay2, k0_pay1]
  rfl

/-- The first moment the body stores. -/
theorem moment1_apply (g x : Vec Ideal S2216x128 .f32) (q : Fin 2216) (r : Fin 128) :
    k0_pay2 g x (ix2 q r) = moment1 (x (ix2 q r)) (g (ix2 q r)) := by
  pointwise [k0_pay2, k0_pay1]
  rfl

/-- The second moment the body stores. -/
theorem moment2_apply (g y : Vec Ideal S2216x128 .f32) (q : Fin 2216) (r : Fin 128) :
    k0_pay3 g y (ix2 q r) = moment2 (y (ix2 q r)) (g (ix2 q r)) := by
  pointwise [k0_pay3, k0_pay1]
  rfl

/-- The block index of window 0 at grid point `t`. -/
theorem index0 : ∀ t : Fin grid0.N, win0_0.index t 0 = 0 ∧ win0_0.index t 1 = 0 := by decide +kernel

/-- What the block of the weights holds at the grid point. -/
theorem block0_apply (c : Dev nD) (t : Fin cfg0.N) (p : Fin 2216) (q : Fin 128) (i : S2216x128.Idx)
    (h0 : (i 0).val = p.val) (h1 : (i 1).val = q.val) :
    iblk m c 0 t (ix2 p q) = V m c main_v12 i := by
  show V m c main_v12 ((win0_0.rect t).emb (ix2 p q)) = V m c main_v12 i
  have e := index0 t
  congr 1
  funext a
  apply Fin.ext
  rw [win0_0.rect_emb_val]
  match a with
  | ⟨0, _⟩ => show win0_0.index t 0 * 2216 + p.val = (i 0).val; omega
  | ⟨1, _⟩ => show win0_0.index t 1 * 128 + q.val = (i 1).val; omega

/-- The block index of window 1 at grid point `t`. -/
theorem index1 : ∀ t : Fin grid0.N, win0_1.index t 0 = 0 ∧ win0_1.index t 1 = 0 := by decide +kernel

/-- What the block of the gradients holds at the grid point. -/
theorem block1_apply (c : Dev nD) (t : Fin cfg0.N) (p : Fin 2216) (q : Fin 128) (i : S2216x128.Idx)
    (h0 : (i 0).val = p.val) (h1 : (i 1).val = q.val) :
    iblk m c 1 t (ix2 p q) = V m c main_v25 i := by
  show V m c main_v25 ((win0_1.rect t).emb (ix2 p q)) = V m c main_v25 i
  have e := index1 t
  congr 1
  funext a
  apply Fin.ext
  rw [win0_1.rect_emb_val]
  match a with
  | ⟨0, _⟩ => show win0_1.index t 0 * 2216 + p.val = (i 0).val; omega
  | ⟨1, _⟩ => show win0_1.index t 1 * 128 + q.val = (i 1).val; omega

/-- The block index of window 2 at grid point `t`. -/
theorem index2 : ∀ t : Fin grid0.N, win0_2.index t 0 = 0 ∧ win0_2.index t 1 = 0 := by decide +kernel

/-- What the block of the first moments holds at the grid point. -/
theorem block2_apply (c : Dev nD) (t : Fin cfg0.N) (p : Fin 2216) (q : Fin 128) (i : S2216x128.Idx)
    (h0 : (i 0).val = p.val) (h1 : (i 1).val = q.val) :
    iblk m c 2 t (ix2 p q) = V m c main_v38 i := by
  show V m c main_v38 ((win0_2.rect t).emb (ix2 p q)) = V m c main_v38 i
  have e := index2 t
  congr 1
  funext a
  apply Fin.ext
  rw [win0_2.rect_emb_val]
  match a with
  | ⟨0, _⟩ => show win0_2.index t 0 * 2216 + p.val = (i 0).val; omega
  | ⟨1, _⟩ => show win0_2.index t 1 * 128 + q.val = (i 1).val; omega

/-- The block index of window 3 at grid point `t`. -/
theorem index3 : ∀ t : Fin grid0.N, win0_3.index t 0 = 0 ∧ win0_3.index t 1 = 0 := by decide +kernel

/-- What the block of the second moments holds at the grid point. -/
theorem block3_apply (c : Dev nD) (t : Fin cfg0.N) (p : Fin 2216) (q : Fin 128) (i : S2216x128.Idx)
    (h0 : (i 0).val = p.val) (h1 : (i 1).val = q.val) :
    iblk m c 3 t (ix2 p q) = V m c main_v51 i := by
  show V m c main_v51 ((win0_3.rect t).emb (ix2 p q)) = V m c main_v51 i
  have e := index3 t
  congr 1
  funext a
  apply Fin.ext
  rw [win0_3.rect_emb_val]
  match a with
  | ⟨0, _⟩ => show win0_3.index t 0 * 2216 + p.val = (i 0).val; omega
  | ⟨1, _⟩ => show win0_3.index t 1 * 128 + q.val = (i 1).val; omega

/-- The block index of the output window 4 at grid point `t`. -/
theorem index4 : ∀ t : Fin grid0.N, win0_4.index t 0 = 0 ∧ win0_4.index t 1 = 0 := by decide +kernel

/-- Where element (p, q) of the block written at point `t` sits in the output array. -/
theorem place4 (t : Fin cfg0.N) (p : Fin 2216) (q : Fin 128) :
    ((win0_4.rect t).emb (ix2 p q) 0).val = p.val ∧ ((win0_4.rect t).emb (ix2 p q) 1).val = q.val := by
  have e := index4 t
  refine ⟨?_, ?_⟩
  · rw [win0_4.rect_emb_val]; show win0_4.index t 0 * 2216 + p.val = _; omega
  · rw [win0_4.rect_emb_val]; show win0_4.index t 1 * 128 + q.val = _; omega

/-- Every element of the output array lies in some point's block. -/
theorem cover4 (i : S2216x128.Idx) : ∃ t : Fin cfg0.N, (cfg0.win 4).flush t = true ∧ i ∈ ((cfg0.win 4).blk t).view.set := by
  have h0 : (i 0 : Nat) < 2216 := (i 0).isLt
  have h1 : (i 1 : Nat) < 128 := (i 1).isLt
  have hN : cfg0.N = 1 := N_0
  obtain ⟨t, ht⟩ : ∃ t : Fin cfg0.N, t.val = 0 := ⟨⟨0, by omega⟩, rfl⟩
  have e := index4 t
  refine ⟨t, flush0_4 _, ?_⟩
  show i ∈ ((View.whole main_v52_0).slice (win0_4.rect t)).set
  rw [View.set_slice_whole, Rect.mem_set_unit]
  intro a
  match a with
  | ⟨0, _⟩ =>
    show win0_4.index t 0 * 2216 ≤ (i 0).val ∧ (i 0).val < win0_4.index t 0 * 2216 + 2216
    omega
  | ⟨1, _⟩ =>
    show win0_4.index t 1 * 128 ≤ (i 1).val ∧ (i 1).val < win0_4.index t 1 * 128 + 128
    omega

/-- The block index of the output window 5 at grid point `t`. -/
theorem index5 : ∀ t : Fin grid0.N, win0_5.index t 0 = 0 ∧ win0_5.index t 1 = 0 := by decide +kernel

/-- Where element (p, q) of the block written at point `t` sits in the output array. -/
theorem place5 (t : Fin cfg0.N) (p : Fin 2216) (q : Fin 128) :
    ((win0_5.rect t).emb (ix2 p q) 0).val = p.val ∧ ((win0_5.rect t).emb (ix2 p q) 1).val = q.val := by
  have e := index5 t
  refine ⟨?_, ?_⟩
  · rw [win0_5.rect_emb_val]; show win0_5.index t 0 * 2216 + p.val = _; omega
  · rw [win0_5.rect_emb_val]; show win0_5.index t 1 * 128 + q.val = _; omega

/-- Every element of the output array lies in some point's block. -/
theorem cover5 (i : S2216x128.Idx) : ∃ t : Fin cfg0.N, (cfg0.win 5).flush t = true ∧ i ∈ ((cfg0.win 5).blk t).view.set := by
  have h0 : (i 0 : Nat) < 2216 := (i 0).isLt
  have h1 : (i 1 : Nat) < 128 := (i 1).isLt
  have hN : cfg0.N = 1 := N_0
  obtain ⟨t, ht⟩ : ∃ t : Fin cfg0.N, t.val = 0 := ⟨⟨0, by omega⟩, rfl⟩
  have e := index5 t
  refine ⟨t, flush0_5 _, ?_⟩
  show i ∈ ((View.whole main_v52_1).slice (win0_5.rect t)).set
  rw [View.set_slice_whole, Rect.mem_set_unit]
  intro a
  match a with
  | ⟨0, _⟩ =>
    show win0_5.index t 0 * 2216 ≤ (i 0).val ∧ (i 0).val < win0_5.index t 0 * 2216 + 2216
    omega
  | ⟨1, _⟩ =>
    show win0_5.index t 1 * 128 ≤ (i 1).val ∧ (i 1).val < win0_5.index t 1 * 128 + 128
    omega

/-- The block index of the output window 6 at grid point `t`. -/
theorem index6 : ∀ t : Fin grid0.N, win0_6.index t 0 = 0 ∧ win0_6.index t 1 = 0 := by decide +kernel

/-- Where element (p, q) of the block written at point `t` sits in the output array. -/
theorem place6 (t : Fin cfg0.N) (p : Fin 2216) (q : Fin 128) :
    ((win0_6.rect t).emb (ix2 p q) 0).val = p.val ∧ ((win0_6.rect t).emb (ix2 p q) 1).val = q.val := by
  have e := index6 t
  refine ⟨?_, ?_⟩
  · rw [win0_6.rect_emb_val]; show win0_6.index t 0 * 2216 + p.val = _; omega
  · rw [win0_6.rect_emb_val]; show win0_6.index t 1 * 128 + q.val = _; omega

/-- Every element of the output array lies in some point's block. -/
theorem cover6 (i : S2216x128.Idx) : ∃ t : Fin cfg0.N, (cfg0.win 6).flush t = true ∧ i ∈ ((cfg0.win 6).blk t).view.set := by
  have h0 : (i 0 : Nat) < 2216 := (i 0).isLt
  have h1 : (i 1 : Nat) < 128 := (i 1).isLt
  have hN : cfg0.N = 1 := N_0
  obtain ⟨t, ht⟩ : ∃ t : Fin cfg0.N, t.val = 0 := ⟨⟨0, by omega⟩, rfl⟩
  have e := index6 t
  refine ⟨t, flush0_6 _, ?_⟩
  show i ∈ ((View.whole main_v52_2).slice (win0_6.rect t)).set
  rw [View.set_slice_whole, Rect.mem_set_unit]
  intro a
  match a with
  | ⟨0, _⟩ =>
    show win0_6.index t 0 * 2216 ≤ (i 0).val ∧ (i 0).val < win0_6.index t 0 * 2216 + 2216
    omega
  | ⟨1, _⟩ =>
    show win0_6.index t 1 * 128 ≤ (i 1).val ∧ (i 1).val < win0_6.index t 1 * 128 + 128
    omega

/-- What the grid point writes back to the changes is all of them. -/
theorem flushed4_eq (c : Dev nD) (t : Fin cfg0.N) :
    (dats m 0 c).flushed 4 t = (win0_4.blk t).view.read (Elt Ideal) (fun i => change (V m c main_v12 i) (moment1 (V m c main_v38 i) (V m c main_v25 i)) (moment2 (V m c main_v51 i) (V m c main_v25 i))) := by
  rw [Value.flushed4]
  unfold out0_4
  rw [View.canon_unit_zero zero2]
  rw [load2 (iblk m c 0 t), load2 (iblk m c 1 t), load2 (iblk m c 2 t), load2 (iblk m c 3 t)]
  funext j
  obtain ⟨q, r, rfl⟩ : ∃ (q : Fin 2216) (r : Fin 128), j = ix2 q r := ⟨j 0, j 1, by funext a; fin_cases a <;> rfl⟩
  obtain ⟨e0, e1⟩ := place4 t q r
  refine (change_apply _ _ _ _ q r).trans ?_
  rw [block0_apply m c t q r _ e0 e1, block1_apply m c t q r _ e0 e1, block2_apply m c t q r _ e0 e1, block3_apply m c t q r _ e0 e1]
  rfl

theorem final4 (c : Dev nD) : (dats m 0 c).arrAt 4 cfg0.N = (fun i => change (V m c main_v12 i) (moment1 (V m c main_v38 i) (V m c main_v25 i)) (moment2 (V m c main_v51 i) (V m c main_v25 i))) :=
  (dats m 0 c).arrAt_eq_of_cover 4 _ (fun t _ => flushed4_eq m c t) cover4

/-- What the grid point writes back to the first moments is all of them. -/
theorem flushed5_eq (c : Dev nD) (t : Fin cfg0.N) :
    (dats m 0 c).flushed 5 t = (win0_5.blk t).view.read (Elt Ideal) (fun i => moment1 (V m c main_v38 i) (V m c main_v25 i)) := by
  rw [Value.flushed5]
  unfold out0_5
  rw [View.canon_unit_zero zero2]
  rw [load2 (iblk m c 1 t), load2 (iblk m c 2 t)]
  funext j
  obtain ⟨q, r, rfl⟩ : ∃ (q : Fin 2216) (r : Fin 128), j = ix2 q r := ⟨j 0, j 1, by funext a; fin_cases a <;> rfl⟩
  obtain ⟨e0, e1⟩ := place5 t q r
  refine (moment1_apply _ _ q r).trans ?_
  rw [block1_apply m c t q r _ e0 e1, block2_apply m c t q r _ e0 e1]
  rfl

theorem final5 (c : Dev nD) : (dats m 0 c).arrAt 5 cfg0.N = (fun i => moment1 (V m c main_v38 i) (V m c main_v25 i)) :=
  (dats m 0 c).arrAt_eq_of_cover 5 _ (fun t _ => flushed5_eq m c t) cover5

/-- What the grid point writes back to the second moments is all of them. -/
theorem flushed6_eq (c : Dev nD) (t : Fin cfg0.N) :
    (dats m 0 c).flushed 6 t = (win0_6.blk t).view.read (Elt Ideal) (fun i => moment2 (V m c main_v51 i) (V m c main_v25 i)) := by
  rw [Value.flushed6]
  unfold out0_6
  rw [View.canon_unit_zero zero2]
  rw [load2 (iblk m c 1 t), load2 (iblk m c 3 t)]
  funext j
  obtain ⟨q, r, rfl⟩ : ∃ (q : Fin 2216) (r : Fin 128), j = ix2 q r := ⟨j 0, j 1, by funext a; fin_cases a <;> rfl⟩
  obtain ⟨e0, e1⟩ := place6 t q r
  refine (moment2_apply _ _ q r).trans ?_
  rw [block1_apply m c t q r _ e0 e1, block3_apply m c t q r _ e0 e1]
  rfl

theorem final6 (c : Dev nD) : (dats m 0 c).arrAt 6 cfg0.N = (fun i => moment2 (V m c main_v51 i) (V m c main_v25 i)) :=
  (dats m 0 c).arrAt_eq_of_cover 6 _ (fun t _ => flushed6_eq m c t) cover6

/-- A nonzero number divides zero to zero; these are the words the step divides by. -/
theorem word_ne {w : BitVec 32} (h : ∃ e : ℝ, 0 < e ∧ Ideal.ofBits .f32 w = (e : EReal)) : Ideal.ofBits .f32 w ≠ 0 := by
  obtain ⟨e, he, h⟩ := h
  rw [h]
  exact_mod_cast he.ne'

/-- The moments of zeros are zero. -/
theorem moment1_zero : moment1 0 0 = 0 := by simp [moment1]
theorem moment2_zero : moment2 0 0 = 0 := by simp [moment2]

theorem sqrt_zero : Ideal.sqrt 0 = 0 := by
  have h := Ideal.sqrt_coe (r := 0)
  simpa using h

/-- The change is zero where the weight and the moments are. -/
theorem change_zero : change 0 0 0 = 0 := by
  have h1 : Ideal.ofBits .f32 0x3F26BD02#32 ≠ 0 := by
    refine word_ne ⟨_, ?_, by simp [Ideal.ofBits, Ideal.ieee, -EReal.coe_mul]; rfl⟩
    norm_num
  have h2 : Ideal.ofBits .f32 0x3C231ACC#32 ≠ 0 := by
    refine word_ne ⟨_, ?_, by simp [Ideal.ofBits, Ideal.ieee, -EReal.coe_mul]; rfl⟩
    norm_num
  have h3 : Ideal.ofBits .f32 0x322BCC77#32 ≠ 0 := by
    refine word_ne ⟨_, ?_, by simp [Ideal.ofBits, Ideal.ieee, -EReal.coe_mul]; rfl⟩
    norm_num
  rw [change, Ideal.zero_div h1, Ideal.zero_div h2, sqrt_zero, zero_add, Ideal.zero_div h3, mul_zero, add_zero, mul_zero]

theorem zero_word : zero = 0 := Ideal.ofBits_zero .f32

/-- The ten changes, first moments and second moments, each entry by entry. -/
def steps (w g x y : Ten EReal) : Ten EReal := (Ten.beside w g x y).map fun p => change p.1 (moment1 p.2.2.1 p.2.1) (moment2 p.2.2.2 p.2.1)
def moments1 (w g x y : Ten EReal) : Ten EReal := (Ten.beside w g x y).map fun p => moment1 p.2.2.1 p.2.1
def moments2 (w g x y : Ten EReal) : Ten EReal := (Ten.beside w g x y).map fun p => moment2 p.2.2.2 p.2.1

/-- What the kernel leaves: the packed changes and moments of the weights, gradients and moments as launched. -/
theorem changes_eq (c : Dev nD) : (dats m 0 c).arrAt 4 cfg0.N = (steps (W m c) (G m c) (M1 m c) (M2 m c)).pack zero := by
  rw [final4, operand_W, operand_G, operand_M1, operand_M2]
  refine (pack_step (fun w g x y => change w (moment1 x g) (moment2 y g)) zero ?_ _ _ _ _).symm
  rw [zero_word, moment1_zero, moment2_zero, change_zero]

theorem moments1_eq (c : Dev nD) : (dats m 0 c).arrAt 5 cfg0.N = (moments1 (W m c) (G m c) (M1 m c) (M2 m c)).pack zero := by
  rw [final5, operand_G, operand_M1]
  refine (pack_step (fun _ g x _ => moment1 x g) zero ?_ (W m c) _ _ (M2 m c)).symm
  rw [zero_word, moment1_zero]

theorem moments2_eq (c : Dev nD) : (dats m 0 c).arrAt 6 cfg0.N = (moments2 (W m c) (G m c) (M1 m c) (M2 m c)).pack zero := by
  rw [final6, operand_G, operand_M2]
  refine (pack_step (fun _ g _ y => moment2 y g) zero ?_ (W m c) _ (M1 m c) _).symm
  rw [zero_word, moment2_zero]

end Cert.AdamSmallIdeal.Product

namespace Cert.Proof.AdamSmall

open Cert.AdamSmallRefIdeal Cert.AdamSmallRefIdeal.Read Cert.AdamSmallIdeal.Product

/-- The reference's packed changes. -/
theorem reference_changes (w g x y : Ten EReal) :
    val_main_v252 (F := Ideal) w.mix w.bounds w.out w.conv w.gain w.shift w.gate w.offset w.ffn w.last g.mix g.bounds g.out g.conv g.gain g.shift g.gate g.offset g.ffn g.last x.mix x.bounds x.out x.conv x.gain x.shift x.gate x.offset x.ffn x.last y.mix y.bounds y.out y.conv y.gain y.shift y.gate y.offset y.ffn y.last
      = (steps w g x y).pack zero := by
  unfold val_main_v252
  refine pack_of_parts zero _ ?_ ?_ ?_ ?_ ?_ ?_ ?_ ?_ ?_ ?_ <;> rfl

/-- The reference's packed moments1. -/
theorem reference_moments1 (w g x y : Ten EReal) :
    val_main_v265 (F := Ideal) g.mix g.bounds g.out g.conv g.gain g.shift g.gate g.offset g.ffn g.last x.mix x.bounds x.out x.conv x.gain x.shift x.gate x.offset x.ffn x.last
      = (moments1 w g x y).pack zero := by
  unfold val_main_v265
  refine pack_of_parts zero _ ?_ ?_ ?_ ?_ ?_ ?_ ?_ ?_ ?_ ?_ <;> rfl

/-- The reference's packed moments2. -/
theorem reference_moments2 (w g x y : Ten EReal) :
    val_main_v278 (F := Ideal) g.mix g.bounds g.out g.conv g.gain g.shift g.gate g.offset g.ffn g.last y.mix y.bounds y.out y.conv y.gain y.shift y.gate y.offset y.ffn y.last
      = (moments2 w g x y).pack zero := by
  unfold val_main_v278
  refine pack_of_parts zero _ ?_ ?_ ?_ ?_ ?_ ?_ ?_ ?_ ?_ ?_ <;> rfl

/-- Two groups of ten arrays are equal if their arrays are. -/
theorem ten_eq {x y : Ten EReal} (h0 : x.mix = y.mix) (h1 : x.bounds = y.bounds) (h2 : x.out = y.out) (h3 : x.conv = y.conv) (h4 : x.gain = y.gain) (h5 : x.shift = y.shift) (h6 : x.gate = y.gate) (h7 : x.offset = y.offset) (h8 : x.ffn = y.ffn) (h9 : x.last = y.last) : x = y := by
  cases x
  cases y
  simp only at h0 h1 h2 h3 h4 h5 h6 h7 h8 h9
  subst h0 h1 h2 h3 h4 h5 h6 h7 h8 h9
  rfl

section

variable (m : (ℓ : Loc Cert.AdamSmallRefIdeal.nD Cert.AdamSmallRefIdeal.τ Cert.AdamSmallRefIdeal.sig) → Buf (Elt Ideal) ℓ)

/-- The reference's ten weights, gradients and moments as launched. -/
def RW (c : Dev Cert.AdamSmallRefIdeal.nD) : Ten EReal := ⟨m ((c.tc : Thread _ _).loc Cert.AdamSmallRefIdeal.main_arg0), m ((c.tc : Thread _ _).loc Cert.AdamSmallRefIdeal.main_arg1), m ((c.tc : Thread _ _).loc Cert.AdamSmallRefIdeal.main_arg2), m ((c.tc : Thread _ _).loc Cert.AdamSmallRefIdeal.main_arg3), m ((c.tc : Thread _ _).loc Cert.AdamSmallRefIdeal.main_arg4), m ((c.tc : Thread _ _).loc Cert.AdamSmallRefIdeal.main_arg5), m ((c.tc : Thread _ _).loc Cert.AdamSmallRefIdeal.main_arg6), m ((c.tc : Thread _ _).loc Cert.AdamSmallRefIdeal.main_arg7), m ((c.tc : Thread _ _).loc Cert.AdamSmallRefIdeal.main_arg8), m ((c.tc : Thread _ _).loc Cert.AdamSmallRefIdeal.main_arg9)⟩
def RG (c : Dev Cert.AdamSmallRefIdeal.nD) : Ten EReal := ⟨m ((c.tc : Thread _ _).loc Cert.AdamSmallRefIdeal.main_arg10), m ((c.tc : Thread _ _).loc Cert.AdamSmallRefIdeal.main_arg11), m ((c.tc : Thread _ _).loc Cert.AdamSmallRefIdeal.main_arg12), m ((c.tc : Thread _ _).loc Cert.AdamSmallRefIdeal.main_arg13), m ((c.tc : Thread _ _).loc Cert.AdamSmallRefIdeal.main_arg14), m ((c.tc : Thread _ _).loc Cert.AdamSmallRefIdeal.main_arg15), m ((c.tc : Thread _ _).loc Cert.AdamSmallRefIdeal.main_arg16), m ((c.tc : Thread _ _).loc Cert.AdamSmallRefIdeal.main_arg17), m ((c.tc : Thread _ _).loc Cert.AdamSmallRefIdeal.main_arg18), m ((c.tc : Thread _ _).loc Cert.AdamSmallRefIdeal.main_arg19)⟩
def RM1 (c : Dev Cert.AdamSmallRefIdeal.nD) : Ten EReal := ⟨m ((c.tc : Thread _ _).loc Cert.AdamSmallRefIdeal.main_arg20), m ((c.tc : Thread _ _).loc Cert.AdamSmallRefIdeal.main_arg21), m ((c.tc : Thread _ _).loc Cert.AdamSmallRefIdeal.main_arg22), m ((c.tc : Thread _ _).loc Cert.AdamSmallRefIdeal.main_arg23), m ((c.tc : Thread _ _).loc Cert.AdamSmallRefIdeal.main_arg24), m ((c.tc : Thread _ _).loc Cert.AdamSmallRefIdeal.main_arg25), m ((c.tc : Thread _ _).loc Cert.AdamSmallRefIdeal.main_arg26), m ((c.tc : Thread _ _).loc Cert.AdamSmallRefIdeal.main_arg27), m ((c.tc : Thread _ _).loc Cert.AdamSmallRefIdeal.main_arg28), m ((c.tc : Thread _ _).loc Cert.AdamSmallRefIdeal.main_arg29)⟩
def RM2 (c : Dev Cert.AdamSmallRefIdeal.nD) : Ten EReal := ⟨m ((c.tc : Thread _ _).loc Cert.AdamSmallRefIdeal.main_arg30), m ((c.tc : Thread _ _).loc Cert.AdamSmallRefIdeal.main_arg31), m ((c.tc : Thread _ _).loc Cert.AdamSmallRefIdeal.main_arg32), m ((c.tc : Thread _ _).loc Cert.AdamSmallRefIdeal.main_arg33), m ((c.tc : Thread _ _).loc Cert.AdamSmallRefIdeal.main_arg34), m ((c.tc : Thread _ _).loc Cert.AdamSmallRefIdeal.main_arg35), m ((c.tc : Thread _ _).loc Cert.AdamSmallRefIdeal.main_arg36), m ((c.tc : Thread _ _).loc Cert.AdamSmallRefIdeal.main_arg37), m ((c.tc : Thread _ _).loc Cert.AdamSmallRefIdeal.main_arg38), m ((c.tc : Thread _ _).loc Cert.AdamSmallRefIdeal.main_arg39)⟩

end

set_option maxHeartbeats 2000000 in
/-- The kernel's packed changes and moments are the reference's. -/
theorem algebraic : Cert.algebraic_AdamSmallIdeal_AdamSmallRefIdeal := by
  intro m ρ m' ρ' _ hagree
  have same (c) : RW m' c = W m c ∧ RG m' c = G m c ∧ RM1 m' c = M1 m c ∧ RM2 m' c = M2 m c := by
    obtain ⟨h0, h1, h2, h3, h4, h5, h6, h7, h8, h9, h10, h11, h12, h13, h14, h15, h16, h17, h18, h19, h20, h21, h22, h23, h24, h25, h26, h27, h28, h29, h30, h31, h32, h33, h34, h35, h36, h37, h38, h39⟩ := hagree c
    exact ⟨ten_eq h0 h1 h2 h3 h4 h5 h6 h7 h8 h9, ten_eq h10 h11 h12 h13 h14 h15 h16 h17 h18 h19, ten_eq h20 h21 h22 h23 h24 h25 h26 h27 h28 h29, ten_eq h30 h31 h32 h33 h34 h35 h36 h37 h38 h39⟩
  refine ⟨fun c => (steps (W m c) (G m c) (M1 m c) (M2 m c)).pack zero, fun c => (moments1 (W m c) (G m c) (M1 m c) (M2 m c)).pack zero,
    fun c => (moments2 (W m c) (G m c) (M1 m c) (M2 m c)).pack zero, ?_, ?_⟩
  · exact (θ_run Cert.AdamSmallIdeal.defs _ _).mono
      (fun _ h c => ⟨(h c).1.trans (changes_eq m c), (h c).2.1.trans (moments1_eq m c), (h c).2.2.1.trans (moments2_eq m c), (h c).2.2.2⟩)
      (Cert.AdamSmallIdeal.Value.run_blocks (F := Ideal) m ρ)
  · refine (θ_run Cert.AdamSmallRefIdeal.defs _ _).mono (fun _ h c => ?_) (Cert.AdamSmallRefIdeal.Value.run (F := Ideal) m' ρ')
    obtain ⟨eW, eG, e1, e2⟩ := same c
    exact ⟨(h c).1.trans ((reference_changes (RW m' c) (RG m' c) (RM1 m' c) (RM2 m' c)).trans (by rw [eW, eG, e1, e2])),
      (h c).2.1.trans ((reference_moments1 (RW m' c) (RG m' c) (RM1 m' c) (RM2 m' c)).trans (by rw [eW, eG, e1, e2])),
      (h c).2.2.1.trans ((reference_moments2 (RW m' c) (RG m' c) (RM1 m' c) (RM2 m' c)).trans (by rw [eW, eG, e1, e2])), (h c).2.2.2⟩

end Cert.Proof.AdamSmall
-- ==== Proof.SumDevices.lean ====
/-
  The sum over the eight devices: the kernel adds the eight slabs of the gathered array one after the other, the reference sums
  over the leading axis.
-/
module

public import proofs.«01_k».proof.Defs
public import proofs.«01_k».proof.Proof.Gen.SumDevicesIdeal.Value
public import proofs.«01_k».proof.Proof.Gen.SumDevicesRefIdeal.Run
public import proofs.«01_k».proof.Proof.Gen.SumDevicesRefIdeal.Read
public import Idealize.ShloMosaic.Lib.Pointwise

@[expose] public section

noncomputable section

open Idealize.ShloMosaic Idealize.ShloMosaic.TcCoe Idealize.SL.Sem

namespace Cert.SumDevicesIdeal.Product

open Cert.SumDevicesIdeal Cert.SumDevicesIdeal.Gen

/-- The sum of the eight slabs. -/
def total (x : Vec Ideal S8x2224x128 .f32) : Vec Ideal S2224x128 .f32 := fun i =>
  ∑ d : Fin 8, x (ix3 d (i 0) (i 1))

/-- What the body stores is the sum of the eight slabs it loads. -/
theorem stored_apply (a b c d e f g h : Vec Ideal S1x2224x128 .f32) (q : Fin 2224) (r : Fin 128) :
    k0_pay1 a b c d e f g h (ix2 q r)
      = a (ix3 0 q r) + b (ix3 0 q r) + c (ix3 0 q r) + d (ix3 0 q r) + e (ix3 0 q r) + f (ix3 0 q r) + g (ix3 0 q r) + h (ix3 0 q r) := by
  pointwise [k0_pay1]

/-- The kernel's result is the sum of the slabs. -/
theorem value_eq (x : Vec Ideal S8x2224x128 .f32) : Value.G1 x = total x := by
  funext j
  obtain ⟨q, r, rfl⟩ : ∃ (q : Fin 2224) (r : Fin 128), j = ix2 q r := ⟨j 0, j 1, by funext a; fin_cases a <;> rfl⟩
  refine (stored_apply _ _ _ _ _ _ _ _ q r).trans ?_
  show _ = ∑ d : Fin 8, x (ix3 d q r)
  simp only [Fin.sum_univ_succ, Fin.sum_univ_zero]
  pointwise [View.ld]
  simp only [add_assoc]
  rfl

end Cert.SumDevicesIdeal.Product

namespace Cert.Proof.SumDevices

open Cert.SumDevicesRefIdeal Cert.SumDevicesRefIdeal.Read Cert.SumDevicesIdeal.Product

/-- The reference's sum is the sum of the slabs. -/
theorem reference_eq (x : Vec Ideal Cert.SumDevicesRefIdeal.S8x2224x128 .f32) : val_main_v0 (F := Ideal) x = total x := by
  funext j
  rw [val_main_v0_apply]
  show Ideal.ofBits .f32 0x00000000#32 + _ = _
  rw [Ideal.ofBits_zero .f32, zero_add]
  refine Finset.sum_congr rfl fun k _ => congrArg x (funext fun a => ?_)
  match a with
  | ⟨0, _⟩ => rfl
  | ⟨1, _⟩ => rfl
  | ⟨2, _⟩ => rfl

/-- The kernel's sum is the reference's. -/
theorem algebraic : Cert.algebraic_SumDevicesIdeal_SumDevicesRefIdeal := by
  intro m ρ m' ρ' _ hagree
  refine ⟨fun c => total (m ((c.tc : Thread _ _).loc Cert.SumDevicesIdeal.main_arg0)), ?_, ?_⟩
  · exact (θ_run Cert.SumDevicesIdeal.defs _ _).mono (fun _ h c => ⟨(h c).1.trans (value_eq _), (h c).2⟩)
      (Cert.SumDevicesIdeal.Value.run (F := Ideal) m ρ)
  · refine (θ_run Cert.SumDevicesRefIdeal.defs _ _).mono (fun _ h c => ⟨(h c).1.trans ?_, (h c).2⟩)
      (Cert.SumDevicesRefIdeal.Value.run (F := Ideal) m' ρ')
    rw [hagree c]
    exact reference_eq _

end Cert.Proof.SumDevices
-- ==== Proof.AdamInFirst.lean ====
/-
  The AdamW step of the input projection's weight, the call over the first layer: it writes layer 0 of the four outputs, whose other layers
  hold what the arrays handed in held there, and the reference puts the step of layer 0 in front of those layers.
-/
module

public import proofs.«01_k».proof.Defs
public import proofs.«01_k».proof.Proof.AdamMath
public import proofs.«01_k».proof.Proof.Gen.AdamInFirstIdeal.Value
public import proofs.«01_k».proof.Proof.Gen.AdamInFirstRefIdeal.Run
public import proofs.«01_k».proof.Proof.Gen.AdamInFirstRefIdeal.Read
public import Idealize.ShloMosaic.Lib.Pointwise
public import Idealize.ShloMosaic.Lib.StableHlo.ReadAt

@[expose] public section

noncomputable section

open Idealize.ShloMosaic Idealize.ShloMosaic.TcCoe Idealize.SL.Sem
open Idealize.ShloMosaic.Pipeline (Dat)
open Cert.Proof.AdamMath

namespace Cert.AdamInFirstIdeal.Product

open Cert.AdamInFirstIdeal Cert.AdamInFirstIdeal.Gen

variable (m : (ℓ : Loc nD τ sig) → Buf (Elt Ideal) ℓ) (ρ : Dev nD → PrngReg)

theorem zero2 : (![0, 0] : Fin 2 → Nat) = fun _ => 0 := funext fun a => by fin_cases a <;> rfl
theorem zero3 : (![0, 0, 0] : Fin 3 → Nat) = fun _ => 0 := funext fun a => by fin_cases a <;> rfl

/-- The gradient block the body stores. -/
theorem grad_apply (g : Vec Ideal S256x1920 .f32) (p : Fin 1) (q : Fin 256) (r : Fin 1920) : k0_pay4 g (ix3 p q r) = g (ix2 q r) := by
  pointwise [k0_pay4]

/-- The first moment the body computes. -/
theorem moment1_apply (g : Vec Ideal S256x1920 .f32) (x : Vec Ideal S1x256x1920 .f32) (q : Fin 256) (r : Fin 1920) :
    k0_pay5 g x (ix2 q r) = moment1 (x (ix3 0 q r)) (g (ix2 q r)) := by
  pointwise [k0_pay5]
  rfl

/-- The second moment the body computes. -/
theorem moment2_apply (g : Vec Ideal S256x1920 .f32) (x : Vec Ideal S1x256x1920 .f32) (q : Fin 256) (r : Fin 1920) :
    k0_pay6 g x (ix2 q r) = moment2 (x (ix3 0 q r)) (g (ix2 q r)) := by
  pointwise [k0_pay6]
  rfl

/-- The change of the weight the body computes. -/
theorem change_apply (g : Vec Ideal S256x1920 .f32) (w x y : Vec Ideal S1x256x1920 .f32) (q : Fin 256) (r : Fin 1920) :
    k0_pay7 g w x y (ix2 q r) = change (w (ix3 0 q r)) (moment1 (x (ix3 0 q r)) (g (ix2 q r))) (moment2 (y (ix3 0 q r)) (g (ix2 q r))) := by
  rw [← moment1_apply, ← moment2_apply]
  pointwise [k0_pay7]
  rfl

/-- The changes and the moments are stored as they are. -/
theorem stored_apply (x : Vec Ideal S256x1920 .f32) (p : Fin 1) (q : Fin 256) (r : Fin 1920) :
    k0_pay1 (F := Ideal) x (ix3 p q r) = x (ix2 q r) ∧ k0_pay2 (F := Ideal) x (ix3 p q r) = x (ix2 q r) ∧ k0_pay3 (F := Ideal) x (ix3 p q r) = x (ix2 q r) := by
  refine ⟨?_, ?_, ?_⟩
  · pointwise [k0_pay1]
  · pointwise [k0_pay2]
  · pointwise [k0_pay3]

/-- The block of the gradients a point leaves. -/
theorem out_A_4 (c : Dev nD) (i : grid0.Coords) (arg2 : Memref sig .tc .vmem S1x256x1920 .f32) (harg2 : arg2.IsWhole) (arg3 : Memref sig .tc .vmem S1x256x1920 .f32) (harg3 : arg3.IsWhole) (arg4 : Memref sig .tc .vmem S1x256x1920 .f32) (harg4 : arg4.IsWhole) (arg5 : Memref sig .tc .vmem S256x1920 .f32) (harg5 : arg5.IsWhole) (arg10 : Memref sig .tc .vmem S1x256x1920 .f32) (harg10 : arg10.IsWhole) (arg11 : Memref sig .tc .vmem S1x256x1920 .f32) (harg11 : arg11.IsWhole) (arg12 : Memref sig .tc .vmem S1x256x1920 .f32) (harg12 : arg12.IsWhole) (arg13 : Memref sig .tc .vmem S1x256x1920 .f32) (harg13 : arg13.IsWhole)
    (x0 x1 x2 : Vec Ideal S1x256x1920 .f32) (x3 : Vec Ideal S256x1920 .f32) :
    out0_A_4 c i arg2 harg2 arg3 harg3 arg4 harg4 arg5 harg5 arg10 harg10 arg11 harg11 arg12 harg12 arg13 harg13 x0 x1 x2 x3 = k0_pay4 x3 := by
  unfold out0_A_4
  rw [View.read_writes_eq_canon _ _ _ (cover0_A_4 c i arg2 harg2 arg3 harg3 arg4 harg4 arg5 harg5 arg10 harg10 arg11 harg11 arg12 harg12 arg13 harg13 x0 x1 x2 x3)]
  unfold kernelRun0_A
  dsimp only
  sl_unfold_words
  rw [View.canon_unit_zero zero3]
  simp only [View.readAt_eq_ld, harg2.read_unread, harg3.read_unread, harg4.read_unread, harg5.read_unread,
    View.ld_unit_zero (S := S256x1920) zero2, View.ld_unit_zero (S := S1x256x1920) zero3]

/-- The block of the changes a point leaves. -/
theorem out_A_5 (c : Dev nD) (i : grid0.Coords) (arg2 : Memref sig .tc .vmem S1x256x1920 .f32) (harg2 : arg2.IsWhole) (arg3 : Memref sig .tc .vmem S1x256x1920 .f32) (harg3 : arg3.IsWhole) (arg4 : Memref sig .tc .vmem S1x256x1920 .f32) (harg4 : arg4.IsWhole) (arg5 : Memref sig .tc .vmem S256x1920 .f32) (harg5 : arg5.IsWhole) (arg10 : Memref sig .tc .vmem S1x256x1920 .f32) (harg10 : arg10.IsWhole) (arg11 : Memref sig .tc .vmem S1x256x1920 .f32) (harg11 : arg11.IsWhole) (arg12 : Memref sig .tc .vmem S1x256x1920 .f32) (harg12 : arg12.IsWhole) (arg13 : Memref sig .tc .vmem S1x256x1920 .f32) (harg13 : arg13.IsWhole)
    (x0 x1 x2 : Vec Ideal S1x256x1920 .f32) (x3 : Vec Ideal S256x1920 .f32) :
    out0_A_5 c i arg2 harg2 arg3 harg3 arg4 harg4 arg5 harg5 arg10 harg10 arg11 harg11 arg12 harg12 arg13 harg13 x0 x1 x2 x3 = k0_pay1 (k0_pay7 x3 x0 x1 x2) := by
  unfold out0_A_5
  rw [View.read_writes_eq_canon _ _ _ (cover0_A_5 c i arg2 harg2 arg3 harg3 arg4 harg4 arg5 harg5 arg10 harg10 arg11 harg11 arg12 harg12 arg13 harg13 x0 x1 x2 x3)]
  unfold kernelRun0_A
  dsimp only
  sl_unfold_words
  rw [View.canon_unit_zero zero3]
  simp only [View.readAt_eq_ld, harg2.read_unread, harg3.read_unread, harg4.read_unread, harg5.read_unread,
    View.ld_unit_zero (S := S256x1920) zero2, View.ld_unit_zero (S := S1x256x1920) zero3]

/-- The block of the first moments a point leaves. -/
theorem out_A_6 (c : Dev nD) (i : grid0.Coords) (arg2 : Memref sig .tc .vmem S1x256x1920 .f32) (harg2 : arg2.IsWhole) (arg3 : Memref sig .tc .vmem S1x256x1920 .f32) (harg3 : arg3.IsWhole) (arg4 : Memref sig .tc .vmem S1x256x1920 .f32) (harg4 : arg4.IsWhole) (arg5 : Memref sig .tc .vmem S256x1920 .f32) (harg5 : arg5.IsWhole) (arg10 : Memref sig .tc .vmem S1x256x1920 .f32) (harg10 : arg10.IsWhole) (arg11 : Memref sig .tc .vmem S1x256x1920 .f32) (harg11 : arg11.IsWhole) (arg12 : Memref sig .tc .vmem S1x256x1920 .f32) (harg12 : arg12.IsWhole) (arg13 : Memref sig .tc .vmem S1x256x1920 .f32) (harg13 : arg13.IsWhole)
    (x0 x1 x2 : Vec Ideal S1x256x1920 .f32) (x3 : Vec Ideal S256x1920 .f32) :
    out0_A_6 c i arg2 harg2 arg3 harg3 arg4 harg4 arg5 harg5 arg10 harg10 arg11 harg11 arg12 harg12 arg13 harg13 x0 x1 x2 x3 = k0_pay2 (k0_pay5 x3 x1) := by
  unfold out0_A_6
  rw [View.read_writes_eq_canon _ _ _ (cover0_A_6 c i arg2 harg2 arg3 harg3 arg4 harg4 arg5 harg5 arg10 harg10 arg11 harg11 arg12 harg12 arg13 harg13 x0 x1 x2 x3)]
  unfold kernelRun0_A
  dsimp only
  sl_unfold_words
  rw [View.canon_unit_zero zero3]
  simp only [View.readAt_eq_ld, harg2.read_unread, harg3.read_unread, harg4.read_unread, harg5.read_unread,
    View.ld_unit_zero (S := S256x1920) zero2, View.ld_unit_zero (S := S1x256x1920) zero3]

/-- The block of the second moments a point leaves. -/
theorem out_A_7 (c : Dev nD) (i : grid0.Coords) (arg2 : Memref sig .tc .vmem S1x256x1920 .f32) (harg2 : arg2.IsWhole) (arg3 : Memref sig .tc .vmem S1x256x1920 .f32) (harg3 : arg3.IsWhole) (arg4 : Memref sig .tc .vmem S1x256x1920 .f32) (harg4 : arg4.IsWhole) (arg5 : Memref sig .tc .vmem S256x1920 .f32) (harg5 : arg5.IsWhole) (arg10 : Memref sig .tc .vmem S1x256x1920 .f32) (harg10 : arg10.IsWhole) (arg11 : Memref sig .tc .vmem S1x256x1920 .f32) (harg11 : arg11.IsWhole) (arg12 : Memref sig .tc .vmem S1x256x1920 .f32) (harg12 : arg12.IsWhole) (arg13 : Memref sig .tc .vmem S1x256x1920 .f32) (harg13 : arg13.IsWhole)
    (x0 x1 x2 : Vec Ideal S1x256x1920 .f32) (x3 : Vec Ideal S256x1920 .f32) :
    out0_A_7 c i arg2 harg2 arg3 harg3 arg4 harg4 arg5 harg5 arg10 harg10 arg11 harg11 arg12 harg12 arg13 harg13 x0 x1 x2 x3 = k0_pay3 (k0_pay6 x3 x2) := by
  unfold out0_A_7
  rw [View.read_writes_eq_canon _ _ _ (cover0_A_7 c i arg2 harg2 arg3 harg3 arg4 harg4 arg5 harg5 arg10 harg10 arg11 harg11 arg12 harg12 arg13 harg13 x0 x1 x2 x3)]
  unfold kernelRun0_A
  dsimp only
  sl_unfold_words
  rw [View.canon_unit_zero zero3]
  simp only [View.readAt_eq_ld, harg2.read_unread, harg3.read_unread, harg4.read_unread, harg5.read_unread,
    View.ld_unit_zero (S := S256x1920) zero2, View.ld_unit_zero (S := S1x256x1920) zero3]

/-- The block index of window 0 at grid point `t`. -/
theorem index0 : ∀ t : Fin grid0.N, win0_0.index t 0 = 0 ∧ win0_0.index t 1 = t.val ∧ win0_0.index t 2 = 0 := by decide +kernel

/-- What the weight's block holds at grid point `t`. -/
theorem block0_apply (c : Dev nD) (t : Fin cfg0.N) (p : Fin 1) (q : Fin 256) (r : Fin 1920) (i : S4x1024x1920.Idx)
    (h0 : (i 0).val = p.val) (h1 : (i 1).val = t.val * 256 + q.val) (h2 : (i 2).val = r.val) :
    iblk m c 0 t (ix3 p q r) = V m c main_arg0 i := by
  show V m c main_arg0 ((win0_0.rect t).emb (ix3 p q r)) = V m c main_arg0 i
  have e := index0 t
  congr 1
  funext a
  apply Fin.ext
  rw [win0_0.rect_emb_val]
  match a with
  | ⟨0, _⟩ => show win0_0.index t 0 * 1 + p.val = (i 0).val; omega
  | ⟨1, _⟩ => show win0_0.index t 1 * 256 + q.val = (i 1).val; omega
  | ⟨2, _⟩ => show win0_0.index t 2 * 1920 + r.val = (i 2).val; omega

/-- The block index of window 1 at grid point `t`. -/
theorem index1 : ∀ t : Fin grid0.N, win0_1.index t 0 = 0 ∧ win0_1.index t 1 = t.val ∧ win0_1.index t 2 = 0 := by decide +kernel

/-- What the first moment's block holds at grid point `t`. -/
theorem block1_apply (c : Dev nD) (t : Fin cfg0.N) (p : Fin 1) (q : Fin 256) (r : Fin 1920) (i : S4x1024x1920.Idx)
    (h0 : (i 0).val = p.val) (h1 : (i 1).val = t.val * 256 + q.val) (h2 : (i 2).val = r.val) :
    iblk m c 1 t (ix3 p q r) = V m c main_arg1 i := by
  show V m c main_arg1 ((win0_1.rect t).emb (ix3 p q r)) = V m c main_arg1 i
  have e := index1 t
  congr 1
  funext a
  apply Fin.ext
  rw [win0_1.rect_emb_val]
  match a with
  | ⟨0, _⟩ => show win0_1.index t 0 * 1 + p.val = (i 0).val; omega
  | ⟨1, _⟩ => show win0_1.index t 1 * 256 + q.val = (i 1).val; omega
  | ⟨2, _⟩ => show win0_1.index t 2 * 1920 + r.val = (i 2).val; omega

/-- The block index of window 2 at grid point `t`. -/
theorem index2 : ∀ t : Fin grid0.N, win0_2.index t 0 = 0 ∧ win0_2.index t 1 = t.val ∧ win0_2.index t 2 = 0 := by decide +kernel

/-- What the second moment's block holds at grid point `t`. -/
theorem block2_apply (c : Dev nD) (t : Fin cfg0.N) (p : Fin 1) (q : Fin 256) (r : Fin 1920) (i : S4x1024x1920.Idx)
    (h0 : (i 0).val = p.val) (h1 : (i 1).val = t.val * 256 + q.val) (h2 : (i 2).val = r.val) :
    iblk m c 2 t (ix3 p q r) = V m c main_arg2 i := by
  show V m c main_arg2 ((win0_2.rect t).emb (ix3 p q r)) = V m c main_arg2 i
  have e := index2 t
  congr 1
  funext a
  apply Fin.ext
  rw [win0_2.rect_emb_val]
  match a with
  | ⟨0, _⟩ => show win0_2.index t 0 * 1 + p.val = (i 0).val; omega
  | ⟨1, _⟩ => show win0_2.index t 1 * 256 + q.val = (i 1).val; omega
  | ⟨2, _⟩ => show win0_2.index t 2 * 1920 + r.val = (i 2).val; omega

/-- The block index of window 3 at grid point `t`. -/
theorem index3 : ∀ t : Fin grid0.N, win0_3.index t 0 = t.val ∧ win0_3.index t 1 = 0 := by decide +kernel

/-- What the gradient's block holds at grid point `t`. -/
theorem block3_apply (c : Dev nD) (t : Fin cfg0.N) (p : Fin 256) (q : Fin 1920) (i : S1024x1920.Idx)
    (h0 : (i 0).val = t.val * 256 + p.val) (h1 : (i 1).val = q.val) :
    iblk m c 3 t (ix2 p q) = V m c main_arg3 i := by
  show V m c main_arg3 ((win0_3.rect t).emb (ix2 p q)) = V m c main_arg3 i
  have e := index3 t
  congr 1
  funext a
  apply Fin.ext
  rw [win0_3.rect_emb_val]
  match a with
  | ⟨0, _⟩ => show win0_3.index t 0 * 256 + p.val = (i 0).val; omega
  | ⟨1, _⟩ => show win0_3.index t 1 * 1920 + q.val = (i 1).val; omega

/-- The new first moments of layer 0. -/
def moments1 (x : Vec Ideal S4x1024x1920 .f32) (g : Vec Ideal S1024x1920 .f32) : Vec Ideal S1024x1920 .f32 := fun j => moment1 (x (ix3 0 (j 0) (j 1))) (g j)

/-- The new second moments of layer 0. -/
def moments2 (y : Vec Ideal S4x1024x1920 .f32) (g : Vec Ideal S1024x1920 .f32) : Vec Ideal S1024x1920 .f32 := fun j => moment2 (y (ix3 0 (j 0) (j 1))) (g j)

/-- The changes of layer 0's weights. -/
def changes (w x y : Vec Ideal S4x1024x1920 .f32) (g : Vec Ideal S1024x1920 .f32) : Vec Ideal S1024x1920 .f32 := fun j =>
  change (w (ix3 0 (j 0) (j 1))) (moments1 x g j) (moments2 y g j)

/-- `x` as layer 0 in front of the other layers of `b`. -/
def onto (x : Vec Ideal S1024x1920 .f32) (b : Vec Ideal S4x1024x1920 .f32) : Vec Ideal S4x1024x1920 .f32 := fun i =>
  if (i 0).val = 0 then x (ix2 (i 1) (i 2)) else b i

/-- The row of a layer that row `q` of the block at point `t` is. -/
def row (t : Fin cfg0.N) (q : Fin 256) : Fin 1024 :=
  ⟨t.val * 256 + q.val, by have h := t.isLt; have hN : cfg0.N = 4 := N_0; omega⟩

/-- An array that holds `x` in layer 0, block by block, and `b` elsewhere is `x` in front of the other layers of `b`. -/
theorem eq_onto {a b : Vec Ideal S4x1024x1920 .f32} {x : Vec Ideal S1024x1920 .f32}
    (hin : ∀ (t : Fin cfg0.N) (q : Fin 256) (r : Fin 1920), a (ix3 0 (row t q) r) = x (ix2 (row t q) r))
    (hout : ∀ i : S4x1024x1920.Idx, (i 0).val ≠ 0 → a i = b i) : a = onto x b := by
  funext i
  obtain ⟨l, s, r, rfl⟩ : ∃ (l : Fin 4) (s : Fin 1024) (r : Fin 1920), i = ix3 l s r :=
    ⟨i 0, i 1, i 2, by funext a; fin_cases a <;> rfl⟩
  show _ = if l.val = 0 then x (ix2 s r) else b (ix3 l s r)
  split
  · rename_i h
    obtain rfl : l = 0 := Fin.ext h
    have hN : cfg0.N = 4 := N_0
    obtain ⟨t, q, rfl⟩ : ∃ (t : Fin cfg0.N) (q : Fin 256), s = row t q :=
      ⟨⟨s.val / 256, by omega⟩, ⟨s.val % 256, by omega⟩, Fin.ext (show s.val = s.val / 256 * 256 + s.val % 256 by omega)⟩
    exact hin t q r
  · rename_i h
    exact hout _ h

/-- The block index of output window 4 at grid point `t`. -/
theorem index4 : ∀ t : Fin grid0.N, win0_4.index t 0 = 0 ∧ win0_4.index t 1 = t.val ∧ win0_4.index t 2 = 0 := by decide +kernel

/-- Where the block of the gradients written at point `t` sits. -/
theorem place4 (t : Fin cfg0.N) (q : Fin 256) (r : Fin 1920) : (win0_4.rect t).emb (ix3 0 q r) = ix3 0 (row t q) r := by
  have e := index4 t
  funext a
  apply Fin.ext
  rw [win0_4.rect_emb_val]
  match a with
  | ⟨0, _⟩ => show win0_4.index t 0 * 1 + 0 = 0; omega
  | ⟨1, _⟩ => show win0_4.index t 1 * 256 + q.val = t.val * 256 + q.val; omega
  | ⟨2, _⟩ => show win0_4.index t 2 * 1920 + r.val = r.val; omega

/-- The gradients after the call. -/
theorem final4 (c : Dev nD) :
    (dats m 0 c).arrAt 4 cfg0.N = onto (V m c main_arg3) (V m c main_v0_0) := by
  refine eq_onto (fun t q r => ?_) fun i hi => Value.entry4 m c i fun t _ hmem => hi ?_
  · have h := congrFun (Value.blocks4 m c t (flush0_4 _)) (ix3 0 q r)
    have h' : (dats m 0 c).arrAt 4 cfg0.N ((win0_4.rect t).emb (ix3 0 q r)) = (dats m 0 c).flushed 4 t (ix3 0 q r) := h
    rw [place4] at h'
    rw [h', Value.flushed4_A, out_A_4]
    refine (grad_apply _ 0 q r).trans (block3_apply m c t q r (ix2 (row t q) r) rfl rfl)
  · have e := index4 t
    have h : i ∈ ((View.whole main_v0_0).slice (win0_4.rect t)).set := hmem
    rw [View.set_slice_whole, Rect.mem_set_unit] at h
    have h0 : win0_4.index t 0 * 1 ≤ (i 0).val ∧ (i 0).val < win0_4.index t 0 * 1 + 1 := h 0
    omega

/-- The array handed in for the gradients. -/
theorem base4 (c : Dev nD) : V m c main_v0_0 = m ((c.tc : Thread _ _).loc main_arg4) := by
  unfold V
  after_reads_simp
  rfl

/-- The block index of output window 5 at grid point `t`. -/
theorem index5 : ∀ t : Fin grid0.N, win0_5.index t 0 = 0 ∧ win0_5.index t 1 = t.val ∧ win0_5.index t 2 = 0 := by decide +kernel

/-- Where the block of the changes written at point `t` sits. -/
theorem place5 (t : Fin cfg0.N) (q : Fin 256) (r : Fin 1920) : (win0_5.rect t).emb (ix3 0 q r) = ix3 0 (row t q) r := by
  have e := index5 t
  funext a
  apply Fin.ext
  rw [win0_5.rect_emb_val]
  match a with
  | ⟨0, _⟩ => show win0_5.index t 0 * 1 + 0 = 0; omega
  | ⟨1, _⟩ => show win0_5.index t 1 * 256 + q.val = t.val * 256 + q.val; omega
  | ⟨2, _⟩ => show win0_5.index t 2 * 1920 + r.val = r.val; omega

/-- The changes after the call. -/
theorem final5 (c : Dev nD) :
    (dats m 0 c).arrAt 5 cfg0.N = onto (changes (V m c main_arg0) (V m c main_arg1) (V m c main_arg2) (V m c main_arg3)) (V m c main_v0_1) := by
  refine eq_onto (fun t q r => ?_) fun i hi => Value.entry5 m c i fun t _ hmem => hi ?_
  · have h := congrFun (Value.blocks5 m c t (flush0_5 _)) (ix3 0 q r)
    have h' : (dats m 0 c).arrAt 5 cfg0.N ((win0_5.rect t).emb (ix3 0 q r)) = (dats m 0 c).flushed 5 t (ix3 0 q r) := h
    rw [place5] at h'
    rw [h', Value.flushed5_A, out_A_5]
    refine (stored_apply _ 0 q r).1.trans ((change_apply _ _ _ _ q r).trans ?_)
    rw [block0_apply m c t 0 q r (ix3 0 (row t q) r) rfl rfl rfl, block1_apply m c t 0 q r (ix3 0 (row t q) r) rfl rfl rfl,
      block2_apply m c t 0 q r (ix3 0 (row t q) r) rfl rfl rfl, block3_apply m c t q r (ix2 (row t q) r) rfl rfl]
    rfl
  · have e := index5 t
    have h : i ∈ ((View.whole main_v0_1).slice (win0_5.rect t)).set := hmem
    rw [View.set_slice_whole, Rect.mem_set_unit] at h
    have h0 : win0_5.index t 0 * 1 ≤ (i 0).val ∧ (i 0).val < win0_5.index t 0 * 1 + 1 := h 0
    omega

/-- The array handed in for the changes. -/
theorem base5 (c : Dev nD) : V m c main_v0_1 = m ((c.tc : Thread _ _).loc main_arg5) := by
  unfold V
  after_reads_simp
  rfl

/-- The block index of output window 6 at grid point `t`. -/
theorem index6 : ∀ t : Fin grid0.N, win0_6.index t 0 = 0 ∧ win0_6.index t 1 = t.val ∧ win0_6.index t 2 = 0 := by decide +kernel

/-- Where the block of the first moments written at point `t` sits. -/
theorem place6 (t : Fin cfg0.N) (q : Fin 256) (r : Fin 1920) : (win0_6.rect t).emb (ix3 0 q r) = ix3 0 (row t q) r := by
  have e := index6 t
  funext a
  apply Fin.ext
  rw [win0_6.rect_emb_val]
  match a with
  | ⟨0, _⟩ => show win0_6.index t 0 * 1 + 0 = 0; omega
  | ⟨1, _⟩ => show win0_6.index t 1 * 256 + q.val = t.val * 256 + q.val; omega
  | ⟨2, _⟩ => show win0_6.index t 2 * 1920 + r.val = r.val; omega

/-- The first moments after the call. -/
theorem final6 (c : Dev nD) :
    (dats m 0 c).arrAt 6 cfg0.N = onto (moments1 (V m c main_arg1) (V m c main_arg3)) (V m c main_v0_2) := by
  refine eq_onto (fun t q r => ?_) fun i hi => Value.entry6 m c i fun t _ hmem => hi ?_
  · have h := congrFun (Value.blocks6 m c t (flush0_6 _)) (ix3 0 q r)
    have h' : (dats m 0 c).arrAt 6 cfg0.N ((win0_6.rect t).emb (ix3 0 q r)) = (dats m 0 c).flushed 6 t (ix3 0 q r) := h
    rw [place6] at h'
    rw [h', Value.flushed6_A, out_A_6]
    refine (stored_apply _ 0 q r).2.1.trans ((moment1_apply _ _ q r).trans
      (congrArg₂ moment1 (block1_apply m c t 0 q r (ix3 0 (row t q) r) rfl rfl rfl) (block3_apply m c t q r (ix2 (row t q) r) rfl rfl)))
  · have e := index6 t
    have h : i ∈ ((View.whole main_v0_2).slice (win0_6.rect t)).set := hmem
    rw [View.set_slice_whole, Rect.mem_set_unit] at h
    have h0 : win0_6.index t 0 * 1 ≤ (i 0).val ∧ (i 0).val < win0_6.index t 0 * 1 + 1 := h 0
    omega

/-- The array handed in for the first moments. -/
theorem base6 (c : Dev nD) : V m c main_v0_2 = m ((c.tc : Thread _ _).loc main_arg6) := by
  unfold V
  after_reads_simp
  rfl

/-- The block index of output window 7 at grid point `t`. -/
theorem index7 : ∀ t : Fin grid0.N, win0_7.index t 0 = 0 ∧ win0_7.index t 1 = t.val ∧ win0_7.index t 2 = 0 := by decide +kernel

/-- Where the block of the second moments written at point `t` sits. -/
theorem place7 (t : Fin cfg0.N) (q : Fin 256) (r : Fin 1920) : (win0_7.rect t).emb (ix3 0 q r) = ix3 0 (row t q) r := by
  have e := index7 t
  funext a
  apply Fin.ext
  rw [win0_7.rect_emb_val]
  match a with
  | ⟨0, _⟩ => show win0_7.index t 0 * 1 + 0 = 0; omega
  | ⟨1, _⟩ => show win0_7.index t 1 * 256 + q.val = t.val * 256 + q.val; omega
  | ⟨2, _⟩ => show win0_7.index t 2 * 1920 + r.val = r.val; omega

/-- The second moments after the call. -/
theorem final7 (c : Dev nD) :
    (dats m 0 c).arrAt 7 cfg0.N = onto (moments2 (V m c main_arg2) (V m c main_arg3)) (V m c main_v0_3) := by
  refine eq_onto (fun t q r => ?_) fun i hi => Value.entry7 m c i fun t _ hmem => hi ?_
  · have h := congrFun (Value.blocks7 m c t (flush0_7 _)) (ix3 0 q r)
    have h' : (dats m 0 c).arrAt 7 cfg0.N ((win0_7.rect t).emb (ix3 0 q r)) = (dats m 0 c).flushed 7 t (ix3 0 q r) := h
    rw [place7] at h'
    rw [h', Value.flushed7_A, out_A_7]
    refine (stored_apply _ 0 q r).2.2.trans ((moment2_apply _ _ q r).trans
      (congrArg₂ moment2 (block2_apply m c t 0 q r (ix3 0 (row t q) r) rfl rfl rfl) (block3_apply m c t q r (ix2 (row t q) r) rfl rfl)))
  · have e := index7 t
    have h : i ∈ ((View.whole main_v0_3).slice (win0_7.rect t)).set := hmem
    rw [View.set_slice_whole, Rect.mem_set_unit] at h
    have h0 : win0_7.index t 0 * 1 ≤ (i 0).val ∧ (i 0).val < win0_7.index t 0 * 1 + 1 := h 0
    omega

/-- The array handed in for the second moments. -/
theorem base7 (c : Dev nD) : V m c main_v0_3 = m ((c.tc : Thread _ _).loc main_arg7) := by
  unfold V
  after_reads_simp
  rfl

end Cert.AdamInFirstIdeal.Product

namespace Cert.Proof.AdamInFirst

open Cert.AdamInFirstRefIdeal Cert.AdamInFirstRefIdeal.Read Cert.AdamInFirstIdeal.Product

/-- One layer joined in front of three others. -/
theorem joined (x : Vec Ideal S1x1024x1920 .f32) (y : Vec Ideal S3x1024x1920 .f32) (b : Vec Ideal S4x1024x1920 .f32) (z : Vec Ideal S1024x1920 .f32)
    (hc : Shape.Concatenates [S1x1024x1920, S3x1024x1920] S4x1024x1920 0)
    (hx : ∀ (q : Fin 1024) (r : Fin 1920), x (ix3 0 q r) = z (ix2 q r))
    (hy : ∀ (p : Fin 3) (q : Fin 1024) (r : Fin 1920), y (ix3 p q r) = b (ix3 ⟨1 + p.val, by omega⟩ q r)) :
    concatenate S4x1024x1920 0 [⟨S1x1024x1920, x⟩, ⟨S3x1024x1920, y⟩] hc = onto z b := by
  funext j
  obtain ⟨l, q, r, rfl⟩ : ∃ (l : Fin 4) (q : Fin 1024) (r : Fin 1920), j = ix3 l q r :=
    ⟨j 0, j 1, j 2, by funext a; fin_cases a <;> rfl⟩
  show _ = if l.val = 0 then z (ix2 q r) else b (ix3 l q r)
  split
  · rename_i h
    refine (concatenate_pair_apply_left (t := S4x1024x1920) 0 x y hc (ix3 l q r) rfl (ix3 0 q r) fun a => ?_).trans (hx q r)
    match a with
    | ⟨0, _⟩ => exact h.symm
    | ⟨1, _⟩ => rfl
    | ⟨2, _⟩ => rfl
  · rename_i h
    have hl := l.isLt
    refine (concatenate_pair_apply_right (t := S4x1024x1920) 0 x y hc (ix3 l q r) rfl rfl (ix3 ⟨l.val - 1, by omega⟩ q r) (fun a ha => ?_) ?_).trans ((hy _ q r).trans ?_)
    · match a with
      | ⟨0, _⟩ => exact absurd rfl ha
      | ⟨1, _⟩ => rfl
      | ⟨2, _⟩ => rfl
    · show l.val - 1 + 1 = l.val
      omega
    · have e : (⟨1 + (l.val - 1), by omega⟩ : Fin 4) = l := Fin.ext (show 1 + (l.val - 1) = l.val by omega)
      exact congrArg (fun a => b (ix3 a q r)) e

/-- The reference's gradients. -/
theorem reference4 (b : Vec Ideal S4x1024x1920 .f32) (g : Vec Ideal S1024x1920 .f32) : val_main_v32 (F := Ideal) g b = onto g b := by
  unfold val_main_v32
  refine joined _ _ b _ _ (fun q r => ?_) fun p q r => ?_
  · pointwise [val_main_v30, val_main_v30_apply]
  · pointwise [val_main_v31]

/-- The reference's changes. -/
theorem reference5 (w x y b : Vec Ideal S4x1024x1920 .f32) (g : Vec Ideal S1024x1920 .f32) : val_main_v35 (F := Ideal) w x y g b = onto (changes w x y g) b := by
  unfold val_main_v35
  refine joined _ _ b _ _ (fun q r => ?_) fun p q r => ?_
  · pointwise [val_main_v33, val_main_v33_apply, val_main_v29, val_main_v29_apply, val_main_v28, val_main_v28_apply, val_main_cst_7, val_main_cst_7_apply, val_main_v27, val_main_v27_apply, val_main_v26, val_main_v26_apply, val_main_v25, val_main_v25_apply, val_main_cst_6, val_main_cst_6_apply, val_main_v1, val_main_v1_apply, val_main_v0, val_main_v0_apply, val_main_v24, val_main_v24_apply, val_main_v23, val_main_v23_apply, val_main_v22, val_main_v22_apply, val_main_cst_5, val_main_cst_5_apply, val_main_v21, val_main_v21_apply, val_main_v20, val_main_v20_apply, val_main_v19, val_main_v19_apply, val_main_cst_4, val_main_cst_4_apply, val_main_v16, val_main_v16_apply, val_main_v15, val_main_v15_apply, val_main_v14, val_main_v14_apply, val_main_cst_2, val_main_cst_2_apply, val_main_v13, val_main_v13_apply, val_main_v12, val_main_v5, val_main_v5_apply, val_main_v4, val_main_v4_apply, val_main_v12_apply, val_main_v11, val_main_v11_apply, val_main_cst_1, val_main_cst_1_apply, val_main_v18, val_main_v18_apply, val_main_v17, val_main_v17_apply, val_main_cst_3, val_main_cst_3_apply, val_main_v10, val_main_v9, val_main_v9_apply, val_main_v8, val_main_v8_apply, val_main_cst_0, val_main_cst_0_apply, val_main_v7, val_main_v7_apply, val_main_v6, val_main_v6_apply, val_main_cst, val_main_cst_apply, val_main_v3, val_main_v3_apply, val_main_v2, val_main_v2_apply, val_main_v10_apply]
    rfl
  · pointwise [val_main_v34]

/-- The reference's first moments. -/
theorem reference6 (x b : Vec Ideal S4x1024x1920 .f32) (g : Vec Ideal S1024x1920 .f32) : val_main_v38 (F := Ideal) x g b = onto (moments1 x g) b := by
  unfold val_main_v38
  refine joined _ _ b _ _ (fun q r => ?_) fun p q r => ?_
  · pointwise [val_main_v36, val_main_v36_apply, val_main_v10, val_main_v9, val_main_v9_apply, val_main_v8, val_main_v8_apply, val_main_cst_0, val_main_cst_0_apply, val_main_v7, val_main_v7_apply, val_main_v6, val_main_v6_apply, val_main_cst, val_main_cst_apply, val_main_v3, val_main_v3_apply, val_main_v2, val_main_v2_apply, val_main_v10_apply]
    rfl
  · pointwise [val_main_v37]

/-- The reference's second moments. -/
theorem reference7 (y b : Vec Ideal S4x1024x1920 .f32) (g : Vec Ideal S1024x1920 .f32) : val_main_v41 (F := Ideal) y g b = onto (moments2 y g) b := by
  unfold val_main_v41
  refine joined _ _ b _ _ (fun q r => ?_) fun p q r => ?_
  · pointwise [val_main_v39, val_main_v39_apply, val_main_v16, val_main_v16_apply, val_main_v15, val_main_v15_apply, val_main_v14, val_main_v14_apply, val_main_cst_2, val_main_cst_2_apply, val_main_v13, val_main_v13_apply, val_main_v12, val_main_v5, val_main_v5_apply, val_main_v4, val_main_v4_apply, val_main_v12_apply, val_main_v11, val_main_v11_apply, val_main_cst_1, val_main_cst_1_apply]
    rfl
  · pointwise [val_main_v40]

/-- The kernel's four arrays are the reference's. -/
theorem algebraic : Cert.algebraic_AdamInFirstIdeal_AdamInFirstRefIdeal := by
  intro m ρ m' ρ' _ hagree
  refine ⟨fun c => onto (m ((c.tc : Thread _ _).loc Cert.AdamInFirstIdeal.main_arg3)) (m ((c.tc : Thread _ _).loc Cert.AdamInFirstIdeal.main_arg4)),
    fun c => onto (changes (m ((c.tc : Thread _ _).loc Cert.AdamInFirstIdeal.main_arg0)) (m ((c.tc : Thread _ _).loc Cert.AdamInFirstIdeal.main_arg1)) (m ((c.tc : Thread _ _).loc Cert.AdamInFirstIdeal.main_arg2)) (m ((c.tc : Thread _ _).loc Cert.AdamInFirstIdeal.main_arg3))) (m ((c.tc : Thread _ _).loc Cert.AdamInFirstIdeal.main_arg5)),
    fun c => onto (moments1 (m ((c.tc : Thread _ _).loc Cert.AdamInFirstIdeal.main_arg1)) (m ((c.tc : Thread _ _).loc Cert.AdamInFirstIdeal.main_arg3))) (m ((c.tc : Thread _ _).loc Cert.AdamInFirstIdeal.main_arg6)),
    fun c => onto (moments2 (m ((c.tc : Thread _ _).loc Cert.AdamInFirstIdeal.main_arg2)) (m ((c.tc : Thread _ _).loc Cert.AdamInFirstIdeal.main_arg3))) (m ((c.tc : Thread _ _).loc Cert.AdamInFirstIdeal.main_arg7)), ?_, ?_⟩
  · refine (θ_run Cert.AdamInFirstIdeal.defs _ _).mono
      (fun _ h c => ⟨(h c).1.trans ?_, (h c).2.1.trans ?_, (h c).2.2.1.trans ?_, (h c).2.2.2.1.trans ?_, (h c).2.2.2.2⟩)
      (Cert.AdamInFirstIdeal.Value.run_blocks (F := Ideal) m ρ)
    · exact (final4 m c).trans (congrArg (onto _) (base4 m c))
    · exact (final5 m c).trans (congrArg (onto _) (base5 m c))
    · exact (final6 m c).trans (congrArg (onto _) (base6 m c))
    · exact (final7 m c).trans (congrArg (onto _) (base7 m c))
  · refine (θ_run Cert.AdamInFirstRefIdeal.defs _ _).mono (fun _ h c => ?_) (Cert.AdamInFirstRefIdeal.Value.run (F := Ideal) m' ρ')
    obtain ⟨h0, h1, h2, h3, h4, h5, h6, h7⟩ := hagree c
    refine ⟨(h c).1.trans ?_, (h c).2.1.trans ?_, (h c).2.2.1.trans ?_, (h c).2.2.2.1.trans ?_, (h c).2.2.2.2⟩
    · rw [h3, h4]
      exact reference4 _ _
    · rw [h0, h1, h2, h3, h5]
      exact reference5 _ _ _ _ _
    · rw [h1, h3, h6]
      exact reference6 _ _ _
    · rw [h2, h3, h7]
      exact reference7 _ _ _

end Cert.Proof.AdamInFirst
-- ==== Proof.Softmax.lean ====
/-
  The softmax over four layers, on the extended reals: the greatest entry taken off, exponentials, and each one's share of their sum; and the
  running sums over the layers, from the first layer on (`upTo_apply`) and from the last layer back (`from_apply`).
-/
module

public import Idealize.ShloMosaic.Lib.Pointwise

@[expose] public section

noncomputable section

open Idealize.ShloMosaic

namespace Cert.Proof.Softmax

/-- The greatest of the four layers' entries. -/
def top (x : Fin 4 → EReal) : EReal := max (max (max (x 0) (x 1)) (x 2)) (x 3)

/-- The exponential of a layer's entry, the greatest taken off. -/
def raised (x : Fin 4 → EReal) (l : Fin 4) : EReal := Ideal.exp (x l - top x)

/-- The sum of the exponentials. -/
def whole (x : Fin 4 → EReal) : EReal := raised x 0 + raised x 1 + raised x 2 + raised x 3

/-- A layer's share of the softmax. -/
def share (x : Fin 4 → EReal) (l : Fin 4) : EReal := Ideal.div (raised x l) (whole x)

/-- The greatest entry, taken from minus infinity on. -/
theorem fold_eq (x : Fin 4 → EReal) : Finset.fold max (Ideal.ofBits FTy.f32 0xFF800000#32) x Finset.univ = top x := by
  have hb : Ideal.ofBits FTy.f32 0xFF800000#32 = ⊥ := by simp [Ideal.ofBits, Ideal.ieee]
  have hu : (Finset.univ : Finset (Fin 4)) = {0, 1, 2, 3} := by decide
  rw [hb, hu]
  simp [Finset.fold_insert, top, max_assoc]

/-- The greatest entry, taken from minus infinity on, and minus infinity once more. -/
theorem top_eq (x : Fin 4 → EReal) :
    max (Ideal.ofBits FTy.f32 0xFF800000#32) (Finset.fold max (Ideal.ofBits FTy.f32 0xFF800000#32) x Finset.univ) = top x := by
  have hb : Ideal.ofBits FTy.f32 0xFF800000#32 = ⊥ := by simp [Ideal.ofBits, Ideal.ieee]
  rw [fold_eq, hb, max_eq_right bot_le]

/-! ## Where every entry is a number -/

/-- A number's size is below the word for infinity. -/
theorem number_of (a : EReal) (h : Ideal.cmp .olt (max a (-a)) (Ideal.ofBits FTy.f32 0x7F800000#32) = 1#1) : ∃ r : ℝ, a = (r : EReal) := by
  have ht : Ideal.ofBits FTy.f32 0x7F800000#32 = ⊤ := by simp [Ideal.ofBits, Ideal.ieee]
  rw [ht] at h
  induction a using EReal.rec with
  | bot => simp [Ideal.cmp] at h
  | top => simp [Ideal.cmp] at h
  | coe r => exact ⟨r, rfl⟩

/-- A quotient of numbers. -/
theorem div_coe (a : ℝ) {z : ℝ} (hz : z ≠ 0) : Ideal.div (a : EReal) (z : EReal) = ((a / z : ℝ) : EReal) := by
  rw [Ideal.div, if_neg (by exact_mod_cast hz), ← EReal.coe_inv, ← EReal.coe_mul, div_eq_mul_inv]

/-- A column of numbers has positive numbers as exponentials. -/
theorem raised_real (x : Fin 4 → EReal) (h : ∀ l, ∃ r : ℝ, x l = (r : EReal)) :
    ∃ e : Fin 4 → ℝ, (∀ l, 0 < e l) ∧ (∀ l, raised x l = (e l : EReal)) ∧ whole x = ((e 0 + e 1 + e 2 + e 3 : ℝ) : EReal) := by
  choose y hy using h
  have hm : ∀ a b : ℝ, max (a : EReal) (b : EReal) = ((max a b : ℝ) : EReal) := fun a b =>
    (EReal.coe_strictMono.monotone.map_max).symm
  have ht : top x = ((max (max (max (y 0) (y 1)) (y 2)) (y 3) : ℝ) : EReal) := by
    rw [top, hy, hy, hy, hy, hm, hm, hm]
  have he : ∀ l, raised x l = ((Real.exp (y l - max (max (max (y 0) (y 1)) (y 2)) (y 3)) : ℝ) : EReal) := fun l => by
    rw [raised, ht, hy l, ← EReal.coe_sub, Ideal.exp_coe]
  exact ⟨_, fun l => Real.exp_pos _, he, by rw [whole, he, he, he, he, ← EReal.coe_add, ← EReal.coe_add, ← EReal.coe_add]⟩

/-! ## Running sums -/

/-- The window's positions, in order. -/
theorem positions : ∀ n : Fin (⟨2, ![4, 1]⟩ : Shape).numel, (((⟨2, ![4, 1]⟩ : Shape).rowMajor.symm n) 0).val = n.val
    ∧ (((⟨2, ![4, 1]⟩ : Shape).rowMajor.symm n) 1).val = 0 := by decide +kernel

/-- A sum over a window of four layers that begins `k` layers before its own, layers outside the array counting as zero. -/
theorem window_apply {N k b : ℕ} (x : (⟨2, ![4, N]⟩ : Shape).Idx → EReal) (v : (⟨0, ![]⟩ : Shape).Idx → EReal) (h hu)
    (hv : v (Shape.Idx.first hu) = 0) (p : Fin 4) (q : Fin N) :
    Host.reduceWindowAdd (F := Ideal) (φ := .f32) (s := ⟨2, ![4, N]⟩) (t := ⟨2, ![4, N]⟩) (u := ⟨0, ![]⟩) ![4, 1] ![1, 1] ![k, 0] ![b, 0] x v h hu
        (ix2 p q)
      = ∑ n : Fin 4, if hin : k ≤ p.val + n.val ∧ p.val + n.val - k < 4 then x (ix2 ⟨p.val + n.val - k, hin.2⟩ q) else 0 := by
  show Host.reduceWindow (s := ⟨2, ![4, N]⟩) (t := ⟨2, ![4, N]⟩) (u := ⟨0, ![]⟩) (fun a b : EReal => a + b) ![4, 1] ![1, 1] ![k, 0] ![b, 0] x
    (fun _ => v (Shape.Idx.first hu)) h hu (ix2 p q) = _
  unfold Host.reduceWindow
  dsimp only
  rw [hv]
  have hf : ∀ (L : List (Fin (⟨2, ![4, 1]⟩ : Shape).numel)) (f : Fin (⟨2, ![4, 1]⟩ : Shape).numel → EReal) (a : EReal),
      L.foldl (fun r n => r + f n) a = a + (L.map f).sum := fun L f => by
    induction L with
    | nil => intro a; simp
    | cons c L ih => intro a; rw [List.foldl_cons, ih, List.map_cons, List.sum_cons, add_assoc]
  rw [hf, zero_add, ← List.ofFn_eq_map, List.sum_ofFn]
  refine Finset.sum_congr rfl fun n _ => ?_
  obtain ⟨e0, e1⟩ := positions n
  have hq := q.isLt
  by_cases hin : k ≤ p.val + n.val ∧ p.val + n.val - k < 4
  · rw [dif_pos hin, dif_pos]
    · refine congrArg x (funext fun a => Fin.ext ?_)
      match a with
      | ⟨0, _⟩ => show p.val * 1 + (((⟨2, ![4, 1]⟩ : Shape).rowMajor.symm n) 0).val - k = p.val + n.val - k; omega
      | ⟨1, _⟩ => show q.val * 1 + (((⟨2, ![4, 1]⟩ : Shape).rowMajor.symm n) 1).val - 0 = q.val; omega
    · intro a
      match a with
      | ⟨0, _⟩ =>
        show k ≤ p.val * 1 + (((⟨2, ![4, 1]⟩ : Shape).rowMajor.symm n) 0).val
          ∧ p.val * 1 + (((⟨2, ![4, 1]⟩ : Shape).rowMajor.symm n) 0).val - k < 4
        omega
      | ⟨1, _⟩ =>
        show 0 ≤ q.val * 1 + (((⟨2, ![4, 1]⟩ : Shape).rowMajor.symm n) 1).val
          ∧ q.val * 1 + (((⟨2, ![4, 1]⟩ : Shape).rowMajor.symm n) 1).val - 0 < N
        omega
  · rw [dif_neg hin, dif_neg]
    intro H
    have h0 : k ≤ p.val * 1 + (((⟨2, ![4, 1]⟩ : Shape).rowMajor.symm n) 0).val
      ∧ p.val * 1 + (((⟨2, ![4, 1]⟩ : Shape).rowMajor.symm n) 0).val - k < 4 := H 0
    omega

/-- The running sums from the first layer on. -/
theorem upTo_apply {N b : ℕ} (x : (⟨2, ![4, N]⟩ : Shape).Idx → EReal) (v : (⟨0, ![]⟩ : Shape).Idx → EReal) (h hu)
    (hv : v (Shape.Idx.first hu) = 0) (p : Fin 4) (q : Fin N) :
    Host.reduceWindowAdd (F := Ideal) (φ := .f32) (s := ⟨2, ![4, N]⟩) (t := ⟨2, ![4, N]⟩) (u := ⟨0, ![]⟩) ![4, 1] ![1, 1] ![3, 0] ![b, 0] x v h hu
        (ix2 p q)
      = (![x (ix2 0 q), x (ix2 0 q) + x (ix2 1 q), x (ix2 0 q) + x (ix2 1 q) + x (ix2 2 q),
          x (ix2 0 q) + x (ix2 1 q) + x (ix2 2 q) + x (ix2 3 q)] : Fin 4 → EReal) p := by
  rw [window_apply x v h hu hv, Fin.sum_univ_four]
  fin_cases p <;> simp <;> rfl

/-- The running sums from the last layer back. -/
theorem from_apply {N b : ℕ} (x : (⟨2, ![4, N]⟩ : Shape).Idx → EReal) (v : (⟨0, ![]⟩ : Shape).Idx → EReal) (h hu)
    (hv : v (Shape.Idx.first hu) = 0) (p : Fin 4) (q : Fin N) :
    Host.reduceWindowAdd (F := Ideal) (φ := .f32) (s := ⟨2, ![4, N]⟩) (t := ⟨2, ![4, N]⟩) (u := ⟨0, ![]⟩) ![4, 1] ![1, 1] ![0, 0] ![b, 0] x v h hu
        (ix2 p q)
      = (![x (ix2 0 q) + x (ix2 1 q) + x (ix2 2 q) + x (ix2 3 q), x (ix2 1 q) + x (ix2 2 q) + x (ix2 3 q), x (ix2 2 q) + x (ix2 3 q),
          x (ix2 3 q)] : Fin 4 → EReal) p := by
  rw [window_apply x v h hu hv, Fin.sum_univ_four]
  fin_cases p <;> simp <;> rfl

end Cert.Proof.Softmax
-- ==== Proof.LbsBwd.lean ====
/-
  The backward step of the lower bounds. Each layer's bound is the sum of the softmax over the layers up to it, the first layer's left out, so
  the cotangent of a layer's share is the sum of the cotangents of the layers from it on, and none for the first layer. The kernel writes the
  four rows one by one; the entries of a column depend on that column alone.
-/
module

public import proofs.«01_k».proof.Defs
public import proofs.«01_k».proof.Proof.Softmax
public import proofs.«01_k».proof.Proof.Gen.LbsBwdIdeal.Value
public import proofs.«01_k».proof.Proof.Gen.LbsBwdRefIdeal.Run
public import proofs.«01_k».proof.Proof.Gen.LbsBwdRefIdeal.Read
public import Idealize.ShloMosaic.Lib.Pointwise
public import Idealize.ShloMosaic.Lib.StableHlo.ReadAt

@[expose] public section

noncomputable section

open Idealize.ShloMosaic Idealize.ShloMosaic.TcCoe Idealize.SL.Sem
open Cert.Proof.Softmax

namespace Cert.LbsBwdIdeal.Product

open Cert.LbsBwdIdeal Cert.LbsBwdIdeal.Gen

/-- The cotangent of a layer's share: the cotangents of the bounds it enters. -/
def entering (d : Fin 4 → EReal) : Fin 4 → EReal := ![0, d 1 + d 2 + d 3, d 2 + d 3, d 3]

/-- The shares' mean of those cotangents. -/
def mean (x d : Fin 4 → EReal) : EReal :=
  entering d 0 * share x 0 + entering d 1 * share x 1 + entering d 2 * share x 2 + entering d 3 * share x 3

/-- The cotangent of a layer's entry. -/
def back (x d : Fin 4 → EReal) (l : Fin 4) : EReal := share x l * (entering d l - mean x d)

/-- The column of an array an index lies in. -/
def column (x : Vec Ideal S4x512 .f32) (q : Fin 512) (l : Fin 4) : EReal := x (ix2 l q)

/-- The cotangents of the lower bounds' array. -/
def cotangent (x d : Vec Ideal S4x512 .f32) : Vec Ideal S4x512 .f32 := fun j => back (column x (j 1)) (column d (j 1)) (j 0)

/-- The rows loaded from an array are its rows. -/
theorem rows_apply (x : Vec Ideal S4x512 .f32) (q : Fin 512) :
    View.ld x r0_0 (ix2 0 q) = column x q 0 ∧ View.ld x r0_1 (ix2 0 q) = column x q 1 ∧ View.ld x r0_2 (ix2 0 q) = column x q 2
      ∧ View.ld x r0_3 (ix2 0 q) = column x q 3 := by
  refine ⟨?_, ?_, ?_, ?_⟩ <;> pointwise [View.ld] <;> rfl

/-- The shares the body computes from the four rows. -/
theorem shares_apply (a b c e : Vec Ideal S1x512 .f32) (x : Fin 4 → EReal) (q : Fin 512) (ha : a (ix2 0 q) = x 0) (hb : b (ix2 0 q) = x 1)
    (hc : c (ix2 0 q) = x 2) (he : e (ix2 0 q) = x 3) :
    k0_pay11 a b c e (ix2 0 q) = share x 0 ∧ k0_pay12 a b c e (ix2 0 q) = share x 1 ∧ k0_pay13 a b c e (ix2 0 q) = share x 2
      ∧ k0_pay14 a b c e (ix2 0 q) = share x 3 := by
  have h5 : k0_pay5 a b c e (ix2 0 q) = top x := by
    pointwise [k0_pay5]
    rw [ha, hb, hc, he]
    rfl
  have h6 : k0_pay6 a b c e (ix2 0 q) = raised x 0 := by
    pointwise [k0_pay6]
    rw [h5, ha]
    rfl
  have h7 : k0_pay7 a b c e (ix2 0 q) = raised x 1 := by
    pointwise [k0_pay7]
    rw [h5, hb]
    rfl
  have h8 : k0_pay8 a b c e (ix2 0 q) = raised x 2 := by
    pointwise [k0_pay8]
    rw [h5, hc]
    rfl
  have h9 : k0_pay9 a b c e (ix2 0 q) = raised x 3 := by
    pointwise [k0_pay9]
    rw [h5, he]
    rfl
  have h10 : k0_pay10 a b c e (ix2 0 q) = whole x := by
    pointwise [k0_pay10]
    rw [h6, h7, h8, h9]
    rfl
  refine ⟨?_, ?_, ?_, ?_⟩
  · pointwise [k0_pay11]
    rw [h6, h10]
    rfl
  · pointwise [k0_pay12]
    rw [h7, h10]
    rfl
  · pointwise [k0_pay13]
    rw [h8, h10]
    rfl
  · pointwise [k0_pay14]
    rw [h9, h10]
    rfl

/-- The cotangents of the shares the body computes. -/
theorem entering_apply (b c e : Vec Ideal S1x512 .f32) (d : Fin 4 → EReal) (q : Fin 512) (hb : b (ix2 0 q) = d 1) (hc : c (ix2 0 q) = d 2)
    (he : e (ix2 0 q) = d 3) :
    k0_pay15 (F := Ideal) (ix2 0 q) = entering d 0 ∧ k0_pay16 b c e (ix2 0 q) = entering d 1 ∧ k0_pay17 c e (ix2 0 q) = entering d 2 := by
  refine ⟨?_, ?_, ?_⟩
  · pointwise [k0_pay15]
    rfl
  · pointwise [k0_pay16]
    rw [hb, hc, he]
    rfl
  · pointwise [k0_pay17]
    rw [hc, he]
    rfl

/-- The body's mean, and its four rows. -/
theorem stored_apply (x d : Vec Ideal S4x512 .f32) (q : Fin 512) :
    k0_pay1 (k0_pay11 (View.ld x r0_0) (View.ld x r0_1) (View.ld x r0_2) (View.ld x r0_3)) (k0_pay15 (F := Ideal)) (k0_pay19 x d) (ix2 0 q)
        = back (column x q) (column d q) 0
      ∧ k0_pay2 (k0_pay12 (View.ld x r0_0) (View.ld x r0_1) (View.ld x r0_2) (View.ld x r0_3)) (k0_pay16 (View.ld d r0_1) (View.ld d r0_2) (View.ld d r0_3))
          (k0_pay19 x d) (ix2 0 q) = back (column x q) (column d q) 1
      ∧ k0_pay3 (k0_pay13 (View.ld x r0_0) (View.ld x r0_1) (View.ld x r0_2) (View.ld x r0_3)) (k0_pay17 (View.ld d r0_2) (View.ld d r0_3))
          (k0_pay19 x d) (ix2 0 q) = back (column x q) (column d q) 2
      ∧ k0_pay4 (k0_pay14 (View.ld x r0_0) (View.ld x r0_1) (View.ld x r0_2) (View.ld x r0_3)) (View.ld d r0_3) (k0_pay19 x d) (ix2 0 q)
        = back (column x q) (column d q) 3 := by
  obtain ⟨x0, x1, x2, x3⟩ := rows_apply x q
  obtain ⟨_, d1, d2, d3⟩ := rows_apply d q
  obtain ⟨s0, s1, s2, s3⟩ := shares_apply (View.ld x r0_0) (View.ld x r0_1) (View.ld x r0_2) (View.ld x r0_3) (column x q) q x0 x1 x2 x3
  obtain ⟨e0, e1, e2⟩ := entering_apply (View.ld d r0_1) (View.ld d r0_2) (View.ld d r0_3) (column d q) q d1 d2 d3
  have hm : k0_pay19 x d (ix2 0 q) = mean (column x q) (column d q) := by
    pointwise [k0_pay19, k0_pay18]
    rw [s0, s1, s2, s3, e0, e1, e2]
    rfl
  refine ⟨?_, ?_, ?_, ?_⟩
  · pointwise [k0_pay1]
    rw [hm, s0, e0]
    rfl
  · pointwise [k0_pay2]
    rw [hm, s1, e1]
    rfl
  · pointwise [k0_pay3]
    rw [hm, s2, e2]
    rfl
  · pointwise [k0_pay4]
    rw [hm, s3]
    rfl

/-- A row of an array, at a local index of the row. -/
theorem row_of {r : Vec Ideal S1x512 .f32} {x d : Vec Ideal S4x512 .f32} (l : Fin 4) (h : ∀ q, r (ix2 0 q) = back (column x q) (column d q) l)
    (j : S1x512.Idx) (i : S4x512.Idx) (h0 : (i 0).val = l.val) (h1 : (i 1).val = (j 1).val) : r j = cotangent x d i := by
  obtain ⟨p, q, rfl⟩ : ∃ (p : Fin 1) (q : Fin 512), j = ix2 p q := ⟨j 0, j 1, by funext a; fin_cases a <;> rfl⟩
  obtain rfl : i = ix2 l q := by funext a; match a with | ⟨0, _⟩ => exact Fin.ext h0 | ⟨1, _⟩ => exact Fin.ext h1
  obtain rfl : p = 0 := Subsingleton.elim _ _
  exact h q

/-- A row has one entry along the layers. -/
theorem one (i : S1x512.Idx) : (i 0).val < 1 := (i 0).isLt

/-- The kernel's array holds the cotangents. -/
theorem value_eq (x d : Vec Ideal S4x512 .f32) : Value.G2 x d = cotangent x d := by
  funext j
  refine View.canon_apply_of_pieces (cotangent x d) _ ?_ j ?_
  · simp only [List.forall_mem_cons, List.not_mem_nil, false_imp_iff, implies_true, and_true]
    refine ⟨fun i => ?_, fun i => ?_, fun i => ?_, fun i => ?_⟩
    · exact row_of 3 (fun q => (stored_apply x d q).2.2.2) i _ (by have h := one i; show 3 + 1 * (i 0).val = 3; omega)
        (by show 0 + 1 * (i 1).val = (i 1).val; omega)
    · exact row_of 2 (fun q => (stored_apply x d q).2.2.1) i _ (by have h := one i; show 2 + 1 * (i 0).val = 2; omega)
        (by show 0 + 1 * (i 1).val = (i 1).val; omega)
    · exact row_of 1 (fun q => (stored_apply x d q).2.1) i _ (by have h := one i; show 1 + 1 * (i 0).val = 1; omega)
        (by show 0 + 1 * (i 1).val = (i 1).val; omega)
    · exact row_of 0 (fun q => (stored_apply x d q).1) i _ (by have h := one i; show 0 + 1 * (i 0).val = 0; omega)
        (by show 0 + 1 * (i 1).val = (i 1).val; omega)
  · have h0 : (j 0).val < 4 := (j 0).isLt
    have h1 : (j 1).val < 512 := (j 1).isLt
    have hrow : ∀ l : Nat, ∀ inb, (j 0).val = l → j ∈ (Rect.unit (s := S4x512) ![l, 0] S1x512.size inb).set := fun l inb hl => by
      rw [Rect.mem_set_unit]
      intro a
      match a with
      | ⟨0, _⟩ => show l ≤ (j 0).val ∧ (j 0).val < l + 1; omega
      | ⟨1, _⟩ => show 0 ≤ (j 1).val ∧ (j 1).val < 0 + 512; omega
    obtain hl | hl | hl | hl : (j 0).val = 3 ∨ (j 0).val = 2 ∨ (j 0).val = 1 ∨ (j 0).val = 0 := by omega
    · exact ⟨_, .head _, hrow 3 inb_S4x512_S1x512_3_0 hl⟩
    · exact ⟨_, .tail _ (.head _), hrow 2 inb_S4x512_S1x512_2_0 hl⟩
    · exact ⟨_, .tail _ (.tail _ (.head _)), hrow 1 inb_S4x512_S1x512_1_0 hl⟩
    · exact ⟨_, .tail _ (.tail _ (.tail _ (.head _))), hrow 0 inb_S4x512_S1x512_0_0 hl⟩

end Cert.LbsBwdIdeal.Product

namespace Cert.Proof.LbsBwd

open Cert.LbsBwdRefIdeal Cert.LbsBwdRefIdeal.Read Cert.LbsBwdIdeal.Product

/-- The reference's greatest entry of a column. -/
theorem reference_top (x : Vec Ideal Cert.LbsBwdRefIdeal.S4x512 .f32) (p : Fin 4) (q : Fin 512) :
    val_main_v18 (F := Ideal) x (ix2 p q) = top (column x q) := by
  pointwise [val_main_v18, val_main_v17, val_main_v7, val_main_v6, val_main_v0, val_main_cst, val_main_cst_1]
  exact top_eq (column x q)

/-- The reference's exponentials. -/
theorem reference_raised (x : Vec Ideal Cert.LbsBwdRefIdeal.S4x512 .f32) (p : Fin 4) (q : Fin 512) :
    val_main_v20 (F := Ideal) x (ix2 p q) = raised (column x q) p := by
  pointwise [val_main_v20, val_main_v19]
  rw [reference_top]
  rfl

/-- The reference's sum of the exponentials. -/
theorem reference_whole (x : Vec Ideal Cert.LbsBwdRefIdeal.S4x512 .f32) (q : Fin 512) :
    val_main_v22 (F := Ideal) x (ix2 0 q) = whole (column x q) := by
  pointwise [val_main_v22, val_main_v21, val_main_cst_7]
  simp only [reference_raised, Fin.sum_univ_four]
  rfl

/-- The reference's cotangents of the shares, where the bounds' cotangents are numbers: the first layer's share enters every bound and is taken
    off every one again. -/
theorem reference_entering (d : Vec Ideal Cert.LbsBwdRefIdeal.S4x512 .f32) (q : Fin 512) (δ : Fin 4 → ℝ) (hd : ∀ l, column d q l = (δ l : EReal))
    (p : Fin 4) : val_main_v42 (F := Ideal) d (ix2 p q) = ((![0, δ 1 + δ 2 + δ 3, δ 2 + δ 3, δ 3] : Fin 4 → ℝ) p : EReal) := by
  have hd' : ∀ l, d (ix2 l q) = (δ l : EReal) := hd
  have hz : ∀ hu : 0 < Cert.LbsBwdRefIdeal.S_.numel, val_main_call1_call0_v0 (F := Ideal) (Shape.Idx.first hu) = 0 := fun _ => by
    show Ideal.ofBits .f32 0x00000000#32 = 0
    exact Ideal.ofBits_zero .f32
  have h34 : ∀ l : Fin 4, val_main_v34 (F := Ideal) d (ix2 l q) = (δ l : EReal) := fun l => by
    pointwise [val_main_v34]
    exact hd' l
  have h41 : val_main_v41 (F := Ideal) d (ix2 p q) = ((![δ 0 + δ 1 + δ 2 + δ 3, δ 1 + δ 2 + δ 3, δ 2 + δ 3, δ 3] : Fin 4 → ℝ) p : EReal) := by
    refine (from_apply _ _ _ _ (hz _) p q).trans ?_
    simp only [h34, ← EReal.coe_add]
    fin_cases p <;> rfl
  have h39 : val_main_v39 (F := Ideal) d (ix2 0 q) = ((-(δ 0 + δ 1 + δ 2 + δ 3) : ℝ) : EReal) := by
    pointwise [val_main_v39, val_main_v38, val_main_v37, val_main_v36, val_main_v35, val_main_cst_9, val_main_cst_10]
    simp only [Fin.sum_univ_one, Fin.sum_univ_four, hd', ← EReal.coe_neg, ← EReal.coe_add]
    congr 1
    ring
  have h40 : val_main_v40 (F := Ideal) d (ix2 p q) = if p = 0 then ((-(δ 0 + δ 1 + δ 2 + δ 3) : ℝ) : EReal) else 0 := by
    fin_cases p
    · pointwise [val_main_v40]
      exact h39
    · pointwise [val_main_v40, val_main_cst_11]
    · pointwise [val_main_v40, val_main_cst_11]
    · pointwise [val_main_v40, val_main_cst_11]
  show val_main_v40 (F := Ideal) d (ix2 p q) + val_main_v41 (F := Ideal) d (ix2 p q) = _
  rw [h40, h41]
  fin_cases p
  · show ((-(δ 0 + δ 1 + δ 2 + δ 3) : ℝ) : EReal) + ((δ 0 + δ 1 + δ 2 + δ 3 : ℝ) : EReal) = ((0 : ℝ) : EReal)
    rw [← EReal.coe_add]
    congr 1
    ring
  · exact zero_add _
  · exact zero_add _
  · exact zero_add _

/-- The derivative of the softmax as the reference writes it, on numbers. -/
theorem reference_entry (x d : Vec Ideal Cert.LbsBwdRefIdeal.S4x512 .f32) (p : Fin 4) (q : Fin 512) :
    val_main_v54 (F := Ideal) x d (ix2 p q)
      = (Ideal.div (val_main_v42 (F := Ideal) d (ix2 p q)) (whole (column x q))
          + -∑ l : Fin 4, val_main_v42 (F := Ideal) d (ix2 l q) * Ideal.div 1 (whole (column x q) * whole (column x q)) * raised (column x q) l)
        * raised (column x q) p := by
  have h1 : Ideal.ofBits .f32 0x3F800000#32 = 1 := by simp [Ideal.ofBits, Ideal.ieee, -EReal.coe_mul]; norm_num
  pointwise [val_main_v54, val_main_v53, val_main_v52, val_main_v51, val_main_v50, val_main_v49, val_main_v48, val_main_v47, val_main_v46,
    val_main_v45, val_main_v44, val_main_v43, val_main_v27, val_main_v26, val_main_v25, val_main_cst_8, val_main_cst_12, val_main_cst_13]
  simp only [Fin.sum_univ_one, reference_raised, reference_whole, h1]

/-- The reference's array holds the cotangents, where every entry is a number. -/
theorem reference_eq (x d : Vec Ideal Cert.LbsBwdRefIdeal.S4x512 .f32) (hx : ∀ q l, ∃ r : ℝ, column x q l = (r : EReal))
    (hd : ∀ q l, ∃ r : ℝ, column d q l = (r : EReal)) : val_main_v54 (F := Ideal) x d = cotangent x d := by
  funext j
  obtain ⟨p, q, rfl⟩ : ∃ (p : Fin 4) (q : Fin 512), j = ix2 p q := ⟨j 0, j 1, by funext a; fin_cases a <;> rfl⟩
  obtain ⟨e, hp, he, hw⟩ := raised_real (column x q) (hx q)
  choose δ hδ using hd q
  have hz : e 0 + e 1 + e 2 + e 3 ≠ 0 := (add_pos (add_pos (add_pos (hp 0) (hp 1)) (hp 2)) (hp 3)).ne'
  have hent : ∀ l, entering (column d q) l = ((![0, δ 1 + δ 2 + δ 3, δ 2 + δ 3, δ 3] : Fin 4 → ℝ) l : EReal) := fun l => by
    unfold entering
    simp only [hδ, ← EReal.coe_add]
    fin_cases l <;> rfl
  have hsh : ∀ l, share (column x q) l = ((e l / (e 0 + e 1 + e 2 + e 3) : ℝ) : EReal) := fun l => by rw [share, he, hw, div_coe _ hz]
  rw [reference_entry]
  show _ = back (column x q) (column d q) p
  unfold back mean
  simp only [reference_entering d q δ hδ, hent, hsh, he, hw]
  generalize (![0, δ 1 + δ 2 + δ 3, δ 2 + δ 3, δ 3] : Fin 4 → ℝ) = u
  generalize e 0 + e 1 + e 2 + e 3 = z at hz
  have hone : (1 : EReal) = ((1 : ℝ) : EReal) := EReal.coe_one.symm
  rw [hone]
  simp only [Fin.sum_univ_four, ← EReal.coe_mul, div_coe _ hz, div_coe _ (mul_ne_zero hz hz), ← EReal.coe_add, ← EReal.coe_neg, ← EReal.coe_sub]
  congr 1
  field_simp
  ring

/-- The side condition of the precondition's function. -/
instance finite_facts : Cert.Pre_both_finite.Facts := ⟨by decide⟩

/-- The precondition, entry by entry. -/
theorem finite_apply (x d : Vec Ideal Cert.LbsBwdRefIdeal.S4x512 .f32) (h : (Cert.Pre_both_finite.fn (F := Ideal) x d) = fun _ => 1#1)
    (q : Fin 512) (l : Fin 4) : (∃ r : ℝ, column x q l = (r : EReal)) ∧ ∃ r : ℝ, column d q l = (r : EReal) := by
  have hb : ∀ a b : BitVec 1, a &&& b = 1#1 → a = 1#1 ∧ b = 1#1 := by decide
  have h' := hb _ _ (congrFun h (ix2 l q))
  exact ⟨number_of _ h'.1, number_of _ h'.2⟩

/-- The kernel's array is the reference's. -/
theorem algebraic : Cert.algebraic_LbsBwdIdeal_LbsBwdRefIdeal_pre_both_finite (hPre_both_finite := finite_facts) := by
  intro m ρ m' ρ' hpre hagree
  refine ⟨fun c => cotangent (m ((c.tc : Thread _ _).loc Cert.LbsBwdIdeal.main_arg0)) (m ((c.tc : Thread _ _).loc Cert.LbsBwdIdeal.main_arg1)), ?_, ?_⟩
  · exact (θ_run Cert.LbsBwdIdeal.defs _ _).mono (fun _ h c => ⟨(h c).1.trans (value_eq _ _), (h c).2⟩)
      (Cert.LbsBwdIdeal.Value.run (F := Ideal) m ρ)
  · refine (θ_run Cert.LbsBwdRefIdeal.defs _ _).mono (fun _ h c => ?_) (Cert.LbsBwdRefIdeal.Value.run (F := Ideal) m' ρ')
    obtain ⟨h0, h1⟩ := hagree c
    have hf := finite_apply _ _ (hpre c)
    exact ⟨(h c).1.trans (by rw [val_main_v54_eq, h0, h1]; exact reference_eq _ _ (fun q l => (hf q l).1) fun q l => (hf q l).2), (h c).2⟩

end Cert.Proof.LbsBwd
-- ==== Proof.LbsFwd.lean ====
/-
  The lower bounds: the softmax over the layers, and for each layer the sum of the shares up to it, the first layer's left out. The kernel writes
  the four rows one by one; the entries of a column depend on that column alone.
-/
module

public import proofs.«01_k».proof.Defs
public import proofs.«01_k».proof.Proof.Softmax
public import proofs.«01_k».proof.Proof.Gen.LbsFwdIdeal.Value
public import proofs.«01_k».proof.Proof.Gen.LbsFwdRefIdeal.Run
public import proofs.«01_k».proof.Proof.Gen.LbsFwdRefIdeal.Read
public import Idealize.ShloMosaic.Lib.Pointwise
public import Idealize.ShloMosaic.Lib.StableHlo.ReadAt

@[expose] public section

noncomputable section

open Idealize.ShloMosaic Idealize.ShloMosaic.TcCoe Idealize.SL.Sem
open Cert.Proof.Softmax

namespace Cert.LbsFwdIdeal.Product

open Cert.LbsFwdIdeal Cert.LbsFwdIdeal.Gen

/-- A layer's bound: the shares of the layers up to it, the first layer's left out. -/
def bound (x : Fin 4 → EReal) : Fin 4 → EReal := ![0, share x 1, share x 1 + share x 2, share x 1 + share x 2 + share x 3]

/-- The column of an array an index lies in. -/
def column (x : Vec Ideal S4x512 .f32) (q : Fin 512) (l : Fin 4) : EReal := x (ix2 l q)

/-- The array of the bounds. -/
def bounds (x : Vec Ideal S4x512 .f32) : Vec Ideal S4x512 .f32 := fun j => bound (column x (j 1)) (j 0)

/-- The rows loaded from an array are its rows. -/
theorem rows_apply (x : Vec Ideal S4x512 .f32) (q : Fin 512) :
    View.ld x r0_0 (ix2 0 q) = column x q 0 ∧ View.ld x r0_1 (ix2 0 q) = column x q 1 ∧ View.ld x r0_2 (ix2 0 q) = column x q 2
      ∧ View.ld x r0_3 (ix2 0 q) = column x q 3 := by
  refine ⟨?_, ?_, ?_, ?_⟩ <;> pointwise [View.ld] <;> rfl

/-- The rows the body stores, from the four rows it loads. -/
theorem stored_apply (a b c e : Vec Ideal S1x512 .f32) (x : Fin 4 → EReal) (q : Fin 512) (ha : a (ix2 0 q) = x 0) (hb : b (ix2 0 q) = x 1)
    (hc : c (ix2 0 q) = x 2) (he : e (ix2 0 q) = x 3) :
    k0_pay6 (F := Ideal) (ix2 0 q) = bound x 0 ∧ k0_pay7 a b c e (ix2 0 q) = bound x 1 ∧ k0_pay8 a b c e (ix2 0 q) = bound x 2
      ∧ k0_pay9 a b c e (ix2 0 q) = bound x 3 := by
  have h1 : k0_pay1 a b c e (ix2 0 q) = top x := by
    pointwise [k0_pay1]
    rw [ha, hb, hc, he]
    rfl
  have h2 : k0_pay2 a b c e (ix2 0 q) = raised x 1 := by
    pointwise [k0_pay2]
    rw [h1, hb]
    rfl
  have h3 : k0_pay3 a b c e (ix2 0 q) = raised x 2 := by
    pointwise [k0_pay3]
    rw [h1, hc]
    rfl
  have h4 : k0_pay4 a b c e (ix2 0 q) = raised x 3 := by
    pointwise [k0_pay4]
    rw [h1, he]
    rfl
  have h5 : k0_pay5 a b c e (ix2 0 q) = whole x := by
    pointwise [k0_pay5]
    rw [h1, h2, h3, h4, ha]
    rfl
  have h6 : k0_pay6 (F := Ideal) (ix2 0 q) = 0 := by
    pointwise [k0_pay6]
  have h7 : k0_pay7 a b c e (ix2 0 q) = share x 1 := by
    pointwise [k0_pay7]
    rw [h2, h5, h6, zero_add]
    rfl
  have h8 : k0_pay8 a b c e (ix2 0 q) = share x 1 + share x 2 := by
    pointwise [k0_pay8]
    rw [h3, h5, h7]
    rfl
  refine ⟨h6, h7, h8, ?_⟩
  pointwise [k0_pay9]
  rw [h4, h5, h8]
  rfl

/-- A row of an array, at a local index of the row. -/
theorem row_of {r : Vec Ideal S1x512 .f32} {x : Vec Ideal S4x512 .f32} (l : Fin 4) (h : ∀ q, r (ix2 0 q) = bound (column x q) l)
    (j : S1x512.Idx) (i : S4x512.Idx) (h0 : (i 0).val = l.val) (h1 : (i 1).val = (j 1).val) : r j = bounds x i := by
  obtain ⟨p, q, rfl⟩ : ∃ (p : Fin 1) (q : Fin 512), j = ix2 p q := ⟨j 0, j 1, by funext a; fin_cases a <;> rfl⟩
  obtain rfl : i = ix2 l q := by funext a; match a with | ⟨0, _⟩ => exact Fin.ext h0 | ⟨1, _⟩ => exact Fin.ext h1
  obtain rfl : p = 0 := Subsingleton.elim _ _
  exact h q

/-- A row has one entry along the layers. -/
theorem one (i : S1x512.Idx) : (i 0).val < 1 := (i 0).isLt

/-- The kernel's array holds the bounds. -/
theorem value_eq (x : Vec Ideal S4x512 .f32) : Value.G1 x = bounds x := by
  have hs : ∀ q, _ := fun q => stored_apply (View.ld x r0_0) (View.ld x r0_1) (View.ld x r0_2) (View.ld x r0_3) (column x q) q (rows_apply x q).1
    (rows_apply x q).2.1 (rows_apply x q).2.2.1 (rows_apply x q).2.2.2
  funext j
  refine View.canon_apply_of_pieces (bounds x) _ ?_ j ?_
  · simp only [List.forall_mem_cons, List.not_mem_nil, false_imp_iff, implies_true, and_true]
    refine ⟨fun i => ?_, fun i => ?_, fun i => ?_, fun i => ?_⟩
    · exact row_of 3 (fun q => (hs q).2.2.2) i _ (by have h := one i; show 3 + 1 * (i 0).val = 3; omega)
        (by show 0 + 1 * (i 1).val = (i 1).val; omega)
    · exact row_of 2 (fun q => (hs q).2.2.1) i _ (by have h := one i; show 2 + 1 * (i 0).val = 2; omega)
        (by show 0 + 1 * (i 1).val = (i 1).val; omega)
    · exact row_of 1 (fun q => (hs q).2.1) i _ (by have h := one i; show 1 + 1 * (i 0).val = 1; omega)
        (by show 0 + 1 * (i 1).val = (i 1).val; omega)
    · exact row_of 0 (fun q => (hs q).1) i _ (by have h := one i; show 0 + 1 * (i 0).val = 0; omega)
        (by show 0 + 1 * (i 1).val = (i 1).val; omega)
  · have h0 : (j 0).val < 4 := (j 0).isLt
    have h1 : (j 1).val < 512 := (j 1).isLt
    have hrow : ∀ l : Nat, ∀ inb, (j 0).val = l → j ∈ (Rect.unit (s := S4x512) ![l, 0] S1x512.size inb).set := fun l inb hl => by
      rw [Rect.mem_set_unit]
      intro a
      match a with
      | ⟨0, _⟩ => show l ≤ (j 0).val ∧ (j 0).val < l + 1; omega
      | ⟨1, _⟩ => show 0 ≤ (j 1).val ∧ (j 1).val < 0 + 512; omega
    obtain hl | hl | hl | hl : (j 0).val = 3 ∨ (j 0).val = 2 ∨ (j 0).val = 1 ∨ (j 0).val = 0 := by omega
    · exact ⟨_, .head _, hrow 3 inb_S4x512_S1x512_3_0 hl⟩
    · exact ⟨_, .tail _ (.head _), hrow 2 inb_S4x512_S1x512_2_0 hl⟩
    · exact ⟨_, .tail _ (.tail _ (.head _)), hrow 1 inb_S4x512_S1x512_1_0 hl⟩
    · exact ⟨_, .tail _ (.tail _ (.tail _ (.head _))), hrow 0 inb_S4x512_S1x512_0_0 hl⟩

end Cert.LbsFwdIdeal.Product

namespace Cert.Proof.LbsFwd

open Cert.LbsFwdRefIdeal Cert.LbsFwdRefIdeal.Read Cert.LbsFwdIdeal.Product

/-- The reference's greatest entry of a column. -/
theorem reference_top (x : Vec Ideal Cert.LbsFwdRefIdeal.S4x512 .f32) (p : Fin 4) (q : Fin 512) :
    val_main_v4 (F := Ideal) x (ix2 p q) = top (column x q) := by
  pointwise [val_main_v4, val_main_v3, val_main_v2, val_main_v1, val_main_v0, val_main_cst, val_main_cst_0]
  exact top_eq (column x q)

/-- The reference's shares. -/
theorem reference_share (x : Vec Ideal Cert.LbsFwdRefIdeal.S4x512 .f32) (p : Fin 4) (q : Fin 512) :
    val_main_v10 (F := Ideal) x (ix2 p q) = share (column x q) p := by
  have h : ∀ l : Fin 4, val_main_v6 (F := Ideal) x (ix2 l q) = raised (column x q) l := fun l => by
    pointwise [val_main_v6, val_main_v5]
    rw [reference_top]
    rfl
  pointwise [val_main_v10, val_main_v9, val_main_v8, val_main_v7, val_main_cst_1]
  rw [h]
  simp only [h, Fin.sum_univ_four]
  rfl

/-- Where every entry is a number the shares are numbers. -/
theorem share_real (x : Fin 4 → EReal) (h : ∀ l, ∃ r : ℝ, x l = (r : EReal)) : ∃ s : Fin 4 → ℝ, ∀ l, share x l = (s l : EReal) := by
  obtain ⟨e, hp, he, hw⟩ := raised_real x h
  have hz : e 0 + e 1 + e 2 + e 3 ≠ 0 := (add_pos (add_pos (add_pos (hp 0) (hp 1)) (hp 2)) (hp 3)).ne'
  exact ⟨_, fun l => by rw [share, he, hw, div_coe _ hz]⟩

/-- The reference's array holds the bounds, where every entry is a number: the first layer's share goes in and comes off again. -/
theorem reference_eq (x : Vec Ideal Cert.LbsFwdRefIdeal.S4x512 .f32) (hx : ∀ q l, ∃ r : ℝ, column x q l = (r : EReal)) :
    val_main_v16 (F := Ideal) x = bounds x := by
  funext j
  obtain ⟨p, q, rfl⟩ : ∃ (p : Fin 4) (q : Fin 512), j = ix2 p q := ⟨j 0, j 1, by funext a; fin_cases a <;> rfl⟩
  obtain ⟨s, hs⟩ := share_real (column x q) (hx q)
  have hz : ∀ hu : 0 < Cert.LbsFwdRefIdeal.S_.numel, val_main_call0_call0_v0 (F := Ideal) (Shape.Idx.first hu) = 0 := fun _ => by
    show Ideal.ofBits .f32 0x00000000#32 = 0
    exact Ideal.ofBits_zero .f32
  have h11 : val_main_v11 (F := Ideal) x (ix2 p q) = (![share (column x q) 0, share (column x q) 0 + share (column x q) 1,
      share (column x q) 0 + share (column x q) 1 + share (column x q) 2,
      share (column x q) 0 + share (column x q) 1 + share (column x q) 2 + share (column x q) 3] : Fin 4 → EReal) p := by
    refine (upTo_apply _ _ _ _ (hz _) p q).trans ?_
    simp only [reference_share]
  have h15 : val_main_v15 (F := Ideal) x (ix2 p q) = share (column x q) 0 := by
    pointwise [val_main_v15, val_main_v14, val_main_v13, val_main_v12]
    exact reference_share x 0 q
  show val_main_v11 (F := Ideal) x (ix2 p q) - val_main_v15 (F := Ideal) x (ix2 p q) = bound (column x q) p
  rw [h11, h15]
  unfold bound
  simp only [hs, ← EReal.coe_add]
  fin_cases p
  · show (s 0 : EReal) - (s 0 : EReal) = 0
    rw [← EReal.coe_sub, sub_self, EReal.coe_zero]
  · show ((s 0 + s 1 : ℝ) : EReal) - (s 0 : EReal) = (s 1 : EReal)
    rw [← EReal.coe_sub]; congr 1; ring
  · show ((s 0 + s 1 + s 2 : ℝ) : EReal) - (s 0 : EReal) = ((s 1 + s 2 : ℝ) : EReal)
    rw [← EReal.coe_sub]; congr 1; ring
  · show ((s 0 + s 1 + s 2 + s 3 : ℝ) : EReal) - (s 0 : EReal) = ((s 1 + s 2 + s 3 : ℝ) : EReal)
    rw [← EReal.coe_sub]; congr 1; ring

/-- The side condition of the precondition's function. -/
instance finite_facts : Cert.Pre_finite.Facts := ⟨by decide⟩

/-- The precondition, entry by entry. -/
theorem finite_apply (x : Vec Ideal Cert.LbsFwdRefIdeal.S4x512 .f32) (h : (Cert.Pre_finite.fn (F := Ideal) x) = fun _ => 1#1)
    (q : Fin 512) (l : Fin 4) : ∃ r : ℝ, column x q l = (r : EReal) :=
  number_of _ (congrFun h (ix2 l q))

/-- The kernel's bounds are the reference's. -/
theorem algebraic : Cert.algebraic_LbsFwdIdeal_LbsFwdRefIdeal_pre_finite (hPre_finite := finite_facts) := by
  intro m ρ m' ρ' hpre hagree
  refine ⟨fun c => bounds (m ((c.tc : Thread _ _).loc Cert.LbsFwdIdeal.main_arg0)), ?_, ?_⟩
  · exact (θ_run Cert.LbsFwdIdeal.defs _ _).mono (fun _ h c => ⟨(h c).1.trans (value_eq _), (h c).2⟩)
      (Cert.LbsFwdIdeal.Value.run (F := Ideal) m ρ)
  · refine (θ_run Cert.LbsFwdRefIdeal.defs _ _).mono (fun _ h c => ?_) (Cert.LbsFwdRefIdeal.Value.run (F := Ideal) m' ρ')
    exact ⟨(h c).1.trans (by rw [val_main_v16_eq, hagree c]; exact reference_eq _ fun q l => finite_apply _ (hpre c) q l), (h c).2⟩

end Cert.Proof.LbsFwd
-- ==== Proof.RmsFwd.lean ====
/-
  The RMS norm before the first layer's input projection. Each grid point norms 256 rows; an entry depends on its row and its gain alone.
-/
module

public import proofs.«01_k».proof.Defs
public import proofs.«01_k».proof.Proof.RmsGrad
public import proofs.«01_k».proof.Proof.Gen.RmsFwdIdeal.Value
public import proofs.«01_k».proof.Proof.Gen.RmsFwdRefIdeal.Run
public import proofs.«01_k».proof.Proof.Gen.RmsFwdRefIdeal.Read
public import Idealize.ShloMosaic.Lib.Pointwise
public import Idealize.ShloMosaic.Lib.StableHlo.ReadAt

@[expose] public section

noncomputable section

open Idealize.ShloMosaic Idealize.ShloMosaic.TcCoe Idealize.SL.Sem
open Idealize.ShloMosaic.Pipeline (Dat)
open Cert.Proof.RmsGrad

namespace Cert.RmsFwdIdeal.Product

open Cert.RmsFwdIdeal Cert.RmsFwdIdeal.Gen

variable (m : (ℓ : Loc nD τ sig) → Buf (Elt Ideal) ℓ) (ρ : Dev nD → PrngReg)

theorem zero2 : (![0, 0] : Fin 2 → Nat) = fun _ => 0 := funext fun a => by fin_cases a <;> rfl

/-- The normed rows times the gain. -/
def normed (x : Vec Ideal S2048x1024 .f32) (g : Vec Ideal S1x1024 .f32) : Vec Ideal S2048x1024 .bf16 := fun i =>
  x i * Ideal.rsqrt (meanSq fun n => x (ix2 (i 0) n)) * g (ix2 0 (i 1))

/-- What one grid point stores, entry by entry. -/
theorem stored_apply (x : Vec Ideal S256x1024 .f32) (g : Vec Ideal S1x1024 .f32) (p : Fin 256) (q : Fin 1024) :
    k0_pay1 x g (ix2 p q) = x (ix2 p q) * Ideal.rsqrt (meanSq fun n => x (ix2 p n)) * g (ix2 0 q) := by
  pointwise [k0_pay1]
  rfl

/-- The block index of window 0 at grid point `t`. -/
theorem index0 : ∀ t : Fin grid0.N, win0_0.index t 0 = t.val ∧ win0_0.index t 1 = 0 := by decide +kernel

/-- What the block of rows holds at grid point `t`. -/
theorem block0_apply (c : Dev nD) (t : Fin cfg0.N) (p : Fin 256) (q : Fin 1024) (i : S2048x1024.Idx)
    (h0 : (i 0).val = t.val * 256 + p.val) (h1 : (i 1).val = q.val) :
    iblk m c 0 t (ix2 p q) = V m c main_arg0 i := by
  show V m c main_arg0 ((win0_0.rect t).emb (ix2 p q)) = V m c main_arg0 i
  have e := index0 t
  congr 1
  funext a
  apply Fin.ext
  rw [win0_0.rect_emb_val]
  match a with
  | ⟨0, _⟩ => show win0_0.index t 0 * 256 + p.val = (i 0).val; omega
  | ⟨1, _⟩ => show win0_0.index t 1 * 1024 + q.val = (i 1).val; omega

/-- The block index of window 1 at grid point `t`. -/
theorem index1 : ∀ t : Fin grid0.N, win0_1.index t 0 = 0 ∧ win0_1.index t 1 = 0 := by decide +kernel

/-- What the gain's block holds. -/
theorem block1_apply (c : Dev nD) (t : Fin cfg0.N) (p : Fin 1) (q : Fin 1024) (i : S1x1024.Idx)
    (h0 : (i 0).val = p.val) (h1 : (i 1).val = q.val) :
    iblk m c 1 t (ix2 p q) = V m c main_arg1 i := by
  show V m c main_arg1 ((win0_1.rect t).emb (ix2 p q)) = V m c main_arg1 i
  have e := index1 t
  congr 1
  funext a
  apply Fin.ext
  rw [win0_1.rect_emb_val]
  match a with
  | ⟨0, _⟩ => show win0_1.index t 0 * 1 + p.val = (i 0).val; omega
  | ⟨1, _⟩ => show win0_1.index t 1 * 1024 + q.val = (i 1).val; omega

/-- The block index of the output window 2 at grid point `t`. -/
theorem index2 : ∀ t : Fin grid0.N, win0_2.index t 0 = t.val ∧ win0_2.index t 1 = 0 := by decide +kernel

/-- Where element (p, q) of the block written at point `t` sits in the output array. -/
theorem place2 (t : Fin cfg0.N) (p : Fin 256) (q : Fin 1024) :
    ((win0_2.rect t).emb (ix2 p q) 0).val = t.val * 256 + p.val ∧ ((win0_2.rect t).emb (ix2 p q) 1).val = q.val := by
  have e := index2 t
  refine ⟨?_, ?_⟩
  · rw [win0_2.rect_emb_val]; show win0_2.index t 0 * 256 + p.val = _; omega
  · rw [win0_2.rect_emb_val]; show win0_2.index t 1 * 1024 + q.val = _; omega

/-- Every element of the output array lies in some point's block. -/
theorem cover2 (i : S2048x1024.Idx) : ∃ t : Fin cfg0.N, (cfg0.win 2).flush t = true ∧ i ∈ ((cfg0.win 2).blk t).view.set := by
  have h0 : (i 0 : Nat) < 2048 := (i 0).isLt
  have h1 : (i 1 : Nat) < 1024 := (i 1).isLt
  have hN : cfg0.N = 8 := N_0
  obtain ⟨t, ht⟩ : ∃ t : Fin cfg0.N, t.val = (i 0).val / 256 := ⟨⟨(i 0).val / 256, by omega⟩, rfl⟩
  have e := index2 t
  refine ⟨t, flush0_2 _, ?_⟩
  show i ∈ ((View.whole main_v0).slice (win0_2.rect t)).set
  rw [View.set_slice_whole, Rect.mem_set_unit]
  intro a
  match a with
  | ⟨0, _⟩ =>
    show win0_2.index t 0 * 256 ≤ (i 0).val ∧ (i 0).val < win0_2.index t 0 * 256 + 256
    omega
  | ⟨1, _⟩ =>
    show win0_2.index t 1 * 1024 ≤ (i 1).val ∧ (i 1).val < win0_2.index t 1 * 1024 + 1024
    omega

/-- What point `t` writes back is its block of the normed rows. -/
theorem flushed2_eq (c : Dev nD) (t : Fin cfg0.N) :
    (dats m 0 c).flushed 2 t = (win0_2.blk t).view.read (Elt Ideal) (normed (V m c main_arg0) (V m c main_arg1)) := by
  rw [Value.flushed2]
  unfold out0_2
  rw [View.canon_unit_zero zero2, View.ld_unit_zero zero2, View.ld_unit_zero zero2]
  funext j
  obtain ⟨p, q, rfl⟩ : ∃ (p : Fin 256) (q : Fin 1024), j = ix2 p q := ⟨j 0, j 1, by funext a; fin_cases a <;> rfl⟩
  obtain ⟨e0, e1⟩ := place2 t p q
  refine (stored_apply _ _ p q).trans ?_
  rw [block0_apply m c t p q _ e0 e1, block1_apply m c t 0 q (ix2 0 ((win0_2.rect t).emb (ix2 p q) 1)) rfl e1,
    funext fun n => block0_apply m c t p n (ix2 ((win0_2.rect t).emb (ix2 p q) 0) n) e0 rfl]
  rfl

/-- After the run the result holds the normed rows. -/
theorem final2 (c : Dev nD) : (dats m 0 c).arrAt 2 cfg0.N = normed (V m c main_arg0) (V m c main_arg1) :=
  (dats m 0 c).arrAt_eq_of_cover 2 _ (fun t _ => flushed2_eq m c t) cover2

end Cert.RmsFwdIdeal.Product

namespace Cert.Proof.RmsFwd

open Cert.RmsFwdRefIdeal Cert.RmsFwdRefIdeal.Read Cert.RmsFwdIdeal.Product

/-- The reference's normed rows. -/
theorem reference_eq (x : Vec Ideal Cert.RmsFwdRefIdeal.S2048x1024 .f32) (g : Vec Ideal Cert.RmsFwdRefIdeal.S1x1024 .f32) :
    val_main_v12 (F := Ideal) x g = normed x g := by
  funext j
  obtain ⟨p, q, rfl⟩ : ∃ (p : Fin 2048) (q : Fin 1024), j = ix2 p q := ⟨j 0, j 1, by funext a; fin_cases a <;> rfl⟩
  pointwise [val_main_v12, val_main_v11, val_main_v10, val_main_v9, val_main_v8, val_main_v7, val_main_v6, val_main_v5, val_main_v4,
    val_main_v3, val_main_v2, val_main_v1, val_main_v0, val_main_cst, val_main_cst_0, val_main_cst_1]
  rfl

/-- The kernel's normed rows are the reference's. -/
theorem algebraic : Cert.algebraic_RmsFwdIdeal_RmsFwdRefIdeal := by
  intro m ρ m' ρ' _ hagree
  refine ⟨fun c => normed (m ((c.tc : Thread _ _).loc Cert.RmsFwdIdeal.main_arg0)) (m ((c.tc : Thread _ _).loc Cert.RmsFwdIdeal.main_arg1)), ?_, ?_⟩
  · exact (θ_run Cert.RmsFwdIdeal.defs _ _).mono (fun _ h c => ⟨(h c).1.trans (final2 m c), (h c).2⟩)
      (Cert.RmsFwdIdeal.Value.run_blocks (F := Ideal) m ρ)
  · refine (θ_run Cert.RmsFwdRefIdeal.defs _ _).mono (fun _ h c => ?_) (Cert.RmsFwdRefIdeal.Value.run (F := Ideal) m' ρ')
    exact ⟨(h c).1.trans (by rw [val_main_v12_eq, (hagree c).1, (hagree c).2]; exact reference_eq _ _), (h c).2⟩

end Cert.Proof.RmsFwd
-- ==== Proof.LossHead.lean ====
/-
  The loss head: the final norm, the error against the target, the loss, and the two gradients through the norm.
  Each grid point takes 256 rows: it writes the gradient of the residual stream, and adds its rows to the gradient of the norm's gain and to the
  loss, both of which stay in place over the grid.
  What one point computes (`dx_apply`, `gain_apply`, `loss_apply`), where the blocks lie, what the two sums hold after each point (`gain_after`,
  `loss_after`), what the three output arrays hold (`final3`, `final4`, `final5`), what the reference computes, and the claim (`algebraic`).
-/
module

public import proofs.«01_k».proof.Defs
public import proofs.«01_k».proof.Proof.Gen.LossHeadIdeal.Value
public import proofs.«01_k».proof.Proof.Gen.LossHeadRefIdeal.Run
public import proofs.«01_k».proof.Proof.Gen.LossHeadRefIdeal.Read
public import proofs.«01_k».proof.Proof.RmsGrad
public import Idealize.ShloMosaic.Lib.Pipeline.ValueKit.Tiles
public import Idealize.ShloMosaic.Lib.Pointwise
public import Idealize.ShloMosaic.Lib.StableHlo.ReadAt

@[expose] public section

noncomputable section

open Idealize.ShloMosaic Idealize.ShloMosaic.TcCoe Idealize.SL.Sem
open Idealize.ShloMosaic.Pipeline (Dat)

namespace Cert.LossHeadIdeal.Product

open Cert.LossHeadIdeal Cert.LossHeadIdeal.Gen

variable (m : (ℓ : Loc nD τ sig) → Buf (Elt Ideal) ℓ) (ρ : Dev nD → PrngReg)

open Cert.Proof.RmsGrad

theorem zero2 : (![0, 0] : Fin 2 → Nat) = fun _ => 0 := funext fun a => by fin_cases a <;> rfl

/-! ## One row -/

/-- The normalised entry of a row. -/
def normed (x : Fin 1024 → EReal) (q : Fin 1024) : EReal := x q * Ideal.rsqrt (meanSq x)

/-- The error of a row against its target. -/
def err (x g t : Fin 1024 → EReal) (q : Fin 1024) : EReal := normed x q * g q - t q

/-- The cotangent of the norm's output. -/
def dy (x g t : Fin 1024 → EReal) (q : Fin 1024) : EReal := err x g t q * Ideal.ofBits .f32 0x3A800000#32

/-- A row's squared error. -/
def sqErr (x g t : Fin 1024 → EReal) : EReal := ∑ q, err x g t q * err x g t q

/-- Half of one over the row's length. -/
def half : EReal := Ideal.ofBits .f32 0x3A000000#32

theorem half_eq : half = ((1 / 2048 : ℝ) : EReal) := by
  unfold half
  simp [Ideal.ofBits, Ideal.ieee, -EReal.coe_mul]; norm_num

/-! ## One grid point -/

/-- The stream's gradient at an entry of the block. -/
theorem dx_apply (x t : Vec Ideal S256x1024 .f32) (g : Vec Ideal S1x1024 .f32) (p : Fin 256) (q : Fin 1024) :
    k0_pay7 x g t (ix2 p q) = dxEntry (fun n => x (ix2 p n))
      (fun n => dy (fun n => x (ix2 p n)) (fun n => g (ix2 0 n)) (fun n => t (ix2 p n)) n * g (ix2 0 n)) 0 q := by
  rw [dxEntry, zero_add]
  pointwise [k0_pay7, k0_pay6, k0_pay5, k0_pay4, k0_pay3]
  rfl

/-- The gain's gradient after a point's rows are added, at an entry. -/
theorem gain_apply (x t : Vec Ideal S256x1024 .f32) (g : Vec Ideal S1x1024 .f32) (prev : Vec Ideal S8x1024 .f32) (a : Fin 8) (q : Fin 1024) :
    k0_pay1 (k0_pay10 prev) (k0_pay11 x g t) (ix2 a q)
      = prev (ix2 a q) + if a.val = 0 then
          ∑ p : Fin 256, dy (fun n => x (ix2 p n)) (fun n => g (ix2 0 n)) (fun n => t (ix2 p n)) q * normed (fun n => x (ix2 p n)) q else 0 := by
  pointwise [k0_pay1, k0_pay10, k0_pay11, k0_pay6, k0_pay5, k0_pay4, k0_pay3]
  exact congrArg _ (select_row a _ _)

/-- The loss after a point's rows are added, at an entry. -/
theorem loss_apply (x t : Vec Ideal S256x1024 .f32) (g : Vec Ideal S1x1024 .f32) (prev : Vec Ideal S8x128 .f32) (a : Fin 8) (b : Fin 128) :
    k0_pay2 (k0_pay5 x g t) prev (ix2 a b)
      = prev (ix2 a b) + (∑ p : Fin 256, sqErr (fun n => x (ix2 p n)) (fun n => g (ix2 0 n)) (fun n => t (ix2 p n))) * half := by
  pointwise [k0_pay2, k0_pay5, k0_pay4, k0_pay3]
  rfl

/-- What the first point leaves in the loss. -/
theorem out_A_3 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S256x1024 .f32) (harg3 : arg3.IsWhole) (arg4 : Memref sig .tc .vmem S8x128 .f32) (harg4 : arg4.IsWhole) (arg5 : Memref sig .tc .vmem S256x1024 .f32) (harg5 : arg5.IsWhole) (arg6 : Memref sig .tc .vmem S8x1024 .f32) (harg6 : arg6.IsWhole) (hc0 : cond0_0 i)
    (x0 : Vec Ideal S256x1024 .f32) (x1 : Vec Ideal S1x1024 .f32) (x2 : Vec Ideal S256x1024 .f32) :
    out0_A_3 c i arg1 harg1 arg2 harg2 arg3 harg3 arg4 harg4 arg5 harg5 arg6 harg6 hc0 x0 x1 x2
      = k0_pay2 (k0_pay5 x0 x1 x2) (k0_pay9 (F := Ideal)) := by
  unfold out0_A_3
  rw [View.read_writes_eq_canon _ _ _ (cover0_A_3 c i arg1 harg1 arg2 harg2 arg3 harg3 arg4 harg4 arg5 harg5 arg6 harg6 hc0 x0 x1 x2)]
  unfold kernelRun0_A
  dsimp only
  sl_unfold_words
  rw [View.canon_cons_unit_zero (S := S8x128) zero2, View.readCov_unit_zero (S := S8x128) _ zero2]
  simp only [View.readAt_eq_ld, harg1.read_unread, harg2.read_unread, harg3.read_unread, View.ld_unit_zero (S := S256x1024) zero2,
    View.ld_unit_zero (S := S1x1024) zero2]

/-- What a later point leaves in the loss. -/
theorem out_B_3 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S256x1024 .f32) (harg3 : arg3.IsWhole) (arg4 : Memref sig .tc .vmem S8x128 .f32) (harg4 : arg4.IsWhole) (arg5 : Memref sig .tc .vmem S256x1024 .f32) (harg5 : arg5.IsWhole) (arg6 : Memref sig .tc .vmem S8x1024 .f32) (harg6 : arg6.IsWhole) (hc0 : ¬cond0_0 i)
    (x0 : Vec Ideal S256x1024 .f32) (x1 : Vec Ideal S1x1024 .f32) (x2 : Vec Ideal S256x1024 .f32) (xo3 : Vec Ideal S8x128 .f32) (xo5 : Vec Ideal S8x1024 .f32) :
    out0_B_3 c i arg1 harg1 arg2 harg2 arg3 harg3 arg4 harg4 arg5 harg5 arg6 harg6 hc0 x0 x1 x2 xo3 xo5
      = k0_pay2 (k0_pay5 x0 x1 x2) xo3 := by
  unfold out0_B_3
  rw [View.read_writes_eq_canon _ _ _ (cover0_B_3 c i arg1 harg1 arg2 harg2 arg3 harg3 arg4 harg4 arg5 harg5 arg6 harg6 hc0 x0 x1 x2 xo3 xo5)]
  unfold kernelRun0_B
  dsimp only
  sl_unfold_words
  rw [View.canon_unit_zero zero2]
  simp only [View.readAt_eq_ld, harg1.read_unread, harg2.read_unread, harg3.read_unread, harg4.read_unread, View.ld_unit_zero (S := S256x1024) zero2,
    View.ld_unit_zero (S := S1x1024) zero2, View.ld_unit_zero (S := S8x128) zero2]

/-- What the first point leaves in the stream's gradient. -/
theorem out_A_4 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S256x1024 .f32) (harg3 : arg3.IsWhole) (arg4 : Memref sig .tc .vmem S8x128 .f32) (harg4 : arg4.IsWhole) (arg5 : Memref sig .tc .vmem S256x1024 .f32) (harg5 : arg5.IsWhole) (arg6 : Memref sig .tc .vmem S8x1024 .f32) (harg6 : arg6.IsWhole) (hc0 : cond0_0 i)
    (x0 : Vec Ideal S256x1024 .f32) (x1 : Vec Ideal S1x1024 .f32) (x2 : Vec Ideal S256x1024 .f32) :
    out0_A_4 c i arg1 harg1 arg2 harg2 arg3 harg3 arg4 harg4 arg5 harg5 arg6 harg6 hc0 x0 x1 x2
      = k0_pay7 x0 x1 x2 := by
  unfold out0_A_4
  rw [View.read_writes_eq_canon _ _ _ (cover0_A_4 c i arg1 harg1 arg2 harg2 arg3 harg3 arg4 harg4 arg5 harg5 arg6 harg6 hc0 x0 x1 x2)]
  unfold kernelRun0_A
  dsimp only
  sl_unfold_words
  rw [View.canon_unit_zero zero2]
  simp only [View.readAt_eq_ld, harg1.read_unread, harg2.read_unread, harg3.read_unread, View.ld_unit_zero (S := S256x1024) zero2,
    View.ld_unit_zero (S := S1x1024) zero2]

/-- What a later point leaves in the stream's gradient. -/
theorem out_B_4 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S256x1024 .f32) (harg3 : arg3.IsWhole) (arg4 : Memref sig .tc .vmem S8x128 .f32) (harg4 : arg4.IsWhole) (arg5 : Memref sig .tc .vmem S256x1024 .f32) (harg5 : arg5.IsWhole) (arg6 : Memref sig .tc .vmem S8x1024 .f32) (harg6 : arg6.IsWhole) (hc0 : ¬cond0_0 i)
    (x0 : Vec Ideal S256x1024 .f32) (x1 : Vec Ideal S1x1024 .f32) (x2 : Vec Ideal S256x1024 .f32) (xo3 : Vec Ideal S8x128 .f32) (xo5 : Vec Ideal S8x1024 .f32) :
    out0_B_4 c i arg1 harg1 arg2 harg2 arg3 harg3 arg4 harg4 arg5 harg5 arg6 harg6 hc0 x0 x1 x2 xo3 xo5
      = k0_pay7 x0 x1 x2 := by
  unfold out0_B_4
  rw [View.read_writes_eq_canon _ _ _ (cover0_B_4 c i arg1 harg1 arg2 harg2 arg3 harg3 arg4 harg4 arg5 harg5 arg6 harg6 hc0 x0 x1 x2 xo3 xo5)]
  unfold kernelRun0_B
  dsimp only
  sl_unfold_words
  rw [View.canon_unit_zero zero2]
  simp only [View.readAt_eq_ld, harg1.read_unread, harg2.read_unread, harg3.read_unread, View.ld_unit_zero (S := S256x1024) zero2,
    View.ld_unit_zero (S := S1x1024) zero2]

/-- What the first point leaves in the gain's gradient. -/
theorem out_A_5 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S256x1024 .f32) (harg3 : arg3.IsWhole) (arg4 : Memref sig .tc .vmem S8x128 .f32) (harg4 : arg4.IsWhole) (arg5 : Memref sig .tc .vmem S256x1024 .f32) (harg5 : arg5.IsWhole) (arg6 : Memref sig .tc .vmem S8x1024 .f32) (harg6 : arg6.IsWhole) (hc0 : cond0_0 i)
    (x0 : Vec Ideal S256x1024 .f32) (x1 : Vec Ideal S1x1024 .f32) (x2 : Vec Ideal S256x1024 .f32) :
    out0_A_5 c i arg1 harg1 arg2 harg2 arg3 harg3 arg4 harg4 arg5 harg5 arg6 harg6 hc0 x0 x1 x2
      = k0_pay1 (k0_pay10 (k0_pay8 (F := Ideal))) (k0_pay11 x0 x1 x2) := by
  unfold out0_A_5
  rw [View.read_writes_eq_canon _ _ _ (cover0_A_5 c i arg1 harg1 arg2 harg2 arg3 harg3 arg4 harg4 arg5 harg5 arg6 harg6 hc0 x0 x1 x2)]
  unfold kernelRun0_A
  dsimp only
  sl_unfold_words
  rw [View.canon_cons_unit_zero (S := S8x1024) zero2, View.readCov_unit_zero (S := S8x1024) _ zero2]
  simp only [View.readAt_eq_ld, harg1.read_unread, harg2.read_unread, harg3.read_unread, View.ld_unit_zero (S := S256x1024) zero2,
    View.ld_unit_zero (S := S1x1024) zero2]

/-- What a later point leaves in the gain's gradient. -/
theorem out_B_5 (c : Dev nD) (i : grid0.Coords) (arg1 : Memref sig .tc .vmem S256x1024 .f32) (harg1 : arg1.IsWhole) (arg2 : Memref sig .tc .vmem S1x1024 .f32) (harg2 : arg2.IsWhole) (arg3 : Memref sig .tc .vmem S256x1024 .f32) (harg3 : arg3.IsWhole) (arg4 : Memref sig .tc .vmem S8x128 .f32) (harg4 : arg4.IsWhole) (arg5 : Memref sig .tc .vmem S256x1024 .f32) (harg5 : arg5.IsWhole) (arg6 : Memref sig .tc .vmem S8x1024 .f32) (harg6 : arg6.IsWhole) (hc0 : ¬cond0_0 i)
    (x0 : Vec Ideal S256x1024 .f32) (x1 : Vec Ideal S1x1024 .f32) (x2 : Vec Ideal S256x1024 .f32) (xo3 : Vec Ideal S8x128 .f32) (xo5 : Vec Ideal S8x1024 .f32) :
    out0_B_5 c i arg1 harg1 arg2 harg2 arg3 harg3 arg4 harg4 arg5 harg5 arg6 harg6 hc0 x0 x1 x2 xo3 xo5
      = k0_pay1 (k0_pay10 xo5) (k0_pay11 x0 x1 x2) := by
  unfold out0_B_5
  rw [View.read_writes_eq_canon _ _ _ (cover0_B_5 c i arg1 harg1 arg2 harg2 arg3 harg3 arg4 harg4 arg5 harg5 arg6 harg6 hc0 x0 x1 x2 xo3 xo5)]
  unfold kernelRun0_B
  dsimp only
  sl_unfold_words
  rw [View.canon_unit_zero zero2]
  simp only [View.readAt_eq_ld, harg1.read_unread, harg2.read_unread, harg3.read_unread, harg6.read_unread, View.ld_unit_zero (S := S256x1024) zero2,
    View.ld_unit_zero (S := S1x1024) zero2, View.ld_unit_zero (S := S8x1024) zero2]

/-! ## Where the blocks lie -/

/-- The block index of window 0 at grid point `t`. -/
theorem index0 : ∀ t : Fin grid0.N, win0_0.index t 0 = t.val ∧ win0_0.index t 1 = 0 := by decide +kernel

/-- What the block of the stream holds at grid point `t`. -/
theorem block0_apply (c : Dev nD) (t : Fin cfg0.N) (p : Fin 256) (q : Fin 1024) (i : S2048x1024.Idx)
    (h0 : (i 0).val = t.val * 256 + p.val) (h1 : (i 1).val = q.val) :
    iblk m c 0 t (ix2 p q) = m ((c : Thread nD τ).loc main_arg0) i := by
  rw [← V_main_arg0 m c]
  show V m c main_arg0 ((win0_0.rect t).emb (ix2 p q)) = V m c main_arg0 i
  have e := index0 t
  congr 1
  funext a
  apply Fin.ext
  rw [win0_0.rect_emb_val]
  match a with
  | ⟨0, _⟩ => show win0_0.index t 0 * 256 + p.val = (i 0).val; omega
  | ⟨1, _⟩ => show win0_0.index t 1 * 1024 + q.val = (i 1).val; omega

/-- The block index of window 1 at grid point `t`. -/
theorem index1 : ∀ t : Fin grid0.N, win0_1.index t 0 = 0 ∧ win0_1.index t 1 = 0 := by decide +kernel

/-- What the block of the gain holds at grid point `t`. -/
theorem block1_apply (c : Dev nD) (t : Fin cfg0.N) (p : Fin 1) (q : Fin 1024) (i : S1x1024.Idx)
    (h0 : (i 0).val = p.val) (h1 : (i 1).val = q.val) :
    iblk m c 1 t (ix2 p q) = m ((c : Thread nD τ).loc main_arg1) i := by
  rw [← V_main_arg1 m c]
  show V m c main_arg1 ((win0_1.rect t).emb (ix2 p q)) = V m c main_arg1 i
  have e := index1 t
  congr 1
  funext a
  apply Fin.ext
  rw [win0_1.rect_emb_val]
  match a with
  | ⟨0, _⟩ => show win0_1.index t 0 * 1 + p.val = (i 0).val; omega
  | ⟨1, _⟩ => show win0_1.index t 1 * 1024 + q.val = (i 1).val; omega

/-- The block index of window 2 at grid point `t`. -/
theorem index2 : ∀ t : Fin grid0.N, win0_2.index t 0 = t.val ∧ win0_2.index t 1 = 0 := by decide +kernel

/-- What the block of the target holds at grid point `t`. -/
theorem block2_apply (c : Dev nD) (t : Fin cfg0.N) (p : Fin 256) (q : Fin 1024) (i : S2048x1024.Idx)
    (h0 : (i 0).val = t.val * 256 + p.val) (h1 : (i 1).val = q.val) :
    iblk m c 2 t (ix2 p q) = m ((c : Thread nD τ).loc main_arg2) i := by
  rw [← V_main_arg2 m c]
  show V m c main_arg2 ((win0_2.rect t).emb (ix2 p q)) = V m c main_arg2 i
  have e := index2 t
  congr 1
  funext a
  apply Fin.ext
  rw [win0_2.rect_emb_val]
  match a with
  | ⟨0, _⟩ => show win0_2.index t 0 * 256 + p.val = (i 0).val; omega
  | ⟨1, _⟩ => show win0_2.index t 1 * 1024 + q.val = (i 1).val; omega

/-- The block index of the output window 4 at grid point `t`. -/
theorem index4 : ∀ t : Fin grid0.N, win0_4.index t 0 = t.val ∧ win0_4.index t 1 = 0 := by decide +kernel

/-- Where element (p, q) of the block written at point `t` sits in the output array. -/
theorem place4 (t : Fin cfg0.N) (p : Fin 256) (q : Fin 1024) :
    ((win0_4.rect t).emb (ix2 p q) 0).val = t.val * 256 + p.val ∧ ((win0_4.rect t).emb (ix2 p q) 1).val = q.val := by
  have e := index4 t
  refine ⟨?_, ?_⟩
  · rw [win0_4.rect_emb_val]; show win0_4.index t 0 * 256 + p.val = _; omega
  · rw [win0_4.rect_emb_val]; show win0_4.index t 1 * 1024 + q.val = _; omega

/-- Every element of the output array lies in some point's block. -/
theorem cover4 (i : S2048x1024.Idx) : ∃ t : Fin cfg0.N, (cfg0.win 4).flush t = true ∧ i ∈ ((cfg0.win 4).blk t).view.set := by
  have h0 : (i 0 : Nat) < 2048 := (i 0).isLt
  have h1 : (i 1 : Nat) < 1024 := (i 1).isLt
  have hN : cfg0.N = 8 := N_0
  obtain ⟨t, ht⟩ : ∃ t : Fin cfg0.N, t.val = (i 0).val / 256 := ⟨⟨(i 0).val / 256, by omega⟩, rfl⟩
  have e := index4 t
  refine ⟨t, flush0_4 _, ?_⟩
  show i ∈ ((View.whole main_v0_1).slice (win0_4.rect t)).set
  rw [View.set_slice_whole, Rect.mem_set_unit]
  intro a
  match a with
  | ⟨0, _⟩ =>
    show win0_4.index t 0 * 256 ≤ (i 0).val ∧ (i 0).val < win0_4.index t 0 * 256 + 256
    omega
  | ⟨1, _⟩ =>
    show win0_4.index t 1 * 1024 ≤ (i 1).val ∧ (i 1).val < win0_4.index t 1 * 1024 + 1024
    omega

/-! ## The three results -/

section Results

variable (x t : Vec Ideal S2048x1024 .f32) (g : Vec Ideal S1x1024 .f32)

/-- The row of an array. -/
def row (x : Vec Ideal S2048x1024 .f32) (P : Fin 2048) (n : Fin 1024) : EReal := x (ix2 P n)

/-- The gain, as a row. -/
def gain (g : Vec Ideal S1x1024 .f32) (n : Fin 1024) : EReal := g (ix2 0 n)

/-- The gradient of the residual stream. -/
def dx : Vec Ideal S2048x1024 .f32 := fun i =>
  dxEntry (row x (i 0)) (fun n => dy (row x (i 0)) (gain g) (row t (i 0)) n * gain g n) 0 (i 1)

/-- What row `P` adds to the gain's gradient. -/
def share (q : Fin 1024) (P : Fin 2048) : EReal := dy (row x P) (gain g) (row t P) q * normed (row x P) q

/-- The gain's gradient, in the first of eight rows. -/
def dgain : Vec Ideal S8x1024 .f32 := fun i => if (i 0).val = 0 then ∑ P : Fin 2048, share x t g (i 1) P else 0

/-- The loss, in every entry. -/
def loss : Vec Ideal S8x128 .f32 := fun _ => (∑ P : Fin 2048, sqErr (row x P) (gain g) (row t P)) * half

end Results

/-- The sum of a function of the rows over tile `k`. -/
def tile (f : Fin 2048 → EReal) (k : ℕ) : EReal := ∑ p : Fin 256, f ⟨(k * 256 + p.val) % 2048, Nat.mod_lt _ (by norm_num)⟩

/-- The rows' sum is the sum of the eight tiles'. -/
theorem sum_tiles (f : Fin 2048 → EReal) : ∑ P, f P = ∑ k ∈ Finset.range 8, tile f k := by
  rw [Finset.sum_range (fun k => tile f k), ← (finProdFinEquiv (m := 8) (n := 256)).sum_comp f, Fintype.sum_prod_type]
  refine Finset.sum_congr rfl fun k _ => Finset.sum_congr rfl fun p _ => congrArg f (Fin.ext ?_)
  show p.val + 256 * k.val = (k.val * 256 + p.val) % 2048
  have := k.isLt
  have := p.isLt
  omega

/-- A tile's row is the array's row. -/
theorem tile_row (c : Dev nD) (t : Fin cfg0.N) (p : Fin 256) (P : Fin 2048) (hP : P.val = t.val * 256 + p.val) :
    (fun n : Fin 1024 => (iblk m c 0 t (ix2 p n) : EReal)) = row (m ((c : Thread nD τ).loc main_arg0)) P
      ∧ (fun n : Fin 1024 => (iblk m c 1 t (ix2 (0 : Fin 1) n) : EReal)) = gain (m ((c : Thread nD τ).loc main_arg1))
      ∧ (fun n : Fin 1024 => (iblk m c 2 t (ix2 p n) : EReal)) = row (m ((c : Thread nD τ).loc main_arg2)) P :=
  ⟨funext fun n => block0_apply m c t p n (ix2 P n) hP rfl, funext fun n => block1_apply m c t 0 n (ix2 0 n) rfl rfl,
    funext fun n => block2_apply m c t p n (ix2 P n) hP rfl⟩

/-- The row of tile `t` at `p`. -/
theorem row_val (t : Fin cfg0.N) (p : Fin 256) :
    (⟨(t.val * 256 + p.val) % 2048, Nat.mod_lt _ (by norm_num)⟩ : Fin 2048).val = t.val * 256 + p.val := by
  have hN : cfg0.N = 8 := N_0
  have := t.isLt
  have := p.isLt
  exact Nat.mod_eq_of_lt (by omega)

/-! ## The stream's gradient -/

/-- What the second output's block holds after point `t`. -/
theorem after4 (c : Dev nD) (t : Fin cfg0.N) : (outsAt0 m c t.val t.isLt).2.1 = k0_pay7 (iblk m c 0 t) (iblk m c 1 t) (iblk m c 2 t) := by
  by_cases h : t.val % 8 = 0
  · rw [outsAt0_A m c t h]; dsimp only; rw [out_A_4]
  · rw [outsAt0_B m c t h]; dsimp only; rw [out_B_4]

/-- What point `t` writes back to the second output is its block of the stream's gradient. -/
theorem flushed4_eq (c : Dev nD) (t : Fin cfg0.N) :
    (dats m 0 c).flushed 4 t = (win0_4.blk t).view.read (Elt Ideal)
      (dx (m ((c : Thread nD τ).loc main_arg0)) (m ((c : Thread nD τ).loc main_arg2)) (m ((c : Thread nD τ).loc main_arg1))) := by
  rw [Value.flushed4, after4]
  funext j
  obtain ⟨p, q, rfl⟩ : ∃ (p : Fin 256) (q : Fin 1024), j = ix2 p q := ⟨j 0, j 1, by funext a; fin_cases a <;> rfl⟩
  obtain ⟨e0, e1⟩ := place4 t p q
  show k0_pay7 (F := Ideal) _ _ _ (ix2 p q) = dx _ _ _ ((win0_4.rect t).emb (ix2 p q))
  have hq : (win0_4.rect t).emb (ix2 p q) 1 = q := Fin.ext e1
  obtain ⟨hx, hg, ht⟩ := tile_row m c t p ((win0_4.rect t).emb (ix2 p q) 0) e0
  refine (dx_apply _ _ _ p q).trans ?_
  unfold dx
  rw [hq, hx, hg, ht]
  exact congrArg (fun d => dxEntry _ d 0 q) (funext fun n => congrArg₂ (fun u v : EReal => u * v) rfl (congrFun hg n))

/-- After the run the second output array holds the stream's gradient. -/
theorem final4 (c : Dev nD) : (dats m 0 c).arrAt 4 cfg0.N
    = dx (m ((c : Thread nD τ).loc main_arg0)) (m ((c : Thread nD τ).loc main_arg2)) (m ((c : Thread nD τ).loc main_arg1)) :=
  (dats m 0 c).arrAt_eq_of_cover 4 _ (fun t _ => flushed4_eq m c t) cover4

/-! ## The two sums over the grid -/

/-- What point `t` adds to the gain's gradient. -/
theorem gain_block (c : Dev nD) (t : Fin cfg0.N) (prev : Vec Ideal S8x1024 .f32) (a : Fin 8) (q : Fin 1024) :
    k0_pay1 (k0_pay10 prev) (k0_pay11 (iblk m c 0 t) (iblk m c 1 t) (iblk m c 2 t)) (ix2 a q)
      = prev (ix2 a q) + if a.val = 0 then tile (share (m ((c : Thread nD τ).loc main_arg0)) (m ((c : Thread nD τ).loc main_arg2))
          (m ((c : Thread nD τ).loc main_arg1)) q) t.val else 0 := by
  refine (gain_apply _ _ _ _ a q).trans ?_
  refine congrArg (fun u : EReal => prev (ix2 a q) + if a.val = 0 then u else 0) ?_
  refine Finset.sum_congr rfl fun p _ => ?_
  obtain ⟨hx, hg, ht⟩ := tile_row m c t p _ (row_val t p)
  rw [hx, hg, ht]
  rfl

/-- What point `t` adds to the loss. -/
theorem loss_block (c : Dev nD) (t : Fin cfg0.N) (prev : Vec Ideal S8x128 .f32) (a : Fin 8) (b : Fin 128) :
    k0_pay2 (k0_pay5 (iblk m c 0 t) (iblk m c 1 t) (iblk m c 2 t)) prev (ix2 a b)
      = prev (ix2 a b) + tile (fun P => sqErr (row (m ((c : Thread nD τ).loc main_arg0)) P) (gain (m ((c : Thread nD τ).loc main_arg1)))
          (row (m ((c : Thread nD τ).loc main_arg2)) P)) t.val * half := by
  refine (loss_apply _ _ _ _ a b).trans ?_
  refine congrArg (fun u : EReal => prev (ix2 a b) + u * half) ?_
  refine Finset.sum_congr rfl fun p _ => ?_
  obtain ⟨hx, hg, ht⟩ := tile_row m c t p _ (row_val t p)
  rw [hx, hg, ht]

/-- The gain's gradient after point `t`: the sum over the first tiles, in the first row. -/
theorem gain_after (c : Dev nD) (a : Fin 8) (q : Fin 1024) : ∀ (t : ℕ) (h : t < cfg0.N), (outsAt0 m c t h).2.2 (ix2 a q)
    = if a.val = 0 then ∑ k ∈ Finset.range (t + 1), tile (share (m ((c : Thread nD τ).loc main_arg0)) (m ((c : Thread nD τ).loc main_arg2))
        (m ((c : Thread nD τ).loc main_arg1)) q) k else 0
  | 0, h => by
    rw [outsAt0_A m c ⟨0, h⟩ rfl]
    dsimp only
    rw [out_A_5]
    refine (gain_block m c ⟨0, h⟩ _ a q).trans ?_
    have z : (k0_pay8 (F := Ideal) (ix2 a q) : EReal) = 0 := by pointwise [k0_pay8]
    rw [z, zero_add, Finset.sum_range_one]
  | t + 1, h => by
    have hN : cfg0.N = 8 := N_0
    have hB : ¬(⟨t + 1, h⟩ : Fin cfg0.N).val % 8 = 0 := by dsimp only; omega
    rw [outsAt0_B m c ⟨t + 1, h⟩ hB]
    dsimp only
    rw [out_B_5]
    refine (gain_block m c ⟨t + 1, h⟩ _ a q).trans ?_
    refine (congrArg (fun u : EReal => u + _) (gain_after c a q t _)).trans ?_
    rw [Finset.sum_range_succ _ (t + 1)]
    by_cases ha : a.val = 0
    · simp only [if_pos ha]
    · simp only [if_neg ha, add_zero]

/-- The loss after point `t`: the sum over the first tiles. -/
theorem loss_after (c : Dev nD) (a : Fin 8) (b : Fin 128) : ∀ (t : ℕ) (h : t < cfg0.N), (outsAt0 m c t h).1 (ix2 a b)
    = (∑ k ∈ Finset.range (t + 1), tile (fun P => sqErr (row (m ((c : Thread nD τ).loc main_arg0)) P) (gain (m ((c : Thread nD τ).loc main_arg1)))
          (row (m ((c : Thread nD τ).loc main_arg2)) P)) k) * half
  | 0, h => by
    rw [outsAt0_A m c ⟨0, h⟩ rfl]
    dsimp only
    rw [out_A_3]
    refine (loss_block m c ⟨0, h⟩ _ a b).trans ?_
    have z : (k0_pay9 (F := Ideal) (ix2 a b) : EReal) = 0 := by pointwise [k0_pay9]
    rw [z, zero_add, Finset.sum_range_one]
  | t + 1, h => by
    have hN : cfg0.N = 8 := N_0
    have hB : ¬(⟨t + 1, h⟩ : Fin cfg0.N).val % 8 = 0 := by dsimp only; omega
    rw [outsAt0_B m c ⟨t + 1, h⟩ hB]
    dsimp only
    rw [out_B_3]
    refine (loss_block m c ⟨t + 1, h⟩ _ a b).trans ?_
    refine (congrArg (fun u : EReal => u + _) (loss_after c a b t _)).trans ?_
    rw [Finset.sum_range_succ _ (t + 1), half_eq, mul_comm _ ((1 / 2048 : ℝ) : EReal), mul_comm _ ((1 / 2048 : ℝ) : EReal),
      mul_comm _ ((1 / 2048 : ℝ) : EReal),
      EReal.left_distrib_of_nonneg_of_ne_top (EReal.coe_nonneg.mpr (by norm_num)) (EReal.coe_ne_top _)]

/-- The one write-back of output 5, at the last point. -/
theorem flushed5_eq (c : Dev nD) (t : Fin cfg0.N) (hf : (cfg0.win 5).flush t = true) :
    (dats m 0 c).flushed 5 t = (win0_5.blk t).view.read (Elt Ideal)
      (dgain (m ((c : Thread nD τ).loc main_arg0)) (m ((c : Thread nD τ).loc main_arg2)) (m ((c : Thread nD τ).loc main_arg1))) := by
  have hN : cfg0.N = 8 := N_0
  have h7 : t.val = 7 := by have := (flush0_5 t).mp hf; have := t.isLt; omega
  obtain rfl : t = t0_7 := Fin.ext h7
  have hz : (fun a => win0_5.index t0_7 a * main_v0_2.ty.shape.size a) = fun _ => 0 := funext fun a => by fin_cases a <;> decide
  refine Eq.trans ?_ (Memref.read_access_unit_zero (Elt Ideal) main_v0_2 hz (fun a => by rw [congrFun hz a]; simp) (dgain _ _ _)).symm
  rw [Value.flushed5]
  funext j
  obtain ⟨a, q, rfl⟩ : ∃ (a : Fin 8) (q : Fin 1024), j = ix2 a q := ⟨j 0, j 1, by funext a; fin_cases a <;> rfl⟩
  exact (gain_after m c a q 7 t0_7.isLt).trans (congrArg (fun u : EReal => if a.val = 0 then u else 0) (sum_tiles _).symm)

/-- After the run output 5 holds its sum over all rows. -/
theorem final5 (c : Dev nD) : (dats m 0 c).arrAt 5 cfg0.N
    = dgain (m ((c : Thread nD τ).loc main_arg0)) (m ((c : Thread nD τ).loc main_arg2)) (m ((c : Thread nD τ).loc main_arg1)) :=
  (dats m 0 c).arrAt_eq_of_cover 5 _ (fun t hf => flushed5_eq m c t hf) fun i =>
    ⟨t0_7, (flush0_5 t0_7).mpr rfl, by
      show i ∈ ((View.whole main_v0_2).slice (win0_5.rect t0_7)).set
      rw [View.set_slice_whole, Rect.mem_set_unit]
      intro a
      have := (i a).isLt
      match a with
      | ⟨0, _⟩ => exact ⟨Nat.zero_le _, by show (i 0).val < win0_5.index t0_7 0 * 8 + 8; have : win0_5.index t0_7 0 = 0 := by decide
                                           rw [this]; exact (i 0).isLt⟩
      | ⟨1, _⟩ => exact ⟨Nat.zero_le _, by show (i 1).val < win0_5.index t0_7 1 * 1024 + 1024; have : win0_5.index t0_7 1 = 0 := by decide
                                           rw [this]; exact (i 1).isLt⟩⟩

/-- The one write-back of output 3, at the last point. -/
theorem flushed3_eq (c : Dev nD) (t : Fin cfg0.N) (hf : (cfg0.win 3).flush t = true) :
    (dats m 0 c).flushed 3 t = (win0_3.blk t).view.read (Elt Ideal)
      (loss (m ((c : Thread nD τ).loc main_arg0)) (m ((c : Thread nD τ).loc main_arg2)) (m ((c : Thread nD τ).loc main_arg1))) := by
  have hN : cfg0.N = 8 := N_0
  have h7 : t.val = 7 := by have := (flush0_3 t).mp hf; have := t.isLt; omega
  obtain rfl : t = t0_7 := Fin.ext h7
  have hz : (fun a => win0_3.index t0_7 a * main_v0_0.ty.shape.size a) = fun _ => 0 := funext fun a => by fin_cases a <;> decide
  refine Eq.trans ?_ (Memref.read_access_unit_zero (Elt Ideal) main_v0_0 hz (fun a => by rw [congrFun hz a]; simp) (loss _ _ _)).symm
  rw [Value.flushed3]
  funext j
  obtain ⟨a, q, rfl⟩ : ∃ (a : Fin 8) (q : Fin 128), j = ix2 a q := ⟨j 0, j 1, by funext a; fin_cases a <;> rfl⟩
  exact (loss_after m c a q 7 t0_7.isLt).trans (congrArg (fun u : EReal => u * half) (sum_tiles _).symm)

/-- After the run output 3 holds its sum over all rows. -/
theorem final3 (c : Dev nD) : (dats m 0 c).arrAt 3 cfg0.N
    = loss (m ((c : Thread nD τ).loc main_arg0)) (m ((c : Thread nD τ).loc main_arg2)) (m ((c : Thread nD τ).loc main_arg1)) :=
  (dats m 0 c).arrAt_eq_of_cover 3 _ (fun t hf => flushed3_eq m c t hf) fun i =>
    ⟨t0_7, (flush0_3 t0_7).mpr rfl, by
      show i ∈ ((View.whole main_v0_0).slice (win0_3.rect t0_7)).set
      rw [View.set_slice_whole, Rect.mem_set_unit]
      intro a
      have := (i a).isLt
      match a with
      | ⟨0, _⟩ => exact ⟨Nat.zero_le _, by show (i 0).val < win0_3.index t0_7 0 * 8 + 8; have : win0_3.index t0_7 0 = 0 := by decide
                                           rw [this]; exact (i 0).isLt⟩
      | ⟨1, _⟩ => exact ⟨Nat.zero_le _, by show (i 1).val < win0_3.index t0_7 1 * 128 + 128; have : win0_3.index t0_7 1 = 0 := by decide
                                           rw [this]; exact (i 1).isLt⟩⟩

end Cert.LossHeadIdeal.Product

namespace Cert.Proof.LossHead

open Cert.LossHeadRefIdeal Cert.LossHeadRefIdeal.Read Cert.LossHeadIdeal.Product Cert.Proof.RmsGrad

/-- The reference's normalised entry. -/
theorem reference_normed (x : Vec Ideal Cert.LossHeadRefIdeal.S2048x1024 .f32) (P : Fin 2048) (q : Fin 1024) :
    val_main_v12 (F := Ideal) x (ix2 P q) = normed (row x P) q := by
  pointwise [val_main_v12, val_main_v11, val_main_v7, val_main_v6, val_main_v5, val_main_v4, val_main_v3, val_main_v2, val_main_v1, val_main_v0,
    val_main_cst, val_main_cst_0, val_main_cst_1]
  rfl

/-- The reference's error. -/
theorem reference_err (x t : Vec Ideal Cert.LossHeadRefIdeal.S2048x1024 .f32) (g : Vec Ideal Cert.LossHeadRefIdeal.S1x1024 .f32) (P : Fin 2048)
    (q : Fin 1024) : val_main_v15 (F := Ideal) x g t (ix2 P q) = err (row x P) (gain g) (row t P) q := by
  pointwise [val_main_v15, val_main_v14, val_main_v13]
  rw [reference_normed]
  rfl

/-- The reference's cotangent of the norm's output: half, over the row's length, times two. -/
theorem reference_dy (x t : Vec Ideal Cert.LossHeadRefIdeal.S2048x1024 .f32) (g : Vec Ideal Cert.LossHeadRefIdeal.S1x1024 .f32) (P : Fin 2048)
    (q : Fin 1024) : val_main_v29 (F := Ideal) x g t (ix2 P q) = dy (row x P) (gain g) (row t P) q := by
  have h2 : Ideal.ofBits .f32 0x40000000#32 = ((2 : ℝ) : EReal) := by simp [Ideal.ofBits, Ideal.ieee, -EReal.coe_mul]; norm_num
  have h5 : Ideal.ofBits .f32 0x3F000000#32 = ((1 / 2 : ℝ) : EReal) := by simp [Ideal.ofBits, Ideal.ieee, -EReal.coe_mul]; norm_num
  have hc : Ideal.ofBits .f32 0x3A800000#32 = ((1 / 1024 : ℝ) : EReal) := by simp [Ideal.ofBits, Ideal.ieee, -EReal.coe_mul]; norm_num
  pointwise [val_main_v29, val_main_v28, val_main_v27, val_main_v26, val_main_v25, val_main_v24, val_main_v18, val_main_v17, val_main_cst_10,
    val_main_cst_9, val_main_cst_8, val_main_cst_3]
  rw [reference_err]
  unfold dy
  rw [div_length, h2, h5, hc, ← EReal.coe_mul, ← mul_assoc, ← EReal.coe_mul, mul_comm]
  norm_num

/-- The reference's gradient of the stream is the same. -/
theorem reference_dx (x t : Vec Ideal Cert.LossHeadRefIdeal.S2048x1024 .f32) (g : Vec Ideal Cert.LossHeadRefIdeal.S1x1024 .f32) :
    val_main_v48 (F := Ideal) x g t = dx x t g := by
  funext j
  obtain ⟨P, q, rfl⟩ : ∃ (P : Fin 2048) (q : Fin 1024), j = ix2 P q := ⟨j 0, j 1, by funext a; fin_cases a <;> rfl⟩
  have h34 : ∀ n : Fin 1024, val_main_v34 (F := Ideal) x g t (ix2 P n) = dy (row x P) (gain g) (row t P) n * gain g n := fun n => by
    pointwise [val_main_v34, val_main_v33]
    rw [reference_dy]
    rfl
  show _ = dxEntry (row x P) (fun n => dy (row x P) (gain g) (row t P) n * gain g n) 0 q
  rw [dx_eq, zero_add]
  pointwise [val_main_v48, val_main_v47, val_main_v46, val_main_v45, val_main_v44, val_main_v43, val_main_v42, val_main_v41, val_main_v40,
    val_main_v39, val_main_v38, val_main_v37, val_main_v36, val_main_v35, val_main_v10, val_main_v9, val_main_v8, val_main_v7, val_main_v6,
    val_main_v5, val_main_v4, val_main_v3, val_main_v2, val_main_v1, val_main_v0, val_main_cst, val_main_cst_0, val_main_cst_1, val_main_cst_2,
    val_main_cst_12, val_main_cst_13, val_main_cst_14]
  simp only [Fin.sum_univ_one, h34]
  rfl

/-- The reference's gradient of the gain is the same. -/
theorem reference_dgain (x t : Vec Ideal Cert.LossHeadRefIdeal.S2048x1024 .f32) (g : Vec Ideal Cert.LossHeadRefIdeal.S1x1024 .f32) :
    val_main_v51 (F := Ideal) x g t = dgain x t g := by
  funext j
  obtain ⟨a, q, rfl⟩ : ∃ (a : Fin 8) (q : Fin 1024), j = ix2 a q := ⟨j 0, j 1, by funext a; fin_cases a <;> rfl⟩
  pointwise [val_main_v51, val_main_v50, val_main_v32, val_main_v31, val_main_v30, val_main_cst_11, val_main_cst_15]
  show _ = if a.val = 0 then ∑ P : Fin 2048, share x t g q P else 0
  by_cases ha : a.val = 0
  · rw [if_pos ha, dif_pos (by omega)]
    exact Finset.sum_congr rfl fun P _ => by rw [reference_normed, reference_dy, mul_comm]; rfl
  · rw [if_neg ha, dif_neg (by omega)]

/-- The reference's loss is the same: the mean and the half are one factor of the whole sum. -/
theorem reference_loss (x t : Vec Ideal Cert.LossHeadRefIdeal.S2048x1024 .f32) (g : Vec Ideal Cert.LossHeadRefIdeal.S1x1024 .f32) :
    val_main_v49 (F := Ideal) x g t = loss x t g := by
  have h5 : Ideal.ofBits .f32 0x3F000000#32 = ((1 / 2 : ℝ) : EReal) := by simp [Ideal.ofBits, Ideal.ieee, -EReal.coe_mul]; norm_num
  funext j
  obtain ⟨a, b, rfl⟩ : ∃ (a : Fin 8) (b : Fin 128), j = ix2 a b := ⟨j 0, j 1, by funext a; fin_cases a <;> rfl⟩
  pointwise [val_main_v49, val_main_v23, val_main_v22, val_main_v21, val_main_v20, val_main_v19, val_main_v16, val_main_cst_4, val_main_cst_5,
    val_main_cst_6, val_main_cst_7]
  simp only [reference_err, div_length]
  show _ = (∑ P : Fin 2048, sqErr (row x P) (gain g) (row t P)) * half
  rw [half_eq, mul_comm _ ((1 / 2048 : ℝ) : EReal), mul_sum_of_nonneg (by norm_num), h5, mul_sum_of_nonneg (by norm_num)]
  refine Finset.sum_congr rfl fun P _ => ?_
  rw [mul_comm _ ((1 / 1024 : ℝ) : EReal), ← mul_assoc, ← EReal.coe_mul]
  norm_num
  rfl

/-- The kernel's loss and its two gradients are the reference's. -/
theorem algebraic : Cert.algebraic_LossHeadIdeal_LossHeadRefIdeal := by
  intro m ρ m' ρ' _ hagree
  refine ⟨fun c => loss (m ((c.tc : Thread _ _).loc Cert.LossHeadIdeal.main_arg0)) (m ((c.tc : Thread _ _).loc Cert.LossHeadIdeal.main_arg2))
      (m ((c.tc : Thread _ _).loc Cert.LossHeadIdeal.main_arg1)),
    fun c => dx (m ((c.tc : Thread _ _).loc Cert.LossHeadIdeal.main_arg0)) (m ((c.tc : Thread _ _).loc Cert.LossHeadIdeal.main_arg2))
      (m ((c.tc : Thread _ _).loc Cert.LossHeadIdeal.main_arg1)),
    fun c => dgain (m ((c.tc : Thread _ _).loc Cert.LossHeadIdeal.main_arg0)) (m ((c.tc : Thread _ _).loc Cert.LossHeadIdeal.main_arg2))
      (m ((c.tc : Thread _ _).loc Cert.LossHeadIdeal.main_arg1)), ?_, ?_⟩
  · exact (θ_run Cert.LossHeadIdeal.defs _ _).mono
      (fun _ h c => ⟨(h c).1.trans (final3 m c), (h c).2.1.trans (final4 m c), (h c).2.2.1.trans (final5 m c), (h c).2.2.2⟩)
      (Cert.LossHeadIdeal.Value.run_blocks (F := Ideal) m ρ)
  · refine (θ_run Cert.LossHeadRefIdeal.defs _ _).mono
      (fun _ h c => ⟨(h c).1.trans ?_, (h c).2.1.trans ?_, (h c).2.2.1.trans ?_, (h c).2.2.2⟩)
      (Cert.LossHeadRefIdeal.Value.run (F := Ideal) m' ρ')
    · rw [val_main_v49_eq, (hagree c).1, (hagree c).2.1, (hagree c).2.2]
      exact reference_loss _ _ _
    · rw [val_main_v48_eq, (hagree c).1, (hagree c).2.1, (hagree c).2.2]
      exact reference_dx _ _ _
    · rw [val_main_v51_eq, (hagree c).1, (hagree c).2.1, (hagree c).2.2]
      exact reference_dgain _ _ _

end Cert.Proof.LossHead
-- ==== Proof.lean ====
/-
  The proof of every claim: the programs' side conditions, the frames (a program terminates, nothing faults, its arguments end
  unchanged, every semaphore counter ends at zero), and that over the reals each kernel computes what its reference computes.
  Each value claim is proved in the module named after its kernel.
-/
module

public import proofs.«01_k».proof.Defs
public import proofs.«01_k».proof.Proof.Gen.Ff2Dgrad.Frame
public import proofs.«01_k».proof.Proof.Gen.Ff2DgradIdeal.Frame
public import proofs.«01_k».proof.Proof.Gen.Ff2DgradIdeal.Value
public import proofs.«01_k».proof.Proof.Gen.Ff2DgradRefIdeal.Run
public import proofs.«01_k».proof.Proof.Gen.Ff2DgradRefIdeal.Read
public import proofs.«01_k».proof.Proof.Gen.Ff2Wgrad.Frame
public import proofs.«01_k».proof.Proof.Gen.Ff2WgradIdeal.Frame
public import proofs.«01_k».proof.Proof.Gen.Ff2WgradIdeal.Value
public import proofs.«01_k».proof.Proof.Gen.Ff2WgradRefIdeal.Run
public import proofs.«01_k».proof.Proof.Gen.Ff2WgradRefIdeal.Read
public import proofs.«01_k».proof.Proof.Gen.Ff1Dgrad.Frame
public import proofs.«01_k».proof.Proof.Gen.Ff1DgradIdeal.Frame
public import proofs.«01_k».proof.Proof.Gen.Ff1DgradIdeal.Value
public import proofs.«01_k».proof.Proof.Gen.Ff1DgradRefIdeal.Run
public import proofs.«01_k».proof.Proof.Gen.Ff1DgradRefIdeal.Read
public import proofs.«01_k».proof.Proof.Gen.Ff1Wgrad.Frame
public import proofs.«01_k».proof.Proof.Gen.Ff1WgradIdeal.Frame
public import proofs.«01_k».proof.Proof.Gen.Ff1WgradIdeal.Value
public import proofs.«01_k».proof.Proof.Gen.Ff1WgradRefIdeal.Run
public import proofs.«01_k».proof.Proof.Gen.Ff1WgradRefIdeal.Read
public import proofs.«01_k».proof.Proof.Gen.OutDgrad.Frame
public import proofs.«01_k».proof.Proof.Gen.OutDgradIdeal.Frame
public import proofs.«01_k».proof.Proof.Gen.OutDgradIdeal.Value
public import proofs.«01_k».proof.Proof.Gen.OutDgradRefIdeal.Run
public import proofs.«01_k».proof.Proof.Gen.OutDgradRefIdeal.Read
public import proofs.«01_k».proof.Proof.Gen.OutWgrad.Frame
public import proofs.«01_k».proof.Proof.Gen.OutWgradIdeal.Frame
public import proofs.«01_k».proof.Proof.Gen.OutWgradIdeal.Value
public import proofs.«01_k».proof.Proof.Gen.OutWgradRefIdeal.Run
public import proofs.«01_k».proof.Proof.Gen.OutWgradRefIdeal.Read
public import proofs.«01_k».proof.Proof.Gen.InDgrad.Frame
public import proofs.«01_k».proof.Proof.Gen.InDgradIdeal.Frame
public import proofs.«01_k».proof.Proof.Gen.InDgradIdeal.Value
public import proofs.«01_k».proof.Proof.Gen.InDgradRefIdeal.Run
public import proofs.«01_k».proof.Proof.Gen.InDgradRefIdeal.Read
public import proofs.«01_k».proof.Proof.Gen.InWgrad.Frame
public import proofs.«01_k».proof.Proof.Gen.InWgradIdeal.Frame
public import proofs.«01_k».proof.Proof.Gen.InWgradIdeal.Value
public import proofs.«01_k».proof.Proof.Gen.InWgradRefIdeal.Run
public import proofs.«01_k».proof.Proof.Gen.InWgradRefIdeal.Read
public import proofs.«01_k».proof.Proof.Gen.InFwd.Frame
public import proofs.«01_k».proof.Proof.Gen.InFwdIdeal.Frame
public import proofs.«01_k».proof.Proof.Gen.InFwdIdeal.Value
public import proofs.«01_k».proof.Proof.Gen.InFwdRefIdeal.Run
public import proofs.«01_k».proof.Proof.Gen.InFwdRefIdeal.Read
public import proofs.«01_k».proof.Proof.Gen.OutFwd.Frame
public import proofs.«01_k».proof.Proof.Gen.OutFwdIdeal.Frame
public import proofs.«01_k».proof.Proof.Gen.OutFwdIdeal.Value
public import proofs.«01_k».proof.Proof.Gen.OutFwdRefIdeal.Run
public import proofs.«01_k».proof.Proof.Gen.OutFwdRefIdeal.Read
public import proofs.«01_k».proof.Proof.Gen.Ff1Fwd.Frame
public import proofs.«01_k».proof.Proof.Gen.Ff1FwdIdeal.Frame
public import proofs.«01_k».proof.Proof.Gen.Ff1FwdIdeal.Value
public import proofs.«01_k».proof.Proof.Gen.Ff1FwdRefIdeal.Run
public import proofs.«01_k».proof.Proof.Gen.Ff1FwdRefIdeal.Read
public import proofs.«01_k».proof.Proof.Gen.Ff2Fwd.Frame
public import proofs.«01_k».proof.Proof.Gen.Ff2FwdIdeal.Frame
public import proofs.«01_k».proof.Proof.Gen.Ff2FwdIdeal.Value
public import proofs.«01_k».proof.Proof.Gen.Ff2FwdRefIdeal.Run
public import proofs.«01_k».proof.Proof.Gen.Ff2FwdRefIdeal.Read
public import proofs.«01_k».proof.Proof.Gen.AdamFf.Frame
public import proofs.«01_k».proof.Proof.Gen.AdamFfIdeal.Frame
public import proofs.«01_k».proof.Proof.Gen.AdamFfIdeal.Value
public import proofs.«01_k».proof.Proof.Gen.AdamFfRefIdeal.Run
public import proofs.«01_k».proof.Proof.Gen.AdamFfRefIdeal.Read
public import proofs.«01_k».proof.Proof.Gen.AdamO.Frame
public import proofs.«01_k».proof.Proof.Gen.AdamOIdeal.Frame
public import proofs.«01_k».proof.Proof.Gen.AdamOIdeal.Value
public import proofs.«01_k».proof.Proof.Gen.AdamORefIdeal.Run
public import proofs.«01_k».proof.Proof.Gen.AdamORefIdeal.Read
public import proofs.«01_k».proof.Proof.Gen.AdamBranch.Frame
public import proofs.«01_k».proof.Proof.Gen.AdamBranchIdeal.Frame
public import proofs.«01_k».proof.Proof.Gen.AdamBranchIdeal.Value
public import proofs.«01_k».proof.Proof.Gen.AdamBranchRefIdeal.Run
public import proofs.«01_k».proof.Proof.Gen.AdamBranchRefIdeal.Read
public import proofs.«01_k».proof.Proof.Gen.AdamSmall.Frame
public import proofs.«01_k».proof.Proof.Gen.AdamSmallIdeal.Frame
public import proofs.«01_k».proof.Proof.Gen.AdamSmallIdeal.Value
public import proofs.«01_k».proof.Proof.Gen.AdamSmallRefIdeal.Run
public import proofs.«01_k».proof.Proof.Gen.AdamSmallRefIdeal.Read
public import proofs.«01_k».proof.Proof.Gen.SumDevices.Frame
public import proofs.«01_k».proof.Proof.Gen.SumDevicesIdeal.Frame
public import proofs.«01_k».proof.Proof.Gen.SumDevicesIdeal.Value
public import proofs.«01_k».proof.Proof.Gen.SumDevicesRefIdeal.Run
public import proofs.«01_k».proof.Proof.Gen.SumDevicesRefIdeal.Read
public import proofs.«01_k».proof.Proof.Gen.AdamInFirst.Frame
public import proofs.«01_k».proof.Proof.Gen.AdamInFirstIdeal.Frame
public import proofs.«01_k».proof.Proof.Gen.AdamInFirstIdeal.Value
public import proofs.«01_k».proof.Proof.Gen.AdamInFirstRefIdeal.Run
public import proofs.«01_k».proof.Proof.Gen.AdamInFirstRefIdeal.Read
public import proofs.«01_k».proof.Proof.Gen.LbsBwd.Frame
public import proofs.«01_k».proof.Proof.Gen.LbsBwdIdeal.Frame
public import proofs.«01_k».proof.Proof.Gen.LbsBwdIdeal.Value
public import proofs.«01_k».proof.Proof.Gen.LbsBwdRefIdeal.Run
public import proofs.«01_k».proof.Proof.Gen.LbsBwdRefIdeal.Read
public import proofs.«01_k».proof.Proof.Gen.LbsFwd.Frame
public import proofs.«01_k».proof.Proof.Gen.LbsFwdIdeal.Frame
public import proofs.«01_k».proof.Proof.Gen.LbsFwdIdeal.Value
public import proofs.«01_k».proof.Proof.Gen.LbsFwdRefIdeal.Run
public import proofs.«01_k».proof.Proof.Gen.LbsFwdRefIdeal.Read
public import proofs.«01_k».proof.Proof.Gen.RmsFwd.Frame
public import proofs.«01_k».proof.Proof.Gen.RmsFwdIdeal.Frame
public import proofs.«01_k».proof.Proof.Gen.RmsFwdIdeal.Value
public import proofs.«01_k».proof.Proof.Gen.RmsFwdRefIdeal.Run
public import proofs.«01_k».proof.Proof.Gen.RmsFwdRefIdeal.Read
public import proofs.«01_k».proof.Proof.Gen.LossHead.Frame
public import proofs.«01_k».proof.Proof.Gen.LossHeadIdeal.Frame
public import proofs.«01_k».proof.Proof.Gen.LossHeadIdeal.Value
public import proofs.«01_k».proof.Proof.Gen.LossHeadRefIdeal.Run
public import proofs.«01_k».proof.Proof.Gen.LossHeadRefIdeal.Read
public import proofs.«01_k».proof.Proof.Gen.Hgrn.Frame
public import proofs.«01_k».proof.Proof.Gen.HgrnIdeal.Frame
public import proofs.«01_k».proof.Proof.Ff2Dgrad
public import proofs.«01_k».proof.Proof.Ff2Wgrad
public import proofs.«01_k».proof.Proof.Ff1Dgrad
public import proofs.«01_k».proof.Proof.Ff1Wgrad
public import proofs.«01_k».proof.Proof.OutDgrad
public import proofs.«01_k».proof.Proof.OutWgrad
public import proofs.«01_k».proof.Proof.InDgrad
public import proofs.«01_k».proof.Proof.InWgrad
public import proofs.«01_k».proof.Proof.InFwd
public import proofs.«01_k».proof.Proof.OutFwd
public import proofs.«01_k».proof.Proof.Ff1Fwd
public import proofs.«01_k».proof.Proof.Ff2Fwd
public import proofs.«01_k».proof.Proof.AdamFf
public import proofs.«01_k».proof.Proof.AdamO
public import proofs.«01_k».proof.Proof.AdamBranch
public import proofs.«01_k».proof.Proof.AdamSmall
public import proofs.«01_k».proof.Proof.SumDevices
public import proofs.«01_k».proof.Proof.AdamInFirst
public import proofs.«01_k».proof.Proof.LbsBwd
public import proofs.«01_k».proof.Proof.LbsFwd
public import proofs.«01_k».proof.Proof.RmsFwd
public import proofs.«01_k».proof.Proof.LossHead
public import Idealize.ShloMosaic.Lib.Quiescent

@[expose] public section

open Idealize.ShloMosaic Idealize.SL.Sem

namespace Cert.Proof

theorem claim : Cert.Claim :=
  ⟨Cert.Ff2Dgrad.Gen.facts, Cert.Ff2DgradIdeal.Gen.facts, Cert.Ff2DgradRefIdeal.Gen.facts, Cert.Ff2Wgrad.Gen.facts, Cert.Ff2WgradIdeal.Gen.facts, Cert.Ff2WgradRefIdeal.Gen.facts, Cert.Ff1Dgrad.Gen.facts, Cert.Ff1DgradIdeal.Gen.facts, Cert.Ff1DgradRefIdeal.Gen.facts, Cert.Ff1Wgrad.Gen.facts, Cert.Ff1WgradIdeal.Gen.facts, Cert.Ff1WgradRefIdeal.Gen.facts, Cert.OutDgrad.Gen.facts, Cert.OutDgradIdeal.Gen.facts, Cert.OutDgradRefIdeal.Gen.facts, Cert.OutWgrad.Gen.facts, Cert.OutWgradIdeal.Gen.facts, Cert.OutWgradRefIdeal.Gen.facts, Cert.InDgrad.Gen.facts, Cert.InDgradIdeal.Gen.facts, Cert.InDgradRefIdeal.Gen.facts, Cert.InWgrad.Gen.facts, Cert.InWgradIdeal.Gen.facts, Cert.InWgradRefIdeal.Gen.facts, Cert.InFwd.Gen.facts, Cert.InFwdIdeal.Gen.facts, Cert.InFwdRefIdeal.Gen.facts, Cert.OutFwd.Gen.facts, Cert.OutFwdIdeal.Gen.facts, Cert.OutFwdRefIdeal.Gen.facts, Cert.Ff1Fwd.Gen.facts, Cert.Ff1FwdIdeal.Gen.facts, Cert.Ff1FwdRefIdeal.Gen.facts, Cert.Ff2Fwd.Gen.facts, Cert.Ff2FwdIdeal.Gen.facts, Cert.Ff2FwdRefIdeal.Gen.facts, Cert.AdamFf.Gen.facts, Cert.AdamFfIdeal.Gen.facts, Cert.AdamFfRefIdeal.Gen.facts, Cert.AdamO.Gen.facts, Cert.AdamOIdeal.Gen.facts, Cert.AdamORefIdeal.Gen.facts, Cert.AdamBranch.Gen.facts, Cert.AdamBranchIdeal.Gen.facts, Cert.AdamBranchRefIdeal.Gen.facts, Cert.AdamSmall.Gen.facts, Cert.AdamSmallIdeal.Gen.facts, Cert.AdamSmallRefIdeal.Gen.facts, Cert.SumDevices.Gen.facts, Cert.SumDevicesIdeal.Gen.facts, Cert.SumDevicesRefIdeal.Gen.facts, Cert.AdamInFirst.Gen.facts, Cert.AdamInFirstIdeal.Gen.facts, Cert.AdamInFirstRefIdeal.Gen.facts, Cert.LbsBwd.Gen.facts, Cert.LbsBwdIdeal.Gen.facts, Cert.LbsBwdRefIdeal.Gen.facts, Cert.LbsFwd.Gen.facts, Cert.LbsFwdIdeal.Gen.facts, Cert.LbsFwdRefIdeal.Gen.facts, Cert.RmsFwd.Gen.facts, Cert.RmsFwdIdeal.Gen.facts, Cert.RmsFwdRefIdeal.Gen.facts, Cert.LossHead.Gen.facts, Cert.LossHeadIdeal.Gen.facts, Cert.LossHeadRefIdeal.Gen.facts, Cert.Hgrn.Gen.facts, Cert.HgrnIdeal.Gen.facts, Cert.Proof.LbsBwd.finite_facts, Cert.Proof.LbsFwd.finite_facts,
    fun m ρ _ => Cert.Ff2Dgrad.Gen.frame m ρ,
    fun m ρ _ => Cert.Ff2DgradIdeal.Gen.frame m ρ,
    fun m ρ _ => (θ_run Cert.Ff2DgradRefIdeal.defs _ _).mono (fun r h => ⟨fun c => (h c).2, sem_eq_zero_of_no_sems rfl r.2⟩) (Cert.Ff2DgradRefIdeal.Value.run (F := Ideal) m ρ),
    fun m ρ _ => Cert.Ff2Wgrad.Gen.frame m ρ,
    fun m ρ _ => Cert.Ff2WgradIdeal.Gen.frame m ρ,
    fun m ρ _ => (θ_run Cert.Ff2WgradRefIdeal.defs _ _).mono (fun r h => ⟨fun c => (h c).2, sem_eq_zero_of_no_sems rfl r.2⟩) (Cert.Ff2WgradRefIdeal.Value.run (F := Ideal) m ρ),
    fun m ρ _ => Cert.Ff1Dgrad.Gen.frame m ρ,
    fun m ρ _ => Cert.Ff1DgradIdeal.Gen.frame m ρ,
    fun m ρ _ => (θ_run Cert.Ff1DgradRefIdeal.defs _ _).mono (fun r h => ⟨fun c => (h c).2.2, sem_eq_zero_of_no_sems rfl r.2⟩) (Cert.Ff1DgradRefIdeal.Value.run (F := Ideal) m ρ),
    fun m ρ _ => Cert.Ff1Wgrad.Gen.frame m ρ,
    fun m ρ _ => Cert.Ff1WgradIdeal.Gen.frame m ρ,
    fun m ρ _ => (θ_run Cert.Ff1WgradRefIdeal.defs _ _).mono (fun r h => ⟨fun c => (h c).2, sem_eq_zero_of_no_sems rfl r.2⟩) (Cert.Ff1WgradRefIdeal.Value.run (F := Ideal) m ρ),
    fun m ρ _ => Cert.OutDgrad.Gen.frame m ρ,
    fun m ρ _ => Cert.OutDgradIdeal.Gen.frame m ρ,
    fun m ρ _ => (θ_run Cert.OutDgradRefIdeal.defs _ _).mono (fun r h => ⟨fun c => (h c).2, sem_eq_zero_of_no_sems rfl r.2⟩) (Cert.OutDgradRefIdeal.Value.run (F := Ideal) m ρ),
    fun m ρ _ => Cert.OutWgrad.Gen.frame m ρ,
    fun m ρ _ => Cert.OutWgradIdeal.Gen.frame m ρ,
    fun m ρ _ => (θ_run Cert.OutWgradRefIdeal.defs _ _).mono (fun r h => ⟨fun c => (h c).2, sem_eq_zero_of_no_sems rfl r.2⟩) (Cert.OutWgradRefIdeal.Value.run (F := Ideal) m ρ),
    fun m ρ _ => Cert.InDgrad.Gen.frame m ρ,
    fun m ρ _ => Cert.InDgradIdeal.Gen.frame m ρ,
    fun m ρ _ => (θ_run Cert.InDgradRefIdeal.defs _ _).mono (fun r h => ⟨fun c => (h c).2.2, sem_eq_zero_of_no_sems rfl r.2⟩) (Cert.InDgradRefIdeal.Value.run (F := Ideal) m ρ),
    fun m ρ _ => Cert.InWgrad.Gen.frame m ρ,
    fun m ρ _ => Cert.InWgradIdeal.Gen.frame m ρ,
    fun m ρ _ => (θ_run Cert.InWgradRefIdeal.defs _ _).mono (fun r h => ⟨fun c => (h c).2, sem_eq_zero_of_no_sems rfl r.2⟩) (Cert.InWgradRefIdeal.Value.run (F := Ideal) m ρ),
    fun m ρ _ => Cert.InFwd.Gen.frame m ρ,
    fun m ρ _ => Cert.InFwdIdeal.Gen.frame m ρ,
    fun m ρ _ => (θ_run Cert.InFwdRefIdeal.defs _ _).mono (fun r h => ⟨fun c => (h c).2, sem_eq_zero_of_no_sems rfl r.2⟩) (Cert.InFwdRefIdeal.Value.run (F := Ideal) m ρ),
    fun m ρ _ => Cert.OutFwd.Gen.frame m ρ,
    fun m ρ _ => Cert.OutFwdIdeal.Gen.frame m ρ,
    fun m ρ _ => (θ_run Cert.OutFwdRefIdeal.defs _ _).mono (fun r h => ⟨fun c => (h c).2.2, sem_eq_zero_of_no_sems rfl r.2⟩) (Cert.OutFwdRefIdeal.Value.run (F := Ideal) m ρ),
    fun m ρ _ => Cert.Ff1Fwd.Gen.frame m ρ,
    fun m ρ _ => Cert.Ff1FwdIdeal.Gen.frame m ρ,
    fun m ρ _ => (θ_run Cert.Ff1FwdRefIdeal.defs _ _).mono (fun r h => ⟨fun c => (h c).2, sem_eq_zero_of_no_sems rfl r.2⟩) (Cert.Ff1FwdRefIdeal.Value.run (F := Ideal) m ρ),
    fun m ρ _ => Cert.Ff2Fwd.Gen.frame m ρ,
    fun m ρ _ => Cert.Ff2FwdIdeal.Gen.frame m ρ,
    fun m ρ _ => (θ_run Cert.Ff2FwdRefIdeal.defs _ _).mono (fun r h => ⟨fun c => (h c).2.2, sem_eq_zero_of_no_sems rfl r.2⟩) (Cert.Ff2FwdRefIdeal.Value.run (F := Ideal) m ρ),
    fun m ρ _ => Cert.AdamFf.Gen.frame m ρ,
    fun m ρ _ => Cert.AdamFfIdeal.Gen.frame m ρ,
    fun m ρ _ => (θ_run Cert.AdamFfRefIdeal.defs _ _).mono (fun r h => ⟨fun c => (h c).2.2.2.2, sem_eq_zero_of_no_sems rfl r.2⟩) (Cert.AdamFfRefIdeal.Value.run (F := Ideal) m ρ),
    fun m ρ _ => Cert.AdamO.Gen.frame m ρ,
    fun m ρ _ => Cert.AdamOIdeal.Gen.frame m ρ,
    fun m ρ _ => (θ_run Cert.AdamORefIdeal.defs _ _).mono (fun r h => ⟨fun c => (h c).2.2.2.2, sem_eq_zero_of_no_sems rfl r.2⟩) (Cert.AdamORefIdeal.Value.run (F := Ideal) m ρ),
    fun m ρ _ => Cert.AdamBranch.Gen.frame m ρ,
    fun m ρ _ => Cert.AdamBranchIdeal.Gen.frame m ρ,
    fun m ρ _ => (θ_run Cert.AdamBranchRefIdeal.defs _ _).mono (fun r h => ⟨fun c => (h c).2.2.2.2, sem_eq_zero_of_no_sems rfl r.2⟩) (Cert.AdamBranchRefIdeal.Value.run (F := Ideal) m ρ),
    fun m ρ _ => Cert.AdamSmall.Gen.frame m ρ,
    fun m ρ _ => Cert.AdamSmallIdeal.Gen.frame m ρ,
    fun m ρ _ => (θ_run Cert.AdamSmallRefIdeal.defs _ _).mono (fun r h => ⟨fun c => (h c).2.2.2, sem_eq_zero_of_no_sems rfl r.2⟩) (Cert.AdamSmallRefIdeal.Value.run (F := Ideal) m ρ),
    fun m ρ _ => Cert.SumDevices.Gen.frame m ρ,
    fun m ρ _ => Cert.SumDevicesIdeal.Gen.frame m ρ,
    fun m ρ _ => (θ_run Cert.SumDevicesRefIdeal.defs _ _).mono (fun r h => ⟨fun c => (h c).2, sem_eq_zero_of_no_sems rfl r.2⟩) (Cert.SumDevicesRefIdeal.Value.run (F := Ideal) m ρ),
    fun m ρ _ => Cert.AdamInFirst.Gen.frame m ρ,
    fun m ρ _ => Cert.AdamInFirstIdeal.Gen.frame m ρ,
    fun m ρ _ => (θ_run Cert.AdamInFirstRefIdeal.defs _ _).mono (fun r h => ⟨fun c => (h c).2.2.2.2, sem_eq_zero_of_no_sems rfl r.2⟩) (Cert.AdamInFirstRefIdeal.Value.run (F := Ideal) m ρ),
    fun m ρ _ => Cert.LbsBwd.Gen.frame m ρ,
    fun m ρ _ => Cert.LbsBwdIdeal.Gen.frame m ρ,
    fun m ρ _ => Cert.LbsBwdIdeal.Gen.frame m ρ,
    fun m ρ _ => (θ_run Cert.LbsBwdRefIdeal.defs _ _).mono (fun r h => ⟨fun c => (h c).2, sem_eq_zero_of_no_sems rfl r.2⟩) (Cert.LbsBwdRefIdeal.Value.run (F := Ideal) m ρ),
    fun m ρ _ => (θ_run Cert.LbsBwdRefIdeal.defs _ _).mono (fun r h => ⟨fun c => (h c).2, sem_eq_zero_of_no_sems rfl r.2⟩) (Cert.LbsBwdRefIdeal.Value.run (F := Ideal) m ρ),
    fun m ρ _ => Cert.LbsFwd.Gen.frame m ρ,
    fun m ρ _ => Cert.LbsFwdIdeal.Gen.frame m ρ,
    fun m ρ _ => Cert.LbsFwdIdeal.Gen.frame m ρ,
    fun m ρ _ => (θ_run Cert.LbsFwdRefIdeal.defs _ _).mono (fun r h => ⟨fun c => (h c).2, sem_eq_zero_of_no_sems rfl r.2⟩) (Cert.LbsFwdRefIdeal.Value.run (F := Ideal) m ρ),
    fun m ρ _ => (θ_run Cert.LbsFwdRefIdeal.defs _ _).mono (fun r h => ⟨fun c => (h c).2, sem_eq_zero_of_no_sems rfl r.2⟩) (Cert.LbsFwdRefIdeal.Value.run (F := Ideal) m ρ),
    fun m ρ _ => Cert.RmsFwd.Gen.frame m ρ,
    fun m ρ _ => Cert.RmsFwdIdeal.Gen.frame m ρ,
    fun m ρ _ => (θ_run Cert.RmsFwdRefIdeal.defs _ _).mono (fun r h => ⟨fun c => (h c).2, sem_eq_zero_of_no_sems rfl r.2⟩) (Cert.RmsFwdRefIdeal.Value.run (F := Ideal) m ρ),
    fun m ρ _ => Cert.LossHead.Gen.frame m ρ,
    fun m ρ _ => Cert.LossHeadIdeal.Gen.frame m ρ,
    fun m ρ _ => (θ_run Cert.LossHeadRefIdeal.defs _ _).mono (fun r h => ⟨fun c => (h c).2.2.2, sem_eq_zero_of_no_sems rfl r.2⟩) (Cert.LossHeadRefIdeal.Value.run (F := Ideal) m ρ),
    fun m ρ _ => Cert.Hgrn.Gen.frame m ρ,
    fun m ρ _ => Cert.HgrnIdeal.Gen.frame m ρ,
    trivial,
    Cert.Proof.Ff2Dgrad.algebraic,
    trivial,
    Cert.Proof.Ff2Wgrad.algebraic,
    trivial,
    Cert.Proof.Ff1Dgrad.algebraic,
    trivial,
    Cert.Proof.Ff1Wgrad.algebraic,
    trivial,
    Cert.Proof.OutDgrad.algebraic,
    trivial,
    Cert.Proof.OutWgrad.algebraic,
    trivial,
    Cert.Proof.InDgrad.algebraic,
    trivial,
    Cert.Proof.InWgrad.algebraic,
    trivial,
    Cert.Proof.InFwd.algebraic,
    trivial,
    Cert.Proof.OutFwd.algebraic,
    trivial,
    Cert.Proof.Ff1Fwd.algebraic,
    trivial,
    Cert.Proof.Ff2Fwd.algebraic,
    trivial,
    Cert.Proof.AdamFf.algebraic,
    trivial,
    Cert.Proof.AdamO.algebraic,
    trivial,
    Cert.Proof.AdamBranch.algebraic,
    trivial,
    Cert.Proof.AdamSmall.algebraic,
    trivial,
    Cert.Proof.SumDevices.algebraic,
    trivial,
    Cert.Proof.AdamInFirst.algebraic,
    trivial,
    Cert.Proof.LbsBwd.algebraic,
    trivial,
    Cert.Proof.LbsFwd.algebraic,
    trivial,
    Cert.Proof.RmsFwd.algebraic,
    trivial,
    Cert.Proof.LossHead.algebraic,
    trivial⟩

end Cert.Proof
